-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpDh (m : (ℓ : Loc Cert.UpDh.nD Cert.UpDh.τ Cert.UpDh.sig) → Buf (Elt Bits) ℓ) : Prop :=
  True

def Pre_UpDhIdeal (m : (ℓ : Loc Cert.UpDhIdeal.nD Cert.UpDhIdeal.τ Cert.UpDhIdeal.sig) → Buf (Elt Ideal) ℓ) : Prop :=
  True

def Pre_UpDhRefIdeal (m : (ℓ : Loc Cert.UpDhRefIdeal.nD Cert.UpDhRefIdeal.τ Cert.UpDhRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDh (m : (ℓ : Loc Cert.DownDh.nD Cert.DownDh.τ Cert.DownDh.sig) → Buf (Elt Bits) ℓ) : Prop :=
  True

def Pre_DownDhIdeal (m : (ℓ : Loc Cert.DownDhIdeal.nD Cert.DownDhIdeal.τ Cert.DownDhIdeal.sig) → Buf (Elt Ideal) ℓ) : Prop :=
  True

def Pre_DownDhRefIdeal (m : (ℓ : Loc Cert.DownDhRefIdeal.nD Cert.DownDhRefIdeal.τ Cert.DownDhRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDh (m : (ℓ : Loc Cert.OutDh.nD Cert.OutDh.τ Cert.OutDh.sig) → Buf (Elt Bits) ℓ) : Prop :=
  True

def Pre_OutDhIdeal (m : (ℓ : Loc Cert.OutDhIdeal.nD Cert.OutDhIdeal.τ Cert.OutDhIdeal.sig) → Buf (Elt Ideal) ℓ) : Prop :=
  True

def Pre_OutDhRefIdeal (m : (ℓ : Loc Cert.OutDhRefIdeal.nD Cert.OutDhRefIdeal.τ Cert.OutDhRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnRefIdeal (m : (ℓ : Loc Cert.HgrnRefIdeal.nD Cert.HgrnRefIdeal.τ Cert.HgrnRefIdeal.sig) → Buf (Elt Ideal) ℓ) : Prop :=
  True

def Pre_HgrnDh (m : (ℓ : Loc Cert.HgrnDh.nD Cert.HgrnDh.τ Cert.HgrnDh.sig) → Buf (Elt Bits) ℓ) : Prop :=
  True

def Pre_HgrnDhIdeal (m : (ℓ : Loc Cert.HgrnDhIdeal.nD Cert.HgrnDhIdeal.τ Cert.HgrnDhIdeal.sig) → Buf (Elt Ideal) ℓ) : Prop :=
  True

def Pre_HgrnDhRefIdeal (m : (ℓ : Loc Cert.HgrnDhRefIdeal.nD Cert.HgrnDhRefIdeal.τ Cert.HgrnDhRefIdeal.sig) → Buf (Elt Ideal) ℓ) : Prop :=
  True

def Pre_HgrnDw (m : (ℓ : Loc Cert.HgrnDw.nD Cert.HgrnDw.τ Cert.HgrnDw.sig) → Buf (Elt Bits) ℓ) : Prop :=
  True

def Pre_HgrnDwIdeal (m : (ℓ : Loc Cert.HgrnDwIdeal.nD Cert.HgrnDwIdeal.τ Cert.HgrnDwIdeal.sig) → Buf (Elt Ideal) ℓ) : Prop :=
  True

def Pre_HgrnDwRefIdeal (m : (ℓ : Loc Cert.HgrnDwRefIdeal.nD Cert.HgrnDwRefIdeal.τ Cert.HgrnDwRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaRefIdeal (m : (ℓ : Loc Cert.SwaRefIdeal.nD Cert.SwaRefIdeal.τ Cert.SwaRefIdeal.sig) → Buf (Elt Ideal) ℓ) : Prop :=
  True

def Pre_SwaDh (m : (ℓ : Loc Cert.SwaDh.nD Cert.SwaDh.τ Cert.SwaDh.sig) → Buf (Elt Bits) ℓ) : Prop :=
  True

def Pre_SwaDhIdeal (m : (ℓ : Loc Cert.SwaDhIdeal.nD Cert.SwaDhIdeal.τ Cert.SwaDhIdeal.sig) → Buf (Elt Ideal) ℓ) : Prop :=
  True

def Pre_SwaDhRefIdeal (m : (ℓ : Loc Cert.SwaDhRefIdeal.nD Cert.SwaDhRefIdeal.τ Cert.SwaDhRefIdeal.sig) → Buf (Elt Ideal) ℓ) : Prop :=
  True

def Pre_SwaDw (m : (ℓ : Loc Cert.SwaDw.nD Cert.SwaDw.τ Cert.SwaDw.sig) → Buf (Elt Bits) ℓ) : Prop :=
  True

def Pre_SwaDwIdeal (m : (ℓ : Loc Cert.SwaDwIdeal.nD Cert.SwaDwIdeal.τ Cert.SwaDwIdeal.sig) → Buf (Elt Ideal) ℓ) : Prop :=
  True

def Pre_SwaDwRefIdeal (m : (ℓ : Loc Cert.SwaDwRefIdeal.nD Cert.SwaDwRefIdeal.τ Cert.SwaDwRefIdeal.sig) → Buf (Elt Ideal) ℓ) : Prop :=
  True

def Pre_Sc (m : (ℓ : Loc Cert.Sc.nD Cert.Sc.τ Cert.Sc.sig) → Buf (Elt Bits) ℓ) : Prop :=
  True

def Pre_ScIdeal (m : (ℓ : Loc Cert.ScIdeal.nD Cert.ScIdeal.τ Cert.ScIdeal.sig) → Buf (Elt Ideal) ℓ) : Prop :=
  True

def Pre_ScRefIdeal (m : (ℓ : Loc Cert.ScRefIdeal.nD Cert.ScRefIdeal.τ Cert.ScRefIdeal.sig) → Buf (Elt Ideal) ℓ) : Prop :=
  True

def Pre_ScDh (m : (ℓ : Loc Cert.ScDh.nD Cert.ScDh.τ Cert.ScDh.sig) → Buf (Elt Bits) ℓ) : Prop :=
  True

def Pre_ScDhIdeal (m : (ℓ : Loc Cert.ScDhIdeal.nD Cert.ScDhIdeal.τ Cert.ScDhIdeal.sig) → Buf (Elt Ideal) ℓ) : Prop :=
  True

def Pre_ScDhRefIdeal (m : (ℓ : Loc Cert.ScDhRefIdeal.nD Cert.ScDhRefIdeal.τ Cert.ScDhRefIdeal.sig) → Buf (Elt Ideal) ℓ) : Prop :=
  True

def Pre_ScDw (m : (ℓ : Loc Cert.ScDw.nD Cert.ScDw.τ Cert.ScDw.sig) → Buf (Elt Bits) ℓ) : Prop :=
  True

def Pre_ScDwIdeal (m : (ℓ : Loc Cert.ScDwIdeal.nD Cert.ScDwIdeal.τ Cert.ScDwIdeal.sig) → Buf (Elt Ideal) ℓ) : Prop :=
  True

def Pre_ScDwRefIdeal (m : (ℓ : Loc Cert.ScDwRefIdeal.nD Cert.ScDwRefIdeal.τ Cert.ScDwRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxRefIdeal (m : (ℓ : Loc Cert.FoxRefIdeal.nD Cert.FoxRefIdeal.τ Cert.FoxRefIdeal.sig) → Buf (Elt Ideal) ℓ) : Prop :=
  True

def Pre_FoxDh (m : (ℓ : Loc Cert.FoxDh.nD Cert.FoxDh.τ Cert.FoxDh.sig) → Buf (Elt Bits) ℓ) : Prop :=
  True

def Pre_FoxDhIdeal (m : (ℓ : Loc Cert.FoxDhIdeal.nD Cert.FoxDhIdeal.τ Cert.FoxDhIdeal.sig) → Buf (Elt Ideal) ℓ) : Prop :=
  True

def Pre_FoxDhRefIdeal (m : (ℓ : Loc Cert.FoxDhRefIdeal.nD Cert.FoxDhRefIdeal.τ Cert.FoxDhRefIdeal.sig) → Buf (Elt Ideal) ℓ) : Prop :=
  True

def Pre_FoxDw (m : (ℓ : Loc Cert.FoxDw.nD Cert.FoxDw.τ Cert.FoxDw.sig) → Buf (Elt Bits) ℓ) : Prop :=
  True

def Pre_FoxDwIdeal (m : (ℓ : Loc Cert.FoxDwIdeal.nD Cert.FoxDwIdeal.τ Cert.FoxDwIdeal.sig) → Buf (Elt Ideal) ℓ) : Prop :=
  True

def Pre_FoxDwRefIdeal (m : (ℓ : Loc Cert.FoxDwRefIdeal.nD Cert.FoxDwRefIdeal.τ Cert.FoxDwRefIdeal.sig) → Buf (Elt Ideal) ℓ) : Prop :=
  True

def Pre_AdamHgrnIn (m : (ℓ : Loc Cert.AdamHgrnIn.nD Cert.AdamHgrnIn.τ Cert.AdamHgrnIn.sig) → Buf (Elt Bits) ℓ) : Prop :=
  True

def Pre_AdamHgrnInIdeal (m : (ℓ : Loc Cert.AdamHgrnInIdeal.nD Cert.AdamHgrnInIdeal.τ Cert.AdamHgrnInIdeal.sig) → Buf (Elt Ideal) ℓ) : Prop :=
  True

def Pre_AdamHgrnInRefIdeal (m : (ℓ : Loc Cert.AdamHgrnInRefIdeal.nD Cert.AdamHgrnInRefIdeal.τ Cert.AdamHgrnInRefIdeal.sig) → Buf (Elt Ideal) ℓ) : Prop :=
  True

def Pre_AdamSwaIn (m : (ℓ : Loc Cert.AdamSwaIn.nD Cert.AdamSwaIn.τ Cert.AdamSwaIn.sig) → Buf (Elt Bits) ℓ) : Prop :=
  True

def Pre_AdamSwaInIdeal (m : (ℓ : Loc Cert.AdamSwaInIdeal.nD Cert.AdamSwaInIdeal.τ Cert.AdamSwaInIdeal.sig) → Buf (Elt Ideal) ℓ) : Prop :=
  True

def Pre_AdamSwaInRefIdeal (m : (ℓ : Loc Cert.AdamSwaInRefIdeal.nD Cert.AdamSwaInRefIdeal.τ Cert.AdamSwaInRefIdeal.sig) → Buf (Elt Ideal) ℓ) : Prop :=
  True

def Pre_AdamScIn (m : (ℓ : Loc Cert.AdamScIn.nD Cert.AdamScIn.τ Cert.AdamScIn.sig) → Buf (Elt Bits) ℓ) : Prop :=
  True

def Pre_AdamScInIdeal (m : (ℓ : Loc Cert.AdamScInIdeal.nD Cert.AdamScInIdeal.τ Cert.AdamScInIdeal.sig) → Buf (Elt Ideal) ℓ) : Prop :=
  True

def Pre_AdamScInRefIdeal (m : (ℓ : Loc Cert.AdamScInRefIdeal.nD Cert.AdamScInRefIdeal.τ Cert.AdamScInRefIdeal.sig) → Buf (Elt Ideal) ℓ) : Prop :=
  True

def Pre_AdamFoxIn (m : (ℓ : Loc Cert.AdamFoxIn.nD Cert.AdamFoxIn.τ Cert.AdamFoxIn.sig) → Buf (Elt Bits) ℓ) : Prop :=
  True

def Pre_AdamFoxInIdeal (m : (ℓ : Loc Cert.AdamFoxInIdeal.nD Cert.AdamFoxInIdeal.τ Cert.AdamFoxInIdeal.sig) → Buf (Elt Ideal) ℓ) : Prop :=
  True

def Pre_AdamFoxInRefIdeal (m : (ℓ : Loc Cert.AdamFoxInRefIdeal.nD Cert.AdamFoxInRefIdeal.τ Cert.AdamFoxInRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamHeadNorm (m : (ℓ : Loc Cert.AdamHeadNorm.nD Cert.AdamHeadNorm.τ Cert.AdamHeadNorm.sig) → Buf (Elt Bits) ℓ) : Prop :=
  True

def Pre_AdamHeadNormIdeal (m : (ℓ : Loc Cert.AdamHeadNormIdeal.nD Cert.AdamHeadNormIdeal.τ Cert.AdamHeadNormIdeal.sig) → Buf (Elt Ideal) ℓ) : Prop :=
  True

def Pre_AdamHeadNormRefIdeal (m : (ℓ : Loc Cert.AdamHeadNormRefIdeal.nD Cert.AdamHeadNormRefIdeal.τ Cert.AdamHeadNormRefIdeal.sig) → Buf (Elt Ideal) ℓ) : Prop :=
  True

def Pre_AdamLb (m : (ℓ : Loc Cert.AdamLb.nD Cert.AdamLb.τ Cert.AdamLb.sig) → Buf (Elt Bits) ℓ) : Prop :=
  True

def Pre_AdamLbIdeal (m : (ℓ : Loc Cert.AdamLbIdeal.nD Cert.AdamLbIdeal.τ Cert.AdamLbIdeal.sig) → Buf (Elt Ideal) ℓ) : Prop :=
  True

def Pre_AdamLbRefIdeal (m : (ℓ : Loc Cert.AdamLbRefIdeal.nD Cert.AdamLbRefIdeal.τ Cert.AdamLbRefIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadRefIdeal (m : (ℓ : Loc Cert.AdamHeadRefIdeal.nD Cert.AdamHeadRefIdeal.τ Cert.AdamHeadRefIdeal.sig) → Buf (Elt Ideal) ℓ) : Prop :=
  True

def Pre_AdamTap (m : (ℓ : Loc Cert.AdamTap.nD Cert.AdamTap.τ Cert.AdamTap.sig) → Buf (Elt Bits) ℓ) : Prop :=
  True

def Pre_AdamTapIdeal (m : (ℓ : Loc Cert.AdamTapIdeal.nD Cert.AdamTapIdeal.τ Cert.AdamTapIdeal.sig) → Buf (Elt Ideal) ℓ) : Prop :=
  True

def Pre_AdamTapRefIdeal (m : (ℓ : Loc Cert.AdamTapRefIdeal.nD Cert.AdamTapRefIdeal.τ Cert.AdamTapRefIdeal.sig) → Buf (Elt Ideal) ℓ) : Prop :=
  True

def Pre_AdamFfnTap (m : (ℓ : Loc Cert.AdamFfnTap.nD Cert.AdamFfnTap.τ Cert.AdamFfnTap.sig) → Buf (Elt Bits) ℓ) : Prop :=
  True

def Pre_AdamFfnTapIdeal (m : (ℓ : Loc Cert.AdamFfnTapIdeal.nD Cert.AdamFfnTapIdeal.τ Cert.AdamFfnTapIdeal.sig) → Buf (Elt Ideal) ℓ) : Prop :=
  True

def Pre_AdamFfnTapRefIdeal (m : (ℓ : Loc Cert.AdamFfnTapRefIdeal.nD Cert.AdamFfnTapRefIdeal.τ Cert.AdamFfnTapRefIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasRefIdeal (m : (ℓ : Loc Cert.AdamBiasRefIdeal.nD Cert.AdamBiasRefIdeal.τ Cert.AdamBiasRefIdeal.sig) → Buf (Elt Ideal) ℓ) : Prop :=
  True

def Pre_NormPre (m : (ℓ : Loc Cert.NormPre.nD Cert.NormPre.τ Cert.NormPre.sig) → Buf (Elt Bits) ℓ) : Prop :=
  True

def Pre_NormPreIdeal (m : (ℓ : Loc Cert.NormPreIdeal.nD Cert.NormPreIdeal.τ Cert.NormPreIdeal.sig) → Buf (Elt Ideal) ℓ) : Prop :=
  True

def Pre_NormPreRefIdeal (m : (ℓ : Loc Cert.NormPreRefIdeal.nD Cert.NormPreRefIdeal.τ Cert.NormPreRefIdeal.sig) → Buf (Elt Ideal) ℓ) : Prop :=
  True

def Pre_NormPost (m : (ℓ : Loc Cert.NormPost.nD Cert.NormPost.τ Cert.NormPost.sig) → Buf (Elt Bits) ℓ) : Prop :=
  True

def Pre_NormPostIdeal (m : (ℓ : Loc Cert.NormPostIdeal.nD Cert.NormPostIdeal.τ Cert.NormPostIdeal.sig) → Buf (Elt Ideal) ℓ) : Prop :=
  True

def Pre_NormPostRefIdeal (m : (ℓ : Loc Cert.NormPostRefIdeal.nD Cert.NormPostRefIdeal.τ Cert.NormPostRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_ResidNorm (m : (ℓ : Loc Cert.ResidNorm.nD Cert.ResidNorm.τ Cert.ResidNorm.sig) → Buf (Elt Bits) ℓ) : Prop :=
  True

def Pre_ResidNormIdeal (m : (ℓ : Loc Cert.ResidNormIdeal.nD Cert.ResidNormIdeal.τ Cert.ResidNormIdeal.sig) → Buf (Elt Ideal) ℓ) : Prop :=
  True

def Pre_ResidNormRefIdeal (m : (ℓ : Loc Cert.ResidNormRefIdeal.nD Cert.ResidNormRefIdeal.τ Cert.ResidNormRefIdeal.sig) → Buf (Elt Ideal) ℓ) : Prop :=
  True

def Pre_ResidLoss (m : (ℓ : Loc Cert.ResidLoss.nD Cert.ResidLoss.τ Cert.ResidLoss.sig) → Buf (Elt Bits) ℓ) : Prop :=
  True

def Pre_ResidLossIdeal (m : (ℓ : Loc Cert.ResidLossIdeal.nD Cert.ResidLossIdeal.τ Cert.ResidLossIdeal.sig) → Buf (Elt Ideal) ℓ) : Prop :=
  True

def Pre_ResidLossRefIdeal (m : (ℓ : Loc Cert.ResidLossRefIdeal.nD Cert.ResidLossRefIdeal.τ Cert.ResidLossRefIdeal.sig) → Buf (Elt Ideal) ℓ) : Prop :=
  True

def Pre_ScFwd (m : (ℓ : Loc Cert.ScFwd.nD Cert.ScFwd.τ Cert.ScFwd.sig) → Buf (Elt Bits) ℓ) : Prop :=
  True

def Pre_ScFwdIdeal (m : (ℓ : Loc Cert.ScFwdIdeal.nD Cert.ScFwdIdeal.τ Cert.ScFwdIdeal.sig) → Buf (Elt Ideal) ℓ) : Prop :=
  True

def Pre_ScFwdRefIdeal (m : (ℓ : Loc Cert.ScFwdRefIdeal.nD Cert.ScFwdRefIdeal.τ Cert.ScFwdRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_FfnConvDz (m : (ℓ : Loc Cert.FfnConvDz.nD Cert.FfnConvDz.τ Cert.FfnConvDz.sig) → Buf (Elt Bits) ℓ) : Prop :=
  True

def Pre_FfnConvDzIdeal (m : (ℓ : Loc Cert.FfnConvDzIdeal.nD Cert.FfnConvDzIdeal.τ Cert.FfnConvDzIdeal.sig) → Buf (Elt Ideal) ℓ) : Prop :=
  True

def Pre_FfnConvDzRefIdeal (m : (ℓ : Loc Cert.FfnConvDzRefIdeal.nD Cert.FfnConvDzRefIdeal.τ Cert.FfnConvDzRefIdeal.sig) → Buf (Elt Ideal) ℓ) : Prop :=
  True

def Pre_FoxCum (m : (ℓ : Loc Cert.FoxCum.nD Cert.FoxCum.τ Cert.FoxCum.sig) → Buf (Elt Bits) ℓ) : Prop :=
  True

def Pre_FoxCumIdeal (m : (ℓ : Loc Cert.FoxCumIdeal.nD Cert.FoxCumIdeal.τ Cert.FoxCumIdeal.sig) → Buf (Elt Ideal) ℓ) : Prop :=
  True

def Pre_FoxCumRefIdeal (m : (ℓ : Loc Cert.FoxCumRefIdeal.nD Cert.FoxCumRefIdeal.τ Cert.FoxCumRefIdeal.sig) → Buf (Elt Ideal) ℓ) : Prop :=
  True

def Pre_FoxCumBwd (m : (ℓ : Loc Cert.FoxCumBwd.nD Cert.FoxCumBwd.τ Cert.FoxCumBwd.sig) → Buf (Elt Bits) ℓ) : Prop :=
  True

def Pre_FoxCumBwdIdeal (m : (ℓ : Loc Cert.FoxCumBwdIdeal.nD Cert.FoxCumBwdIdeal.τ Cert.FoxCumBwdIdeal.sig) → Buf (Elt Ideal) ℓ) : Prop :=
  True

def Pre_FoxCumBwdRefIdeal (m : (ℓ : Loc Cert.FoxCumBwdRefIdeal.nD Cert.FoxCumBwdRefIdeal.τ Cert.FoxCumBwdRefIdeal.sig) → Buf (Elt Ideal) ℓ) : Prop :=
  True

def Pre_Lb (m : (ℓ : Loc Cert.Lb.nD Cert.Lb.τ Cert.Lb.sig) → Buf (Elt Bits) ℓ) : Prop :=
  True

def Pre_LbIdeal (m : (ℓ : Loc Cert.LbIdeal.nD Cert.LbIdeal.τ Cert.LbIdeal.sig) → Buf (Elt Ideal) ℓ) : Prop :=
  True

def Pre_LbRefIdeal (m : (ℓ : Loc Cert.LbRefIdeal.nD Cert.LbRefIdeal.τ Cert.LbRefIdeal.sig) → Buf (Elt Ideal) ℓ) : Prop :=
  True

def Pre_LbBwd (m : (ℓ : Loc Cert.LbBwd.nD Cert.LbBwd.τ Cert.LbBwd.sig) → Buf (Elt Bits) ℓ) : Prop :=
  True

def Pre_LbBwdIdeal (m : (ℓ : Loc Cert.LbBwdIdeal.nD Cert.LbBwdIdeal.τ Cert.LbBwdIdeal.sig) → Buf (Elt Ideal) ℓ) : Prop :=
  True

def Pre_LbBwdRefIdeal (m : (ℓ : Loc Cert.LbBwdRefIdeal.nD Cert.LbBwdRefIdeal.τ Cert.LbBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpDh [hUpDh : Cert.UpDh.Facts] : Prop :=
  ∀ (m : (ℓ : Loc Cert.UpDh.nD Cert.UpDh.τ Cert.UpDh.sig) → Buf (Elt Bits) ℓ) (g : Dev Cert.UpDh.nD → PrngReg), Pre_UpDh m →
    θ_run (Cert.UpDh.defs (F := Bits)) (onTc (τ := Cert.UpDh.τ) (Cert.UpDh.main (F := Bits))) ⟨m, fun _ => 0, g⟩ (fun r => (∀ c : Dev Cert.UpDh.nD,
      r.2.mem ((c.tc : Thread Cert.UpDh.nD Cert.UpDh.τ).loc Cert.UpDh.main_arg0) = m ((c.tc : Thread Cert.UpDh.nD Cert.UpDh.τ).loc Cert.UpDh.main_arg0)
      ∧ r.2.mem ((c.tc : Thread Cert.UpDh.nD Cert.UpDh.τ).loc Cert.UpDh.main_arg1) = m ((c.tc : Thread Cert.UpDh.nD Cert.UpDh.τ).loc Cert.UpDh.main_arg1)
      ∧ r.2.mem ((c.tc : Thread Cert.UpDh.nD Cert.UpDh.τ).loc Cert.UpDh.main_arg2) = m ((c.tc : Thread Cert.UpDh.nD Cert.UpDh.τ).loc Cert.UpDh.main_arg2))
      ∧ r.2.sem = fun _ => 0)

def quiescent_UpDhIdeal [hUpDhIdeal : Cert.UpDhIdeal.Facts] : Prop :=
  ∀ (m : (ℓ : Loc Cert.UpDhIdeal.nD Cert.UpDhIdeal.τ Cert.UpDhIdeal.sig) → Buf (Elt Ideal) ℓ) (g : Dev Cert.UpDhIdeal.nD → PrngReg), Pre_UpDhIdeal m →
    θ_run (Cert.UpDhIdeal.defs (F := Ideal)) (onTc (τ := Cert.UpDhIdeal.τ) (Cert.UpDhIdeal.main (F := Ideal))) ⟨m, fun _ => 0, g⟩ (fun r => (∀ c : Dev Cert.UpDhIdeal.nD,
      r.2.mem ((c.tc : Thread Cert.UpDhIdeal.nD Cert.UpDhIdeal.τ).loc Cert.UpDhIdeal.main_arg0) = m ((c.tc : Thread Cert.UpDhIdeal.nD Cert.UpDhIdeal.τ).loc Cert.UpDhIdeal.main_arg0)
      ∧ r.2.mem ((c.tc : Thread Cert.UpDhIdeal.nD Cert.UpDhIdeal.τ).loc Cert.UpDhIdeal.main_arg1) = m ((c.tc : Thread Cert.UpDhIdeal.nD Cert.UpDhIdeal.τ).loc Cert.UpDhIdeal.main_arg1)
      ∧ r.2.mem ((c.tc : Thread Cert.UpDhIdeal.nD Cert.UpDhIdeal.τ).loc Cert.UpDhIdeal.main_arg2) = m ((c.tc : Thread Cert.UpDhIdeal.nD Cert.UpDhIdeal.τ).loc Cert.UpDhIdeal.main_arg2))
      ∧ r.2.sem = fun _ => 0)

def quiescent_UpDhRefIdeal [hUpDhRefIdeal : Cert.UpDhRefIdeal.Facts] : Prop :=
  ∀ (m : (ℓ : Loc Cert.UpDhRefIdeal.nD Cert.UpDhRefIdeal.τ Cert.UpDhRefIdeal.sig) → Buf (Elt Ideal) ℓ) (g : Dev Cert.UpDhRefIdeal.nD → PrngReg), Pre_UpDhRefIdeal m →
    θ_run (Cert.UpDhRefIdeal.defs (F := Ideal)) (onTc (τ := Cert.UpDhRefIdeal.τ) (Cert.UpDhRefIdeal.main (F := Ideal))) ⟨m, fun _ => 0, g⟩ (fun r => (∀ c : Dev Cert.UpDhRefIdeal.nD,
      r.2.mem ((c.tc : Thread Cert.UpDhRefIdeal.nD Cert.UpDhRefIdeal.τ).loc Cert.UpDhRefIdeal.main_arg0) = m ((c.tc : Thread Cert.UpDhRefIdeal.nD Cert.UpDhRefIdeal.τ).loc Cert.UpDhRefIdeal.main_arg0)
      ∧ r.2.mem ((c.tc : Thread Cert.UpDhRefIdeal.nD Cert.UpDhRefIdeal.τ).loc Cert.UpDhRefIdeal.main_arg1) = m ((c.tc : Thread Cert.UpDhRefIdeal.nD Cert.UpDhRefIdeal.τ).loc Cert.UpDhRefIdeal.main_arg1)
      ∧ r.2.mem ((c.tc : Thread Cert.UpDhRefIdeal.nD Cert.UpDhRefIdeal.τ).loc Cert.UpDhRefIdeal.main_arg2) = m ((c.tc : Thread Cert.UpDhRefIdeal.nD Cert.UpDhRefIdeal.τ).loc Cert.UpDhRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownDh [hDownDh : Cert.DownDh.Facts] : Prop :=
  ∀ (m : (ℓ : Loc Cert.DownDh.nD Cert.DownDh.τ Cert.DownDh.sig) → Buf (Elt Bits) ℓ) (g : Dev Cert.DownDh.nD → PrngReg), Pre_DownDh m →
    θ_run (Cert.DownDh.defs (F := Bits)) (onTc (τ := Cert.DownDh.τ) (Cert.DownDh.main (F := Bits))) ⟨m, fun _ => 0, g⟩ (fun r => (∀ c : Dev Cert.DownDh.nD,
      r.2.mem ((c.tc : Thread Cert.DownDh.nD Cert.DownDh.τ).loc Cert.DownDh.main_arg0) = m ((c.tc : Thread Cert.DownDh.nD Cert.DownDh.τ).loc Cert.DownDh.main_arg0)
      ∧ r.2.mem ((c.tc : Thread Cert.DownDh.nD Cert.DownDh.τ).loc Cert.DownDh.main_arg1) = m ((c.tc : Thread Cert.DownDh.nD Cert.DownDh.τ).loc Cert.DownDh.main_arg1)
      ∧ r.2.mem ((c.tc : Thread Cert.DownDh.nD Cert.DownDh.τ).loc Cert.DownDh.main_arg2) = m ((c.tc : Thread Cert.DownDh.nD Cert.DownDh.τ).loc Cert.DownDh.main_arg2))
      ∧ r.2.sem = fun _ => 0)

def quiescent_DownDhIdeal [hDownDhIdeal : Cert.DownDhIdeal.Facts] : Prop :=
  ∀ (m : (ℓ : Loc Cert.DownDhIdeal.nD Cert.DownDhIdeal.τ Cert.DownDhIdeal.sig) → Buf (Elt Ideal) ℓ) (g : Dev Cert.DownDhIdeal.nD → PrngReg), Pre_DownDhIdeal m →
    θ_run (Cert.DownDhIdeal.defs (F := Ideal)) (onTc (τ := Cert.DownDhIdeal.τ) (Cert.DownDhIdeal.main (F := Ideal))) ⟨m, fun _ => 0, g⟩ (fun r => (∀ c : Dev Cert.DownDhIdeal.nD,
      r.2.mem ((c.tc : Thread Cert.DownDhIdeal.nD Cert.DownDhIdeal.τ).loc Cert.DownDhIdeal.main_arg0) = m ((c.tc : Thread Cert.DownDhIdeal.nD Cert.DownDhIdeal.τ).loc Cert.DownDhIdeal.main_arg0)
      ∧ r.2.mem ((c.tc : Thread Cert.DownDhIdeal.nD Cert.DownDhIdeal.τ).loc Cert.DownDhIdeal.main_arg1) = m ((c.tc : Thread Cert.DownDhIdeal.nD Cert.DownDhIdeal.τ).loc Cert.DownDhIdeal.main_arg1)
      ∧ r.2.mem ((c.tc : Thread Cert.DownDhIdeal.nD Cert.DownDhIdeal.τ).loc Cert.DownDhIdeal.main_arg2) = m ((c.tc : Thread Cert.DownDhIdeal.nD Cert.DownDhIdeal.τ).loc Cert.DownDhIdeal.main_arg2))
      ∧ r.2.sem = fun _ => 0)

def quiescent_DownDhRefIdeal [hDownDhRefIdeal : Cert.DownDhRefIdeal.Facts] : Prop :=
  ∀ (m : (ℓ : Loc Cert.DownDhRefIdeal.nD Cert.DownDhRefIdeal.τ Cert.DownDhRefIdeal.sig) → Buf (Elt Ideal) ℓ) (g : Dev Cert.DownDhRefIdeal.nD → PrngReg), Pre_DownDhRefIdeal m →
    θ_run (Cert.DownDhRefIdeal.defs (F := Ideal)) (onTc (τ := Cert.DownDhRefIdeal.τ) (Cert.DownDhRefIdeal.main (F := Ideal))) ⟨m, fun _ => 0, g⟩ (fun r => (∀ c : Dev Cert.DownDhRefIdeal.nD,
      r.2.mem ((c.tc : Thread Cert.DownDhRefIdeal.nD Cert.DownDhRefIdeal.τ).loc Cert.DownDhRefIdeal.main_arg0) = m ((c.tc : Thread Cert.DownDhRefIdeal.nD Cert.DownDhRefIdeal.τ).loc Cert.DownDhRefIdeal.main_arg0)
      ∧ r.2.mem ((c.tc : Thread Cert.DownDhRefIdeal.nD Cert.DownDhRefIdeal.τ).loc Cert.DownDhRefIdeal.main_arg1) = m ((c.tc : Thread Cert.DownDhRefIdeal.nD Cert.DownDhRefIdeal.τ).loc Cert.DownDhRefIdeal.main_arg1)
      ∧ r.2.mem ((c.tc : Thread Cert.DownDhRefIdeal.nD Cert.DownDhRefIdeal.τ).loc Cert.DownDhRefIdeal.main_arg2) = m ((c.tc : Thread Cert.DownDhRefIdeal.nD Cert.DownDhRefIdeal.τ).loc Cert.DownDhRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_OutDh [hOutDh : Cert.OutDh.Facts] : Prop :=
  ∀ (m : (ℓ : Loc Cert.OutDh.nD Cert.OutDh.τ Cert.OutDh.sig) → Buf (Elt Bits) ℓ) (g : Dev Cert.OutDh.nD → PrngReg), Pre_OutDh m →
    θ_run (Cert.OutDh.defs (F := Bits)) (onTc (τ := Cert.OutDh.τ) (Cert.OutDh.main (F := Bits))) ⟨m, fun _ => 0, g⟩ (fun r => (∀ c : Dev Cert.OutDh.nD,
      r.2.mem ((c.tc : Thread Cert.OutDh.nD Cert.OutDh.τ).loc Cert.OutDh.main_arg0) = m ((c.tc : Thread Cert.OutDh.nD Cert.OutDh.τ).loc Cert.OutDh.main_arg0)
      ∧ r.2.mem ((c.tc : Thread Cert.OutDh.nD Cert.OutDh.τ).loc Cert.OutDh.main_arg1) = m ((c.tc : Thread Cert.OutDh.nD Cert.OutDh.τ).loc Cert.OutDh.main_arg1)
      ∧ r.2.mem ((c.tc : Thread Cert.OutDh.nD Cert.OutDh.τ).loc Cert.OutDh.main_arg2) = m ((c.tc : Thread Cert.OutDh.nD Cert.OutDh.τ).loc Cert.OutDh.main_arg2))
      ∧ r.2.sem = fun _ => 0)

def quiescent_OutDhIdeal [hOutDhIdeal : Cert.OutDhIdeal.Facts] : Prop :=
  ∀ (m : (ℓ : Loc Cert.OutDhIdeal.nD Cert.OutDhIdeal.τ Cert.OutDhIdeal.sig) → Buf (Elt Ideal) ℓ) (g : Dev Cert.OutDhIdeal.nD → PrngReg), Pre_OutDhIdeal m →
    θ_run (Cert.OutDhIdeal.defs (F := Ideal)) (onTc (τ := Cert.OutDhIdeal.τ) (Cert.OutDhIdeal.main (F := Ideal))) ⟨m, fun _ => 0, g⟩ (fun r => (∀ c : Dev Cert.OutDhIdeal.nD,
      r.2.mem ((c.tc : Thread Cert.OutDhIdeal.nD Cert.OutDhIdeal.τ).loc Cert.OutDhIdeal.main_arg0) = m ((c.tc : Thread Cert.OutDhIdeal.nD Cert.OutDhIdeal.τ).loc Cert.OutDhIdeal.main_arg0)
      ∧ r.2.mem ((c.tc : Thread Cert.OutDhIdeal.nD Cert.OutDhIdeal.τ).loc Cert.OutDhIdeal.main_arg1) = m ((c.tc : Thread Cert.OutDhIdeal.nD Cert.OutDhIdeal.τ).loc Cert.OutDhIdeal.main_arg1)
      ∧ r.2.mem ((c.tc : Thread Cert.OutDhIdeal.nD Cert.OutDhIdeal.τ).loc Cert.OutDhIdeal.main_arg2) = m ((c.tc : Thread Cert.OutDhIdeal.nD Cert.OutDhIdeal.τ).loc Cert.OutDhIdeal.main_arg2))
      ∧ r.2.sem = fun _ => 0)

def quiescent_OutDhRefIdeal [hOutDhRefIdeal : Cert.OutDhRefIdeal.Facts] : Prop :=
  ∀ (m : (ℓ : Loc Cert.OutDhRefIdeal.nD Cert.OutDhRefIdeal.τ Cert.OutDhRefIdeal.sig) → Buf (Elt Ideal) ℓ) (g : Dev Cert.OutDhRefIdeal.nD → PrngReg), Pre_OutDhRefIdeal m →
    θ_run (Cert.OutDhRefIdeal.defs (F := Ideal)) (onTc (τ := Cert.OutDhRefIdeal.τ) (Cert.OutDhRefIdeal.main (F := Ideal))) ⟨m, fun _ => 0, g⟩ (fun r => (∀ c : Dev Cert.OutDhRefIdeal.nD,
      r.2.mem ((c.tc : Thread Cert.OutDhRefIdeal.nD Cert.OutDhRefIdeal.τ).loc Cert.OutDhRefIdeal.main_arg0) = m ((c.tc : Thread Cert.OutDhRefIdeal.nD Cert.OutDhRefIdeal.τ).loc Cert.OutDhRefIdeal.main_arg0)
      ∧ r.2.mem ((c.tc : Thread Cert.OutDhRefIdeal.nD Cert.OutDhRefIdeal.τ).loc Cert.OutDhRefIdeal.main_arg1) = m ((c.tc : Thread Cert.OutDhRefIdeal.nD Cert.OutDhRefIdeal.τ).loc Cert.OutDhRefIdeal.main_arg1)
      ∧ r.2.mem ((c.tc : Thread Cert.OutDhRefIdeal.nD Cert.OutDhRefIdeal.τ).loc Cert.OutDhRefIdeal.main_arg2) = m ((c.tc : Thread Cert.OutDhRefIdeal.nD Cert.OutDhRefIdeal.τ).loc Cert.OutDhRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1))
      ∧ r.2.sem = fun _ => 0)

def quiescent_HgrnDh [hHgrnDh : Cert.HgrnDh.Facts] : Prop :=
  ∀ (m : (ℓ : Loc Cert.HgrnDh.nD Cert.HgrnDh.τ Cert.HgrnDh.sig) → Buf (Elt Bits) ℓ) (g : Dev Cert.HgrnDh.nD → PrngReg), Pre_HgrnDh m →
    θ_run (Cert.HgrnDh.defs (F := Bits)) (onTc (τ := Cert.HgrnDh.τ) (Cert.HgrnDh.main (F := Bits))) ⟨m, fun _ => 0, g⟩ (fun r => (∀ c : Dev Cert.HgrnDh.nD,
      r.2.mem ((c.tc : Thread Cert.HgrnDh.nD Cert.HgrnDh.τ).loc Cert.HgrnDh.main_arg0) = m ((c.tc : Thread Cert.HgrnDh.nD Cert.HgrnDh.τ).loc Cert.HgrnDh.main_arg0)
      ∧ r.2.mem ((c.tc : Thread Cert.HgrnDh.nD Cert.HgrnDh.τ).loc Cert.HgrnDh.main_arg1) = m ((c.tc : Thread Cert.HgrnDh.nD Cert.HgrnDh.τ).loc Cert.HgrnDh.main_arg1)
      ∧ r.2.mem ((c.tc : Thread Cert.HgrnDh.nD Cert.HgrnDh.τ).loc Cert.HgrnDh.main_arg2) = m ((c.tc : Thread Cert.HgrnDh.nD Cert.HgrnDh.τ).loc Cert.HgrnDh.main_arg2))
      ∧ r.2.sem = fun _ => 0)

def quiescent_HgrnDhIdeal [hHgrnDhIdeal : Cert.HgrnDhIdeal.Facts] : Prop :=
  ∀ (m : (ℓ : Loc Cert.HgrnDhIdeal.nD Cert.HgrnDhIdeal.τ Cert.HgrnDhIdeal.sig) → Buf (Elt Ideal) ℓ) (g : Dev Cert.HgrnDhIdeal.nD → PrngReg), Pre_HgrnDhIdeal m →
    θ_run (Cert.HgrnDhIdeal.defs (F := Ideal)) (onTc (τ := Cert.HgrnDhIdeal.τ) (Cert.HgrnDhIdeal.main (F := Ideal))) ⟨m, fun _ => 0, g⟩ (fun r => (∀ c : Dev Cert.HgrnDhIdeal.nD,
      r.2.mem ((c.tc : Thread Cert.HgrnDhIdeal.nD Cert.HgrnDhIdeal.τ).loc Cert.HgrnDhIdeal.main_arg0) = m ((c.tc : Thread Cert.HgrnDhIdeal.nD Cert.HgrnDhIdeal.τ).loc Cert.HgrnDhIdeal.main_arg0)
      ∧ r.2.mem ((c.tc : Thread Cert.HgrnDhIdeal.nD Cert.HgrnDhIdeal.τ).loc Cert.HgrnDhIdeal.main_arg1) = m ((c.tc : Thread Cert.HgrnDhIdeal.nD Cert.HgrnDhIdeal.τ).loc Cert.HgrnDhIdeal.main_arg1)
      ∧ r.2.mem ((c.tc : Thread Cert.HgrnDhIdeal.nD Cert.HgrnDhIdeal.τ).loc Cert.HgrnDhIdeal.main_arg2) = m ((c.tc : Thread Cert.HgrnDhIdeal.nD Cert.HgrnDhIdeal.τ).loc Cert.HgrnDhIdeal.main_arg2))
      ∧ r.2.sem = fun _ => 0)

def quiescent_HgrnDhRefIdeal [hHgrnDhRefIdeal : Cert.HgrnDhRefIdeal.Facts] : Prop :=
  ∀ (m : (ℓ : Loc Cert.HgrnDhRefIdeal.nD Cert.HgrnDhRefIdeal.τ Cert.HgrnDhRefIdeal.sig) → Buf (Elt Ideal) ℓ) (g : Dev Cert.HgrnDhRefIdeal.nD → PrngReg), Pre_HgrnDhRefIdeal m →
    θ_run (Cert.HgrnDhRefIdeal.defs (F := Ideal)) (onTc (τ := Cert.HgrnDhRefIdeal.τ) (Cert.HgrnDhRefIdeal.main (F := Ideal))) ⟨m, fun _ => 0, g⟩ (fun r => (∀ c : Dev Cert.HgrnDhRefIdeal.nD,
      r.2.mem ((c.tc : Thread Cert.HgrnDhRefIdeal.nD Cert.HgrnDhRefIdeal.τ).loc Cert.HgrnDhRefIdeal.main_arg0) = m ((c.tc : Thread Cert.HgrnDhRefIdeal.nD Cert.HgrnDhRefIdeal.τ).loc Cert.HgrnDhRefIdeal.main_arg0)
      ∧ r.2.mem ((c.tc : Thread Cert.HgrnDhRefIdeal.nD Cert.HgrnDhRefIdeal.τ).loc Cert.HgrnDhRefIdeal.main_arg1) = m ((c.tc : Thread Cert.HgrnDhRefIdeal.nD Cert.HgrnDhRefIdeal.τ).loc Cert.HgrnDhRefIdeal.main_arg1)
      ∧ r.2.mem ((c.tc : Thread Cert.HgrnDhRefIdeal.nD Cert.HgrnDhRefIdeal.τ).loc Cert.HgrnDhRefIdeal.main_arg2) = m ((c.tc : Thread Cert.HgrnDhRefIdeal.nD Cert.HgrnDhRefIdeal.τ).loc Cert.HgrnDhRefIdeal.main_arg2))
      ∧ r.2.sem = fun _ => 0)

def quiescent_HgrnDw [hHgrnDw : Cert.HgrnDw.Facts] : Prop :=
  ∀ (m : (ℓ : Loc Cert.HgrnDw.nD Cert.HgrnDw.τ Cert.HgrnDw.sig) → Buf (Elt Bits) ℓ) (g : Dev Cert.HgrnDw.nD → PrngReg), Pre_HgrnDw m →
    θ_run (Cert.HgrnDw.defs (F := Bits)) (onTc (τ := Cert.HgrnDw.τ) (Cert.HgrnDw.main (F := Bits))) ⟨m, fun _ => 0, g⟩ (fun r => (∀ c : Dev Cert.HgrnDw.nD,
      r.2.mem ((c.tc : Thread Cert.HgrnDw.nD Cert.HgrnDw.τ).loc Cert.HgrnDw.main_arg0) = m ((c.tc : Thread Cert.HgrnDw.nD Cert.HgrnDw.τ).loc Cert.HgrnDw.main_arg0)
      ∧ r.2.mem ((c.tc : Thread Cert.HgrnDw.nD Cert.HgrnDw.τ).loc Cert.HgrnDw.main_arg1) = m ((c.tc : Thread Cert.HgrnDw.nD Cert.HgrnDw.τ).loc Cert.HgrnDw.main_arg1)
      ∧ r.2.mem ((c.tc : Thread Cert.HgrnDw.nD Cert.HgrnDw.τ).loc Cert.HgrnDw.main_arg2) = m ((c.tc : Thread Cert.HgrnDw.nD Cert.HgrnDw.τ).loc Cert.HgrnDw.main_arg2))
      ∧ r.2.sem = fun _ => 0)

def quiescent_HgrnDwIdeal [hHgrnDwIdeal : Cert.HgrnDwIdeal.Facts] : Prop :=
  ∀ (m : (ℓ : Loc Cert.HgrnDwIdeal.nD Cert.HgrnDwIdeal.τ Cert.HgrnDwIdeal.sig) → Buf (Elt Ideal) ℓ) (g : Dev Cert.HgrnDwIdeal.nD → PrngReg), Pre_HgrnDwIdeal m →
    θ_run (Cert.HgrnDwIdeal.defs (F := Ideal)) (onTc (τ := Cert.HgrnDwIdeal.τ) (Cert.HgrnDwIdeal.main (F := Ideal))) ⟨m, fun _ => 0, g⟩ (fun r => (∀ c : Dev Cert.HgrnDwIdeal.nD,
      r.2.mem ((c.tc : Thread Cert.HgrnDwIdeal.nD Cert.HgrnDwIdeal.τ).loc Cert.HgrnDwIdeal.main_arg0) = m ((c.tc : Thread Cert.HgrnDwIdeal.nD Cert.HgrnDwIdeal.τ).loc Cert.HgrnDwIdeal.main_arg0)
      ∧ r.2.mem ((c.tc : Thread Cert.HgrnDwIdeal.nD Cert.HgrnDwIdeal.τ).loc Cert.HgrnDwIdeal.main_arg1) = m ((c.tc : Thread Cert.HgrnDwIdeal.nD Cert.HgrnDwIdeal.τ).loc Cert.HgrnDwIdeal.main_arg1)
      ∧ r.2.mem ((c.tc : Thread Cert.HgrnDwIdeal.nD Cert.HgrnDwIdeal.τ).loc Cert.HgrnDwIdeal.main_arg2) = m ((c.tc : Thread Cert.HgrnDwIdeal.nD Cert.HgrnDwIdeal.τ).loc Cert.HgrnDwIdeal.main_arg2))
      ∧ r.2.sem = fun _ => 0)

def quiescent_HgrnDwRefIdeal [hHgrnDwRefIdeal : Cert.HgrnDwRefIdeal.Facts] : Prop :=
  ∀ (m : (ℓ : Loc Cert.HgrnDwRefIdeal.nD Cert.HgrnDwRefIdeal.τ Cert.HgrnDwRefIdeal.sig) → Buf (Elt Ideal) ℓ) (g : Dev Cert.HgrnDwRefIdeal.nD → PrngReg), Pre_HgrnDwRefIdeal m →
    θ_run (Cert.HgrnDwRefIdeal.defs (F := Ideal)) (onTc (τ := Cert.HgrnDwRefIdeal.τ) (Cert.HgrnDwRefIdeal.main (F := Ideal))) ⟨m, fun _ => 0, g⟩ (fun r => (∀ c : Dev Cert.HgrnDwRefIdeal.nD,
      r.2.mem ((c.tc : Thread Cert.HgrnDwRefIdeal.nD Cert.HgrnDwRefIdeal.τ).loc Cert.HgrnDwRefIdeal.main_arg0) = m ((c.tc : Thread Cert.HgrnDwRefIdeal.nD Cert.HgrnDwRefIdeal.τ).loc Cert.HgrnDwRefIdeal.main_arg0)
      ∧ r.2.mem ((c.tc : Thread Cert.HgrnDwRefIdeal.nD Cert.HgrnDwRefIdeal.τ).loc Cert.HgrnDwRefIdeal.main_arg1) = m ((c.tc : Thread Cert.HgrnDwRefIdeal.nD Cert.HgrnDwRefIdeal.τ).loc Cert.HgrnDwRefIdeal.main_arg1)
      ∧ r.2.mem ((c.tc : Thread Cert.HgrnDwRefIdeal.nD Cert.HgrnDwRefIdeal.τ).loc Cert.HgrnDwRefIdeal.main_arg2) = m ((c.tc : Thread Cert.HgrnDwRefIdeal.nD Cert.HgrnDwRefIdeal.τ).loc Cert.HgrnDwRefIdeal.main_arg2))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_SwaDh [hSwaDh : Cert.SwaDh.Facts] : Prop :=
  ∀ (m : (ℓ : Loc Cert.SwaDh.nD Cert.SwaDh.τ Cert.SwaDh.sig) → Buf (Elt Bits) ℓ) (g : Dev Cert.SwaDh.nD → PrngReg), Pre_SwaDh m →
    θ_run (Cert.SwaDh.defs (F := Bits)) (onTc (τ := Cert.SwaDh.τ) (Cert.SwaDh.main (F := Bits))) ⟨m, fun _ => 0, g⟩ (fun r => (∀ c : Dev Cert.SwaDh.nD,
      r.2.mem ((c.tc : Thread Cert.SwaDh.nD Cert.SwaDh.τ).loc Cert.SwaDh.main_arg0) = m ((c.tc : Thread Cert.SwaDh.nD Cert.SwaDh.τ).loc Cert.SwaDh.main_arg0)
      ∧ r.2.mem ((c.tc : Thread Cert.SwaDh.nD Cert.SwaDh.τ).loc Cert.SwaDh.main_arg1) = m ((c.tc : Thread Cert.SwaDh.nD Cert.SwaDh.τ).loc Cert.SwaDh.main_arg1)
      ∧ r.2.mem ((c.tc : Thread Cert.SwaDh.nD Cert.SwaDh.τ).loc Cert.SwaDh.main_arg2) = m ((c.tc : Thread Cert.SwaDh.nD Cert.SwaDh.τ).loc Cert.SwaDh.main_arg2))
      ∧ r.2.sem = fun _ => 0)

def quiescent_SwaDhIdeal [hSwaDhIdeal : Cert.SwaDhIdeal.Facts] : Prop :=
  ∀ (m : (ℓ : Loc Cert.SwaDhIdeal.nD Cert.SwaDhIdeal.τ Cert.SwaDhIdeal.sig) → Buf (Elt Ideal) ℓ) (g : Dev Cert.SwaDhIdeal.nD → PrngReg), Pre_SwaDhIdeal m →
    θ_run (Cert.SwaDhIdeal.defs (F := Ideal)) (onTc (τ := Cert.SwaDhIdeal.τ) (Cert.SwaDhIdeal.main (F := Ideal))) ⟨m, fun _ => 0, g⟩ (fun r => (∀ c : Dev Cert.SwaDhIdeal.nD,
      r.2.mem ((c.tc : Thread Cert.SwaDhIdeal.nD Cert.SwaDhIdeal.τ).loc Cert.SwaDhIdeal.main_arg0) = m ((c.tc : Thread Cert.SwaDhIdeal.nD Cert.SwaDhIdeal.τ).loc Cert.SwaDhIdeal.main_arg0)
      ∧ r.2.mem ((c.tc : Thread Cert.SwaDhIdeal.nD Cert.SwaDhIdeal.τ).loc Cert.SwaDhIdeal.main_arg1) = m ((c.tc : Thread Cert.SwaDhIdeal.nD Cert.SwaDhIdeal.τ).loc Cert.SwaDhIdeal.main_arg1)
      ∧ r.2.mem ((c.tc : Thread Cert.SwaDhIdeal.nD Cert.SwaDhIdeal.τ).loc Cert.SwaDhIdeal.main_arg2) = m ((c.tc : Thread Cert.SwaDhIdeal.nD Cert.SwaDhIdeal.τ).loc Cert.SwaDhIdeal.main_arg2))
      ∧ r.2.sem = fun _ => 0)

def quiescent_SwaDhRefIdeal [hSwaDhRefIdeal : Cert.SwaDhRefIdeal.Facts] : Prop :=
  ∀ (m : (ℓ : Loc Cert.SwaDhRefIdeal.nD Cert.SwaDhRefIdeal.τ Cert.SwaDhRefIdeal.sig) → Buf (Elt Ideal) ℓ) (g : Dev Cert.SwaDhRefIdeal.nD → PrngReg), Pre_SwaDhRefIdeal m →
    θ_run (Cert.SwaDhRefIdeal.defs (F := Ideal)) (onTc (τ := Cert.SwaDhRefIdeal.τ) (Cert.SwaDhRefIdeal.main (F := Ideal))) ⟨m, fun _ => 0, g⟩ (fun r => (∀ c : Dev Cert.SwaDhRefIdeal.nD,
      r.2.mem ((c.tc : Thread Cert.SwaDhRefIdeal.nD Cert.SwaDhRefIdeal.τ).loc Cert.SwaDhRefIdeal.main_arg0) = m ((c.tc : Thread Cert.SwaDhRefIdeal.nD Cert.SwaDhRefIdeal.τ).loc Cert.SwaDhRefIdeal.main_arg0)
      ∧ r.2.mem ((c.tc : Thread Cert.SwaDhRefIdeal.nD Cert.SwaDhRefIdeal.τ).loc Cert.SwaDhRefIdeal.main_arg1) = m ((c.tc : Thread Cert.SwaDhRefIdeal.nD Cert.SwaDhRefIdeal.τ).loc Cert.SwaDhRefIdeal.main_arg1)
      ∧ r.2.mem ((c.tc : Thread Cert.SwaDhRefIdeal.nD Cert.SwaDhRefIdeal.τ).loc Cert.SwaDhRefIdeal.main_arg2) = m ((c.tc : Thread Cert.SwaDhRefIdeal.nD Cert.SwaDhRefIdeal.τ).loc Cert.SwaDhRefIdeal.main_arg2))
      ∧ r.2.sem = fun _ => 0)

def quiescent_SwaDw [hSwaDw : Cert.SwaDw.Facts] : Prop :=
  ∀ (m : (ℓ : Loc Cert.SwaDw.nD Cert.SwaDw.τ Cert.SwaDw.sig) → Buf (Elt Bits) ℓ) (g : Dev Cert.SwaDw.nD → PrngReg), Pre_SwaDw m →
    θ_run (Cert.SwaDw.defs (F := Bits)) (onTc (τ := Cert.SwaDw.τ) (Cert.SwaDw.main (F := Bits))) ⟨m, fun _ => 0, g⟩ (fun r => (∀ c : Dev Cert.SwaDw.nD,
      r.2.mem ((c.tc : Thread Cert.SwaDw.nD Cert.SwaDw.τ).loc Cert.SwaDw.main_arg0) = m ((c.tc : Thread Cert.SwaDw.nD Cert.SwaDw.τ).loc Cert.SwaDw.main_arg0)
      ∧ r.2.mem ((c.tc : Thread Cert.SwaDw.nD Cert.SwaDw.τ).loc Cert.SwaDw.main_arg1) = m ((c.tc : Thread Cert.SwaDw.nD Cert.SwaDw.τ).loc Cert.SwaDw.main_arg1)
      ∧ r.2.mem ((c.tc : Thread Cert.SwaDw.nD Cert.SwaDw.τ).loc Cert.SwaDw.main_arg2) = m ((c.tc : Thread Cert.SwaDw.nD Cert.SwaDw.τ).loc Cert.SwaDw.main_arg2))
      ∧ r.2.sem = fun _ => 0)

def quiescent_SwaDwIdeal [hSwaDwIdeal : Cert.SwaDwIdeal.Facts] : Prop :=
  ∀ (m : (ℓ : Loc Cert.SwaDwIdeal.nD Cert.SwaDwIdeal.τ Cert.SwaDwIdeal.sig) → Buf (Elt Ideal) ℓ) (g : Dev Cert.SwaDwIdeal.nD → PrngReg), Pre_SwaDwIdeal m →
    θ_run (Cert.SwaDwIdeal.defs (F := Ideal)) (onTc (τ := Cert.SwaDwIdeal.τ) (Cert.SwaDwIdeal.main (F := Ideal))) ⟨m, fun _ => 0, g⟩ (fun r => (∀ c : Dev Cert.SwaDwIdeal.nD,
      r.2.mem ((c.tc : Thread Cert.SwaDwIdeal.nD Cert.SwaDwIdeal.τ).loc Cert.SwaDwIdeal.main_arg0) = m ((c.tc : Thread Cert.SwaDwIdeal.nD Cert.SwaDwIdeal.τ).loc Cert.SwaDwIdeal.main_arg0)
      ∧ r.2.mem ((c.tc : Thread Cert.SwaDwIdeal.nD Cert.SwaDwIdeal.τ).loc Cert.SwaDwIdeal.main_arg1) = m ((c.tc : Thread Cert.SwaDwIdeal.nD Cert.SwaDwIdeal.τ).loc Cert.SwaDwIdeal.main_arg1)
      ∧ r.2.mem ((c.tc : Thread Cert.SwaDwIdeal.nD Cert.SwaDwIdeal.τ).loc Cert.SwaDwIdeal.main_arg2) = m ((c.tc : Thread Cert.SwaDwIdeal.nD Cert.SwaDwIdeal.τ).loc Cert.SwaDwIdeal.main_arg2))
      ∧ r.2.sem = fun _ => 0)

def quiescent_SwaDwRefIdeal [hSwaDwRefIdeal : Cert.SwaDwRefIdeal.Facts] : Prop :=
  ∀ (m : (ℓ : Loc Cert.SwaDwRefIdeal.nD Cert.SwaDwRefIdeal.τ Cert.SwaDwRefIdeal.sig) → Buf (Elt Ideal) ℓ) (g : Dev Cert.SwaDwRefIdeal.nD → PrngReg), Pre_SwaDwRefIdeal m →
    θ_run (Cert.SwaDwRefIdeal.defs (F := Ideal)) (onTc (τ := Cert.SwaDwRefIdeal.τ) (Cert.SwaDwRefIdeal.main (F := Ideal))) ⟨m, fun _ => 0, g⟩ (fun r => (∀ c : Dev Cert.SwaDwRefIdeal.nD,
      r.2.mem ((c.tc : Thread Cert.SwaDwRefIdeal.nD Cert.SwaDwRefIdeal.τ).loc Cert.SwaDwRefIdeal.main_arg0) = m ((c.tc : Thread Cert.SwaDwRefIdeal.nD Cert.SwaDwRefIdeal.τ).loc Cert.SwaDwRefIdeal.main_arg0)
      ∧ r.2.mem ((c.tc : Thread Cert.SwaDwRefIdeal.nD Cert.SwaDwRefIdeal.τ).loc Cert.SwaDwRefIdeal.main_arg1) = m ((c.tc : Thread Cert.SwaDwRefIdeal.nD Cert.SwaDwRefIdeal.τ).loc Cert.SwaDwRefIdeal.main_arg1)
      ∧ r.2.mem ((c.tc : Thread Cert.SwaDwRefIdeal.nD Cert.SwaDwRefIdeal.τ).loc Cert.SwaDwRefIdeal.main_arg2) = m ((c.tc : Thread Cert.SwaDwRefIdeal.nD Cert.SwaDwRefIdeal.τ).loc Cert.SwaDwRefIdeal.main_arg2))
      ∧ r.2.sem = fun _ => 0)

def quiescent_Sc [hSc : Cert.Sc.Facts] : Prop :=
  ∀ (m : (ℓ : Loc Cert.Sc.nD Cert.Sc.τ Cert.Sc.sig) → Buf (Elt Bits) ℓ) (g : Dev Cert.Sc.nD → PrngReg), Pre_Sc m →
    θ_run (Cert.Sc.defs (F := Bits)) (onTc (τ := Cert.Sc.τ) (Cert.Sc.main (F := Bits))) ⟨m, fun _ => 0, g⟩ (fun r => (∀ c : Dev Cert.Sc.nD,
      r.2.mem ((c.tc : Thread Cert.Sc.nD Cert.Sc.τ).loc Cert.Sc.main_arg0) = m ((c.tc : Thread Cert.Sc.nD Cert.Sc.τ).loc Cert.Sc.main_arg0)
      ∧ r.2.mem ((c.tc : Thread Cert.Sc.nD Cert.Sc.τ).loc Cert.Sc.main_arg1) = m ((c.tc : Thread Cert.Sc.nD Cert.Sc.τ).loc Cert.Sc.main_arg1))
      ∧ r.2.sem = fun _ => 0)

def quiescent_ScIdeal [hScIdeal : Cert.ScIdeal.Facts] : Prop :=
  ∀ (m : (ℓ : Loc Cert.ScIdeal.nD Cert.ScIdeal.τ Cert.ScIdeal.sig) → Buf (Elt Ideal) ℓ) (g : Dev Cert.ScIdeal.nD → PrngReg), Pre_ScIdeal m →
    θ_run (Cert.ScIdeal.defs (F := Ideal)) (onTc (τ := Cert.ScIdeal.τ) (Cert.ScIdeal.main (F := Ideal))) ⟨m, fun _ => 0, g⟩ (fun r => (∀ c : Dev Cert.ScIdeal.nD,
      r.2.mem ((c.tc : Thread Cert.ScIdeal.nD Cert.ScIdeal.τ).loc Cert.ScIdeal.main_arg0) = m ((c.tc : Thread Cert.ScIdeal.nD Cert.ScIdeal.τ).loc Cert.ScIdeal.main_arg0)
      ∧ r.2.mem ((c.tc : Thread Cert.ScIdeal.nD Cert.ScIdeal.τ).loc Cert.ScIdeal.main_arg1) = m ((c.tc : Thread Cert.ScIdeal.nD Cert.ScIdeal.τ).loc Cert.ScIdeal.main_arg1))
      ∧ r.2.sem = fun _ => 0)

def quiescent_ScRefIdeal [hScRefIdeal : Cert.ScRefIdeal.Facts] : Prop :=
  ∀ (m : (ℓ : Loc Cert.ScRefIdeal.nD Cert.ScRefIdeal.τ Cert.ScRefIdeal.sig) → Buf (Elt Ideal) ℓ) (g : Dev Cert.ScRefIdeal.nD → PrngReg), Pre_ScRefIdeal m →
    θ_run (Cert.ScRefIdeal.defs (F := Ideal)) (onTc (τ := Cert.ScRefIdeal.τ) (Cert.ScRefIdeal.main (F := Ideal))) ⟨m, fun _ => 0, g⟩ (fun r => (∀ c : Dev Cert.ScRefIdeal.nD,
      r.2.mem ((c.tc : Thread Cert.ScRefIdeal.nD Cert.ScRefIdeal.τ).loc Cert.ScRefIdeal.main_arg0) = m ((c.tc : Thread Cert.ScRefIdeal.nD Cert.ScRefIdeal.τ).loc Cert.ScRefIdeal.main_arg0)
      ∧ r.2.mem ((c.tc : Thread Cert.ScRefIdeal.nD Cert.ScRefIdeal.τ).loc Cert.ScRefIdeal.main_arg1) = m ((c.tc : Thread Cert.ScRefIdeal.nD Cert.ScRefIdeal.τ).loc Cert.ScRefIdeal.main_arg1))
      ∧ r.2.sem = fun _ => 0)

def quiescent_ScDh [hScDh : Cert.ScDh.Facts] : Prop :=
  ∀ (m : (ℓ : Loc Cert.ScDh.nD Cert.ScDh.τ Cert.ScDh.sig) → Buf (Elt Bits) ℓ) (g : Dev Cert.ScDh.nD → PrngReg), Pre_ScDh m →
    θ_run (Cert.ScDh.defs (F := Bits)) (onTc (τ := Cert.ScDh.τ) (Cert.ScDh.main (F := Bits))) ⟨m, fun _ => 0, g⟩ (fun r => (∀ c : Dev Cert.ScDh.nD,
      r.2.mem ((c.tc : Thread Cert.ScDh.nD Cert.ScDh.τ).loc Cert.ScDh.main_arg0) = m ((c.tc : Thread Cert.ScDh.nD Cert.ScDh.τ).loc Cert.ScDh.main_arg0)
      ∧ r.2.mem ((c.tc : Thread Cert.ScDh.nD Cert.ScDh.τ).loc Cert.ScDh.main_arg1) = m ((c.tc : Thread Cert.ScDh.nD Cert.ScDh.τ).loc Cert.ScDh.main_arg1)
      ∧ r.2.mem ((c.tc : Thread Cert.ScDh.nD Cert.ScDh.τ).loc Cert.ScDh.main_arg2) = m ((c.tc : Thread Cert.ScDh.nD Cert.ScDh.τ).loc Cert.ScDh.main_arg2))
      ∧ r.2.sem = fun _ => 0)

def quiescent_ScDhIdeal [hScDhIdeal : Cert.ScDhIdeal.Facts] : Prop :=
  ∀ (m : (ℓ : Loc Cert.ScDhIdeal.nD Cert.ScDhIdeal.τ Cert.ScDhIdeal.sig) → Buf (Elt Ideal) ℓ) (g : Dev Cert.ScDhIdeal.nD → PrngReg), Pre_ScDhIdeal m →
    θ_run (Cert.ScDhIdeal.defs (F := Ideal)) (onTc (τ := Cert.ScDhIdeal.τ) (Cert.ScDhIdeal.main (F := Ideal))) ⟨m, fun _ => 0, g⟩ (fun r => (∀ c : Dev Cert.ScDhIdeal.nD,
      r.2.mem ((c.tc : Thread Cert.ScDhIdeal.nD Cert.ScDhIdeal.τ).loc Cert.ScDhIdeal.main_arg0) = m ((c.tc : Thread Cert.ScDhIdeal.nD Cert.ScDhIdeal.τ).loc Cert.ScDhIdeal.main_arg0)
      ∧ r.2.mem ((c.tc : Thread Cert.ScDhIdeal.nD Cert.ScDhIdeal.τ).loc Cert.ScDhIdeal.main_arg1) = m ((c.tc : Thread Cert.ScDhIdeal.nD Cert.ScDhIdeal.τ).loc Cert.ScDhIdeal.main_arg1)
      ∧ r.2.mem ((c.tc : Thread Cert.ScDhIdeal.nD Cert.ScDhIdeal.τ).loc Cert.ScDhIdeal.main_arg2) = m ((c.tc : Thread Cert.ScDhIdeal.nD Cert.ScDhIdeal.τ).loc Cert.ScDhIdeal.main_arg2))
      ∧ r.2.sem = fun _ => 0)

def quiescent_ScDhRefIdeal [hScDhRefIdeal : Cert.ScDhRefIdeal.Facts] : Prop :=
  ∀ (m : (ℓ : Loc Cert.ScDhRefIdeal.nD Cert.ScDhRefIdeal.τ Cert.ScDhRefIdeal.sig) → Buf (Elt Ideal) ℓ) (g : Dev Cert.ScDhRefIdeal.nD → PrngReg), Pre_ScDhRefIdeal m →
    θ_run (Cert.ScDhRefIdeal.defs (F := Ideal)) (onTc (τ := Cert.ScDhRefIdeal.τ) (Cert.ScDhRefIdeal.main (F := Ideal))) ⟨m, fun _ => 0, g⟩ (fun r => (∀ c : Dev Cert.ScDhRefIdeal.nD,
      r.2.mem ((c.tc : Thread Cert.ScDhRefIdeal.nD Cert.ScDhRefIdeal.τ).loc Cert.ScDhRefIdeal.main_arg0) = m ((c.tc : Thread Cert.ScDhRefIdeal.nD Cert.ScDhRefIdeal.τ).loc Cert.ScDhRefIdeal.main_arg0)
      ∧ r.2.mem ((c.tc : Thread Cert.ScDhRefIdeal.nD Cert.ScDhRefIdeal.τ).loc Cert.ScDhRefIdeal.main_arg1) = m ((c.tc : Thread Cert.ScDhRefIdeal.nD Cert.ScDhRefIdeal.τ).loc Cert.ScDhRefIdeal.main_arg1)
      ∧ r.2.mem ((c.tc : Thread Cert.ScDhRefIdeal.nD Cert.ScDhRefIdeal.τ).loc Cert.ScDhRefIdeal.main_arg2) = m ((c.tc : Thread Cert.ScDhRefIdeal.nD Cert.ScDhRefIdeal.τ).loc Cert.ScDhRefIdeal.main_arg2))
      ∧ r.2.sem = fun _ => 0)

def quiescent_ScDw [hScDw : Cert.ScDw.Facts] : Prop :=
  ∀ (m : (ℓ : Loc Cert.ScDw.nD Cert.ScDw.τ Cert.ScDw.sig) → Buf (Elt Bits) ℓ) (g : Dev Cert.ScDw.nD → PrngReg), Pre_ScDw m →
    θ_run (Cert.ScDw.defs (F := Bits)) (onTc (τ := Cert.ScDw.τ) (Cert.ScDw.main (F := Bits))) ⟨m, fun _ => 0, g⟩ (fun r => (∀ c : Dev Cert.ScDw.nD,
      r.2.mem ((c.tc : Thread Cert.ScDw.nD Cert.ScDw.τ).loc Cert.ScDw.main_arg0) = m ((c.tc : Thread Cert.ScDw.nD Cert.ScDw.τ).loc Cert.ScDw.main_arg0)
      ∧ r.2.mem ((c.tc : Thread Cert.ScDw.nD Cert.ScDw.τ).loc Cert.ScDw.main_arg1) = m ((c.tc : Thread Cert.ScDw.nD Cert.ScDw.τ).loc Cert.ScDw.main_arg1)
      ∧ r.2.mem ((c.tc : Thread Cert.ScDw.nD Cert.ScDw.τ).loc Cert.ScDw.main_arg2) = m ((c.tc : Thread Cert.ScDw.nD Cert.ScDw.τ).loc Cert.ScDw.main_arg2))
      ∧ r.2.sem = fun _ => 0)

def quiescent_ScDwIdeal [hScDwIdeal : Cert.ScDwIdeal.Facts] : Prop :=
  ∀ (m : (ℓ : Loc Cert.ScDwIdeal.nD Cert.ScDwIdeal.τ Cert.ScDwIdeal.sig) → Buf (Elt Ideal) ℓ) (g : Dev Cert.ScDwIdeal.nD → PrngReg), Pre_ScDwIdeal m →
    θ_run (Cert.ScDwIdeal.defs (F := Ideal)) (onTc (τ := Cert.ScDwIdeal.τ) (Cert.ScDwIdeal.main (F := Ideal))) ⟨m, fun _ => 0, g⟩ (fun r => (∀ c : Dev Cert.ScDwIdeal.nD,
      r.2.mem ((c.tc : Thread Cert.ScDwIdeal.nD Cert.ScDwIdeal.τ).loc Cert.ScDwIdeal.main_arg0) = m ((c.tc : Thread Cert.ScDwIdeal.nD Cert.ScDwIdeal.τ).loc Cert.ScDwIdeal.main_arg0)
      ∧ r.2.mem ((c.tc : Thread Cert.ScDwIdeal.nD Cert.ScDwIdeal.τ).loc Cert.ScDwIdeal.main_arg1) = m ((c.tc : Thread Cert.ScDwIdeal.nD Cert.ScDwIdeal.τ).loc Cert.ScDwIdeal.main_arg1)
      ∧ r.2.mem ((c.tc : Thread Cert.ScDwIdeal.nD Cert.ScDwIdeal.τ).loc Cert.ScDwIdeal.main_arg2) = m ((c.tc : Thread Cert.ScDwIdeal.nD Cert.ScDwIdeal.τ).loc Cert.ScDwIdeal.main_arg2))
      ∧ r.2.sem = fun _ => 0)

def quiescent_ScDwRefIdeal [hScDwRefIdeal : Cert.ScDwRefIdeal.Facts] : Prop :=
  ∀ (m : (ℓ : Loc Cert.ScDwRefIdeal.nD Cert.ScDwRefIdeal.τ Cert.ScDwRefIdeal.sig) → Buf (Elt Ideal) ℓ) (g : Dev Cert.ScDwRefIdeal.nD → PrngReg), Pre_ScDwRefIdeal m →
    θ_run (Cert.ScDwRefIdeal.defs (F := Ideal)) (onTc (τ := Cert.ScDwRefIdeal.τ) (Cert.ScDwRefIdeal.main (F := Ideal))) ⟨m, fun _ => 0, g⟩ (fun r => (∀ c : Dev Cert.ScDwRefIdeal.nD,
      r.2.mem ((c.tc : Thread Cert.ScDwRefIdeal.nD Cert.ScDwRefIdeal.τ).loc Cert.ScDwRefIdeal.main_arg0) = m ((c.tc : Thread Cert.ScDwRefIdeal.nD Cert.ScDwRefIdeal.τ).loc Cert.ScDwRefIdeal.main_arg0)
      ∧ r.2.mem ((c.tc : Thread Cert.ScDwRefIdeal.nD Cert.ScDwRefIdeal.τ).loc Cert.ScDwRefIdeal.main_arg1) = m ((c.tc : Thread Cert.ScDwRefIdeal.nD Cert.ScDwRefIdeal.τ).loc Cert.ScDwRefIdeal.main_arg1)
      ∧ r.2.mem ((c.tc : Thread Cert.ScDwRefIdeal.nD Cert.ScDwRefIdeal.τ).loc Cert.ScDwRefIdeal.main_arg2) = m ((c.tc : Thread Cert.ScDwRefIdeal.nD Cert.ScDwRefIdeal.τ).loc Cert.ScDwRefIdeal.main_arg2))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_FoxDh [hFoxDh : Cert.FoxDh.Facts] : Prop :=
  ∀ (m : (ℓ : Loc Cert.FoxDh.nD Cert.FoxDh.τ Cert.FoxDh.sig) → Buf (Elt Bits) ℓ) (g : Dev Cert.FoxDh.nD → PrngReg), Pre_FoxDh m →
    θ_run (Cert.FoxDh.defs (F := Bits)) (onTc (τ := Cert.FoxDh.τ) (Cert.FoxDh.main (F := Bits))) ⟨m, fun _ => 0, g⟩ (fun r => (∀ c : Dev Cert.FoxDh.nD,
      r.2.mem ((c.tc : Thread Cert.FoxDh.nD Cert.FoxDh.τ).loc Cert.FoxDh.main_arg0) = m ((c.tc : Thread Cert.FoxDh.nD Cert.FoxDh.τ).loc Cert.FoxDh.main_arg0)
      ∧ r.2.mem ((c.tc : Thread Cert.FoxDh.nD Cert.FoxDh.τ).loc Cert.FoxDh.main_arg1) = m ((c.tc : Thread Cert.FoxDh.nD Cert.FoxDh.τ).loc Cert.FoxDh.main_arg1)
      ∧ r.2.mem ((c.tc : Thread Cert.FoxDh.nD Cert.FoxDh.τ).loc Cert.FoxDh.main_arg2) = m ((c.tc : Thread Cert.FoxDh.nD Cert.FoxDh.τ).loc Cert.FoxDh.main_arg2))
      ∧ r.2.sem = fun _ => 0)

def quiescent_FoxDhIdeal [hFoxDhIdeal : Cert.FoxDhIdeal.Facts] : Prop :=
  ∀ (m : (ℓ : Loc Cert.FoxDhIdeal.nD Cert.FoxDhIdeal.τ Cert.FoxDhIdeal.sig) → Buf (Elt Ideal) ℓ) (g : Dev Cert.FoxDhIdeal.nD → PrngReg), Pre_FoxDhIdeal m →
    θ_run (Cert.FoxDhIdeal.defs (F := Ideal)) (onTc (τ := Cert.FoxDhIdeal.τ) (Cert.FoxDhIdeal.main (F := Ideal))) ⟨m, fun _ => 0, g⟩ (fun r => (∀ c : Dev Cert.FoxDhIdeal.nD,
      r.2.mem ((c.tc : Thread Cert.FoxDhIdeal.nD Cert.FoxDhIdeal.τ).loc Cert.FoxDhIdeal.main_arg0) = m ((c.tc : Thread Cert.FoxDhIdeal.nD Cert.FoxDhIdeal.τ).loc Cert.FoxDhIdeal.main_arg0)
      ∧ r.2.mem ((c.tc : Thread Cert.FoxDhIdeal.nD Cert.FoxDhIdeal.τ).loc Cert.FoxDhIdeal.main_arg1) = m ((c.tc : Thread Cert.FoxDhIdeal.nD Cert.FoxDhIdeal.τ).loc Cert.FoxDhIdeal.main_arg1)
      ∧ r.2.mem ((c.tc : Thread Cert.FoxDhIdeal.nD Cert.FoxDhIdeal.τ).loc Cert.FoxDhIdeal.main_arg2) = m ((c.tc : Thread Cert.FoxDhIdeal.nD Cert.FoxDhIdeal.τ).loc Cert.FoxDhIdeal.main_arg2))
      ∧ r.2.sem = fun _ => 0)

def quiescent_FoxDhRefIdeal [hFoxDhRefIdeal : Cert.FoxDhRefIdeal.Facts] : Prop :=
  ∀ (m : (ℓ : Loc Cert.FoxDhRefIdeal.nD Cert.FoxDhRefIdeal.τ Cert.FoxDhRefIdeal.sig) → Buf (Elt Ideal) ℓ) (g : Dev Cert.FoxDhRefIdeal.nD → PrngReg), Pre_FoxDhRefIdeal m →
    θ_run (Cert.FoxDhRefIdeal.defs (F := Ideal)) (onTc (τ := Cert.FoxDhRefIdeal.τ) (Cert.FoxDhRefIdeal.main (F := Ideal))) ⟨m, fun _ => 0, g⟩ (fun r => (∀ c : Dev Cert.FoxDhRefIdeal.nD,
      r.2.mem ((c.tc : Thread Cert.FoxDhRefIdeal.nD Cert.FoxDhRefIdeal.τ).loc Cert.FoxDhRefIdeal.main_arg0) = m ((c.tc : Thread Cert.FoxDhRefIdeal.nD Cert.FoxDhRefIdeal.τ).loc Cert.FoxDhRefIdeal.main_arg0)
      ∧ r.2.mem ((c.tc : Thread Cert.FoxDhRefIdeal.nD Cert.FoxDhRefIdeal.τ).loc Cert.FoxDhRefIdeal.main_arg1) = m ((c.tc : Thread Cert.FoxDhRefIdeal.nD Cert.FoxDhRefIdeal.τ).loc Cert.FoxDhRefIdeal.main_arg1)
      ∧ r.2.mem ((c.tc : Thread Cert.FoxDhRefIdeal.nD Cert.FoxDhRefIdeal.τ).loc Cert.FoxDhRefIdeal.main_arg2) = m ((c.tc : Thread Cert.FoxDhRefIdeal.nD Cert.FoxDhRefIdeal.τ).loc Cert.FoxDhRefIdeal.main_arg2))
      ∧ r.2.sem = fun _ => 0)

def quiescent_FoxDw [hFoxDw : Cert.FoxDw.Facts] : Prop :=
  ∀ (m : (ℓ : Loc Cert.FoxDw.nD Cert.FoxDw.τ Cert.FoxDw.sig) → Buf (Elt Bits) ℓ) (g : Dev Cert.FoxDw.nD → PrngReg), Pre_FoxDw m →
    θ_run (Cert.FoxDw.defs (F := Bits)) (onTc (τ := Cert.FoxDw.τ) (Cert.FoxDw.main (F := Bits))) ⟨m, fun _ => 0, g⟩ (fun r => (∀ c : Dev Cert.FoxDw.nD,
      r.2.mem ((c.tc : Thread Cert.FoxDw.nD Cert.FoxDw.τ).loc Cert.FoxDw.main_arg0) = m ((c.tc : Thread Cert.FoxDw.nD Cert.FoxDw.τ).loc Cert.FoxDw.main_arg0)
      ∧ r.2.mem ((c.tc : Thread Cert.FoxDw.nD Cert.FoxDw.τ).loc Cert.FoxDw.main_arg1) = m ((c.tc : Thread Cert.FoxDw.nD Cert.FoxDw.τ).loc Cert.FoxDw.main_arg1)
      ∧ r.2.mem ((c.tc : Thread Cert.FoxDw.nD Cert.FoxDw.τ).loc Cert.FoxDw.main_arg2) = m ((c.tc : Thread Cert.FoxDw.nD Cert.FoxDw.τ).loc Cert.FoxDw.main_arg2))
      ∧ r.2.sem = fun _ => 0)

def quiescent_FoxDwIdeal [hFoxDwIdeal : Cert.FoxDwIdeal.Facts] : Prop :=
  ∀ (m : (ℓ : Loc Cert.FoxDwIdeal.nD Cert.FoxDwIdeal.τ Cert.FoxDwIdeal.sig) → Buf (Elt Ideal) ℓ) (g : Dev Cert.FoxDwIdeal.nD → PrngReg), Pre_FoxDwIdeal m →
    θ_run (Cert.FoxDwIdeal.defs (F := Ideal)) (onTc (τ := Cert.FoxDwIdeal.τ) (Cert.FoxDwIdeal.main (F := Ideal))) ⟨m, fun _ => 0, g⟩ (fun r => (∀ c : Dev Cert.FoxDwIdeal.nD,
      r.2.mem ((c.tc : Thread Cert.FoxDwIdeal.nD Cert.FoxDwIdeal.τ).loc Cert.FoxDwIdeal.main_arg0) = m ((c.tc : Thread Cert.FoxDwIdeal.nD Cert.FoxDwIdeal.τ).loc Cert.FoxDwIdeal.main_arg0)
      ∧ r.2.mem ((c.tc : Thread Cert.FoxDwIdeal.nD Cert.FoxDwIdeal.τ).loc Cert.FoxDwIdeal.main_arg1) = m ((c.tc : Thread Cert.FoxDwIdeal.nD Cert.FoxDwIdeal.τ).loc Cert.FoxDwIdeal.main_arg1)
      ∧ r.2.mem ((c.tc : Thread Cert.FoxDwIdeal.nD Cert.FoxDwIdeal.τ).loc Cert.FoxDwIdeal.main_arg2) = m ((c.tc : Thread Cert.FoxDwIdeal.nD Cert.FoxDwIdeal.τ).loc Cert.FoxDwIdeal.main_arg2))
      ∧ r.2.sem = fun _ => 0)

def quiescent_FoxDwRefIdeal [hFoxDwRefIdeal : Cert.FoxDwRefIdeal.Facts] : Prop :=
  ∀ (m : (ℓ : Loc Cert.FoxDwRefIdeal.nD Cert.FoxDwRefIdeal.τ Cert.FoxDwRefIdeal.sig) → Buf (Elt Ideal) ℓ) (g : Dev Cert.FoxDwRefIdeal.nD → PrngReg), Pre_FoxDwRefIdeal m →
    θ_run (Cert.FoxDwRefIdeal.defs (F := Ideal)) (onTc (τ := Cert.FoxDwRefIdeal.τ) (Cert.FoxDwRefIdeal.main (F := Ideal))) ⟨m, fun _ => 0, g⟩ (fun r => (∀ c : Dev Cert.FoxDwRefIdeal.nD,
      r.2.mem ((c.tc : Thread Cert.FoxDwRefIdeal.nD Cert.FoxDwRefIdeal.τ).loc Cert.FoxDwRefIdeal.main_arg0) = m ((c.tc : Thread Cert.FoxDwRefIdeal.nD Cert.FoxDwRefIdeal.τ).loc Cert.FoxDwRefIdeal.main_arg0)
      ∧ r.2.mem ((c.tc : Thread Cert.FoxDwRefIdeal.nD Cert.FoxDwRefIdeal.τ).loc Cert.FoxDwRefIdeal.main_arg1) = m ((c.tc : Thread Cert.FoxDwRefIdeal.nD Cert.FoxDwRefIdeal.τ).loc Cert.FoxDwRefIdeal.main_arg1)
      ∧ r.2.mem ((c.tc : Thread Cert.FoxDwRefIdeal.nD Cert.FoxDwRefIdeal.τ).loc Cert.FoxDwRefIdeal.main_arg2) = m ((c.tc : Thread Cert.FoxDwRefIdeal.nD Cert.FoxDwRefIdeal.τ).loc Cert.FoxDwRefIdeal.main_arg2))
      ∧ r.2.sem = fun _ => 0)

def quiescent_AdamHgrnIn [hAdamHgrnIn : Cert.AdamHgrnIn.Facts] : Prop :=
  ∀ (m : (ℓ : Loc Cert.AdamHgrnIn.nD Cert.AdamHgrnIn.τ Cert.AdamHgrnIn.sig) → Buf (Elt Bits) ℓ) (g : Dev Cert.AdamHgrnIn.nD → PrngReg), Pre_AdamHgrnIn m →
    θ_run (Cert.AdamHgrnIn.defs (F := Bits)) (onTc (τ := Cert.AdamHgrnIn.τ) (Cert.AdamHgrnIn.main (F := Bits))) ⟨m, fun _ => 0, g⟩ (fun r => (∀ c : Dev Cert.AdamHgrnIn.nD,
      r.2.mem ((c.tc : Thread Cert.AdamHgrnIn.nD Cert.AdamHgrnIn.τ).loc Cert.AdamHgrnIn.main_arg0) = m ((c.tc : Thread Cert.AdamHgrnIn.nD Cert.AdamHgrnIn.τ).loc Cert.AdamHgrnIn.main_arg0)
      ∧ r.2.mem ((c.tc : Thread Cert.AdamHgrnIn.nD Cert.AdamHgrnIn.τ).loc Cert.AdamHgrnIn.main_arg1) = m ((c.tc : Thread Cert.AdamHgrnIn.nD Cert.AdamHgrnIn.τ).loc Cert.AdamHgrnIn.main_arg1)
      ∧ r.2.mem ((c.tc : Thread Cert.AdamHgrnIn.nD Cert.AdamHgrnIn.τ).loc Cert.AdamHgrnIn.main_arg2) = m ((c.tc : Thread Cert.AdamHgrnIn.nD Cert.AdamHgrnIn.τ).loc Cert.AdamHgrnIn.main_arg2)
      ∧ r.2.mem ((c.tc : Thread Cert.AdamHgrnIn.nD Cert.AdamHgrnIn.τ).loc Cert.AdamHgrnIn.main_arg3) = m ((c.tc : Thread Cert.AdamHgrnIn.nD Cert.AdamHgrnIn.τ).loc Cert.AdamHgrnIn.main_arg3)
      ∧ r.2.mem ((c.tc : Thread Cert.AdamHgrnIn.nD Cert.AdamHgrnIn.τ).loc Cert.AdamHgrnIn.main_arg4) = m ((c.tc : Thread Cert.AdamHgrnIn.nD Cert.AdamHgrnIn.τ).loc Cert.AdamHgrnIn.main_arg4))
      ∧ r.2.sem = fun _ => 0)

def quiescent_AdamHgrnInIdeal [hAdamHgrnInIdeal : Cert.AdamHgrnInIdeal.Facts] : Prop :=
  ∀ (m : (ℓ : Loc Cert.AdamHgrnInIdeal.nD Cert.AdamHgrnInIdeal.τ Cert.AdamHgrnInIdeal.sig) → Buf (Elt Ideal) ℓ) (g : Dev Cert.AdamHgrnInIdeal.nD → PrngReg), Pre_AdamHgrnInIdeal m →
    θ_run (Cert.AdamHgrnInIdeal.defs (F := Ideal)) (onTc (τ := Cert.AdamHgrnInIdeal.τ) (Cert.AdamHgrnInIdeal.main (F := Ideal))) ⟨m, fun _ => 0, g⟩ (fun r => (∀ c : Dev Cert.AdamHgrnInIdeal.nD,
      r.2.mem ((c.tc : Thread Cert.AdamHgrnInIdeal.nD Cert.AdamHgrnInIdeal.τ).loc Cert.AdamHgrnInIdeal.main_arg0) = m ((c.tc : Thread Cert.AdamHgrnInIdeal.nD Cert.AdamHgrnInIdeal.τ).loc Cert.AdamHgrnInIdeal.main_arg0)
      ∧ r.2.mem ((c.tc : Thread Cert.AdamHgrnInIdeal.nD Cert.AdamHgrnInIdeal.τ).loc Cert.AdamHgrnInIdeal.main_arg1) = m ((c.tc : Thread Cert.AdamHgrnInIdeal.nD Cert.AdamHgrnInIdeal.τ).loc Cert.AdamHgrnInIdeal.main_arg1)
      ∧ r.2.mem ((c.tc : Thread Cert.AdamHgrnInIdeal.nD Cert.AdamHgrnInIdeal.τ).loc Cert.AdamHgrnInIdeal.main_arg2) = m ((c.tc : Thread Cert.AdamHgrnInIdeal.nD Cert.AdamHgrnInIdeal.τ).loc Cert.AdamHgrnInIdeal.main_arg2)
      ∧ r.2.mem ((c.tc : Thread Cert.AdamHgrnInIdeal.nD Cert.AdamHgrnInIdeal.τ).loc Cert.AdamHgrnInIdeal.main_arg3) = m ((c.tc : Thread Cert.AdamHgrnInIdeal.nD Cert.AdamHgrnInIdeal.τ).loc Cert.AdamHgrnInIdeal.main_arg3)
      ∧ r.2.mem ((c.tc : Thread Cert.AdamHgrnInIdeal.nD Cert.AdamHgrnInIdeal.τ).loc Cert.AdamHgrnInIdeal.main_arg4) = m ((c.tc : Thread Cert.AdamHgrnInIdeal.nD Cert.AdamHgrnInIdeal.τ).loc Cert.AdamHgrnInIdeal.main_arg4))
      ∧ r.2.sem = fun _ => 0)

def quiescent_AdamHgrnInRefIdeal [hAdamHgrnInRefIdeal : Cert.AdamHgrnInRefIdeal.Facts] : Prop :=
  ∀ (m : (ℓ : Loc Cert.AdamHgrnInRefIdeal.nD Cert.AdamHgrnInRefIdeal.τ Cert.AdamHgrnInRefIdeal.sig) → Buf (Elt Ideal) ℓ) (g : Dev Cert.AdamHgrnInRefIdeal.nD → PrngReg), Pre_AdamHgrnInRefIdeal m →
    θ_run (Cert.AdamHgrnInRefIdeal.defs (F := Ideal)) (onTc (τ := Cert.AdamHgrnInRefIdeal.τ) (Cert.AdamHgrnInRefIdeal.main (F := Ideal))) ⟨m, fun _ => 0, g⟩ (fun r => (∀ c : Dev Cert.AdamHgrnInRefIdeal.nD,
      r.2.mem ((c.tc : Thread Cert.AdamHgrnInRefIdeal.nD Cert.AdamHgrnInRefIdeal.τ).loc Cert.AdamHgrnInRefIdeal.main_arg0) = m ((c.tc : Thread Cert.AdamHgrnInRefIdeal.nD Cert.AdamHgrnInRefIdeal.τ).loc Cert.AdamHgrnInRefIdeal.main_arg0)
      ∧ r.2.mem ((c.tc : Thread Cert.AdamHgrnInRefIdeal.nD Cert.AdamHgrnInRefIdeal.τ).loc Cert.AdamHgrnInRefIdeal.main_arg1) = m ((c.tc : Thread Cert.AdamHgrnInRefIdeal.nD Cert.AdamHgrnInRefIdeal.τ).loc Cert.AdamHgrnInRefIdeal.main_arg1)
      ∧ r.2.mem ((c.tc : Thread Cert.AdamHgrnInRefIdeal.nD Cert.AdamHgrnInRefIdeal.τ).loc Cert.AdamHgrnInRefIdeal.main_arg2) = m ((c.tc : Thread Cert.AdamHgrnInRefIdeal.nD Cert.AdamHgrnInRefIdeal.τ).loc Cert.AdamHgrnInRefIdeal.main_arg2)
      ∧ r.2.mem ((c.tc : Thread Cert.AdamHgrnInRefIdeal.nD Cert.AdamHgrnInRefIdeal.τ).loc Cert.AdamHgrnInRefIdeal.main_arg3) = m ((c.tc : Thread Cert.AdamHgrnInRefIdeal.nD Cert.AdamHgrnInRefIdeal.τ).loc Cert.AdamHgrnInRefIdeal.main_arg3)
      ∧ r.2.mem ((c.tc : Thread Cert.AdamHgrnInRefIdeal.nD Cert.AdamHgrnInRefIdeal.τ).loc Cert.AdamHgrnInRefIdeal.main_arg4) = m ((c.tc : Thread Cert.AdamHgrnInRefIdeal.nD Cert.AdamHgrnInRefIdeal.τ).loc Cert.AdamHgrnInRefIdeal.main_arg4))
      ∧ r.2.sem = fun _ => 0)

def quiescent_AdamSwaIn [hAdamSwaIn : Cert.AdamSwaIn.Facts] : Prop :=
  ∀ (m : (ℓ : Loc Cert.AdamSwaIn.nD Cert.AdamSwaIn.τ Cert.AdamSwaIn.sig) → Buf (Elt Bits) ℓ) (g : Dev Cert.AdamSwaIn.nD → PrngReg), Pre_AdamSwaIn m →
    θ_run (Cert.AdamSwaIn.defs (F := Bits)) (onTc (τ := Cert.AdamSwaIn.τ) (Cert.AdamSwaIn.main (F := Bits))) ⟨m, fun _ => 0, g⟩ (fun r => (∀ c : Dev Cert.AdamSwaIn.nD,
      r.2.mem ((c.tc : Thread Cert.AdamSwaIn.nD Cert.AdamSwaIn.τ).loc Cert.AdamSwaIn.main_arg0) = m ((c.tc : Thread Cert.AdamSwaIn.nD Cert.AdamSwaIn.τ).loc Cert.AdamSwaIn.main_arg0)
      ∧ r.2.mem ((c.tc : Thread Cert.AdamSwaIn.nD Cert.AdamSwaIn.τ).loc Cert.AdamSwaIn.main_arg1) = m ((c.tc : Thread Cert.AdamSwaIn.nD Cert.AdamSwaIn.τ).loc Cert.AdamSwaIn.main_arg1)
      ∧ r.2.mem ((c.tc : Thread Cert.AdamSwaIn.nD Cert.AdamSwaIn.τ).loc Cert.AdamSwaIn.main_arg2) = m ((c.tc : Thread Cert.AdamSwaIn.nD Cert.AdamSwaIn.τ).loc Cert.AdamSwaIn.main_arg2)
      ∧ r.2.mem ((c.tc : Thread Cert.AdamSwaIn.nD Cert.AdamSwaIn.τ).loc Cert.AdamSwaIn.main_arg3) = m ((c.tc : Thread Cert.AdamSwaIn.nD Cert.AdamSwaIn.τ).loc Cert.AdamSwaIn.main_arg3)
      ∧ r.2.mem ((c.tc : Thread Cert.AdamSwaIn.nD Cert.AdamSwaIn.τ).loc Cert.AdamSwaIn.main_arg4) = m ((c.tc : Thread Cert.AdamSwaIn.nD Cert.AdamSwaIn.τ).loc Cert.AdamSwaIn.main_arg4))
      ∧ r.2.sem = fun _ => 0)

def quiescent_AdamSwaInIdeal [hAdamSwaInIdeal : Cert.AdamSwaInIdeal.Facts] : Prop :=
  ∀ (m : (ℓ : Loc Cert.AdamSwaInIdeal.nD Cert.AdamSwaInIdeal.τ Cert.AdamSwaInIdeal.sig) → Buf (Elt Ideal) ℓ) (g : Dev Cert.AdamSwaInIdeal.nD → PrngReg), Pre_AdamSwaInIdeal m →
    θ_run (Cert.AdamSwaInIdeal.defs (F := Ideal)) (onTc (τ := Cert.AdamSwaInIdeal.τ) (Cert.AdamSwaInIdeal.main (F := Ideal))) ⟨m, fun _ => 0, g⟩ (fun r => (∀ c : Dev Cert.AdamSwaInIdeal.nD,
      r.2.mem ((c.tc : Thread Cert.AdamSwaInIdeal.nD Cert.AdamSwaInIdeal.τ).loc Cert.AdamSwaInIdeal.main_arg0) = m ((c.tc : Thread Cert.AdamSwaInIdeal.nD Cert.AdamSwaInIdeal.τ).loc Cert.AdamSwaInIdeal.main_arg0)
      ∧ r.2.mem ((c.tc : Thread Cert.AdamSwaInIdeal.nD Cert.AdamSwaInIdeal.τ).loc Cert.AdamSwaInIdeal.main_arg1) = m ((c.tc : Thread Cert.AdamSwaInIdeal.nD Cert.AdamSwaInIdeal.τ).loc Cert.AdamSwaInIdeal.main_arg1)
      ∧ r.2.mem ((c.tc : Thread Cert.AdamSwaInIdeal.nD Cert.AdamSwaInIdeal.τ).loc Cert.AdamSwaInIdeal.main_arg2) = m ((c.tc : Thread Cert.AdamSwaInIdeal.nD Cert.AdamSwaInIdeal.τ).loc Cert.AdamSwaInIdeal.main_arg2)
      ∧ r.2.mem ((c.tc : Thread Cert.AdamSwaInIdeal.nD Cert.AdamSwaInIdeal.τ).loc Cert.AdamSwaInIdeal.main_arg3) = m ((c.tc : Thread Cert.AdamSwaInIdeal.nD Cert.AdamSwaInIdeal.τ).loc Cert.AdamSwaInIdeal.main_arg3)
      ∧ r.2.mem ((c.tc : Thread Cert.AdamSwaInIdeal.nD Cert.AdamSwaInIdeal.τ).loc Cert.AdamSwaInIdeal.main_arg4) = m ((c.tc : Thread Cert.AdamSwaInIdeal.nD Cert.AdamSwaInIdeal.τ).loc Cert.AdamSwaInIdeal.main_arg4))
      ∧ r.2.sem = fun _ => 0)

def quiescent_AdamSwaInRefIdeal [hAdamSwaInRefIdeal : Cert.AdamSwaInRefIdeal.Facts] : Prop :=
  ∀ (m : (ℓ : Loc Cert.AdamSwaInRefIdeal.nD Cert.AdamSwaInRefIdeal.τ Cert.AdamSwaInRefIdeal.sig) → Buf (Elt Ideal) ℓ) (g : Dev Cert.AdamSwaInRefIdeal.nD → PrngReg), Pre_AdamSwaInRefIdeal m →
    θ_run (Cert.AdamSwaInRefIdeal.defs (F := Ideal)) (onTc (τ := Cert.AdamSwaInRefIdeal.τ) (Cert.AdamSwaInRefIdeal.main (F := Ideal))) ⟨m, fun _ => 0, g⟩ (fun r => (∀ c : Dev Cert.AdamSwaInRefIdeal.nD,
      r.2.mem ((c.tc : Thread Cert.AdamSwaInRefIdeal.nD Cert.AdamSwaInRefIdeal.τ).loc Cert.AdamSwaInRefIdeal.main_arg0) = m ((c.tc : Thread Cert.AdamSwaInRefIdeal.nD Cert.AdamSwaInRefIdeal.τ).loc Cert.AdamSwaInRefIdeal.main_arg0)
      ∧ r.2.mem ((c.tc : Thread Cert.AdamSwaInRefIdeal.nD Cert.AdamSwaInRefIdeal.τ).loc Cert.AdamSwaInRefIdeal.main_arg1) = m ((c.tc : Thread Cert.AdamSwaInRefIdeal.nD Cert.AdamSwaInRefIdeal.τ).loc Cert.AdamSwaInRefIdeal.main_arg1)
      ∧ r.2.mem ((c.tc : Thread Cert.AdamSwaInRefIdeal.nD Cert.AdamSwaInRefIdeal.τ).loc Cert.AdamSwaInRefIdeal.main_arg2) = m ((c.tc : Thread Cert.AdamSwaInRefIdeal.nD Cert.AdamSwaInRefIdeal.τ).loc Cert.AdamSwaInRefIdeal.main_arg2)
      ∧ r.2.mem ((c.tc : Thread Cert.AdamSwaInRefIdeal.nD Cert.AdamSwaInRefIdeal.τ).loc Cert.AdamSwaInRefIdeal.main_arg3) = m ((c.tc : Thread Cert.AdamSwaInRefIdeal.nD Cert.AdamSwaInRefIdeal.τ).loc Cert.AdamSwaInRefIdeal.main_arg3)
      ∧ r.2.mem ((c.tc : Thread Cert.AdamSwaInRefIdeal.nD Cert.AdamSwaInRefIdeal.τ).loc Cert.AdamSwaInRefIdeal.main_arg4) = m ((c.tc : Thread Cert.AdamSwaInRefIdeal.nD Cert.AdamSwaInRefIdeal.τ).loc Cert.AdamSwaInRefIdeal.main_arg4))
      ∧ r.2.sem = fun _ => 0)

def quiescent_AdamScIn [hAdamScIn : Cert.AdamScIn.Facts] : Prop :=
  ∀ (m : (ℓ : Loc Cert.AdamScIn.nD Cert.AdamScIn.τ Cert.AdamScIn.sig) → Buf (Elt Bits) ℓ) (g : Dev Cert.AdamScIn.nD → PrngReg), Pre_AdamScIn m →
    θ_run (Cert.AdamScIn.defs (F := Bits)) (onTc (τ := Cert.AdamScIn.τ) (Cert.AdamScIn.main (F := Bits))) ⟨m, fun _ => 0, g⟩ (fun r => (∀ c : Dev Cert.AdamScIn.nD,
      r.2.mem ((c.tc : Thread Cert.AdamScIn.nD Cert.AdamScIn.τ).loc Cert.AdamScIn.main_arg0) = m ((c.tc : Thread Cert.AdamScIn.nD Cert.AdamScIn.τ).loc Cert.AdamScIn.main_arg0)
      ∧ r.2.mem ((c.tc : Thread Cert.AdamScIn.nD Cert.AdamScIn.τ).loc Cert.AdamScIn.main_arg1) = m ((c.tc : Thread Cert.AdamScIn.nD Cert.AdamScIn.τ).loc Cert.AdamScIn.main_arg1)
      ∧ r.2.mem ((c.tc : Thread Cert.AdamScIn.nD Cert.AdamScIn.τ).loc Cert.AdamScIn.main_arg2) = m ((c.tc : Thread Cert.AdamScIn.nD Cert.AdamScIn.τ).loc Cert.AdamScIn.main_arg2)
      ∧ r.2.mem ((c.tc : Thread Cert.AdamScIn.nD Cert.AdamScIn.τ).loc Cert.AdamScIn.main_arg3) = m ((c.tc : Thread Cert.AdamScIn.nD Cert.AdamScIn.τ).loc Cert.AdamScIn.main_arg3)
      ∧ r.2.mem ((c.tc : Thread Cert.AdamScIn.nD Cert.AdamScIn.τ).loc Cert.AdamScIn.main_arg4) = m ((c.tc : Thread Cert.AdamScIn.nD Cert.AdamScIn.τ).loc Cert.AdamScIn.main_arg4))
      ∧ r.2.sem = fun _ => 0)

def quiescent_AdamScInIdeal [hAdamScInIdeal : Cert.AdamScInIdeal.Facts] : Prop :=
  ∀ (m : (ℓ : Loc Cert.AdamScInIdeal.nD Cert.AdamScInIdeal.τ Cert.AdamScInIdeal.sig) → Buf (Elt Ideal) ℓ) (g : Dev Cert.AdamScInIdeal.nD → PrngReg), Pre_AdamScInIdeal m →
    θ_run (Cert.AdamScInIdeal.defs (F := Ideal)) (onTc (τ := Cert.AdamScInIdeal.τ) (Cert.AdamScInIdeal.main (F := Ideal))) ⟨m, fun _ => 0, g⟩ (fun r => (∀ c : Dev Cert.AdamScInIdeal.nD,
      r.2.mem ((c.tc : Thread Cert.AdamScInIdeal.nD Cert.AdamScInIdeal.τ).loc Cert.AdamScInIdeal.main_arg0) = m ((c.tc : Thread Cert.AdamScInIdeal.nD Cert.AdamScInIdeal.τ).loc Cert.AdamScInIdeal.main_arg0)
      ∧ r.2.mem ((c.tc : Thread Cert.AdamScInIdeal.nD Cert.AdamScInIdeal.τ).loc Cert.AdamScInIdeal.main_arg1) = m ((c.tc : Thread Cert.AdamScInIdeal.nD Cert.AdamScInIdeal.τ).loc Cert.AdamScInIdeal.main_arg1)
      ∧ r.2.mem ((c.tc : Thread Cert.AdamScInIdeal.nD Cert.AdamScInIdeal.τ).loc Cert.AdamScInIdeal.main_arg2) = m ((c.tc : Thread Cert.AdamScInIdeal.nD Cert.AdamScInIdeal.τ).loc Cert.AdamScInIdeal.main_arg2)
      ∧ r.2.mem ((c.tc : Thread Cert.AdamScInIdeal.nD Cert.AdamScInIdeal.τ).loc Cert.AdamScInIdeal.main_arg3) = m ((c.tc : Thread Cert.AdamScInIdeal.nD Cert.AdamScInIdeal.τ).loc Cert.AdamScInIdeal.main_arg3)
      ∧ r.2.mem ((c.tc : Thread Cert.AdamScInIdeal.nD Cert.AdamScInIdeal.τ).loc Cert.AdamScInIdeal.main_arg4) = m ((c.tc : Thread Cert.AdamScInIdeal.nD Cert.AdamScInIdeal.τ).loc Cert.AdamScInIdeal.main_arg4))
      ∧ r.2.sem = fun _ => 0)

def quiescent_AdamScInRefIdeal [hAdamScInRefIdeal : Cert.AdamScInRefIdeal.Facts] : Prop :=
  ∀ (m : (ℓ : Loc Cert.AdamScInRefIdeal.nD Cert.AdamScInRefIdeal.τ Cert.AdamScInRefIdeal.sig) → Buf (Elt Ideal) ℓ) (g : Dev Cert.AdamScInRefIdeal.nD → PrngReg), Pre_AdamScInRefIdeal m →
    θ_run (Cert.AdamScInRefIdeal.defs (F := Ideal)) (onTc (τ := Cert.AdamScInRefIdeal.τ) (Cert.AdamScInRefIdeal.main (F := Ideal))) ⟨m, fun _ => 0, g⟩ (fun r => (∀ c : Dev Cert.AdamScInRefIdeal.nD,
      r.2.mem ((c.tc : Thread Cert.AdamScInRefIdeal.nD Cert.AdamScInRefIdeal.τ).loc Cert.AdamScInRefIdeal.main_arg0) = m ((c.tc : Thread Cert.AdamScInRefIdeal.nD Cert.AdamScInRefIdeal.τ).loc Cert.AdamScInRefIdeal.main_arg0)
      ∧ r.2.mem ((c.tc : Thread Cert.AdamScInRefIdeal.nD Cert.AdamScInRefIdeal.τ).loc Cert.AdamScInRefIdeal.main_arg1) = m ((c.tc : Thread Cert.AdamScInRefIdeal.nD Cert.AdamScInRefIdeal.τ).loc Cert.AdamScInRefIdeal.main_arg1)
      ∧ r.2.mem ((c.tc : Thread Cert.AdamScInRefIdeal.nD Cert.AdamScInRefIdeal.τ).loc Cert.AdamScInRefIdeal.main_arg2) = m ((c.tc : Thread Cert.AdamScInRefIdeal.nD Cert.AdamScInRefIdeal.τ).loc Cert.AdamScInRefIdeal.main_arg2)
      ∧ r.2.mem ((c.tc : Thread Cert.AdamScInRefIdeal.nD Cert.AdamScInRefIdeal.τ).loc Cert.AdamScInRefIdeal.main_arg3) = m ((c.tc : Thread Cert.AdamScInRefIdeal.nD Cert.AdamScInRefIdeal.τ).loc Cert.AdamScInRefIdeal.main_arg3)
      ∧ r.2.mem ((c.tc : Thread Cert.AdamScInRefIdeal.nD Cert.AdamScInRefIdeal.τ).loc Cert.AdamScInRefIdeal.main_arg4) = m ((c.tc : Thread Cert.AdamScInRefIdeal.nD Cert.AdamScInRefIdeal.τ).loc Cert.AdamScInRefIdeal.main_arg4))
      ∧ r.2.sem = fun _ => 0)

def quiescent_AdamFoxIn [hAdamFoxIn : Cert.AdamFoxIn.Facts] : Prop :=
  ∀ (m : (ℓ : Loc Cert.AdamFoxIn.nD Cert.AdamFoxIn.τ Cert.AdamFoxIn.sig) → Buf (Elt Bits) ℓ) (g : Dev Cert.AdamFoxIn.nD → PrngReg), Pre_AdamFoxIn m →
    θ_run (Cert.AdamFoxIn.defs (F := Bits)) (onTc (τ := Cert.AdamFoxIn.τ) (Cert.AdamFoxIn.main (F := Bits))) ⟨m, fun _ => 0, g⟩ (fun r => (∀ c : Dev Cert.AdamFoxIn.nD,
      r.2.mem ((c.tc : Thread Cert.AdamFoxIn.nD Cert.AdamFoxIn.τ).loc Cert.AdamFoxIn.main_arg0) = m ((c.tc : Thread Cert.AdamFoxIn.nD Cert.AdamFoxIn.τ).loc Cert.AdamFoxIn.main_arg0)
      ∧ r.2.mem ((c.tc : Thread Cert.AdamFoxIn.nD Cert.AdamFoxIn.τ).loc Cert.AdamFoxIn.main_arg1) = m ((c.tc : Thread Cert.AdamFoxIn.nD Cert.AdamFoxIn.τ).loc Cert.AdamFoxIn.main_arg1)
      ∧ r.2.mem ((c.tc : Thread Cert.AdamFoxIn.nD Cert.AdamFoxIn.τ).loc Cert.AdamFoxIn.main_arg2) = m ((c.tc : Thread Cert.AdamFoxIn.nD Cert.AdamFoxIn.τ).loc Cert.AdamFoxIn.main_arg2)
      ∧ r.2.mem ((c.tc : Thread Cert.AdamFoxIn.nD Cert.AdamFoxIn.τ).loc Cert.AdamFoxIn.main_arg3) = m ((c.tc : Thread Cert.AdamFoxIn.nD Cert.AdamFoxIn.τ).loc Cert.AdamFoxIn.main_arg3)
      ∧ r.2.mem ((c.tc : Thread Cert.AdamFoxIn.nD Cert.AdamFoxIn.τ).loc Cert.AdamFoxIn.main_arg4) = m ((c.tc : Thread Cert.AdamFoxIn.nD Cert.AdamFoxIn.τ).loc Cert.AdamFoxIn.main_arg4))
      ∧ r.2.sem = fun _ => 0)

def quiescent_AdamFoxInIdeal [hAdamFoxInIdeal : Cert.AdamFoxInIdeal.Facts] : Prop :=
  ∀ (m : (ℓ : Loc Cert.AdamFoxInIdeal.nD Cert.AdamFoxInIdeal.τ Cert.AdamFoxInIdeal.sig) → Buf (Elt Ideal) ℓ) (g : Dev Cert.AdamFoxInIdeal.nD → PrngReg), Pre_AdamFoxInIdeal m →
    θ_run (Cert.AdamFoxInIdeal.defs (F := Ideal)) (onTc (τ := Cert.AdamFoxInIdeal.τ) (Cert.AdamFoxInIdeal.main (F := Ideal))) ⟨m, fun _ => 0, g⟩ (fun r => (∀ c : Dev Cert.AdamFoxInIdeal.nD,
      r.2.mem ((c.tc : Thread Cert.AdamFoxInIdeal.nD Cert.AdamFoxInIdeal.τ).loc Cert.AdamFoxInIdeal.main_arg0) = m ((c.tc : Thread Cert.AdamFoxInIdeal.nD Cert.AdamFoxInIdeal.τ).loc Cert.AdamFoxInIdeal.main_arg0)
      ∧ r.2.mem ((c.tc : Thread Cert.AdamFoxInIdeal.nD Cert.AdamFoxInIdeal.τ).loc Cert.AdamFoxInIdeal.main_arg1) = m ((c.tc : Thread Cert.AdamFoxInIdeal.nD Cert.AdamFoxInIdeal.τ).loc Cert.AdamFoxInIdeal.main_arg1)
      ∧ r.2.mem ((c.tc : Thread Cert.AdamFoxInIdeal.nD Cert.AdamFoxInIdeal.τ).loc Cert.AdamFoxInIdeal.main_arg2) = m ((c.tc : Thread Cert.AdamFoxInIdeal.nD Cert.AdamFoxInIdeal.τ).loc Cert.AdamFoxInIdeal.main_arg2)
      ∧ r.2.mem ((c.tc : Thread Cert.AdamFoxInIdeal.nD Cert.AdamFoxInIdeal.τ).loc Cert.AdamFoxInIdeal.main_arg3) = m ((c.tc : Thread Cert.AdamFoxInIdeal.nD Cert.AdamFoxInIdeal.τ).loc Cert.AdamFoxInIdeal.main_arg3)
      ∧ r.2.mem ((c.tc : Thread Cert.AdamFoxInIdeal.nD Cert.AdamFoxInIdeal.τ).loc Cert.AdamFoxInIdeal.main_arg4) = m ((c.tc : Thread Cert.AdamFoxInIdeal.nD Cert.AdamFoxInIdeal.τ).loc Cert.AdamFoxInIdeal.main_arg4))
      ∧ r.2.sem = fun _ => 0)

def quiescent_AdamFoxInRefIdeal [hAdamFoxInRefIdeal : Cert.AdamFoxInRefIdeal.Facts] : Prop :=
  ∀ (m : (ℓ : Loc Cert.AdamFoxInRefIdeal.nD Cert.AdamFoxInRefIdeal.τ Cert.AdamFoxInRefIdeal.sig) → Buf (Elt Ideal) ℓ) (g : Dev Cert.AdamFoxInRefIdeal.nD → PrngReg), Pre_AdamFoxInRefIdeal m →
    θ_run (Cert.AdamFoxInRefIdeal.defs (F := Ideal)) (onTc (τ := Cert.AdamFoxInRefIdeal.τ) (Cert.AdamFoxInRefIdeal.main (F := Ideal))) ⟨m, fun _ => 0, g⟩ (fun r => (∀ c : Dev Cert.AdamFoxInRefIdeal.nD,
      r.2.mem ((c.tc : Thread Cert.AdamFoxInRefIdeal.nD Cert.AdamFoxInRefIdeal.τ).loc Cert.AdamFoxInRefIdeal.main_arg0) = m ((c.tc : Thread Cert.AdamFoxInRefIdeal.nD Cert.AdamFoxInRefIdeal.τ).loc Cert.AdamFoxInRefIdeal.main_arg0)
      ∧ r.2.mem ((c.tc : Thread Cert.AdamFoxInRefIdeal.nD Cert.AdamFoxInRefIdeal.τ).loc Cert.AdamFoxInRefIdeal.main_arg1) = m ((c.tc : Thread Cert.AdamFoxInRefIdeal.nD Cert.AdamFoxInRefIdeal.τ).loc Cert.AdamFoxInRefIdeal.main_arg1)
      ∧ r.2.mem ((c.tc : Thread Cert.AdamFoxInRefIdeal.nD Cert.AdamFoxInRefIdeal.τ).loc Cert.AdamFoxInRefIdeal.main_arg2) = m ((c.tc : Thread Cert.AdamFoxInRefIdeal.nD Cert.AdamFoxInRefIdeal.τ).loc Cert.AdamFoxInRefIdeal.main_arg2)
      ∧ r.2.mem ((c.tc : Thread Cert.AdamFoxInRefIdeal.nD Cert.AdamFoxInRefIdeal.τ).loc Cert.AdamFoxInRefIdeal.main_arg3) = m ((c.tc : Thread Cert.AdamFoxInRefIdeal.nD Cert.AdamFoxInRefIdeal.τ).loc Cert.AdamFoxInRefIdeal.main_arg3)
      ∧ r.2.mem ((c.tc : Thread Cert.AdamFoxInRefIdeal.nD Cert.AdamFoxInRefIdeal.τ).loc Cert.AdamFoxInRefIdeal.main_arg4) = m ((c.tc : Thread Cert.AdamFoxInRefIdeal.nD Cert.AdamFoxInRefIdeal.τ).loc Cert.AdamFoxInRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3)
      ∧ r.2.mem ((c.tc : Thread Cert.AdamNorm.nD Cert.AdamNorm.τ).loc Cert.AdamNorm.main_arg4) = m ((c.tc : Thread Cert.AdamNorm.nD Cert.AdamNorm.τ).loc Cert.AdamNorm.main_arg4))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3)
      ∧ r.2.mem ((c.tc : Thread Cert.AdamNormIdeal.nD Cert.AdamNormIdeal.τ).loc Cert.AdamNormIdeal.main_arg4) = m ((c.tc : Thread Cert.AdamNormIdeal.nD Cert.AdamNormIdeal.τ).loc Cert.AdamNormIdeal.main_arg4))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3)
      ∧ r.2.mem ((c.tc : Thread Cert.AdamNormRefIdeal.nD Cert.AdamNormRefIdeal.τ).loc Cert.AdamNormRefIdeal.main_arg4) = m ((c.tc : Thread Cert.AdamNormRefIdeal.nD Cert.AdamNormRefIdeal.τ).loc Cert.AdamNormRefIdeal.main_arg4))
      ∧ r.2.sem = fun _ => 0)

def quiescent_AdamHeadNorm [hAdamHeadNorm : Cert.AdamHeadNorm.Facts] : Prop :=
  ∀ (m : (ℓ : Loc Cert.AdamHeadNorm.nD Cert.AdamHeadNorm.τ Cert.AdamHeadNorm.sig) → Buf (Elt Bits) ℓ) (g : Dev Cert.AdamHeadNorm.nD → PrngReg), Pre_AdamHeadNorm m →
    θ_run (Cert.AdamHeadNorm.defs (F := Bits)) (onTc (τ := Cert.AdamHeadNorm.τ) (Cert.AdamHeadNorm.main (F := Bits))) ⟨m, fun _ => 0, g⟩ (fun r => (∀ c : Dev Cert.AdamHeadNorm.nD,
      r.2.mem ((c.tc : Thread Cert.AdamHeadNorm.nD Cert.AdamHeadNorm.τ).loc Cert.AdamHeadNorm.main_arg0) = m ((c.tc : Thread Cert.AdamHeadNorm.nD Cert.AdamHeadNorm.τ).loc Cert.AdamHeadNorm.main_arg0)
      ∧ r.2.mem ((c.tc : Thread Cert.AdamHeadNorm.nD Cert.AdamHeadNorm.τ).loc Cert.AdamHeadNorm.main_arg1) = m ((c.tc : Thread Cert.AdamHeadNorm.nD Cert.AdamHeadNorm.τ).loc Cert.AdamHeadNorm.main_arg1)
      ∧ r.2.mem ((c.tc : Thread Cert.AdamHeadNorm.nD Cert.AdamHeadNorm.τ).loc Cert.AdamHeadNorm.main_arg2) = m ((c.tc : Thread Cert.AdamHeadNorm.nD Cert.AdamHeadNorm.τ).loc Cert.AdamHeadNorm.main_arg2)
      ∧ r.2.mem ((c.tc : Thread Cert.AdamHeadNorm.nD Cert.AdamHeadNorm.τ).loc Cert.AdamHeadNorm.main_arg3) = m ((c.tc : Thread Cert.AdamHeadNorm.nD Cert.AdamHeadNorm.τ).loc Cert.AdamHeadNorm.main_arg3)
      ∧ r.2.mem ((c.tc : Thread Cert.AdamHeadNorm.nD Cert.AdamHeadNorm.τ).loc Cert.AdamHeadNorm.main_arg4) = m ((c.tc : Thread Cert.AdamHeadNorm.nD Cert.AdamHeadNorm.τ).loc Cert.AdamHeadNorm.main_arg4))
      ∧ r.2.sem = fun _ => 0)

def quiescent_AdamHeadNormIdeal [hAdamHeadNormIdeal : Cert.AdamHeadNormIdeal.Facts] : Prop :=
  ∀ (m : (ℓ : Loc Cert.AdamHeadNormIdeal.nD Cert.AdamHeadNormIdeal.τ Cert.AdamHeadNormIdeal.sig) → Buf (Elt Ideal) ℓ) (g : Dev Cert.AdamHeadNormIdeal.nD → PrngReg), Pre_AdamHeadNormIdeal m →
    θ_run (Cert.AdamHeadNormIdeal.defs (F := Ideal)) (onTc (τ := Cert.AdamHeadNormIdeal.τ) (Cert.AdamHeadNormIdeal.main (F := Ideal))) ⟨m, fun _ => 0, g⟩ (fun r => (∀ c : Dev Cert.AdamHeadNormIdeal.nD,
      r.2.mem ((c.tc : Thread Cert.AdamHeadNormIdeal.nD Cert.AdamHeadNormIdeal.τ).loc Cert.AdamHeadNormIdeal.main_arg0) = m ((c.tc : Thread Cert.AdamHeadNormIdeal.nD Cert.AdamHeadNormIdeal.τ).loc Cert.AdamHeadNormIdeal.main_arg0)
      ∧ r.2.mem ((c.tc : Thread Cert.AdamHeadNormIdeal.nD Cert.AdamHeadNormIdeal.τ).loc Cert.AdamHeadNormIdeal.main_arg1) = m ((c.tc : Thread Cert.AdamHeadNormIdeal.nD Cert.AdamHeadNormIdeal.τ).loc Cert.AdamHeadNormIdeal.main_arg1)
      ∧ r.2.mem ((c.tc : Thread Cert.AdamHeadNormIdeal.nD Cert.AdamHeadNormIdeal.τ).loc Cert.AdamHeadNormIdeal.main_arg2) = m ((c.tc : Thread Cert.AdamHeadNormIdeal.nD Cert.AdamHeadNormIdeal.τ).loc Cert.AdamHeadNormIdeal.main_arg2)
      ∧ r.2.mem ((c.tc : Thread Cert.AdamHeadNormIdeal.nD Cert.AdamHeadNormIdeal.τ).loc Cert.AdamHeadNormIdeal.main_arg3) = m ((c.tc : Thread Cert.AdamHeadNormIdeal.nD Cert.AdamHeadNormIdeal.τ).loc Cert.AdamHeadNormIdeal.main_arg3)
      ∧ r.2.mem ((c.tc : Thread Cert.AdamHeadNormIdeal.nD Cert.AdamHeadNormIdeal.τ).loc Cert.AdamHeadNormIdeal.main_arg4) = m ((c.tc : Thread Cert.AdamHeadNormIdeal.nD Cert.AdamHeadNormIdeal.τ).loc Cert.AdamHeadNormIdeal.main_arg4))
      ∧ r.2.sem = fun _ => 0)

def quiescent_AdamHeadNormRefIdeal [hAdamHeadNormRefIdeal : Cert.AdamHeadNormRefIdeal.Facts] : Prop :=
  ∀ (m : (ℓ : Loc Cert.AdamHeadNormRefIdeal.nD Cert.AdamHeadNormRefIdeal.τ Cert.AdamHeadNormRefIdeal.sig) → Buf (Elt Ideal) ℓ) (g : Dev Cert.AdamHeadNormRefIdeal.nD → PrngReg), Pre_AdamHeadNormRefIdeal m →
    θ_run (Cert.AdamHeadNormRefIdeal.defs (F := Ideal)) (onTc (τ := Cert.AdamHeadNormRefIdeal.τ) (Cert.AdamHeadNormRefIdeal.main (F := Ideal))) ⟨m, fun _ => 0, g⟩ (fun r => (∀ c : Dev Cert.AdamHeadNormRefIdeal.nD,
      r.2.mem ((c.tc : Thread Cert.AdamHeadNormRefIdeal.nD Cert.AdamHeadNormRefIdeal.τ).loc Cert.AdamHeadNormRefIdeal.main_arg0) = m ((c.tc : Thread Cert.AdamHeadNormRefIdeal.nD Cert.AdamHeadNormRefIdeal.τ).loc Cert.AdamHeadNormRefIdeal.main_arg0)
      ∧ r.2.mem ((c.tc : Thread Cert.AdamHeadNormRefIdeal.nD Cert.AdamHeadNormRefIdeal.τ).loc Cert.AdamHeadNormRefIdeal.main_arg1) = m ((c.tc : Thread Cert.AdamHeadNormRefIdeal.nD Cert.AdamHeadNormRefIdeal.τ).loc Cert.AdamHeadNormRefIdeal.main_arg1)
      ∧ r.2.mem ((c.tc : Thread Cert.AdamHeadNormRefIdeal.nD Cert.AdamHeadNormRefIdeal.τ).loc Cert.AdamHeadNormRefIdeal.main_arg2) = m ((c.tc : Thread Cert.AdamHeadNormRefIdeal.nD Cert.AdamHeadNormRefIdeal.τ).loc Cert.AdamHeadNormRefIdeal.main_arg2)
      ∧ r.2.mem ((c.tc : Thread Cert.AdamHeadNormRefIdeal.nD Cert.AdamHeadNormRefIdeal.τ).loc Cert.AdamHeadNormRefIdeal.main_arg3) = m ((c.tc : Thread Cert.AdamHeadNormRefIdeal.nD Cert.AdamHeadNormRefIdeal.τ).loc Cert.AdamHeadNormRefIdeal.main_arg3)
      ∧ r.2.mem ((c.tc : Thread Cert.AdamHeadNormRefIdeal.nD Cert.AdamHeadNormRefIdeal.τ).loc Cert.AdamHeadNormRefIdeal.main_arg4) = m ((c.tc : Thread Cert.AdamHeadNormRefIdeal.nD Cert.AdamHeadNormRefIdeal.τ).loc Cert.AdamHeadNormRefIdeal.main_arg4))
      ∧ r.2.sem = fun _ => 0)

def quiescent_AdamLb [hAdamLb : Cert.AdamLb.Facts] : Prop :=
  ∀ (m : (ℓ : Loc Cert.AdamLb.nD Cert.AdamLb.τ Cert.AdamLb.sig) → Buf (Elt Bits) ℓ) (g : Dev Cert.AdamLb.nD → PrngReg), Pre_AdamLb m →
    θ_run (Cert.AdamLb.defs (F := Bits)) (onTc (τ := Cert.AdamLb.τ) (Cert.AdamLb.main (F := Bits))) ⟨m, fun _ => 0, g⟩ (fun r => (∀ c : Dev Cert.AdamLb.nD,
      r.2.mem ((c.tc : Thread Cert.AdamLb.nD Cert.AdamLb.τ).loc Cert.AdamLb.main_arg0) = m ((c.tc : Thread Cert.AdamLb.nD Cert.AdamLb.τ).loc Cert.AdamLb.main_arg0)
      ∧ r.2.mem ((c.tc : Thread Cert.AdamLb.nD Cert.AdamLb.τ).loc Cert.AdamLb.main_arg1) = m ((c.tc : Thread Cert.AdamLb.nD Cert.AdamLb.τ).loc Cert.AdamLb.main_arg1)
      ∧ r.2.mem ((c.tc : Thread Cert.AdamLb.nD Cert.AdamLb.τ).loc Cert.AdamLb.main_arg2) = m ((c.tc : Thread Cert.AdamLb.nD Cert.AdamLb.τ).loc Cert.AdamLb.main_arg2)
      ∧ r.2.mem ((c.tc : Thread Cert.AdamLb.nD Cert.AdamLb.τ).loc Cert.AdamLb.main_arg3) = m ((c.tc : Thread Cert.AdamLb.nD Cert.AdamLb.τ).loc Cert.AdamLb.main_arg3)
      ∧ r.2.mem ((c.tc : Thread Cert.AdamLb.nD Cert.AdamLb.τ).loc Cert.AdamLb.main_arg4) = m ((c.tc : Thread Cert.AdamLb.nD Cert.AdamLb.τ).loc Cert.AdamLb.main_arg4))
      ∧ r.2.sem = fun _ => 0)

def quiescent_AdamLbIdeal [hAdamLbIdeal : Cert.AdamLbIdeal.Facts] : Prop :=
  ∀ (m : (ℓ : Loc Cert.AdamLbIdeal.nD Cert.AdamLbIdeal.τ Cert.AdamLbIdeal.sig) → Buf (Elt Ideal) ℓ) (g : Dev Cert.AdamLbIdeal.nD → PrngReg), Pre_AdamLbIdeal m →
    θ_run (Cert.AdamLbIdeal.defs (F := Ideal)) (onTc (τ := Cert.AdamLbIdeal.τ) (Cert.AdamLbIdeal.main (F := Ideal))) ⟨m, fun _ => 0, g⟩ (fun r => (∀ c : Dev Cert.AdamLbIdeal.nD,
      r.2.mem ((c.tc : Thread Cert.AdamLbIdeal.nD Cert.AdamLbIdeal.τ).loc Cert.AdamLbIdeal.main_arg0) = m ((c.tc : Thread Cert.AdamLbIdeal.nD Cert.AdamLbIdeal.τ).loc Cert.AdamLbIdeal.main_arg0)
      ∧ r.2.mem ((c.tc : Thread Cert.AdamLbIdeal.nD Cert.AdamLbIdeal.τ).loc Cert.AdamLbIdeal.main_arg1) = m ((c.tc : Thread Cert.AdamLbIdeal.nD Cert.AdamLbIdeal.τ).loc Cert.AdamLbIdeal.main_arg1)
      ∧ r.2.mem ((c.tc : Thread Cert.AdamLbIdeal.nD Cert.AdamLbIdeal.τ).loc Cert.AdamLbIdeal.main_arg2) = m ((c.tc : Thread Cert.AdamLbIdeal.nD Cert.AdamLbIdeal.τ).loc Cert.AdamLbIdeal.main_arg2)
      ∧ r.2.mem ((c.tc : Thread Cert.AdamLbIdeal.nD Cert.AdamLbIdeal.τ).loc Cert.AdamLbIdeal.main_arg3) = m ((c.tc : Thread Cert.AdamLbIdeal.nD Cert.AdamLbIdeal.τ).loc Cert.AdamLbIdeal.main_arg3)
      ∧ r.2.mem ((c.tc : Thread Cert.AdamLbIdeal.nD Cert.AdamLbIdeal.τ).loc Cert.AdamLbIdeal.main_arg4) = m ((c.tc : Thread Cert.AdamLbIdeal.nD Cert.AdamLbIdeal.τ).loc Cert.AdamLbIdeal.main_arg4))
      ∧ r.2.sem = fun _ => 0)

def quiescent_AdamLbRefIdeal [hAdamLbRefIdeal : Cert.AdamLbRefIdeal.Facts] : Prop :=
  ∀ (m : (ℓ : Loc Cert.AdamLbRefIdeal.nD Cert.AdamLbRefIdeal.τ Cert.AdamLbRefIdeal.sig) → Buf (Elt Ideal) ℓ) (g : Dev Cert.AdamLbRefIdeal.nD → PrngReg), Pre_AdamLbRefIdeal m →
    θ_run (Cert.AdamLbRefIdeal.defs (F := Ideal)) (onTc (τ := Cert.AdamLbRefIdeal.τ) (Cert.AdamLbRefIdeal.main (F := Ideal))) ⟨m, fun _ => 0, g⟩ (fun r => (∀ c : Dev Cert.AdamLbRefIdeal.nD,
      r.2.mem ((c.tc : Thread Cert.AdamLbRefIdeal.nD Cert.AdamLbRefIdeal.τ).loc Cert.AdamLbRefIdeal.main_arg0) = m ((c.tc : Thread Cert.AdamLbRefIdeal.nD Cert.AdamLbRefIdeal.τ).loc Cert.AdamLbRefIdeal.main_arg0)
      ∧ r.2.mem ((c.tc : Thread Cert.AdamLbRefIdeal.nD Cert.AdamLbRefIdeal.τ).loc Cert.AdamLbRefIdeal.main_arg1) = m ((c.tc : Thread Cert.AdamLbRefIdeal.nD Cert.AdamLbRefIdeal.τ).loc Cert.AdamLbRefIdeal.main_arg1)
      ∧ r.2.mem ((c.tc : Thread Cert.AdamLbRefIdeal.nD Cert.AdamLbRefIdeal.τ).loc Cert.AdamLbRefIdeal.main_arg2) = m ((c.tc : Thread Cert.AdamLbRefIdeal.nD Cert.AdamLbRefIdeal.τ).loc Cert.AdamLbRefIdeal.main_arg2)
      ∧ r.2.mem ((c.tc : Thread Cert.AdamLbRefIdeal.nD Cert.AdamLbRefIdeal.τ).loc Cert.AdamLbRefIdeal.main_arg3) = m ((c.tc : Thread Cert.AdamLbRefIdeal.nD Cert.AdamLbRefIdeal.τ).loc Cert.AdamLbRefIdeal.main_arg3)
      ∧ r.2.mem ((c.tc : Thread Cert.AdamLbRefIdeal.nD Cert.AdamLbRefIdeal.τ).loc Cert.AdamLbRefIdeal.main_arg4) = m ((c.tc : Thread Cert.AdamLbRefIdeal.nD Cert.AdamLbRefIdeal.τ).loc Cert.AdamLbRefIdeal.main_arg4))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3)
      ∧ r.2.mem ((c.tc : Thread Cert.AdamHead.nD Cert.AdamHead.τ).loc Cert.AdamHead.main_arg4) = m ((c.tc : Thread Cert.AdamHead.nD Cert.AdamHead.τ).loc Cert.AdamHead.main_arg4))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3)
      ∧ r.2.mem ((c.tc : Thread Cert.AdamHeadIdeal.nD Cert.AdamHeadIdeal.τ).loc Cert.AdamHeadIdeal.main_arg4) = m ((c.tc : Thread Cert.AdamHeadIdeal.nD Cert.AdamHeadIdeal.τ).loc Cert.AdamHeadIdeal.main_arg4))
      ∧ r.2.sem = fun _ => 0)

def quiescent_AdamHeadRefIdeal [hAdamHeadRefIdeal : Cert.AdamHeadRefIdeal.Facts] : Prop :=
  ∀ (m : (ℓ : Loc Cert.AdamHeadRefIdeal.nD Cert.AdamHeadRefIdeal.τ Cert.AdamHeadRefIdeal.sig) → Buf (Elt Ideal) ℓ) (g : Dev Cert.AdamHeadRefIdeal.nD → PrngReg), Pre_AdamHeadRefIdeal m →
    θ_run (Cert.AdamHeadRefIdeal.defs (F := Ideal)) (onTc (τ := Cert.AdamHeadRefIdeal.τ) (Cert.AdamHeadRefIdeal.main (F := Ideal))) ⟨m, fun _ => 0, g⟩ (fun r => (∀ c : Dev Cert.AdamHeadRefIdeal.nD,
      r.2.mem ((c.tc : Thread Cert.AdamHeadRefIdeal.nD Cert.AdamHeadRefIdeal.τ).loc Cert.AdamHeadRefIdeal.main_arg0) = m ((c.tc : Thread Cert.AdamHeadRefIdeal.nD Cert.AdamHeadRefIdeal.τ).loc Cert.AdamHeadRefIdeal.main_arg0)
      ∧ r.2.mem ((c.tc : Thread Cert.AdamHeadRefIdeal.nD Cert.AdamHeadRefIdeal.τ).loc Cert.AdamHeadRefIdeal.main_arg1) = m ((c.tc : Thread Cert.AdamHeadRefIdeal.nD Cert.AdamHeadRefIdeal.τ).loc Cert.AdamHeadRefIdeal.main_arg1)
      ∧ r.2.mem ((c.tc : Thread Cert.AdamHeadRefIdeal.nD Cert.AdamHeadRefIdeal.τ).loc Cert.AdamHeadRefIdeal.main_arg2) = m ((c.tc : Thread Cert.AdamHeadRefIdeal.nD Cert.AdamHeadRefIdeal.τ).loc Cert.AdamHeadRefIdeal.main_arg2)
      ∧ r.2.mem ((c.tc : Thread Cert.AdamHeadRefIdeal.nD Cert.AdamHeadRefIdeal.τ).loc Cert.AdamHeadRefIdeal.main_arg3) = m ((c.tc : Thread Cert.AdamHeadRefIdeal.nD Cert.AdamHeadRefIdeal.τ).loc Cert.AdamHeadRefIdeal.main_arg3)
      ∧ r.2.mem ((c.tc : Thread Cert.AdamHeadRefIdeal.nD Cert.AdamHeadRefIdeal.τ).loc Cert.AdamHeadRefIdeal.main_arg4) = m ((c.tc : Thread Cert.AdamHeadRefIdeal.nD Cert.AdamHeadRefIdeal.τ).loc Cert.AdamHeadRefIdeal.main_arg4))
      ∧ r.2.sem = fun _ => 0)

def quiescent_AdamTap [hAdamTap : Cert.AdamTap.Facts] : Prop :=
  ∀ (m : (ℓ : Loc Cert.AdamTap.nD Cert.AdamTap.τ Cert.AdamTap.sig) → Buf (Elt Bits) ℓ) (g : Dev Cert.AdamTap.nD → PrngReg), Pre_AdamTap m →
    θ_run (Cert.AdamTap.defs (F := Bits)) (onTc (τ := Cert.AdamTap.τ) (Cert.AdamTap.main (F := Bits))) ⟨m, fun _ => 0, g⟩ (fun r => (∀ c : Dev Cert.AdamTap.nD,
      r.2.mem ((c.tc : Thread Cert.AdamTap.nD Cert.AdamTap.τ).loc Cert.AdamTap.main_arg0) = m ((c.tc : Thread Cert.AdamTap.nD Cert.AdamTap.τ).loc Cert.AdamTap.main_arg0)
      ∧ r.2.mem ((c.tc : Thread Cert.AdamTap.nD Cert.AdamTap.τ).loc Cert.AdamTap.main_arg1) = m ((c.tc : Thread Cert.AdamTap.nD Cert.AdamTap.τ).loc Cert.AdamTap.main_arg1)
      ∧ r.2.mem ((c.tc : Thread Cert.AdamTap.nD Cert.AdamTap.τ).loc Cert.AdamTap.main_arg2) = m ((c.tc : Thread Cert.AdamTap.nD Cert.AdamTap.τ).loc Cert.AdamTap.main_arg2)
      ∧ r.2.mem ((c.tc : Thread Cert.AdamTap.nD Cert.AdamTap.τ).loc Cert.AdamTap.main_arg3) = m ((c.tc : Thread Cert.AdamTap.nD Cert.AdamTap.τ).loc Cert.AdamTap.main_arg3)
      ∧ r.2.mem ((c.tc : Thread Cert.AdamTap.nD Cert.AdamTap.τ).loc Cert.AdamTap.main_arg4) = m ((c.tc : Thread Cert.AdamTap.nD Cert.AdamTap.τ).loc Cert.AdamTap.main_arg4))
      ∧ r.2.sem = fun _ => 0)

def quiescent_AdamTapIdeal [hAdamTapIdeal : Cert.AdamTapIdeal.Facts] : Prop :=
  ∀ (m : (ℓ : Loc Cert.AdamTapIdeal.nD Cert.AdamTapIdeal.τ Cert.AdamTapIdeal.sig) → Buf (Elt Ideal) ℓ) (g : Dev Cert.AdamTapIdeal.nD → PrngReg), Pre_AdamTapIdeal m →
    θ_run (Cert.AdamTapIdeal.defs (F := Ideal)) (onTc (τ := Cert.AdamTapIdeal.τ) (Cert.AdamTapIdeal.main (F := Ideal))) ⟨m, fun _ => 0, g⟩ (fun r => (∀ c : Dev Cert.AdamTapIdeal.nD,
      r.2.mem ((c.tc : Thread Cert.AdamTapIdeal.nD Cert.AdamTapIdeal.τ).loc Cert.AdamTapIdeal.main_arg0) = m ((c.tc : Thread Cert.AdamTapIdeal.nD Cert.AdamTapIdeal.τ).loc Cert.AdamTapIdeal.main_arg0)
      ∧ r.2.mem ((c.tc : Thread Cert.AdamTapIdeal.nD Cert.AdamTapIdeal.τ).loc Cert.AdamTapIdeal.main_arg1) = m ((c.tc : Thread Cert.AdamTapIdeal.nD Cert.AdamTapIdeal.τ).loc Cert.AdamTapIdeal.main_arg1)
      ∧ r.2.mem ((c.tc : Thread Cert.AdamTapIdeal.nD Cert.AdamTapIdeal.τ).loc Cert.AdamTapIdeal.main_arg2) = m ((c.tc : Thread Cert.AdamTapIdeal.nD Cert.AdamTapIdeal.τ).loc Cert.AdamTapIdeal.main_arg2)
      ∧ r.2.mem ((c.tc : Thread Cert.AdamTapIdeal.nD Cert.AdamTapIdeal.τ).loc Cert.AdamTapIdeal.main_arg3) = m ((c.tc : Thread Cert.AdamTapIdeal.nD Cert.AdamTapIdeal.τ).loc Cert.AdamTapIdeal.main_arg3)
      ∧ r.2.mem ((c.tc : Thread Cert.AdamTapIdeal.nD Cert.AdamTapIdeal.τ).loc Cert.AdamTapIdeal.main_arg4) = m ((c.tc : Thread Cert.AdamTapIdeal.nD Cert.AdamTapIdeal.τ).loc Cert.AdamTapIdeal.main_arg4))
      ∧ r.2.sem = fun _ => 0)

def quiescent_AdamTapRefIdeal [hAdamTapRefIdeal : Cert.AdamTapRefIdeal.Facts] : Prop :=
  ∀ (m : (ℓ : Loc Cert.AdamTapRefIdeal.nD Cert.AdamTapRefIdeal.τ Cert.AdamTapRefIdeal.sig) → Buf (Elt Ideal) ℓ) (g : Dev Cert.AdamTapRefIdeal.nD → PrngReg), Pre_AdamTapRefIdeal m →
    θ_run (Cert.AdamTapRefIdeal.defs (F := Ideal)) (onTc (τ := Cert.AdamTapRefIdeal.τ) (Cert.AdamTapRefIdeal.main (F := Ideal))) ⟨m, fun _ => 0, g⟩ (fun r => (∀ c : Dev Cert.AdamTapRefIdeal.nD,
      r.2.mem ((c.tc : Thread Cert.AdamTapRefIdeal.nD Cert.AdamTapRefIdeal.τ).loc Cert.AdamTapRefIdeal.main_arg0) = m ((c.tc : Thread Cert.AdamTapRefIdeal.nD Cert.AdamTapRefIdeal.τ).loc Cert.AdamTapRefIdeal.main_arg0)
      ∧ r.2.mem ((c.tc : Thread Cert.AdamTapRefIdeal.nD Cert.AdamTapRefIdeal.τ).loc Cert.AdamTapRefIdeal.main_arg1) = m ((c.tc : Thread Cert.AdamTapRefIdeal.nD Cert.AdamTapRefIdeal.τ).loc Cert.AdamTapRefIdeal.main_arg1)
      ∧ r.2.mem ((c.tc : Thread Cert.AdamTapRefIdeal.nD Cert.AdamTapRefIdeal.τ).loc Cert.AdamTapRefIdeal.main_arg2) = m ((c.tc : Thread Cert.AdamTapRefIdeal.nD Cert.AdamTapRefIdeal.τ).loc Cert.AdamTapRefIdeal.main_arg2)
      ∧ r.2.mem ((c.tc : Thread Cert.AdamTapRefIdeal.nD Cert.AdamTapRefIdeal.τ).loc Cert.AdamTapRefIdeal.main_arg3) = m ((c.tc : Thread Cert.AdamTapRefIdeal.nD Cert.AdamTapRefIdeal.τ).loc Cert.AdamTapRefIdeal.main_arg3)
      ∧ r.2.mem ((c.tc : Thread Cert.AdamTapRefIdeal.nD Cert.AdamTapRefIdeal.τ).loc Cert.AdamTapRefIdeal.main_arg4) = m ((c.tc : Thread Cert.AdamTapRefIdeal.nD Cert.AdamTapRefIdeal.τ).loc Cert.AdamTapRefIdeal.main_arg4))
      ∧ r.2.sem = fun _ => 0)

def quiescent_AdamFfnTap [hAdamFfnTap : Cert.AdamFfnTap.Facts] : Prop :=
  ∀ (m : (ℓ : Loc Cert.AdamFfnTap.nD Cert.AdamFfnTap.τ Cert.AdamFfnTap.sig) → Buf (Elt Bits) ℓ) (g : Dev Cert.AdamFfnTap.nD → PrngReg), Pre_AdamFfnTap m →
    θ_run (Cert.AdamFfnTap.defs (F := Bits)) (onTc (τ := Cert.AdamFfnTap.τ) (Cert.AdamFfnTap.main (F := Bits))) ⟨m, fun _ => 0, g⟩ (fun r => (∀ c : Dev Cert.AdamFfnTap.nD,
      r.2.mem ((c.tc : Thread Cert.AdamFfnTap.nD Cert.AdamFfnTap.τ).loc Cert.AdamFfnTap.main_arg0) = m ((c.tc : Thread Cert.AdamFfnTap.nD Cert.AdamFfnTap.τ).loc Cert.AdamFfnTap.main_arg0)
      ∧ r.2.mem ((c.tc : Thread Cert.AdamFfnTap.nD Cert.AdamFfnTap.τ).loc Cert.AdamFfnTap.main_arg1) = m ((c.tc : Thread Cert.AdamFfnTap.nD Cert.AdamFfnTap.τ).loc Cert.AdamFfnTap.main_arg1)
      ∧ r.2.mem ((c.tc : Thread Cert.AdamFfnTap.nD Cert.AdamFfnTap.τ).loc Cert.AdamFfnTap.main_arg2) = m ((c.tc : Thread Cert.AdamFfnTap.nD Cert.AdamFfnTap.τ).loc Cert.AdamFfnTap.main_arg2)
      ∧ r.2.mem ((c.tc : Thread Cert.AdamFfnTap.nD Cert.AdamFfnTap.τ).loc Cert.AdamFfnTap.main_arg3) = m ((c.tc : Thread Cert.AdamFfnTap.nD Cert.AdamFfnTap.τ).loc Cert.AdamFfnTap.main_arg3)
      ∧ r.2.mem ((c.tc : Thread Cert.AdamFfnTap.nD Cert.AdamFfnTap.τ).loc Cert.AdamFfnTap.main_arg4) = m ((c.tc : Thread Cert.AdamFfnTap.nD Cert.AdamFfnTap.τ).loc Cert.AdamFfnTap.main_arg4))
      ∧ r.2.sem = fun _ => 0)

def quiescent_AdamFfnTapIdeal [hAdamFfnTapIdeal : Cert.AdamFfnTapIdeal.Facts] : Prop :=
  ∀ (m : (ℓ : Loc Cert.AdamFfnTapIdeal.nD Cert.AdamFfnTapIdeal.τ Cert.AdamFfnTapIdeal.sig) → Buf (Elt Ideal) ℓ) (g : Dev Cert.AdamFfnTapIdeal.nD → PrngReg), Pre_AdamFfnTapIdeal m →
    θ_run (Cert.AdamFfnTapIdeal.defs (F := Ideal)) (onTc (τ := Cert.AdamFfnTapIdeal.τ) (Cert.AdamFfnTapIdeal.main (F := Ideal))) ⟨m, fun _ => 0, g⟩ (fun r => (∀ c : Dev Cert.AdamFfnTapIdeal.nD,
      r.2.mem ((c.tc : Thread Cert.AdamFfnTapIdeal.nD Cert.AdamFfnTapIdeal.τ).loc Cert.AdamFfnTapIdeal.main_arg0) = m ((c.tc : Thread Cert.AdamFfnTapIdeal.nD Cert.AdamFfnTapIdeal.τ).loc Cert.AdamFfnTapIdeal.main_arg0)
      ∧ r.2.mem ((c.tc : Thread Cert.AdamFfnTapIdeal.nD Cert.AdamFfnTapIdeal.τ).loc Cert.AdamFfnTapIdeal.main_arg1) = m ((c.tc : Thread Cert.AdamFfnTapIdeal.nD Cert.AdamFfnTapIdeal.τ).loc Cert.AdamFfnTapIdeal.main_arg1)
      ∧ r.2.mem ((c.tc : Thread Cert.AdamFfnTapIdeal.nD Cert.AdamFfnTapIdeal.τ).loc Cert.AdamFfnTapIdeal.main_arg2) = m ((c.tc : Thread Cert.AdamFfnTapIdeal.nD Cert.AdamFfnTapIdeal.τ).loc Cert.AdamFfnTapIdeal.main_arg2)
      ∧ r.2.mem ((c.tc : Thread Cert.AdamFfnTapIdeal.nD Cert.AdamFfnTapIdeal.τ).loc Cert.AdamFfnTapIdeal.main_arg3) = m ((c.tc : Thread Cert.AdamFfnTapIdeal.nD Cert.AdamFfnTapIdeal.τ).loc Cert.AdamFfnTapIdeal.main_arg3)
      ∧ r.2.mem ((c.tc : Thread Cert.AdamFfnTapIdeal.nD Cert.AdamFfnTapIdeal.τ).loc Cert.AdamFfnTapIdeal.main_arg4) = m ((c.tc : Thread Cert.AdamFfnTapIdeal.nD Cert.AdamFfnTapIdeal.τ).loc Cert.AdamFfnTapIdeal.main_arg4))
      ∧ r.2.sem = fun _ => 0)

def quiescent_AdamFfnTapRefIdeal [hAdamFfnTapRefIdeal : Cert.AdamFfnTapRefIdeal.Facts] : Prop :=
  ∀ (m : (ℓ : Loc Cert.AdamFfnTapRefIdeal.nD Cert.AdamFfnTapRefIdeal.τ Cert.AdamFfnTapRefIdeal.sig) → Buf (Elt Ideal) ℓ) (g : Dev Cert.AdamFfnTapRefIdeal.nD → PrngReg), Pre_AdamFfnTapRefIdeal m →
    θ_run (Cert.AdamFfnTapRefIdeal.defs (F := Ideal)) (onTc (τ := Cert.AdamFfnTapRefIdeal.τ) (Cert.AdamFfnTapRefIdeal.main (F := Ideal))) ⟨m, fun _ => 0, g⟩ (fun r => (∀ c : Dev Cert.AdamFfnTapRefIdeal.nD,
      r.2.mem ((c.tc : Thread Cert.AdamFfnTapRefIdeal.nD Cert.AdamFfnTapRefIdeal.τ).loc Cert.AdamFfnTapRefIdeal.main_arg0) = m ((c.tc : Thread Cert.AdamFfnTapRefIdeal.nD Cert.AdamFfnTapRefIdeal.τ).loc Cert.AdamFfnTapRefIdeal.main_arg0)
      ∧ r.2.mem ((c.tc : Thread Cert.AdamFfnTapRefIdeal.nD Cert.AdamFfnTapRefIdeal.τ).loc Cert.AdamFfnTapRefIdeal.main_arg1) = m ((c.tc : Thread Cert.AdamFfnTapRefIdeal.nD Cert.AdamFfnTapRefIdeal.τ).loc Cert.AdamFfnTapRefIdeal.main_arg1)
      ∧ r.2.mem ((c.tc : Thread Cert.AdamFfnTapRefIdeal.nD Cert.AdamFfnTapRefIdeal.τ).loc Cert.AdamFfnTapRefIdeal.main_arg2) = m ((c.tc : Thread Cert.AdamFfnTapRefIdeal.nD Cert.AdamFfnTapRefIdeal.τ).loc Cert.AdamFfnTapRefIdeal.main_arg2)
      ∧ r.2.mem ((c.tc : Thread Cert.AdamFfnTapRefIdeal.nD Cert.AdamFfnTapRefIdeal.τ).loc Cert.AdamFfnTapRefIdeal.main_arg3) = m ((c.tc : Thread Cert.AdamFfnTapRefIdeal.nD Cert.AdamFfnTapRefIdeal.τ).loc Cert.AdamFfnTapRefIdeal.main_arg3)
      ∧ r.2.mem ((c.tc : Thread Cert.AdamFfnTapRefIdeal.nD Cert.AdamFfnTapRefIdeal.τ).loc Cert.AdamFfnTapRefIdeal.main_arg4) = m ((c.tc : Thread Cert.AdamFfnTapRefIdeal.nD Cert.AdamFfnTapRefIdeal.τ).loc Cert.AdamFfnTapRefIdeal.main_arg4))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3)
      ∧ r.2.mem ((c.tc : Thread Cert.AdamBias.nD Cert.AdamBias.τ).loc Cert.AdamBias.main_arg4) = m ((c.tc : Thread Cert.AdamBias.nD Cert.AdamBias.τ).loc Cert.AdamBias.main_arg4))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3)
      ∧ r.2.mem ((c.tc : Thread Cert.AdamBiasIdeal.nD Cert.AdamBiasIdeal.τ).loc Cert.AdamBiasIdeal.main_arg4) = m ((c.tc : Thread Cert.AdamBiasIdeal.nD Cert.AdamBiasIdeal.τ).loc Cert.AdamBiasIdeal.main_arg4))
      ∧ r.2.sem = fun _ => 0)

def quiescent_AdamBiasRefIdeal [hAdamBiasRefIdeal : Cert.AdamBiasRefIdeal.Facts] : Prop :=
  ∀ (m : (ℓ : Loc Cert.AdamBiasRefIdeal.nD Cert.AdamBiasRefIdeal.τ Cert.AdamBiasRefIdeal.sig) → Buf (Elt Ideal) ℓ) (g : Dev Cert.AdamBiasRefIdeal.nD → PrngReg), Pre_AdamBiasRefIdeal m →
    θ_run (Cert.AdamBiasRefIdeal.defs (F := Ideal)) (onTc (τ := Cert.AdamBiasRefIdeal.τ) (Cert.AdamBiasRefIdeal.main (F := Ideal))) ⟨m, fun _ => 0, g⟩ (fun r => (∀ c : Dev Cert.AdamBiasRefIdeal.nD,
      r.2.mem ((c.tc : Thread Cert.AdamBiasRefIdeal.nD Cert.AdamBiasRefIdeal.τ).loc Cert.AdamBiasRefIdeal.main_arg0) = m ((c.tc : Thread Cert.AdamBiasRefIdeal.nD Cert.AdamBiasRefIdeal.τ).loc Cert.AdamBiasRefIdeal.main_arg0)
      ∧ r.2.mem ((c.tc : Thread Cert.AdamBiasRefIdeal.nD Cert.AdamBiasRefIdeal.τ).loc Cert.AdamBiasRefIdeal.main_arg1) = m ((c.tc : Thread Cert.AdamBiasRefIdeal.nD Cert.AdamBiasRefIdeal.τ).loc Cert.AdamBiasRefIdeal.main_arg1)
      ∧ r.2.mem ((c.tc : Thread Cert.AdamBiasRefIdeal.nD Cert.AdamBiasRefIdeal.τ).loc Cert.AdamBiasRefIdeal.main_arg2) = m ((c.tc : Thread Cert.AdamBiasRefIdeal.nD Cert.AdamBiasRefIdeal.τ).loc Cert.AdamBiasRefIdeal.main_arg2)
      ∧ r.2.mem ((c.tc : Thread Cert.AdamBiasRefIdeal.nD Cert.AdamBiasRefIdeal.τ).loc Cert.AdamBiasRefIdeal.main_arg3) = m ((c.tc : Thread Cert.AdamBiasRefIdeal.nD Cert.AdamBiasRefIdeal.τ).loc Cert.AdamBiasRefIdeal.main_arg3)
      ∧ r.2.mem ((c.tc : Thread Cert.AdamBiasRefIdeal.nD Cert.AdamBiasRefIdeal.τ).loc Cert.AdamBiasRefIdeal.main_arg4) = m ((c.tc : Thread Cert.AdamBiasRefIdeal.nD Cert.AdamBiasRefIdeal.τ).loc Cert.AdamBiasRefIdeal.main_arg4))
      ∧ r.2.sem = fun _ => 0)

def quiescent_NormPre [hNormPre : Cert.NormPre.Facts] : Prop :=
  ∀ (m : (ℓ : Loc Cert.NormPre.nD Cert.NormPre.τ Cert.NormPre.sig) → Buf (Elt Bits) ℓ) (g : Dev Cert.NormPre.nD → PrngReg), Pre_NormPre m →
    θ_run (Cert.NormPre.defs (F := Bits)) (onTc (τ := Cert.NormPre.τ) (Cert.NormPre.main (F := Bits))) ⟨m, fun _ => 0, g⟩ (fun r => (∀ c : Dev Cert.NormPre.nD,
      r.2.mem ((c.tc : Thread Cert.NormPre.nD Cert.NormPre.τ).loc Cert.NormPre.main_arg0) = m ((c.tc : Thread Cert.NormPre.nD Cert.NormPre.τ).loc Cert.NormPre.main_arg0)
      ∧ r.2.mem ((c.tc : Thread Cert.NormPre.nD Cert.NormPre.τ).loc Cert.NormPre.main_arg1) = m ((c.tc : Thread Cert.NormPre.nD Cert.NormPre.τ).loc Cert.NormPre.main_arg1)
      ∧ r.2.mem ((c.tc : Thread Cert.NormPre.nD Cert.NormPre.τ).loc Cert.NormPre.main_arg2) = m ((c.tc : Thread Cert.NormPre.nD Cert.NormPre.τ).loc Cert.NormPre.main_arg2)
      ∧ r.2.mem ((c.tc : Thread Cert.NormPre.nD Cert.NormPre.τ).loc Cert.NormPre.main_arg3) = m ((c.tc : Thread Cert.NormPre.nD Cert.NormPre.τ).loc Cert.NormPre.main_arg3))
      ∧ r.2.sem = fun _ => 0)

def quiescent_NormPreIdeal [hNormPreIdeal : Cert.NormPreIdeal.Facts] : Prop :=
  ∀ (m : (ℓ : Loc Cert.NormPreIdeal.nD Cert.NormPreIdeal.τ Cert.NormPreIdeal.sig) → Buf (Elt Ideal) ℓ) (g : Dev Cert.NormPreIdeal.nD → PrngReg), Pre_NormPreIdeal m →
    θ_run (Cert.NormPreIdeal.defs (F := Ideal)) (onTc (τ := Cert.NormPreIdeal.τ) (Cert.NormPreIdeal.main (F := Ideal))) ⟨m, fun _ => 0, g⟩ (fun r => (∀ c : Dev Cert.NormPreIdeal.nD,
      r.2.mem ((c.tc : Thread Cert.NormPreIdeal.nD Cert.NormPreIdeal.τ).loc Cert.NormPreIdeal.main_arg0) = m ((c.tc : Thread Cert.NormPreIdeal.nD Cert.NormPreIdeal.τ).loc Cert.NormPreIdeal.main_arg0)
      ∧ r.2.mem ((c.tc : Thread Cert.NormPreIdeal.nD Cert.NormPreIdeal.τ).loc Cert.NormPreIdeal.main_arg1) = m ((c.tc : Thread Cert.NormPreIdeal.nD Cert.NormPreIdeal.τ).loc Cert.NormPreIdeal.main_arg1)
      ∧ r.2.mem ((c.tc : Thread Cert.NormPreIdeal.nD Cert.NormPreIdeal.τ).loc Cert.NormPreIdeal.main_arg2) = m ((c.tc : Thread Cert.NormPreIdeal.nD Cert.NormPreIdeal.τ).loc Cert.NormPreIdeal.main_arg2)
      ∧ r.2.mem ((c.tc : Thread Cert.NormPreIdeal.nD Cert.NormPreIdeal.τ).loc Cert.NormPreIdeal.main_arg3) = m ((c.tc : Thread Cert.NormPreIdeal.nD Cert.NormPreIdeal.τ).loc Cert.NormPreIdeal.main_arg3))
      ∧ r.2.sem = fun _ => 0)

def quiescent_NormPreRefIdeal [hNormPreRefIdeal : Cert.NormPreRefIdeal.Facts] : Prop :=
  ∀ (m : (ℓ : Loc Cert.NormPreRefIdeal.nD Cert.NormPreRefIdeal.τ Cert.NormPreRefIdeal.sig) → Buf (Elt Ideal) ℓ) (g : Dev Cert.NormPreRefIdeal.nD → PrngReg), Pre_NormPreRefIdeal m →
    θ_run (Cert.NormPreRefIdeal.defs (F := Ideal)) (onTc (τ := Cert.NormPreRefIdeal.τ) (Cert.NormPreRefIdeal.main (F := Ideal))) ⟨m, fun _ => 0, g⟩ (fun r => (∀ c : Dev Cert.NormPreRefIdeal.nD,
      r.2.mem ((c.tc : Thread Cert.NormPreRefIdeal.nD Cert.NormPreRefIdeal.τ).loc Cert.NormPreRefIdeal.main_arg0) = m ((c.tc : Thread Cert.NormPreRefIdeal.nD Cert.NormPreRefIdeal.τ).loc Cert.NormPreRefIdeal.main_arg0)
      ∧ r.2.mem ((c.tc : Thread Cert.NormPreRefIdeal.nD Cert.NormPreRefIdeal.τ).loc Cert.NormPreRefIdeal.main_arg1) = m ((c.tc : Thread Cert.NormPreRefIdeal.nD Cert.NormPreRefIdeal.τ).loc Cert.NormPreRefIdeal.main_arg1)
      ∧ r.2.mem ((c.tc : Thread Cert.NormPreRefIdeal.nD Cert.NormPreRefIdeal.τ).loc Cert.NormPreRefIdeal.main_arg2) = m ((c.tc : Thread Cert.NormPreRefIdeal.nD Cert.NormPreRefIdeal.τ).loc Cert.NormPreRefIdeal.main_arg2)
      ∧ r.2.mem ((c.tc : Thread Cert.NormPreRefIdeal.nD Cert.NormPreRefIdeal.τ).loc Cert.NormPreRefIdeal.main_arg3) = m ((c.tc : Thread Cert.NormPreRefIdeal.nD Cert.NormPreRefIdeal.τ).loc Cert.NormPreRefIdeal.main_arg3))
      ∧ r.2.sem = fun _ => 0)

def quiescent_NormPost [hNormPost : Cert.NormPost.Facts] : Prop :=
  ∀ (m : (ℓ : Loc Cert.NormPost.nD Cert.NormPost.τ Cert.NormPost.sig) → Buf (Elt Bits) ℓ) (g : Dev Cert.NormPost.nD → PrngReg), Pre_NormPost m →
    θ_run (Cert.NormPost.defs (F := Bits)) (onTc (τ := Cert.NormPost.τ) (Cert.NormPost.main (F := Bits))) ⟨m, fun _ => 0, g⟩ (fun r => (∀ c : Dev Cert.NormPost.nD,
      r.2.mem ((c.tc : Thread Cert.NormPost.nD Cert.NormPost.τ).loc Cert.NormPost.main_arg0) = m ((c.tc : Thread Cert.NormPost.nD Cert.NormPost.τ).loc Cert.NormPost.main_arg0)
      ∧ r.2.mem ((c.tc : Thread Cert.NormPost.nD Cert.NormPost.τ).loc Cert.NormPost.main_arg1) = m ((c.tc : Thread Cert.NormPost.nD Cert.NormPost.τ).loc Cert.NormPost.main_arg1)
      ∧ r.2.mem ((c.tc : Thread Cert.NormPost.nD Cert.NormPost.τ).loc Cert.NormPost.main_arg2) = m ((c.tc : Thread Cert.NormPost.nD Cert.NormPost.τ).loc Cert.NormPost.main_arg2))
      ∧ r.2.sem = fun _ => 0)

def quiescent_NormPostIdeal [hNormPostIdeal : Cert.NormPostIdeal.Facts] : Prop :=
  ∀ (m : (ℓ : Loc Cert.NormPostIdeal.nD Cert.NormPostIdeal.τ Cert.NormPostIdeal.sig) → Buf (Elt Ideal) ℓ) (g : Dev Cert.NormPostIdeal.nD → PrngReg), Pre_NormPostIdeal m →
    θ_run (Cert.NormPostIdeal.defs (F := Ideal)) (onTc (τ := Cert.NormPostIdeal.τ) (Cert.NormPostIdeal.main (F := Ideal))) ⟨m, fun _ => 0, g⟩ (fun r => (∀ c : Dev Cert.NormPostIdeal.nD,
      r.2.mem ((c.tc : Thread Cert.NormPostIdeal.nD Cert.NormPostIdeal.τ).loc Cert.NormPostIdeal.main_arg0) = m ((c.tc : Thread Cert.NormPostIdeal.nD Cert.NormPostIdeal.τ).loc Cert.NormPostIdeal.main_arg0)
      ∧ r.2.mem ((c.tc : Thread Cert.NormPostIdeal.nD Cert.NormPostIdeal.τ).loc Cert.NormPostIdeal.main_arg1) = m ((c.tc : Thread Cert.NormPostIdeal.nD Cert.NormPostIdeal.τ).loc Cert.NormPostIdeal.main_arg1)
      ∧ r.2.mem ((c.tc : Thread Cert.NormPostIdeal.nD Cert.NormPostIdeal.τ).loc Cert.NormPostIdeal.main_arg2) = m ((c.tc : Thread Cert.NormPostIdeal.nD Cert.NormPostIdeal.τ).loc Cert.NormPostIdeal.main_arg2))
      ∧ r.2.sem = fun _ => 0)

def quiescent_NormPostRefIdeal [hNormPostRefIdeal : Cert.NormPostRefIdeal.Facts] : Prop :=
  ∀ (m : (ℓ : Loc Cert.NormPostRefIdeal.nD Cert.NormPostRefIdeal.τ Cert.NormPostRefIdeal.sig) → Buf (Elt Ideal) ℓ) (g : Dev Cert.NormPostRefIdeal.nD → PrngReg), Pre_NormPostRefIdeal m →
    θ_run (Cert.NormPostRefIdeal.defs (F := Ideal)) (onTc (τ := Cert.NormPostRefIdeal.τ) (Cert.NormPostRefIdeal.main (F := Ideal))) ⟨m, fun _ => 0, g⟩ (fun r => (∀ c : Dev Cert.NormPostRefIdeal.nD,
      r.2.mem ((c.tc : Thread Cert.NormPostRefIdeal.nD Cert.NormPostRefIdeal.τ).loc Cert.NormPostRefIdeal.main_arg0) = m ((c.tc : Thread Cert.NormPostRefIdeal.nD Cert.NormPostRefIdeal.τ).loc Cert.NormPostRefIdeal.main_arg0)
      ∧ r.2.mem ((c.tc : Thread Cert.NormPostRefIdeal.nD Cert.NormPostRefIdeal.τ).loc Cert.NormPostRefIdeal.main_arg1) = m ((c.tc : Thread Cert.NormPostRefIdeal.nD Cert.NormPostRefIdeal.τ).loc Cert.NormPostRefIdeal.main_arg1)
      ∧ r.2.mem ((c.tc : Thread Cert.NormPostRefIdeal.nD Cert.NormPostRefIdeal.τ).loc Cert.NormPostRefIdeal.main_arg2) = m ((c.tc : Thread Cert.NormPostRefIdeal.nD Cert.NormPostRefIdeal.τ).loc Cert.NormPostRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_ResidNorm [hResidNorm : Cert.ResidNorm.Facts] : Prop :=
  ∀ (m : (ℓ : Loc Cert.ResidNorm.nD Cert.ResidNorm.τ Cert.ResidNorm.sig) → Buf (Elt Bits) ℓ) (g : Dev Cert.ResidNorm.nD → PrngReg), Pre_ResidNorm m →
    θ_run (Cert.ResidNorm.defs (F := Bits)) (onTc (τ := Cert.ResidNorm.τ) (Cert.ResidNorm.main (F := Bits))) ⟨m, fun _ => 0, g⟩ (fun r => (∀ c : Dev Cert.ResidNorm.nD,
      r.2.mem ((c.tc : Thread Cert.ResidNorm.nD Cert.ResidNorm.τ).loc Cert.ResidNorm.main_arg0) = m ((c.tc : Thread Cert.ResidNorm.nD Cert.ResidNorm.τ).loc Cert.ResidNorm.main_arg0)
      ∧ r.2.mem ((c.tc : Thread Cert.ResidNorm.nD Cert.ResidNorm.τ).loc Cert.ResidNorm.main_arg1) = m ((c.tc : Thread Cert.ResidNorm.nD Cert.ResidNorm.τ).loc Cert.ResidNorm.main_arg1)
      ∧ r.2.mem ((c.tc : Thread Cert.ResidNorm.nD Cert.ResidNorm.τ).loc Cert.ResidNorm.main_arg2) = m ((c.tc : Thread Cert.ResidNorm.nD Cert.ResidNorm.τ).loc Cert.ResidNorm.main_arg2)
      ∧ r.2.mem ((c.tc : Thread Cert.ResidNorm.nD Cert.ResidNorm.τ).loc Cert.ResidNorm.main_arg3) = m ((c.tc : Thread Cert.ResidNorm.nD Cert.ResidNorm.τ).loc Cert.ResidNorm.main_arg3))
      ∧ r.2.sem = fun _ => 0)

def quiescent_ResidNormIdeal [hResidNormIdeal : Cert.ResidNormIdeal.Facts] : Prop :=
  ∀ (m : (ℓ : Loc Cert.ResidNormIdeal.nD Cert.ResidNormIdeal.τ Cert.ResidNormIdeal.sig) → Buf (Elt Ideal) ℓ) (g : Dev Cert.ResidNormIdeal.nD → PrngReg), Pre_ResidNormIdeal m →
    θ_run (Cert.ResidNormIdeal.defs (F := Ideal)) (onTc (τ := Cert.ResidNormIdeal.τ) (Cert.ResidNormIdeal.main (F := Ideal))) ⟨m, fun _ => 0, g⟩ (fun r => (∀ c : Dev Cert.ResidNormIdeal.nD,
      r.2.mem ((c.tc : Thread Cert.ResidNormIdeal.nD Cert.ResidNormIdeal.τ).loc Cert.ResidNormIdeal.main_arg0) = m ((c.tc : Thread Cert.ResidNormIdeal.nD Cert.ResidNormIdeal.τ).loc Cert.ResidNormIdeal.main_arg0)
      ∧ r.2.mem ((c.tc : Thread Cert.ResidNormIdeal.nD Cert.ResidNormIdeal.τ).loc Cert.ResidNormIdeal.main_arg1) = m ((c.tc : Thread Cert.ResidNormIdeal.nD Cert.ResidNormIdeal.τ).loc Cert.ResidNormIdeal.main_arg1)
      ∧ r.2.mem ((c.tc : Thread Cert.ResidNormIdeal.nD Cert.ResidNormIdeal.τ).loc Cert.ResidNormIdeal.main_arg2) = m ((c.tc : Thread Cert.ResidNormIdeal.nD Cert.ResidNormIdeal.τ).loc Cert.ResidNormIdeal.main_arg2)
      ∧ r.2.mem ((c.tc : Thread Cert.ResidNormIdeal.nD Cert.ResidNormIdeal.τ).loc Cert.ResidNormIdeal.main_arg3) = m ((c.tc : Thread Cert.ResidNormIdeal.nD Cert.ResidNormIdeal.τ).loc Cert.ResidNormIdeal.main_arg3))
      ∧ r.2.sem = fun _ => 0)

def quiescent_ResidNormRefIdeal [hResidNormRefIdeal : Cert.ResidNormRefIdeal.Facts] : Prop :=
  ∀ (m : (ℓ : Loc Cert.ResidNormRefIdeal.nD Cert.ResidNormRefIdeal.τ Cert.ResidNormRefIdeal.sig) → Buf (Elt Ideal) ℓ) (g : Dev Cert.ResidNormRefIdeal.nD → PrngReg), Pre_ResidNormRefIdeal m →
    θ_run (Cert.ResidNormRefIdeal.defs (F := Ideal)) (onTc (τ := Cert.ResidNormRefIdeal.τ) (Cert.ResidNormRefIdeal.main (F := Ideal))) ⟨m, fun _ => 0, g⟩ (fun r => (∀ c : Dev Cert.ResidNormRefIdeal.nD,
      r.2.mem ((c.tc : Thread Cert.ResidNormRefIdeal.nD Cert.ResidNormRefIdeal.τ).loc Cert.ResidNormRefIdeal.main_arg0) = m ((c.tc : Thread Cert.ResidNormRefIdeal.nD Cert.ResidNormRefIdeal.τ).loc Cert.ResidNormRefIdeal.main_arg0)
      ∧ r.2.mem ((c.tc : Thread Cert.ResidNormRefIdeal.nD Cert.ResidNormRefIdeal.τ).loc Cert.ResidNormRefIdeal.main_arg1) = m ((c.tc : Thread Cert.ResidNormRefIdeal.nD Cert.ResidNormRefIdeal.τ).loc Cert.ResidNormRefIdeal.main_arg1)
      ∧ r.2.mem ((c.tc : Thread Cert.ResidNormRefIdeal.nD Cert.ResidNormRefIdeal.τ).loc Cert.ResidNormRefIdeal.main_arg2) = m ((c.tc : Thread Cert.ResidNormRefIdeal.nD Cert.ResidNormRefIdeal.τ).loc Cert.ResidNormRefIdeal.main_arg2)
      ∧ r.2.mem ((c.tc : Thread Cert.ResidNormRefIdeal.nD Cert.ResidNormRefIdeal.τ).loc Cert.ResidNormRefIdeal.main_arg3) = m ((c.tc : Thread Cert.ResidNormRefIdeal.nD Cert.ResidNormRefIdeal.τ).loc Cert.ResidNormRefIdeal.main_arg3))
      ∧ r.2.sem = fun _ => 0)

def quiescent_ResidLoss [hResidLoss : Cert.ResidLoss.Facts] : Prop :=
  ∀ (m : (ℓ : Loc Cert.ResidLoss.nD Cert.ResidLoss.τ Cert.ResidLoss.sig) → Buf (Elt Bits) ℓ) (g : Dev Cert.ResidLoss.nD → PrngReg), Pre_ResidLoss m →
    θ_run (Cert.ResidLoss.defs (F := Bits)) (onTc (τ := Cert.ResidLoss.τ) (Cert.ResidLoss.main (F := Bits))) ⟨m, fun _ => 0, g⟩ (fun r => (∀ c : Dev Cert.ResidLoss.nD,
      r.2.mem ((c.tc : Thread Cert.ResidLoss.nD Cert.ResidLoss.τ).loc Cert.ResidLoss.main_arg0) = m ((c.tc : Thread Cert.ResidLoss.nD Cert.ResidLoss.τ).loc Cert.ResidLoss.main_arg0)
      ∧ r.2.mem ((c.tc : Thread Cert.ResidLoss.nD Cert.ResidLoss.τ).loc Cert.ResidLoss.main_arg1) = m ((c.tc : Thread Cert.ResidLoss.nD Cert.ResidLoss.τ).loc Cert.ResidLoss.main_arg1)
      ∧ r.2.mem ((c.tc : Thread Cert.ResidLoss.nD Cert.ResidLoss.τ).loc Cert.ResidLoss.main_arg2) = m ((c.tc : Thread Cert.ResidLoss.nD Cert.ResidLoss.τ).loc Cert.ResidLoss.main_arg2)
      ∧ r.2.mem ((c.tc : Thread Cert.ResidLoss.nD Cert.ResidLoss.τ).loc Cert.ResidLoss.main_arg3) = m ((c.tc : Thread Cert.ResidLoss.nD Cert.ResidLoss.τ).loc Cert.ResidLoss.main_arg3))
      ∧ r.2.sem = fun _ => 0)

def quiescent_ResidLossIdeal [hResidLossIdeal : Cert.ResidLossIdeal.Facts] : Prop :=
  ∀ (m : (ℓ : Loc Cert.ResidLossIdeal.nD Cert.ResidLossIdeal.τ Cert.ResidLossIdeal.sig) → Buf (Elt Ideal) ℓ) (g : Dev Cert.ResidLossIdeal.nD → PrngReg), Pre_ResidLossIdeal m →
    θ_run (Cert.ResidLossIdeal.defs (F := Ideal)) (onTc (τ := Cert.ResidLossIdeal.τ) (Cert.ResidLossIdeal.main (F := Ideal))) ⟨m, fun _ => 0, g⟩ (fun r => (∀ c : Dev Cert.ResidLossIdeal.nD,
      r.2.mem ((c.tc : Thread Cert.ResidLossIdeal.nD Cert.ResidLossIdeal.τ).loc Cert.ResidLossIdeal.main_arg0) = m ((c.tc : Thread Cert.ResidLossIdeal.nD Cert.ResidLossIdeal.τ).loc Cert.ResidLossIdeal.main_arg0)
      ∧ r.2.mem ((c.tc : Thread Cert.ResidLossIdeal.nD Cert.ResidLossIdeal.τ).loc Cert.ResidLossIdeal.main_arg1) = m ((c.tc : Thread Cert.ResidLossIdeal.nD Cert.ResidLossIdeal.τ).loc Cert.ResidLossIdeal.main_arg1)
      ∧ r.2.mem ((c.tc : Thread Cert.ResidLossIdeal.nD Cert.ResidLossIdeal.τ).loc Cert.ResidLossIdeal.main_arg2) = m ((c.tc : Thread Cert.ResidLossIdeal.nD Cert.ResidLossIdeal.τ).loc Cert.ResidLossIdeal.main_arg2)
      ∧ r.2.mem ((c.tc : Thread Cert.ResidLossIdeal.nD Cert.ResidLossIdeal.τ).loc Cert.ResidLossIdeal.main_arg3) = m ((c.tc : Thread Cert.ResidLossIdeal.nD Cert.ResidLossIdeal.τ).loc Cert.ResidLossIdeal.main_arg3))
      ∧ r.2.sem = fun _ => 0)

def quiescent_ResidLossRefIdeal [hResidLossRefIdeal : Cert.ResidLossRefIdeal.Facts] : Prop :=
  ∀ (m : (ℓ : Loc Cert.ResidLossRefIdeal.nD Cert.ResidLossRefIdeal.τ Cert.ResidLossRefIdeal.sig) → Buf (Elt Ideal) ℓ) (g : Dev Cert.ResidLossRefIdeal.nD → PrngReg), Pre_ResidLossRefIdeal m →
    θ_run (Cert.ResidLossRefIdeal.defs (F := Ideal)) (onTc (τ := Cert.ResidLossRefIdeal.τ) (Cert.ResidLossRefIdeal.main (F := Ideal))) ⟨m, fun _ => 0, g⟩ (fun r => (∀ c : Dev Cert.ResidLossRefIdeal.nD,
      r.2.mem ((c.tc : Thread Cert.ResidLossRefIdeal.nD Cert.ResidLossRefIdeal.τ).loc Cert.ResidLossRefIdeal.main_arg0) = m ((c.tc : Thread Cert.ResidLossRefIdeal.nD Cert.ResidLossRefIdeal.τ).loc Cert.ResidLossRefIdeal.main_arg0)
      ∧ r.2.mem ((c.tc : Thread Cert.ResidLossRefIdeal.nD Cert.ResidLossRefIdeal.τ).loc Cert.ResidLossRefIdeal.main_arg1) = m ((c.tc : Thread Cert.ResidLossRefIdeal.nD Cert.ResidLossRefIdeal.τ).loc Cert.ResidLossRefIdeal.main_arg1)
      ∧ r.2.mem ((c.tc : Thread Cert.ResidLossRefIdeal.nD Cert.ResidLossRefIdeal.τ).loc Cert.ResidLossRefIdeal.main_arg2) = m ((c.tc : Thread Cert.ResidLossRefIdeal.nD Cert.ResidLossRefIdeal.τ).loc Cert.ResidLossRefIdeal.main_arg2)
      ∧ r.2.mem ((c.tc : Thread Cert.ResidLossRefIdeal.nD Cert.ResidLossRefIdeal.τ).loc Cert.ResidLossRefIdeal.main_arg3) = m ((c.tc : Thread Cert.ResidLossRefIdeal.nD Cert.ResidLossRefIdeal.τ).loc Cert.ResidLossRefIdeal.main_arg3))
      ∧ r.2.sem = fun _ => 0)

def quiescent_ScFwd [hScFwd : Cert.ScFwd.Facts] : Prop :=
  ∀ (m : (ℓ : Loc Cert.ScFwd.nD Cert.ScFwd.τ Cert.ScFwd.sig) → Buf (Elt Bits) ℓ) (g : Dev Cert.ScFwd.nD → PrngReg), Pre_ScFwd m →
    θ_run (Cert.ScFwd.defs (F := Bits)) (onTc (τ := Cert.ScFwd.τ) (Cert.ScFwd.main (F := Bits))) ⟨m, fun _ => 0, g⟩ (fun r => (∀ c : Dev Cert.ScFwd.nD,
      r.2.mem ((c.tc : Thread Cert.ScFwd.nD Cert.ScFwd.τ).loc Cert.ScFwd.main_arg0) = m ((c.tc : Thread Cert.ScFwd.nD Cert.ScFwd.τ).loc Cert.ScFwd.main_arg0)
      ∧ r.2.mem ((c.tc : Thread Cert.ScFwd.nD Cert.ScFwd.τ).loc Cert.ScFwd.main_arg1) = m ((c.tc : Thread Cert.ScFwd.nD Cert.ScFwd.τ).loc Cert.ScFwd.main_arg1))
      ∧ r.2.sem = fun _ => 0)

def quiescent_ScFwdIdeal [hScFwdIdeal : Cert.ScFwdIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg), Pre_ScFwdIdeal m →
    θ_run (Cert.ScFwdIdeal.defs (F := Ideal)) (onTc (τ := Cert.ScFwdIdeal.τ) (Cert.ScFwdIdeal.main (F := Ideal))) ⟨m, fun _ => 0, g⟩ (fun r => (∀ c : Dev Cert.ScFwdIdeal.nD,
      r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
      ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1))
      ∧ r.2.sem = fun _ => 0)

def quiescent_ScFwdRefIdeal [hScFwdRefIdeal : Cert.ScFwdRefIdeal.Facts] : Prop :=
  ∀ (m : (ℓ : Loc Cert.ScFwdRefIdeal.nD Cert.ScFwdRefIdeal.τ Cert.ScFwdRefIdeal.sig) → Buf (Elt Ideal) ℓ) (g : Dev Cert.ScFwdRefIdeal.nD → PrngReg), Pre_ScFwdRefIdeal m →
    θ_run (Cert.ScFwdRefIdeal.defs (F := Ideal)) (onTc (τ := Cert.ScFwdRefIdeal.τ) (Cert.ScFwdRefIdeal.main (F := Ideal))) ⟨m, fun _ => 0, g⟩ (fun r => (∀ c : Dev Cert.ScFwdRefIdeal.nD,
      r.2.mem ((c.tc : Thread Cert.ScFwdRefIdeal.nD Cert.ScFwdRefIdeal.τ).loc Cert.ScFwdRefIdeal.main_arg0) = m ((c.tc : Thread Cert.ScFwdRefIdeal.nD Cert.ScFwdRefIdeal.τ).loc Cert.ScFwdRefIdeal.main_arg0)
      ∧ r.2.mem ((c.tc : Thread Cert.ScFwdRefIdeal.nD Cert.ScFwdRefIdeal.τ).loc Cert.ScFwdRefIdeal.main_arg1) = m ((c.tc : Thread Cert.ScFwdRefIdeal.nD Cert.ScFwdRefIdeal.τ).loc Cert.ScFwdRefIdeal.main_arg1))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2))
      ∧ r.2.sem = fun _ => 0)

def quiescent_FfnConvDz [hFfnConvDz : Cert.FfnConvDz.Facts] : Prop :=
  ∀ (m : (ℓ : Loc Cert.FfnConvDz.nD Cert.FfnConvDz.τ Cert.FfnConvDz.sig) → Buf (Elt Bits) ℓ) (g : Dev Cert.FfnConvDz.nD → PrngReg), Pre_FfnConvDz m →
    θ_run (Cert.FfnConvDz.defs (F := Bits)) (onTc (τ := Cert.FfnConvDz.τ) (Cert.FfnConvDz.main (F := Bits))) ⟨m, fun _ => 0, g⟩ (fun r => (∀ c : Dev Cert.FfnConvDz.nD,
      r.2.mem ((c.tc : Thread Cert.FfnConvDz.nD Cert.FfnConvDz.τ).loc Cert.FfnConvDz.main_arg0) = m ((c.tc : Thread Cert.FfnConvDz.nD Cert.FfnConvDz.τ).loc Cert.FfnConvDz.main_arg0)
      ∧ r.2.mem ((c.tc : Thread Cert.FfnConvDz.nD Cert.FfnConvDz.τ).loc Cert.FfnConvDz.main_arg1) = m ((c.tc : Thread Cert.FfnConvDz.nD Cert.FfnConvDz.τ).loc Cert.FfnConvDz.main_arg1)
      ∧ r.2.mem ((c.tc : Thread Cert.FfnConvDz.nD Cert.FfnConvDz.τ).loc Cert.FfnConvDz.main_arg2) = m ((c.tc : Thread Cert.FfnConvDz.nD Cert.FfnConvDz.τ).loc Cert.FfnConvDz.main_arg2))
      ∧ r.2.sem = fun _ => 0)

def quiescent_FfnConvDzIdeal [hFfnConvDzIdeal : Cert.FfnConvDzIdeal.Facts] : Prop :=
  ∀ (m : (ℓ : Loc Cert.FfnConvDzIdeal.nD Cert.FfnConvDzIdeal.τ Cert.FfnConvDzIdeal.sig) → Buf (Elt Ideal) ℓ) (g : Dev Cert.FfnConvDzIdeal.nD → PrngReg), Pre_FfnConvDzIdeal m →
    θ_run (Cert.FfnConvDzIdeal.defs (F := Ideal)) (onTc (τ := Cert.FfnConvDzIdeal.τ) (Cert.FfnConvDzIdeal.main (F := Ideal))) ⟨m, fun _ => 0, g⟩ (fun r => (∀ c : Dev Cert.FfnConvDzIdeal.nD,
      r.2.mem ((c.tc : Thread Cert.FfnConvDzIdeal.nD Cert.FfnConvDzIdeal.τ).loc Cert.FfnConvDzIdeal.main_arg0) = m ((c.tc : Thread Cert.FfnConvDzIdeal.nD Cert.FfnConvDzIdeal.τ).loc Cert.FfnConvDzIdeal.main_arg0)
      ∧ r.2.mem ((c.tc : Thread Cert.FfnConvDzIdeal.nD Cert.FfnConvDzIdeal.τ).loc Cert.FfnConvDzIdeal.main_arg1) = m ((c.tc : Thread Cert.FfnConvDzIdeal.nD Cert.FfnConvDzIdeal.τ).loc Cert.FfnConvDzIdeal.main_arg1)
      ∧ r.2.mem ((c.tc : Thread Cert.FfnConvDzIdeal.nD Cert.FfnConvDzIdeal.τ).loc Cert.FfnConvDzIdeal.main_arg2) = m ((c.tc : Thread Cert.FfnConvDzIdeal.nD Cert.FfnConvDzIdeal.τ).loc Cert.FfnConvDzIdeal.main_arg2))
      ∧ r.2.sem = fun _ => 0)

def quiescent_FfnConvDzRefIdeal [hFfnConvDzRefIdeal : Cert.FfnConvDzRefIdeal.Facts] : Prop :=
  ∀ (m : (ℓ : Loc Cert.FfnConvDzRefIdeal.nD Cert.FfnConvDzRefIdeal.τ Cert.FfnConvDzRefIdeal.sig) → Buf (Elt Ideal) ℓ) (g : Dev Cert.FfnConvDzRefIdeal.nD → PrngReg), Pre_FfnConvDzRefIdeal m →
    θ_run (Cert.FfnConvDzRefIdeal.defs (F := Ideal)) (onTc (τ := Cert.FfnConvDzRefIdeal.τ) (Cert.FfnConvDzRefIdeal.main (F := Ideal))) ⟨m, fun _ => 0, g⟩ (fun r => (∀ c : Dev Cert.FfnConvDzRefIdeal.nD,
      r.2.mem ((c.tc : Thread Cert.FfnConvDzRefIdeal.nD Cert.FfnConvDzRefIdeal.τ).loc Cert.FfnConvDzRefIdeal.main_arg0) = m ((c.tc : Thread Cert.FfnConvDzRefIdeal.nD Cert.FfnConvDzRefIdeal.τ).loc Cert.FfnConvDzRefIdeal.main_arg0)
      ∧ r.2.mem ((c.tc : Thread Cert.FfnConvDzRefIdeal.nD Cert.FfnConvDzRefIdeal.τ).loc Cert.FfnConvDzRefIdeal.main_arg1) = m ((c.tc : Thread Cert.FfnConvDzRefIdeal.nD Cert.FfnConvDzRefIdeal.τ).loc Cert.FfnConvDzRefIdeal.main_arg1)
      ∧ r.2.mem ((c.tc : Thread Cert.FfnConvDzRefIdeal.nD Cert.FfnConvDzRefIdeal.τ).loc Cert.FfnConvDzRefIdeal.main_arg2) = m ((c.tc : Thread Cert.FfnConvDzRefIdeal.nD Cert.FfnConvDzRefIdeal.τ).loc Cert.FfnConvDzRefIdeal.main_arg2))
      ∧ r.2.sem = fun _ => 0)

def quiescent_FoxCum [hFoxCum : Cert.FoxCum.Facts] : Prop :=
  ∀ (m : (ℓ : Loc Cert.FoxCum.nD Cert.FoxCum.τ Cert.FoxCum.sig) → Buf (Elt Bits) ℓ) (g : Dev Cert.FoxCum.nD → PrngReg), Pre_FoxCum m →
    θ_run (Cert.FoxCum.defs (F := Bits)) (onTc (τ := Cert.FoxCum.τ) (Cert.FoxCum.main (F := Bits))) ⟨m, fun _ => 0, g⟩ (fun r => (∀ c : Dev Cert.FoxCum.nD,
      r.2.mem ((c.tc : Thread Cert.FoxCum.nD Cert.FoxCum.τ).loc Cert.FoxCum.main_arg0) = m ((c.tc : Thread Cert.FoxCum.nD Cert.FoxCum.τ).loc Cert.FoxCum.main_arg0)
      ∧ r.2.mem ((c.tc : Thread Cert.FoxCum.nD Cert.FoxCum.τ).loc Cert.FoxCum.main_arg1) = m ((c.tc : Thread Cert.FoxCum.nD Cert.FoxCum.τ).loc Cert.FoxCum.main_arg1))
      ∧ r.2.sem = fun _ => 0)

def quiescent_FoxCumIdeal [hFoxCumIdeal : Cert.FoxCumIdeal.Facts] : Prop :=
  ∀ (m : (ℓ : Loc Cert.FoxCumIdeal.nD Cert.FoxCumIdeal.τ Cert.FoxCumIdeal.sig) → Buf (Elt Ideal) ℓ) (g : Dev Cert.FoxCumIdeal.nD → PrngReg), Pre_FoxCumIdeal m →
    θ_run (Cert.FoxCumIdeal.defs (F := Ideal)) (onTc (τ := Cert.FoxCumIdeal.τ) (Cert.FoxCumIdeal.main (F := Ideal))) ⟨m, fun _ => 0, g⟩ (fun r => (∀ c : Dev Cert.FoxCumIdeal.nD,
      r.2.mem ((c.tc : Thread Cert.FoxCumIdeal.nD Cert.FoxCumIdeal.τ).loc Cert.FoxCumIdeal.main_arg0) = m ((c.tc : Thread Cert.FoxCumIdeal.nD Cert.FoxCumIdeal.τ).loc Cert.FoxCumIdeal.main_arg0)
      ∧ r.2.mem ((c.tc : Thread Cert.FoxCumIdeal.nD Cert.FoxCumIdeal.τ).loc Cert.FoxCumIdeal.main_arg1) = m ((c.tc : Thread Cert.FoxCumIdeal.nD Cert.FoxCumIdeal.τ).loc Cert.FoxCumIdeal.main_arg1))
      ∧ r.2.sem = fun _ => 0)

def quiescent_FoxCumRefIdeal [hFoxCumRefIdeal : Cert.FoxCumRefIdeal.Facts] : Prop :=
  ∀ (m : (ℓ : Loc Cert.FoxCumRefIdeal.nD Cert.FoxCumRefIdeal.τ Cert.FoxCumRefIdeal.sig) → Buf (Elt Ideal) ℓ) (g : Dev Cert.FoxCumRefIdeal.nD → PrngReg), Pre_FoxCumRefIdeal m →
    θ_run (Cert.FoxCumRefIdeal.defs (F := Ideal)) (onTc (τ := Cert.FoxCumRefIdeal.τ) (Cert.FoxCumRefIdeal.main (F := Ideal))) ⟨m, fun _ => 0, g⟩ (fun r => (∀ c : Dev Cert.FoxCumRefIdeal.nD,
      r.2.mem ((c.tc : Thread Cert.FoxCumRefIdeal.nD Cert.FoxCumRefIdeal.τ).loc Cert.FoxCumRefIdeal.main_arg0) = m ((c.tc : Thread Cert.FoxCumRefIdeal.nD Cert.FoxCumRefIdeal.τ).loc Cert.FoxCumRefIdeal.main_arg0)
      ∧ r.2.mem ((c.tc : Thread Cert.FoxCumRefIdeal.nD Cert.FoxCumRefIdeal.τ).loc Cert.FoxCumRefIdeal.main_arg1) = m ((c.tc : Thread Cert.FoxCumRefIdeal.nD Cert.FoxCumRefIdeal.τ).loc Cert.FoxCumRefIdeal.main_arg1))
      ∧ r.2.sem = fun _ => 0)

def quiescent_FoxCumBwd [hFoxCumBwd : Cert.FoxCumBwd.Facts] : Prop :=
  ∀ (m : (ℓ : Loc Cert.FoxCumBwd.nD Cert.FoxCumBwd.τ Cert.FoxCumBwd.sig) → Buf (Elt Bits) ℓ) (g : Dev Cert.FoxCumBwd.nD → PrngReg), Pre_FoxCumBwd m →
    θ_run (Cert.FoxCumBwd.defs (F := Bits)) (onTc (τ := Cert.FoxCumBwd.τ) (Cert.FoxCumBwd.main (F := Bits))) ⟨m, fun _ => 0, g⟩ (fun r => (∀ c : Dev Cert.FoxCumBwd.nD,
      r.2.mem ((c.tc : Thread Cert.FoxCumBwd.nD Cert.FoxCumBwd.τ).loc Cert.FoxCumBwd.main_arg0) = m ((c.tc : Thread Cert.FoxCumBwd.nD Cert.FoxCumBwd.τ).loc Cert.FoxCumBwd.main_arg0)
      ∧ r.2.mem ((c.tc : Thread Cert.FoxCumBwd.nD Cert.FoxCumBwd.τ).loc Cert.FoxCumBwd.main_arg1) = m ((c.tc : Thread Cert.FoxCumBwd.nD Cert.FoxCumBwd.τ).loc Cert.FoxCumBwd.main_arg1)
      ∧ r.2.mem ((c.tc : Thread Cert.FoxCumBwd.nD Cert.FoxCumBwd.τ).loc Cert.FoxCumBwd.main_arg2) = m ((c.tc : Thread Cert.FoxCumBwd.nD Cert.FoxCumBwd.τ).loc Cert.FoxCumBwd.main_arg2))
      ∧ r.2.sem = fun _ => 0)

def quiescent_FoxCumBwdIdeal [hFoxCumBwdIdeal : Cert.FoxCumBwdIdeal.Facts] : Prop :=
  ∀ (m : (ℓ : Loc Cert.FoxCumBwdIdeal.nD Cert.FoxCumBwdIdeal.τ Cert.FoxCumBwdIdeal.sig) → Buf (Elt Ideal) ℓ) (g : Dev Cert.FoxCumBwdIdeal.nD → PrngReg), Pre_FoxCumBwdIdeal m →
    θ_run (Cert.FoxCumBwdIdeal.defs (F := Ideal)) (onTc (τ := Cert.FoxCumBwdIdeal.τ) (Cert.FoxCumBwdIdeal.main (F := Ideal))) ⟨m, fun _ => 0, g⟩ (fun r => (∀ c : Dev Cert.FoxCumBwdIdeal.nD,
      r.2.mem ((c.tc : Thread Cert.FoxCumBwdIdeal.nD Cert.FoxCumBwdIdeal.τ).loc Cert.FoxCumBwdIdeal.main_arg0) = m ((c.tc : Thread Cert.FoxCumBwdIdeal.nD Cert.FoxCumBwdIdeal.τ).loc Cert.FoxCumBwdIdeal.main_arg0)
      ∧ r.2.mem ((c.tc : Thread Cert.FoxCumBwdIdeal.nD Cert.FoxCumBwdIdeal.τ).loc Cert.FoxCumBwdIdeal.main_arg1) = m ((c.tc : Thread Cert.FoxCumBwdIdeal.nD Cert.FoxCumBwdIdeal.τ).loc Cert.FoxCumBwdIdeal.main_arg1)
      ∧ r.2.mem ((c.tc : Thread Cert.FoxCumBwdIdeal.nD Cert.FoxCumBwdIdeal.τ).loc Cert.FoxCumBwdIdeal.main_arg2) = m ((c.tc : Thread Cert.FoxCumBwdIdeal.nD Cert.FoxCumBwdIdeal.τ).loc Cert.FoxCumBwdIdeal.main_arg2))
      ∧ r.2.sem = fun _ => 0)

def quiescent_FoxCumBwdRefIdeal [hFoxCumBwdRefIdeal : Cert.FoxCumBwdRefIdeal.Facts] : Prop :=
  ∀ (m : (ℓ : Loc Cert.FoxCumBwdRefIdeal.nD Cert.FoxCumBwdRefIdeal.τ Cert.FoxCumBwdRefIdeal.sig) → Buf (Elt Ideal) ℓ) (g : Dev Cert.FoxCumBwdRefIdeal.nD → PrngReg), Pre_FoxCumBwdRefIdeal m →
    θ_run (Cert.FoxCumBwdRefIdeal.defs (F := Ideal)) (onTc (τ := Cert.FoxCumBwdRefIdeal.τ) (Cert.FoxCumBwdRefIdeal.main (F := Ideal))) ⟨m, fun _ => 0, g⟩ (fun r => (∀ c : Dev Cert.FoxCumBwdRefIdeal.nD,
      r.2.mem ((c.tc : Thread Cert.FoxCumBwdRefIdeal.nD Cert.FoxCumBwdRefIdeal.τ).loc Cert.FoxCumBwdRefIdeal.main_arg0) = m ((c.tc : Thread Cert.FoxCumBwdRefIdeal.nD Cert.FoxCumBwdRefIdeal.τ).loc Cert.FoxCumBwdRefIdeal.main_arg0)
      ∧ r.2.mem ((c.tc : Thread Cert.FoxCumBwdRefIdeal.nD Cert.FoxCumBwdRefIdeal.τ).loc Cert.FoxCumBwdRefIdeal.main_arg1) = m ((c.tc : Thread Cert.FoxCumBwdRefIdeal.nD Cert.FoxCumBwdRefIdeal.τ).loc Cert.FoxCumBwdRefIdeal.main_arg1)
      ∧ r.2.mem ((c.tc : Thread Cert.FoxCumBwdRefIdeal.nD Cert.FoxCumBwdRefIdeal.τ).loc Cert.FoxCumBwdRefIdeal.main_arg2) = m ((c.tc : Thread Cert.FoxCumBwdRefIdeal.nD Cert.FoxCumBwdRefIdeal.τ).loc Cert.FoxCumBwdRefIdeal.main_arg2))
      ∧ r.2.sem = fun _ => 0)

def quiescent_Lb [hLb : Cert.Lb.Facts] : Prop :=
  ∀ (m : (ℓ : Loc Cert.Lb.nD Cert.Lb.τ Cert.Lb.sig) → Buf (Elt Bits) ℓ) (g : Dev Cert.Lb.nD → PrngReg), Pre_Lb m →
    θ_run (Cert.Lb.defs (F := Bits)) (onTc (τ := Cert.Lb.τ) (Cert.Lb.main (F := Bits))) ⟨m, fun _ => 0, g⟩ (fun r => (∀ c : Dev Cert.Lb.nD,
      r.2.mem ((c.tc : Thread Cert.Lb.nD Cert.Lb.τ).loc Cert.Lb.main_arg0) = m ((c.tc : Thread Cert.Lb.nD Cert.Lb.τ).loc Cert.Lb.main_arg0))
      ∧ r.2.sem = fun _ => 0)

def quiescent_LbIdeal [hLbIdeal : Cert.LbIdeal.Facts] : Prop :=
  ∀ (m : (ℓ : Loc Cert.LbIdeal.nD Cert.LbIdeal.τ Cert.LbIdeal.sig) → Buf (Elt Ideal) ℓ) (g : Dev Cert.LbIdeal.nD → PrngReg), Pre_LbIdeal m →
    θ_run (Cert.LbIdeal.defs (F := Ideal)) (onTc (τ := Cert.LbIdeal.τ) (Cert.LbIdeal.main (F := Ideal))) ⟨m, fun _ => 0, g⟩ (fun r => (∀ c : Dev Cert.LbIdeal.nD,
      r.2.mem ((c.tc : Thread Cert.LbIdeal.nD Cert.LbIdeal.τ).loc Cert.LbIdeal.main_arg0) = m ((c.tc : Thread Cert.LbIdeal.nD Cert.LbIdeal.τ).loc Cert.LbIdeal.main_arg0))
      ∧ r.2.sem = fun _ => 0)

def quiescent_LbRefIdeal [hLbRefIdeal : Cert.LbRefIdeal.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0))
      ∧ r.2.sem = fun _ => 0)

def quiescent_LbBwd [hLbBwd : Cert.LbBwd.Facts] : Prop :=
  ∀ (m : (ℓ : Loc Cert.LbBwd.nD Cert.LbBwd.τ Cert.LbBwd.sig) → Buf (Elt Bits) ℓ) (g : Dev Cert.LbBwd.nD → PrngReg), Pre_LbBwd m →
    θ_run (Cert.LbBwd.defs (F := Bits)) (onTc (τ := Cert.LbBwd.τ) (Cert.LbBwd.main (F := Bits))) ⟨m, fun _ => 0, g⟩ (fun r => (∀ c : Dev Cert.LbBwd.nD,
      r.2.mem ((c.tc : Thread Cert.LbBwd.nD Cert.LbBwd.τ).loc Cert.LbBwd.main_arg0) = m ((c.tc : Thread Cert.LbBwd.nD Cert.LbBwd.τ).loc Cert.LbBwd.main_arg0)
      ∧ r.2.mem ((c.tc : Thread Cert.LbBwd.nD Cert.LbBwd.τ).loc Cert.LbBwd.main_arg1) = m ((c.tc : Thread Cert.LbBwd.nD Cert.LbBwd.τ).loc Cert.LbBwd.main_arg1))
      ∧ r.2.sem = fun _ => 0)

def quiescent_LbBwdIdeal [hLbBwdIdeal : Cert.LbBwdIdeal.Facts] : Prop :=
  ∀ (m : (ℓ : Loc Cert.LbBwdIdeal.nD Cert.LbBwdIdeal.τ Cert.LbBwdIdeal.sig) → Buf (Elt Ideal) ℓ) (g : Dev Cert.LbBwdIdeal.nD → PrngReg), Pre_LbBwdIdeal m →
    θ_run (Cert.LbBwdIdeal.defs (F := Ideal)) (onTc (τ := Cert.LbBwdIdeal.τ) (Cert.LbBwdIdeal.main (F := Ideal))) ⟨m, fun _ => 0, g⟩ (fun r => (∀ c : Dev Cert.LbBwdIdeal.nD,
      r.2.mem ((c.tc : Thread Cert.LbBwdIdeal.nD Cert.LbBwdIdeal.τ).loc Cert.LbBwdIdeal.main_arg0) = m ((c.tc : Thread Cert.LbBwdIdeal.nD Cert.LbBwdIdeal.τ).loc Cert.LbBwdIdeal.main_arg0)
      ∧ r.2.mem ((c.tc : Thread Cert.LbBwdIdeal.nD Cert.LbBwdIdeal.τ).loc Cert.LbBwdIdeal.main_arg1) = m ((c.tc : Thread Cert.LbBwdIdeal.nD Cert.LbBwdIdeal.τ).loc Cert.LbBwdIdeal.main_arg1))
      ∧ r.2.sem = fun _ => 0)

def quiescent_LbBwdRefIdeal [hLbBwdRefIdeal : Cert.LbBwdRefIdeal.Facts] : Prop :=
  ∀ (m : (ℓ : Loc Cert.LbBwdRefIdeal.nD Cert.LbBwdRefIdeal.τ Cert.LbBwdRefIdeal.sig) → Buf (Elt Ideal) ℓ) (g : Dev Cert.LbBwdRefIdeal.nD → PrngReg), Pre_LbBwdRefIdeal m →
    θ_run (Cert.LbBwdRefIdeal.defs (F := Ideal)) (onTc (τ := Cert.LbBwdRefIdeal.τ) (Cert.LbBwdRefIdeal.main (F := Ideal))) ⟨m, fun _ => 0, g⟩ (fun r => (∀ c : Dev Cert.LbBwdRefIdeal.nD,
      r.2.mem ((c.tc : Thread Cert.LbBwdRefIdeal.nD Cert.LbBwdRefIdeal.τ).loc Cert.LbBwdRefIdeal.main_arg0) = m ((c.tc : Thread Cert.LbBwdRefIdeal.nD Cert.LbBwdRefIdeal.τ).loc Cert.LbBwdRefIdeal.main_arg0)
      ∧ r.2.mem ((c.tc : Thread Cert.LbBwdRefIdeal.nD Cert.LbBwdRefIdeal.τ).loc Cert.LbBwdRefIdeal.main_arg1) = m ((c.tc : Thread Cert.LbBwdRefIdeal.nD Cert.LbBwdRefIdeal.τ).loc Cert.LbBwdRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_UpDh_UpDhIdeal : Prop :=
  True

def algebraic_UpDhIdeal_UpDhRefIdeal [hUpDhIdeal : Cert.UpDhIdeal.Facts] [hUpDhRefIdeal : Cert.UpDhRefIdeal.Facts] : Prop :=
  ∀ (m : (ℓ : Loc Cert.UpDhIdeal.nD Cert.UpDhIdeal.τ Cert.UpDhIdeal.sig) → Buf (Elt Ideal) ℓ) (g : Dev Cert.UpDhIdeal.nD → PrngReg)
    (m' : (ℓ : Loc Cert.UpDhRefIdeal.nD Cert.UpDhRefIdeal.τ Cert.UpDhRefIdeal.sig) → Buf (Elt Ideal) ℓ) (g' : Dev Cert.UpDhRefIdeal.nD → PrngReg), Pre_UpDhIdeal m →
    (∀ c : Dev Cert.UpDhIdeal.nD,
      m' ((c.tc : Thread Cert.UpDhRefIdeal.nD Cert.UpDhRefIdeal.τ).loc Cert.UpDhRefIdeal.main_arg0) = m ((c.tc : Thread Cert.UpDhIdeal.nD Cert.UpDhIdeal.τ).loc Cert.UpDhIdeal.main_arg0)
      ∧ m' ((c.tc : Thread Cert.UpDhRefIdeal.nD Cert.UpDhRefIdeal.τ).loc Cert.UpDhRefIdeal.main_arg1) = m ((c.tc : Thread Cert.UpDhIdeal.nD Cert.UpDhIdeal.τ).loc Cert.UpDhIdeal.main_arg1)
      ∧ m' ((c.tc : Thread Cert.UpDhRefIdeal.nD Cert.UpDhRefIdeal.τ).loc Cert.UpDhRefIdeal.main_arg2) = m ((c.tc : Thread Cert.UpDhIdeal.nD Cert.UpDhIdeal.τ).loc Cert.UpDhIdeal.main_arg2)) →
    ∃ (v0 : (c : Dev Cert.UpDhIdeal.nD) → Buf (Elt Ideal) ((c.tc : Thread Cert.UpDhIdeal.nD Cert.UpDhIdeal.τ).loc Cert.UpDhIdeal.main_v0)),
      θ_run (Cert.UpDhIdeal.defs (F := Ideal)) (onTc (τ := Cert.UpDhIdeal.τ) (Cert.UpDhIdeal.main (F := Ideal))) ⟨m, fun _ => 0, g⟩ (fun r => ∀ c : Dev Cert.UpDhIdeal.nD,
          r.2.mem ((c.tc : Thread Cert.UpDhIdeal.nD Cert.UpDhIdeal.τ).loc Cert.UpDhIdeal.main_v0) = v0 c
          ∧ r.2.mem ((c.tc : Thread Cert.UpDhIdeal.nD Cert.UpDhIdeal.τ).loc Cert.UpDhIdeal.main_arg0) = m ((c.tc : Thread Cert.UpDhIdeal.nD Cert.UpDhIdeal.τ).loc Cert.UpDhIdeal.main_arg0)
          ∧ r.2.mem ((c.tc : Thread Cert.UpDhIdeal.nD Cert.UpDhIdeal.τ).loc Cert.UpDhIdeal.main_arg1) = m ((c.tc : Thread Cert.UpDhIdeal.nD Cert.UpDhIdeal.τ).loc Cert.UpDhIdeal.main_arg1)
          ∧ r.2.mem ((c.tc : Thread Cert.UpDhIdeal.nD Cert.UpDhIdeal.τ).loc Cert.UpDhIdeal.main_arg2) = m ((c.tc : Thread Cert.UpDhIdeal.nD Cert.UpDhIdeal.τ).loc Cert.UpDhIdeal.main_arg2))
      ∧ θ_run (Cert.UpDhRefIdeal.defs (F := Ideal)) (onTc (τ := Cert.UpDhRefIdeal.τ) (Cert.UpDhRefIdeal.main (F := Ideal))) ⟨m', fun _ => 0, g'⟩ (fun r => ∀ c : Dev Cert.UpDhRefIdeal.nD,
          r.2.mem ((c.tc : Thread Cert.UpDhRefIdeal.nD Cert.UpDhRefIdeal.τ).loc Cert.UpDhRefIdeal.main_v8) = v0 c
          ∧ r.2.mem ((c.tc : Thread Cert.UpDhRefIdeal.nD Cert.UpDhRefIdeal.τ).loc Cert.UpDhRefIdeal.main_arg0) = m' ((c.tc : Thread Cert.UpDhRefIdeal.nD Cert.UpDhRefIdeal.τ).loc Cert.UpDhRefIdeal.main_arg0)
          ∧ r.2.mem ((c.tc : Thread Cert.UpDhRefIdeal.nD Cert.UpDhRefIdeal.τ).loc Cert.UpDhRefIdeal.main_arg1) = m' ((c.tc : Thread Cert.UpDhRefIdeal.nD Cert.UpDhRefIdeal.τ).loc Cert.UpDhRefIdeal.main_arg1)
          ∧ r.2.mem ((c.tc : Thread Cert.UpDhRefIdeal.nD Cert.UpDhRefIdeal.τ).loc Cert.UpDhRefIdeal.main_arg2) = m' ((c.tc : Thread Cert.UpDhRefIdeal.nD Cert.UpDhRefIdeal.τ).loc Cert.UpDhRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v7) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownDh_DownDhIdeal : Prop :=
  True

def algebraic_DownDhIdeal_DownDhRefIdeal [hDownDhIdeal : Cert.DownDhIdeal.Facts] [hDownDhRefIdeal : Cert.DownDhRefIdeal.Facts] : Prop :=
  ∀ (m : (ℓ : Loc Cert.DownDhIdeal.nD Cert.DownDhIdeal.τ Cert.DownDhIdeal.sig) → Buf (Elt Ideal) ℓ) (g : Dev Cert.DownDhIdeal.nD → PrngReg)
    (m' : (ℓ : Loc Cert.DownDhRefIdeal.nD Cert.DownDhRefIdeal.τ Cert.DownDhRefIdeal.sig) → Buf (Elt Ideal) ℓ) (g' : Dev Cert.DownDhRefIdeal.nD → PrngReg), Pre_DownDhIdeal m →
    (∀ c : Dev Cert.DownDhIdeal.nD,
      m' ((c.tc : Thread Cert.DownDhRefIdeal.nD Cert.DownDhRefIdeal.τ).loc Cert.DownDhRefIdeal.main_arg0) = m ((c.tc : Thread Cert.DownDhIdeal.nD Cert.DownDhIdeal.τ).loc Cert.DownDhIdeal.main_arg0)
      ∧ m' ((c.tc : Thread Cert.DownDhRefIdeal.nD Cert.DownDhRefIdeal.τ).loc Cert.DownDhRefIdeal.main_arg1) = m ((c.tc : Thread Cert.DownDhIdeal.nD Cert.DownDhIdeal.τ).loc Cert.DownDhIdeal.main_arg1)
      ∧ m' ((c.tc : Thread Cert.DownDhRefIdeal.nD Cert.DownDhRefIdeal.τ).loc Cert.DownDhRefIdeal.main_arg2) = m ((c.tc : Thread Cert.DownDhIdeal.nD Cert.DownDhIdeal.τ).loc Cert.DownDhIdeal.main_arg2)) →
    ∃ (v0 : (c : Dev Cert.DownDhIdeal.nD) → Buf (Elt Ideal) ((c.tc : Thread Cert.DownDhIdeal.nD Cert.DownDhIdeal.τ).loc Cert.DownDhIdeal.main_v0)),
      θ_run (Cert.DownDhIdeal.defs (F := Ideal)) (onTc (τ := Cert.DownDhIdeal.τ) (Cert.DownDhIdeal.main (F := Ideal))) ⟨m, fun _ => 0, g⟩ (fun r => ∀ c : Dev Cert.DownDhIdeal.nD,
          r.2.mem ((c.tc : Thread Cert.DownDhIdeal.nD Cert.DownDhIdeal.τ).loc Cert.DownDhIdeal.main_v0) = v0 c
          ∧ r.2.mem ((c.tc : Thread Cert.DownDhIdeal.nD Cert.DownDhIdeal.τ).loc Cert.DownDhIdeal.main_arg0) = m ((c.tc : Thread Cert.DownDhIdeal.nD Cert.DownDhIdeal.τ).loc Cert.DownDhIdeal.main_arg0)
          ∧ r.2.mem ((c.tc : Thread Cert.DownDhIdeal.nD Cert.DownDhIdeal.τ).loc Cert.DownDhIdeal.main_arg1) = m ((c.tc : Thread Cert.DownDhIdeal.nD Cert.DownDhIdeal.τ).loc Cert.DownDhIdeal.main_arg1)
          ∧ r.2.mem ((c.tc : Thread Cert.DownDhIdeal.nD Cert.DownDhIdeal.τ).loc Cert.DownDhIdeal.main_arg2) = m ((c.tc : Thread Cert.DownDhIdeal.nD Cert.DownDhIdeal.τ).loc Cert.DownDhIdeal.main_arg2))
      ∧ θ_run (Cert.DownDhRefIdeal.defs (F := Ideal)) (onTc (τ := Cert.DownDhRefIdeal.τ) (Cert.DownDhRefIdeal.main (F := Ideal))) ⟨m', fun _ => 0, g'⟩ (fun r => ∀ c : Dev Cert.DownDhRefIdeal.nD,
          r.2.mem ((c.tc : Thread Cert.DownDhRefIdeal.nD Cert.DownDhRefIdeal.τ).loc Cert.DownDhRefIdeal.main_v8) = v0 c
          ∧ r.2.mem ((c.tc : Thread Cert.DownDhRefIdeal.nD Cert.DownDhRefIdeal.τ).loc Cert.DownDhRefIdeal.main_arg0) = m' ((c.tc : Thread Cert.DownDhRefIdeal.nD Cert.DownDhRefIdeal.τ).loc Cert.DownDhRefIdeal.main_arg0)
          ∧ r.2.mem ((c.tc : Thread Cert.DownDhRefIdeal.nD Cert.DownDhRefIdeal.τ).loc Cert.DownDhRefIdeal.main_arg1) = m' ((c.tc : Thread Cert.DownDhRefIdeal.nD Cert.DownDhRefIdeal.τ).loc Cert.DownDhRefIdeal.main_arg1)
          ∧ r.2.mem ((c.tc : Thread Cert.DownDhRefIdeal.nD Cert.DownDhRefIdeal.τ).loc Cert.DownDhRefIdeal.main_arg2) = m' ((c.tc : Thread Cert.DownDhRefIdeal.nD Cert.DownDhRefIdeal.τ).loc Cert.DownDhRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v7) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_OutDh_OutDhIdeal : Prop :=
  True

def algebraic_OutDhIdeal_OutDhRefIdeal [hOutDhIdeal : Cert.OutDhIdeal.Facts] [hOutDhRefIdeal : Cert.OutDhRefIdeal.Facts] : Prop :=
  ∀ (m : (ℓ : Loc Cert.OutDhIdeal.nD Cert.OutDhIdeal.τ Cert.OutDhIdeal.sig) → Buf (Elt Ideal) ℓ) (g : Dev Cert.OutDhIdeal.nD → PrngReg)
    (m' : (ℓ : Loc Cert.OutDhRefIdeal.nD Cert.OutDhRefIdeal.τ Cert.OutDhRefIdeal.sig) → Buf (Elt Ideal) ℓ) (g' : Dev Cert.OutDhRefIdeal.nD → PrngReg), Pre_OutDhIdeal m →
    (∀ c : Dev Cert.OutDhIdeal.nD,
      m' ((c.tc : Thread Cert.OutDhRefIdeal.nD Cert.OutDhRefIdeal.τ).loc Cert.OutDhRefIdeal.main_arg0) = m ((c.tc : Thread Cert.OutDhIdeal.nD Cert.OutDhIdeal.τ).loc Cert.OutDhIdeal.main_arg0)
      ∧ m' ((c.tc : Thread Cert.OutDhRefIdeal.nD Cert.OutDhRefIdeal.τ).loc Cert.OutDhRefIdeal.main_arg1) = m ((c.tc : Thread Cert.OutDhIdeal.nD Cert.OutDhIdeal.τ).loc Cert.OutDhIdeal.main_arg1)
      ∧ m' ((c.tc : Thread Cert.OutDhRefIdeal.nD Cert.OutDhRefIdeal.τ).loc Cert.OutDhRefIdeal.main_arg2) = m ((c.tc : Thread Cert.OutDhIdeal.nD Cert.OutDhIdeal.τ).loc Cert.OutDhIdeal.main_arg2)) →
    ∃ (v0 : (c : Dev Cert.OutDhIdeal.nD) → Buf (Elt Ideal) ((c.tc : Thread Cert.OutDhIdeal.nD Cert.OutDhIdeal.τ).loc Cert.OutDhIdeal.main_v0)),
      θ_run (Cert.OutDhIdeal.defs (F := Ideal)) (onTc (τ := Cert.OutDhIdeal.τ) (Cert.OutDhIdeal.main (F := Ideal))) ⟨m, fun _ => 0, g⟩ (fun r => ∀ c : Dev Cert.OutDhIdeal.nD,
          r.2.mem ((c.tc : Thread Cert.OutDhIdeal.nD Cert.OutDhIdeal.τ).loc Cert.OutDhIdeal.main_v0) = v0 c
          ∧ r.2.mem ((c.tc : Thread Cert.OutDhIdeal.nD Cert.OutDhIdeal.τ).loc Cert.OutDhIdeal.main_arg0) = m ((c.tc : Thread Cert.OutDhIdeal.nD Cert.OutDhIdeal.τ).loc Cert.OutDhIdeal.main_arg0)
          ∧ r.2.mem ((c.tc : Thread Cert.OutDhIdeal.nD Cert.OutDhIdeal.τ).loc Cert.OutDhIdeal.main_arg1) = m ((c.tc : Thread Cert.OutDhIdeal.nD Cert.OutDhIdeal.τ).loc Cert.OutDhIdeal.main_arg1)
          ∧ r.2.mem ((c.tc : Thread Cert.OutDhIdeal.nD Cert.OutDhIdeal.τ).loc Cert.OutDhIdeal.main_arg2) = m ((c.tc : Thread Cert.OutDhIdeal.nD Cert.OutDhIdeal.τ).loc Cert.OutDhIdeal.main_arg2))
      ∧ θ_run (Cert.OutDhRefIdeal.defs (F := Ideal)) (onTc (τ := Cert.OutDhRefIdeal.τ) (Cert.OutDhRefIdeal.main (F := Ideal))) ⟨m', fun _ => 0, g'⟩ (fun r => ∀ c : Dev Cert.OutDhRefIdeal.nD,
          r.2.mem ((c.tc : Thread Cert.OutDhRefIdeal.nD Cert.OutDhRefIdeal.τ).loc Cert.OutDhRefIdeal.main_v8) = v0 c
          ∧ r.2.mem ((c.tc : Thread Cert.OutDhRefIdeal.nD Cert.OutDhRefIdeal.τ).loc Cert.OutDhRefIdeal.main_arg0) = m' ((c.tc : Thread Cert.OutDhRefIdeal.nD Cert.OutDhRefIdeal.τ).loc Cert.OutDhRefIdeal.main_arg0)
          ∧ r.2.mem ((c.tc : Thread Cert.OutDhRefIdeal.nD Cert.OutDhRefIdeal.τ).loc Cert.OutDhRefIdeal.main_arg1) = m' ((c.tc : Thread Cert.OutDhRefIdeal.nD Cert.OutDhRefIdeal.τ).loc Cert.OutDhRefIdeal.main_arg1)
          ∧ r.2.mem ((c.tc : Thread Cert.OutDhRefIdeal.nD Cert.OutDhRefIdeal.τ).loc Cert.OutDhRefIdeal.main_arg2) = m' ((c.tc : Thread Cert.OutDhRefIdeal.nD Cert.OutDhRefIdeal.τ).loc Cert.OutDhRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v7) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_Hgrn_HgrnIdeal : Prop :=
  True

def algebraic_HgrnIdeal_HgrnRefIdeal [hHgrnIdeal : Cert.HgrnIdeal.Facts] [hHgrnRefIdeal : Cert.HgrnRefIdeal.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)) →
    ∃ (v0 : (c : Dev Cert.HgrnIdeal.nD) → Buf (Elt Ideal) ((c.tc : Thread Cert.HgrnIdeal.nD Cert.HgrnIdeal.τ).loc Cert.HgrnIdeal.main_v0)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v0) = v0 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v3) = v0 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1))

def preserves_HgrnDh_HgrnDhIdeal : Prop :=
  True

def algebraic_HgrnDhIdeal_HgrnDhRefIdeal [hHgrnDhIdeal : Cert.HgrnDhIdeal.Facts] [hHgrnDhRefIdeal : Cert.HgrnDhRefIdeal.Facts] : Prop :=
  ∀ (m : (ℓ : Loc Cert.HgrnDhIdeal.nD Cert.HgrnDhIdeal.τ Cert.HgrnDhIdeal.sig) → Buf (Elt Ideal) ℓ) (g : Dev Cert.HgrnDhIdeal.nD → PrngReg)
    (m' : (ℓ : Loc Cert.HgrnDhRefIdeal.nD Cert.HgrnDhRefIdeal.τ Cert.HgrnDhRefIdeal.sig) → Buf (Elt Ideal) ℓ) (g' : Dev Cert.HgrnDhRefIdeal.nD → PrngReg), Pre_HgrnDhIdeal m →
    (∀ c : Dev Cert.HgrnDhIdeal.nD,
      m' ((c.tc : Thread Cert.HgrnDhRefIdeal.nD Cert.HgrnDhRefIdeal.τ).loc Cert.HgrnDhRefIdeal.main_arg0) = m ((c.tc : Thread Cert.HgrnDhIdeal.nD Cert.HgrnDhIdeal.τ).loc Cert.HgrnDhIdeal.main_arg0)
      ∧ m' ((c.tc : Thread Cert.HgrnDhRefIdeal.nD Cert.HgrnDhRefIdeal.τ).loc Cert.HgrnDhRefIdeal.main_arg1) = m ((c.tc : Thread Cert.HgrnDhIdeal.nD Cert.HgrnDhIdeal.τ).loc Cert.HgrnDhIdeal.main_arg1)
      ∧ m' ((c.tc : Thread Cert.HgrnDhRefIdeal.nD Cert.HgrnDhRefIdeal.τ).loc Cert.HgrnDhRefIdeal.main_arg2) = m ((c.tc : Thread Cert.HgrnDhIdeal.nD Cert.HgrnDhIdeal.τ).loc Cert.HgrnDhIdeal.main_arg2)) →
    ∃ (v0 : (c : Dev Cert.HgrnDhIdeal.nD) → Buf (Elt Ideal) ((c.tc : Thread Cert.HgrnDhIdeal.nD Cert.HgrnDhIdeal.τ).loc Cert.HgrnDhIdeal.main_v0)),
      θ_run (Cert.HgrnDhIdeal.defs (F := Ideal)) (onTc (τ := Cert.HgrnDhIdeal.τ) (Cert.HgrnDhIdeal.main (F := Ideal))) ⟨m, fun _ => 0, g⟩ (fun r => ∀ c : Dev Cert.HgrnDhIdeal.nD,
          r.2.mem ((c.tc : Thread Cert.HgrnDhIdeal.nD Cert.HgrnDhIdeal.τ).loc Cert.HgrnDhIdeal.main_v0) = v0 c
          ∧ r.2.mem ((c.tc : Thread Cert.HgrnDhIdeal.nD Cert.HgrnDhIdeal.τ).loc Cert.HgrnDhIdeal.main_arg0) = m ((c.tc : Thread Cert.HgrnDhIdeal.nD Cert.HgrnDhIdeal.τ).loc Cert.HgrnDhIdeal.main_arg0)
          ∧ r.2.mem ((c.tc : Thread Cert.HgrnDhIdeal.nD Cert.HgrnDhIdeal.τ).loc Cert.HgrnDhIdeal.main_arg1) = m ((c.tc : Thread Cert.HgrnDhIdeal.nD Cert.HgrnDhIdeal.τ).loc Cert.HgrnDhIdeal.main_arg1)
          ∧ r.2.mem ((c.tc : Thread Cert.HgrnDhIdeal.nD Cert.HgrnDhIdeal.τ).loc Cert.HgrnDhIdeal.main_arg2) = m ((c.tc : Thread Cert.HgrnDhIdeal.nD Cert.HgrnDhIdeal.τ).loc Cert.HgrnDhIdeal.main_arg2))
      ∧ θ_run (Cert.HgrnDhRefIdeal.defs (F := Ideal)) (onTc (τ := Cert.HgrnDhRefIdeal.τ) (Cert.HgrnDhRefIdeal.main (F := Ideal))) ⟨m', fun _ => 0, g'⟩ (fun r => ∀ c : Dev Cert.HgrnDhRefIdeal.nD,
          r.2.mem ((c.tc : Thread Cert.HgrnDhRefIdeal.nD Cert.HgrnDhRefIdeal.τ).loc Cert.HgrnDhRefIdeal.main_v8) = v0 c
          ∧ r.2.mem ((c.tc : Thread Cert.HgrnDhRefIdeal.nD Cert.HgrnDhRefIdeal.τ).loc Cert.HgrnDhRefIdeal.main_arg0) = m' ((c.tc : Thread Cert.HgrnDhRefIdeal.nD Cert.HgrnDhRefIdeal.τ).loc Cert.HgrnDhRefIdeal.main_arg0)
          ∧ r.2.mem ((c.tc : Thread Cert.HgrnDhRefIdeal.nD Cert.HgrnDhRefIdeal.τ).loc Cert.HgrnDhRefIdeal.main_arg1) = m' ((c.tc : Thread Cert.HgrnDhRefIdeal.nD Cert.HgrnDhRefIdeal.τ).loc Cert.HgrnDhRefIdeal.main_arg1)
          ∧ r.2.mem ((c.tc : Thread Cert.HgrnDhRefIdeal.nD Cert.HgrnDhRefIdeal.τ).loc Cert.HgrnDhRefIdeal.main_arg2) = m' ((c.tc : Thread Cert.HgrnDhRefIdeal.nD Cert.HgrnDhRefIdeal.τ).loc Cert.HgrnDhRefIdeal.main_arg2))

def preserves_HgrnDw_HgrnDwIdeal : Prop :=
  True

def algebraic_HgrnDwIdeal_HgrnDwRefIdeal [hHgrnDwIdeal : Cert.HgrnDwIdeal.Facts] [hHgrnDwRefIdeal : Cert.HgrnDwRefIdeal.Facts] : Prop :=
  ∀ (m : (ℓ : Loc Cert.HgrnDwIdeal.nD Cert.HgrnDwIdeal.τ Cert.HgrnDwIdeal.sig) → Buf (Elt Ideal) ℓ) (g : Dev Cert.HgrnDwIdeal.nD → PrngReg)
    (m' : (ℓ : Loc Cert.HgrnDwRefIdeal.nD Cert.HgrnDwRefIdeal.τ Cert.HgrnDwRefIdeal.sig) → Buf (Elt Ideal) ℓ) (g' : Dev Cert.HgrnDwRefIdeal.nD → PrngReg), Pre_HgrnDwIdeal m →
    (∀ c : Dev Cert.HgrnDwIdeal.nD,
      m' ((c.tc : Thread Cert.HgrnDwRefIdeal.nD Cert.HgrnDwRefIdeal.τ).loc Cert.HgrnDwRefIdeal.main_arg0) = m ((c.tc : Thread Cert.HgrnDwIdeal.nD Cert.HgrnDwIdeal.τ).loc Cert.HgrnDwIdeal.main_arg0)
      ∧ m' ((c.tc : Thread Cert.HgrnDwRefIdeal.nD Cert.HgrnDwRefIdeal.τ).loc Cert.HgrnDwRefIdeal.main_arg1) = m ((c.tc : Thread Cert.HgrnDwIdeal.nD Cert.HgrnDwIdeal.τ).loc Cert.HgrnDwIdeal.main_arg1)
      ∧ m' ((c.tc : Thread Cert.HgrnDwRefIdeal.nD Cert.HgrnDwRefIdeal.τ).loc Cert.HgrnDwRefIdeal.main_arg2) = m ((c.tc : Thread Cert.HgrnDwIdeal.nD Cert.HgrnDwIdeal.τ).loc Cert.HgrnDwIdeal.main_arg2)) →
    ∃ (v0 : (c : Dev Cert.HgrnDwIdeal.nD) → Buf (Elt Ideal) ((c.tc : Thread Cert.HgrnDwIdeal.nD Cert.HgrnDwIdeal.τ).loc Cert.HgrnDwIdeal.main_v0)),
      θ_run (Cert.HgrnDwIdeal.defs (F := Ideal)) (onTc (τ := Cert.HgrnDwIdeal.τ) (Cert.HgrnDwIdeal.main (F := Ideal))) ⟨m, fun _ => 0, g⟩ (fun r => ∀ c : Dev Cert.HgrnDwIdeal.nD,
          r.2.mem ((c.tc : Thread Cert.HgrnDwIdeal.nD Cert.HgrnDwIdeal.τ).loc Cert.HgrnDwIdeal.main_v0) = v0 c
          ∧ r.2.mem ((c.tc : Thread Cert.HgrnDwIdeal.nD Cert.HgrnDwIdeal.τ).loc Cert.HgrnDwIdeal.main_arg0) = m ((c.tc : Thread Cert.HgrnDwIdeal.nD Cert.HgrnDwIdeal.τ).loc Cert.HgrnDwIdeal.main_arg0)
          ∧ r.2.mem ((c.tc : Thread Cert.HgrnDwIdeal.nD Cert.HgrnDwIdeal.τ).loc Cert.HgrnDwIdeal.main_arg1) = m ((c.tc : Thread Cert.HgrnDwIdeal.nD Cert.HgrnDwIdeal.τ).loc Cert.HgrnDwIdeal.main_arg1)
          ∧ r.2.mem ((c.tc : Thread Cert.HgrnDwIdeal.nD Cert.HgrnDwIdeal.τ).loc Cert.HgrnDwIdeal.main_arg2) = m ((c.tc : Thread Cert.HgrnDwIdeal.nD Cert.HgrnDwIdeal.τ).loc Cert.HgrnDwIdeal.main_arg2))
      ∧ θ_run (Cert.HgrnDwRefIdeal.defs (F := Ideal)) (onTc (τ := Cert.HgrnDwRefIdeal.τ) (Cert.HgrnDwRefIdeal.main (F := Ideal))) ⟨m', fun _ => 0, g'⟩ (fun r => ∀ c : Dev Cert.HgrnDwRefIdeal.nD,
          r.2.mem ((c.tc : Thread Cert.HgrnDwRefIdeal.nD Cert.HgrnDwRefIdeal.τ).loc Cert.HgrnDwRefIdeal.main_v7) = v0 c
          ∧ r.2.mem ((c.tc : Thread Cert.HgrnDwRefIdeal.nD Cert.HgrnDwRefIdeal.τ).loc Cert.HgrnDwRefIdeal.main_arg0) = m' ((c.tc : Thread Cert.HgrnDwRefIdeal.nD Cert.HgrnDwRefIdeal.τ).loc Cert.HgrnDwRefIdeal.main_arg0)
          ∧ r.2.mem ((c.tc : Thread Cert.HgrnDwRefIdeal.nD Cert.HgrnDwRefIdeal.τ).loc Cert.HgrnDwRefIdeal.main_arg1) = m' ((c.tc : Thread Cert.HgrnDwRefIdeal.nD Cert.HgrnDwRefIdeal.τ).loc Cert.HgrnDwRefIdeal.main_arg1)
          ∧ r.2.mem ((c.tc : Thread Cert.HgrnDwRefIdeal.nD Cert.HgrnDwRefIdeal.τ).loc Cert.HgrnDwRefIdeal.main_arg2) = m' ((c.tc : Thread Cert.HgrnDwRefIdeal.nD Cert.HgrnDwRefIdeal.τ).loc Cert.HgrnDwRefIdeal.main_arg2))

def preserves_Swa_SwaIdeal : Prop :=
  True

def algebraic_SwaIdeal_SwaRefIdeal [hSwaIdeal : Cert.SwaIdeal.Facts] [hSwaRefIdeal : Cert.SwaRefIdeal.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)) →
    ∃ (v0 : (c : Dev Cert.SwaIdeal.nD) → Buf (Elt Ideal) ((c.tc : Thread Cert.SwaIdeal.nD Cert.SwaIdeal.τ).loc Cert.SwaIdeal.main_v0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v3) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1))

def preserves_SwaDh_SwaDhIdeal : Prop :=
  True

def algebraic_SwaDhIdeal_SwaDhRefIdeal [hSwaDhIdeal : Cert.SwaDhIdeal.Facts] [hSwaDhRefIdeal : Cert.SwaDhRefIdeal.Facts] : Prop :=
  ∀ (m : (ℓ : Loc Cert.SwaDhIdeal.nD Cert.SwaDhIdeal.τ Cert.SwaDhIdeal.sig) → Buf (Elt Ideal) ℓ) (g : Dev Cert.SwaDhIdeal.nD → PrngReg)
    (m' : (ℓ : Loc Cert.SwaDhRefIdeal.nD Cert.SwaDhRefIdeal.τ Cert.SwaDhRefIdeal.sig) → Buf (Elt Ideal) ℓ) (g' : Dev Cert.SwaDhRefIdeal.nD → PrngReg), Pre_SwaDhIdeal m →
    (∀ c : Dev Cert.SwaDhIdeal.nD,
      m' ((c.tc : Thread Cert.SwaDhRefIdeal.nD Cert.SwaDhRefIdeal.τ).loc Cert.SwaDhRefIdeal.main_arg0) = m ((c.tc : Thread Cert.SwaDhIdeal.nD Cert.SwaDhIdeal.τ).loc Cert.SwaDhIdeal.main_arg0)
      ∧ m' ((c.tc : Thread Cert.SwaDhRefIdeal.nD Cert.SwaDhRefIdeal.τ).loc Cert.SwaDhRefIdeal.main_arg1) = m ((c.tc : Thread Cert.SwaDhIdeal.nD Cert.SwaDhIdeal.τ).loc Cert.SwaDhIdeal.main_arg1)
      ∧ m' ((c.tc : Thread Cert.SwaDhRefIdeal.nD Cert.SwaDhRefIdeal.τ).loc Cert.SwaDhRefIdeal.main_arg2) = m ((c.tc : Thread Cert.SwaDhIdeal.nD Cert.SwaDhIdeal.τ).loc Cert.SwaDhIdeal.main_arg2)) →
    ∃ (v0 : (c : Dev Cert.SwaDhIdeal.nD) → Buf (Elt Ideal) ((c.tc : Thread Cert.SwaDhIdeal.nD Cert.SwaDhIdeal.τ).loc Cert.SwaDhIdeal.main_v0)),
      θ_run (Cert.SwaDhIdeal.defs (F := Ideal)) (onTc (τ := Cert.SwaDhIdeal.τ) (Cert.SwaDhIdeal.main (F := Ideal))) ⟨m, fun _ => 0, g⟩ (fun r => ∀ c : Dev Cert.SwaDhIdeal.nD,
          r.2.mem ((c.tc : Thread Cert.SwaDhIdeal.nD Cert.SwaDhIdeal.τ).loc Cert.SwaDhIdeal.main_v0) = v0 c
          ∧ r.2.mem ((c.tc : Thread Cert.SwaDhIdeal.nD Cert.SwaDhIdeal.τ).loc Cert.SwaDhIdeal.main_arg0) = m ((c.tc : Thread Cert.SwaDhIdeal.nD Cert.SwaDhIdeal.τ).loc Cert.SwaDhIdeal.main_arg0)
          ∧ r.2.mem ((c.tc : Thread Cert.SwaDhIdeal.nD Cert.SwaDhIdeal.τ).loc Cert.SwaDhIdeal.main_arg1) = m ((c.tc : Thread Cert.SwaDhIdeal.nD Cert.SwaDhIdeal.τ).loc Cert.SwaDhIdeal.main_arg1)
          ∧ r.2.mem ((c.tc : Thread Cert.SwaDhIdeal.nD Cert.SwaDhIdeal.τ).loc Cert.SwaDhIdeal.main_arg2) = m ((c.tc : Thread Cert.SwaDhIdeal.nD Cert.SwaDhIdeal.τ).loc Cert.SwaDhIdeal.main_arg2))
      ∧ θ_run (Cert.SwaDhRefIdeal.defs (F := Ideal)) (onTc (τ := Cert.SwaDhRefIdeal.τ) (Cert.SwaDhRefIdeal.main (F := Ideal))) ⟨m', fun _ => 0, g'⟩ (fun r => ∀ c : Dev Cert.SwaDhRefIdeal.nD,
          r.2.mem ((c.tc : Thread Cert.SwaDhRefIdeal.nD Cert.SwaDhRefIdeal.τ).loc Cert.SwaDhRefIdeal.main_v8) = v0 c
          ∧ r.2.mem ((c.tc : Thread Cert.SwaDhRefIdeal.nD Cert.SwaDhRefIdeal.τ).loc Cert.SwaDhRefIdeal.main_arg0) = m' ((c.tc : Thread Cert.SwaDhRefIdeal.nD Cert.SwaDhRefIdeal.τ).loc Cert.SwaDhRefIdeal.main_arg0)
          ∧ r.2.mem ((c.tc : Thread Cert.SwaDhRefIdeal.nD Cert.SwaDhRefIdeal.τ).loc Cert.SwaDhRefIdeal.main_arg1) = m' ((c.tc : Thread Cert.SwaDhRefIdeal.nD Cert.SwaDhRefIdeal.τ).loc Cert.SwaDhRefIdeal.main_arg1)
          ∧ r.2.mem ((c.tc : Thread Cert.SwaDhRefIdeal.nD Cert.SwaDhRefIdeal.τ).loc Cert.SwaDhRefIdeal.main_arg2) = m' ((c.tc : Thread Cert.SwaDhRefIdeal.nD Cert.SwaDhRefIdeal.τ).loc Cert.SwaDhRefIdeal.main_arg2))

def preserves_SwaDw_SwaDwIdeal : Prop :=
  True

def algebraic_SwaDwIdeal_SwaDwRefIdeal [hSwaDwIdeal : Cert.SwaDwIdeal.Facts] [hSwaDwRefIdeal : Cert.SwaDwRefIdeal.Facts] : Prop :=
  ∀ (m : (ℓ : Loc Cert.SwaDwIdeal.nD Cert.SwaDwIdeal.τ Cert.SwaDwIdeal.sig) → Buf (Elt Ideal) ℓ) (g : Dev Cert.SwaDwIdeal.nD → PrngReg)
    (m' : (ℓ : Loc Cert.SwaDwRefIdeal.nD Cert.SwaDwRefIdeal.τ Cert.SwaDwRefIdeal.sig) → Buf (Elt Ideal) ℓ) (g' : Dev Cert.SwaDwRefIdeal.nD → PrngReg), Pre_SwaDwIdeal m →
    (∀ c : Dev Cert.SwaDwIdeal.nD,
      m' ((c.tc : Thread Cert.SwaDwRefIdeal.nD Cert.SwaDwRefIdeal.τ).loc Cert.SwaDwRefIdeal.main_arg0) = m ((c.tc : Thread Cert.SwaDwIdeal.nD Cert.SwaDwIdeal.τ).loc Cert.SwaDwIdeal.main_arg0)
      ∧ m' ((c.tc : Thread Cert.SwaDwRefIdeal.nD Cert.SwaDwRefIdeal.τ).loc Cert.SwaDwRefIdeal.main_arg1) = m ((c.tc : Thread Cert.SwaDwIdeal.nD Cert.SwaDwIdeal.τ).loc Cert.SwaDwIdeal.main_arg1)
      ∧ m' ((c.tc : Thread Cert.SwaDwRefIdeal.nD Cert.SwaDwRefIdeal.τ).loc Cert.SwaDwRefIdeal.main_arg2) = m ((c.tc : Thread Cert.SwaDwIdeal.nD Cert.SwaDwIdeal.τ).loc Cert.SwaDwIdeal.main_arg2)) →
    ∃ (v0 : (c : Dev Cert.SwaDwIdeal.nD) → Buf (Elt Ideal) ((c.tc : Thread Cert.SwaDwIdeal.nD Cert.SwaDwIdeal.τ).loc Cert.SwaDwIdeal.main_v0)),
      θ_run (Cert.SwaDwIdeal.defs (F := Ideal)) (onTc (τ := Cert.SwaDwIdeal.τ) (Cert.SwaDwIdeal.main (F := Ideal))) ⟨m, fun _ => 0, g⟩ (fun r => ∀ c : Dev Cert.SwaDwIdeal.nD,
          r.2.mem ((c.tc : Thread Cert.SwaDwIdeal.nD Cert.SwaDwIdeal.τ).loc Cert.SwaDwIdeal.main_v0) = v0 c
          ∧ r.2.mem ((c.tc : Thread Cert.SwaDwIdeal.nD Cert.SwaDwIdeal.τ).loc Cert.SwaDwIdeal.main_arg0) = m ((c.tc : Thread Cert.SwaDwIdeal.nD Cert.SwaDwIdeal.τ).loc Cert.SwaDwIdeal.main_arg0)
          ∧ r.2.mem ((c.tc : Thread Cert.SwaDwIdeal.nD Cert.SwaDwIdeal.τ).loc Cert.SwaDwIdeal.main_arg1) = m ((c.tc : Thread Cert.SwaDwIdeal.nD Cert.SwaDwIdeal.τ).loc Cert.SwaDwIdeal.main_arg1)
          ∧ r.2.mem ((c.tc : Thread Cert.SwaDwIdeal.nD Cert.SwaDwIdeal.τ).loc Cert.SwaDwIdeal.main_arg2) = m ((c.tc : Thread Cert.SwaDwIdeal.nD Cert.SwaDwIdeal.τ).loc Cert.SwaDwIdeal.main_arg2))
      ∧ θ_run (Cert.SwaDwRefIdeal.defs (F := Ideal)) (onTc (τ := Cert.SwaDwRefIdeal.τ) (Cert.SwaDwRefIdeal.main (F := Ideal))) ⟨m', fun _ => 0, g'⟩ (fun r => ∀ c : Dev Cert.SwaDwRefIdeal.nD,
          r.2.mem ((c.tc : Thread Cert.SwaDwRefIdeal.nD Cert.SwaDwRefIdeal.τ).loc Cert.SwaDwRefIdeal.main_v7) = v0 c
          ∧ r.2.mem ((c.tc : Thread Cert.SwaDwRefIdeal.nD Cert.SwaDwRefIdeal.τ).loc Cert.SwaDwRefIdeal.main_arg0) = m' ((c.tc : Thread Cert.SwaDwRefIdeal.nD Cert.SwaDwRefIdeal.τ).loc Cert.SwaDwRefIdeal.main_arg0)
          ∧ r.2.mem ((c.tc : Thread Cert.SwaDwRefIdeal.nD Cert.SwaDwRefIdeal.τ).loc Cert.SwaDwRefIdeal.main_arg1) = m' ((c.tc : Thread Cert.SwaDwRefIdeal.nD Cert.SwaDwRefIdeal.τ).loc Cert.SwaDwRefIdeal.main_arg1)
          ∧ r.2.mem ((c.tc : Thread Cert.SwaDwRefIdeal.nD Cert.SwaDwRefIdeal.τ).loc Cert.SwaDwRefIdeal.main_arg2) = m' ((c.tc : Thread Cert.SwaDwRefIdeal.nD Cert.SwaDwRefIdeal.τ).loc Cert.SwaDwRefIdeal.main_arg2))

def preserves_Sc_ScIdeal : Prop :=
  True

def algebraic_ScIdeal_ScRefIdeal [hScIdeal : Cert.ScIdeal.Facts] [hScRefIdeal : Cert.ScRefIdeal.Facts] : Prop :=
  ∀ (m : (ℓ : Loc Cert.ScIdeal.nD Cert.ScIdeal.τ Cert.ScIdeal.sig) → Buf (Elt Ideal) ℓ) (g : Dev Cert.ScIdeal.nD → PrngReg)
    (m' : (ℓ : Loc Cert.ScRefIdeal.nD Cert.ScRefIdeal.τ Cert.ScRefIdeal.sig) → Buf (Elt Ideal) ℓ) (g' : Dev Cert.ScRefIdeal.nD → PrngReg), Pre_ScIdeal m →
    (∀ c : Dev Cert.ScIdeal.nD,
      m' ((c.tc : Thread Cert.ScRefIdeal.nD Cert.ScRefIdeal.τ).loc Cert.ScRefIdeal.main_arg0) = m ((c.tc : Thread Cert.ScIdeal.nD Cert.ScIdeal.τ).loc Cert.ScIdeal.main_arg0)
      ∧ m' ((c.tc : Thread Cert.ScRefIdeal.nD Cert.ScRefIdeal.τ).loc Cert.ScRefIdeal.main_arg1) = m ((c.tc : Thread Cert.ScIdeal.nD Cert.ScIdeal.τ).loc Cert.ScIdeal.main_arg1)) →
    ∃ (v0 : (c : Dev Cert.ScIdeal.nD) → Buf (Elt Ideal) ((c.tc : Thread Cert.ScIdeal.nD Cert.ScIdeal.τ).loc Cert.ScIdeal.main_v0)),
      θ_run (Cert.ScIdeal.defs (F := Ideal)) (onTc (τ := Cert.ScIdeal.τ) (Cert.ScIdeal.main (F := Ideal))) ⟨m, fun _ => 0, g⟩ (fun r => ∀ c : Dev Cert.ScIdeal.nD,
          r.2.mem ((c.tc : Thread Cert.ScIdeal.nD Cert.ScIdeal.τ).loc Cert.ScIdeal.main_v0) = v0 c
          ∧ r.2.mem ((c.tc : Thread Cert.ScIdeal.nD Cert.ScIdeal.τ).loc Cert.ScIdeal.main_arg0) = m ((c.tc : Thread Cert.ScIdeal.nD Cert.ScIdeal.τ).loc Cert.ScIdeal.main_arg0)
          ∧ r.2.mem ((c.tc : Thread Cert.ScIdeal.nD Cert.ScIdeal.τ).loc Cert.ScIdeal.main_arg1) = m ((c.tc : Thread Cert.ScIdeal.nD Cert.ScIdeal.τ).loc Cert.ScIdeal.main_arg1))
      ∧ θ_run (Cert.ScRefIdeal.defs (F := Ideal)) (onTc (τ := Cert.ScRefIdeal.τ) (Cert.ScRefIdeal.main (F := Ideal))) ⟨m', fun _ => 0, g'⟩ (fun r => ∀ c : Dev Cert.ScRefIdeal.nD,
          r.2.mem ((c.tc : Thread Cert.ScRefIdeal.nD Cert.ScRefIdeal.τ).loc Cert.ScRefIdeal.main_v3) = v0 c
          ∧ r.2.mem ((c.tc : Thread Cert.ScRefIdeal.nD Cert.ScRefIdeal.τ).loc Cert.ScRefIdeal.main_arg0) = m' ((c.tc : Thread Cert.ScRefIdeal.nD Cert.ScRefIdeal.τ).loc Cert.ScRefIdeal.main_arg0)
          ∧ r.2.mem ((c.tc : Thread Cert.ScRefIdeal.nD Cert.ScRefIdeal.τ).loc Cert.ScRefIdeal.main_arg1) = m' ((c.tc : Thread Cert.ScRefIdeal.nD Cert.ScRefIdeal.τ).loc Cert.ScRefIdeal.main_arg1))

def preserves_ScDh_ScDhIdeal : Prop :=
  True

def algebraic_ScDhIdeal_ScDhRefIdeal [hScDhIdeal : Cert.ScDhIdeal.Facts] [hScDhRefIdeal : Cert.ScDhRefIdeal.Facts] : Prop :=
  ∀ (m : (ℓ : Loc Cert.ScDhIdeal.nD Cert.ScDhIdeal.τ Cert.ScDhIdeal.sig) → Buf (Elt Ideal) ℓ) (g : Dev Cert.ScDhIdeal.nD → PrngReg)
    (m' : (ℓ : Loc Cert.ScDhRefIdeal.nD Cert.ScDhRefIdeal.τ Cert.ScDhRefIdeal.sig) → Buf (Elt Ideal) ℓ) (g' : Dev Cert.ScDhRefIdeal.nD → PrngReg), Pre_ScDhIdeal m →
    (∀ c : Dev Cert.ScDhIdeal.nD,
      m' ((c.tc : Thread Cert.ScDhRefIdeal.nD Cert.ScDhRefIdeal.τ).loc Cert.ScDhRefIdeal.main_arg0) = m ((c.tc : Thread Cert.ScDhIdeal.nD Cert.ScDhIdeal.τ).loc Cert.ScDhIdeal.main_arg0)
      ∧ m' ((c.tc : Thread Cert.ScDhRefIdeal.nD Cert.ScDhRefIdeal.τ).loc Cert.ScDhRefIdeal.main_arg1) = m ((c.tc : Thread Cert.ScDhIdeal.nD Cert.ScDhIdeal.τ).loc Cert.ScDhIdeal.main_arg1)
      ∧ m' ((c.tc : Thread Cert.ScDhRefIdeal.nD Cert.ScDhRefIdeal.τ).loc Cert.ScDhRefIdeal.main_arg2) = m ((c.tc : Thread Cert.ScDhIdeal.nD Cert.ScDhIdeal.τ).loc Cert.ScDhIdeal.main_arg2)) →
    ∃ (v0 : (c : Dev Cert.ScDhIdeal.nD) → Buf (Elt Ideal) ((c.tc : Thread Cert.ScDhIdeal.nD Cert.ScDhIdeal.τ).loc Cert.ScDhIdeal.main_v0)),
      θ_run (Cert.ScDhIdeal.defs (F := Ideal)) (onTc (τ := Cert.ScDhIdeal.τ) (Cert.ScDhIdeal.main (F := Ideal))) ⟨m, fun _ => 0, g⟩ (fun r => ∀ c : Dev Cert.ScDhIdeal.nD,
          r.2.mem ((c.tc : Thread Cert.ScDhIdeal.nD Cert.ScDhIdeal.τ).loc Cert.ScDhIdeal.main_v0) = v0 c
          ∧ r.2.mem ((c.tc : Thread Cert.ScDhIdeal.nD Cert.ScDhIdeal.τ).loc Cert.ScDhIdeal.main_arg0) = m ((c.tc : Thread Cert.ScDhIdeal.nD Cert.ScDhIdeal.τ).loc Cert.ScDhIdeal.main_arg0)
          ∧ r.2.mem ((c.tc : Thread Cert.ScDhIdeal.nD Cert.ScDhIdeal.τ).loc Cert.ScDhIdeal.main_arg1) = m ((c.tc : Thread Cert.ScDhIdeal.nD Cert.ScDhIdeal.τ).loc Cert.ScDhIdeal.main_arg1)
          ∧ r.2.mem ((c.tc : Thread Cert.ScDhIdeal.nD Cert.ScDhIdeal.τ).loc Cert.ScDhIdeal.main_arg2) = m ((c.tc : Thread Cert.ScDhIdeal.nD Cert.ScDhIdeal.τ).loc Cert.ScDhIdeal.main_arg2))
      ∧ θ_run (Cert.ScDhRefIdeal.defs (F := Ideal)) (onTc (τ := Cert.ScDhRefIdeal.τ) (Cert.ScDhRefIdeal.main (F := Ideal))) ⟨m', fun _ => 0, g'⟩ (fun r => ∀ c : Dev Cert.ScDhRefIdeal.nD,
          r.2.mem ((c.tc : Thread Cert.ScDhRefIdeal.nD Cert.ScDhRefIdeal.τ).loc Cert.ScDhRefIdeal.main_v8) = v0 c
          ∧ r.2.mem ((c.tc : Thread Cert.ScDhRefIdeal.nD Cert.ScDhRefIdeal.τ).loc Cert.ScDhRefIdeal.main_arg0) = m' ((c.tc : Thread Cert.ScDhRefIdeal.nD Cert.ScDhRefIdeal.τ).loc Cert.ScDhRefIdeal.main_arg0)
          ∧ r.2.mem ((c.tc : Thread Cert.ScDhRefIdeal.nD Cert.ScDhRefIdeal.τ).loc Cert.ScDhRefIdeal.main_arg1) = m' ((c.tc : Thread Cert.ScDhRefIdeal.nD Cert.ScDhRefIdeal.τ).loc Cert.ScDhRefIdeal.main_arg1)
          ∧ r.2.mem ((c.tc : Thread Cert.ScDhRefIdeal.nD Cert.ScDhRefIdeal.τ).loc Cert.ScDhRefIdeal.main_arg2) = m' ((c.tc : Thread Cert.ScDhRefIdeal.nD Cert.ScDhRefIdeal.τ).loc Cert.ScDhRefIdeal.main_arg2))

def preserves_ScDw_ScDwIdeal : Prop :=
  True

def algebraic_ScDwIdeal_ScDwRefIdeal [hScDwIdeal : Cert.ScDwIdeal.Facts] [hScDwRefIdeal : Cert.ScDwRefIdeal.Facts] : Prop :=
  ∀ (m : (ℓ : Loc Cert.ScDwIdeal.nD Cert.ScDwIdeal.τ Cert.ScDwIdeal.sig) → Buf (Elt Ideal) ℓ) (g : Dev Cert.ScDwIdeal.nD → PrngReg)
    (m' : (ℓ : Loc Cert.ScDwRefIdeal.nD Cert.ScDwRefIdeal.τ Cert.ScDwRefIdeal.sig) → Buf (Elt Ideal) ℓ) (g' : Dev Cert.ScDwRefIdeal.nD → PrngReg), Pre_ScDwIdeal m →
    (∀ c : Dev Cert.ScDwIdeal.nD,
      m' ((c.tc : Thread Cert.ScDwRefIdeal.nD Cert.ScDwRefIdeal.τ).loc Cert.ScDwRefIdeal.main_arg0) = m ((c.tc : Thread Cert.ScDwIdeal.nD Cert.ScDwIdeal.τ).loc Cert.ScDwIdeal.main_arg0)
      ∧ m' ((c.tc : Thread Cert.ScDwRefIdeal.nD Cert.ScDwRefIdeal.τ).loc Cert.ScDwRefIdeal.main_arg1) = m ((c.tc : Thread Cert.ScDwIdeal.nD Cert.ScDwIdeal.τ).loc Cert.ScDwIdeal.main_arg1)
      ∧ m' ((c.tc : Thread Cert.ScDwRefIdeal.nD Cert.ScDwRefIdeal.τ).loc Cert.ScDwRefIdeal.main_arg2) = m ((c.tc : Thread Cert.ScDwIdeal.nD Cert.ScDwIdeal.τ).loc Cert.ScDwIdeal.main_arg2)) →
    ∃ (v0 : (c : Dev Cert.ScDwIdeal.nD) → Buf (Elt Ideal) ((c.tc : Thread Cert.ScDwIdeal.nD Cert.ScDwIdeal.τ).loc Cert.ScDwIdeal.main_v0)),
      θ_run (Cert.ScDwIdeal.defs (F := Ideal)) (onTc (τ := Cert.ScDwIdeal.τ) (Cert.ScDwIdeal.main (F := Ideal))) ⟨m, fun _ => 0, g⟩ (fun r => ∀ c : Dev Cert.ScDwIdeal.nD,
          r.2.mem ((c.tc : Thread Cert.ScDwIdeal.nD Cert.ScDwIdeal.τ).loc Cert.ScDwIdeal.main_v0) = v0 c
          ∧ r.2.mem ((c.tc : Thread Cert.ScDwIdeal.nD Cert.ScDwIdeal.τ).loc Cert.ScDwIdeal.main_arg0) = m ((c.tc : Thread Cert.ScDwIdeal.nD Cert.ScDwIdeal.τ).loc Cert.ScDwIdeal.main_arg0)
          ∧ r.2.mem ((c.tc : Thread Cert.ScDwIdeal.nD Cert.ScDwIdeal.τ).loc Cert.ScDwIdeal.main_arg1) = m ((c.tc : Thread Cert.ScDwIdeal.nD Cert.ScDwIdeal.τ).loc Cert.ScDwIdeal.main_arg1)
          ∧ r.2.mem ((c.tc : Thread Cert.ScDwIdeal.nD Cert.ScDwIdeal.τ).loc Cert.ScDwIdeal.main_arg2) = m ((c.tc : Thread Cert.ScDwIdeal.nD Cert.ScDwIdeal.τ).loc Cert.ScDwIdeal.main_arg2))
      ∧ θ_run (Cert.ScDwRefIdeal.defs (F := Ideal)) (onTc (τ := Cert.ScDwRefIdeal.τ) (Cert.ScDwRefIdeal.main (F := Ideal))) ⟨m', fun _ => 0, g'⟩ (fun r => ∀ c : Dev Cert.ScDwRefIdeal.nD,
          r.2.mem ((c.tc : Thread Cert.ScDwRefIdeal.nD Cert.ScDwRefIdeal.τ).loc Cert.ScDwRefIdeal.main_v7) = v0 c
          ∧ r.2.mem ((c.tc : Thread Cert.ScDwRefIdeal.nD Cert.ScDwRefIdeal.τ).loc Cert.ScDwRefIdeal.main_arg0) = m' ((c.tc : Thread Cert.ScDwRefIdeal.nD Cert.ScDwRefIdeal.τ).loc Cert.ScDwRefIdeal.main_arg0)
          ∧ r.2.mem ((c.tc : Thread Cert.ScDwRefIdeal.nD Cert.ScDwRefIdeal.τ).loc Cert.ScDwRefIdeal.main_arg1) = m' ((c.tc : Thread Cert.ScDwRefIdeal.nD Cert.ScDwRefIdeal.τ).loc Cert.ScDwRefIdeal.main_arg1)
          ∧ r.2.mem ((c.tc : Thread Cert.ScDwRefIdeal.nD Cert.ScDwRefIdeal.τ).loc Cert.ScDwRefIdeal.main_arg2) = m' ((c.tc : Thread Cert.ScDwRefIdeal.nD Cert.ScDwRefIdeal.τ).loc Cert.ScDwRefIdeal.main_arg2))

def preserves_Fox_FoxIdeal : Prop :=
  True

def algebraic_FoxIdeal_FoxRefIdeal [hFoxIdeal : Cert.FoxIdeal.Facts] [hFoxRefIdeal : Cert.FoxRefIdeal.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v3) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1))

def preserves_FoxDh_FoxDhIdeal : Prop :=
  True

def algebraic_FoxDhIdeal_FoxDhRefIdeal [hFoxDhIdeal : Cert.FoxDhIdeal.Facts] [hFoxDhRefIdeal : Cert.FoxDhRefIdeal.Facts] : Prop :=
  ∀ (m : (ℓ : Loc Cert.FoxDhIdeal.nD Cert.FoxDhIdeal.τ Cert.FoxDhIdeal.sig) → Buf (Elt Ideal) ℓ) (g : Dev Cert.FoxDhIdeal.nD → PrngReg)
    (m' : (ℓ : Loc Cert.FoxDhRefIdeal.nD Cert.FoxDhRefIdeal.τ Cert.FoxDhRefIdeal.sig) → Buf (Elt Ideal) ℓ) (g' : Dev Cert.FoxDhRefIdeal.nD → PrngReg), Pre_FoxDhIdeal m →
    (∀ c : Dev Cert.FoxDhIdeal.nD,
      m' ((c.tc : Thread Cert.FoxDhRefIdeal.nD Cert.FoxDhRefIdeal.τ).loc Cert.FoxDhRefIdeal.main_arg0) = m ((c.tc : Thread Cert.FoxDhIdeal.nD Cert.FoxDhIdeal.τ).loc Cert.FoxDhIdeal.main_arg0)
      ∧ m' ((c.tc : Thread Cert.FoxDhRefIdeal.nD Cert.FoxDhRefIdeal.τ).loc Cert.FoxDhRefIdeal.main_arg1) = m ((c.tc : Thread Cert.FoxDhIdeal.nD Cert.FoxDhIdeal.τ).loc Cert.FoxDhIdeal.main_arg1)
      ∧ m' ((c.tc : Thread Cert.FoxDhRefIdeal.nD Cert.FoxDhRefIdeal.τ).loc Cert.FoxDhRefIdeal.main_arg2) = m ((c.tc : Thread Cert.FoxDhIdeal.nD Cert.FoxDhIdeal.τ).loc Cert.FoxDhIdeal.main_arg2)) →
    ∃ (v0 : (c : Dev Cert.FoxDhIdeal.nD) → Buf (Elt Ideal) ((c.tc : Thread Cert.FoxDhIdeal.nD Cert.FoxDhIdeal.τ).loc Cert.FoxDhIdeal.main_v0)),
      θ_run (Cert.FoxDhIdeal.defs (F := Ideal)) (onTc (τ := Cert.FoxDhIdeal.τ) (Cert.FoxDhIdeal.main (F := Ideal))) ⟨m, fun _ => 0, g⟩ (fun r => ∀ c : Dev Cert.FoxDhIdeal.nD,
          r.2.mem ((c.tc : Thread Cert.FoxDhIdeal.nD Cert.FoxDhIdeal.τ).loc Cert.FoxDhIdeal.main_v0) = v0 c
          ∧ r.2.mem ((c.tc : Thread Cert.FoxDhIdeal.nD Cert.FoxDhIdeal.τ).loc Cert.FoxDhIdeal.main_arg0) = m ((c.tc : Thread Cert.FoxDhIdeal.nD Cert.FoxDhIdeal.τ).loc Cert.FoxDhIdeal.main_arg0)
          ∧ r.2.mem ((c.tc : Thread Cert.FoxDhIdeal.nD Cert.FoxDhIdeal.τ).loc Cert.FoxDhIdeal.main_arg1) = m ((c.tc : Thread Cert.FoxDhIdeal.nD Cert.FoxDhIdeal.τ).loc Cert.FoxDhIdeal.main_arg1)
          ∧ r.2.mem ((c.tc : Thread Cert.FoxDhIdeal.nD Cert.FoxDhIdeal.τ).loc Cert.FoxDhIdeal.main_arg2) = m ((c.tc : Thread Cert.FoxDhIdeal.nD Cert.FoxDhIdeal.τ).loc Cert.FoxDhIdeal.main_arg2))
      ∧ θ_run (Cert.FoxDhRefIdeal.defs (F := Ideal)) (onTc (τ := Cert.FoxDhRefIdeal.τ) (Cert.FoxDhRefIdeal.main (F := Ideal))) ⟨m', fun _ => 0, g'⟩ (fun r => ∀ c : Dev Cert.FoxDhRefIdeal.nD,
          r.2.mem ((c.tc : Thread Cert.FoxDhRefIdeal.nD Cert.FoxDhRefIdeal.τ).loc Cert.FoxDhRefIdeal.main_v8) = v0 c
          ∧ r.2.mem ((c.tc : Thread Cert.FoxDhRefIdeal.nD Cert.FoxDhRefIdeal.τ).loc Cert.FoxDhRefIdeal.main_arg0) = m' ((c.tc : Thread Cert.FoxDhRefIdeal.nD Cert.FoxDhRefIdeal.τ).loc Cert.FoxDhRefIdeal.main_arg0)
          ∧ r.2.mem ((c.tc : Thread Cert.FoxDhRefIdeal.nD Cert.FoxDhRefIdeal.τ).loc Cert.FoxDhRefIdeal.main_arg1) = m' ((c.tc : Thread Cert.FoxDhRefIdeal.nD Cert.FoxDhRefIdeal.τ).loc Cert.FoxDhRefIdeal.main_arg1)
          ∧ r.2.mem ((c.tc : Thread Cert.FoxDhRefIdeal.nD Cert.FoxDhRefIdeal.τ).loc Cert.FoxDhRefIdeal.main_arg2) = m' ((c.tc : Thread Cert.FoxDhRefIdeal.nD Cert.FoxDhRefIdeal.τ).loc Cert.FoxDhRefIdeal.main_arg2))

def preserves_FoxDw_FoxDwIdeal : Prop :=
  True

def algebraic_FoxDwIdeal_FoxDwRefIdeal [hFoxDwIdeal : Cert.FoxDwIdeal.Facts] [hFoxDwRefIdeal : Cert.FoxDwRefIdeal.Facts] : Prop :=
  ∀ (m : (ℓ : Loc Cert.FoxDwIdeal.nD Cert.FoxDwIdeal.τ Cert.FoxDwIdeal.sig) → Buf (Elt Ideal) ℓ) (g : Dev Cert.FoxDwIdeal.nD → PrngReg)
    (m' : (ℓ : Loc Cert.FoxDwRefIdeal.nD Cert.FoxDwRefIdeal.τ Cert.FoxDwRefIdeal.sig) → Buf (Elt Ideal) ℓ) (g' : Dev Cert.FoxDwRefIdeal.nD → PrngReg), Pre_FoxDwIdeal m →
    (∀ c : Dev Cert.FoxDwIdeal.nD,
      m' ((c.tc : Thread Cert.FoxDwRefIdeal.nD Cert.FoxDwRefIdeal.τ).loc Cert.FoxDwRefIdeal.main_arg0) = m ((c.tc : Thread Cert.FoxDwIdeal.nD Cert.FoxDwIdeal.τ).loc Cert.FoxDwIdeal.main_arg0)
      ∧ m' ((c.tc : Thread Cert.FoxDwRefIdeal.nD Cert.FoxDwRefIdeal.τ).loc Cert.FoxDwRefIdeal.main_arg1) = m ((c.tc : Thread Cert.FoxDwIdeal.nD Cert.FoxDwIdeal.τ).loc Cert.FoxDwIdeal.main_arg1)
      ∧ m' ((c.tc : Thread Cert.FoxDwRefIdeal.nD Cert.FoxDwRefIdeal.τ).loc Cert.FoxDwRefIdeal.main_arg2) = m ((c.tc : Thread Cert.FoxDwIdeal.nD Cert.FoxDwIdeal.τ).loc Cert.FoxDwIdeal.main_arg2)) →
    ∃ (v0 : (c : Dev Cert.FoxDwIdeal.nD) → Buf (Elt Ideal) ((c.tc : Thread Cert.FoxDwIdeal.nD Cert.FoxDwIdeal.τ).loc Cert.FoxDwIdeal.main_v0)),
      θ_run (Cert.FoxDwIdeal.defs (F := Ideal)) (onTc (τ := Cert.FoxDwIdeal.τ) (Cert.FoxDwIdeal.main (F := Ideal))) ⟨m, fun _ => 0, g⟩ (fun r => ∀ c : Dev Cert.FoxDwIdeal.nD,
          r.2.mem ((c.tc : Thread Cert.FoxDwIdeal.nD Cert.FoxDwIdeal.τ).loc Cert.FoxDwIdeal.main_v0) = v0 c
          ∧ r.2.mem ((c.tc : Thread Cert.FoxDwIdeal.nD Cert.FoxDwIdeal.τ).loc Cert.FoxDwIdeal.main_arg0) = m ((c.tc : Thread Cert.FoxDwIdeal.nD Cert.FoxDwIdeal.τ).loc Cert.FoxDwIdeal.main_arg0)
          ∧ r.2.mem ((c.tc : Thread Cert.FoxDwIdeal.nD Cert.FoxDwIdeal.τ).loc Cert.FoxDwIdeal.main_arg1) = m ((c.tc : Thread Cert.FoxDwIdeal.nD Cert.FoxDwIdeal.τ).loc Cert.FoxDwIdeal.main_arg1)
          ∧ r.2.mem ((c.tc : Thread Cert.FoxDwIdeal.nD Cert.FoxDwIdeal.τ).loc Cert.FoxDwIdeal.main_arg2) = m ((c.tc : Thread Cert.FoxDwIdeal.nD Cert.FoxDwIdeal.τ).loc Cert.FoxDwIdeal.main_arg2))
      ∧ θ_run (Cert.FoxDwRefIdeal.defs (F := Ideal)) (onTc (τ := Cert.FoxDwRefIdeal.τ) (Cert.FoxDwRefIdeal.main (F := Ideal))) ⟨m', fun _ => 0, g'⟩ (fun r => ∀ c : Dev Cert.FoxDwRefIdeal.nD,
          r.2.mem ((c.tc : Thread Cert.FoxDwRefIdeal.nD Cert.FoxDwRefIdeal.τ).loc Cert.FoxDwRefIdeal.main_v7) = v0 c
          ∧ r.2.mem ((c.tc : Thread Cert.FoxDwRefIdeal.nD Cert.FoxDwRefIdeal.τ).loc Cert.FoxDwRefIdeal.main_arg0) = m' ((c.tc : Thread Cert.FoxDwRefIdeal.nD Cert.FoxDwRefIdeal.τ).loc Cert.FoxDwRefIdeal.main_arg0)
          ∧ r.2.mem ((c.tc : Thread Cert.FoxDwRefIdeal.nD Cert.FoxDwRefIdeal.τ).loc Cert.FoxDwRefIdeal.main_arg1) = m' ((c.tc : Thread Cert.FoxDwRefIdeal.nD Cert.FoxDwRefIdeal.τ).loc Cert.FoxDwRefIdeal.main_arg1)
          ∧ r.2.mem ((c.tc : Thread Cert.FoxDwRefIdeal.nD Cert.FoxDwRefIdeal.τ).loc Cert.FoxDwRefIdeal.main_arg2) = m' ((c.tc : Thread Cert.FoxDwRefIdeal.nD Cert.FoxDwRefIdeal.τ).loc Cert.FoxDwRefIdeal.main_arg2))

def preserves_AdamHgrnIn_AdamHgrnInIdeal : Prop :=
  True

def algebraic_AdamHgrnInIdeal_AdamHgrnInRefIdeal [hAdamHgrnInIdeal : Cert.AdamHgrnInIdeal.Facts] [hAdamHgrnInRefIdeal : Cert.AdamHgrnInRefIdeal.Facts] : Prop :=
  ∀ (m : (ℓ : Loc Cert.AdamHgrnInIdeal.nD Cert.AdamHgrnInIdeal.τ Cert.AdamHgrnInIdeal.sig) → Buf (Elt Ideal) ℓ) (g : Dev Cert.AdamHgrnInIdeal.nD → PrngReg)
    (m' : (ℓ : Loc Cert.AdamHgrnInRefIdeal.nD Cert.AdamHgrnInRefIdeal.τ Cert.AdamHgrnInRefIdeal.sig) → Buf (Elt Ideal) ℓ) (g' : Dev Cert.AdamHgrnInRefIdeal.nD → PrngReg), Pre_AdamHgrnInIdeal m →
    (∀ c : Dev Cert.AdamHgrnInIdeal.nD,
      m' ((c.tc : Thread Cert.AdamHgrnInRefIdeal.nD Cert.AdamHgrnInRefIdeal.τ).loc Cert.AdamHgrnInRefIdeal.main_arg0) = m ((c.tc : Thread Cert.AdamHgrnInIdeal.nD Cert.AdamHgrnInIdeal.τ).loc Cert.AdamHgrnInIdeal.main_arg0)
      ∧ m' ((c.tc : Thread Cert.AdamHgrnInRefIdeal.nD Cert.AdamHgrnInRefIdeal.τ).loc Cert.AdamHgrnInRefIdeal.main_arg1) = m ((c.tc : Thread Cert.AdamHgrnInIdeal.nD Cert.AdamHgrnInIdeal.τ).loc Cert.AdamHgrnInIdeal.main_arg1)
      ∧ m' ((c.tc : Thread Cert.AdamHgrnInRefIdeal.nD Cert.AdamHgrnInRefIdeal.τ).loc Cert.AdamHgrnInRefIdeal.main_arg2) = m ((c.tc : Thread Cert.AdamHgrnInIdeal.nD Cert.AdamHgrnInIdeal.τ).loc Cert.AdamHgrnInIdeal.main_arg2)
      ∧ m' ((c.tc : Thread Cert.AdamHgrnInRefIdeal.nD Cert.AdamHgrnInRefIdeal.τ).loc Cert.AdamHgrnInRefIdeal.main_arg3) = m ((c.tc : Thread Cert.AdamHgrnInIdeal.nD Cert.AdamHgrnInIdeal.τ).loc Cert.AdamHgrnInIdeal.main_arg3)
      ∧ m' ((c.tc : Thread Cert.AdamHgrnInRefIdeal.nD Cert.AdamHgrnInRefIdeal.τ).loc Cert.AdamHgrnInRefIdeal.main_arg4) = m ((c.tc : Thread Cert.AdamHgrnInIdeal.nD Cert.AdamHgrnInIdeal.τ).loc Cert.AdamHgrnInIdeal.main_arg4)) →
    ∃ (v0 : (c : Dev Cert.AdamHgrnInIdeal.nD) → Buf (Elt Ideal) ((c.tc : Thread Cert.AdamHgrnInIdeal.nD Cert.AdamHgrnInIdeal.τ).loc Cert.AdamHgrnInIdeal.main_v0_0)) (v1 : (c : Dev Cert.AdamHgrnInIdeal.nD) → Buf (Elt Ideal) ((c.tc : Thread Cert.AdamHgrnInIdeal.nD Cert.AdamHgrnInIdeal.τ).loc Cert.AdamHgrnInIdeal.main_v0_1)) (v2 : (c : Dev Cert.AdamHgrnInIdeal.nD) → Buf (Elt Ideal) ((c.tc : Thread Cert.AdamHgrnInIdeal.nD Cert.AdamHgrnInIdeal.τ).loc Cert.AdamHgrnInIdeal.main_v0_2)),
      θ_run (Cert.AdamHgrnInIdeal.defs (F := Ideal)) (onTc (τ := Cert.AdamHgrnInIdeal.τ) (Cert.AdamHgrnInIdeal.main (F := Ideal))) ⟨m, fun _ => 0, g⟩ (fun r => ∀ c : Dev Cert.AdamHgrnInIdeal.nD,
          r.2.mem ((c.tc : Thread Cert.AdamHgrnInIdeal.nD Cert.AdamHgrnInIdeal.τ).loc Cert.AdamHgrnInIdeal.main_v0_0) = v0 c
          ∧ r.2.mem ((c.tc : Thread Cert.AdamHgrnInIdeal.nD Cert.AdamHgrnInIdeal.τ).loc Cert.AdamHgrnInIdeal.main_v0_1) = v1 c
          ∧ r.2.mem ((c.tc : Thread Cert.AdamHgrnInIdeal.nD Cert.AdamHgrnInIdeal.τ).loc Cert.AdamHgrnInIdeal.main_v0_2) = v2 c
          ∧ r.2.mem ((c.tc : Thread Cert.AdamHgrnInIdeal.nD Cert.AdamHgrnInIdeal.τ).loc Cert.AdamHgrnInIdeal.main_arg0) = m ((c.tc : Thread Cert.AdamHgrnInIdeal.nD Cert.AdamHgrnInIdeal.τ).loc Cert.AdamHgrnInIdeal.main_arg0)
          ∧ r.2.mem ((c.tc : Thread Cert.AdamHgrnInIdeal.nD Cert.AdamHgrnInIdeal.τ).loc Cert.AdamHgrnInIdeal.main_arg1) = m ((c.tc : Thread Cert.AdamHgrnInIdeal.nD Cert.AdamHgrnInIdeal.τ).loc Cert.AdamHgrnInIdeal.main_arg1)
          ∧ r.2.mem ((c.tc : Thread Cert.AdamHgrnInIdeal.nD Cert.AdamHgrnInIdeal.τ).loc Cert.AdamHgrnInIdeal.main_arg2) = m ((c.tc : Thread Cert.AdamHgrnInIdeal.nD Cert.AdamHgrnInIdeal.τ).loc Cert.AdamHgrnInIdeal.main_arg2)
          ∧ r.2.mem ((c.tc : Thread Cert.AdamHgrnInIdeal.nD Cert.AdamHgrnInIdeal.τ).loc Cert.AdamHgrnInIdeal.main_arg3) = m ((c.tc : Thread Cert.AdamHgrnInIdeal.nD Cert.AdamHgrnInIdeal.τ).loc Cert.AdamHgrnInIdeal.main_arg3)
          ∧ r.2.mem ((c.tc : Thread Cert.AdamHgrnInIdeal.nD Cert.AdamHgrnInIdeal.τ).loc Cert.AdamHgrnInIdeal.main_arg4) = m ((c.tc : Thread Cert.AdamHgrnInIdeal.nD Cert.AdamHgrnInIdeal.τ).loc Cert.AdamHgrnInIdeal.main_arg4))
      ∧ θ_run (Cert.AdamHgrnInRefIdeal.defs (F := Ideal)) (onTc (τ := Cert.AdamHgrnInRefIdeal.τ) (Cert.AdamHgrnInRefIdeal.main (F := Ideal))) ⟨m', fun _ => 0, g'⟩ (fun r => ∀ c : Dev Cert.AdamHgrnInRefIdeal.nD,
          r.2.mem ((c.tc : Thread Cert.AdamHgrnInRefIdeal.nD Cert.AdamHgrnInRefIdeal.τ).loc Cert.AdamHgrnInRefIdeal.main_v23) = v0 c
          ∧ r.2.mem ((c.tc : Thread Cert.AdamHgrnInRefIdeal.nD Cert.AdamHgrnInRefIdeal.τ).loc Cert.AdamHgrnInRefIdeal.main_v4) = v1 c
          ∧ r.2.mem ((c.tc : Thread Cert.AdamHgrnInRefIdeal.nD Cert.AdamHgrnInRefIdeal.τ).loc Cert.AdamHgrnInRefIdeal.main_v10) = v2 c
          ∧ r.2.mem ((c.tc : Thread Cert.AdamHgrnInRefIdeal.nD Cert.AdamHgrnInRefIdeal.τ).loc Cert.AdamHgrnInRefIdeal.main_arg0) = m' ((c.tc : Thread Cert.AdamHgrnInRefIdeal.nD Cert.AdamHgrnInRefIdeal.τ).loc Cert.AdamHgrnInRefIdeal.main_arg0)
          ∧ r.2.mem ((c.tc : Thread Cert.AdamHgrnInRefIdeal.nD Cert.AdamHgrnInRefIdeal.τ).loc Cert.AdamHgrnInRefIdeal.main_arg1) = m' ((c.tc : Thread Cert.AdamHgrnInRefIdeal.nD Cert.AdamHgrnInRefIdeal.τ).loc Cert.AdamHgrnInRefIdeal.main_arg1)
          ∧ r.2.mem ((c.tc : Thread Cert.AdamHgrnInRefIdeal.nD Cert.AdamHgrnInRefIdeal.τ).loc Cert.AdamHgrnInRefIdeal.main_arg2) = m' ((c.tc : Thread Cert.AdamHgrnInRefIdeal.nD Cert.AdamHgrnInRefIdeal.τ).loc Cert.AdamHgrnInRefIdeal.main_arg2)
          ∧ r.2.mem ((c.tc : Thread Cert.AdamHgrnInRefIdeal.nD Cert.AdamHgrnInRefIdeal.τ).loc Cert.AdamHgrnInRefIdeal.main_arg3) = m' ((c.tc : Thread Cert.AdamHgrnInRefIdeal.nD Cert.AdamHgrnInRefIdeal.τ).loc Cert.AdamHgrnInRefIdeal.main_arg3)
          ∧ r.2.mem ((c.tc : Thread Cert.AdamHgrnInRefIdeal.nD Cert.AdamHgrnInRefIdeal.τ).loc Cert.AdamHgrnInRefIdeal.main_arg4) = m' ((c.tc : Thread Cert.AdamHgrnInRefIdeal.nD Cert.AdamHgrnInRefIdeal.τ).loc Cert.AdamHgrnInRefIdeal.main_arg4))

def preserves_AdamSwaIn_AdamSwaInIdeal : Prop :=
  True

def algebraic_AdamSwaInIdeal_AdamSwaInRefIdeal [hAdamSwaInIdeal : Cert.AdamSwaInIdeal.Facts] [hAdamSwaInRefIdeal : Cert.AdamSwaInRefIdeal.Facts] : Prop :=
  ∀ (m : (ℓ : Loc Cert.AdamSwaInIdeal.nD Cert.AdamSwaInIdeal.τ Cert.AdamSwaInIdeal.sig) → Buf (Elt Ideal) ℓ) (g : Dev Cert.AdamSwaInIdeal.nD → PrngReg)
    (m' : (ℓ : Loc Cert.AdamSwaInRefIdeal.nD Cert.AdamSwaInRefIdeal.τ Cert.AdamSwaInRefIdeal.sig) → Buf (Elt Ideal) ℓ) (g' : Dev Cert.AdamSwaInRefIdeal.nD → PrngReg), Pre_AdamSwaInIdeal m →
    (∀ c : Dev Cert.AdamSwaInIdeal.nD,
      m' ((c.tc : Thread Cert.AdamSwaInRefIdeal.nD Cert.AdamSwaInRefIdeal.τ).loc Cert.AdamSwaInRefIdeal.main_arg0) = m ((c.tc : Thread Cert.AdamSwaInIdeal.nD Cert.AdamSwaInIdeal.τ).loc Cert.AdamSwaInIdeal.main_arg0)
      ∧ m' ((c.tc : Thread Cert.AdamSwaInRefIdeal.nD Cert.AdamSwaInRefIdeal.τ).loc Cert.AdamSwaInRefIdeal.main_arg1) = m ((c.tc : Thread Cert.AdamSwaInIdeal.nD Cert.AdamSwaInIdeal.τ).loc Cert.AdamSwaInIdeal.main_arg1)
      ∧ m' ((c.tc : Thread Cert.AdamSwaInRefIdeal.nD Cert.AdamSwaInRefIdeal.τ).loc Cert.AdamSwaInRefIdeal.main_arg2) = m ((c.tc : Thread Cert.AdamSwaInIdeal.nD Cert.AdamSwaInIdeal.τ).loc Cert.AdamSwaInIdeal.main_arg2)
      ∧ m' ((c.tc : Thread Cert.AdamSwaInRefIdeal.nD Cert.AdamSwaInRefIdeal.τ).loc Cert.AdamSwaInRefIdeal.main_arg3) = m ((c.tc : Thread Cert.AdamSwaInIdeal.nD Cert.AdamSwaInIdeal.τ).loc Cert.AdamSwaInIdeal.main_arg3)
      ∧ m' ((c.tc : Thread Cert.AdamSwaInRefIdeal.nD Cert.AdamSwaInRefIdeal.τ).loc Cert.AdamSwaInRefIdeal.main_arg4) = m ((c.tc : Thread Cert.AdamSwaInIdeal.nD Cert.AdamSwaInIdeal.τ).loc Cert.AdamSwaInIdeal.main_arg4)) →
    ∃ (v0 : (c : Dev Cert.AdamSwaInIdeal.nD) → Buf (Elt Ideal) ((c.tc : Thread Cert.AdamSwaInIdeal.nD Cert.AdamSwaInIdeal.τ).loc Cert.AdamSwaInIdeal.main_v0_0)) (v1 : (c : Dev Cert.AdamSwaInIdeal.nD) → Buf (Elt Ideal) ((c.tc : Thread Cert.AdamSwaInIdeal.nD Cert.AdamSwaInIdeal.τ).loc Cert.AdamSwaInIdeal.main_v0_1)) (v2 : (c : Dev Cert.AdamSwaInIdeal.nD) → Buf (Elt Ideal) ((c.tc : Thread Cert.AdamSwaInIdeal.nD Cert.AdamSwaInIdeal.τ).loc Cert.AdamSwaInIdeal.main_v0_2)),
      θ_run (Cert.AdamSwaInIdeal.defs (F := Ideal)) (onTc (τ := Cert.AdamSwaInIdeal.τ) (Cert.AdamSwaInIdeal.main (F := Ideal))) ⟨m, fun _ => 0, g⟩ (fun r => ∀ c : Dev Cert.AdamSwaInIdeal.nD,
          r.2.mem ((c.tc : Thread Cert.AdamSwaInIdeal.nD Cert.AdamSwaInIdeal.τ).loc Cert.AdamSwaInIdeal.main_v0_0) = v0 c
          ∧ r.2.mem ((c.tc : Thread Cert.AdamSwaInIdeal.nD Cert.AdamSwaInIdeal.τ).loc Cert.AdamSwaInIdeal.main_v0_1) = v1 c
          ∧ r.2.mem ((c.tc : Thread Cert.AdamSwaInIdeal.nD Cert.AdamSwaInIdeal.τ).loc Cert.AdamSwaInIdeal.main_v0_2) = v2 c
          ∧ r.2.mem ((c.tc : Thread Cert.AdamSwaInIdeal.nD Cert.AdamSwaInIdeal.τ).loc Cert.AdamSwaInIdeal.main_arg0) = m ((c.tc : Thread Cert.AdamSwaInIdeal.nD Cert.AdamSwaInIdeal.τ).loc Cert.AdamSwaInIdeal.main_arg0)
          ∧ r.2.mem ((c.tc : Thread Cert.AdamSwaInIdeal.nD Cert.AdamSwaInIdeal.τ).loc Cert.AdamSwaInIdeal.main_arg1) = m ((c.tc : Thread Cert.AdamSwaInIdeal.nD Cert.AdamSwaInIdeal.τ).loc Cert.AdamSwaInIdeal.main_arg1)
          ∧ r.2.mem ((c.tc : Thread Cert.AdamSwaInIdeal.nD Cert.AdamSwaInIdeal.τ).loc Cert.AdamSwaInIdeal.main_arg2) = m ((c.tc : Thread Cert.AdamSwaInIdeal.nD Cert.AdamSwaInIdeal.τ).loc Cert.AdamSwaInIdeal.main_arg2)
          ∧ r.2.mem ((c.tc : Thread Cert.AdamSwaInIdeal.nD Cert.AdamSwaInIdeal.τ).loc Cert.AdamSwaInIdeal.main_arg3) = m ((c.tc : Thread Cert.AdamSwaInIdeal.nD Cert.AdamSwaInIdeal.τ).loc Cert.AdamSwaInIdeal.main_arg3)
          ∧ r.2.mem ((c.tc : Thread Cert.AdamSwaInIdeal.nD Cert.AdamSwaInIdeal.τ).loc Cert.AdamSwaInIdeal.main_arg4) = m ((c.tc : Thread Cert.AdamSwaInIdeal.nD Cert.AdamSwaInIdeal.τ).loc Cert.AdamSwaInIdeal.main_arg4))
      ∧ θ_run (Cert.AdamSwaInRefIdeal.defs (F := Ideal)) (onTc (τ := Cert.AdamSwaInRefIdeal.τ) (Cert.AdamSwaInRefIdeal.main (F := Ideal))) ⟨m', fun _ => 0, g'⟩ (fun r => ∀ c : Dev Cert.AdamSwaInRefIdeal.nD,
          r.2.mem ((c.tc : Thread Cert.AdamSwaInRefIdeal.nD Cert.AdamSwaInRefIdeal.τ).loc Cert.AdamSwaInRefIdeal.main_v23) = v0 c
          ∧ r.2.mem ((c.tc : Thread Cert.AdamSwaInRefIdeal.nD Cert.AdamSwaInRefIdeal.τ).loc Cert.AdamSwaInRefIdeal.main_v4) = v1 c
          ∧ r.2.mem ((c.tc : Thread Cert.AdamSwaInRefIdeal.nD Cert.AdamSwaInRefIdeal.τ).loc Cert.AdamSwaInRefIdeal.main_v10) = v2 c
          ∧ r.2.mem ((c.tc : Thread Cert.AdamSwaInRefIdeal.nD Cert.AdamSwaInRefIdeal.τ).loc Cert.AdamSwaInRefIdeal.main_arg0) = m' ((c.tc : Thread Cert.AdamSwaInRefIdeal.nD Cert.AdamSwaInRefIdeal.τ).loc Cert.AdamSwaInRefIdeal.main_arg0)
          ∧ r.2.mem ((c.tc : Thread Cert.AdamSwaInRefIdeal.nD Cert.AdamSwaInRefIdeal.τ).loc Cert.AdamSwaInRefIdeal.main_arg1) = m' ((c.tc : Thread Cert.AdamSwaInRefIdeal.nD Cert.AdamSwaInRefIdeal.τ).loc Cert.AdamSwaInRefIdeal.main_arg1)
          ∧ r.2.mem ((c.tc : Thread Cert.AdamSwaInRefIdeal.nD Cert.AdamSwaInRefIdeal.τ).loc Cert.AdamSwaInRefIdeal.main_arg2) = m' ((c.tc : Thread Cert.AdamSwaInRefIdeal.nD Cert.AdamSwaInRefIdeal.τ).loc Cert.AdamSwaInRefIdeal.main_arg2)
          ∧ r.2.mem ((c.tc : Thread Cert.AdamSwaInRefIdeal.nD Cert.AdamSwaInRefIdeal.τ).loc Cert.AdamSwaInRefIdeal.main_arg3) = m' ((c.tc : Thread Cert.AdamSwaInRefIdeal.nD Cert.AdamSwaInRefIdeal.τ).loc Cert.AdamSwaInRefIdeal.main_arg3)
          ∧ r.2.mem ((c.tc : Thread Cert.AdamSwaInRefIdeal.nD Cert.AdamSwaInRefIdeal.τ).loc Cert.AdamSwaInRefIdeal.main_arg4) = m' ((c.tc : Thread Cert.AdamSwaInRefIdeal.nD Cert.AdamSwaInRefIdeal.τ).loc Cert.AdamSwaInRefIdeal.main_arg4))

def preserves_AdamScIn_AdamScInIdeal : Prop :=
  True

def algebraic_AdamScInIdeal_AdamScInRefIdeal [hAdamScInIdeal : Cert.AdamScInIdeal.Facts] [hAdamScInRefIdeal : Cert.AdamScInRefIdeal.Facts] : Prop :=
  ∀ (m : (ℓ : Loc Cert.AdamScInIdeal.nD Cert.AdamScInIdeal.τ Cert.AdamScInIdeal.sig) → Buf (Elt Ideal) ℓ) (g : Dev Cert.AdamScInIdeal.nD → PrngReg)
    (m' : (ℓ : Loc Cert.AdamScInRefIdeal.nD Cert.AdamScInRefIdeal.τ Cert.AdamScInRefIdeal.sig) → Buf (Elt Ideal) ℓ) (g' : Dev Cert.AdamScInRefIdeal.nD → PrngReg), Pre_AdamScInIdeal m →
    (∀ c : Dev Cert.AdamScInIdeal.nD,
      m' ((c.tc : Thread Cert.AdamScInRefIdeal.nD Cert.AdamScInRefIdeal.τ).loc Cert.AdamScInRefIdeal.main_arg0) = m ((c.tc : Thread Cert.AdamScInIdeal.nD Cert.AdamScInIdeal.τ).loc Cert.AdamScInIdeal.main_arg0)
      ∧ m' ((c.tc : Thread Cert.AdamScInRefIdeal.nD Cert.AdamScInRefIdeal.τ).loc Cert.AdamScInRefIdeal.main_arg1) = m ((c.tc : Thread Cert.AdamScInIdeal.nD Cert.AdamScInIdeal.τ).loc Cert.AdamScInIdeal.main_arg1)
      ∧ m' ((c.tc : Thread Cert.AdamScInRefIdeal.nD Cert.AdamScInRefIdeal.τ).loc Cert.AdamScInRefIdeal.main_arg2) = m ((c.tc : Thread Cert.AdamScInIdeal.nD Cert.AdamScInIdeal.τ).loc Cert.AdamScInIdeal.main_arg2)
      ∧ m' ((c.tc : Thread Cert.AdamScInRefIdeal.nD Cert.AdamScInRefIdeal.τ).loc Cert.AdamScInRefIdeal.main_arg3) = m ((c.tc : Thread Cert.AdamScInIdeal.nD Cert.AdamScInIdeal.τ).loc Cert.AdamScInIdeal.main_arg3)
      ∧ m' ((c.tc : Thread Cert.AdamScInRefIdeal.nD Cert.AdamScInRefIdeal.τ).loc Cert.AdamScInRefIdeal.main_arg4) = m ((c.tc : Thread Cert.AdamScInIdeal.nD Cert.AdamScInIdeal.τ).loc Cert.AdamScInIdeal.main_arg4)) →
    ∃ (v0 : (c : Dev Cert.AdamScInIdeal.nD) → Buf (Elt Ideal) ((c.tc : Thread Cert.AdamScInIdeal.nD Cert.AdamScInIdeal.τ).loc Cert.AdamScInIdeal.main_v0_0)) (v1 : (c : Dev Cert.AdamScInIdeal.nD) → Buf (Elt Ideal) ((c.tc : Thread Cert.AdamScInIdeal.nD Cert.AdamScInIdeal.τ).loc Cert.AdamScInIdeal.main_v0_1)) (v2 : (c : Dev Cert.AdamScInIdeal.nD) → Buf (Elt Ideal) ((c.tc : Thread Cert.AdamScInIdeal.nD Cert.AdamScInIdeal.τ).loc Cert.AdamScInIdeal.main_v0_2)),
      θ_run (Cert.AdamScInIdeal.defs (F := Ideal)) (onTc (τ := Cert.AdamScInIdeal.τ) (Cert.AdamScInIdeal.main (F := Ideal))) ⟨m, fun _ => 0, g⟩ (fun r => ∀ c : Dev Cert.AdamScInIdeal.nD,
          r.2.mem ((c.tc : Thread Cert.AdamScInIdeal.nD Cert.AdamScInIdeal.τ).loc Cert.AdamScInIdeal.main_v0_0) = v0 c
          ∧ r.2.mem ((c.tc : Thread Cert.AdamScInIdeal.nD Cert.AdamScInIdeal.τ).loc Cert.AdamScInIdeal.main_v0_1) = v1 c
          ∧ r.2.mem ((c.tc : Thread Cert.AdamScInIdeal.nD Cert.AdamScInIdeal.τ).loc Cert.AdamScInIdeal.main_v0_2) = v2 c
          ∧ r.2.mem ((c.tc : Thread Cert.AdamScInIdeal.nD Cert.AdamScInIdeal.τ).loc Cert.AdamScInIdeal.main_arg0) = m ((c.tc : Thread Cert.AdamScInIdeal.nD Cert.AdamScInIdeal.τ).loc Cert.AdamScInIdeal.main_arg0)
          ∧ r.2.mem ((c.tc : Thread Cert.AdamScInIdeal.nD Cert.AdamScInIdeal.τ).loc Cert.AdamScInIdeal.main_arg1) = m ((c.tc : Thread Cert.AdamScInIdeal.nD Cert.AdamScInIdeal.τ).loc Cert.AdamScInIdeal.main_arg1)
          ∧ r.2.mem ((c.tc : Thread Cert.AdamScInIdeal.nD Cert.AdamScInIdeal.τ).loc Cert.AdamScInIdeal.main_arg2) = m ((c.tc : Thread Cert.AdamScInIdeal.nD Cert.AdamScInIdeal.τ).loc Cert.AdamScInIdeal.main_arg2)
          ∧ r.2.mem ((c.tc : Thread Cert.AdamScInIdeal.nD Cert.AdamScInIdeal.τ).loc Cert.AdamScInIdeal.main_arg3) = m ((c.tc : Thread Cert.AdamScInIdeal.nD Cert.AdamScInIdeal.τ).loc Cert.AdamScInIdeal.main_arg3)
          ∧ r.2.mem ((c.tc : Thread Cert.AdamScInIdeal.nD Cert.AdamScInIdeal.τ).loc Cert.AdamScInIdeal.main_arg4) = m ((c.tc : Thread Cert.AdamScInIdeal.nD Cert.AdamScInIdeal.τ).loc Cert.AdamScInIdeal.main_arg4))
      ∧ θ_run (Cert.AdamScInRefIdeal.defs (F := Ideal)) (onTc (τ := Cert.AdamScInRefIdeal.τ) (Cert.AdamScInRefIdeal.main (F := Ideal))) ⟨m', fun _ => 0, g'⟩ (fun r => ∀ c : Dev Cert.AdamScInRefIdeal.nD,
          r.2.mem ((c.tc : Thread Cert.AdamScInRefIdeal.nD Cert.AdamScInRefIdeal.τ).loc Cert.AdamScInRefIdeal.main_v23) = v0 c
          ∧ r.2.mem ((c.tc : Thread Cert.AdamScInRefIdeal.nD Cert.AdamScInRefIdeal.τ).loc Cert.AdamScInRefIdeal.main_v4) = v1 c
          ∧ r.2.mem ((c.tc : Thread Cert.AdamScInRefIdeal.nD Cert.AdamScInRefIdeal.τ).loc Cert.AdamScInRefIdeal.main_v10) = v2 c
          ∧ r.2.mem ((c.tc : Thread Cert.AdamScInRefIdeal.nD Cert.AdamScInRefIdeal.τ).loc Cert.AdamScInRefIdeal.main_arg0) = m' ((c.tc : Thread Cert.AdamScInRefIdeal.nD Cert.AdamScInRefIdeal.τ).loc Cert.AdamScInRefIdeal.main_arg0)
          ∧ r.2.mem ((c.tc : Thread Cert.AdamScInRefIdeal.nD Cert.AdamScInRefIdeal.τ).loc Cert.AdamScInRefIdeal.main_arg1) = m' ((c.tc : Thread Cert.AdamScInRefIdeal.nD Cert.AdamScInRefIdeal.τ).loc Cert.AdamScInRefIdeal.main_arg1)
          ∧ r.2.mem ((c.tc : Thread Cert.AdamScInRefIdeal.nD Cert.AdamScInRefIdeal.τ).loc Cert.AdamScInRefIdeal.main_arg2) = m' ((c.tc : Thread Cert.AdamScInRefIdeal.nD Cert.AdamScInRefIdeal.τ).loc Cert.AdamScInRefIdeal.main_arg2)
          ∧ r.2.mem ((c.tc : Thread Cert.AdamScInRefIdeal.nD Cert.AdamScInRefIdeal.τ).loc Cert.AdamScInRefIdeal.main_arg3) = m' ((c.tc : Thread Cert.AdamScInRefIdeal.nD Cert.AdamScInRefIdeal.τ).loc Cert.AdamScInRefIdeal.main_arg3)
          ∧ r.2.mem ((c.tc : Thread Cert.AdamScInRefIdeal.nD Cert.AdamScInRefIdeal.τ).loc Cert.AdamScInRefIdeal.main_arg4) = m' ((c.tc : Thread Cert.AdamScInRefIdeal.nD Cert.AdamScInRefIdeal.τ).loc Cert.AdamScInRefIdeal.main_arg4))

def preserves_AdamFoxIn_AdamFoxInIdeal : Prop :=
  True

def algebraic_AdamFoxInIdeal_AdamFoxInRefIdeal [hAdamFoxInIdeal : Cert.AdamFoxInIdeal.Facts] [hAdamFoxInRefIdeal : Cert.AdamFoxInRefIdeal.Facts] : Prop :=
  ∀ (m : (ℓ : Loc Cert.AdamFoxInIdeal.nD Cert.AdamFoxInIdeal.τ Cert.AdamFoxInIdeal.sig) → Buf (Elt Ideal) ℓ) (g : Dev Cert.AdamFoxInIdeal.nD → PrngReg)
    (m' : (ℓ : Loc Cert.AdamFoxInRefIdeal.nD Cert.AdamFoxInRefIdeal.τ Cert.AdamFoxInRefIdeal.sig) → Buf (Elt Ideal) ℓ) (g' : Dev Cert.AdamFoxInRefIdeal.nD → PrngReg), Pre_AdamFoxInIdeal m →
    (∀ c : Dev Cert.AdamFoxInIdeal.nD,
      m' ((c.tc : Thread Cert.AdamFoxInRefIdeal.nD Cert.AdamFoxInRefIdeal.τ).loc Cert.AdamFoxInRefIdeal.main_arg0) = m ((c.tc : Thread Cert.AdamFoxInIdeal.nD Cert.AdamFoxInIdeal.τ).loc Cert.AdamFoxInIdeal.main_arg0)
      ∧ m' ((c.tc : Thread Cert.AdamFoxInRefIdeal.nD Cert.AdamFoxInRefIdeal.τ).loc Cert.AdamFoxInRefIdeal.main_arg1) = m ((c.tc : Thread Cert.AdamFoxInIdeal.nD Cert.AdamFoxInIdeal.τ).loc Cert.AdamFoxInIdeal.main_arg1)
      ∧ m' ((c.tc : Thread Cert.AdamFoxInRefIdeal.nD Cert.AdamFoxInRefIdeal.τ).loc Cert.AdamFoxInRefIdeal.main_arg2) = m ((c.tc : Thread Cert.AdamFoxInIdeal.nD Cert.AdamFoxInIdeal.τ).loc Cert.AdamFoxInIdeal.main_arg2)
      ∧ m' ((c.tc : Thread Cert.AdamFoxInRefIdeal.nD Cert.AdamFoxInRefIdeal.τ).loc Cert.AdamFoxInRefIdeal.main_arg3) = m ((c.tc : Thread Cert.AdamFoxInIdeal.nD Cert.AdamFoxInIdeal.τ).loc Cert.AdamFoxInIdeal.main_arg3)
      ∧ m' ((c.tc : Thread Cert.AdamFoxInRefIdeal.nD Cert.AdamFoxInRefIdeal.τ).loc Cert.AdamFoxInRefIdeal.main_arg4) = m ((c.tc : Thread Cert.AdamFoxInIdeal.nD Cert.AdamFoxInIdeal.τ).loc Cert.AdamFoxInIdeal.main_arg4)) →
    ∃ (v0 : (c : Dev Cert.AdamFoxInIdeal.nD) → Buf (Elt Ideal) ((c.tc : Thread Cert.AdamFoxInIdeal.nD Cert.AdamFoxInIdeal.τ).loc Cert.AdamFoxInIdeal.main_v0_0)) (v1 : (c : Dev Cert.AdamFoxInIdeal.nD) → Buf (Elt Ideal) ((c.tc : Thread Cert.AdamFoxInIdeal.nD Cert.AdamFoxInIdeal.τ).loc Cert.AdamFoxInIdeal.main_v0_1)) (v2 : (c : Dev Cert.AdamFoxInIdeal.nD) → Buf (Elt Ideal) ((c.tc : Thread Cert.AdamFoxInIdeal.nD Cert.AdamFoxInIdeal.τ).loc Cert.AdamFoxInIdeal.main_v0_2)),
      θ_run (Cert.AdamFoxInIdeal.defs (F := Ideal)) (onTc (τ := Cert.AdamFoxInIdeal.τ) (Cert.AdamFoxInIdeal.main (F := Ideal))) ⟨m, fun _ => 0, g⟩ (fun r => ∀ c : Dev Cert.AdamFoxInIdeal.nD,
          r.2.mem ((c.tc : Thread Cert.AdamFoxInIdeal.nD Cert.AdamFoxInIdeal.τ).loc Cert.AdamFoxInIdeal.main_v0_0) = v0 c
          ∧ r.2.mem ((c.tc : Thread Cert.AdamFoxInIdeal.nD Cert.AdamFoxInIdeal.τ).loc Cert.AdamFoxInIdeal.main_v0_1) = v1 c
          ∧ r.2.mem ((c.tc : Thread Cert.AdamFoxInIdeal.nD Cert.AdamFoxInIdeal.τ).loc Cert.AdamFoxInIdeal.main_v0_2) = v2 c
          ∧ r.2.mem ((c.tc : Thread Cert.AdamFoxInIdeal.nD Cert.AdamFoxInIdeal.τ).loc Cert.AdamFoxInIdeal.main_arg0) = m ((c.tc : Thread Cert.AdamFoxInIdeal.nD Cert.AdamFoxInIdeal.τ).loc Cert.AdamFoxInIdeal.main_arg0)
          ∧ r.2.mem ((c.tc : Thread Cert.AdamFoxInIdeal.nD Cert.AdamFoxInIdeal.τ).loc Cert.AdamFoxInIdeal.main_arg1) = m ((c.tc : Thread Cert.AdamFoxInIdeal.nD Cert.AdamFoxInIdeal.τ).loc Cert.AdamFoxInIdeal.main_arg1)
          ∧ r.2.mem ((c.tc : Thread Cert.AdamFoxInIdeal.nD Cert.AdamFoxInIdeal.τ).loc Cert.AdamFoxInIdeal.main_arg2) = m ((c.tc : Thread Cert.AdamFoxInIdeal.nD Cert.AdamFoxInIdeal.τ).loc Cert.AdamFoxInIdeal.main_arg2)
          ∧ r.2.mem ((c.tc : Thread Cert.AdamFoxInIdeal.nD Cert.AdamFoxInIdeal.τ).loc Cert.AdamFoxInIdeal.main_arg3) = m ((c.tc : Thread Cert.AdamFoxInIdeal.nD Cert.AdamFoxInIdeal.τ).loc Cert.AdamFoxInIdeal.main_arg3)
          ∧ r.2.mem ((c.tc : Thread Cert.AdamFoxInIdeal.nD Cert.AdamFoxInIdeal.τ).loc Cert.AdamFoxInIdeal.main_arg4) = m ((c.tc : Thread Cert.AdamFoxInIdeal.nD Cert.AdamFoxInIdeal.τ).loc Cert.AdamFoxInIdeal.main_arg4))
      ∧ θ_run (Cert.AdamFoxInRefIdeal.defs (F := Ideal)) (onTc (τ := Cert.AdamFoxInRefIdeal.τ) (Cert.AdamFoxInRefIdeal.main (F := Ideal))) ⟨m', fun _ => 0, g'⟩ (fun r => ∀ c : Dev Cert.AdamFoxInRefIdeal.nD,
          r.2.mem ((c.tc : Thread Cert.AdamFoxInRefIdeal.nD Cert.AdamFoxInRefIdeal.τ).loc Cert.AdamFoxInRefIdeal.main_v23) = v0 c
          ∧ r.2.mem ((c.tc : Thread Cert.AdamFoxInRefIdeal.nD Cert.AdamFoxInRefIdeal.τ).loc Cert.AdamFoxInRefIdeal.main_v4) = v1 c
          ∧ r.2.mem ((c.tc : Thread Cert.AdamFoxInRefIdeal.nD Cert.AdamFoxInRefIdeal.τ).loc Cert.AdamFoxInRefIdeal.main_v10) = v2 c
          ∧ r.2.mem ((c.tc : Thread Cert.AdamFoxInRefIdeal.nD Cert.AdamFoxInRefIdeal.τ).loc Cert.AdamFoxInRefIdeal.main_arg0) = m' ((c.tc : Thread Cert.AdamFoxInRefIdeal.nD Cert.AdamFoxInRefIdeal.τ).loc Cert.AdamFoxInRefIdeal.main_arg0)
          ∧ r.2.mem ((c.tc : Thread Cert.AdamFoxInRefIdeal.nD Cert.AdamFoxInRefIdeal.τ).loc Cert.AdamFoxInRefIdeal.main_arg1) = m' ((c.tc : Thread Cert.AdamFoxInRefIdeal.nD Cert.AdamFoxInRefIdeal.τ).loc Cert.AdamFoxInRefIdeal.main_arg1)
          ∧ r.2.mem ((c.tc : Thread Cert.AdamFoxInRefIdeal.nD Cert.AdamFoxInRefIdeal.τ).loc Cert.AdamFoxInRefIdeal.main_arg2) = m' ((c.tc : Thread Cert.AdamFoxInRefIdeal.nD Cert.AdamFoxInRefIdeal.τ).loc Cert.AdamFoxInRefIdeal.main_arg2)
          ∧ r.2.mem ((c.tc : Thread Cert.AdamFoxInRefIdeal.nD Cert.AdamFoxInRefIdeal.τ).loc Cert.AdamFoxInRefIdeal.main_arg3) = m' ((c.tc : Thread Cert.AdamFoxInRefIdeal.nD Cert.AdamFoxInRefIdeal.τ).loc Cert.AdamFoxInRefIdeal.main_arg3)
          ∧ r.2.mem ((c.tc : Thread Cert.AdamFoxInRefIdeal.nD Cert.AdamFoxInRefIdeal.τ).loc Cert.AdamFoxInRefIdeal.main_arg4) = m' ((c.tc : Thread Cert.AdamFoxInRefIdeal.nD Cert.AdamFoxInRefIdeal.τ).loc Cert.AdamFoxInRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)
      ∧ m' ((c.tc : Thread Cert.AdamNormRefIdeal.nD Cert.AdamNormRefIdeal.τ).loc Cert.AdamNormRefIdeal.main_arg4) = m ((c.tc : Thread Cert.AdamNormIdeal.nD Cert.AdamNormIdeal.τ).loc Cert.AdamNormIdeal.main_arg4)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3)
          ∧ r.2.mem ((c.tc : Thread Cert.AdamNormIdeal.nD Cert.AdamNormIdeal.τ).loc Cert.AdamNormIdeal.main_arg4) = m ((c.tc : Thread Cert.AdamNormIdeal.nD Cert.AdamNormIdeal.τ).loc Cert.AdamNormIdeal.main_arg4))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3)
          ∧ r.2.mem ((c.tc : Thread Cert.AdamNormRefIdeal.nD Cert.AdamNormRefIdeal.τ).loc Cert.AdamNormRefIdeal.main_arg4) = m' ((c.tc : Thread Cert.AdamNormRefIdeal.nD Cert.AdamNormRefIdeal.τ).loc Cert.AdamNormRefIdeal.main_arg4))

def preserves_AdamHeadNorm_AdamHeadNormIdeal : Prop :=
  True

def algebraic_AdamHeadNormIdeal_AdamHeadNormRefIdeal [hAdamHeadNormIdeal : Cert.AdamHeadNormIdeal.Facts] [hAdamHeadNormRefIdeal : Cert.AdamHeadNormRefIdeal.Facts] : Prop :=
  ∀ (m : (ℓ : Loc Cert.AdamHeadNormIdeal.nD Cert.AdamHeadNormIdeal.τ Cert.AdamHeadNormIdeal.sig) → Buf (Elt Ideal) ℓ) (g : Dev Cert.AdamHeadNormIdeal.nD → PrngReg)
    (m' : (ℓ : Loc Cert.AdamHeadNormRefIdeal.nD Cert.AdamHeadNormRefIdeal.τ Cert.AdamHeadNormRefIdeal.sig) → Buf (Elt Ideal) ℓ) (g' : Dev Cert.AdamHeadNormRefIdeal.nD → PrngReg), Pre_AdamHeadNormIdeal m →
    (∀ c : Dev Cert.AdamHeadNormIdeal.nD,
      m' ((c.tc : Thread Cert.AdamHeadNormRefIdeal.nD Cert.AdamHeadNormRefIdeal.τ).loc Cert.AdamHeadNormRefIdeal.main_arg0) = m ((c.tc : Thread Cert.AdamHeadNormIdeal.nD Cert.AdamHeadNormIdeal.τ).loc Cert.AdamHeadNormIdeal.main_arg0)
      ∧ m' ((c.tc : Thread Cert.AdamHeadNormRefIdeal.nD Cert.AdamHeadNormRefIdeal.τ).loc Cert.AdamHeadNormRefIdeal.main_arg1) = m ((c.tc : Thread Cert.AdamHeadNormIdeal.nD Cert.AdamHeadNormIdeal.τ).loc Cert.AdamHeadNormIdeal.main_arg1)
      ∧ m' ((c.tc : Thread Cert.AdamHeadNormRefIdeal.nD Cert.AdamHeadNormRefIdeal.τ).loc Cert.AdamHeadNormRefIdeal.main_arg2) = m ((c.tc : Thread Cert.AdamHeadNormIdeal.nD Cert.AdamHeadNormIdeal.τ).loc Cert.AdamHeadNormIdeal.main_arg2)
      ∧ m' ((c.tc : Thread Cert.AdamHeadNormRefIdeal.nD Cert.AdamHeadNormRefIdeal.τ).loc Cert.AdamHeadNormRefIdeal.main_arg3) = m ((c.tc : Thread Cert.AdamHeadNormIdeal.nD Cert.AdamHeadNormIdeal.τ).loc Cert.AdamHeadNormIdeal.main_arg3)
      ∧ m' ((c.tc : Thread Cert.AdamHeadNormRefIdeal.nD Cert.AdamHeadNormRefIdeal.τ).loc Cert.AdamHeadNormRefIdeal.main_arg4) = m ((c.tc : Thread Cert.AdamHeadNormIdeal.nD Cert.AdamHeadNormIdeal.τ).loc Cert.AdamHeadNormIdeal.main_arg4)) →
    ∃ (v0 : (c : Dev Cert.AdamHeadNormIdeal.nD) → Buf (Elt Ideal) ((c.tc : Thread Cert.AdamHeadNormIdeal.nD Cert.AdamHeadNormIdeal.τ).loc Cert.AdamHeadNormIdeal.main_v0_0)) (v1 : (c : Dev Cert.AdamHeadNormIdeal.nD) → Buf (Elt Ideal) ((c.tc : Thread Cert.AdamHeadNormIdeal.nD Cert.AdamHeadNormIdeal.τ).loc Cert.AdamHeadNormIdeal.main_v0_1)) (v2 : (c : Dev Cert.AdamHeadNormIdeal.nD) → Buf (Elt Ideal) ((c.tc : Thread Cert.AdamHeadNormIdeal.nD Cert.AdamHeadNormIdeal.τ).loc Cert.AdamHeadNormIdeal.main_v0_2)),
      θ_run (Cert.AdamHeadNormIdeal.defs (F := Ideal)) (onTc (τ := Cert.AdamHeadNormIdeal.τ) (Cert.AdamHeadNormIdeal.main (F := Ideal))) ⟨m, fun _ => 0, g⟩ (fun r => ∀ c : Dev Cert.AdamHeadNormIdeal.nD,
          r.2.mem ((c.tc : Thread Cert.AdamHeadNormIdeal.nD Cert.AdamHeadNormIdeal.τ).loc Cert.AdamHeadNormIdeal.main_v0_0) = v0 c
          ∧ r.2.mem ((c.tc : Thread Cert.AdamHeadNormIdeal.nD Cert.AdamHeadNormIdeal.τ).loc Cert.AdamHeadNormIdeal.main_v0_1) = v1 c
          ∧ r.2.mem ((c.tc : Thread Cert.AdamHeadNormIdeal.nD Cert.AdamHeadNormIdeal.τ).loc Cert.AdamHeadNormIdeal.main_v0_2) = v2 c
          ∧ r.2.mem ((c.tc : Thread Cert.AdamHeadNormIdeal.nD Cert.AdamHeadNormIdeal.τ).loc Cert.AdamHeadNormIdeal.main_arg0) = m ((c.tc : Thread Cert.AdamHeadNormIdeal.nD Cert.AdamHeadNormIdeal.τ).loc Cert.AdamHeadNormIdeal.main_arg0)
          ∧ r.2.mem ((c.tc : Thread Cert.AdamHeadNormIdeal.nD Cert.AdamHeadNormIdeal.τ).loc Cert.AdamHeadNormIdeal.main_arg1) = m ((c.tc : Thread Cert.AdamHeadNormIdeal.nD Cert.AdamHeadNormIdeal.τ).loc Cert.AdamHeadNormIdeal.main_arg1)
          ∧ r.2.mem ((c.tc : Thread Cert.AdamHeadNormIdeal.nD Cert.AdamHeadNormIdeal.τ).loc Cert.AdamHeadNormIdeal.main_arg2) = m ((c.tc : Thread Cert.AdamHeadNormIdeal.nD Cert.AdamHeadNormIdeal.τ).loc Cert.AdamHeadNormIdeal.main_arg2)
          ∧ r.2.mem ((c.tc : Thread Cert.AdamHeadNormIdeal.nD Cert.AdamHeadNormIdeal.τ).loc Cert.AdamHeadNormIdeal.main_arg3) = m ((c.tc : Thread Cert.AdamHeadNormIdeal.nD Cert.AdamHeadNormIdeal.τ).loc Cert.AdamHeadNormIdeal.main_arg3)
          ∧ r.2.mem ((c.tc : Thread Cert.AdamHeadNormIdeal.nD Cert.AdamHeadNormIdeal.τ).loc Cert.AdamHeadNormIdeal.main_arg4) = m ((c.tc : Thread Cert.AdamHeadNormIdeal.nD Cert.AdamHeadNormIdeal.τ).loc Cert.AdamHeadNormIdeal.main_arg4))
      ∧ θ_run (Cert.AdamHeadNormRefIdeal.defs (F := Ideal)) (onTc (τ := Cert.AdamHeadNormRefIdeal.τ) (Cert.AdamHeadNormRefIdeal.main (F := Ideal))) ⟨m', fun _ => 0, g'⟩ (fun r => ∀ c : Dev Cert.AdamHeadNormRefIdeal.nD,
          r.2.mem ((c.tc : Thread Cert.AdamHeadNormRefIdeal.nD Cert.AdamHeadNormRefIdeal.τ).loc Cert.AdamHeadNormRefIdeal.main_v23) = v0 c
          ∧ r.2.mem ((c.tc : Thread Cert.AdamHeadNormRefIdeal.nD Cert.AdamHeadNormRefIdeal.τ).loc Cert.AdamHeadNormRefIdeal.main_v4) = v1 c
          ∧ r.2.mem ((c.tc : Thread Cert.AdamHeadNormRefIdeal.nD Cert.AdamHeadNormRefIdeal.τ).loc Cert.AdamHeadNormRefIdeal.main_v10) = v2 c
          ∧ r.2.mem ((c.tc : Thread Cert.AdamHeadNormRefIdeal.nD Cert.AdamHeadNormRefIdeal.τ).loc Cert.AdamHeadNormRefIdeal.main_arg0) = m' ((c.tc : Thread Cert.AdamHeadNormRefIdeal.nD Cert.AdamHeadNormRefIdeal.τ).loc Cert.AdamHeadNormRefIdeal.main_arg0)
          ∧ r.2.mem ((c.tc : Thread Cert.AdamHeadNormRefIdeal.nD Cert.AdamHeadNormRefIdeal.τ).loc Cert.AdamHeadNormRefIdeal.main_arg1) = m' ((c.tc : Thread Cert.AdamHeadNormRefIdeal.nD Cert.AdamHeadNormRefIdeal.τ).loc Cert.AdamHeadNormRefIdeal.main_arg1)
          ∧ r.2.mem ((c.tc : Thread Cert.AdamHeadNormRefIdeal.nD Cert.AdamHeadNormRefIdeal.τ).loc Cert.AdamHeadNormRefIdeal.main_arg2) = m' ((c.tc : Thread Cert.AdamHeadNormRefIdeal.nD Cert.AdamHeadNormRefIdeal.τ).loc Cert.AdamHeadNormRefIdeal.main_arg2)
          ∧ r.2.mem ((c.tc : Thread Cert.AdamHeadNormRefIdeal.nD Cert.AdamHeadNormRefIdeal.τ).loc Cert.AdamHeadNormRefIdeal.main_arg3) = m' ((c.tc : Thread Cert.AdamHeadNormRefIdeal.nD Cert.AdamHeadNormRefIdeal.τ).loc Cert.AdamHeadNormRefIdeal.main_arg3)
          ∧ r.2.mem ((c.tc : Thread Cert.AdamHeadNormRefIdeal.nD Cert.AdamHeadNormRefIdeal.τ).loc Cert.AdamHeadNormRefIdeal.main_arg4) = m' ((c.tc : Thread Cert.AdamHeadNormRefIdeal.nD Cert.AdamHeadNormRefIdeal.τ).loc Cert.AdamHeadNormRefIdeal.main_arg4))

def preserves_AdamLb_AdamLbIdeal : Prop :=
  True

def algebraic_AdamLbIdeal_AdamLbRefIdeal [hAdamLbIdeal : Cert.AdamLbIdeal.Facts] [hAdamLbRefIdeal : Cert.AdamLbRefIdeal.Facts] : Prop :=
  ∀ (m : (ℓ : Loc Cert.AdamLbIdeal.nD Cert.AdamLbIdeal.τ Cert.AdamLbIdeal.sig) → Buf (Elt Ideal) ℓ) (g : Dev Cert.AdamLbIdeal.nD → PrngReg)
    (m' : (ℓ : Loc Cert.AdamLbRefIdeal.nD Cert.AdamLbRefIdeal.τ Cert.AdamLbRefIdeal.sig) → Buf (Elt Ideal) ℓ) (g' : Dev Cert.AdamLbRefIdeal.nD → PrngReg), Pre_AdamLbIdeal m →
    (∀ c : Dev Cert.AdamLbIdeal.nD,
      m' ((c.tc : Thread Cert.AdamLbRefIdeal.nD Cert.AdamLbRefIdeal.τ).loc Cert.AdamLbRefIdeal.main_arg0) = m ((c.tc : Thread Cert.AdamLbIdeal.nD Cert.AdamLbIdeal.τ).loc Cert.AdamLbIdeal.main_arg0)
      ∧ m' ((c.tc : Thread Cert.AdamLbRefIdeal.nD Cert.AdamLbRefIdeal.τ).loc Cert.AdamLbRefIdeal.main_arg1) = m ((c.tc : Thread Cert.AdamLbIdeal.nD Cert.AdamLbIdeal.τ).loc Cert.AdamLbIdeal.main_arg1)
      ∧ m' ((c.tc : Thread Cert.AdamLbRefIdeal.nD Cert.AdamLbRefIdeal.τ).loc Cert.AdamLbRefIdeal.main_arg2) = m ((c.tc : Thread Cert.AdamLbIdeal.nD Cert.AdamLbIdeal.τ).loc Cert.AdamLbIdeal.main_arg2)
      ∧ m' ((c.tc : Thread Cert.AdamLbRefIdeal.nD Cert.AdamLbRefIdeal.τ).loc Cert.AdamLbRefIdeal.main_arg3) = m ((c.tc : Thread Cert.AdamLbIdeal.nD Cert.AdamLbIdeal.τ).loc Cert.AdamLbIdeal.main_arg3)
      ∧ m' ((c.tc : Thread Cert.AdamLbRefIdeal.nD Cert.AdamLbRefIdeal.τ).loc Cert.AdamLbRefIdeal.main_arg4) = m ((c.tc : Thread Cert.AdamLbIdeal.nD Cert.AdamLbIdeal.τ).loc Cert.AdamLbIdeal.main_arg4)) →
    ∃ (v0 : (c : Dev Cert.AdamLbIdeal.nD) → Buf (Elt Ideal) ((c.tc : Thread Cert.AdamLbIdeal.nD Cert.AdamLbIdeal.τ).loc Cert.AdamLbIdeal.main_v0_0)) (v1 : (c : Dev Cert.AdamLbIdeal.nD) → Buf (Elt Ideal) ((c.tc : Thread Cert.AdamLbIdeal.nD Cert.AdamLbIdeal.τ).loc Cert.AdamLbIdeal.main_v0_1)) (v2 : (c : Dev Cert.AdamLbIdeal.nD) → Buf (Elt Ideal) ((c.tc : Thread Cert.AdamLbIdeal.nD Cert.AdamLbIdeal.τ).loc Cert.AdamLbIdeal.main_v0_2)),
      θ_run (Cert.AdamLbIdeal.defs (F := Ideal)) (onTc (τ := Cert.AdamLbIdeal.τ) (Cert.AdamLbIdeal.main (F := Ideal))) ⟨m, fun _ => 0, g⟩ (fun r => ∀ c : Dev Cert.AdamLbIdeal.nD,
          r.2.mem ((c.tc : Thread Cert.AdamLbIdeal.nD Cert.AdamLbIdeal.τ).loc Cert.AdamLbIdeal.main_v0_0) = v0 c
          ∧ r.2.mem ((c.tc : Thread Cert.AdamLbIdeal.nD Cert.AdamLbIdeal.τ).loc Cert.AdamLbIdeal.main_v0_1) = v1 c
          ∧ r.2.mem ((c.tc : Thread Cert.AdamLbIdeal.nD Cert.AdamLbIdeal.τ).loc Cert.AdamLbIdeal.main_v0_2) = v2 c
          ∧ r.2.mem ((c.tc : Thread Cert.AdamLbIdeal.nD Cert.AdamLbIdeal.τ).loc Cert.AdamLbIdeal.main_arg0) = m ((c.tc : Thread Cert.AdamLbIdeal.nD Cert.AdamLbIdeal.τ).loc Cert.AdamLbIdeal.main_arg0)
          ∧ r.2.mem ((c.tc : Thread Cert.AdamLbIdeal.nD Cert.AdamLbIdeal.τ).loc Cert.AdamLbIdeal.main_arg1) = m ((c.tc : Thread Cert.AdamLbIdeal.nD Cert.AdamLbIdeal.τ).loc Cert.AdamLbIdeal.main_arg1)
          ∧ r.2.mem ((c.tc : Thread Cert.AdamLbIdeal.nD Cert.AdamLbIdeal.τ).loc Cert.AdamLbIdeal.main_arg2) = m ((c.tc : Thread Cert.AdamLbIdeal.nD Cert.AdamLbIdeal.τ).loc Cert.AdamLbIdeal.main_arg2)
          ∧ r.2.mem ((c.tc : Thread Cert.AdamLbIdeal.nD Cert.AdamLbIdeal.τ).loc Cert.AdamLbIdeal.main_arg3) = m ((c.tc : Thread Cert.AdamLbIdeal.nD Cert.AdamLbIdeal.τ).loc Cert.AdamLbIdeal.main_arg3)
          ∧ r.2.mem ((c.tc : Thread Cert.AdamLbIdeal.nD Cert.AdamLbIdeal.τ).loc Cert.AdamLbIdeal.main_arg4) = m ((c.tc : Thread Cert.AdamLbIdeal.nD Cert.AdamLbIdeal.τ).loc Cert.AdamLbIdeal.main_arg4))
      ∧ θ_run (Cert.AdamLbRefIdeal.defs (F := Ideal)) (onTc (τ := Cert.AdamLbRefIdeal.τ) (Cert.AdamLbRefIdeal.main (F := Ideal))) ⟨m', fun _ => 0, g'⟩ (fun r => ∀ c : Dev Cert.AdamLbRefIdeal.nD,
          r.2.mem ((c.tc : Thread Cert.AdamLbRefIdeal.nD Cert.AdamLbRefIdeal.τ).loc Cert.AdamLbRefIdeal.main_v23) = v0 c
          ∧ r.2.mem ((c.tc : Thread Cert.AdamLbRefIdeal.nD Cert.AdamLbRefIdeal.τ).loc Cert.AdamLbRefIdeal.main_v4) = v1 c
          ∧ r.2.mem ((c.tc : Thread Cert.AdamLbRefIdeal.nD Cert.AdamLbRefIdeal.τ).loc Cert.AdamLbRefIdeal.main_v10) = v2 c
          ∧ r.2.mem ((c.tc : Thread Cert.AdamLbRefIdeal.nD Cert.AdamLbRefIdeal.τ).loc Cert.AdamLbRefIdeal.main_arg0) = m' ((c.tc : Thread Cert.AdamLbRefIdeal.nD Cert.AdamLbRefIdeal.τ).loc Cert.AdamLbRefIdeal.main_arg0)
          ∧ r.2.mem ((c.tc : Thread Cert.AdamLbRefIdeal.nD Cert.AdamLbRefIdeal.τ).loc Cert.AdamLbRefIdeal.main_arg1) = m' ((c.tc : Thread Cert.AdamLbRefIdeal.nD Cert.AdamLbRefIdeal.τ).loc Cert.AdamLbRefIdeal.main_arg1)
          ∧ r.2.mem ((c.tc : Thread Cert.AdamLbRefIdeal.nD Cert.AdamLbRefIdeal.τ).loc Cert.AdamLbRefIdeal.main_arg2) = m' ((c.tc : Thread Cert.AdamLbRefIdeal.nD Cert.AdamLbRefIdeal.τ).loc Cert.AdamLbRefIdeal.main_arg2)
          ∧ r.2.mem ((c.tc : Thread Cert.AdamLbRefIdeal.nD Cert.AdamLbRefIdeal.τ).loc Cert.AdamLbRefIdeal.main_arg3) = m' ((c.tc : Thread Cert.AdamLbRefIdeal.nD Cert.AdamLbRefIdeal.τ).loc Cert.AdamLbRefIdeal.main_arg3)
          ∧ r.2.mem ((c.tc : Thread Cert.AdamLbRefIdeal.nD Cert.AdamLbRefIdeal.τ).loc Cert.AdamLbRefIdeal.main_arg4) = m' ((c.tc : Thread Cert.AdamLbRefIdeal.nD Cert.AdamLbRefIdeal.τ).loc Cert.AdamLbRefIdeal.main_arg4))

def preserves_AdamHead_AdamHeadIdeal : Prop :=
  True

def algebraic_AdamHeadIdeal_AdamHeadRefIdeal [hAdamHeadIdeal : Cert.AdamHeadIdeal.Facts] [hAdamHeadRefIdeal : Cert.AdamHeadRefIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadRefIdeal.nD Cert.AdamHeadRefIdeal.τ Cert.AdamHeadRefIdeal.sig) → Buf (Elt Ideal) ℓ) (g' : Dev Cert.AdamHeadRefIdeal.nD → PrngReg), Pre_AdamHeadIdeal m →
    (∀ c : Dev Cert.AdamHeadIdeal.nD,
      m' ((c.tc : Thread Cert.AdamHeadRefIdeal.nD Cert.AdamHeadRefIdeal.τ).loc Cert.AdamHeadRefIdeal.main_arg0) = m ((c.tc : Thread Cert.AdamHeadIdeal.nD Cert.AdamHeadIdeal.τ).loc Cert.AdamHeadIdeal.main_arg0)
      ∧ m' ((c.tc : Thread Cert.AdamHeadRefIdeal.nD Cert.AdamHeadRefIdeal.τ).loc Cert.AdamHeadRefIdeal.main_arg1) = m ((c.tc : Thread Cert.AdamHeadIdeal.nD Cert.AdamHeadIdeal.τ).loc Cert.AdamHeadIdeal.main_arg1)
      ∧ m' ((c.tc : Thread Cert.AdamHeadRefIdeal.nD Cert.AdamHeadRefIdeal.τ).loc Cert.AdamHeadRefIdeal.main_arg2) = m ((c.tc : Thread Cert.AdamHeadIdeal.nD Cert.AdamHeadIdeal.τ).loc Cert.AdamHeadIdeal.main_arg2)
      ∧ m' ((c.tc : Thread Cert.AdamHeadRefIdeal.nD Cert.AdamHeadRefIdeal.τ).loc Cert.AdamHeadRefIdeal.main_arg3) = m ((c.tc : Thread Cert.AdamHeadIdeal.nD Cert.AdamHeadIdeal.τ).loc Cert.AdamHeadIdeal.main_arg3)
      ∧ m' ((c.tc : Thread Cert.AdamHeadRefIdeal.nD Cert.AdamHeadRefIdeal.τ).loc Cert.AdamHeadRefIdeal.main_arg4) = m ((c.tc : Thread Cert.AdamHeadIdeal.nD Cert.AdamHeadIdeal.τ).loc Cert.AdamHeadIdeal.main_arg4)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3)
          ∧ r.2.mem ((c.tc : Thread Cert.AdamHeadIdeal.nD Cert.AdamHeadIdeal.τ).loc Cert.AdamHeadIdeal.main_arg4) = m ((c.tc : Thread Cert.AdamHeadIdeal.nD Cert.AdamHeadIdeal.τ).loc Cert.AdamHeadIdeal.main_arg4))
      ∧ θ_run (Cert.AdamHeadRefIdeal.defs (F := Ideal)) (onTc (τ := Cert.AdamHeadRefIdeal.τ) (Cert.AdamHeadRefIdeal.main (F := Ideal))) ⟨m', fun _ => 0, g'⟩ (fun r => ∀ c : Dev Cert.AdamHeadRefIdeal.nD,
          r.2.mem ((c.tc : Thread Cert.AdamHeadRefIdeal.nD Cert.AdamHeadRefIdeal.τ).loc Cert.AdamHeadRefIdeal.main_v23) = v0 c
          ∧ r.2.mem ((c.tc : Thread Cert.AdamHeadRefIdeal.nD Cert.AdamHeadRefIdeal.τ).loc Cert.AdamHeadRefIdeal.main_v4) = v1 c
          ∧ r.2.mem ((c.tc : Thread Cert.AdamHeadRefIdeal.nD Cert.AdamHeadRefIdeal.τ).loc Cert.AdamHeadRefIdeal.main_v10) = v2 c
          ∧ r.2.mem ((c.tc : Thread Cert.AdamHeadRefIdeal.nD Cert.AdamHeadRefIdeal.τ).loc Cert.AdamHeadRefIdeal.main_arg0) = m' ((c.tc : Thread Cert.AdamHeadRefIdeal.nD Cert.AdamHeadRefIdeal.τ).loc Cert.AdamHeadRefIdeal.main_arg0)
          ∧ r.2.mem ((c.tc : Thread Cert.AdamHeadRefIdeal.nD Cert.AdamHeadRefIdeal.τ).loc Cert.AdamHeadRefIdeal.main_arg1) = m' ((c.tc : Thread Cert.AdamHeadRefIdeal.nD Cert.AdamHeadRefIdeal.τ).loc Cert.AdamHeadRefIdeal.main_arg1)
          ∧ r.2.mem ((c.tc : Thread Cert.AdamHeadRefIdeal.nD Cert.AdamHeadRefIdeal.τ).loc Cert.AdamHeadRefIdeal.main_arg2) = m' ((c.tc : Thread Cert.AdamHeadRefIdeal.nD Cert.AdamHeadRefIdeal.τ).loc Cert.AdamHeadRefIdeal.main_arg2)
          ∧ r.2.mem ((c.tc : Thread Cert.AdamHeadRefIdeal.nD Cert.AdamHeadRefIdeal.τ).loc Cert.AdamHeadRefIdeal.main_arg3) = m' ((c.tc : Thread Cert.AdamHeadRefIdeal.nD Cert.AdamHeadRefIdeal.τ).loc Cert.AdamHeadRefIdeal.main_arg3)
          ∧ r.2.mem ((c.tc : Thread Cert.AdamHeadRefIdeal.nD Cert.AdamHeadRefIdeal.τ).loc Cert.AdamHeadRefIdeal.main_arg4) = m' ((c.tc : Thread Cert.AdamHeadRefIdeal.nD Cert.AdamHeadRefIdeal.τ).loc Cert.AdamHeadRefIdeal.main_arg4))

def preserves_AdamTap_AdamTapIdeal : Prop :=
  True

def algebraic_AdamTapIdeal_AdamTapRefIdeal [hAdamTapIdeal : Cert.AdamTapIdeal.Facts] [hAdamTapRefIdeal : Cert.AdamTapRefIdeal.Facts] : Prop :=
  ∀ (m : (ℓ : Loc Cert.AdamTapIdeal.nD Cert.AdamTapIdeal.τ Cert.AdamTapIdeal.sig) → Buf (Elt Ideal) ℓ) (g : Dev Cert.AdamTapIdeal.nD → PrngReg)
    (m' : (ℓ : Loc Cert.AdamTapRefIdeal.nD Cert.AdamTapRefIdeal.τ Cert.AdamTapRefIdeal.sig) → Buf (Elt Ideal) ℓ) (g' : Dev Cert.AdamTapRefIdeal.nD → PrngReg), Pre_AdamTapIdeal m →
    (∀ c : Dev Cert.AdamTapIdeal.nD,
      m' ((c.tc : Thread Cert.AdamTapRefIdeal.nD Cert.AdamTapRefIdeal.τ).loc Cert.AdamTapRefIdeal.main_arg0) = m ((c.tc : Thread Cert.AdamTapIdeal.nD Cert.AdamTapIdeal.τ).loc Cert.AdamTapIdeal.main_arg0)
      ∧ m' ((c.tc : Thread Cert.AdamTapRefIdeal.nD Cert.AdamTapRefIdeal.τ).loc Cert.AdamTapRefIdeal.main_arg1) = m ((c.tc : Thread Cert.AdamTapIdeal.nD Cert.AdamTapIdeal.τ).loc Cert.AdamTapIdeal.main_arg1)
      ∧ m' ((c.tc : Thread Cert.AdamTapRefIdeal.nD Cert.AdamTapRefIdeal.τ).loc Cert.AdamTapRefIdeal.main_arg2) = m ((c.tc : Thread Cert.AdamTapIdeal.nD Cert.AdamTapIdeal.τ).loc Cert.AdamTapIdeal.main_arg2)
      ∧ m' ((c.tc : Thread Cert.AdamTapRefIdeal.nD Cert.AdamTapRefIdeal.τ).loc Cert.AdamTapRefIdeal.main_arg3) = m ((c.tc : Thread Cert.AdamTapIdeal.nD Cert.AdamTapIdeal.τ).loc Cert.AdamTapIdeal.main_arg3)
      ∧ m' ((c.tc : Thread Cert.AdamTapRefIdeal.nD Cert.AdamTapRefIdeal.τ).loc Cert.AdamTapRefIdeal.main_arg4) = m ((c.tc : Thread Cert.AdamTapIdeal.nD Cert.AdamTapIdeal.τ).loc Cert.AdamTapIdeal.main_arg4)) →
    ∃ (v0 : (c : Dev Cert.AdamTapIdeal.nD) → Buf (Elt Ideal) ((c.tc : Thread Cert.AdamTapIdeal.nD Cert.AdamTapIdeal.τ).loc Cert.AdamTapIdeal.main_v0_0)) (v1 : (c : Dev Cert.AdamTapIdeal.nD) → Buf (Elt Ideal) ((c.tc : Thread Cert.AdamTapIdeal.nD Cert.AdamTapIdeal.τ).loc Cert.AdamTapIdeal.main_v0_1)) (v2 : (c : Dev Cert.AdamTapIdeal.nD) → Buf (Elt Ideal) ((c.tc : Thread Cert.AdamTapIdeal.nD Cert.AdamTapIdeal.τ).loc Cert.AdamTapIdeal.main_v0_2)),
      θ_run (Cert.AdamTapIdeal.defs (F := Ideal)) (onTc (τ := Cert.AdamTapIdeal.τ) (Cert.AdamTapIdeal.main (F := Ideal))) ⟨m, fun _ => 0, g⟩ (fun r => ∀ c : Dev Cert.AdamTapIdeal.nD,
          r.2.mem ((c.tc : Thread Cert.AdamTapIdeal.nD Cert.AdamTapIdeal.τ).loc Cert.AdamTapIdeal.main_v0_0) = v0 c
          ∧ r.2.mem ((c.tc : Thread Cert.AdamTapIdeal.nD Cert.AdamTapIdeal.τ).loc Cert.AdamTapIdeal.main_v0_1) = v1 c
          ∧ r.2.mem ((c.tc : Thread Cert.AdamTapIdeal.nD Cert.AdamTapIdeal.τ).loc Cert.AdamTapIdeal.main_v0_2) = v2 c
          ∧ r.2.mem ((c.tc : Thread Cert.AdamTapIdeal.nD Cert.AdamTapIdeal.τ).loc Cert.AdamTapIdeal.main_arg0) = m ((c.tc : Thread Cert.AdamTapIdeal.nD Cert.AdamTapIdeal.τ).loc Cert.AdamTapIdeal.main_arg0)
          ∧ r.2.mem ((c.tc : Thread Cert.AdamTapIdeal.nD Cert.AdamTapIdeal.τ).loc Cert.AdamTapIdeal.main_arg1) = m ((c.tc : Thread Cert.AdamTapIdeal.nD Cert.AdamTapIdeal.τ).loc Cert.AdamTapIdeal.main_arg1)
          ∧ r.2.mem ((c.tc : Thread Cert.AdamTapIdeal.nD Cert.AdamTapIdeal.τ).loc Cert.AdamTapIdeal.main_arg2) = m ((c.tc : Thread Cert.AdamTapIdeal.nD Cert.AdamTapIdeal.τ).loc Cert.AdamTapIdeal.main_arg2)
          ∧ r.2.mem ((c.tc : Thread Cert.AdamTapIdeal.nD Cert.AdamTapIdeal.τ).loc Cert.AdamTapIdeal.main_arg3) = m ((c.tc : Thread Cert.AdamTapIdeal.nD Cert.AdamTapIdeal.τ).loc Cert.AdamTapIdeal.main_arg3)
          ∧ r.2.mem ((c.tc : Thread Cert.AdamTapIdeal.nD Cert.AdamTapIdeal.τ).loc Cert.AdamTapIdeal.main_arg4) = m ((c.tc : Thread Cert.AdamTapIdeal.nD Cert.AdamTapIdeal.τ).loc Cert.AdamTapIdeal.main_arg4))
      ∧ θ_run (Cert.AdamTapRefIdeal.defs (F := Ideal)) (onTc (τ := Cert.AdamTapRefIdeal.τ) (Cert.AdamTapRefIdeal.main (F := Ideal))) ⟨m', fun _ => 0, g'⟩ (fun r => ∀ c : Dev Cert.AdamTapRefIdeal.nD,
          r.2.mem ((c.tc : Thread Cert.AdamTapRefIdeal.nD Cert.AdamTapRefIdeal.τ).loc Cert.AdamTapRefIdeal.main_v23) = v0 c
          ∧ r.2.mem ((c.tc : Thread Cert.AdamTapRefIdeal.nD Cert.AdamTapRefIdeal.τ).loc Cert.AdamTapRefIdeal.main_v4) = v1 c
          ∧ r.2.mem ((c.tc : Thread Cert.AdamTapRefIdeal.nD Cert.AdamTapRefIdeal.τ).loc Cert.AdamTapRefIdeal.main_v10) = v2 c
          ∧ r.2.mem ((c.tc : Thread Cert.AdamTapRefIdeal.nD Cert.AdamTapRefIdeal.τ).loc Cert.AdamTapRefIdeal.main_arg0) = m' ((c.tc : Thread Cert.AdamTapRefIdeal.nD Cert.AdamTapRefIdeal.τ).loc Cert.AdamTapRefIdeal.main_arg0)
          ∧ r.2.mem ((c.tc : Thread Cert.AdamTapRefIdeal.nD Cert.AdamTapRefIdeal.τ).loc Cert.AdamTapRefIdeal.main_arg1) = m' ((c.tc : Thread Cert.AdamTapRefIdeal.nD Cert.AdamTapRefIdeal.τ).loc Cert.AdamTapRefIdeal.main_arg1)
          ∧ r.2.mem ((c.tc : Thread Cert.AdamTapRefIdeal.nD Cert.AdamTapRefIdeal.τ).loc Cert.AdamTapRefIdeal.main_arg2) = m' ((c.tc : Thread Cert.AdamTapRefIdeal.nD Cert.AdamTapRefIdeal.τ).loc Cert.AdamTapRefIdeal.main_arg2)
          ∧ r.2.mem ((c.tc : Thread Cert.AdamTapRefIdeal.nD Cert.AdamTapRefIdeal.τ).loc Cert.AdamTapRefIdeal.main_arg3) = m' ((c.tc : Thread Cert.AdamTapRefIdeal.nD Cert.AdamTapRefIdeal.τ).loc Cert.AdamTapRefIdeal.main_arg3)
          ∧ r.2.mem ((c.tc : Thread Cert.AdamTapRefIdeal.nD Cert.AdamTapRefIdeal.τ).loc Cert.AdamTapRefIdeal.main_arg4) = m' ((c.tc : Thread Cert.AdamTapRefIdeal.nD Cert.AdamTapRefIdeal.τ).loc Cert.AdamTapRefIdeal.main_arg4))

def preserves_AdamFfnTap_AdamFfnTapIdeal : Prop :=
  True

def algebraic_AdamFfnTapIdeal_AdamFfnTapRefIdeal [hAdamFfnTapIdeal : Cert.AdamFfnTapIdeal.Facts] [hAdamFfnTapRefIdeal : Cert.AdamFfnTapRefIdeal.Facts] : Prop :=
  ∀ (m : (ℓ : Loc Cert.AdamFfnTapIdeal.nD Cert.AdamFfnTapIdeal.τ Cert.AdamFfnTapIdeal.sig) → Buf (Elt Ideal) ℓ) (g : Dev Cert.AdamFfnTapIdeal.nD → PrngReg)
    (m' : (ℓ : Loc Cert.AdamFfnTapRefIdeal.nD Cert.AdamFfnTapRefIdeal.τ Cert.AdamFfnTapRefIdeal.sig) → Buf (Elt Ideal) ℓ) (g' : Dev Cert.AdamFfnTapRefIdeal.nD → PrngReg), Pre_AdamFfnTapIdeal m →
    (∀ c : Dev Cert.AdamFfnTapIdeal.nD,
      m' ((c.tc : Thread Cert.AdamFfnTapRefIdeal.nD Cert.AdamFfnTapRefIdeal.τ).loc Cert.AdamFfnTapRefIdeal.main_arg0) = m ((c.tc : Thread Cert.AdamFfnTapIdeal.nD Cert.AdamFfnTapIdeal.τ).loc Cert.AdamFfnTapIdeal.main_arg0)
      ∧ m' ((c.tc : Thread Cert.AdamFfnTapRefIdeal.nD Cert.AdamFfnTapRefIdeal.τ).loc Cert.AdamFfnTapRefIdeal.main_arg1) = m ((c.tc : Thread Cert.AdamFfnTapIdeal.nD Cert.AdamFfnTapIdeal.τ).loc Cert.AdamFfnTapIdeal.main_arg1)
      ∧ m' ((c.tc : Thread Cert.AdamFfnTapRefIdeal.nD Cert.AdamFfnTapRefIdeal.τ).loc Cert.AdamFfnTapRefIdeal.main_arg2) = m ((c.tc : Thread Cert.AdamFfnTapIdeal.nD Cert.AdamFfnTapIdeal.τ).loc Cert.AdamFfnTapIdeal.main_arg2)
      ∧ m' ((c.tc : Thread Cert.AdamFfnTapRefIdeal.nD Cert.AdamFfnTapRefIdeal.τ).loc Cert.AdamFfnTapRefIdeal.main_arg3) = m ((c.tc : Thread Cert.AdamFfnTapIdeal.nD Cert.AdamFfnTapIdeal.τ).loc Cert.AdamFfnTapIdeal.main_arg3)
      ∧ m' ((c.tc : Thread Cert.AdamFfnTapRefIdeal.nD Cert.AdamFfnTapRefIdeal.τ).loc Cert.AdamFfnTapRefIdeal.main_arg4) = m ((c.tc : Thread Cert.AdamFfnTapIdeal.nD Cert.AdamFfnTapIdeal.τ).loc Cert.AdamFfnTapIdeal.main_arg4)) →
    ∃ (v0 : (c : Dev Cert.AdamFfnTapIdeal.nD) → Buf (Elt Ideal) ((c.tc : Thread Cert.AdamFfnTapIdeal.nD Cert.AdamFfnTapIdeal.τ).loc Cert.AdamFfnTapIdeal.main_v0_0)) (v1 : (c : Dev Cert.AdamFfnTapIdeal.nD) → Buf (Elt Ideal) ((c.tc : Thread Cert.AdamFfnTapIdeal.nD Cert.AdamFfnTapIdeal.τ).loc Cert.AdamFfnTapIdeal.main_v0_1)) (v2 : (c : Dev Cert.AdamFfnTapIdeal.nD) → Buf (Elt Ideal) ((c.tc : Thread Cert.AdamFfnTapIdeal.nD Cert.AdamFfnTapIdeal.τ).loc Cert.AdamFfnTapIdeal.main_v0_2)),
      θ_run (Cert.AdamFfnTapIdeal.defs (F := Ideal)) (onTc (τ := Cert.AdamFfnTapIdeal.τ) (Cert.AdamFfnTapIdeal.main (F := Ideal))) ⟨m, fun _ => 0, g⟩ (fun r => ∀ c : Dev Cert.AdamFfnTapIdeal.nD,
          r.2.mem ((c.tc : Thread Cert.AdamFfnTapIdeal.nD Cert.AdamFfnTapIdeal.τ).loc Cert.AdamFfnTapIdeal.main_v0_0) = v0 c
          ∧ r.2.mem ((c.tc : Thread Cert.AdamFfnTapIdeal.nD Cert.AdamFfnTapIdeal.τ).loc Cert.AdamFfnTapIdeal.main_v0_1) = v1 c
          ∧ r.2.mem ((c.tc : Thread Cert.AdamFfnTapIdeal.nD Cert.AdamFfnTapIdeal.τ).loc Cert.AdamFfnTapIdeal.main_v0_2) = v2 c
          ∧ r.2.mem ((c.tc : Thread Cert.AdamFfnTapIdeal.nD Cert.AdamFfnTapIdeal.τ).loc Cert.AdamFfnTapIdeal.main_arg0) = m ((c.tc : Thread Cert.AdamFfnTapIdeal.nD Cert.AdamFfnTapIdeal.τ).loc Cert.AdamFfnTapIdeal.main_arg0)
          ∧ r.2.mem ((c.tc : Thread Cert.AdamFfnTapIdeal.nD Cert.AdamFfnTapIdeal.τ).loc Cert.AdamFfnTapIdeal.main_arg1) = m ((c.tc : Thread Cert.AdamFfnTapIdeal.nD Cert.AdamFfnTapIdeal.τ).loc Cert.AdamFfnTapIdeal.main_arg1)
          ∧ r.2.mem ((c.tc : Thread Cert.AdamFfnTapIdeal.nD Cert.AdamFfnTapIdeal.τ).loc Cert.AdamFfnTapIdeal.main_arg2) = m ((c.tc : Thread Cert.AdamFfnTapIdeal.nD Cert.AdamFfnTapIdeal.τ).loc Cert.AdamFfnTapIdeal.main_arg2)
          ∧ r.2.mem ((c.tc : Thread Cert.AdamFfnTapIdeal.nD Cert.AdamFfnTapIdeal.τ).loc Cert.AdamFfnTapIdeal.main_arg3) = m ((c.tc : Thread Cert.AdamFfnTapIdeal.nD Cert.AdamFfnTapIdeal.τ).loc Cert.AdamFfnTapIdeal.main_arg3)
          ∧ r.2.mem ((c.tc : Thread Cert.AdamFfnTapIdeal.nD Cert.AdamFfnTapIdeal.τ).loc Cert.AdamFfnTapIdeal.main_arg4) = m ((c.tc : Thread Cert.AdamFfnTapIdeal.nD Cert.AdamFfnTapIdeal.τ).loc Cert.AdamFfnTapIdeal.main_arg4))
      ∧ θ_run (Cert.AdamFfnTapRefIdeal.defs (F := Ideal)) (onTc (τ := Cert.AdamFfnTapRefIdeal.τ) (Cert.AdamFfnTapRefIdeal.main (F := Ideal))) ⟨m', fun _ => 0, g'⟩ (fun r => ∀ c : Dev Cert.AdamFfnTapRefIdeal.nD,
          r.2.mem ((c.tc : Thread Cert.AdamFfnTapRefIdeal.nD Cert.AdamFfnTapRefIdeal.τ).loc Cert.AdamFfnTapRefIdeal.main_v23) = v0 c
          ∧ r.2.mem ((c.tc : Thread Cert.AdamFfnTapRefIdeal.nD Cert.AdamFfnTapRefIdeal.τ).loc Cert.AdamFfnTapRefIdeal.main_v4) = v1 c
          ∧ r.2.mem ((c.tc : Thread Cert.AdamFfnTapRefIdeal.nD Cert.AdamFfnTapRefIdeal.τ).loc Cert.AdamFfnTapRefIdeal.main_v10) = v2 c
          ∧ r.2.mem ((c.tc : Thread Cert.AdamFfnTapRefIdeal.nD Cert.AdamFfnTapRefIdeal.τ).loc Cert.AdamFfnTapRefIdeal.main_arg0) = m' ((c.tc : Thread Cert.AdamFfnTapRefIdeal.nD Cert.AdamFfnTapRefIdeal.τ).loc Cert.AdamFfnTapRefIdeal.main_arg0)
          ∧ r.2.mem ((c.tc : Thread Cert.AdamFfnTapRefIdeal.nD Cert.AdamFfnTapRefIdeal.τ).loc Cert.AdamFfnTapRefIdeal.main_arg1) = m' ((c.tc : Thread Cert.AdamFfnTapRefIdeal.nD Cert.AdamFfnTapRefIdeal.τ).loc Cert.AdamFfnTapRefIdeal.main_arg1)
          ∧ r.2.mem ((c.tc : Thread Cert.AdamFfnTapRefIdeal.nD Cert.AdamFfnTapRefIdeal.τ).loc Cert.AdamFfnTapRefIdeal.main_arg2) = m' ((c.tc : Thread Cert.AdamFfnTapRefIdeal.nD Cert.AdamFfnTapRefIdeal.τ).loc Cert.AdamFfnTapRefIdeal.main_arg2)
          ∧ r.2.mem ((c.tc : Thread Cert.AdamFfnTapRefIdeal.nD Cert.AdamFfnTapRefIdeal.τ).loc Cert.AdamFfnTapRefIdeal.main_arg3) = m' ((c.tc : Thread Cert.AdamFfnTapRefIdeal.nD Cert.AdamFfnTapRefIdeal.τ).loc Cert.AdamFfnTapRefIdeal.main_arg3)
          ∧ r.2.mem ((c.tc : Thread Cert.AdamFfnTapRefIdeal.nD Cert.AdamFfnTapRefIdeal.τ).loc Cert.AdamFfnTapRefIdeal.main_arg4) = m' ((c.tc : Thread Cert.AdamFfnTapRefIdeal.nD Cert.AdamFfnTapRefIdeal.τ).loc Cert.AdamFfnTapRefIdeal.main_arg4))

def preserves_AdamBias_AdamBiasIdeal : Prop :=
  True

def algebraic_AdamBiasIdeal_AdamBiasRefIdeal [hAdamBiasIdeal : Cert.AdamBiasIdeal.Facts] [hAdamBiasRefIdeal : Cert.AdamBiasRefIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasRefIdeal.nD Cert.AdamBiasRefIdeal.τ Cert.AdamBiasRefIdeal.sig) → Buf (Elt Ideal) ℓ) (g' : Dev Cert.AdamBiasRefIdeal.nD → PrngReg), Pre_AdamBiasIdeal m →
    (∀ c : Dev Cert.AdamBiasIdeal.nD,
      m' ((c.tc : Thread Cert.AdamBiasRefIdeal.nD Cert.AdamBiasRefIdeal.τ).loc Cert.AdamBiasRefIdeal.main_arg0) = m ((c.tc : Thread Cert.AdamBiasIdeal.nD Cert.AdamBiasIdeal.τ).loc Cert.AdamBiasIdeal.main_arg0)
      ∧ m' ((c.tc : Thread Cert.AdamBiasRefIdeal.nD Cert.AdamBiasRefIdeal.τ).loc Cert.AdamBiasRefIdeal.main_arg1) = m ((c.tc : Thread Cert.AdamBiasIdeal.nD Cert.AdamBiasIdeal.τ).loc Cert.AdamBiasIdeal.main_arg1)
      ∧ m' ((c.tc : Thread Cert.AdamBiasRefIdeal.nD Cert.AdamBiasRefIdeal.τ).loc Cert.AdamBiasRefIdeal.main_arg2) = m ((c.tc : Thread Cert.AdamBiasIdeal.nD Cert.AdamBiasIdeal.τ).loc Cert.AdamBiasIdeal.main_arg2)
      ∧ m' ((c.tc : Thread Cert.AdamBiasRefIdeal.nD Cert.AdamBiasRefIdeal.τ).loc Cert.AdamBiasRefIdeal.main_arg3) = m ((c.tc : Thread Cert.AdamBiasIdeal.nD Cert.AdamBiasIdeal.τ).loc Cert.AdamBiasIdeal.main_arg3)
      ∧ m' ((c.tc : Thread Cert.AdamBiasRefIdeal.nD Cert.AdamBiasRefIdeal.τ).loc Cert.AdamBiasRefIdeal.main_arg4) = m ((c.tc : Thread Cert.AdamBiasIdeal.nD Cert.AdamBiasIdeal.τ).loc Cert.AdamBiasIdeal.main_arg4)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3)
          ∧ r.2.mem ((c.tc : Thread Cert.AdamBiasIdeal.nD Cert.AdamBiasIdeal.τ).loc Cert.AdamBiasIdeal.main_arg4) = m ((c.tc : Thread Cert.AdamBiasIdeal.nD Cert.AdamBiasIdeal.τ).loc Cert.AdamBiasIdeal.main_arg4))
      ∧ θ_run (Cert.AdamBiasRefIdeal.defs (F := Ideal)) (onTc (τ := Cert.AdamBiasRefIdeal.τ) (Cert.AdamBiasRefIdeal.main (F := Ideal))) ⟨m', fun _ => 0, g'⟩ (fun r => ∀ c : Dev Cert.AdamBiasRefIdeal.nD,
          r.2.mem ((c.tc : Thread Cert.AdamBiasRefIdeal.nD Cert.AdamBiasRefIdeal.τ).loc Cert.AdamBiasRefIdeal.main_v23) = v0 c
          ∧ r.2.mem ((c.tc : Thread Cert.AdamBiasRefIdeal.nD Cert.AdamBiasRefIdeal.τ).loc Cert.AdamBiasRefIdeal.main_v4) = v1 c
          ∧ r.2.mem ((c.tc : Thread Cert.AdamBiasRefIdeal.nD Cert.AdamBiasRefIdeal.τ).loc Cert.AdamBiasRefIdeal.main_v10) = v2 c
          ∧ r.2.mem ((c.tc : Thread Cert.AdamBiasRefIdeal.nD Cert.AdamBiasRefIdeal.τ).loc Cert.AdamBiasRefIdeal.main_arg0) = m' ((c.tc : Thread Cert.AdamBiasRefIdeal.nD Cert.AdamBiasRefIdeal.τ).loc Cert.AdamBiasRefIdeal.main_arg0)
          ∧ r.2.mem ((c.tc : Thread Cert.AdamBiasRefIdeal.nD Cert.AdamBiasRefIdeal.τ).loc Cert.AdamBiasRefIdeal.main_arg1) = m' ((c.tc : Thread Cert.AdamBiasRefIdeal.nD Cert.AdamBiasRefIdeal.τ).loc Cert.AdamBiasRefIdeal.main_arg1)
          ∧ r.2.mem ((c.tc : Thread Cert.AdamBiasRefIdeal.nD Cert.AdamBiasRefIdeal.τ).loc Cert.AdamBiasRefIdeal.main_arg2) = m' ((c.tc : Thread Cert.AdamBiasRefIdeal.nD Cert.AdamBiasRefIdeal.τ).loc Cert.AdamBiasRefIdeal.main_arg2)
          ∧ r.2.mem ((c.tc : Thread Cert.AdamBiasRefIdeal.nD Cert.AdamBiasRefIdeal.τ).loc Cert.AdamBiasRefIdeal.main_arg3) = m' ((c.tc : Thread Cert.AdamBiasRefIdeal.nD Cert.AdamBiasRefIdeal.τ).loc Cert.AdamBiasRefIdeal.main_arg3)
          ∧ r.2.mem ((c.tc : Thread Cert.AdamBiasRefIdeal.nD Cert.AdamBiasRefIdeal.τ).loc Cert.AdamBiasRefIdeal.main_arg4) = m' ((c.tc : Thread Cert.AdamBiasRefIdeal.nD Cert.AdamBiasRefIdeal.τ).loc Cert.AdamBiasRefIdeal.main_arg4))

def preserves_NormPre_NormPreIdeal : Prop :=
  True

def algebraic_NormPreIdeal_NormPreRefIdeal [hNormPreIdeal : Cert.NormPreIdeal.Facts] [hNormPreRefIdeal : Cert.NormPreRefIdeal.Facts] : Prop :=
  ∀ (m : (ℓ : Loc Cert.NormPreIdeal.nD Cert.NormPreIdeal.τ Cert.NormPreIdeal.sig) → Buf (Elt Ideal) ℓ) (g : Dev Cert.NormPreIdeal.nD → PrngReg)
    (m' : (ℓ : Loc Cert.NormPreRefIdeal.nD Cert.NormPreRefIdeal.τ Cert.NormPreRefIdeal.sig) → Buf (Elt Ideal) ℓ) (g' : Dev Cert.NormPreRefIdeal.nD → PrngReg), Pre_NormPreIdeal m →
    (∀ c : Dev Cert.NormPreIdeal.nD,
      m' ((c.tc : Thread Cert.NormPreRefIdeal.nD Cert.NormPreRefIdeal.τ).loc Cert.NormPreRefIdeal.main_arg0) = m ((c.tc : Thread Cert.NormPreIdeal.nD Cert.NormPreIdeal.τ).loc Cert.NormPreIdeal.main_arg0)
      ∧ m' ((c.tc : Thread Cert.NormPreRefIdeal.nD Cert.NormPreRefIdeal.τ).loc Cert.NormPreRefIdeal.main_arg1) = m ((c.tc : Thread Cert.NormPreIdeal.nD Cert.NormPreIdeal.τ).loc Cert.NormPreIdeal.main_arg1)
      ∧ m' ((c.tc : Thread Cert.NormPreRefIdeal.nD Cert.NormPreRefIdeal.τ).loc Cert.NormPreRefIdeal.main_arg2) = m ((c.tc : Thread Cert.NormPreIdeal.nD Cert.NormPreIdeal.τ).loc Cert.NormPreIdeal.main_arg2)
      ∧ m' ((c.tc : Thread Cert.NormPreRefIdeal.nD Cert.NormPreRefIdeal.τ).loc Cert.NormPreRefIdeal.main_arg3) = m ((c.tc : Thread Cert.NormPreIdeal.nD Cert.NormPreIdeal.τ).loc Cert.NormPreIdeal.main_arg3)) →
    ∃ (v0 : (c : Dev Cert.NormPreIdeal.nD) → Buf (Elt Ideal) ((c.tc : Thread Cert.NormPreIdeal.nD Cert.NormPreIdeal.τ).loc Cert.NormPreIdeal.main_v0_0)) (v1 : (c : Dev Cert.NormPreIdeal.nD) → Buf (Elt Ideal) ((c.tc : Thread Cert.NormPreIdeal.nD Cert.NormPreIdeal.τ).loc Cert.NormPreIdeal.main_v0_1)),
      θ_run (Cert.NormPreIdeal.defs (F := Ideal)) (onTc (τ := Cert.NormPreIdeal.τ) (Cert.NormPreIdeal.main (F := Ideal))) ⟨m, fun _ => 0, g⟩ (fun r => ∀ c : Dev Cert.NormPreIdeal.nD,
          r.2.mem ((c.tc : Thread Cert.NormPreIdeal.nD Cert.NormPreIdeal.τ).loc Cert.NormPreIdeal.main_v0_0) = v0 c
          ∧ r.2.mem ((c.tc : Thread Cert.NormPreIdeal.nD Cert.NormPreIdeal.τ).loc Cert.NormPreIdeal.main_v0_1) = v1 c
          ∧ r.2.mem ((c.tc : Thread Cert.NormPreIdeal.nD Cert.NormPreIdeal.τ).loc Cert.NormPreIdeal.main_arg0) = m ((c.tc : Thread Cert.NormPreIdeal.nD Cert.NormPreIdeal.τ).loc Cert.NormPreIdeal.main_arg0)
          ∧ r.2.mem ((c.tc : Thread Cert.NormPreIdeal.nD Cert.NormPreIdeal.τ).loc Cert.NormPreIdeal.main_arg1) = m ((c.tc : Thread Cert.NormPreIdeal.nD Cert.NormPreIdeal.τ).loc Cert.NormPreIdeal.main_arg1)
          ∧ r.2.mem ((c.tc : Thread Cert.NormPreIdeal.nD Cert.NormPreIdeal.τ).loc Cert.NormPreIdeal.main_arg2) = m ((c.tc : Thread Cert.NormPreIdeal.nD Cert.NormPreIdeal.τ).loc Cert.NormPreIdeal.main_arg2)
          ∧ r.2.mem ((c.tc : Thread Cert.NormPreIdeal.nD Cert.NormPreIdeal.τ).loc Cert.NormPreIdeal.main_arg3) = m ((c.tc : Thread Cert.NormPreIdeal.nD Cert.NormPreIdeal.τ).loc Cert.NormPreIdeal.main_arg3))
      ∧ θ_run (Cert.NormPreRefIdeal.defs (F := Ideal)) (onTc (τ := Cert.NormPreRefIdeal.τ) (Cert.NormPreRefIdeal.main (F := Ideal))) ⟨m', fun _ => 0, g'⟩ (fun r => ∀ c : Dev Cert.NormPreRefIdeal.nD,
          r.2.mem ((c.tc : Thread Cert.NormPreRefIdeal.nD Cert.NormPreRefIdeal.τ).loc Cert.NormPreRefIdeal.main_v35) = v0 c
          ∧ r.2.mem ((c.tc : Thread Cert.NormPreRefIdeal.nD Cert.NormPreRefIdeal.τ).loc Cert.NormPreRefIdeal.main_v18) = v1 c
          ∧ r.2.mem ((c.tc : Thread Cert.NormPreRefIdeal.nD Cert.NormPreRefIdeal.τ).loc Cert.NormPreRefIdeal.main_arg0) = m' ((c.tc : Thread Cert.NormPreRefIdeal.nD Cert.NormPreRefIdeal.τ).loc Cert.NormPreRefIdeal.main_arg0)
          ∧ r.2.mem ((c.tc : Thread Cert.NormPreRefIdeal.nD Cert.NormPreRefIdeal.τ).loc Cert.NormPreRefIdeal.main_arg1) = m' ((c.tc : Thread Cert.NormPreRefIdeal.nD Cert.NormPreRefIdeal.τ).loc Cert.NormPreRefIdeal.main_arg1)
          ∧ r.2.mem ((c.tc : Thread Cert.NormPreRefIdeal.nD Cert.NormPreRefIdeal.τ).loc Cert.NormPreRefIdeal.main_arg2) = m' ((c.tc : Thread Cert.NormPreRefIdeal.nD Cert.NormPreRefIdeal.τ).loc Cert.NormPreRefIdeal.main_arg2)
          ∧ r.2.mem ((c.tc : Thread Cert.NormPreRefIdeal.nD Cert.NormPreRefIdeal.τ).loc Cert.NormPreRefIdeal.main_arg3) = m' ((c.tc : Thread Cert.NormPreRefIdeal.nD Cert.NormPreRefIdeal.τ).loc Cert.NormPreRefIdeal.main_arg3))

def preserves_NormPost_NormPostIdeal : Prop :=
  True

def algebraic_NormPostIdeal_NormPostRefIdeal [hNormPostIdeal : Cert.NormPostIdeal.Facts] [hNormPostRefIdeal : Cert.NormPostRefIdeal.Facts] : Prop :=
  ∀ (m : (ℓ : Loc Cert.NormPostIdeal.nD Cert.NormPostIdeal.τ Cert.NormPostIdeal.sig) → Buf (Elt Ideal) ℓ) (g : Dev Cert.NormPostIdeal.nD → PrngReg)
    (m' : (ℓ : Loc Cert.NormPostRefIdeal.nD Cert.NormPostRefIdeal.τ Cert.NormPostRefIdeal.sig) → Buf (Elt Ideal) ℓ) (g' : Dev Cert.NormPostRefIdeal.nD → PrngReg), Pre_NormPostIdeal m →
    (∀ c : Dev Cert.NormPostIdeal.nD,
      m' ((c.tc : Thread Cert.NormPostRefIdeal.nD Cert.NormPostRefIdeal.τ).loc Cert.NormPostRefIdeal.main_arg0) = m ((c.tc : Thread Cert.NormPostIdeal.nD Cert.NormPostIdeal.τ).loc Cert.NormPostIdeal.main_arg0)
      ∧ m' ((c.tc : Thread Cert.NormPostRefIdeal.nD Cert.NormPostRefIdeal.τ).loc Cert.NormPostRefIdeal.main_arg1) = m ((c.tc : Thread Cert.NormPostIdeal.nD Cert.NormPostIdeal.τ).loc Cert.NormPostIdeal.main_arg1)
      ∧ m' ((c.tc : Thread Cert.NormPostRefIdeal.nD Cert.NormPostRefIdeal.τ).loc Cert.NormPostRefIdeal.main_arg2) = m ((c.tc : Thread Cert.NormPostIdeal.nD Cert.NormPostIdeal.τ).loc Cert.NormPostIdeal.main_arg2)) →
    ∃ (v0 : (c : Dev Cert.NormPostIdeal.nD) → Buf (Elt Ideal) ((c.tc : Thread Cert.NormPostIdeal.nD Cert.NormPostIdeal.τ).loc Cert.NormPostIdeal.main_v0_0)) (v1 : (c : Dev Cert.NormPostIdeal.nD) → Buf (Elt Ideal) ((c.tc : Thread Cert.NormPostIdeal.nD Cert.NormPostIdeal.τ).loc Cert.NormPostIdeal.main_v0_1)),
      θ_run (Cert.NormPostIdeal.defs (F := Ideal)) (onTc (τ := Cert.NormPostIdeal.τ) (Cert.NormPostIdeal.main (F := Ideal))) ⟨m, fun _ => 0, g⟩ (fun r => ∀ c : Dev Cert.NormPostIdeal.nD,
          r.2.mem ((c.tc : Thread Cert.NormPostIdeal.nD Cert.NormPostIdeal.τ).loc Cert.NormPostIdeal.main_v0_0) = v0 c
          ∧ r.2.mem ((c.tc : Thread Cert.NormPostIdeal.nD Cert.NormPostIdeal.τ).loc Cert.NormPostIdeal.main_v0_1) = v1 c
          ∧ r.2.mem ((c.tc : Thread Cert.NormPostIdeal.nD Cert.NormPostIdeal.τ).loc Cert.NormPostIdeal.main_arg0) = m ((c.tc : Thread Cert.NormPostIdeal.nD Cert.NormPostIdeal.τ).loc Cert.NormPostIdeal.main_arg0)
          ∧ r.2.mem ((c.tc : Thread Cert.NormPostIdeal.nD Cert.NormPostIdeal.τ).loc Cert.NormPostIdeal.main_arg1) = m ((c.tc : Thread Cert.NormPostIdeal.nD Cert.NormPostIdeal.τ).loc Cert.NormPostIdeal.main_arg1)
          ∧ r.2.mem ((c.tc : Thread Cert.NormPostIdeal.nD Cert.NormPostIdeal.τ).loc Cert.NormPostIdeal.main_arg2) = m ((c.tc : Thread Cert.NormPostIdeal.nD Cert.NormPostIdeal.τ).loc Cert.NormPostIdeal.main_arg2))
      ∧ θ_run (Cert.NormPostRefIdeal.defs (F := Ideal)) (onTc (τ := Cert.NormPostRefIdeal.τ) (Cert.NormPostRefIdeal.main (F := Ideal))) ⟨m', fun _ => 0, g'⟩ (fun r => ∀ c : Dev Cert.NormPostRefIdeal.nD,
          r.2.mem ((c.tc : Thread Cert.NormPostRefIdeal.nD Cert.NormPostRefIdeal.τ).loc Cert.NormPostRefIdeal.main_v34) = v0 c
          ∧ r.2.mem ((c.tc : Thread Cert.NormPostRefIdeal.nD Cert.NormPostRefIdeal.τ).loc Cert.NormPostRefIdeal.main_v17) = v1 c
          ∧ r.2.mem ((c.tc : Thread Cert.NormPostRefIdeal.nD Cert.NormPostRefIdeal.τ).loc Cert.NormPostRefIdeal.main_arg0) = m' ((c.tc : Thread Cert.NormPostRefIdeal.nD Cert.NormPostRefIdeal.τ).loc Cert.NormPostRefIdeal.main_arg0)
          ∧ r.2.mem ((c.tc : Thread Cert.NormPostRefIdeal.nD Cert.NormPostRefIdeal.τ).loc Cert.NormPostRefIdeal.main_arg1) = m' ((c.tc : Thread Cert.NormPostRefIdeal.nD Cert.NormPostRefIdeal.τ).loc Cert.NormPostRefIdeal.main_arg1)
          ∧ r.2.mem ((c.tc : Thread Cert.NormPostRefIdeal.nD Cert.NormPostRefIdeal.τ).loc Cert.NormPostRefIdeal.main_arg2) = m' ((c.tc : Thread Cert.NormPostRefIdeal.nD Cert.NormPostRefIdeal.τ).loc Cert.NormPostRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_ResidNorm_ResidNormIdeal : Prop :=
  True

def algebraic_ResidNormIdeal_ResidNormRefIdeal [hResidNormIdeal : Cert.ResidNormIdeal.Facts] [hResidNormRefIdeal : Cert.ResidNormRefIdeal.Facts] : Prop :=
  ∀ (m : (ℓ : Loc Cert.ResidNormIdeal.nD Cert.ResidNormIdeal.τ Cert.ResidNormIdeal.sig) → Buf (Elt Ideal) ℓ) (g : Dev Cert.ResidNormIdeal.nD → PrngReg)
    (m' : (ℓ : Loc Cert.ResidNormRefIdeal.nD Cert.ResidNormRefIdeal.τ Cert.ResidNormRefIdeal.sig) → Buf (Elt Ideal) ℓ) (g' : Dev Cert.ResidNormRefIdeal.nD → PrngReg), Pre_ResidNormIdeal m →
    (∀ c : Dev Cert.ResidNormIdeal.nD,
      m' ((c.tc : Thread Cert.ResidNormRefIdeal.nD Cert.ResidNormRefIdeal.τ).loc Cert.ResidNormRefIdeal.main_arg0) = m ((c.tc : Thread Cert.ResidNormIdeal.nD Cert.ResidNormIdeal.τ).loc Cert.ResidNormIdeal.main_arg0)
      ∧ m' ((c.tc : Thread Cert.ResidNormRefIdeal.nD Cert.ResidNormRefIdeal.τ).loc Cert.ResidNormRefIdeal.main_arg1) = m ((c.tc : Thread Cert.ResidNormIdeal.nD Cert.ResidNormIdeal.τ).loc Cert.ResidNormIdeal.main_arg1)
      ∧ m' ((c.tc : Thread Cert.ResidNormRefIdeal.nD Cert.ResidNormRefIdeal.τ).loc Cert.ResidNormRefIdeal.main_arg2) = m ((c.tc : Thread Cert.ResidNormIdeal.nD Cert.ResidNormIdeal.τ).loc Cert.ResidNormIdeal.main_arg2)
      ∧ m' ((c.tc : Thread Cert.ResidNormRefIdeal.nD Cert.ResidNormRefIdeal.τ).loc Cert.ResidNormRefIdeal.main_arg3) = m ((c.tc : Thread Cert.ResidNormIdeal.nD Cert.ResidNormIdeal.τ).loc Cert.ResidNormIdeal.main_arg3)) →
    ∃ (v0 : (c : Dev Cert.ResidNormIdeal.nD) → Buf (Elt Ideal) ((c.tc : Thread Cert.ResidNormIdeal.nD Cert.ResidNormIdeal.τ).loc Cert.ResidNormIdeal.main_v0_0)) (v1 : (c : Dev Cert.ResidNormIdeal.nD) → Buf (Elt Ideal) ((c.tc : Thread Cert.ResidNormIdeal.nD Cert.ResidNormIdeal.τ).loc Cert.ResidNormIdeal.main_v0_1)),
      θ_run (Cert.ResidNormIdeal.defs (F := Ideal)) (onTc (τ := Cert.ResidNormIdeal.τ) (Cert.ResidNormIdeal.main (F := Ideal))) ⟨m, fun _ => 0, g⟩ (fun r => ∀ c : Dev Cert.ResidNormIdeal.nD,
          r.2.mem ((c.tc : Thread Cert.ResidNormIdeal.nD Cert.ResidNormIdeal.τ).loc Cert.ResidNormIdeal.main_v0_0) = v0 c
          ∧ r.2.mem ((c.tc : Thread Cert.ResidNormIdeal.nD Cert.ResidNormIdeal.τ).loc Cert.ResidNormIdeal.main_v0_1) = v1 c
          ∧ r.2.mem ((c.tc : Thread Cert.ResidNormIdeal.nD Cert.ResidNormIdeal.τ).loc Cert.ResidNormIdeal.main_arg0) = m ((c.tc : Thread Cert.ResidNormIdeal.nD Cert.ResidNormIdeal.τ).loc Cert.ResidNormIdeal.main_arg0)
          ∧ r.2.mem ((c.tc : Thread Cert.ResidNormIdeal.nD Cert.ResidNormIdeal.τ).loc Cert.ResidNormIdeal.main_arg1) = m ((c.tc : Thread Cert.ResidNormIdeal.nD Cert.ResidNormIdeal.τ).loc Cert.ResidNormIdeal.main_arg1)
          ∧ r.2.mem ((c.tc : Thread Cert.ResidNormIdeal.nD Cert.ResidNormIdeal.τ).loc Cert.ResidNormIdeal.main_arg2) = m ((c.tc : Thread Cert.ResidNormIdeal.nD Cert.ResidNormIdeal.τ).loc Cert.ResidNormIdeal.main_arg2)
          ∧ r.2.mem ((c.tc : Thread Cert.ResidNormIdeal.nD Cert.ResidNormIdeal.τ).loc Cert.ResidNormIdeal.main_arg3) = m ((c.tc : Thread Cert.ResidNormIdeal.nD Cert.ResidNormIdeal.τ).loc Cert.ResidNormIdeal.main_arg3))
      ∧ θ_run (Cert.ResidNormRefIdeal.defs (F := Ideal)) (onTc (τ := Cert.ResidNormRefIdeal.τ) (Cert.ResidNormRefIdeal.main (F := Ideal))) ⟨m', fun _ => 0, g'⟩ (fun r => ∀ c : Dev Cert.ResidNormRefIdeal.nD,
          r.2.mem ((c.tc : Thread Cert.ResidNormRefIdeal.nD Cert.ResidNormRefIdeal.τ).loc Cert.ResidNormRefIdeal.main_v12) = v0 c
          ∧ r.2.mem ((c.tc : Thread Cert.ResidNormRefIdeal.nD Cert.ResidNormRefIdeal.τ).loc Cert.ResidNormRefIdeal.main_v25) = v1 c
          ∧ r.2.mem ((c.tc : Thread Cert.ResidNormRefIdeal.nD Cert.ResidNormRefIdeal.τ).loc Cert.ResidNormRefIdeal.main_arg0) = m' ((c.tc : Thread Cert.ResidNormRefIdeal.nD Cert.ResidNormRefIdeal.τ).loc Cert.ResidNormRefIdeal.main_arg0)
          ∧ r.2.mem ((c.tc : Thread Cert.ResidNormRefIdeal.nD Cert.ResidNormRefIdeal.τ).loc Cert.ResidNormRefIdeal.main_arg1) = m' ((c.tc : Thread Cert.ResidNormRefIdeal.nD Cert.ResidNormRefIdeal.τ).loc Cert.ResidNormRefIdeal.main_arg1)
          ∧ r.2.mem ((c.tc : Thread Cert.ResidNormRefIdeal.nD Cert.ResidNormRefIdeal.τ).loc Cert.ResidNormRefIdeal.main_arg2) = m' ((c.tc : Thread Cert.ResidNormRefIdeal.nD Cert.ResidNormRefIdeal.τ).loc Cert.ResidNormRefIdeal.main_arg2)
          ∧ r.2.mem ((c.tc : Thread Cert.ResidNormRefIdeal.nD Cert.ResidNormRefIdeal.τ).loc Cert.ResidNormRefIdeal.main_arg3) = m' ((c.tc : Thread Cert.ResidNormRefIdeal.nD Cert.ResidNormRefIdeal.τ).loc Cert.ResidNormRefIdeal.main_arg3))

def preserves_ResidLoss_ResidLossIdeal : Prop :=
  True

def algebraic_ResidLossIdeal_ResidLossRefIdeal [hResidLossIdeal : Cert.ResidLossIdeal.Facts] [hResidLossRefIdeal : Cert.ResidLossRefIdeal.Facts] : Prop :=
  ∀ (m : (ℓ : Loc Cert.ResidLossIdeal.nD Cert.ResidLossIdeal.τ Cert.ResidLossIdeal.sig) → Buf (Elt Ideal) ℓ) (g : Dev Cert.ResidLossIdeal.nD → PrngReg)
    (m' : (ℓ : Loc Cert.ResidLossRefIdeal.nD Cert.ResidLossRefIdeal.τ Cert.ResidLossRefIdeal.sig) → Buf (Elt Ideal) ℓ) (g' : Dev Cert.ResidLossRefIdeal.nD → PrngReg), Pre_ResidLossIdeal m →
    (∀ c : Dev Cert.ResidLossIdeal.nD,
      m' ((c.tc : Thread Cert.ResidLossRefIdeal.nD Cert.ResidLossRefIdeal.τ).loc Cert.ResidLossRefIdeal.main_arg0) = m ((c.tc : Thread Cert.ResidLossIdeal.nD Cert.ResidLossIdeal.τ).loc Cert.ResidLossIdeal.main_arg0)
      ∧ m' ((c.tc : Thread Cert.ResidLossRefIdeal.nD Cert.ResidLossRefIdeal.τ).loc Cert.ResidLossRefIdeal.main_arg1) = m ((c.tc : Thread Cert.ResidLossIdeal.nD Cert.ResidLossIdeal.τ).loc Cert.ResidLossIdeal.main_arg1)
      ∧ m' ((c.tc : Thread Cert.ResidLossRefIdeal.nD Cert.ResidLossRefIdeal.τ).loc Cert.ResidLossRefIdeal.main_arg2) = m ((c.tc : Thread Cert.ResidLossIdeal.nD Cert.ResidLossIdeal.τ).loc Cert.ResidLossIdeal.main_arg2)
      ∧ m' ((c.tc : Thread Cert.ResidLossRefIdeal.nD Cert.ResidLossRefIdeal.τ).loc Cert.ResidLossRefIdeal.main_arg3) = m ((c.tc : Thread Cert.ResidLossIdeal.nD Cert.ResidLossIdeal.τ).loc Cert.ResidLossIdeal.main_arg3)) →
    ∃ (v0 : (c : Dev Cert.ResidLossIdeal.nD) → Buf (Elt Ideal) ((c.tc : Thread Cert.ResidLossIdeal.nD Cert.ResidLossIdeal.τ).loc Cert.ResidLossIdeal.main_v0_0)) (v1 : (c : Dev Cert.ResidLossIdeal.nD) → Buf (Elt Ideal) ((c.tc : Thread Cert.ResidLossIdeal.nD Cert.ResidLossIdeal.τ).loc Cert.ResidLossIdeal.main_v0_1)),
      θ_run (Cert.ResidLossIdeal.defs (F := Ideal)) (onTc (τ := Cert.ResidLossIdeal.τ) (Cert.ResidLossIdeal.main (F := Ideal))) ⟨m, fun _ => 0, g⟩ (fun r => ∀ c : Dev Cert.ResidLossIdeal.nD,
          r.2.mem ((c.tc : Thread Cert.ResidLossIdeal.nD Cert.ResidLossIdeal.τ).loc Cert.ResidLossIdeal.main_v0_0) = v0 c
          ∧ r.2.mem ((c.tc : Thread Cert.ResidLossIdeal.nD Cert.ResidLossIdeal.τ).loc Cert.ResidLossIdeal.main_v0_1) = v1 c
          ∧ r.2.mem ((c.tc : Thread Cert.ResidLossIdeal.nD Cert.ResidLossIdeal.τ).loc Cert.ResidLossIdeal.main_arg0) = m ((c.tc : Thread Cert.ResidLossIdeal.nD Cert.ResidLossIdeal.τ).loc Cert.ResidLossIdeal.main_arg0)
          ∧ r.2.mem ((c.tc : Thread Cert.ResidLossIdeal.nD Cert.ResidLossIdeal.τ).loc Cert.ResidLossIdeal.main_arg1) = m ((c.tc : Thread Cert.ResidLossIdeal.nD Cert.ResidLossIdeal.τ).loc Cert.ResidLossIdeal.main_arg1)
          ∧ r.2.mem ((c.tc : Thread Cert.ResidLossIdeal.nD Cert.ResidLossIdeal.τ).loc Cert.ResidLossIdeal.main_arg2) = m ((c.tc : Thread Cert.ResidLossIdeal.nD Cert.ResidLossIdeal.τ).loc Cert.ResidLossIdeal.main_arg2)
          ∧ r.2.mem ((c.tc : Thread Cert.ResidLossIdeal.nD Cert.ResidLossIdeal.τ).loc Cert.ResidLossIdeal.main_arg3) = m ((c.tc : Thread Cert.ResidLossIdeal.nD Cert.ResidLossIdeal.τ).loc Cert.ResidLossIdeal.main_arg3))
      ∧ θ_run (Cert.ResidLossRefIdeal.defs (F := Ideal)) (onTc (τ := Cert.ResidLossRefIdeal.τ) (Cert.ResidLossRefIdeal.main (F := Ideal))) ⟨m', fun _ => 0, g'⟩ (fun r => ∀ c : Dev Cert.ResidLossRefIdeal.nD,
          r.2.mem ((c.tc : Thread Cert.ResidLossRefIdeal.nD Cert.ResidLossRefIdeal.τ).loc Cert.ResidLossRefIdeal.main_v27) = v0 c
          ∧ r.2.mem ((c.tc : Thread Cert.ResidLossRefIdeal.nD Cert.ResidLossRefIdeal.τ).loc Cert.ResidLossRefIdeal.main_v28) = v1 c
          ∧ r.2.mem ((c.tc : Thread Cert.ResidLossRefIdeal.nD Cert.ResidLossRefIdeal.τ).loc Cert.ResidLossRefIdeal.main_arg0) = m' ((c.tc : Thread Cert.ResidLossRefIdeal.nD Cert.ResidLossRefIdeal.τ).loc Cert.ResidLossRefIdeal.main_arg0)
          ∧ r.2.mem ((c.tc : Thread Cert.ResidLossRefIdeal.nD Cert.ResidLossRefIdeal.τ).loc Cert.ResidLossRefIdeal.main_arg1) = m' ((c.tc : Thread Cert.ResidLossRefIdeal.nD Cert.ResidLossRefIdeal.τ).loc Cert.ResidLossRefIdeal.main_arg1)
          ∧ r.2.mem ((c.tc : Thread Cert.ResidLossRefIdeal.nD Cert.ResidLossRefIdeal.τ).loc Cert.ResidLossRefIdeal.main_arg2) = m' ((c.tc : Thread Cert.ResidLossRefIdeal.nD Cert.ResidLossRefIdeal.τ).loc Cert.ResidLossRefIdeal.main_arg2)
          ∧ r.2.mem ((c.tc : Thread Cert.ResidLossRefIdeal.nD Cert.ResidLossRefIdeal.τ).loc Cert.ResidLossRefIdeal.main_arg3) = m' ((c.tc : Thread Cert.ResidLossRefIdeal.nD Cert.ResidLossRefIdeal.τ).loc Cert.ResidLossRefIdeal.main_arg3))

def preserves_ScFwd_ScFwdIdeal : Prop :=
  True

def algebraic_ScFwdIdeal_ScFwdRefIdeal [hScFwdIdeal : Cert.ScFwdIdeal.Facts] [hScFwdRefIdeal : Cert.ScFwdRefIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg)
    (m' : (ℓ : Loc Cert.ScFwdRefIdeal.nD Cert.ScFwdRefIdeal.τ Cert.ScFwdRefIdeal.sig) → Buf (Elt Ideal) ℓ) (g' : Dev Cert.ScFwdRefIdeal.nD → PrngReg), Pre_ScFwdIdeal m →
    (∀ c : Dev Cert.ScFwdIdeal.nD,
      m' ((c.tc : Thread Cert.ScFwdRefIdeal.nD Cert.ScFwdRefIdeal.τ).loc Cert.ScFwdRefIdeal.main_arg0) = m ((c.tc : Thread Cert.ScFwdIdeal.nD Cert.ScFwdIdeal.τ).loc Cert.ScFwdIdeal.main_arg0)
      ∧ m' ((c.tc : Thread Cert.ScFwdRefIdeal.nD Cert.ScFwdRefIdeal.τ).loc Cert.ScFwdRefIdeal.main_arg1) = m ((c.tc : Thread Cert.ScFwdIdeal.nD Cert.ScFwdIdeal.τ).loc Cert.ScFwdIdeal.main_arg1)) →
    ∃ (v0 : (c : Dev Cert.ScFwdIdeal.nD) → Buf (Elt Ideal) ((c.tc : Thread Cert.ScFwdIdeal.nD Cert.ScFwdIdeal.τ).loc Cert.ScFwdIdeal.main_v0)),
      θ_run (Cert.ScFwdIdeal.defs (F := Ideal)) (onTc (τ := Cert.ScFwdIdeal.τ) (Cert.ScFwdIdeal.main (F := Ideal))) ⟨m, fun _ => 0, g⟩ (fun r => ∀ c : Dev Cert.ScFwdIdeal.nD,
          r.2.mem ((c.tc : Thread Cert.ScFwdIdeal.nD Cert.ScFwdIdeal.τ).loc Cert.ScFwdIdeal.main_v0) = v0 c
          ∧ r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
          ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1))
      ∧ θ_run (Cert.ScFwdRefIdeal.defs (F := Ideal)) (onTc (τ := Cert.ScFwdRefIdeal.τ) (Cert.ScFwdRefIdeal.main (F := Ideal))) ⟨m', fun _ => 0, g'⟩ (fun r => ∀ c : Dev Cert.ScFwdRefIdeal.nD,
          r.2.mem ((c.tc : Thread Cert.ScFwdRefIdeal.nD Cert.ScFwdRefIdeal.τ).loc Cert.ScFwdRefIdeal.main_v30) = v0 c
          ∧ r.2.mem ((c.tc : Thread Cert.ScFwdRefIdeal.nD Cert.ScFwdRefIdeal.τ).loc Cert.ScFwdRefIdeal.main_arg0) = m' ((c.tc : Thread Cert.ScFwdRefIdeal.nD Cert.ScFwdRefIdeal.τ).loc Cert.ScFwdRefIdeal.main_arg0)
          ∧ r.2.mem ((c.tc : Thread Cert.ScFwdRefIdeal.nD Cert.ScFwdRefIdeal.τ).loc Cert.ScFwdRefIdeal.main_arg1) = m' ((c.tc : Thread Cert.ScFwdRefIdeal.nD Cert.ScFwdRefIdeal.τ).loc Cert.ScFwdRefIdeal.main_arg1))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)) →
    ∃ (v0 : (c : Dev Cert.FfnActIdeal.nD) → Buf (Elt Ideal) ((c.tc : Thread Cert.FfnActIdeal.nD Cert.FfnActIdeal.τ).loc Cert.FfnActIdeal.main_v0)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v0) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v31) = v0 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2))

def preserves_FfnConvDz_FfnConvDzIdeal : Prop :=
  True

def algebraic_FfnConvDzIdeal_FfnConvDzRefIdeal [hFfnConvDzIdeal : Cert.FfnConvDzIdeal.Facts] [hFfnConvDzRefIdeal : Cert.FfnConvDzRefIdeal.Facts] : Prop :=
  ∀ (m : (ℓ : Loc Cert.FfnConvDzIdeal.nD Cert.FfnConvDzIdeal.τ Cert.FfnConvDzIdeal.sig) → Buf (Elt Ideal) ℓ) (g : Dev Cert.FfnConvDzIdeal.nD → PrngReg)
    (m' : (ℓ : Loc Cert.FfnConvDzRefIdeal.nD Cert.FfnConvDzRefIdeal.τ Cert.FfnConvDzRefIdeal.sig) → Buf (Elt Ideal) ℓ) (g' : Dev Cert.FfnConvDzRefIdeal.nD → PrngReg), Pre_FfnConvDzIdeal m →
    (∀ c : Dev Cert.FfnConvDzIdeal.nD,
      m' ((c.tc : Thread Cert.FfnConvDzRefIdeal.nD Cert.FfnConvDzRefIdeal.τ).loc Cert.FfnConvDzRefIdeal.main_arg0) = m ((c.tc : Thread Cert.FfnConvDzIdeal.nD Cert.FfnConvDzIdeal.τ).loc Cert.FfnConvDzIdeal.main_arg0)
      ∧ m' ((c.tc : Thread Cert.FfnConvDzRefIdeal.nD Cert.FfnConvDzRefIdeal.τ).loc Cert.FfnConvDzRefIdeal.main_arg1) = m ((c.tc : Thread Cert.FfnConvDzIdeal.nD Cert.FfnConvDzIdeal.τ).loc Cert.FfnConvDzIdeal.main_arg1)
      ∧ m' ((c.tc : Thread Cert.FfnConvDzRefIdeal.nD Cert.FfnConvDzRefIdeal.τ).loc Cert.FfnConvDzRefIdeal.main_arg2) = m ((c.tc : Thread Cert.FfnConvDzIdeal.nD Cert.FfnConvDzIdeal.τ).loc Cert.FfnConvDzIdeal.main_arg2)) →
    ∃ (v0 : (c : Dev Cert.FfnConvDzIdeal.nD) → Buf (Elt Ideal) ((c.tc : Thread Cert.FfnConvDzIdeal.nD Cert.FfnConvDzIdeal.τ).loc Cert.FfnConvDzIdeal.main_v0)),
      θ_run (Cert.FfnConvDzIdeal.defs (F := Ideal)) (onTc (τ := Cert.FfnConvDzIdeal.τ) (Cert.FfnConvDzIdeal.main (F := Ideal))) ⟨m, fun _ => 0, g⟩ (fun r => ∀ c : Dev Cert.FfnConvDzIdeal.nD,
          r.2.mem ((c.tc : Thread Cert.FfnConvDzIdeal.nD Cert.FfnConvDzIdeal.τ).loc Cert.FfnConvDzIdeal.main_v0) = v0 c
          ∧ r.2.mem ((c.tc : Thread Cert.FfnConvDzIdeal.nD Cert.FfnConvDzIdeal.τ).loc Cert.FfnConvDzIdeal.main_arg0) = m ((c.tc : Thread Cert.FfnConvDzIdeal.nD Cert.FfnConvDzIdeal.τ).loc Cert.FfnConvDzIdeal.main_arg0)
          ∧ r.2.mem ((c.tc : Thread Cert.FfnConvDzIdeal.nD Cert.FfnConvDzIdeal.τ).loc Cert.FfnConvDzIdeal.main_arg1) = m ((c.tc : Thread Cert.FfnConvDzIdeal.nD Cert.FfnConvDzIdeal.τ).loc Cert.FfnConvDzIdeal.main_arg1)
          ∧ r.2.mem ((c.tc : Thread Cert.FfnConvDzIdeal.nD Cert.FfnConvDzIdeal.τ).loc Cert.FfnConvDzIdeal.main_arg2) = m ((c.tc : Thread Cert.FfnConvDzIdeal.nD Cert.FfnConvDzIdeal.τ).loc Cert.FfnConvDzIdeal.main_arg2))
      ∧ θ_run (Cert.FfnConvDzRefIdeal.defs (F := Ideal)) (onTc (τ := Cert.FfnConvDzRefIdeal.τ) (Cert.FfnConvDzRefIdeal.main (F := Ideal))) ⟨m', fun _ => 0, g'⟩ (fun r => ∀ c : Dev Cert.FfnConvDzRefIdeal.nD,
          r.2.mem ((c.tc : Thread Cert.FfnConvDzRefIdeal.nD Cert.FfnConvDzRefIdeal.τ).loc Cert.FfnConvDzRefIdeal.main_v40) = v0 c
          ∧ r.2.mem ((c.tc : Thread Cert.FfnConvDzRefIdeal.nD Cert.FfnConvDzRefIdeal.τ).loc Cert.FfnConvDzRefIdeal.main_arg0) = m' ((c.tc : Thread Cert.FfnConvDzRefIdeal.nD Cert.FfnConvDzRefIdeal.τ).loc Cert.FfnConvDzRefIdeal.main_arg0)
          ∧ r.2.mem ((c.tc : Thread Cert.FfnConvDzRefIdeal.nD Cert.FfnConvDzRefIdeal.τ).loc Cert.FfnConvDzRefIdeal.main_arg1) = m' ((c.tc : Thread Cert.FfnConvDzRefIdeal.nD Cert.FfnConvDzRefIdeal.τ).loc Cert.FfnConvDzRefIdeal.main_arg1)
          ∧ r.2.mem ((c.tc : Thread Cert.FfnConvDzRefIdeal.nD Cert.FfnConvDzRefIdeal.τ).loc Cert.FfnConvDzRefIdeal.main_arg2) = m' ((c.tc : Thread Cert.FfnConvDzRefIdeal.nD Cert.FfnConvDzRefIdeal.τ).loc Cert.FfnConvDzRefIdeal.main_arg2))

def preserves_FoxCum_FoxCumIdeal : Prop :=
  True

def algebraic_FoxCumIdeal_FoxCumRefIdeal [hFoxCumIdeal : Cert.FoxCumIdeal.Facts] [hFoxCumRefIdeal : Cert.FoxCumRefIdeal.Facts] : Prop :=
  ∀ (m : (ℓ : Loc Cert.FoxCumIdeal.nD Cert.FoxCumIdeal.τ Cert.FoxCumIdeal.sig) → Buf (Elt Ideal) ℓ) (g : Dev Cert.FoxCumIdeal.nD → PrngReg)
    (m' : (ℓ : Loc Cert.FoxCumRefIdeal.nD Cert.FoxCumRefIdeal.τ Cert.FoxCumRefIdeal.sig) → Buf (Elt Ideal) ℓ) (g' : Dev Cert.FoxCumRefIdeal.nD → PrngReg), Pre_FoxCumIdeal m →
    (∀ c : Dev Cert.FoxCumIdeal.nD,
      m' ((c.tc : Thread Cert.FoxCumRefIdeal.nD Cert.FoxCumRefIdeal.τ).loc Cert.FoxCumRefIdeal.main_arg0) = m ((c.tc : Thread Cert.FoxCumIdeal.nD Cert.FoxCumIdeal.τ).loc Cert.FoxCumIdeal.main_arg0)
      ∧ m' ((c.tc : Thread Cert.FoxCumRefIdeal.nD Cert.FoxCumRefIdeal.τ).loc Cert.FoxCumRefIdeal.main_arg1) = m ((c.tc : Thread Cert.FoxCumIdeal.nD Cert.FoxCumIdeal.τ).loc Cert.FoxCumIdeal.main_arg1)) →
    ∃ (v0 : (c : Dev Cert.FoxCumIdeal.nD) → Buf (Elt Ideal) ((c.tc : Thread Cert.FoxCumIdeal.nD Cert.FoxCumIdeal.τ).loc Cert.FoxCumIdeal.main_v0)),
      θ_run (Cert.FoxCumIdeal.defs (F := Ideal)) (onTc (τ := Cert.FoxCumIdeal.τ) (Cert.FoxCumIdeal.main (F := Ideal))) ⟨m, fun _ => 0, g⟩ (fun r => ∀ c : Dev Cert.FoxCumIdeal.nD,
          r.2.mem ((c.tc : Thread Cert.FoxCumIdeal.nD Cert.FoxCumIdeal.τ).loc Cert.FoxCumIdeal.main_v0) = v0 c
          ∧ r.2.mem ((c.tc : Thread Cert.FoxCumIdeal.nD Cert.FoxCumIdeal.τ).loc Cert.FoxCumIdeal.main_arg0) = m ((c.tc : Thread Cert.FoxCumIdeal.nD Cert.FoxCumIdeal.τ).loc Cert.FoxCumIdeal.main_arg0)
          ∧ r.2.mem ((c.tc : Thread Cert.FoxCumIdeal.nD Cert.FoxCumIdeal.τ).loc Cert.FoxCumIdeal.main_arg1) = m ((c.tc : Thread Cert.FoxCumIdeal.nD Cert.FoxCumIdeal.τ).loc Cert.FoxCumIdeal.main_arg1))
      ∧ θ_run (Cert.FoxCumRefIdeal.defs (F := Ideal)) (onTc (τ := Cert.FoxCumRefIdeal.τ) (Cert.FoxCumRefIdeal.main (F := Ideal))) ⟨m', fun _ => 0, g'⟩ (fun r => ∀ c : Dev Cert.FoxCumRefIdeal.nD,
          r.2.mem ((c.tc : Thread Cert.FoxCumRefIdeal.nD Cert.FoxCumRefIdeal.τ).loc Cert.FoxCumRefIdeal.main_v3) = v0 c
          ∧ r.2.mem ((c.tc : Thread Cert.FoxCumRefIdeal.nD Cert.FoxCumRefIdeal.τ).loc Cert.FoxCumRefIdeal.main_arg0) = m' ((c.tc : Thread Cert.FoxCumRefIdeal.nD Cert.FoxCumRefIdeal.τ).loc Cert.FoxCumRefIdeal.main_arg0)
          ∧ r.2.mem ((c.tc : Thread Cert.FoxCumRefIdeal.nD Cert.FoxCumRefIdeal.τ).loc Cert.FoxCumRefIdeal.main_arg1) = m' ((c.tc : Thread Cert.FoxCumRefIdeal.nD Cert.FoxCumRefIdeal.τ).loc Cert.FoxCumRefIdeal.main_arg1))

def preserves_FoxCumBwd_FoxCumBwdIdeal : Prop :=
  True

def algebraic_FoxCumBwdIdeal_FoxCumBwdRefIdeal [hFoxCumBwdIdeal : Cert.FoxCumBwdIdeal.Facts] [hFoxCumBwdRefIdeal : Cert.FoxCumBwdRefIdeal.Facts] : Prop :=
  ∀ (m : (ℓ : Loc Cert.FoxCumBwdIdeal.nD Cert.FoxCumBwdIdeal.τ Cert.FoxCumBwdIdeal.sig) → Buf (Elt Ideal) ℓ) (g : Dev Cert.FoxCumBwdIdeal.nD → PrngReg)
    (m' : (ℓ : Loc Cert.FoxCumBwdRefIdeal.nD Cert.FoxCumBwdRefIdeal.τ Cert.FoxCumBwdRefIdeal.sig) → Buf (Elt Ideal) ℓ) (g' : Dev Cert.FoxCumBwdRefIdeal.nD → PrngReg), Pre_FoxCumBwdIdeal m →
    (∀ c : Dev Cert.FoxCumBwdIdeal.nD,
      m' ((c.tc : Thread Cert.FoxCumBwdRefIdeal.nD Cert.FoxCumBwdRefIdeal.τ).loc Cert.FoxCumBwdRefIdeal.main_arg0) = m ((c.tc : Thread Cert.FoxCumBwdIdeal.nD Cert.FoxCumBwdIdeal.τ).loc Cert.FoxCumBwdIdeal.main_arg0)
      ∧ m' ((c.tc : Thread Cert.FoxCumBwdRefIdeal.nD Cert.FoxCumBwdRefIdeal.τ).loc Cert.FoxCumBwdRefIdeal.main_arg1) = m ((c.tc : Thread Cert.FoxCumBwdIdeal.nD Cert.FoxCumBwdIdeal.τ).loc Cert.FoxCumBwdIdeal.main_arg1)
      ∧ m' ((c.tc : Thread Cert.FoxCumBwdRefIdeal.nD Cert.FoxCumBwdRefIdeal.τ).loc Cert.FoxCumBwdRefIdeal.main_arg2) = m ((c.tc : Thread Cert.FoxCumBwdIdeal.nD Cert.FoxCumBwdIdeal.τ).loc Cert.FoxCumBwdIdeal.main_arg2)) →
    ∃ (v0 : (c : Dev Cert.FoxCumBwdIdeal.nD) → Buf (Elt Ideal) ((c.tc : Thread Cert.FoxCumBwdIdeal.nD Cert.FoxCumBwdIdeal.τ).loc Cert.FoxCumBwdIdeal.main_v0_0)) (v1 : (c : Dev Cert.FoxCumBwdIdeal.nD) → Buf (Elt Ideal) ((c.tc : Thread Cert.FoxCumBwdIdeal.nD Cert.FoxCumBwdIdeal.τ).loc Cert.FoxCumBwdIdeal.main_v0_1)),
      θ_run (Cert.FoxCumBwdIdeal.defs (F := Ideal)) (onTc (τ := Cert.FoxCumBwdIdeal.τ) (Cert.FoxCumBwdIdeal.main (F := Ideal))) ⟨m, fun _ => 0, g⟩ (fun r => ∀ c : Dev Cert.FoxCumBwdIdeal.nD,
          r.2.mem ((c.tc : Thread Cert.FoxCumBwdIdeal.nD Cert.FoxCumBwdIdeal.τ).loc Cert.FoxCumBwdIdeal.main_v0_0) = v0 c
          ∧ r.2.mem ((c.tc : Thread Cert.FoxCumBwdIdeal.nD Cert.FoxCumBwdIdeal.τ).loc Cert.FoxCumBwdIdeal.main_v0_1) = v1 c
          ∧ r.2.mem ((c.tc : Thread Cert.FoxCumBwdIdeal.nD Cert.FoxCumBwdIdeal.τ).loc Cert.FoxCumBwdIdeal.main_arg0) = m ((c.tc : Thread Cert.FoxCumBwdIdeal.nD Cert.FoxCumBwdIdeal.τ).loc Cert.FoxCumBwdIdeal.main_arg0)
          ∧ r.2.mem ((c.tc : Thread Cert.FoxCumBwdIdeal.nD Cert.FoxCumBwdIdeal.τ).loc Cert.FoxCumBwdIdeal.main_arg1) = m ((c.tc : Thread Cert.FoxCumBwdIdeal.nD Cert.FoxCumBwdIdeal.τ).loc Cert.FoxCumBwdIdeal.main_arg1)
          ∧ r.2.mem ((c.tc : Thread Cert.FoxCumBwdIdeal.nD Cert.FoxCumBwdIdeal.τ).loc Cert.FoxCumBwdIdeal.main_arg2) = m ((c.tc : Thread Cert.FoxCumBwdIdeal.nD Cert.FoxCumBwdIdeal.τ).loc Cert.FoxCumBwdIdeal.main_arg2))
      ∧ θ_run (Cert.FoxCumBwdRefIdeal.defs (F := Ideal)) (onTc (τ := Cert.FoxCumBwdRefIdeal.τ) (Cert.FoxCumBwdRefIdeal.main (F := Ideal))) ⟨m', fun _ => 0, g'⟩ (fun r => ∀ c : Dev Cert.FoxCumBwdRefIdeal.nD,
          r.2.mem ((c.tc : Thread Cert.FoxCumBwdRefIdeal.nD Cert.FoxCumBwdRefIdeal.τ).loc Cert.FoxCumBwdRefIdeal.main_v8) = v0 c
          ∧ r.2.mem ((c.tc : Thread Cert.FoxCumBwdRefIdeal.nD Cert.FoxCumBwdRefIdeal.τ).loc Cert.FoxCumBwdRefIdeal.main_v7) = v1 c
          ∧ r.2.mem ((c.tc : Thread Cert.FoxCumBwdRefIdeal.nD Cert.FoxCumBwdRefIdeal.τ).loc Cert.FoxCumBwdRefIdeal.main_arg0) = m' ((c.tc : Thread Cert.FoxCumBwdRefIdeal.nD Cert.FoxCumBwdRefIdeal.τ).loc Cert.FoxCumBwdRefIdeal.main_arg0)
          ∧ r.2.mem ((c.tc : Thread Cert.FoxCumBwdRefIdeal.nD Cert.FoxCumBwdRefIdeal.τ).loc Cert.FoxCumBwdRefIdeal.main_arg1) = m' ((c.tc : Thread Cert.FoxCumBwdRefIdeal.nD Cert.FoxCumBwdRefIdeal.τ).loc Cert.FoxCumBwdRefIdeal.main_arg1)
          ∧ r.2.mem ((c.tc : Thread Cert.FoxCumBwdRefIdeal.nD Cert.FoxCumBwdRefIdeal.τ).loc Cert.FoxCumBwdRefIdeal.main_arg2) = m' ((c.tc : Thread Cert.FoxCumBwdRefIdeal.nD Cert.FoxCumBwdRefIdeal.τ).loc Cert.FoxCumBwdRefIdeal.main_arg2))

def preserves_Lb_LbIdeal : Prop :=
  True

def algebraic_LbIdeal_LbRefIdeal [hLbIdeal : Cert.LbIdeal.Facts] [hLbRefIdeal : Cert.LbRefIdeal.Facts] : Prop :=
  ∀ (m : (ℓ : Loc Cert.LbIdeal.nD Cert.LbIdeal.τ Cert.LbIdeal.sig) → Buf (Elt Ideal) ℓ) (g : Dev Cert.LbIdeal.nD → PrngReg)
    (m' : (ℓ : Loc Cert.LbRefIdeal.nD Cert.LbRefIdeal.τ Cert.LbRefIdeal.sig) → Buf (Elt Ideal) ℓ) (g' : Dev Cert.LbRefIdeal.nD → PrngReg), Pre_LbIdeal m →
    (∀ c : Dev Cert.LbIdeal.nD,
      m' ((c.tc : Thread Cert.LbRefIdeal.nD Cert.LbRefIdeal.τ).loc Cert.LbRefIdeal.main_arg0) = m ((c.tc : Thread Cert.LbIdeal.nD Cert.LbIdeal.τ).loc Cert.LbIdeal.main_arg0)) →
    ∃ (v0 : (c : Dev Cert.LbIdeal.nD) → Buf (Elt Ideal) ((c.tc : Thread Cert.LbIdeal.nD Cert.LbIdeal.τ).loc Cert.LbIdeal.main_v0)),
      θ_run (Cert.LbIdeal.defs (F := Ideal)) (onTc (τ := Cert.LbIdeal.τ) (Cert.LbIdeal.main (F := Ideal))) ⟨m, fun _ => 0, g⟩ (fun r => ∀ c : Dev Cert.LbIdeal.nD,
          r.2.mem ((c.tc : Thread Cert.LbIdeal.nD Cert.LbIdeal.τ).loc Cert.LbIdeal.main_v0) = v0 c
          ∧ r.2.mem ((c.tc : Thread Cert.LbIdeal.nD Cert.LbIdeal.τ).loc Cert.LbIdeal.main_arg0) = m ((c.tc : Thread Cert.LbIdeal.nD Cert.LbIdeal.τ).loc Cert.LbIdeal.main_arg0))
      ∧ θ_run (Cert.LbRefIdeal.defs (F := Ideal)) (onTc (τ := Cert.LbRefIdeal.τ) (Cert.LbRefIdeal.main (F := Ideal))) ⟨m', fun _ => 0, g'⟩ (fun r => ∀ c : Dev Cert.LbRefIdeal.nD,
          r.2.mem ((c.tc : Thread Cert.LbRefIdeal.nD Cert.LbRefIdeal.τ).loc Cert.LbRefIdeal.main_v13) = v0 c
          ∧ r.2.mem ((c.tc : Thread Cert.LbRefIdeal.nD Cert.LbRefIdeal.τ).loc Cert.LbRefIdeal.main_arg0) = m' ((c.tc : Thread Cert.LbRefIdeal.nD Cert.LbRefIdeal.τ).loc Cert.LbRefIdeal.main_arg0))

def preserves_LbBwd_LbBwdIdeal : Prop :=
  True

def algebraic_LbBwdIdeal_LbBwdRefIdeal [hLbBwdIdeal : Cert.LbBwdIdeal.Facts] [hLbBwdRefIdeal : Cert.LbBwdRefIdeal.Facts] : Prop :=
  ∀ (m : (ℓ : Loc Cert.LbBwdIdeal.nD Cert.LbBwdIdeal.τ Cert.LbBwdIdeal.sig) → Buf (Elt Ideal) ℓ) (g : Dev Cert.LbBwdIdeal.nD → PrngReg)
    (m' : (ℓ : Loc Cert.LbBwdRefIdeal.nD Cert.LbBwdRefIdeal.τ Cert.LbBwdRefIdeal.sig) → Buf (Elt Ideal) ℓ) (g' : Dev Cert.LbBwdRefIdeal.nD → PrngReg), Pre_LbBwdIdeal m →
    (∀ c : Dev Cert.LbBwdIdeal.nD,
      m' ((c.tc : Thread Cert.LbBwdRefIdeal.nD Cert.LbBwdRefIdeal.τ).loc Cert.LbBwdRefIdeal.main_arg0) = m ((c.tc : Thread Cert.LbBwdIdeal.nD Cert.LbBwdIdeal.τ).loc Cert.LbBwdIdeal.main_arg0)
      ∧ m' ((c.tc : Thread Cert.LbBwdRefIdeal.nD Cert.LbBwdRefIdeal.τ).loc Cert.LbBwdRefIdeal.main_arg1) = m ((c.tc : Thread Cert.LbBwdIdeal.nD Cert.LbBwdIdeal.τ).loc Cert.LbBwdIdeal.main_arg1)) →
    ∃ (v0 : (c : Dev Cert.LbBwdIdeal.nD) → Buf (Elt Ideal) ((c.tc : Thread Cert.LbBwdIdeal.nD Cert.LbBwdIdeal.τ).loc Cert.LbBwdIdeal.main_v0)),
      θ_run (Cert.LbBwdIdeal.defs (F := Ideal)) (onTc (τ := Cert.LbBwdIdeal.τ) (Cert.LbBwdIdeal.main (F := Ideal))) ⟨m, fun _ => 0, g⟩ (fun r => ∀ c : Dev Cert.LbBwdIdeal.nD,
          r.2.mem ((c.tc : Thread Cert.LbBwdIdeal.nD Cert.LbBwdIdeal.τ).loc Cert.LbBwdIdeal.main_v0) = v0 c
          ∧ r.2.mem ((c.tc : Thread Cert.LbBwdIdeal.nD Cert.LbBwdIdeal.τ).loc Cert.LbBwdIdeal.main_arg0) = m ((c.tc : Thread Cert.LbBwdIdeal.nD Cert.LbBwdIdeal.τ).loc Cert.LbBwdIdeal.main_arg0)
          ∧ r.2.mem ((c.tc : Thread Cert.LbBwdIdeal.nD Cert.LbBwdIdeal.τ).loc Cert.LbBwdIdeal.main_arg1) = m ((c.tc : Thread Cert.LbBwdIdeal.nD Cert.LbBwdIdeal.τ).loc Cert.LbBwdIdeal.main_arg1))
      ∧ θ_run (Cert.LbBwdRefIdeal.defs (F := Ideal)) (onTc (τ := Cert.LbBwdRefIdeal.τ) (Cert.LbBwdRefIdeal.main (F := Ideal))) ⟨m', fun _ => 0, g'⟩ (fun r => ∀ c : Dev Cert.LbBwdRefIdeal.nD,
          r.2.mem ((c.tc : Thread Cert.LbBwdRefIdeal.nD Cert.LbBwdRefIdeal.τ).loc Cert.LbBwdRefIdeal.main_v23) = v0 c
          ∧ r.2.mem ((c.tc : Thread Cert.LbBwdRefIdeal.nD Cert.LbBwdRefIdeal.τ).loc Cert.LbBwdRefIdeal.main_arg0) = m' ((c.tc : Thread Cert.LbBwdRefIdeal.nD Cert.LbBwdRefIdeal.τ).loc Cert.LbBwdRefIdeal.main_arg0)
          ∧ r.2.mem ((c.tc : Thread Cert.LbBwdRefIdeal.nD Cert.LbBwdRefIdeal.τ).loc Cert.LbBwdRefIdeal.main_arg1) = m' ((c.tc : Thread Cert.LbBwdRefIdeal.nD Cert.LbBwdRefIdeal.τ).loc Cert.LbBwdRefIdeal.main_arg1))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hUpDh : Cert.UpDh.Facts) (hUpDhIdeal : Cert.UpDhIdeal.Facts) (hUpDhRefIdeal : Cert.UpDhRefIdeal.Facts) (hUpDw : Cert.UpDw.Facts) (hUpDwIdeal : Cert.UpDwIdeal.Facts) (hUpDwRefIdeal : Cert.UpDwRefIdeal.Facts) (hDown : Cert.Down.Facts) (hDownIdeal : Cert.DownIdeal.Facts) (hDownRefIdeal : Cert.DownRefIdeal.Facts) (hDownDh : Cert.DownDh.Facts) (hDownDhIdeal : Cert.DownDhIdeal.Facts) (hDownDhRefIdeal : Cert.DownDhRefIdeal.Facts) (hDownDw : Cert.DownDw.Facts) (hDownDwIdeal : Cert.DownDwIdeal.Facts) (hDownDwRefIdeal : Cert.DownDwRefIdeal.Facts) (hOut : Cert.Out.Facts) (hOutIdeal : Cert.OutIdeal.Facts) (hOutRefIdeal : Cert.OutRefIdeal.Facts) (hOutDh : Cert.OutDh.Facts) (hOutDhIdeal : Cert.OutDhIdeal.Facts) (hOutDhRefIdeal : Cert.OutDhRefIdeal.Facts) (hOutDw : Cert.OutDw.Facts) (hOutDwIdeal : Cert.OutDwIdeal.Facts) (hOutDwRefIdeal : Cert.OutDwRefIdeal.Facts) (hHgrn : Cert.Hgrn.Facts) (hHgrnIdeal : Cert.HgrnIdeal.Facts) (hHgrnRefIdeal : Cert.HgrnRefIdeal.Facts) (hHgrnDh : Cert.HgrnDh.Facts) (hHgrnDhIdeal : Cert.HgrnDhIdeal.Facts) (hHgrnDhRefIdeal : Cert.HgrnDhRefIdeal.Facts) (hHgrnDw : Cert.HgrnDw.Facts) (hHgrnDwIdeal : Cert.HgrnDwIdeal.Facts) (hHgrnDwRefIdeal : Cert.HgrnDwRefIdeal.Facts) (hSwa : Cert.Swa.Facts) (hSwaIdeal : Cert.SwaIdeal.Facts) (hSwaRefIdeal : Cert.SwaRefIdeal.Facts) (hSwaDh : Cert.SwaDh.Facts) (hSwaDhIdeal : Cert.SwaDhIdeal.Facts) (hSwaDhRefIdeal : Cert.SwaDhRefIdeal.Facts) (hSwaDw : Cert.SwaDw.Facts) (hSwaDwIdeal : Cert.SwaDwIdeal.Facts) (hSwaDwRefIdeal : Cert.SwaDwRefIdeal.Facts) (hSc : Cert.Sc.Facts) (hScIdeal : Cert.ScIdeal.Facts) (hScRefIdeal : Cert.ScRefIdeal.Facts) (hScDh : Cert.ScDh.Facts) (hScDhIdeal : Cert.ScDhIdeal.Facts) (hScDhRefIdeal : Cert.ScDhRefIdeal.Facts) (hScDw : Cert.ScDw.Facts) (hScDwIdeal : Cert.ScDwIdeal.Facts) (hScDwRefIdeal : Cert.ScDwRefIdeal.Facts) (hFox : Cert.Fox.Facts) (hFoxIdeal : Cert.FoxIdeal.Facts) (hFoxRefIdeal : Cert.FoxRefIdeal.Facts) (hFoxDh : Cert.FoxDh.Facts) (hFoxDhIdeal : Cert.FoxDhIdeal.Facts) (hFoxDhRefIdeal : Cert.FoxDhRefIdeal.Facts) (hFoxDw : Cert.FoxDw.Facts) (hFoxDwIdeal : Cert.FoxDwIdeal.Facts) (hFoxDwRefIdeal : Cert.FoxDwRefIdeal.Facts) (hAdamHgrnIn : Cert.AdamHgrnIn.Facts) (hAdamHgrnInIdeal : Cert.AdamHgrnInIdeal.Facts) (hAdamHgrnInRefIdeal : Cert.AdamHgrnInRefIdeal.Facts) (hAdamSwaIn : Cert.AdamSwaIn.Facts) (hAdamSwaInIdeal : Cert.AdamSwaInIdeal.Facts) (hAdamSwaInRefIdeal : Cert.AdamSwaInRefIdeal.Facts) (hAdamScIn : Cert.AdamScIn.Facts) (hAdamScInIdeal : Cert.AdamScInIdeal.Facts) (hAdamScInRefIdeal : Cert.AdamScInRefIdeal.Facts) (hAdamFoxIn : Cert.AdamFoxIn.Facts) (hAdamFoxInIdeal : Cert.AdamFoxInIdeal.Facts) (hAdamFoxInRefIdeal : Cert.AdamFoxInRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamOut : Cert.AdamOut.Facts) (hAdamOutIdeal : Cert.AdamOutIdeal.Facts) (hAdamOutRefIdeal : Cert.AdamOutRefIdeal.Facts) (hAdamNorm : Cert.AdamNorm.Facts) (hAdamNormIdeal : Cert.AdamNormIdeal.Facts) (hAdamNormRefIdeal : Cert.AdamNormRefIdeal.Facts) (hAdamHeadNorm : Cert.AdamHeadNorm.Facts) (hAdamHeadNormIdeal : Cert.AdamHeadNormIdeal.Facts) (hAdamHeadNormRefIdeal : Cert.AdamHeadNormRefIdeal.Facts) (hAdamLb : Cert.AdamLb.Facts) (hAdamLbIdeal : Cert.AdamLbIdeal.Facts) (hAdamLbRefIdeal : Cert.AdamLbRefIdeal.Facts) (hAdamHead : Cert.AdamHead.Facts) (hAdamHeadIdeal : Cert.AdamHeadIdeal.Facts) (hAdamHeadRefIdeal : Cert.AdamHeadRefIdeal.Facts) (hAdamTap : Cert.AdamTap.Facts) (hAdamTapIdeal : Cert.AdamTapIdeal.Facts) (hAdamTapRefIdeal : Cert.AdamTapRefIdeal.Facts) (hAdamFfnTap : Cert.AdamFfnTap.Facts) (hAdamFfnTapIdeal : Cert.AdamFfnTapIdeal.Facts) (hAdamFfnTapRefIdeal : Cert.AdamFfnTapRefIdeal.Facts) (hAdamBias : Cert.AdamBias.Facts) (hAdamBiasIdeal : Cert.AdamBiasIdeal.Facts) (hAdamBiasRefIdeal : Cert.AdamBiasRefIdeal.Facts) (hNormPre : Cert.NormPre.Facts) (hNormPreIdeal : Cert.NormPreIdeal.Facts) (hNormPreRefIdeal : Cert.NormPreRefIdeal.Facts) (hNormPost : Cert.NormPost.Facts) (hNormPostIdeal : Cert.NormPostIdeal.Facts) (hNormPostRefIdeal : Cert.NormPostRefIdeal.Facts) (hNorm : Cert.Norm.Facts) (hNormIdeal : Cert.NormIdeal.Facts) (hNormRefIdeal : Cert.NormRefIdeal.Facts) (hResidNorm : Cert.ResidNorm.Facts) (hResidNormIdeal : Cert.ResidNormIdeal.Facts) (hResidNormRefIdeal : Cert.ResidNormRefIdeal.Facts) (hResidLoss : Cert.ResidLoss.Facts) (hResidLossIdeal : Cert.ResidLossIdeal.Facts) (hResidLossRefIdeal : Cert.ResidLossRefIdeal.Facts) (hScFwd : Cert.ScFwd.Facts) (hScFwdIdeal : Cert.ScFwdIdeal.Facts) (hScFwdRefIdeal : Cert.ScFwdRefIdeal.Facts) (hFfnAct : Cert.FfnAct.Facts) (hFfnActIdeal : Cert.FfnActIdeal.Facts) (hFfnActRefIdeal : Cert.FfnActRefIdeal.Facts) (hFfnConvDz : Cert.FfnConvDz.Facts) (hFfnConvDzIdeal : Cert.FfnConvDzIdeal.Facts) (hFfnConvDzRefIdeal : Cert.FfnConvDzRefIdeal.Facts) (hFoxCum : Cert.FoxCum.Facts) (hFoxCumIdeal : Cert.FoxCumIdeal.Facts) (hFoxCumRefIdeal : Cert.FoxCumRefIdeal.Facts) (hFoxCumBwd : Cert.FoxCumBwd.Facts) (hFoxCumBwdIdeal : Cert.FoxCumBwdIdeal.Facts) (hFoxCumBwdRefIdeal : Cert.FoxCumBwdRefIdeal.Facts) (hLb : Cert.Lb.Facts) (hLbIdeal : Cert.LbIdeal.Facts) (hLbRefIdeal : Cert.LbRefIdeal.Facts) (hLbBwd : Cert.LbBwd.Facts) (hLbBwdIdeal : Cert.LbBwdIdeal.Facts) (hLbBwdRefIdeal : Cert.LbBwdRefIdeal.Facts),
    quiescent_Kernel (hKernel := hKernel)
    ∧ quiescent_KernelIdeal (hKernelIdeal := hKernelIdeal)
    ∧ quiescent_ReferenceIdeal (hReferenceIdeal := hReferenceIdeal)
    ∧ quiescent_Up (hUp := hUp)
    ∧ quiescent_UpIdeal (hUpIdeal := hUpIdeal)
    ∧ quiescent_UpRefIdeal (hUpRefIdeal := hUpRefIdeal)
    ∧ quiescent_UpDh (hUpDh := hUpDh)
    ∧ quiescent_UpDhIdeal (hUpDhIdeal := hUpDhIdeal)
    ∧ quiescent_UpDhRefIdeal (hUpDhRefIdeal := hUpDhRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Down (hDown := hDown)
    ∧ quiescent_DownIdeal (hDownIdeal := hDownIdeal)
    ∧ quiescent_DownRefIdeal (hDownRefIdeal := hDownRefIdeal)
    ∧ quiescent_DownDh (hDownDh := hDownDh)
    ∧ quiescent_DownDhIdeal (hDownDhIdeal := hDownDhIdeal)
    ∧ quiescent_DownDhRefIdeal (hDownDhRefIdeal := hDownDhRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Out (hOut := hOut)
    ∧ quiescent_OutIdeal (hOutIdeal := hOutIdeal)
    ∧ quiescent_OutRefIdeal (hOutRefIdeal := hOutRefIdeal)
    ∧ quiescent_OutDh (hOutDh := hOutDh)
    ∧ quiescent_OutDhIdeal (hOutDhIdeal := hOutDhIdeal)
    ∧ quiescent_OutDhRefIdeal (hOutDhRefIdeal := hOutDhRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Hgrn (hHgrn := hHgrn)
    ∧ quiescent_HgrnIdeal (hHgrnIdeal := hHgrnIdeal)
    ∧ quiescent_HgrnRefIdeal (hHgrnRefIdeal := hHgrnRefIdeal)
    ∧ quiescent_HgrnDh (hHgrnDh := hHgrnDh)
    ∧ quiescent_HgrnDhIdeal (hHgrnDhIdeal := hHgrnDhIdeal)
    ∧ quiescent_HgrnDhRefIdeal (hHgrnDhRefIdeal := hHgrnDhRefIdeal)
    ∧ quiescent_HgrnDw (hHgrnDw := hHgrnDw)
    ∧ quiescent_HgrnDwIdeal (hHgrnDwIdeal := hHgrnDwIdeal)
    ∧ quiescent_HgrnDwRefIdeal (hHgrnDwRefIdeal := hHgrnDwRefIdeal)
    ∧ quiescent_Swa (hSwa := hSwa)
    ∧ quiescent_SwaIdeal (hSwaIdeal := hSwaIdeal)
    ∧ quiescent_SwaRefIdeal (hSwaRefIdeal := hSwaRefIdeal)
    ∧ quiescent_SwaDh (hSwaDh := hSwaDh)
    ∧ quiescent_SwaDhIdeal (hSwaDhIdeal := hSwaDhIdeal)
    ∧ quiescent_SwaDhRefIdeal (hSwaDhRefIdeal := hSwaDhRefIdeal)
    ∧ quiescent_SwaDw (hSwaDw := hSwaDw)
    ∧ quiescent_SwaDwIdeal (hSwaDwIdeal := hSwaDwIdeal)
    ∧ quiescent_SwaDwRefIdeal (hSwaDwRefIdeal := hSwaDwRefIdeal)
    ∧ quiescent_Sc (hSc := hSc)
    ∧ quiescent_ScIdeal (hScIdeal := hScIdeal)
    ∧ quiescent_ScRefIdeal (hScRefIdeal := hScRefIdeal)
    ∧ quiescent_ScDh (hScDh := hScDh)
    ∧ quiescent_ScDhIdeal (hScDhIdeal := hScDhIdeal)
    ∧ quiescent_ScDhRefIdeal (hScDhRefIdeal := hScDhRefIdeal)
    ∧ quiescent_ScDw (hScDw := hScDw)
    ∧ quiescent_ScDwIdeal (hScDwIdeal := hScDwIdeal)
    ∧ quiescent_ScDwRefIdeal (hScDwRefIdeal := hScDwRefIdeal)
    ∧ quiescent_Fox (hFox := hFox)
    ∧ quiescent_FoxIdeal (hFoxIdeal := hFoxIdeal)
    ∧ quiescent_FoxRefIdeal (hFoxRefIdeal := hFoxRefIdeal)
    ∧ quiescent_FoxDh (hFoxDh := hFoxDh)
    ∧ quiescent_FoxDhIdeal (hFoxDhIdeal := hFoxDhIdeal)
    ∧ quiescent_FoxDhRefIdeal (hFoxDhRefIdeal := hFoxDhRefIdeal)
    ∧ quiescent_FoxDw (hFoxDw := hFoxDw)
    ∧ quiescent_FoxDwIdeal (hFoxDwIdeal := hFoxDwIdeal)
    ∧ quiescent_FoxDwRefIdeal (hFoxDwRefIdeal := hFoxDwRefIdeal)
    ∧ quiescent_AdamHgrnIn (hAdamHgrnIn := hAdamHgrnIn)
    ∧ quiescent_AdamHgrnInIdeal (hAdamHgrnInIdeal := hAdamHgrnInIdeal)
    ∧ quiescent_AdamHgrnInRefIdeal (hAdamHgrnInRefIdeal := hAdamHgrnInRefIdeal)
    ∧ quiescent_AdamSwaIn (hAdamSwaIn := hAdamSwaIn)
    ∧ quiescent_AdamSwaInIdeal (hAdamSwaInIdeal := hAdamSwaInIdeal)
    ∧ quiescent_AdamSwaInRefIdeal (hAdamSwaInRefIdeal := hAdamSwaInRefIdeal)
    ∧ quiescent_AdamScIn (hAdamScIn := hAdamScIn)
    ∧ quiescent_AdamScInIdeal (hAdamScInIdeal := hAdamScInIdeal)
    ∧ quiescent_AdamScInRefIdeal (hAdamScInRefIdeal := hAdamScInRefIdeal)
    ∧ quiescent_AdamFoxIn (hAdamFoxIn := hAdamFoxIn)
    ∧ quiescent_AdamFoxInIdeal (hAdamFoxInIdeal := hAdamFoxInIdeal)
    ∧ quiescent_AdamFoxInRefIdeal (hAdamFoxInRefIdeal := hAdamFoxInRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamHeadNorm (hAdamHeadNorm := hAdamHeadNorm)
    ∧ quiescent_AdamHeadNormIdeal (hAdamHeadNormIdeal := hAdamHeadNormIdeal)
    ∧ quiescent_AdamHeadNormRefIdeal (hAdamHeadNormRefIdeal := hAdamHeadNormRefIdeal)
    ∧ quiescent_AdamLb (hAdamLb := hAdamLb)
    ∧ quiescent_AdamLbIdeal (hAdamLbIdeal := hAdamLbIdeal)
    ∧ quiescent_AdamLbRefIdeal (hAdamLbRefIdeal := hAdamLbRefIdeal)
    ∧ quiescent_AdamHead (hAdamHead := hAdamHead)
    ∧ quiescent_AdamHeadIdeal (hAdamHeadIdeal := hAdamHeadIdeal)
    ∧ quiescent_AdamHeadRefIdeal (hAdamHeadRefIdeal := hAdamHeadRefIdeal)
    ∧ quiescent_AdamTap (hAdamTap := hAdamTap)
    ∧ quiescent_AdamTapIdeal (hAdamTapIdeal := hAdamTapIdeal)
    ∧ quiescent_AdamTapRefIdeal (hAdamTapRefIdeal := hAdamTapRefIdeal)
    ∧ quiescent_AdamFfnTap (hAdamFfnTap := hAdamFfnTap)
    ∧ quiescent_AdamFfnTapIdeal (hAdamFfnTapIdeal := hAdamFfnTapIdeal)
    ∧ quiescent_AdamFfnTapRefIdeal (hAdamFfnTapRefIdeal := hAdamFfnTapRefIdeal)
    ∧ quiescent_AdamBias (hAdamBias := hAdamBias)
    ∧ quiescent_AdamBiasIdeal (hAdamBiasIdeal := hAdamBiasIdeal)
    ∧ quiescent_AdamBiasRefIdeal (hAdamBiasRefIdeal := hAdamBiasRefIdeal)
    ∧ quiescent_NormPre (hNormPre := hNormPre)
    ∧ quiescent_NormPreIdeal (hNormPreIdeal := hNormPreIdeal)
    ∧ quiescent_NormPreRefIdeal (hNormPreRefIdeal := hNormPreRefIdeal)
    ∧ quiescent_NormPost (hNormPost := hNormPost)
    ∧ quiescent_NormPostIdeal (hNormPostIdeal := hNormPostIdeal)
    ∧ quiescent_NormPostRefIdeal (hNormPostRefIdeal := hNormPostRefIdeal)
    ∧ quiescent_Norm (hNorm := hNorm)
    ∧ quiescent_NormIdeal (hNormIdeal := hNormIdeal)
    ∧ quiescent_NormRefIdeal (hNormRefIdeal := hNormRefIdeal)
    ∧ quiescent_ResidNorm (hResidNorm := hResidNorm)
    ∧ quiescent_ResidNormIdeal (hResidNormIdeal := hResidNormIdeal)
    ∧ quiescent_ResidNormRefIdeal (hResidNormRefIdeal := hResidNormRefIdeal)
    ∧ quiescent_ResidLoss (hResidLoss := hResidLoss)
    ∧ quiescent_ResidLossIdeal (hResidLossIdeal := hResidLossIdeal)
    ∧ quiescent_ResidLossRefIdeal (hResidLossRefIdeal := hResidLossRefIdeal)
    ∧ quiescent_ScFwd (hScFwd := hScFwd)
    ∧ quiescent_ScFwdIdeal (hScFwdIdeal := hScFwdIdeal)
    ∧ quiescent_ScFwdRefIdeal (hScFwdRefIdeal := hScFwdRefIdeal)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_FfnConvDz (hFfnConvDz := hFfnConvDz)
    ∧ quiescent_FfnConvDzIdeal (hFfnConvDzIdeal := hFfnConvDzIdeal)
    ∧ quiescent_FfnConvDzRefIdeal (hFfnConvDzRefIdeal := hFfnConvDzRefIdeal)
    ∧ quiescent_FoxCum (hFoxCum := hFoxCum)
    ∧ quiescent_FoxCumIdeal (hFoxCumIdeal := hFoxCumIdeal)
    ∧ quiescent_FoxCumRefIdeal (hFoxCumRefIdeal := hFoxCumRefIdeal)
    ∧ quiescent_FoxCumBwd (hFoxCumBwd := hFoxCumBwd)
    ∧ quiescent_FoxCumBwdIdeal (hFoxCumBwdIdeal := hFoxCumBwdIdeal)
    ∧ quiescent_FoxCumBwdRefIdeal (hFoxCumBwdRefIdeal := hFoxCumBwdRefIdeal)
    ∧ quiescent_Lb (hLb := hLb)
    ∧ quiescent_LbIdeal (hLbIdeal := hLbIdeal)
    ∧ quiescent_LbRefIdeal (hLbRefIdeal := hLbRefIdeal)
    ∧ quiescent_LbBwd (hLbBwd := hLbBwd)
    ∧ quiescent_LbBwdIdeal (hLbBwdIdeal := hLbBwdIdeal)
    ∧ quiescent_LbBwdRefIdeal (hLbBwdRefIdeal := hLbBwdRefIdeal)
    ∧ preserves_Kernel_KernelIdeal
    ∧ algebraic_KernelIdeal_ReferenceIdeal (hKernelIdeal := hKernelIdeal) (hReferenceIdeal := hReferenceIdeal)
    ∧ preserves_Up_UpIdeal
    ∧ algebraic_UpIdeal_UpRefIdeal (hUpIdeal := hUpIdeal) (hUpRefIdeal := hUpRefIdeal)
    ∧ preserves_UpDh_UpDhIdeal
    ∧ algebraic_UpDhIdeal_UpDhRefIdeal (hUpDhIdeal := hUpDhIdeal) (hUpDhRefIdeal := hUpDhRefIdeal)
    ∧ preserves_UpDw_UpDwIdeal
    ∧ algebraic_UpDwIdeal_UpDwRefIdeal (hUpDwIdeal := hUpDwIdeal) (hUpDwRefIdeal := hUpDwRefIdeal)
    ∧ preserves_Down_DownIdeal
    ∧ algebraic_DownIdeal_DownRefIdeal (hDownIdeal := hDownIdeal) (hDownRefIdeal := hDownRefIdeal)
    ∧ preserves_DownDh_DownDhIdeal
    ∧ algebraic_DownDhIdeal_DownDhRefIdeal (hDownDhIdeal := hDownDhIdeal) (hDownDhRefIdeal := hDownDhRefIdeal)
    ∧ preserves_DownDw_DownDwIdeal
    ∧ algebraic_DownDwIdeal_DownDwRefIdeal (hDownDwIdeal := hDownDwIdeal) (hDownDwRefIdeal := hDownDwRefIdeal)
    ∧ preserves_Out_OutIdeal
    ∧ algebraic_OutIdeal_OutRefIdeal (hOutIdeal := hOutIdeal) (hOutRefIdeal := hOutRefIdeal)
    ∧ preserves_OutDh_OutDhIdeal
    ∧ algebraic_OutDhIdeal_OutDhRefIdeal (hOutDhIdeal := hOutDhIdeal) (hOutDhRefIdeal := hOutDhRefIdeal)
    ∧ preserves_OutDw_OutDwIdeal
    ∧ algebraic_OutDwIdeal_OutDwRefIdeal (hOutDwIdeal := hOutDwIdeal) (hOutDwRefIdeal := hOutDwRefIdeal)
    ∧ preserves_Hgrn_HgrnIdeal
    ∧ algebraic_HgrnIdeal_HgrnRefIdeal (hHgrnIdeal := hHgrnIdeal) (hHgrnRefIdeal := hHgrnRefIdeal)
    ∧ preserves_HgrnDh_HgrnDhIdeal
    ∧ algebraic_HgrnDhIdeal_HgrnDhRefIdeal (hHgrnDhIdeal := hHgrnDhIdeal) (hHgrnDhRefIdeal := hHgrnDhRefIdeal)
    ∧ preserves_HgrnDw_HgrnDwIdeal
    ∧ algebraic_HgrnDwIdeal_HgrnDwRefIdeal (hHgrnDwIdeal := hHgrnDwIdeal) (hHgrnDwRefIdeal := hHgrnDwRefIdeal)
    ∧ preserves_Swa_SwaIdeal
    ∧ algebraic_SwaIdeal_SwaRefIdeal (hSwaIdeal := hSwaIdeal) (hSwaRefIdeal := hSwaRefIdeal)
    ∧ preserves_SwaDh_SwaDhIdeal
    ∧ algebraic_SwaDhIdeal_SwaDhRefIdeal (hSwaDhIdeal := hSwaDhIdeal) (hSwaDhRefIdeal := hSwaDhRefIdeal)
    ∧ preserves_SwaDw_SwaDwIdeal
    ∧ algebraic_SwaDwIdeal_SwaDwRefIdeal (hSwaDwIdeal := hSwaDwIdeal) (hSwaDwRefIdeal := hSwaDwRefIdeal)
    ∧ preserves_Sc_ScIdeal
    ∧ algebraic_ScIdeal_ScRefIdeal (hScIdeal := hScIdeal) (hScRefIdeal := hScRefIdeal)
    ∧ preserves_ScDh_ScDhIdeal
    ∧ algebraic_ScDhIdeal_ScDhRefIdeal (hScDhIdeal := hScDhIdeal) (hScDhRefIdeal := hScDhRefIdeal)
    ∧ preserves_ScDw_ScDwIdeal
    ∧ algebraic_ScDwIdeal_ScDwRefIdeal (hScDwIdeal := hScDwIdeal) (hScDwRefIdeal := hScDwRefIdeal)
    ∧ preserves_Fox_FoxIdeal
    ∧ algebraic_FoxIdeal_FoxRefIdeal (hFoxIdeal := hFoxIdeal) (hFoxRefIdeal := hFoxRefIdeal)
    ∧ preserves_FoxDh_FoxDhIdeal
    ∧ algebraic_FoxDhIdeal_FoxDhRefIdeal (hFoxDhIdeal := hFoxDhIdeal) (hFoxDhRefIdeal := hFoxDhRefIdeal)
    ∧ preserves_FoxDw_FoxDwIdeal
    ∧ algebraic_FoxDwIdeal_FoxDwRefIdeal (hFoxDwIdeal := hFoxDwIdeal) (hFoxDwRefIdeal := hFoxDwRefIdeal)
    ∧ preserves_AdamHgrnIn_AdamHgrnInIdeal
    ∧ algebraic_AdamHgrnInIdeal_AdamHgrnInRefIdeal (hAdamHgrnInIdeal := hAdamHgrnInIdeal) (hAdamHgrnInRefIdeal := hAdamHgrnInRefIdeal)
    ∧ preserves_AdamSwaIn_AdamSwaInIdeal
    ∧ algebraic_AdamSwaInIdeal_AdamSwaInRefIdeal (hAdamSwaInIdeal := hAdamSwaInIdeal) (hAdamSwaInRefIdeal := hAdamSwaInRefIdeal)
    ∧ preserves_AdamScIn_AdamScInIdeal
    ∧ algebraic_AdamScInIdeal_AdamScInRefIdeal (hAdamScInIdeal := hAdamScInIdeal) (hAdamScInRefIdeal := hAdamScInRefIdeal)
    ∧ preserves_AdamFoxIn_AdamFoxInIdeal
    ∧ algebraic_AdamFoxInIdeal_AdamFoxInRefIdeal (hAdamFoxInIdeal := hAdamFoxInIdeal) (hAdamFoxInRefIdeal := hAdamFoxInRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamHeadNorm_AdamHeadNormIdeal
    ∧ algebraic_AdamHeadNormIdeal_AdamHeadNormRefIdeal (hAdamHeadNormIdeal := hAdamHeadNormIdeal) (hAdamHeadNormRefIdeal := hAdamHeadNormRefIdeal)
    ∧ preserves_AdamLb_AdamLbIdeal
    ∧ algebraic_AdamLbIdeal_AdamLbRefIdeal (hAdamLbIdeal := hAdamLbIdeal) (hAdamLbRefIdeal := hAdamLbRefIdeal)
    ∧ preserves_AdamHead_AdamHeadIdeal
    ∧ algebraic_AdamHeadIdeal_AdamHeadRefIdeal (hAdamHeadIdeal := hAdamHeadIdeal) (hAdamHeadRefIdeal := hAdamHeadRefIdeal)
    ∧ preserves_AdamTap_AdamTapIdeal
    ∧ algebraic_AdamTapIdeal_AdamTapRefIdeal (hAdamTapIdeal := hAdamTapIdeal) (hAdamTapRefIdeal := hAdamTapRefIdeal)
    ∧ preserves_AdamFfnTap_AdamFfnTapIdeal
    ∧ algebraic_AdamFfnTapIdeal_AdamFfnTapRefIdeal (hAdamFfnTapIdeal := hAdamFfnTapIdeal) (hAdamFfnTapRefIdeal := hAdamFfnTapRefIdeal)
    ∧ preserves_AdamBias_AdamBiasIdeal
    ∧ algebraic_AdamBiasIdeal_AdamBiasRefIdeal (hAdamBiasIdeal := hAdamBiasIdeal) (hAdamBiasRefIdeal := hAdamBiasRefIdeal)
    ∧ preserves_NormPre_NormPreIdeal
    ∧ algebraic_NormPreIdeal_NormPreRefIdeal (hNormPreIdeal := hNormPreIdeal) (hNormPreRefIdeal := hNormPreRefIdeal)
    ∧ preserves_NormPost_NormPostIdeal
    ∧ algebraic_NormPostIdeal_NormPostRefIdeal (hNormPostIdeal := hNormPostIdeal) (hNormPostRefIdeal := hNormPostRefIdeal)
    ∧ preserves_Norm_NormIdeal
    ∧ algebraic_NormIdeal_NormRefIdeal (hNormIdeal := hNormIdeal) (hNormRefIdeal := hNormRefIdeal)
    ∧ preserves_ResidNorm_ResidNormIdeal
    ∧ algebraic_ResidNormIdeal_ResidNormRefIdeal (hResidNormIdeal := hResidNormIdeal) (hResidNormRefIdeal := hResidNormRefIdeal)
    ∧ preserves_ResidLoss_ResidLossIdeal
    ∧ algebraic_ResidLossIdeal_ResidLossRefIdeal (hResidLossIdeal := hResidLossIdeal) (hResidLossRefIdeal := hResidLossRefIdeal)
    ∧ preserves_ScFwd_ScFwdIdeal
    ∧ algebraic_ScFwdIdeal_ScFwdRefIdeal (hScFwdIdeal := hScFwdIdeal) (hScFwdRefIdeal := hScFwdRefIdeal)
    ∧ preserves_FfnAct_FfnActIdeal
    ∧ algebraic_FfnActIdeal_FfnActRefIdeal (hFfnActIdeal := hFfnActIdeal) (hFfnActRefIdeal := hFfnActRefIdeal)
    ∧ preserves_FfnConvDz_FfnConvDzIdeal
    ∧ algebraic_FfnConvDzIdeal_FfnConvDzRefIdeal (hFfnConvDzIdeal := hFfnConvDzIdeal) (hFfnConvDzRefIdeal := hFfnConvDzRefIdeal)
    ∧ preserves_FoxCum_FoxCumIdeal
    ∧ algebraic_FoxCumIdeal_FoxCumRefIdeal (hFoxCumIdeal := hFoxCumIdeal) (hFoxCumRefIdeal := hFoxCumRefIdeal)
    ∧ preserves_FoxCumBwd_FoxCumBwdIdeal
    ∧ algebraic_FoxCumBwdIdeal_FoxCumBwdRefIdeal (hFoxCumBwdIdeal := hFoxCumBwdIdeal) (hFoxCumBwdRefIdeal := hFoxCumBwdRefIdeal)
    ∧ preserves_Lb_LbIdeal
    ∧ algebraic_LbIdeal_LbRefIdeal (hLbIdeal := hLbIdeal) (hLbRefIdeal := hLbRefIdeal)
    ∧ preserves_LbBwd_LbBwdIdeal
    ∧ algebraic_LbBwdIdeal_LbBwdRefIdeal (hLbBwdIdeal := hLbBwdIdeal) (hLbBwdRefIdeal := hLbBwdRefIdeal)
-- ==== Kernel.lean ====
abbrev S4096x6144 : Shape := ⟨2, ![4096, 6144]⟩
abbrev S3x2048 : Shape := ⟨2, ![3, 2048]⟩
abbrev S4096x2048 : Shape := ⟨2, ![4096, 2048]⟩
abbrev S8x2048 : Shape := ⟨2, ![8, 2048]⟩
abbrev S128x6144 : Shape := ⟨2, ![128, 6144]⟩
abbrev S16x6144 : Shape := ⟨2, ![16, 6144]⟩
abbrev S128x2048 : Shape := ⟨2, ![128, 2048]⟩
abbrev S16x2048 : Shape := ⟨2, ![16, 2048]⟩
abbrev S128x512 : Shape := ⟨2, ![128, 512]⟩
abbrev S16x512 : Shape := ⟨2, ![16, 512]⟩
abbrev S1x512 : Shape := ⟨2, ![1, 512]⟩
abbrev S512 : Shape := ⟨1, ![512]⟩

abbrev nBuf : Space → Nat
  | .hbm => 5
  | .vmem => 14
  | .smem => 0
  | _ => 0

abbrev bufTy : (tb : Table) → Fin (tcTables nBuf tb) → BufTy
  | .hbm, ⟨0, _⟩ => ⟨S4096x6144, .bf16⟩
  | .hbm, ⟨1, _⟩ => ⟨S3x2048, .f32⟩
  | .hbm, ⟨2, _⟩ => ⟨S4096x2048, .bf16⟩
  | .hbm, ⟨3, _⟩ => ⟨S4096x6144, .bf16⟩
  | .hbm, ⟨4, _⟩ => ⟨S8x2048, .f32⟩
  | .local _ .vmem, ⟨0, _⟩ => ⟨S128x6144, .bf16⟩
  | .local _ .vmem, ⟨1, _⟩ => ⟨S128x6144, .bf16⟩
  | .local _ .vmem, ⟨2, _⟩ => ⟨S16x6144, .bf16⟩
  | .local _ .vmem, ⟨3, _⟩ => ⟨S16x6144, .bf16⟩
  | .local _ .vmem, ⟨4, _⟩ => ⟨S16x6144, .bf16⟩
  | .local _ .vmem, ⟨5, _⟩ => ⟨S16x6144, .bf16⟩
  | .local _ .vmem, ⟨6, _⟩ => ⟨S128x2048, .bf16⟩
  | .local _ .vmem, ⟨7, _⟩ => ⟨S128x2048, .bf16⟩
  | .local _ .vmem, ⟨8, _⟩ => ⟨S16x2048, .bf16⟩
  | .local _ .vmem, ⟨9, _⟩ => ⟨S16x2048, .bf16⟩
  | .local _ .vmem, ⟨10, _⟩ => ⟨S3x2048, .f32⟩
  | .local _ .vmem, ⟨11, _⟩ => ⟨S128x6144, .bf16⟩
  | .local _ .vmem, ⟨12, _⟩ => ⟨S128x6144, .bf16⟩
  | .local _ .vmem, ⟨13, _⟩ => ⟨S8x2048, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x6144 : Shape := ⟨2, ![4096, 6144]⟩
abbrev S3x2048 : Shape := ⟨2, ![3, 2048]⟩
abbrev S4096x2048 : Shape := ⟨2, ![4096, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩
abbrev S5x2048 : Shape := ⟨2, ![5, 2048]⟩
abbrev S8x2048 : Shape := ⟨2, ![8, 2048]⟩

abbrev nBuf : Space → Nat
  | .hbm => 93
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S3x2048, .f32⟩
  | .hbm, ⟨2, _⟩ => ⟨S4096x2048, .bf16⟩
  | .hbm, ⟨3, _⟩ => ⟨S4096x6144, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S2x2048, .f32⟩
  | .hbm, ⟨10, _⟩ => ⟨S4098x2048, .f32⟩
  | .hbm, ⟨11, _⟩ => ⟨S_, .f32⟩
  | .hbm, ⟨12, _⟩ => ⟨S2x2048, .f32⟩
  | .hbm, ⟨13, _⟩ => ⟨S4096x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .bf16⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S_, .f32⟩
  | .hbm, ⟨51, _⟩ => ⟨S3x2048, .f32⟩
  | .hbm, ⟨52, _⟩ => ⟨S_, .f32⟩
  | .hbm, ⟨53, _⟩ => ⟨S4098x2048, .f32⟩
  | .hbm, ⟨54, _⟩ => ⟨S4096x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S4096x2048, .f32⟩
  | .hbm, ⟨59, _⟩ => ⟨S4096x2048, .f32⟩
  | .hbm, ⟨60, _⟩ => ⟨S_, .f32⟩
  | .hbm, ⟨61, _⟩ => ⟨S2048, .f32⟩
  | .hbm, ⟨62, _⟩ => ⟨S1x2048, .f32⟩
  | .hbm, ⟨63, _⟩ => ⟨S_, .f32⟩
  | .hbm, ⟨64, _⟩ => ⟨S3x2048, .f32⟩
  | .hbm, ⟨65, _⟩ => ⟨S3x2048, .f32⟩
  | .hbm, ⟨66, _⟩ => ⟨S_, .f32⟩
  | .hbm, ⟨67, _⟩ => ⟨S4098x2048, .f32⟩
  | .hbm, ⟨68, _⟩ => ⟨S4098x2048, .f32⟩
  | .hbm, ⟨69, _⟩ => ⟨S4096x2048, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S_, .f32⟩
  | .hbm, ⟨79, _⟩ => ⟨S3x2048, .f32⟩
  | .hbm, ⟨80, _⟩ => ⟨S3x2048, .f32⟩
  | .hbm, ⟨81, _⟩ => ⟨S_, .f32⟩
  | .hbm, ⟨82, _⟩ => ⟨S4098x2048, .f32⟩
  | .hbm, ⟨83, _⟩ => ⟨S4098x2048, .f32⟩
  | .hbm, ⟨84, _⟩ => ⟨S2x2048, .f32⟩
  | .hbm, ⟨85, _⟩ => ⟨S4096x2048, .f32⟩
  | .hbm, ⟨86, _⟩ => ⟨S4096x2048, .f32⟩
  | .hbm, ⟨87, _⟩ => ⟨S4096x2048, .f32⟩
  | .hbm, ⟨88, _⟩ => ⟨S4096x6144, .f32⟩
  | .hbm, ⟨89, _⟩ => ⟨S4096x6144, .bf16⟩
  | .hbm, ⟨90, _⟩ => ⟨S_, .f32⟩
  | .hbm, ⟨91, _⟩ => ⟨S5x2048, .f32⟩
  | .hbm, ⟨92, _⟩ => ⟨S8x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_14 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]
-- ==== Up.lean ====
abbrev S4096x2048 : Shape := ⟨2, ![4096, 2048]⟩
abbrev S2048x11264 : Shape := ⟨2, ![2048, 11264]⟩
abbrev S4096x11264 : Shape := ⟨2, ![4096, 11264]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpIdeal.lean ====
abbrev S4096x2048 : Shape := ⟨2, ![4096, 2048]⟩
abbrev S2048x11264 : Shape := ⟨2, ![2048, 11264]⟩
abbrev S4096x11264 : Shape := ⟨2, ![4096, 11264]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpDh.lean ====
abbrev S4096x2048 : Shape := ⟨2, ![4096, 2048]⟩
abbrev S2048x11264 : Shape := ⟨2, ![2048, 11264]⟩
abbrev S4096x11264 : Shape := ⟨2, ![4096, 11264]⟩
abbrev S512x11264 : Shape := ⟨2, ![512, 11264]⟩
abbrev S256x11264 : Shape := ⟨2, ![256, 11264]⟩
abbrev S512x256 : Shape := ⟨2, ![512, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .bf16⟩
  | .hbm, ⟨3, _⟩ => ⟨S4096x2048, .bf16⟩
  | .local _ .vmem, ⟨0, _⟩ => ⟨S512x11264, .bf16⟩
  | .local _ .vmem, ⟨1, _⟩ => ⟨S512x11264, .bf16⟩
  | .local _ .vmem, ⟨2, _⟩ => ⟨S256x11264, .bf16⟩
  | .local _ .vmem, ⟨3, _⟩ => ⟨S256x11264, .bf16⟩
  | .local _ .vmem, ⟨4, _⟩ => ⟨S512x256, .bf16⟩
  | .local _ .vmem, ⟨5, _⟩ => ⟨S512x256, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDhIdeal.lean ====
abbrev S4096x2048 : Shape := ⟨2, ![4096, 2048]⟩
abbrev S2048x11264 : Shape := ⟨2, ![2048, 11264]⟩
abbrev S4096x11264 : Shape := ⟨2, ![4096, 11264]⟩
abbrev S512x11264 : Shape := ⟨2, ![512, 11264]⟩
abbrev S256x11264 : Shape := ⟨2, ![256, 11264]⟩
abbrev S512x256 : Shape := ⟨2, ![512, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .bf16⟩
  | .hbm, ⟨3, _⟩ => ⟨S4096x2048, .bf16⟩
  | .local _ .vmem, ⟨0, _⟩ => ⟨S512x11264, .bf16⟩
  | .local _ .vmem, ⟨1, _⟩ => ⟨S512x11264, .bf16⟩
  | .local _ .vmem, ⟨2, _⟩ => ⟨S256x11264, .bf16⟩
  | .local _ .vmem, ⟨3, _⟩ => ⟨S256x11264, .bf16⟩
  | .local _ .vmem, ⟨4, _⟩ => ⟨S512x256, .bf16⟩
  | .local _ .vmem, ⟨5, _⟩ => ⟨S512x256, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDhRefIdeal.lean ====
abbrev S4096x2048 : Shape := ⟨2, ![4096, 2048]⟩
abbrev S2048x11264 : Shape := ⟨2, ![2048, 11264]⟩
abbrev S4096x11264 : Shape := ⟨2, ![4096, 11264]⟩
abbrev S11264x2048 : Shape := ⟨2, ![11264, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .bf16⟩
  | .hbm, ⟨3, _⟩ => ⟨S4096x2048, .f32⟩
  | .hbm, ⟨4, _⟩ => ⟨S2048x11264, .f32⟩
  | .hbm, ⟨5, _⟩ => ⟨S4096x11264, .f32⟩
  | .hbm, ⟨6, _⟩ => ⟨S4096x11264, .f32⟩
  | .hbm, ⟨7, _⟩ => ⟨S11264x2048, .f32⟩
  | .hbm, ⟨8, _⟩ => ⟨S2048x11264, .f32⟩
  | .hbm, ⟨9, _⟩ => ⟨S4096x2048, .f32⟩
  | .hbm, ⟨10, _⟩ => ⟨S2048x11264, .bf16⟩
  | .hbm, ⟨11, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpDw.lean ====
abbrev S4096x2048 : Shape := ⟨2, ![4096, 2048]⟩
abbrev S2048x11264 : Shape := ⟨2, ![2048, 11264]⟩
abbrev S4096x11264 : Shape := ⟨2, ![4096, 11264]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .bf16⟩
  | .hbm, ⟨3, _⟩ => ⟨S2048x11264, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwIdeal.lean ====
abbrev S4096x2048 : Shape := ⟨2, ![4096, 2048]⟩
abbrev S2048x11264 : Shape := ⟨2, ![2048, 11264]⟩
abbrev S4096x11264 : Shape := ⟨2, ![4096, 11264]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .bf16⟩
  | .hbm, ⟨3, _⟩ => ⟨S2048x11264, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x2048 : Shape := ⟨2, ![4096, 2048]⟩
abbrev S2048x11264 : Shape := ⟨2, ![2048, 11264]⟩
abbrev S4096x11264 : Shape := ⟨2, ![4096, 11264]⟩
abbrev S11264x2048 : Shape := ⟨2, ![11264, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .bf16⟩
  | .hbm, ⟨3, _⟩ => ⟨S4096x2048, .f32⟩
  | .hbm, ⟨4, _⟩ => ⟨S2048x11264, .f32⟩
  | .hbm, ⟨5, _⟩ => ⟨S4096x11264, .f32⟩
  | .hbm, ⟨6, _⟩ => ⟨S4096x11264, .f32⟩
  | .hbm, ⟨7, _⟩ => ⟨S11264x2048, .f32⟩
  | .hbm, ⟨8, _⟩ => ⟨S2048x11264, .f32⟩
  | .hbm, ⟨9, _⟩ => ⟨S4096x2048, .f32⟩
  | .hbm, ⟨10, _⟩ => ⟨S2048x11264, .bf16⟩
  | .hbm, ⟨11, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x256 : Shape := ⟨2, ![5632, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x256, .bf16⟩
  | .local _ .vmem, ⟨3, _⟩ => ⟨S5632x256, .bf16⟩
  | .local _ .vmem, ⟨4, _⟩ => ⟨S1024x256, .f32⟩
  | .local _ .vmem, ⟨5, _⟩ => ⟨S1024x256, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x256 : Shape := ⟨2, ![5632, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x256, .bf16⟩
  | .local _ .vmem, ⟨3, _⟩ => ⟨S5632x256, .bf16⟩
  | .local _ .vmem, ⟨4, _⟩ => ⟨S1024x256, .f32⟩
  | .local _ .vmem, ⟨5, _⟩ => ⟨S1024x256, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownDh.lean ====
abbrev S4096x5632 : Shape := ⟨2, ![4096, 5632]⟩
abbrev S5632x2048 : Shape := ⟨2, ![5632, 2048]⟩
abbrev S4096x2048 : Shape := ⟨2, ![4096, 2048]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .bf16⟩
  | .hbm, ⟨3, _⟩ => ⟨S4096x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDhIdeal.lean ====
abbrev S4096x5632 : Shape := ⟨2, ![4096, 5632]⟩
abbrev S5632x2048 : Shape := ⟨2, ![5632, 2048]⟩
abbrev S4096x2048 : Shape := ⟨2, ![4096, 2048]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .bf16⟩
  | .hbm, ⟨3, _⟩ => ⟨S4096x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDhRefIdeal.lean ====
abbrev S4096x5632 : Shape := ⟨2, ![4096, 5632]⟩
abbrev S5632x2048 : Shape := ⟨2, ![5632, 2048]⟩
abbrev S4096x2048 : Shape := ⟨2, ![4096, 2048]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .bf16⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4096x5632, .f32⟩
  | .hbm, ⟨10, _⟩ => ⟨S5632x2048, .bf16⟩
  | .hbm, ⟨11, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DownDw.lean ====
abbrev S4096x5632 : Shape := ⟨2, ![4096, 5632]⟩
abbrev S5632x2048 : Shape := ⟨2, ![5632, 2048]⟩
abbrev S4096x2048 : Shape := ⟨2, ![4096, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .bf16⟩
  | .hbm, ⟨3, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S4096x5632 : Shape := ⟨2, ![4096, 5632]⟩
abbrev S5632x2048 : Shape := ⟨2, ![5632, 2048]⟩
abbrev S4096x2048 : Shape := ⟨2, ![4096, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .bf16⟩
  | .hbm, ⟨3, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x5632 : Shape := ⟨2, ![4096, 5632]⟩
abbrev S5632x2048 : Shape := ⟨2, ![5632, 2048]⟩
abbrev S4096x2048 : Shape := ⟨2, ![4096, 2048]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .bf16⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4096x5632, .f32⟩
  | .hbm, ⟨10, _⟩ => ⟨S5632x2048, .bf16⟩
  | .hbm, ⟨11, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutIdeal.lean ====
abbrev S4096x2048 : Shape := ⟨2, ![4096, 2048]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutDh.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDhIdeal.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDhRefIdeal.lean ====
abbrev S4096x2048 : Shape := ⟨2, ![4096, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S2048x2048, .bf16⟩
  | .hbm, ⟨11, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwIdeal.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S2048x2048, .bf16⟩
  | .hbm, ⟨11, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Hgrn.lean ====
abbrev S4096x2048 : Shape := ⟨2, ![4096, 2048]⟩
abbrev S2048x8192 : Shape := ⟨2, ![2048, 8192]⟩
abbrev S4096x8192 : Shape := ⟨2, ![4096, 8192]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnIdeal.lean ====
abbrev S4096x2048 : Shape := ⟨2, ![4096, 2048]⟩
abbrev S2048x8192 : Shape := ⟨2, ![2048, 8192]⟩
abbrev S4096x8192 : Shape := ⟨2, ![4096, 8192]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnRefIdeal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== HgrnDh.lean ====
abbrev S4096x2048 : Shape := ⟨2, ![4096, 2048]⟩
abbrev S2048x8192 : Shape := ⟨2, ![2048, 8192]⟩
abbrev S4096x8192 : Shape := ⟨2, ![4096, 8192]⟩
abbrev S512x8192 : Shape := ⟨2, ![512, 8192]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x2048, .bf16⟩
  | .local _ .vmem, ⟨0, _⟩ => ⟨S512x8192, .bf16⟩
  | .local _ .vmem, ⟨1, _⟩ => ⟨S512x8192, .bf16⟩
  | .local _ .vmem, ⟨2, _⟩ => ⟨S512x8192, .bf16⟩
  | .local _ .vmem, ⟨3, _⟩ => ⟨S512x8192, .bf16⟩
  | .local _ .vmem, ⟨4, _⟩ => ⟨S512x512, .bf16⟩
  | .local _ .vmem, ⟨5, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnDhIdeal.lean ====
abbrev S4096x2048 : Shape := ⟨2, ![4096, 2048]⟩
abbrev S2048x8192 : Shape := ⟨2, ![2048, 8192]⟩
abbrev S4096x8192 : Shape := ⟨2, ![4096, 8192]⟩
abbrev S512x8192 : Shape := ⟨2, ![512, 8192]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x2048, .bf16⟩
  | .local _ .vmem, ⟨0, _⟩ => ⟨S512x8192, .bf16⟩
  | .local _ .vmem, ⟨1, _⟩ => ⟨S512x8192, .bf16⟩
  | .local _ .vmem, ⟨2, _⟩ => ⟨S512x8192, .bf16⟩
  | .local _ .vmem, ⟨3, _⟩ => ⟨S512x8192, .bf16⟩
  | .local _ .vmem, ⟨4, _⟩ => ⟨S512x512, .bf16⟩
  | .local _ .vmem, ⟨5, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnDhRefIdeal.lean ====
abbrev S4096x2048 : Shape := ⟨2, ![4096, 2048]⟩
abbrev S2048x8192 : Shape := ⟨2, ![2048, 8192]⟩
abbrev S4096x8192 : Shape := ⟨2, ![4096, 8192]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S4096x2048, .f32⟩
  | .hbm, ⟨10, _⟩ => ⟨S2048x8192, .bf16⟩
  | .hbm, ⟨11, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== HgrnDw.lean ====
abbrev S4096x2048 : Shape := ⟨2, ![4096, 2048]⟩
abbrev S2048x8192 : Shape := ⟨2, ![2048, 8192]⟩
abbrev S4096x8192 : Shape := ⟨2, ![4096, 8192]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S2048x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnDwIdeal.lean ====
abbrev S4096x2048 : Shape := ⟨2, ![4096, 2048]⟩
abbrev S2048x8192 : Shape := ⟨2, ![2048, 8192]⟩
abbrev S4096x8192 : Shape := ⟨2, ![4096, 8192]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S2048x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnDwRefIdeal.lean ====
abbrev S4096x2048 : Shape := ⟨2, ![4096, 2048]⟩
abbrev S2048x8192 : Shape := ⟨2, ![2048, 8192]⟩
abbrev S4096x8192 : Shape := ⟨2, ![4096, 8192]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S4096x2048, .f32⟩
  | .hbm, ⟨10, _⟩ => ⟨S2048x8192, .bf16⟩
  | .hbm, ⟨11, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Swa.lean ====
abbrev S4096x2048 : Shape := ⟨2, ![4096, 2048]⟩
abbrev S2048x2560 : Shape := ⟨2, ![2048, 2560]⟩
abbrev S4096x2560 : Shape := ⟨2, ![4096, 2560]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2560, .bf16⟩
  | .hbm, ⟨2, _⟩ => ⟨S4096x2560, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaIdeal.lean ====
abbrev S4096x2048 : Shape := ⟨2, ![4096, 2048]⟩
abbrev S2048x2560 : Shape := ⟨2, ![2048, 2560]⟩
abbrev S4096x2560 : Shape := ⟨2, ![4096, 2560]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2560, .bf16⟩
  | .hbm, ⟨2, _⟩ => ⟨S4096x2560, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaRefIdeal.lean ====
abbrev S4096x2048 : Shape := ⟨2, ![4096, 2048]⟩
abbrev S2048x2560 : Shape := ⟨2, ![2048, 2560]⟩
abbrev S4096x2560 : Shape := ⟨2, ![4096, 2560]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2560, .bf16⟩
  | .hbm, ⟨2, _⟩ => ⟨S4096x2048, .f32⟩
  | .hbm, ⟨3, _⟩ => ⟨S2048x2560, .f32⟩
  | .hbm, ⟨4, _⟩ => ⟨S4096x2560, .f32⟩
  | .hbm, ⟨5, _⟩ => ⟨S4096x2560, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SwaDh.lean ====
abbrev S4096x2048 : Shape := ⟨2, ![4096, 2048]⟩
abbrev S2048x2560 : Shape := ⟨2, ![2048, 2560]⟩
abbrev S4096x2560 : Shape := ⟨2, ![4096, 2560]⟩
abbrev S512x2560 : Shape := ⟨2, ![512, 2560]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2560, .bf16⟩
  | .hbm, ⟨2, _⟩ => ⟨S4096x2560, .bf16⟩
  | .hbm, ⟨3, _⟩ => ⟨S4096x2048, .bf16⟩
  | .local _ .vmem, ⟨0, _⟩ => ⟨S2048x2560, .bf16⟩
  | .local _ .vmem, ⟨1, _⟩ => ⟨S2048x2560, .bf16⟩
  | .local _ .vmem, ⟨2, _⟩ => ⟨S512x2560, .bf16⟩
  | .local _ .vmem, ⟨3, _⟩ => ⟨S512x2560, .bf16⟩
  | .local _ .vmem, ⟨4, _⟩ => ⟨S2048x512, .bf16⟩
  | .local _ .vmem, ⟨5, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaDhIdeal.lean ====
abbrev S4096x2048 : Shape := ⟨2, ![4096, 2048]⟩
abbrev S2048x2560 : Shape := ⟨2, ![2048, 2560]⟩
abbrev S4096x2560 : Shape := ⟨2, ![4096, 2560]⟩
abbrev S512x2560 : Shape := ⟨2, ![512, 2560]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2560, .bf16⟩
  | .hbm, ⟨2, _⟩ => ⟨S4096x2560, .bf16⟩
  | .hbm, ⟨3, _⟩ => ⟨S4096x2048, .bf16⟩
  | .local _ .vmem, ⟨0, _⟩ => ⟨S2048x2560, .bf16⟩
  | .local _ .vmem, ⟨1, _⟩ => ⟨S2048x2560, .bf16⟩
  | .local _ .vmem, ⟨2, _⟩ => ⟨S512x2560, .bf16⟩
  | .local _ .vmem, ⟨3, _⟩ => ⟨S512x2560, .bf16⟩
  | .local _ .vmem, ⟨4, _⟩ => ⟨S2048x512, .bf16⟩
  | .local _ .vmem, ⟨5, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaDhRefIdeal.lean ====
abbrev S4096x2048 : Shape := ⟨2, ![4096, 2048]⟩
abbrev S2048x2560 : Shape := ⟨2, ![2048, 2560]⟩
abbrev S4096x2560 : Shape := ⟨2, ![4096, 2560]⟩
abbrev S2560x2048 : Shape := ⟨2, ![2560, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2560, .bf16⟩
  | .hbm, ⟨2, _⟩ => ⟨S4096x2560, .bf16⟩
  | .hbm, ⟨3, _⟩ => ⟨S4096x2048, .f32⟩
  | .hbm, ⟨4, _⟩ => ⟨S2048x2560, .f32⟩
  | .hbm, ⟨5, _⟩ => ⟨S4096x2560, .f32⟩
  | .hbm, ⟨6, _⟩ => ⟨S4096x2560, .f32⟩
  | .hbm, ⟨7, _⟩ => ⟨S2560x2048, .f32⟩
  | .hbm, ⟨8, _⟩ => ⟨S2048x2560, .f32⟩
  | .hbm, ⟨9, _⟩ => ⟨S4096x2048, .f32⟩
  | .hbm, ⟨10, _⟩ => ⟨S2048x2560, .bf16⟩
  | .hbm, ⟨11, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SwaDw.lean ====
abbrev S4096x2048 : Shape := ⟨2, ![4096, 2048]⟩
abbrev S2048x2560 : Shape := ⟨2, ![2048, 2560]⟩
abbrev S4096x2560 : Shape := ⟨2, ![4096, 2560]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2560, .bf16⟩
  | .hbm, ⟨2, _⟩ => ⟨S4096x2560, .bf16⟩
  | .hbm, ⟨3, _⟩ => ⟨S2048x2560, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaDwIdeal.lean ====
abbrev S4096x2048 : Shape := ⟨2, ![4096, 2048]⟩
abbrev S2048x2560 : Shape := ⟨2, ![2048, 2560]⟩
abbrev S4096x2560 : Shape := ⟨2, ![4096, 2560]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2560, .bf16⟩
  | .hbm, ⟨2, _⟩ => ⟨S4096x2560, .bf16⟩
  | .hbm, ⟨3, _⟩ => ⟨S2048x2560, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaDwRefIdeal.lean ====
abbrev S4096x2048 : Shape := ⟨2, ![4096, 2048]⟩
abbrev S2048x2560 : Shape := ⟨2, ![2048, 2560]⟩
abbrev S4096x2560 : Shape := ⟨2, ![4096, 2560]⟩
abbrev S2560x2048 : Shape := ⟨2, ![2560, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2560, .bf16⟩
  | .hbm, ⟨2, _⟩ => ⟨S4096x2560, .bf16⟩
  | .hbm, ⟨3, _⟩ => ⟨S4096x2048, .f32⟩
  | .hbm, ⟨4, _⟩ => ⟨S2048x2560, .f32⟩
  | .hbm, ⟨5, _⟩ => ⟨S4096x2560, .f32⟩
  | .hbm, ⟨6, _⟩ => ⟨S4096x2560, .f32⟩
  | .hbm, ⟨7, _⟩ => ⟨S2560x2048, .f32⟩
  | .hbm, ⟨8, _⟩ => ⟨S2048x2560, .f32⟩
  | .hbm, ⟨9, _⟩ => ⟨S4096x2048, .f32⟩
  | .hbm, ⟨10, _⟩ => ⟨S2048x2560, .bf16⟩
  | .hbm, ⟨11, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Sc.lean ====
abbrev S4096x2048 : Shape := ⟨2, ![4096, 2048]⟩
abbrev S2048x6144 : Shape := ⟨2, ![2048, 6144]⟩
abbrev S4096x6144 : Shape := ⟨2, ![4096, 6144]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScIdeal.lean ====
abbrev S4096x2048 : Shape := ⟨2, ![4096, 2048]⟩
abbrev S2048x6144 : Shape := ⟨2, ![2048, 6144]⟩
abbrev S4096x6144 : Shape := ⟨2, ![4096, 6144]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScRefIdeal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | .hbm, ⟨5, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ScDh.lean ====
abbrev S4096x2048 : Shape := ⟨2, ![4096, 2048]⟩
abbrev S2048x6144 : Shape := ⟨2, ![2048, 6144]⟩
abbrev S4096x6144 : Shape := ⟨2, ![4096, 6144]⟩
abbrev S1024x6144 : Shape := ⟨2, ![1024, 6144]⟩
abbrev S256x6144 : Shape := ⟨2, ![256, 6144]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .bf16⟩
  | .hbm, ⟨3, _⟩ => ⟨S4096x2048, .bf16⟩
  | .local _ .vmem, ⟨0, _⟩ => ⟨S1024x6144, .bf16⟩
  | .local _ .vmem, ⟨1, _⟩ => ⟨S1024x6144, .bf16⟩
  | .local _ .vmem, ⟨2, _⟩ => ⟨S256x6144, .bf16⟩
  | .local _ .vmem, ⟨3, _⟩ => ⟨S256x6144, .bf16⟩
  | .local _ .vmem, ⟨4, _⟩ => ⟨S1024x256, .bf16⟩
  | .local _ .vmem, ⟨5, _⟩ => ⟨S1024x256, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScDhIdeal.lean ====
abbrev S4096x2048 : Shape := ⟨2, ![4096, 2048]⟩
abbrev S2048x6144 : Shape := ⟨2, ![2048, 6144]⟩
abbrev S4096x6144 : Shape := ⟨2, ![4096, 6144]⟩
abbrev S1024x6144 : Shape := ⟨2, ![1024, 6144]⟩
abbrev S256x6144 : Shape := ⟨2, ![256, 6144]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .bf16⟩
  | .hbm, ⟨3, _⟩ => ⟨S4096x2048, .bf16⟩
  | .local _ .vmem, ⟨0, _⟩ => ⟨S1024x6144, .bf16⟩
  | .local _ .vmem, ⟨1, _⟩ => ⟨S1024x6144, .bf16⟩
  | .local _ .vmem, ⟨2, _⟩ => ⟨S256x6144, .bf16⟩
  | .local _ .vmem, ⟨3, _⟩ => ⟨S256x6144, .bf16⟩
  | .local _ .vmem, ⟨4, _⟩ => ⟨S1024x256, .bf16⟩
  | .local _ .vmem, ⟨5, _⟩ => ⟨S1024x256, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScDhRefIdeal.lean ====
abbrev S4096x2048 : Shape := ⟨2, ![4096, 2048]⟩
abbrev S2048x6144 : Shape := ⟨2, ![2048, 6144]⟩
abbrev S4096x6144 : Shape := ⟨2, ![4096, 6144]⟩
abbrev S6144x2048 : Shape := ⟨2, ![6144, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .bf16⟩
  | .hbm, ⟨3, _⟩ => ⟨S4096x2048, .f32⟩
  | .hbm, ⟨4, _⟩ => ⟨S2048x6144, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S4096x2048, .f32⟩
  | .hbm, ⟨10, _⟩ => ⟨S2048x6144, .bf16⟩
  | .hbm, ⟨11, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ScDw.lean ====
abbrev S4096x2048 : Shape := ⟨2, ![4096, 2048]⟩
abbrev S2048x6144 : Shape := ⟨2, ![2048, 6144]⟩
abbrev S4096x6144 : Shape := ⟨2, ![4096, 6144]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .bf16⟩
  | .hbm, ⟨3, _⟩ => ⟨S2048x6144, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScDwIdeal.lean ====
abbrev S4096x2048 : Shape := ⟨2, ![4096, 2048]⟩
abbrev S2048x6144 : Shape := ⟨2, ![2048, 6144]⟩
abbrev S4096x6144 : Shape := ⟨2, ![4096, 6144]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .bf16⟩
  | .hbm, ⟨3, _⟩ => ⟨S2048x6144, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScDwRefIdeal.lean ====
abbrev S4096x2048 : Shape := ⟨2, ![4096, 2048]⟩
abbrev S2048x6144 : Shape := ⟨2, ![2048, 6144]⟩
abbrev S4096x6144 : Shape := ⟨2, ![4096, 6144]⟩
abbrev S6144x2048 : Shape := ⟨2, ![6144, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .bf16⟩
  | .hbm, ⟨3, _⟩ => ⟨S4096x2048, .f32⟩
  | .hbm, ⟨4, _⟩ => ⟨S2048x6144, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S4096x2048, .f32⟩
  | .hbm, ⟨10, _⟩ => ⟨S2048x6144, .bf16⟩
  | .hbm, ⟨11, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Fox.lean ====
abbrev S4096x2048 : Shape := ⟨2, ![4096, 2048]⟩
abbrev S2048x8704 : Shape := ⟨2, ![2048, 8704]⟩
abbrev S4096x8704 : Shape := ⟨2, ![4096, 8704]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8704, .bf16⟩
  | .hbm, ⟨2, _⟩ => ⟨S4096x8704, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxIdeal.lean ====
abbrev S4096x2048 : Shape := ⟨2, ![4096, 2048]⟩
abbrev S2048x8704 : Shape := ⟨2, ![2048, 8704]⟩
abbrev S4096x8704 : Shape := ⟨2, ![4096, 8704]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8704, .bf16⟩
  | .hbm, ⟨2, _⟩ => ⟨S4096x8704, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxRefIdeal.lean ====
abbrev S4096x2048 : Shape := ⟨2, ![4096, 2048]⟩
abbrev S2048x8704 : Shape := ⟨2, ![2048, 8704]⟩
abbrev S4096x8704 : Shape := ⟨2, ![4096, 8704]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8704, .bf16⟩
  | .hbm, ⟨2, _⟩ => ⟨S4096x2048, .f32⟩
  | .hbm, ⟨3, _⟩ => ⟨S2048x8704, .f32⟩
  | .hbm, ⟨4, _⟩ => ⟨S4096x8704, .f32⟩
  | .hbm, ⟨5, _⟩ => ⟨S4096x8704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FoxDh.lean ====
abbrev S4096x2048 : Shape := ⟨2, ![4096, 2048]⟩
abbrev S2048x8704 : Shape := ⟨2, ![2048, 8704]⟩
abbrev S4096x8704 : Shape := ⟨2, ![4096, 8704]⟩
abbrev S512x8704 : Shape := ⟨2, ![512, 8704]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8704, .bf16⟩
  | .hbm, ⟨2, _⟩ => ⟨S4096x8704, .bf16⟩
  | .hbm, ⟨3, _⟩ => ⟨S4096x2048, .bf16⟩
  | .local _ .vmem, ⟨0, _⟩ => ⟨S512x8704, .bf16⟩
  | .local _ .vmem, ⟨1, _⟩ => ⟨S512x8704, .bf16⟩
  | .local _ .vmem, ⟨2, _⟩ => ⟨S512x8704, .bf16⟩
  | .local _ .vmem, ⟨3, _⟩ => ⟨S512x8704, .bf16⟩
  | .local _ .vmem, ⟨4, _⟩ => ⟨S512x512, .bf16⟩
  | .local _ .vmem, ⟨5, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x8704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x8704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxDhIdeal.lean ====
abbrev S4096x2048 : Shape := ⟨2, ![4096, 2048]⟩
abbrev S2048x8704 : Shape := ⟨2, ![2048, 8704]⟩
abbrev S4096x8704 : Shape := ⟨2, ![4096, 8704]⟩
abbrev S512x8704 : Shape := ⟨2, ![512, 8704]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8704, .bf16⟩
  | .hbm, ⟨2, _⟩ => ⟨S4096x8704, .bf16⟩
  | .hbm, ⟨3, _⟩ => ⟨S4096x2048, .bf16⟩
  | .local _ .vmem, ⟨0, _⟩ => ⟨S512x8704, .bf16⟩
  | .local _ .vmem, ⟨1, _⟩ => ⟨S512x8704, .bf16⟩
  | .local _ .vmem, ⟨2, _⟩ => ⟨S512x8704, .bf16⟩
  | .local _ .vmem, ⟨3, _⟩ => ⟨S512x8704, .bf16⟩
  | .local _ .vmem, ⟨4, _⟩ => ⟨S512x512, .bf16⟩
  | .local _ .vmem, ⟨5, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x8704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x8704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxDhRefIdeal.lean ====
abbrev S4096x2048 : Shape := ⟨2, ![4096, 2048]⟩
abbrev S2048x8704 : Shape := ⟨2, ![2048, 8704]⟩
abbrev S4096x8704 : Shape := ⟨2, ![4096, 8704]⟩
abbrev S8704x2048 : Shape := ⟨2, ![8704, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8704, .bf16⟩
  | .hbm, ⟨2, _⟩ => ⟨S4096x8704, .bf16⟩
  | .hbm, ⟨3, _⟩ => ⟨S4096x2048, .f32⟩
  | .hbm, ⟨4, _⟩ => ⟨S2048x8704, .f32⟩
  | .hbm, ⟨5, _⟩ => ⟨S4096x8704, .f32⟩
  | .hbm, ⟨6, _⟩ => ⟨S4096x8704, .f32⟩
  | .hbm, ⟨7, _⟩ => ⟨S8704x2048, .f32⟩
  | .hbm, ⟨8, _⟩ => ⟨S2048x8704, .f32⟩
  | .hbm, ⟨9, _⟩ => ⟨S4096x2048, .f32⟩
  | .hbm, ⟨10, _⟩ => ⟨S2048x8704, .bf16⟩
  | .hbm, ⟨11, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FoxDw.lean ====
abbrev S4096x2048 : Shape := ⟨2, ![4096, 2048]⟩
abbrev S2048x8704 : Shape := ⟨2, ![2048, 8704]⟩
abbrev S4096x8704 : Shape := ⟨2, ![4096, 8704]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8704, .bf16⟩
  | .hbm, ⟨2, _⟩ => ⟨S4096x8704, .bf16⟩
  | .hbm, ⟨3, _⟩ => ⟨S2048x8704, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxDwIdeal.lean ====
abbrev S4096x2048 : Shape := ⟨2, ![4096, 2048]⟩
abbrev S2048x8704 : Shape := ⟨2, ![2048, 8704]⟩
abbrev S4096x8704 : Shape := ⟨2, ![4096, 8704]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8704, .bf16⟩
  | .hbm, ⟨2, _⟩ => ⟨S4096x8704, .bf16⟩
  | .hbm, ⟨3, _⟩ => ⟨S2048x8704, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxDwRefIdeal.lean ====
abbrev S4096x2048 : Shape := ⟨2, ![4096, 2048]⟩
abbrev S2048x8704 : Shape := ⟨2, ![2048, 8704]⟩
abbrev S4096x8704 : Shape := ⟨2, ![4096, 8704]⟩
abbrev S8704x2048 : Shape := ⟨2, ![8704, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8704, .bf16⟩
  | .hbm, ⟨2, _⟩ => ⟨S4096x8704, .bf16⟩
  | .hbm, ⟨3, _⟩ => ⟨S4096x2048, .f32⟩
  | .hbm, ⟨4, _⟩ => ⟨S2048x8704, .f32⟩
  | .hbm, ⟨5, _⟩ => ⟨S4096x8704, .f32⟩
  | .hbm, ⟨6, _⟩ => ⟨S4096x8704, .f32⟩
  | .hbm, ⟨7, _⟩ => ⟨S8704x2048, .f32⟩
  | .hbm, ⟨8, _⟩ => ⟨S2048x8704, .f32⟩
  | .hbm, ⟨9, _⟩ => ⟨S4096x2048, .f32⟩
  | .hbm, ⟨10, _⟩ => ⟨S2048x8704, .bf16⟩
  | .hbm, ⟨11, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AdamHgrnIn.lean ====
abbrev S2048x2048 : Shape := ⟨2, ![2048, 2048]⟩
abbrev S8x128 : Shape := ⟨2, ![8, 128]⟩
abbrev S128x2048 : Shape := ⟨2, ![128, 2048]⟩

abbrev nBuf : Space → Nat
  | .hbm => 8
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S8x128, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamHgrnInIdeal.lean ====
abbrev S2048x2048 : Shape := ⟨2, ![2048, 2048]⟩
abbrev S8x128 : Shape := ⟨2, ![8, 128]⟩
abbrev S128x2048 : Shape := ⟨2, ![128, 2048]⟩

abbrev nBuf : Space → Nat
  | .hbm => 8
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S8x128, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamHgrnInRefIdeal.lean ====
abbrev S2048x2048 : Shape := ⟨2, ![2048, 2048]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S8x128, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamSwaIn.lean ====
abbrev S2048x640 : Shape := ⟨2, ![2048, 640]⟩
abbrev S8x128 : Shape := ⟨2, ![8, 128]⟩
abbrev S256x640 : Shape := ⟨2, ![256, 640]⟩

abbrev nBuf : Space → Nat
  | .hbm => 8
  | .vmem => 14
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S8x128, .f32⟩
  | .hbm, ⟨5, _⟩ => ⟨S2048x640, .f32⟩
  | .hbm, ⟨6, _⟩ => ⟨S2048x640, .f32⟩
  | .hbm, ⟨7, _⟩ => ⟨S2048x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | _, _ => ⟨S2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSwaInIdeal.lean ====
abbrev S2048x640 : Shape := ⟨2, ![2048, 640]⟩
abbrev S8x128 : Shape := ⟨2, ![8, 128]⟩
abbrev S256x640 : Shape := ⟨2, ![256, 640]⟩

abbrev nBuf : Space → Nat
  | .hbm => 8
  | .vmem => 14
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S8x128, .f32⟩
  | .hbm, ⟨5, _⟩ => ⟨S2048x640, .f32⟩
  | .hbm, ⟨6, _⟩ => ⟨S2048x640, .f32⟩
  | .hbm, ⟨7, _⟩ => ⟨S2048x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | _, _ => ⟨S2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSwaInRefIdeal.lean ====
abbrev S2048x640 : Shape := ⟨2, ![2048, 640]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S8x128, .f32⟩
  | .hbm, ⟨5, _⟩ => ⟨S_, .f32⟩
  | .hbm, ⟨6, _⟩ => ⟨S2048x640, .f32⟩
  | .hbm, ⟨7, _⟩ => ⟨S2048x640, .f32⟩
  | .hbm, ⟨8, _⟩ => ⟨S_, .f32⟩
  | .hbm, ⟨9, _⟩ => ⟨S2048x640, .f32⟩
  | .hbm, ⟨10, _⟩ => ⟨S2048x640, .f32⟩
  | .hbm, ⟨11, _⟩ => ⟨S2048x640, .f32⟩
  | .hbm, ⟨12, _⟩ => ⟨S_, .f32⟩
  | .hbm, ⟨13, _⟩ => ⟨S2048x640, .f32⟩
  | .hbm, ⟨14, _⟩ => ⟨S2048x640, .f32⟩
  | .hbm, ⟨15, _⟩ => ⟨S2048x640, .f32⟩
  | .hbm, ⟨16, _⟩ => ⟨S_, .f32⟩
  | .hbm, ⟨17, _⟩ => ⟨S2048x640, .f32⟩
  | .hbm, ⟨18, _⟩ => ⟨S2048x640, .f32⟩
  | .hbm, ⟨19, _⟩ => ⟨S2048x640, .f32⟩
  | .hbm, ⟨20, _⟩ => ⟨S_, .f32⟩
  | .hbm, ⟨21, _⟩ => ⟨S2048x640, .f32⟩
  | .hbm, ⟨22, _⟩ => ⟨S2048x640, .f32⟩
  | .hbm, ⟨23, _⟩ => ⟨S_, .f32⟩
  | .hbm, ⟨24, _⟩ => ⟨S2048x640, .f32⟩
  | .hbm, ⟨25, _⟩ => ⟨S2048x640, .f32⟩
  | .hbm, ⟨26, _⟩ => ⟨S2048x640, .f32⟩
  | .hbm, ⟨27, _⟩ => ⟨S_, .f32⟩
  | .hbm, ⟨28, _⟩ => ⟨S2048x640, .f32⟩
  | .hbm, ⟨29, _⟩ => ⟨S2048x640, .f32⟩
  | .hbm, ⟨30, _⟩ => ⟨S2048x640, .f32⟩
  | .hbm, ⟨31, _⟩ => ⟨S_, .f32⟩
  | .hbm, ⟨32, _⟩ => ⟨S2048x640, .f32⟩
  | .hbm, ⟨33, _⟩ => ⟨S2048x640, .f32⟩
  | .hbm, ⟨34, _⟩ => ⟨S2048x640, .f32⟩
  | .hbm, ⟨35, _⟩ => ⟨S_, .f32⟩
  | .hbm, ⟨36, _⟩ => ⟨S2048x640, .f32⟩
  | .hbm, ⟨37, _⟩ => ⟨S2048x640, .f32⟩
  | _, _ => ⟨S2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamScIn.lean ====
abbrev S2048x1536 : Shape := ⟨2, ![2048, 1536]⟩
abbrev S8x128 : Shape := ⟨2, ![8, 128]⟩
abbrev S128x1536 : Shape := ⟨2, ![128, 1536]⟩

abbrev nBuf : Space → Nat
  | .hbm => 8
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S8x128, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamScInIdeal.lean ====
abbrev S2048x1536 : Shape := ⟨2, ![2048, 1536]⟩
abbrev S8x128 : Shape := ⟨2, ![8, 128]⟩
abbrev S128x1536 : Shape := ⟨2, ![128, 1536]⟩

abbrev nBuf : Space → Nat
  | .hbm => 8
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S8x128, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamScInRefIdeal.lean ====
abbrev S2048x1536 : Shape := ⟨2, ![2048, 1536]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S8x128, .f32⟩
  | .hbm, ⟨5, _⟩ => ⟨S_, .f32⟩
  | .hbm, ⟨6, _⟩ => ⟨S2048x1536, .f32⟩
  | .hbm, ⟨7, _⟩ => ⟨S2048x1536, .f32⟩
  | .hbm, ⟨8, _⟩ => ⟨S_, .f32⟩
  | .hbm, ⟨9, _⟩ => ⟨S2048x1536, .f32⟩
  | .hbm, ⟨10, _⟩ => ⟨S2048x1536, .f32⟩
  | .hbm, ⟨11, _⟩ => ⟨S2048x1536, .f32⟩
  | .hbm, ⟨12, _⟩ => ⟨S_, .f32⟩
  | .hbm, ⟨13, _⟩ => ⟨S2048x1536, .f32⟩
  | .hbm, ⟨14, _⟩ => ⟨S2048x1536, .f32⟩
  | .hbm, ⟨15, _⟩ => ⟨S2048x1536, .f32⟩
  | .hbm, ⟨16, _⟩ => ⟨S_, .f32⟩
  | .hbm, ⟨17, _⟩ => ⟨S2048x1536, .f32⟩
  | .hbm, ⟨18, _⟩ => ⟨S2048x1536, .f32⟩
  | .hbm, ⟨19, _⟩ => ⟨S2048x1536, .f32⟩
  | .hbm, ⟨20, _⟩ => ⟨S_, .f32⟩
  | .hbm, ⟨21, _⟩ => ⟨S2048x1536, .f32⟩
  | .hbm, ⟨22, _⟩ => ⟨S2048x1536, .f32⟩
  | .hbm, ⟨23, _⟩ => ⟨S_, .f32⟩
  | .hbm, ⟨24, _⟩ => ⟨S2048x1536, .f32⟩
  | .hbm, ⟨25, _⟩ => ⟨S2048x1536, .f32⟩
  | .hbm, ⟨26, _⟩ => ⟨S2048x1536, .f32⟩
  | .hbm, ⟨27, _⟩ => ⟨S_, .f32⟩
  | .hbm, ⟨28, _⟩ => ⟨S2048x1536, .f32⟩
  | .hbm, ⟨29, _⟩ => ⟨S2048x1536, .f32⟩
  | .hbm, ⟨30, _⟩ => ⟨S2048x1536, .f32⟩
  | .hbm, ⟨31, _⟩ => ⟨S_, .f32⟩
  | .hbm, ⟨32, _⟩ => ⟨S2048x1536, .f32⟩
  | .hbm, ⟨33, _⟩ => ⟨S2048x1536, .f32⟩
  | .hbm, ⟨34, _⟩ => ⟨S2048x1536, .f32⟩
  | .hbm, ⟨35, _⟩ => ⟨S_, .f32⟩
  | .hbm, ⟨36, _⟩ => ⟨S2048x1536, .f32⟩
  | .hbm, ⟨37, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamFoxIn.lean ====
abbrev S2048x2056 : Shape := ⟨2, ![2048, 2056]⟩
abbrev S8x128 : Shape := ⟨2, ![8, 128]⟩
abbrev S64x2056 : Shape := ⟨2, ![64, 2056]⟩

abbrev nBuf : Space → Nat
  | .hbm => 8
  | .vmem => 14
  | .smem => 0
  | _ => 0

abbrev bufTy : (tb : Table) → Fin (tcTables nBuf tb) → BufTy
  | .hbm, ⟨0, _⟩ => ⟨S2048x2056, .f32⟩
  | .hbm, ⟨1, _⟩ => ⟨S2048x2056, .f32⟩
  | .hbm, ⟨2, _⟩ => ⟨S2048x2056, .f32⟩
  | .hbm, ⟨3, _⟩ => ⟨S2048x2056, .f32⟩
  | .hbm, ⟨4, _⟩ => ⟨S8x128, .f32⟩
  | .hbm, ⟨5, _⟩ => ⟨S2048x2056, .f32⟩
  | .hbm, ⟨6, _⟩ => ⟨S2048x2056, .f32⟩
  | .hbm, ⟨7, _⟩ => ⟨S2048x2056, .f32⟩
  | .local _ .vmem, ⟨0, _⟩ => ⟨S64x2056, .f32⟩
  | .local _ .vmem, ⟨1, _⟩ => ⟨S64x2056, .f32⟩
  | .local _ .vmem, ⟨2, _⟩ => ⟨S64x2056, .f32⟩
  | .local _ .vmem, ⟨3, _⟩ => ⟨S64x2056, .f32⟩
  | .local _ .vmem, ⟨4, _⟩ => ⟨S64x2056, .f32⟩
  | .local _ .vmem, ⟨5, _⟩ => ⟨S64x2056, .f32⟩
  | .local _ .vmem, ⟨6, _⟩ => ⟨S64x2056, .f32⟩
  | .local _ .vmem, ⟨7, _⟩ => ⟨S64x2056, .f32⟩
  | .local _ .vmem, ⟨8, _⟩ => ⟨S64x2056, .f32⟩
  | .local _ .vmem, ⟨9, _⟩ => ⟨S64x2056, .f32⟩
  | .local _ .vmem, ⟨10, _⟩ => ⟨S64x2056, .f32⟩
  | .local _ .vmem, ⟨11, _⟩ => ⟨S64x2056, .f32⟩
  | .local _ .vmem, ⟨12, _⟩ => ⟨S64x2056, .f32⟩
  | .local _ .vmem, ⟨13, _⟩ => ⟨S64x2056, .f32⟩
  | _, _ => ⟨S2048x2056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2056 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2056 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2056 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2056 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2056 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2056 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2056 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFoxInIdeal.lean ====
abbrev S2048x2056 : Shape := ⟨2, ![2048, 2056]⟩
abbrev S8x128 : Shape := ⟨2, ![8, 128]⟩
abbrev S64x2056 : Shape := ⟨2, ![64, 2056]⟩

abbrev nBuf : Space → Nat
  | .hbm => 8
  | .vmem => 14
  | .smem => 0
  | _ => 0

abbrev bufTy : (tb : Table) → Fin (tcTables nBuf tb) → BufTy
  | .hbm, ⟨0, _⟩ => ⟨S2048x2056, .f32⟩
  | .hbm, ⟨1, _⟩ => ⟨S2048x2056, .f32⟩
  | .hbm, ⟨2, _⟩ => ⟨S2048x2056, .f32⟩
  | .hbm, ⟨3, _⟩ => ⟨S2048x2056, .f32⟩
  | .hbm, ⟨4, _⟩ => ⟨S8x128, .f32⟩
  | .hbm, ⟨5, _⟩ => ⟨S2048x2056, .f32⟩
  | .hbm, ⟨6, _⟩ => ⟨S2048x2056, .f32⟩
  | .hbm, ⟨7, _⟩ => ⟨S2048x2056, .f32⟩
  | .local _ .vmem, ⟨0, _⟩ => ⟨S64x2056, .f32⟩
  | .local _ .vmem, ⟨1, _⟩ => ⟨S64x2056, .f32⟩
  | .local _ .vmem, ⟨2, _⟩ => ⟨S64x2056, .f32⟩
  | .local _ .vmem, ⟨3, _⟩ => ⟨S64x2056, .f32⟩
  | .local _ .vmem, ⟨4, _⟩ => ⟨S64x2056, .f32⟩
  | .local _ .vmem, ⟨5, _⟩ => ⟨S64x2056, .f32⟩
  | .local _ .vmem, ⟨6, _⟩ => ⟨S64x2056, .f32⟩
  | .local _ .vmem, ⟨7, _⟩ => ⟨S64x2056, .f32⟩
  | .local _ .vmem, ⟨8, _⟩ => ⟨S64x2056, .f32⟩
  | .local _ .vmem, ⟨9, _⟩ => ⟨S64x2056, .f32⟩
  | .local _ .vmem, ⟨10, _⟩ => ⟨S64x2056, .f32⟩
  | .local _ .vmem, ⟨11, _⟩ => ⟨S64x2056, .f32⟩
  | .local _ .vmem, ⟨12, _⟩ => ⟨S64x2056, .f32⟩
  | .local _ .vmem, ⟨13, _⟩ => ⟨S64x2056, .f32⟩
  | _, _ => ⟨S2048x2056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2056 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2056 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2056 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2056 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2056 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2056 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2056 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFoxInRefIdeal.lean ====
abbrev S2048x2056 : Shape := ⟨2, ![2048, 2056]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x2056, .f32⟩
  | .hbm, ⟨1, _⟩ => ⟨S2048x2056, .f32⟩
  | .hbm, ⟨2, _⟩ => ⟨S2048x2056, .f32⟩
  | .hbm, ⟨3, _⟩ => ⟨S2048x2056, .f32⟩
  | .hbm, ⟨4, _⟩ => ⟨S8x128, .f32⟩
  | .hbm, ⟨5, _⟩ => ⟨S_, .f32⟩
  | .hbm, ⟨6, _⟩ => ⟨S2048x2056, .f32⟩
  | .hbm, ⟨7, _⟩ => ⟨S2048x2056, .f32⟩
  | .hbm, ⟨8, _⟩ => ⟨S_, .f32⟩
  | .hbm, ⟨9, _⟩ => ⟨S2048x2056, .f32⟩
  | .hbm, ⟨10, _⟩ => ⟨S2048x2056, .f32⟩
  | .hbm, ⟨11, _⟩ => ⟨S2048x2056, .f32⟩
  | .hbm, ⟨12, _⟩ => ⟨S_, .f32⟩
  | .hbm, ⟨13, _⟩ => ⟨S2048x2056, .f32⟩
  | .hbm, ⟨14, _⟩ => ⟨S2048x2056, .f32⟩
  | .hbm, ⟨15, _⟩ => ⟨S2048x2056, .f32⟩
  | .hbm, ⟨16, _⟩ => ⟨S_, .f32⟩
  | .hbm, ⟨17, _⟩ => ⟨S2048x2056, .f32⟩
  | .hbm, ⟨18, _⟩ => ⟨S2048x2056, .f32⟩
  | .hbm, ⟨19, _⟩ => ⟨S2048x2056, .f32⟩
  | .hbm, ⟨20, _⟩ => ⟨S_, .f32⟩
  | .hbm, ⟨21, _⟩ => ⟨S2048x2056, .f32⟩
  | .hbm, ⟨22, _⟩ => ⟨S2048x2056, .f32⟩
  | .hbm, ⟨23, _⟩ => ⟨S_, .f32⟩
  | .hbm, ⟨24, _⟩ => ⟨S2048x2056, .f32⟩
  | .hbm, ⟨25, _⟩ => ⟨S2048x2056, .f32⟩
  | .hbm, ⟨26, _⟩ => ⟨S2048x2056, .f32⟩
  | .hbm, ⟨27, _⟩ => ⟨S_, .f32⟩
  | .hbm, ⟨28, _⟩ => ⟨S2048x2056, .f32⟩
  | .hbm, ⟨29, _⟩ => ⟨S2048x2056, .f32⟩
  | .hbm, ⟨30, _⟩ => ⟨S2048x2056, .f32⟩
  | .hbm, ⟨31, _⟩ => ⟨S_, .f32⟩
  | .hbm, ⟨32, _⟩ => ⟨S2048x2056, .f32⟩
  | .hbm, ⟨33, _⟩ => ⟨S2048x2056, .f32⟩
  | .hbm, ⟨34, _⟩ => ⟨S2048x2056, .f32⟩
  | .hbm, ⟨35, _⟩ => ⟨S_, .f32⟩
  | .hbm, ⟨36, _⟩ => ⟨S2048x2056, .f32⟩
  | .hbm, ⟨37, _⟩ => ⟨S2048x2056, .f32⟩
  | _, _ => ⟨S2048x2056, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamUp.lean ====
abbrev S8192x2816 : Shape := ⟨2, ![8192, 2816]⟩
abbrev S8x128 : Shape := ⟨2, ![8, 128]⟩
abbrev S64x2816 : Shape := ⟨2, ![64, 2816]⟩

abbrev nBuf : Space → Nat
  | .hbm => 8
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8x128, .f32⟩
  | .hbm, ⟨5, _⟩ => ⟨S8192x2816, .f32⟩
  | .hbm, ⟨6, _⟩ => ⟨S8192x2816, .f32⟩
  | .hbm, ⟨7, _⟩ => ⟨S8192x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S8192x2816 : Shape := ⟨2, ![8192, 2816]⟩
abbrev S8x128 : Shape := ⟨2, ![8, 128]⟩
abbrev S64x2816 : Shape := ⟨2, ![64, 2816]⟩

abbrev nBuf : Space → Nat
  | .hbm => 8
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8x128, .f32⟩
  | .hbm, ⟨5, _⟩ => ⟨S8192x2816, .f32⟩
  | .hbm, ⟨6, _⟩ => ⟨S8192x2816, .f32⟩
  | .hbm, ⟨7, _⟩ => ⟨S8192x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S8192x2816 : Shape := ⟨2, ![8192, 2816]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8x128, .f32⟩
  | .hbm, ⟨5, _⟩ => ⟨S_, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamDown.lean ====
abbrev S5632x2048 : Shape := ⟨2, ![5632, 2048]⟩
abbrev S8x128 : Shape := ⟨2, ![8, 128]⟩
abbrev S128x2048 : Shape := ⟨2, ![128, 2048]⟩

abbrev nBuf : Space → Nat
  | .hbm => 8
  | .vmem => 14
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S8x128, .f32⟩
  | .hbm, ⟨5, _⟩ => ⟨S5632x2048, .f32⟩
  | .hbm, ⟨6, _⟩ => ⟨S5632x2048, .f32⟩
  | .hbm, ⟨7, _⟩ => ⟨S5632x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S5632x2048 : Shape := ⟨2, ![5632, 2048]⟩
abbrev S8x128 : Shape := ⟨2, ![8, 128]⟩
abbrev S128x2048 : Shape := ⟨2, ![128, 2048]⟩

abbrev nBuf : Space → Nat
  | .hbm => 8
  | .vmem => 14
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S8x128, .f32⟩
  | .hbm, ⟨5, _⟩ => ⟨S5632x2048, .f32⟩
  | .hbm, ⟨6, _⟩ => ⟨S5632x2048, .f32⟩
  | .hbm, ⟨7, _⟩ => ⟨S5632x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S5632x2048 : Shape := ⟨2, ![5632, 2048]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S8x128, .f32⟩
  | .hbm, ⟨5, _⟩ => ⟨S_, .f32⟩
  | .hbm, ⟨6, _⟩ => ⟨S5632x2048, .f32⟩
  | .hbm, ⟨7, _⟩ => ⟨S5632x2048, .f32⟩
  | .hbm, ⟨8, _⟩ => ⟨S_, .f32⟩
  | .hbm, ⟨9, _⟩ => ⟨S5632x2048, .f32⟩
  | .hbm, ⟨10, _⟩ => ⟨S5632x2048, .f32⟩
  | .hbm, ⟨11, _⟩ => ⟨S5632x2048, .f32⟩
  | .hbm, ⟨12, _⟩ => ⟨S_, .f32⟩
  | .hbm, ⟨13, _⟩ => ⟨S5632x2048, .f32⟩
  | .hbm, ⟨14, _⟩ => ⟨S5632x2048, .f32⟩
  | .hbm, ⟨15, _⟩ => ⟨S5632x2048, .f32⟩
  | .hbm, ⟨16, _⟩ => ⟨S_, .f32⟩
  | .hbm, ⟨17, _⟩ => ⟨S5632x2048, .f32⟩
  | .hbm, ⟨18, _⟩ => ⟨S5632x2048, .f32⟩
  | .hbm, ⟨19, _⟩ => ⟨S5632x2048, .f32⟩
  | .hbm, ⟨20, _⟩ => ⟨S_, .f32⟩
  | .hbm, ⟨21, _⟩ => ⟨S5632x2048, .f32⟩
  | .hbm, ⟨22, _⟩ => ⟨S5632x2048, .f32⟩
  | .hbm, ⟨23, _⟩ => ⟨S_, .f32⟩
  | .hbm, ⟨24, _⟩ => ⟨S5632x2048, .f32⟩
  | .hbm, ⟨25, _⟩ => ⟨S5632x2048, .f32⟩
  | .hbm, ⟨26, _⟩ => ⟨S5632x2048, .f32⟩
  | .hbm, ⟨27, _⟩ => ⟨S_, .f32⟩
  | .hbm, ⟨28, _⟩ => ⟨S5632x2048, .f32⟩
  | .hbm, ⟨29, _⟩ => ⟨S5632x2048, .f32⟩
  | .hbm, ⟨30, _⟩ => ⟨S5632x2048, .f32⟩
  | .hbm, ⟨31, _⟩ => ⟨S_, .f32⟩
  | .hbm, ⟨32, _⟩ => ⟨S5632x2048, .f32⟩
  | .hbm, ⟨33, _⟩ => ⟨S5632x2048, .f32⟩
  | .hbm, ⟨34, _⟩ => ⟨S5632x2048, .f32⟩
  | .hbm, ⟨35, _⟩ => ⟨S_, .f32⟩
  | .hbm, ⟨36, _⟩ => ⟨S5632x2048, .f32⟩
  | .hbm, ⟨37, _⟩ => ⟨S5632x2048, .f32⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamOut.lean ====
abbrev S512x2048 : Shape := ⟨2, ![512, 2048]⟩
abbrev S8x128 : Shape := ⟨2, ![8, 128]⟩
abbrev S128x2048 : Shape := ⟨2, ![128, 2048]⟩

abbrev nBuf : Space → Nat
  | .hbm => 8
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x128, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S512x2048 : Shape := ⟨2, ![512, 2048]⟩
abbrev S8x128 : Shape := ⟨2, ![8, 128]⟩
abbrev S128x2048 : Shape := ⟨2, ![128, 2048]⟩

abbrev nBuf : Space → Nat
  | .hbm => 8
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x128, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S512x2048 : Shape := ⟨2, ![512, 2048]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x128, .f32⟩
  | .hbm, ⟨5, _⟩ => ⟨S_, .f32⟩
  | .hbm, ⟨6, _⟩ => ⟨S512x2048, .f32⟩
  | .hbm, ⟨7, _⟩ => ⟨S512x2048, .f32⟩
  | .hbm, ⟨8, _⟩ => ⟨S_, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S_, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S_, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S_, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S_, .f32⟩
  | .hbm, ⟨28, _⟩ => ⟨S512x2048, .f32⟩
  | .hbm, ⟨29, _⟩ => ⟨S512x2048, .f32⟩
  | .hbm, ⟨30, _⟩ => ⟨S512x2048, .f32⟩
  | .hbm, ⟨31, _⟩ => ⟨S_, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512x2048, .f32⟩
  | .hbm, ⟨37, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamNorm.lean ====
abbrev S4x2048 : Shape := ⟨2, ![4, 2048]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S8x128, .f32⟩
  | .hbm, ⟨5, _⟩ => ⟨S4x2048, .f32⟩
  | .hbm, ⟨6, _⟩ => ⟨S4x2048, .f32⟩
  | .hbm, ⟨7, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S4x2048 : Shape := ⟨2, ![4, 2048]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S8x128, .f32⟩
  | .hbm, ⟨5, _⟩ => ⟨S4x2048, .f32⟩
  | .hbm, ⟨6, _⟩ => ⟨S4x2048, .f32⟩
  | .hbm, ⟨7, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRefIdeal.lean ====
abbrev S4x2048 : Shape := ⟨2, ![4, 2048]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S8x128, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S_, .f32⟩
  | .hbm, ⟨13, _⟩ => ⟨S4x2048, .f32⟩
  | .hbm, ⟨14, _⟩ => ⟨S4x2048, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048, .f32⟩
  | .hbm, ⟨20, _⟩ => ⟨S_, .f32⟩
  | .hbm, ⟨21, _⟩ => ⟨S4x2048, .f32⟩
  | .hbm, ⟨22, _⟩ => ⟨S4x2048, .f32⟩
  | .hbm, ⟨23, _⟩ => ⟨S_, .f32⟩
  | .hbm, ⟨24, _⟩ => ⟨S4x2048, .f32⟩
  | .hbm, ⟨25, _⟩ => ⟨S4x2048, .f32⟩
  | .hbm, ⟨26, _⟩ => ⟨S4x2048, .f32⟩
  | .hbm, ⟨27, _⟩ => ⟨S_, .f32⟩
  | .hbm, ⟨28, _⟩ => ⟨S4x2048, .f32⟩
  | .hbm, ⟨29, _⟩ => ⟨S4x2048, .f32⟩
  | .hbm, ⟨30, _⟩ => ⟨S4x2048, .f32⟩
  | .hbm, ⟨31, _⟩ => ⟨S_, .f32⟩
  | .hbm, ⟨32, _⟩ => ⟨S4x2048, .f32⟩
  | .hbm, ⟨33, _⟩ => ⟨S4x2048, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamHeadNorm.lean ====
abbrev S1x128 : Shape := ⟨2, ![1, 128]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S8x128, .f32⟩
  | .hbm, ⟨5, _⟩ => ⟨S1x128, .f32⟩
  | .hbm, ⟨6, _⟩ => ⟨S1x128, .f32⟩
  | .hbm, ⟨7, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadNormIdeal.lean ====
abbrev S1x128 : Shape := ⟨2, ![1, 128]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S8x128, .f32⟩
  | .hbm, ⟨5, _⟩ => ⟨S1x128, .f32⟩
  | .hbm, ⟨6, _⟩ => ⟨S1x128, .f32⟩
  | .hbm, ⟨7, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadNormRefIdeal.lean ====
abbrev S1x128 : Shape := ⟨2, ![1, 128]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S8x128, .f32⟩
  | .hbm, ⟨5, _⟩ => ⟨S_, .f32⟩
  | .hbm, ⟨6, _⟩ => ⟨S1x128, .f32⟩
  | .hbm, ⟨7, _⟩ => ⟨S1x128, .f32⟩
  | .hbm, ⟨8, _⟩ => ⟨S_, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S_, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S_, .f32⟩
  | .hbm, ⟨21, _⟩ => ⟨S1x128, .f32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamLb.lean ====
abbrev S5x2048 : Shape := ⟨2, ![5, 2048]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S5x2048, .f32⟩
  | .hbm, ⟨1, _⟩ => ⟨S5x2048, .f32⟩
  | .hbm, ⟨2, _⟩ => ⟨S5x2048, .f32⟩
  | .hbm, ⟨3, _⟩ => ⟨S5x2048, .f32⟩
  | .hbm, ⟨4, _⟩ => ⟨S8x128, .f32⟩
  | .hbm, ⟨5, _⟩ => ⟨S5x2048, .f32⟩
  | .hbm, ⟨6, _⟩ => ⟨S5x2048, .f32⟩
  | .hbm, ⟨7, _⟩ => ⟨S5x2048, .f32⟩
  | .local _ .vmem, ⟨0, _⟩ => ⟨S5x2048, .f32⟩
  | .local _ .vmem, ⟨1, _⟩ => ⟨S5x2048, .f32⟩
  | .local _ .vmem, ⟨2, _⟩ => ⟨S5x2048, .f32⟩
  | .local _ .vmem, ⟨3, _⟩ => ⟨S5x2048, .f32⟩
  | .local _ .vmem, ⟨4, _⟩ => ⟨S5x2048, .f32⟩
  | .local _ .vmem, ⟨5, _⟩ => ⟨S5x2048, .f32⟩
  | .local _ .vmem, ⟨6, _⟩ => ⟨S5x2048, .f32⟩
  | _, _ => ⟨S5x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S5x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S5x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S5x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S5x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S5x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S5x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S5x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLbIdeal.lean ====
abbrev S5x2048 : Shape := ⟨2, ![5, 2048]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S5x2048, .f32⟩
  | .hbm, ⟨1, _⟩ => ⟨S5x2048, .f32⟩
  | .hbm, ⟨2, _⟩ => ⟨S5x2048, .f32⟩
  | .hbm, ⟨3, _⟩ => ⟨S5x2048, .f32⟩
  | .hbm, ⟨4, _⟩ => ⟨S8x128, .f32⟩
  | .hbm, ⟨5, _⟩ => ⟨S5x2048, .f32⟩
  | .hbm, ⟨6, _⟩ => ⟨S5x2048, .f32⟩
  | .hbm, ⟨7, _⟩ => ⟨S5x2048, .f32⟩
  | .local _ .vmem, ⟨0, _⟩ => ⟨S5x2048, .f32⟩
  | .local _ .vmem, ⟨1, _⟩ => ⟨S5x2048, .f32⟩
  | .local _ .vmem, ⟨2, _⟩ => ⟨S5x2048, .f32⟩
  | .local _ .vmem, ⟨3, _⟩ => ⟨S5x2048, .f32⟩
  | .local _ .vmem, ⟨4, _⟩ => ⟨S5x2048, .f32⟩
  | .local _ .vmem, ⟨5, _⟩ => ⟨S5x2048, .f32⟩
  | .local _ .vmem, ⟨6, _⟩ => ⟨S5x2048, .f32⟩
  | _, _ => ⟨S5x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S5x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S5x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S5x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S5x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S5x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S5x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S5x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLbRefIdeal.lean ====
abbrev S5x2048 : Shape := ⟨2, ![5, 2048]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S5x2048, .f32⟩
  | .hbm, ⟨1, _⟩ => ⟨S5x2048, .f32⟩
  | .hbm, ⟨2, _⟩ => ⟨S5x2048, .f32⟩
  | .hbm, ⟨3, _⟩ => ⟨S5x2048, .f32⟩
  | .hbm, ⟨4, _⟩ => ⟨S8x128, .f32⟩
  | .hbm, ⟨5, _⟩ => ⟨S_, .f32⟩
  | .hbm, ⟨6, _⟩ => ⟨S5x2048, .f32⟩
  | .hbm, ⟨7, _⟩ => ⟨S5x2048, .f32⟩
  | .hbm, ⟨8, _⟩ => ⟨S_, .f32⟩
  | .hbm, ⟨9, _⟩ => ⟨S5x2048, .f32⟩
  | .hbm, ⟨10, _⟩ => ⟨S5x2048, .f32⟩
  | .hbm, ⟨11, _⟩ => ⟨S5x2048, .f32⟩
  | .hbm, ⟨12, _⟩ => ⟨S_, .f32⟩
  | .hbm, ⟨13, _⟩ => ⟨S5x2048, .f32⟩
  | .hbm, ⟨14, _⟩ => ⟨S5x2048, .f32⟩
  | .hbm, ⟨15, _⟩ => ⟨S5x2048, .f32⟩
  | .hbm, ⟨16, _⟩ => ⟨S_, .f32⟩
  | .hbm, ⟨17, _⟩ => ⟨S5x2048, .f32⟩
  | .hbm, ⟨18, _⟩ => ⟨S5x2048, .f32⟩
  | .hbm, ⟨19, _⟩ => ⟨S5x2048, .f32⟩
  | .hbm, ⟨20, _⟩ => ⟨S_, .f32⟩
  | .hbm, ⟨21, _⟩ => ⟨S5x2048, .f32⟩
  | .hbm, ⟨22, _⟩ => ⟨S5x2048, .f32⟩
  | .hbm, ⟨23, _⟩ => ⟨S_, .f32⟩
  | .hbm, ⟨24, _⟩ => ⟨S5x2048, .f32⟩
  | .hbm, ⟨25, _⟩ => ⟨S5x2048, .f32⟩
  | .hbm, ⟨26, _⟩ => ⟨S5x2048, .f32⟩
  | .hbm, ⟨27, _⟩ => ⟨S_, .f32⟩
  | .hbm, ⟨28, _⟩ => ⟨S5x2048, .f32⟩
  | .hbm, ⟨29, _⟩ => ⟨S5x2048, .f32⟩
  | .hbm, ⟨30, _⟩ => ⟨S5x2048, .f32⟩
  | .hbm, ⟨31, _⟩ => ⟨S_, .f32⟩
  | .hbm, ⟨32, _⟩ => ⟨S5x2048, .f32⟩
  | .hbm, ⟨33, _⟩ => ⟨S5x2048, .f32⟩
  | .hbm, ⟨34, _⟩ => ⟨S5x2048, .f32⟩
  | .hbm, ⟨35, _⟩ => ⟨S_, .f32⟩
  | .hbm, ⟨36, _⟩ => ⟨S5x2048, .f32⟩
  | .hbm, ⟨37, _⟩ => ⟨S5x2048, .f32⟩
  | _, _ => ⟨S5x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamHead.lean ====
abbrev S1x32 : Shape := ⟨2, ![1, 32]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S8x128, .f32⟩
  | .hbm, ⟨5, _⟩ => ⟨S1x32, .f32⟩
  | .hbm, ⟨6, _⟩ => ⟨S1x32, .f32⟩
  | .hbm, ⟨7, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadIdeal.lean ====
abbrev S1x32 : Shape := ⟨2, ![1, 32]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S8x128, .f32⟩
  | .hbm, ⟨5, _⟩ => ⟨S1x32, .f32⟩
  | .hbm, ⟨6, _⟩ => ⟨S1x32, .f32⟩
  | .hbm, ⟨7, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadRefIdeal.lean ====
abbrev S1x32 : Shape := ⟨2, ![1, 32]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S8x128, .f32⟩
  | .hbm, ⟨5, _⟩ => ⟨S_, .f32⟩
  | .hbm, ⟨6, _⟩ => ⟨S1x32, .f32⟩
  | .hbm, ⟨7, _⟩ => ⟨S1x32, .f32⟩
  | .hbm, ⟨8, _⟩ => ⟨S_, .f32⟩
  | .hbm, ⟨9, _⟩ => ⟨S1x32, .f32⟩
  | .hbm, ⟨10, _⟩ => ⟨S1x32, .f32⟩
  | .hbm, ⟨11, _⟩ => ⟨S1x32, .f32⟩
  | .hbm, ⟨12, _⟩ => ⟨S_, .f32⟩
  | .hbm, ⟨13, _⟩ => ⟨S1x32, .f32⟩
  | .hbm, ⟨14, _⟩ => ⟨S1x32, .f32⟩
  | .hbm, ⟨15, _⟩ => ⟨S1x32, .f32⟩
  | .hbm, ⟨16, _⟩ => ⟨S_, .f32⟩
  | .hbm, ⟨17, _⟩ => ⟨S1x32, .f32⟩
  | .hbm, ⟨18, _⟩ => ⟨S1x32, .f32⟩
  | .hbm, ⟨19, _⟩ => ⟨S1x32, .f32⟩
  | .hbm, ⟨20, _⟩ => ⟨S_, .f32⟩
  | .hbm, ⟨21, _⟩ => ⟨S1x32, .f32⟩
  | .hbm, ⟨22, _⟩ => ⟨S1x32, .f32⟩
  | .hbm, ⟨23, _⟩ => ⟨S_, .f32⟩
  | .hbm, ⟨24, _⟩ => ⟨S1x32, .f32⟩
  | .hbm, ⟨25, _⟩ => ⟨S1x32, .f32⟩
  | .hbm, ⟨26, _⟩ => ⟨S1x32, .f32⟩
  | .hbm, ⟨27, _⟩ => ⟨S_, .f32⟩
  | .hbm, ⟨28, _⟩ => ⟨S1x32, .f32⟩
  | .hbm, ⟨29, _⟩ => ⟨S1x32, .f32⟩
  | .hbm, ⟨30, _⟩ => ⟨S1x32, .f32⟩
  | .hbm, ⟨31, _⟩ => ⟨S_, .f32⟩
  | .hbm, ⟨32, _⟩ => ⟨S1x32, .f32⟩
  | .hbm, ⟨33, _⟩ => ⟨S1x32, .f32⟩
  | .hbm, ⟨34, _⟩ => ⟨S1x32, .f32⟩
  | .hbm, ⟨35, _⟩ => ⟨S_, .f32⟩
  | .hbm, ⟨36, _⟩ => ⟨S1x32, .f32⟩
  | .hbm, ⟨37, _⟩ => ⟨S1x32, .f32⟩
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamTap.lean ====
abbrev S3x512 : Shape := ⟨2, ![3, 512]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S3x512, .f32⟩
  | .hbm, ⟨1, _⟩ => ⟨S3x512, .f32⟩
  | .hbm, ⟨2, _⟩ => ⟨S3x512, .f32⟩
  | .hbm, ⟨3, _⟩ => ⟨S3x512, .f32⟩
  | .hbm, ⟨4, _⟩ => ⟨S8x128, .f32⟩
  | .hbm, ⟨5, _⟩ => ⟨S3x512, .f32⟩
  | .hbm, ⟨6, _⟩ => ⟨S3x512, .f32⟩
  | .hbm, ⟨7, _⟩ => ⟨S3x512, .f32⟩
  | .local _ .vmem, ⟨0, _⟩ => ⟨S3x512, .f32⟩
  | .local _ .vmem, ⟨1, _⟩ => ⟨S3x512, .f32⟩
  | .local _ .vmem, ⟨2, _⟩ => ⟨S3x512, .f32⟩
  | .local _ .vmem, ⟨3, _⟩ => ⟨S3x512, .f32⟩
  | .local _ .vmem, ⟨4, _⟩ => ⟨S3x512, .f32⟩
  | .local _ .vmem, ⟨5, _⟩ => ⟨S3x512, .f32⟩
  | .local _ .vmem, ⟨6, _⟩ => ⟨S3x512, .f32⟩
  | _, _ => ⟨S3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTapIdeal.lean ====
abbrev S3x512 : Shape := ⟨2, ![3, 512]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S3x512, .f32⟩
  | .hbm, ⟨1, _⟩ => ⟨S3x512, .f32⟩
  | .hbm, ⟨2, _⟩ => ⟨S3x512, .f32⟩
  | .hbm, ⟨3, _⟩ => ⟨S3x512, .f32⟩
  | .hbm, ⟨4, _⟩ => ⟨S8x128, .f32⟩
  | .hbm, ⟨5, _⟩ => ⟨S3x512, .f32⟩
  | .hbm, ⟨6, _⟩ => ⟨S3x512, .f32⟩
  | .hbm, ⟨7, _⟩ => ⟨S3x512, .f32⟩
  | .local _ .vmem, ⟨0, _⟩ => ⟨S3x512, .f32⟩
  | .local _ .vmem, ⟨1, _⟩ => ⟨S3x512, .f32⟩
  | .local _ .vmem, ⟨2, _⟩ => ⟨S3x512, .f32⟩
  | .local _ .vmem, ⟨3, _⟩ => ⟨S3x512, .f32⟩
  | .local _ .vmem, ⟨4, _⟩ => ⟨S3x512, .f32⟩
  | .local _ .vmem, ⟨5, _⟩ => ⟨S3x512, .f32⟩
  | .local _ .vmem, ⟨6, _⟩ => ⟨S3x512, .f32⟩
  | _, _ => ⟨S3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTapRefIdeal.lean ====
abbrev S3x512 : Shape := ⟨2, ![3, 512]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S3x512, .f32⟩
  | .hbm, ⟨1, _⟩ => ⟨S3x512, .f32⟩
  | .hbm, ⟨2, _⟩ => ⟨S3x512, .f32⟩
  | .hbm, ⟨3, _⟩ => ⟨S3x512, .f32⟩
  | .hbm, ⟨4, _⟩ => ⟨S8x128, .f32⟩
  | .hbm, ⟨5, _⟩ => ⟨S_, .f32⟩
  | .hbm, ⟨6, _⟩ => ⟨S3x512, .f32⟩
  | .hbm, ⟨7, _⟩ => ⟨S3x512, .f32⟩
  | .hbm, ⟨8, _⟩ => ⟨S_, .f32⟩
  | .hbm, ⟨9, _⟩ => ⟨S3x512, .f32⟩
  | .hbm, ⟨10, _⟩ => ⟨S3x512, .f32⟩
  | .hbm, ⟨11, _⟩ => ⟨S3x512, .f32⟩
  | .hbm, ⟨12, _⟩ => ⟨S_, .f32⟩
  | .hbm, ⟨13, _⟩ => ⟨S3x512, .f32⟩
  | .hbm, ⟨14, _⟩ => ⟨S3x512, .f32⟩
  | .hbm, ⟨15, _⟩ => ⟨S3x512, .f32⟩
  | .hbm, ⟨16, _⟩ => ⟨S_, .f32⟩
  | .hbm, ⟨17, _⟩ => ⟨S3x512, .f32⟩
  | .hbm, ⟨18, _⟩ => ⟨S3x512, .f32⟩
  | .hbm, ⟨19, _⟩ => ⟨S3x512, .f32⟩
  | .hbm, ⟨20, _⟩ => ⟨S_, .f32⟩
  | .hbm, ⟨21, _⟩ => ⟨S3x512, .f32⟩
  | .hbm, ⟨22, _⟩ => ⟨S3x512, .f32⟩
  | .hbm, ⟨23, _⟩ => ⟨S_, .f32⟩
  | .hbm, ⟨24, _⟩ => ⟨S3x512, .f32⟩
  | .hbm, ⟨25, _⟩ => ⟨S3x512, .f32⟩
  | .hbm, ⟨26, _⟩ => ⟨S3x512, .f32⟩
  | .hbm, ⟨27, _⟩ => ⟨S_, .f32⟩
  | .hbm, ⟨28, _⟩ => ⟨S3x512, .f32⟩
  | .hbm, ⟨29, _⟩ => ⟨S3x512, .f32⟩
  | .hbm, ⟨30, _⟩ => ⟨S3x512, .f32⟩
  | .hbm, ⟨31, _⟩ => ⟨S_, .f32⟩
  | .hbm, ⟨32, _⟩ => ⟨S3x512, .f32⟩
  | .hbm, ⟨33, _⟩ => ⟨S3x512, .f32⟩
  | .hbm, ⟨34, _⟩ => ⟨S3x512, .f32⟩
  | .hbm, ⟨35, _⟩ => ⟨S_, .f32⟩
  | .hbm, ⟨36, _⟩ => ⟨S3x512, .f32⟩
  | .hbm, ⟨37, _⟩ => ⟨S3x512, .f32⟩
  | _, _ => ⟨S3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamFfnTap.lean ====
abbrev S12x2816 : Shape := ⟨2, ![12, 2816]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S12x2816, .f32⟩
  | .hbm, ⟨1, _⟩ => ⟨S12x2816, .f32⟩
  | .hbm, ⟨2, _⟩ => ⟨S12x2816, .f32⟩
  | .hbm, ⟨3, _⟩ => ⟨S12x2816, .f32⟩
  | .hbm, ⟨4, _⟩ => ⟨S8x128, .f32⟩
  | .hbm, ⟨5, _⟩ => ⟨S12x2816, .f32⟩
  | .hbm, ⟨6, _⟩ => ⟨S12x2816, .f32⟩
  | .hbm, ⟨7, _⟩ => ⟨S12x2816, .f32⟩
  | .local _ .vmem, ⟨0, _⟩ => ⟨S12x2816, .f32⟩
  | .local _ .vmem, ⟨1, _⟩ => ⟨S12x2816, .f32⟩
  | .local _ .vmem, ⟨2, _⟩ => ⟨S12x2816, .f32⟩
  | .local _ .vmem, ⟨3, _⟩ => ⟨S12x2816, .f32⟩
  | .local _ .vmem, ⟨4, _⟩ => ⟨S12x2816, .f32⟩
  | .local _ .vmem, ⟨5, _⟩ => ⟨S12x2816, .f32⟩
  | .local _ .vmem, ⟨6, _⟩ => ⟨S12x2816, .f32⟩
  | _, _ => ⟨S12x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFfnTapIdeal.lean ====
abbrev S12x2816 : Shape := ⟨2, ![12, 2816]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S12x2816, .f32⟩
  | .hbm, ⟨1, _⟩ => ⟨S12x2816, .f32⟩
  | .hbm, ⟨2, _⟩ => ⟨S12x2816, .f32⟩
  | .hbm, ⟨3, _⟩ => ⟨S12x2816, .f32⟩
  | .hbm, ⟨4, _⟩ => ⟨S8x128, .f32⟩
  | .hbm, ⟨5, _⟩ => ⟨S12x2816, .f32⟩
  | .hbm, ⟨6, _⟩ => ⟨S12x2816, .f32⟩
  | .hbm, ⟨7, _⟩ => ⟨S12x2816, .f32⟩
  | .local _ .vmem, ⟨0, _⟩ => ⟨S12x2816, .f32⟩
  | .local _ .vmem, ⟨1, _⟩ => ⟨S12x2816, .f32⟩
  | .local _ .vmem, ⟨2, _⟩ => ⟨S12x2816, .f32⟩
  | .local _ .vmem, ⟨3, _⟩ => ⟨S12x2816, .f32⟩
  | .local _ .vmem, ⟨4, _⟩ => ⟨S12x2816, .f32⟩
  | .local _ .vmem, ⟨5, _⟩ => ⟨S12x2816, .f32⟩
  | .local _ .vmem, ⟨6, _⟩ => ⟨S12x2816, .f32⟩
  | _, _ => ⟨S12x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFfnTapRefIdeal.lean ====
abbrev S12x2816 : Shape := ⟨2, ![12, 2816]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S12x2816, .f32⟩
  | .hbm, ⟨1, _⟩ => ⟨S12x2816, .f32⟩
  | .hbm, ⟨2, _⟩ => ⟨S12x2816, .f32⟩
  | .hbm, ⟨3, _⟩ => ⟨S12x2816, .f32⟩
  | .hbm, ⟨4, _⟩ => ⟨S8x128, .f32⟩
  | .hbm, ⟨5, _⟩ => ⟨S_, .f32⟩
  | .hbm, ⟨6, _⟩ => ⟨S12x2816, .f32⟩
  | .hbm, ⟨7, _⟩ => ⟨S12x2816, .f32⟩
  | .hbm, ⟨8, _⟩ => ⟨S_, .f32⟩
  | .hbm, ⟨9, _⟩ => ⟨S12x2816, .f32⟩
  | .hbm, ⟨10, _⟩ => ⟨S12x2816, .f32⟩
  | .hbm, ⟨11, _⟩ => ⟨S12x2816, .f32⟩
  | .hbm, ⟨12, _⟩ => ⟨S_, .f32⟩
  | .hbm, ⟨13, _⟩ => ⟨S12x2816, .f32⟩
  | .hbm, ⟨14, _⟩ => ⟨S12x2816, .f32⟩
  | .hbm, ⟨15, _⟩ => ⟨S12x2816, .f32⟩
  | .hbm, ⟨16, _⟩ => ⟨S_, .f32⟩
  | .hbm, ⟨17, _⟩ => ⟨S12x2816, .f32⟩
  | .hbm, ⟨18, _⟩ => ⟨S12x2816, .f32⟩
  | .hbm, ⟨19, _⟩ => ⟨S12x2816, .f32⟩
  | .hbm, ⟨20, _⟩ => ⟨S_, .f32⟩
  | .hbm, ⟨21, _⟩ => ⟨S12x2816, .f32⟩
  | .hbm, ⟨22, _⟩ => ⟨S12x2816, .f32⟩
  | .hbm, ⟨23, _⟩ => ⟨S_, .f32⟩
  | .hbm, ⟨24, _⟩ => ⟨S12x2816, .f32⟩
  | .hbm, ⟨25, _⟩ => ⟨S12x2816, .f32⟩
  | .hbm, ⟨26, _⟩ => ⟨S12x2816, .f32⟩
  | .hbm, ⟨27, _⟩ => ⟨S_, .f32⟩
  | .hbm, ⟨28, _⟩ => ⟨S12x2816, .f32⟩
  | .hbm, ⟨29, _⟩ => ⟨S12x2816, .f32⟩
  | .hbm, ⟨30, _⟩ => ⟨S12x2816, .f32⟩
  | .hbm, ⟨31, _⟩ => ⟨S_, .f32⟩
  | .hbm, ⟨32, _⟩ => ⟨S12x2816, .f32⟩
  | .hbm, ⟨33, _⟩ => ⟨S12x2816, .f32⟩
  | .hbm, ⟨34, _⟩ => ⟨S12x2816, .f32⟩
  | .hbm, ⟨35, _⟩ => ⟨S_, .f32⟩
  | .hbm, ⟨36, _⟩ => ⟨S12x2816, .f32⟩
  | .hbm, ⟨37, _⟩ => ⟨S12x2816, .f32⟩
  | _, _ => ⟨S12x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamBias.lean ====
abbrev S4x11264 : Shape := ⟨2, ![4, 11264]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S4x11264, .f32⟩
  | .hbm, ⟨1, _⟩ => ⟨S4x11264, .f32⟩
  | .hbm, ⟨2, _⟩ => ⟨S4x11264, .f32⟩
  | .hbm, ⟨3, _⟩ => ⟨S4x11264, .f32⟩
  | .hbm, ⟨4, _⟩ => ⟨S8x128, .f32⟩
  | .hbm, ⟨5, _⟩ => ⟨S4x11264, .f32⟩
  | .hbm, ⟨6, _⟩ => ⟨S4x11264, .f32⟩
  | .hbm, ⟨7, _⟩ => ⟨S4x11264, .f32⟩
  | .local _ .vmem, ⟨0, _⟩ => ⟨S4x11264, .f32⟩
  | .local _ .vmem, ⟨1, _⟩ => ⟨S4x11264, .f32⟩
  | .local _ .vmem, ⟨2, _⟩ => ⟨S4x11264, .f32⟩
  | .local _ .vmem, ⟨3, _⟩ => ⟨S4x11264, .f32⟩
  | .local _ .vmem, ⟨4, _⟩ => ⟨S4x11264, .f32⟩
  | .local _ .vmem, ⟨5, _⟩ => ⟨S4x11264, .f32⟩
  | .local _ .vmem, ⟨6, _⟩ => ⟨S4x11264, .f32⟩
  | _, _ => ⟨S4x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x11264 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x11264 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x11264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x11264 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x11264 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasIdeal.lean ====
abbrev S4x11264 : Shape := ⟨2, ![4, 11264]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S4x11264, .f32⟩
  | .hbm, ⟨1, _⟩ => ⟨S4x11264, .f32⟩
  | .hbm, ⟨2, _⟩ => ⟨S4x11264, .f32⟩
  | .hbm, ⟨3, _⟩ => ⟨S4x11264, .f32⟩
  | .hbm, ⟨4, _⟩ => ⟨S8x128, .f32⟩
  | .hbm, ⟨5, _⟩ => ⟨S4x11264, .f32⟩
  | .hbm, ⟨6, _⟩ => ⟨S4x11264, .f32⟩
  | .hbm, ⟨7, _⟩ => ⟨S4x11264, .f32⟩
  | .local _ .vmem, ⟨0, _⟩ => ⟨S4x11264, .f32⟩
  | .local _ .vmem, ⟨1, _⟩ => ⟨S4x11264, .f32⟩
  | .local _ .vmem, ⟨2, _⟩ => ⟨S4x11264, .f32⟩
  | .local _ .vmem, ⟨3, _⟩ => ⟨S4x11264, .f32⟩
  | .local _ .vmem, ⟨4, _⟩ => ⟨S4x11264, .f32⟩
  | .local _ .vmem, ⟨5, _⟩ => ⟨S4x11264, .f32⟩
  | .local _ .vmem, ⟨6, _⟩ => ⟨S4x11264, .f32⟩
  | _, _ => ⟨S4x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x11264 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x11264 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x11264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x11264 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x11264 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasRefIdeal.lean ====
abbrev S4x11264 : Shape := ⟨2, ![4, 11264]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4x11264, .f32⟩
  | .hbm, ⟨1, _⟩ => ⟨S4x11264, .f32⟩
  | .hbm, ⟨2, _⟩ => ⟨S4x11264, .f32⟩
  | .hbm, ⟨3, _⟩ => ⟨S4x11264, .f32⟩
  | .hbm, ⟨4, _⟩ => ⟨S8x128, .f32⟩
  | .hbm, ⟨5, _⟩ => ⟨S_, .f32⟩
  | .hbm, ⟨6, _⟩ => ⟨S4x11264, .f32⟩
  | .hbm, ⟨7, _⟩ => ⟨S4x11264, .f32⟩
  | .hbm, ⟨8, _⟩ => ⟨S_, .f32⟩
  | .hbm, ⟨9, _⟩ => ⟨S4x11264, .f32⟩
  | .hbm, ⟨10, _⟩ => ⟨S4x11264, .f32⟩
  | .hbm, ⟨11, _⟩ => ⟨S4x11264, .f32⟩
  | .hbm, ⟨12, _⟩ => ⟨S_, .f32⟩
  | .hbm, ⟨13, _⟩ => ⟨S4x11264, .f32⟩
  | .hbm, ⟨14, _⟩ => ⟨S4x11264, .f32⟩
  | .hbm, ⟨15, _⟩ => ⟨S4x11264, .f32⟩
  | .hbm, ⟨16, _⟩ => ⟨S_, .f32⟩
  | .hbm, ⟨17, _⟩ => ⟨S4x11264, .f32⟩
  | .hbm, ⟨18, _⟩ => ⟨S4x11264, .f32⟩
  | .hbm, ⟨19, _⟩ => ⟨S4x11264, .f32⟩
  | .hbm, ⟨20, _⟩ => ⟨S_, .f32⟩
  | .hbm, ⟨21, _⟩ => ⟨S4x11264, .f32⟩
  | .hbm, ⟨22, _⟩ => ⟨S4x11264, .f32⟩
  | .hbm, ⟨23, _⟩ => ⟨S_, .f32⟩
  | .hbm, ⟨24, _⟩ => ⟨S4x11264, .f32⟩
  | .hbm, ⟨25, _⟩ => ⟨S4x11264, .f32⟩
  | .hbm, ⟨26, _⟩ => ⟨S4x11264, .f32⟩
  | .hbm, ⟨27, _⟩ => ⟨S_, .f32⟩
  | .hbm, ⟨28, _⟩ => ⟨S4x11264, .f32⟩
  | .hbm, ⟨29, _⟩ => ⟨S4x11264, .f32⟩
  | .hbm, ⟨30, _⟩ => ⟨S4x11264, .f32⟩
  | .hbm, ⟨31, _⟩ => ⟨S_, .f32⟩
  | .hbm, ⟨32, _⟩ => ⟨S4x11264, .f32⟩
  | .hbm, ⟨33, _⟩ => ⟨S4x11264, .f32⟩
  | .hbm, ⟨34, _⟩ => ⟨S4x11264, .f32⟩
  | .hbm, ⟨35, _⟩ => ⟨S_, .f32⟩
  | .hbm, ⟨36, _⟩ => ⟨S4x11264, .f32⟩
  | .hbm, ⟨37, _⟩ => ⟨S4x11264, .f32⟩
  | _, _ => ⟨S4x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== NormPre.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormPreIdeal.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormPreRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== NormPost.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormPostIdeal.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormPostRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 46
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ResidNorm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidNormIdeal.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidNormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== ResidLoss.lean ====
abbrev S4096x2048 : Shape := ⟨2, ![4096, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ResidLossIdeal.lean ====
abbrev S4096x2048 : Shape := ⟨2, ![4096, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ResidLossRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== ScFwd.lean ====
abbrev S4096x6144 : Shape := ⟨2, ![4096, 6144]⟩
abbrev S3x2048 : Shape := ⟨2, ![3, 2048]⟩
abbrev S4096x2048 : Shape := ⟨2, ![4096, 2048]⟩
abbrev S128x6144 : Shape := ⟨2, ![128, 6144]⟩
abbrev S16x6144 : Shape := ⟨2, ![16, 6144]⟩
abbrev S128x2048 : Shape := ⟨2, ![128, 2048]⟩
abbrev S128x512 : Shape := ⟨2, ![128, 512]⟩
abbrev S16x512 : Shape := ⟨2, ![16, 512]⟩
abbrev S1x512 : Shape := ⟨2, ![1, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S3x2048, .f32⟩
  | .hbm, ⟨2, _⟩ => ⟨S4096x2048, .bf16⟩
  | .local _ .vmem, ⟨0, _⟩ => ⟨S128x6144, .bf16⟩
  | .local _ .vmem, ⟨1, _⟩ => ⟨S128x6144, .bf16⟩
  | .local _ .vmem, ⟨2, _⟩ => ⟨S16x6144, .bf16⟩
  | .local _ .vmem, ⟨3, _⟩ => ⟨S16x6144, .bf16⟩
  | .local _ .vmem, ⟨4, _⟩ => ⟨S3x2048, .f32⟩
  | .local _ .vmem, ⟨5, _⟩ => ⟨S128x2048, .bf16⟩
  | .local _ .vmem, ⟨6, _⟩ => ⟨S128x2048, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ScFwdIdeal.lean ====
abbrev S4096x6144 : Shape := ⟨2, ![4096, 6144]⟩
abbrev S3x2048 : Shape := ⟨2, ![3, 2048]⟩
abbrev S4096x2048 : Shape := ⟨2, ![4096, 2048]⟩
abbrev S128x6144 : Shape := ⟨2, ![128, 6144]⟩
abbrev S16x6144 : Shape := ⟨2, ![16, 6144]⟩
abbrev S128x2048 : Shape := ⟨2, ![128, 2048]⟩
abbrev S128x512 : Shape := ⟨2, ![128, 512]⟩
abbrev S16x512 : Shape := ⟨2, ![16, 512]⟩
abbrev S1x512 : Shape := ⟨2, ![1, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S3x2048, .f32⟩
  | .hbm, ⟨2, _⟩ => ⟨S4096x2048, .bf16⟩
  | .local _ .vmem, ⟨0, _⟩ => ⟨S128x6144, .bf16⟩
  | .local _ .vmem, ⟨1, _⟩ => ⟨S128x6144, .bf16⟩
  | .local _ .vmem, ⟨2, _⟩ => ⟨S16x6144, .bf16⟩
  | .local _ .vmem, ⟨3, _⟩ => ⟨S16x6144, .bf16⟩
  | .local _ .vmem, ⟨4, _⟩ => ⟨S3x2048, .f32⟩
  | .local _ .vmem, ⟨5, _⟩ => ⟨S128x2048, .bf16⟩
  | .local _ .vmem, ⟨6, _⟩ => ⟨S128x2048, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ScFwdRefIdeal.lean ====
abbrev S4096x6144 : Shape := ⟨2, ![4096, 6144]⟩
abbrev S3x2048 : Shape := ⟨2, ![3, 2048]⟩
abbrev S4096x2048 : Shape := ⟨2, ![4096, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩

abbrev nBuf : Space → Nat
  | .hbm => 35
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S3x2048, .f32⟩
  | .hbm, ⟨2, _⟩ => ⟨S4096x6144, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S2x2048, .f32⟩
  | .hbm, ⟨9, _⟩ => ⟨S4098x2048, .f32⟩
  | .hbm, ⟨10, _⟩ => ⟨S4096x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== FfnAct.lean ====
abbrev S4096x11264 : Shape := ⟨2, ![4096, 11264]⟩
abbrev S3x11264 : Shape := ⟨2, ![3, 11264]⟩
abbrev S1x11264 : Shape := ⟨2, ![1, 11264]⟩
abbrev S4096x5632 : Shape := ⟨2, ![4096, 5632]⟩
abbrev S128x11264 : Shape := ⟨2, ![128, 11264]⟩
abbrev S16x11264 : Shape := ⟨2, ![16, 11264]⟩
abbrev S128x5632 : Shape := ⟨2, ![128, 5632]⟩
abbrev S128x512 : Shape := ⟨2, ![128, 512]⟩
abbrev S16x512 : Shape := ⟨2, ![16, 512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x11264, .bf16⟩
  | .hbm, ⟨1, _⟩ => ⟨S3x11264, .f32⟩
  | .hbm, ⟨2, _⟩ => ⟨S1x11264, .f32⟩
  | .hbm, ⟨3, _⟩ => ⟨S4096x5632, .bf16⟩
  | .local _ .vmem, ⟨0, _⟩ => ⟨S128x11264, .bf16⟩
  | .local _ .vmem, ⟨1, _⟩ => ⟨S128x11264, .bf16⟩
  | .local _ .vmem, ⟨2, _⟩ => ⟨S16x11264, .bf16⟩
  | .local _ .vmem, ⟨3, _⟩ => ⟨S16x11264, .bf16⟩
  | .local _ .vmem, ⟨4, _⟩ => ⟨S3x11264, .f32⟩
  | .local _ .vmem, ⟨5, _⟩ => ⟨S1x11264, .f32⟩
  | .local _ .vmem, ⟨6, _⟩ => ⟨S128x5632, .bf16⟩
  | .local _ .vmem, ⟨7, _⟩ => ⟨S128x5632, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnActIdeal.lean ====
abbrev S4096x11264 : Shape := ⟨2, ![4096, 11264]⟩
abbrev S3x11264 : Shape := ⟨2, ![3, 11264]⟩
abbrev S1x11264 : Shape := ⟨2, ![1, 11264]⟩
abbrev S4096x5632 : Shape := ⟨2, ![4096, 5632]⟩
abbrev S128x11264 : Shape := ⟨2, ![128, 11264]⟩
abbrev S16x11264 : Shape := ⟨2, ![16, 11264]⟩
abbrev S128x5632 : Shape := ⟨2, ![128, 5632]⟩
abbrev S128x512 : Shape := ⟨2, ![128, 512]⟩
abbrev S16x512 : Shape := ⟨2, ![16, 512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x11264, .bf16⟩
  | .hbm, ⟨1, _⟩ => ⟨S3x11264, .f32⟩
  | .hbm, ⟨2, _⟩ => ⟨S1x11264, .f32⟩
  | .hbm, ⟨3, _⟩ => ⟨S4096x5632, .bf16⟩
  | .local _ .vmem, ⟨0, _⟩ => ⟨S128x11264, .bf16⟩
  | .local _ .vmem, ⟨1, _⟩ => ⟨S128x11264, .bf16⟩
  | .local _ .vmem, ⟨2, _⟩ => ⟨S16x11264, .bf16⟩
  | .local _ .vmem, ⟨3, _⟩ => ⟨S16x11264, .bf16⟩
  | .local _ .vmem, ⟨4, _⟩ => ⟨S3x11264, .f32⟩
  | .local _ .vmem, ⟨5, _⟩ => ⟨S1x11264, .f32⟩
  | .local _ .vmem, ⟨6, _⟩ => ⟨S128x5632, .bf16⟩
  | .local _ .vmem, ⟨7, _⟩ => ⟨S128x5632, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnActRefIdeal.lean ====
abbrev S4096x11264 : Shape := ⟨2, ![4096, 11264]⟩
abbrev S3x11264 : Shape := ⟨2, ![3, 11264]⟩
abbrev S1x11264 : Shape := ⟨2, ![1, 11264]⟩
abbrev S_ : Shape := ⟨0, ![]⟩
abbrev S2x11264 : Shape := ⟨2, ![2, 11264]⟩
abbrev S4098x11264 : Shape := ⟨2, ![4098, 11264]⟩
abbrev S11264 : Shape := ⟨1, ![11264]⟩
abbrev S4096x5632 : Shape := ⟨2, ![4096, 5632]⟩

abbrev nBuf : Space → Nat
  | .hbm => 45
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S3x11264, .f32⟩
  | .hbm, ⟨2, _⟩ => ⟨S1x11264, .f32⟩
  | .hbm, ⟨3, _⟩ => ⟨S4096x11264, .f32⟩
  | .hbm, ⟨4, _⟩ => ⟨S_, .f32⟩
  | .hbm, ⟨5, _⟩ => ⟨S2x11264, .f32⟩
  | .hbm, ⟨6, _⟩ => ⟨S4098x11264, .f32⟩
  | .hbm, ⟨7, _⟩ => ⟨S4096x11264, .f32⟩
  | .hbm, ⟨8, _⟩ => ⟨S1x11264, .f32⟩
  | .hbm, ⟨9, _⟩ => ⟨S11264, .f32⟩
  | .hbm, ⟨10, _⟩ => ⟨S1x11264, .f32⟩
  | .hbm, ⟨11, _⟩ => ⟨S4096x11264, .f32⟩
  | .hbm, ⟨12, _⟩ => ⟨S4096x11264, .f32⟩
  | .hbm, ⟨13, _⟩ => ⟨S_, .f32⟩
  | .hbm, ⟨14, _⟩ => ⟨S4096x11264, .f32⟩
  | .hbm, ⟨15, _⟩ => ⟨S4096x11264, .f32⟩
  | .hbm, ⟨16, _⟩ => ⟨S4096x11264, .f32⟩
  | .hbm, ⟨17, _⟩ => ⟨S1x11264, .f32⟩
  | .hbm, ⟨18, _⟩ => ⟨S11264, .f32⟩
  | .hbm, ⟨19, _⟩ => ⟨S1x11264, .f32⟩
  | .hbm, ⟨20, _⟩ => ⟨S4096x11264, .f32⟩
  | .hbm, ⟨21, _⟩ => ⟨S4096x11264, .f32⟩
  | .hbm, ⟨22, _⟩ => ⟨S4096x11264, .f32⟩
  | .hbm, ⟨23, _⟩ => ⟨S4096x11264, .f32⟩
  | .hbm, ⟨24, _⟩ => ⟨S1x11264, .f32⟩
  | .hbm, ⟨25, _⟩ => ⟨S11264, .f32⟩
  | .hbm, ⟨26, _⟩ => ⟨S1x11264, .f32⟩
  | .hbm, ⟨27, _⟩ => ⟨S4096x11264, .f32⟩
  | .hbm, ⟨28, _⟩ => ⟨S4096x11264, .f32⟩
  | .hbm, ⟨29, _⟩ => ⟨S4096x11264, .f32⟩
  | .hbm, ⟨30, _⟩ => ⟨S4096x11264, .f32⟩
  | .hbm, ⟨31, _⟩ => ⟨S4096x11264, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S_, .f32⟩
  | .hbm, ⟨37, _⟩ => ⟨S4096x5632, .f32⟩
  | .hbm, ⟨38, _⟩ => ⟨S4096x5632, .f32⟩
  | .hbm, ⟨39, _⟩ => ⟨S_, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== FfnConvDz.lean ====
abbrev S4096x11264 : Shape := ⟨2, ![4096, 11264]⟩
abbrev S3x11264 : Shape := ⟨2, ![3, 11264]⟩
abbrev S128x11264 : Shape := ⟨2, ![128, 11264]⟩
abbrev S16x11264 : Shape := ⟨2, ![16, 11264]⟩
abbrev S128x512 : Shape := ⟨2, ![128, 512]⟩
abbrev S16x512 : Shape := ⟨2, ![16, 512]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S4096x11264, .bf16⟩
  | .hbm, ⟨2, _⟩ => ⟨S3x11264, .f32⟩
  | .hbm, ⟨3, _⟩ => ⟨S4096x11264, .bf16⟩
  | .local _ .vmem, ⟨0, _⟩ => ⟨S128x11264, .bf16⟩
  | .local _ .vmem, ⟨1, _⟩ => ⟨S128x11264, .bf16⟩
  | .local _ .vmem, ⟨2, _⟩ => ⟨S16x11264, .bf16⟩
  | .local _ .vmem, ⟨3, _⟩ => ⟨S16x11264, .bf16⟩
  | .local _ .vmem, ⟨4, _⟩ => ⟨S3x11264, .f32⟩
  | .local _ .vmem, ⟨5, _⟩ => ⟨S128x11264, .bf16⟩
  | .local _ .vmem, ⟨6, _⟩ => ⟨S128x11264, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x11264 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnConvDzIdeal.lean ====
abbrev S4096x11264 : Shape := ⟨2, ![4096, 11264]⟩
abbrev S3x11264 : Shape := ⟨2, ![3, 11264]⟩
abbrev S128x11264 : Shape := ⟨2, ![128, 11264]⟩
abbrev S16x11264 : Shape := ⟨2, ![16, 11264]⟩
abbrev S128x512 : Shape := ⟨2, ![128, 512]⟩
abbrev S16x512 : Shape := ⟨2, ![16, 512]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S4096x11264, .bf16⟩
  | .hbm, ⟨2, _⟩ => ⟨S3x11264, .f32⟩
  | .hbm, ⟨3, _⟩ => ⟨S4096x11264, .bf16⟩
  | .local _ .vmem, ⟨0, _⟩ => ⟨S128x11264, .bf16⟩
  | .local _ .vmem, ⟨1, _⟩ => ⟨S128x11264, .bf16⟩
  | .local _ .vmem, ⟨2, _⟩ => ⟨S16x11264, .bf16⟩
  | .local _ .vmem, ⟨3, _⟩ => ⟨S16x11264, .bf16⟩
  | .local _ .vmem, ⟨4, _⟩ => ⟨S3x11264, .f32⟩
  | .local _ .vmem, ⟨5, _⟩ => ⟨S128x11264, .bf16⟩
  | .local _ .vmem, ⟨6, _⟩ => ⟨S128x11264, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x11264 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnConvDzRefIdeal.lean ====
abbrev S4096x11264 : Shape := ⟨2, ![4096, 11264]⟩
abbrev S3x11264 : Shape := ⟨2, ![3, 11264]⟩
abbrev S_ : Shape := ⟨0, ![]⟩
abbrev S2x11264 : Shape := ⟨2, ![2, 11264]⟩
abbrev S4098x11264 : Shape := ⟨2, ![4098, 11264]⟩
abbrev S1x11264 : Shape := ⟨2, ![1, 11264]⟩
abbrev S11264 : Shape := ⟨1, ![11264]⟩

abbrev nBuf : Space → Nat
  | .hbm => 50
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x11264, .bf16⟩
  | .hbm, ⟨2, _⟩ => ⟨S3x11264, .f32⟩
  | .hbm, ⟨3, _⟩ => ⟨S4096x11264, .f32⟩
  | .hbm, ⟨4, _⟩ => ⟨S_, .f32⟩
  | .hbm, ⟨5, _⟩ => ⟨S2x11264, .f32⟩
  | .hbm, ⟨6, _⟩ => ⟨S4098x11264, .f32⟩
  | .hbm, ⟨7, _⟩ => ⟨S_, .f32⟩
  | .hbm, ⟨8, _⟩ => ⟨S2x11264, .f32⟩
  | .hbm, ⟨9, _⟩ => ⟨S4096x11264, .f32⟩
  | .hbm, ⟨10, _⟩ => ⟨S1x11264, .f32⟩
  | .hbm, ⟨11, _⟩ => ⟨S11264, .f32⟩
  | .hbm, ⟨12, _⟩ => ⟨S1x11264, .f32⟩
  | .hbm, ⟨13, _⟩ => ⟨S4096x11264, .f32⟩
  | .hbm, ⟨14, _⟩ => ⟨S4096x11264, .f32⟩
  | .hbm, ⟨15, _⟩ => ⟨S_, .f32⟩
  | .hbm, ⟨16, _⟩ => ⟨S4096x11264, .f32⟩
  | .hbm, ⟨17, _⟩ => ⟨S4096x11264, .f32⟩
  | .hbm, ⟨18, _⟩ => ⟨S4096x11264, .f32⟩
  | .hbm, ⟨19, _⟩ => ⟨S1x11264, .f32⟩
  | .hbm, ⟨20, _⟩ => ⟨S11264, .f32⟩
  | .hbm, ⟨21, _⟩ => ⟨S1x11264, .f32⟩
  | .hbm, ⟨22, _⟩ => ⟨S4096x11264, .f32⟩
  | .hbm, ⟨23, _⟩ => ⟨S4096x11264, .f32⟩
  | .hbm, ⟨24, _⟩ => ⟨S4096x11264, .f32⟩
  | .hbm, ⟨25, _⟩ => ⟨S4096x11264, .f32⟩
  | .hbm, ⟨26, _⟩ => ⟨S1x11264, .f32⟩
  | .hbm, ⟨27, _⟩ => ⟨S11264, .f32⟩
  | .hbm, ⟨28, _⟩ => ⟨S1x11264, .f32⟩
  | .hbm, ⟨29, _⟩ => ⟨S4096x11264, .f32⟩
  | .hbm, ⟨30, _⟩ => ⟨S4096x11264, .f32⟩
  | .hbm, ⟨31, _⟩ => ⟨S4096x11264, .f32⟩
  | .hbm, ⟨32, _⟩ => ⟨S4096x11264, .f32⟩
  | .hbm, ⟨33, _⟩ => ⟨S4096x11264, .f32⟩
  | .hbm, ⟨34, _⟩ => ⟨S4096x11264, .f32⟩
  | .hbm, ⟨35, _⟩ => ⟨S_, .f32⟩
  | .hbm, ⟨36, _⟩ => ⟨S4098x11264, .f32⟩
  | .hbm, ⟨37, _⟩ => ⟨S4096x11264, .f32⟩
  | .hbm, ⟨38, _⟩ => ⟨S4096x11264, .f32⟩
  | .hbm, ⟨39, _⟩ => ⟨S_, .f32⟩
  | .hbm, ⟨40, _⟩ => ⟨S4098x11264, .f32⟩
  | .hbm, ⟨41, _⟩ => ⟨S4098x11264, .f32⟩
  | .hbm, ⟨42, _⟩ => ⟨S4096x11264, .f32⟩
  | .hbm, ⟨43, _⟩ => ⟨S4096x11264, .f32⟩
  | .hbm, ⟨44, _⟩ => ⟨S_, .f32⟩
  | .hbm, ⟨45, _⟩ => ⟨S4098x11264, .f32⟩
  | .hbm, ⟨46, _⟩ => ⟨S4098x11264, .f32⟩
  | .hbm, ⟨47, _⟩ => ⟨S2x11264, .f32⟩
  | .hbm, ⟨48, _⟩ => ⟨S4096x11264, .f32⟩
  | .hbm, ⟨49, _⟩ => ⟨S4096x11264, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== FoxCum.lean ====
abbrev S4096x128 : Shape := ⟨2, ![4096, 128]⟩
abbrev S1x128 : Shape := ⟨2, ![1, 128]⟩
abbrev S256x128 : Shape := ⟨2, ![256, 128]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S4096x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FoxCumIdeal.lean ====
abbrev S4096x128 : Shape := ⟨2, ![4096, 128]⟩
abbrev S1x128 : Shape := ⟨2, ![1, 128]⟩
abbrev S256x128 : Shape := ⟨2, ![256, 128]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S4096x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FoxCumRefIdeal.lean ====
abbrev S4096x128 : Shape := ⟨2, ![4096, 128]⟩
abbrev S1x128 : Shape := ⟨2, ![1, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S_, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .i1⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S_, .f32⟩
  | .hbm, ⟨21, _⟩ => ⟨S_, .f32⟩
  | .hbm, ⟨22, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v2 : Ref sig .tc := ⟨.hbm, 19, rfl⟩
abbrev main_call1_call0_cst : Ref sig .tc := ⟨.hbm, 20, rfl⟩
abbrev main_call1_call0_v0 : Ref sig .tc := ⟨.hbm, 21, rfl⟩
abbrev main_v3 : Ref sig .tc := ⟨.hbm, 22, rfl⟩

abbrev nD : Nat := 1
abbrev τ : Topo := Topo.v7x

variable {F : FTy → Type} [FloatOps F]
-- ==== FoxCumBwd.lean ====
abbrev S4096x128 : Shape := ⟨2, ![4096, 128]⟩
abbrev S1x128 : Shape := ⟨2, ![1, 128]⟩
abbrev S256x128 : Shape := ⟨2, ![256, 128]⟩
abbrev S256x256 : Shape := ⟨2, ![256, 256]⟩
abbrev S128 : Shape := ⟨1, ![128]⟩

abbrev nBuf : Space → Nat
  | .hbm => 5
  | .vmem => 9
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S1x128, .f32⟩
  | .hbm, ⟨3, _⟩ => ⟨S4096x128, .bf16⟩
  | .hbm, ⟨4, _⟩ => ⟨S1x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S256x128, .bf16⟩
  | .local _ .vmem, ⟨6, _⟩ => ⟨S256x128, .bf16⟩
  | .local _ .vmem, ⟨7, _⟩ => ⟨S1x128, .f32⟩
  | .local _ .vmem, ⟨8, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FoxCumBwdIdeal.lean ====
abbrev S4096x128 : Shape := ⟨2, ![4096, 128]⟩
abbrev S1x128 : Shape := ⟨2, ![1, 128]⟩
abbrev S256x128 : Shape := ⟨2, ![256, 128]⟩
abbrev S256x256 : Shape := ⟨2, ![256, 256]⟩
abbrev S128 : Shape := ⟨1, ![128]⟩

abbrev nBuf : Space → Nat
  | .hbm => 5
  | .vmem => 9
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S1x128, .f32⟩
  | .hbm, ⟨3, _⟩ => ⟨S4096x128, .bf16⟩
  | .hbm, ⟨4, _⟩ => ⟨S1x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S256x128, .bf16⟩
  | .local _ .vmem, ⟨6, _⟩ => ⟨S256x128, .bf16⟩
  | .local _ .vmem, ⟨7, _⟩ => ⟨S1x128, .f32⟩
  | .local _ .vmem, ⟨8, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FoxCumBwdRefIdeal.lean ====
abbrev S4096x128 : Shape := ⟨2, ![4096, 128]⟩
abbrev S1x128 : Shape := ⟨2, ![1, 128]⟩
abbrev S_ : Shape := ⟨0, ![]⟩
abbrev S128 : Shape := ⟨1, ![128]⟩

abbrev nBuf : Space → Nat
  | .hbm => 66
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S1x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S_, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .i1⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S_, .f32⟩
  | .hbm, ⟨21, _⟩ => ⟨S4096x128, .f32⟩
  | .hbm, ⟨22, _⟩ => ⟨S4096x128, .i1⟩
  | .hbm, ⟨23, _⟩ => ⟨S_, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S4096x128, .f32⟩
  | .hbm, ⟨28, _⟩ => ⟨S4096x128, .i1⟩
  | .hbm, ⟨29, _⟩ => ⟨S_, .f32⟩
  | .hbm, ⟨30, _⟩ => ⟨S4096x128, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096x128, .f32⟩
  | .hbm, ⟨42, _⟩ => ⟨S4096x128, .i1⟩
  | .hbm, ⟨43, _⟩ => ⟨S_, .f32⟩
  | .hbm, ⟨44, _⟩ => ⟨S4096x128, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S_, .f32⟩
  | .hbm, ⟨50, _⟩ => ⟨S4096x128, .f32⟩
  | .hbm, ⟨51, _⟩ => ⟨S4096x128, .f32⟩
  | .hbm, ⟨52, _⟩ => ⟨S4096x128, .f32⟩
  | .hbm, ⟨53, _⟩ => ⟨S_, .f32⟩
  | .hbm, ⟨54, _⟩ => ⟨S_, .f32⟩
  | .hbm, ⟨55, _⟩ => ⟨S4096x128, .f32⟩
  | .hbm, ⟨56, _⟩ => ⟨S_, .f32⟩
  | .hbm, ⟨57, _⟩ => ⟨S_, .f32⟩
  | .hbm, ⟨58, _⟩ => ⟨S4096x128, .f32⟩
  | .hbm, ⟨59, _⟩ => ⟨S4096x128, .f32⟩
  | .hbm, ⟨60, _⟩ => ⟨S4096x128, .f32⟩
  | .hbm, ⟨61, _⟩ => ⟨S4096x128, .f32⟩
  | .hbm, ⟨62, _⟩ => ⟨S_, .f32⟩
  | .hbm, ⟨63, _⟩ => ⟨S128, .f32⟩
  | .hbm, ⟨64, _⟩ => ⟨S1x128, .f32⟩
  | .hbm, ⟨65, _⟩ => ⟨S4096x128, .bf16⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1_0 : Ref sig .tc := ⟨.hbm, 19, rfl⟩
abbrev main_call0_call0_cst_0 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst_1 : Ref sig .tc := ⟨.hbm, 23, rfl⟩
abbrev main_call0_call0_v15 : Ref sig .tc := ⟨.hbm, 24, rfl⟩
abbrev main_call0_call0_v16 : Ref sig .tc := ⟨.hbm, 25, rfl⟩
abbrev main_call0_call0_cst_2 : Ref sig .tc := ⟨.hbm, 26, rfl⟩
abbrev main_call0_call0_v17 : Ref sig .tc := ⟨.hbm, 27, rfl⟩
abbrev main_call0_call0_v18 : Ref sig .tc := ⟨.hbm, 28, rfl⟩
abbrev main_call0_call0_cst_3 : Ref sig .tc := ⟨.hbm, 29, rfl⟩
abbrev main_call0_call0_v19 : Ref sig .tc := ⟨.hbm, 30, rfl⟩
abbrev main_call0_call0_v20 : Ref sig .tc := ⟨.hbm, 31, rfl⟩
abbrev main_call0_call0_v21 : Ref sig .tc := ⟨.hbm, 32, rfl⟩
abbrev main_v2_1 : Ref sig .tc := ⟨.hbm, 33, rfl⟩
abbrev main_call0_call0_cst_4 : Ref sig .tc := ⟨.hbm, 34, rfl⟩
abbrev main_call0_call0_cst_5 : Ref sig .tc := ⟨.hbm, 35, rfl⟩
abbrev main_call0_call0_v23 : Ref sig .tc := ⟨.hbm, 36, rfl⟩
abbrev main_call0_call0_cst_6 : Ref sig .tc := ⟨.hbm, 37, rfl⟩
abbrev main_call0_call0_cst_7 : Ref sig .tc := ⟨.hbm, 38, rfl⟩
abbrev main_call0_call0_v24 : Ref sig .tc := ⟨.hbm, 39, rfl⟩
abbrev main_call0_call0_cst_8 : Ref sig .tc := ⟨.hbm, 40, rfl⟩
abbrev main_call0_call0_v25 : Ref sig .tc := ⟨.hbm, 41, rfl⟩
abbrev main_call0_call0_v26 : Ref sig .tc := ⟨.hbm, 42, rfl⟩
abbrev main_call0_call0_cst_9 : Ref sig .tc := ⟨.hbm, 43, rfl⟩
abbrev main_call0_call0_v27 : Ref sig .tc := ⟨.hbm, 44, rfl⟩
abbrev main_call0_call0_v28 : Ref sig .tc := ⟨.hbm, 45, rfl⟩
abbrev main_call0_call0_v29 : Ref sig .tc := ⟨.hbm, 46, rfl⟩
abbrev main_call0_call0_v30 : Ref sig .tc := ⟨.hbm, 47, rfl⟩
abbrev main_call0_call0_v31 : Ref sig .tc := ⟨.hbm, 48, rfl⟩
abbrev main_call0_call0_cst_10 : Ref sig .tc := ⟨.hbm, 49, rfl⟩
abbrev main_call0_call0_v32 : Ref sig .tc := ⟨.hbm, 50, rfl⟩
abbrev main_v2_2 : Ref sig .tc := ⟨.hbm, 51, rfl⟩
abbrev main_v2_0 : Ref sig .tc := ⟨.hbm, 52, rfl⟩
abbrev main_call1_call0_cst : Ref sig .tc := ⟨.hbm, 53, rfl⟩
abbrev main_call1_call0_v0 : Ref sig .tc := ⟨.hbm, 54, rfl⟩
abbrev main_v3 : Ref sig .tc := ⟨.hbm, 55, rfl⟩
abbrev main_call2_call0_cst : Ref sig .tc := ⟨.hbm, 56, rfl⟩
abbrev main_call2_call0_v0 : Ref sig .tc := ⟨.hbm, 57, rfl⟩
abbrev main_v4 : Ref sig .tc := ⟨.hbm, 58, rfl⟩
abbrev main_call3_v0 : Ref sig .tc := ⟨.hbm, 59, rfl⟩
abbrev main_call3_v1 : Ref sig .tc := ⟨.hbm, 60, rfl⟩
abbrev main_v5 : Ref sig .tc := ⟨.hbm, 61, rfl⟩
abbrev main_cst : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩

abbrev nD : Nat := 1
abbrev τ : Topo := Topo.v7x

variable {F : FTy → Type} [FloatOps F]
-- ==== Lb.lean ====
abbrev S5x2048 : Shape := ⟨2, ![5, 2048]⟩
abbrev S1x2048 : Shape := ⟨2, ![1, 2048]⟩

abbrev nBuf : Space → Nat
  | .hbm => 2
  | .vmem => 2
  | .smem => 0
  | _ => 0

abbrev bufTy : (tb : Table) → Fin (tcTables nBuf tb) → BufTy
  | .hbm, ⟨0, _⟩ => ⟨S5x2048, .f32⟩
  | .hbm, ⟨1, _⟩ => ⟨S1x2048, .f32⟩
  | .local _ .vmem, ⟨0, _⟩ => ⟨S5x2048, .f32⟩
  | .local _ .vmem, ⟨1, _⟩ => ⟨S1x2048, .f32⟩
  | _, _ => ⟨S5x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S5x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== LbIdeal.lean ====
abbrev S5x2048 : Shape := ⟨2, ![5, 2048]⟩
abbrev S1x2048 : Shape := ⟨2, ![1, 2048]⟩

abbrev nBuf : Space → Nat
  | .hbm => 2
  | .vmem => 2
  | .smem => 0
  | _ => 0

abbrev bufTy : (tb : Table) → Fin (tcTables nBuf tb) → BufTy
  | .hbm, ⟨0, _⟩ => ⟨S5x2048, .f32⟩
  | .hbm, ⟨1, _⟩ => ⟨S1x2048, .f32⟩
  | .local _ .vmem, ⟨0, _⟩ => ⟨S5x2048, .f32⟩
  | .local _ .vmem, ⟨1, _⟩ => ⟨S1x2048, .f32⟩
  | _, _ => ⟨S5x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S5x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== LbRefIdeal.lean ====
abbrev S5x2048 : Shape := ⟨2, ![5, 2048]⟩
abbrev S_ : Shape := ⟨0, ![]⟩
abbrev S2048 : Shape := ⟨1, ![2048]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S5x2048, .f32⟩
  | .hbm, ⟨1, _⟩ => ⟨S_, .f32⟩
  | .hbm, ⟨2, _⟩ => ⟨S_, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S5x2048, .f32⟩
  | .hbm, ⟨9, _⟩ => ⟨S5x2048, .f32⟩
  | .hbm, ⟨10, _⟩ => ⟨S5x2048, .f32⟩
  | .hbm, ⟨11, _⟩ => ⟨S_, .f32⟩
  | .hbm, ⟨12, _⟩ => ⟨S2048, .f32⟩
  | .hbm, ⟨13, _⟩ => ⟨S1x2048, .f32⟩
  | .hbm, ⟨14, _⟩ => ⟨S5x2048, .f32⟩
  | .hbm, ⟨15, _⟩ => ⟨S5x2048, .f32⟩
  | .hbm, ⟨16, _⟩ => ⟨S_, .f32⟩
  | .hbm, ⟨17, _⟩ => ⟨S_, .f32⟩
  | .hbm, ⟨18, _⟩ => ⟨S5x2048, .f32⟩
  | .hbm, ⟨19, _⟩ => ⟨S1x2048, .f32⟩
  | _, _ => ⟨S5x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_call0_cst : Ref sig .tc := ⟨.hbm, 16, rfl⟩
abbrev main_call0_call0_v0 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== LbBwd.lean ====
abbrev S5x2048 : Shape := ⟨2, ![5, 2048]⟩
abbrev S1x2048 : Shape := ⟨2, ![1, 2048]⟩

abbrev nBuf : Space → Nat
  | .hbm => 3
  | .vmem => 3
  | .smem => 0
  | _ => 0

abbrev bufTy : (tb : Table) → Fin (tcTables nBuf tb) → BufTy
  | .hbm, ⟨0, _⟩ => ⟨S5x2048, .f32⟩
  | .hbm, ⟨1, _⟩ => ⟨S1x2048, .f32⟩
  | .hbm, ⟨2, _⟩ => ⟨S5x2048, .f32⟩
  | .local _ .vmem, ⟨0, _⟩ => ⟨S5x2048, .f32⟩
  | .local _ .vmem, ⟨1, _⟩ => ⟨S1x2048, .f32⟩
  | .local _ .vmem, ⟨2, _⟩ => ⟨S5x2048, .f32⟩
  | _, _ => ⟨S5x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S5x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== LbBwdRefIdeal.lean ====
abbrev S5x2048 : Shape := ⟨2, ![5, 2048]⟩
abbrev S1x2048 : Shape := ⟨2, ![1, 2048]⟩
abbrev S_ : Shape := ⟨0, ![]⟩
abbrev S2048 : Shape := ⟨1, ![2048]⟩

abbrev nBuf : Space → Nat
  | .hbm => 36
  | .vmem => 0
  | .smem => 0
  | _ => 0

abbrev bufTy : (tb : Table) → Fin (tcTables nBuf tb) → BufTy
  | .hbm, ⟨0, _⟩ => ⟨S5x2048, .f32⟩
  | .hbm, ⟨1, _⟩ => ⟨S1x2048, .f32⟩
  | .hbm, ⟨2, _⟩ => ⟨S_, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S5x2048, .f32⟩
  | .hbm, ⟨10, _⟩ => ⟨S5x2048, .f32⟩
  | .hbm, ⟨11, _⟩ => ⟨S5x2048, .f32⟩
  | .hbm, ⟨12, _⟩ => ⟨S_, .f32⟩
  | .hbm, ⟨13, _⟩ => ⟨S2048, .f32⟩
  | .hbm, ⟨14, _⟩ => ⟨S1x2048, .f32⟩
  | .hbm, ⟨15, _⟩ => ⟨S5x2048, .f32⟩
  | .hbm, ⟨16, _⟩ => ⟨S5x2048, .f32⟩
  | .hbm, ⟨17, _⟩ => ⟨S_, .f32⟩
  | .hbm, ⟨18, _⟩ => ⟨S_, .f32⟩
  | .hbm, ⟨19, _⟩ => ⟨S5x2048, .f32⟩
  | .hbm, ⟨20, _⟩ => ⟨S1x2048, .f32⟩
  | .hbm, ⟨21, _⟩ => ⟨S_, .f32⟩
  | .hbm, ⟨22, _⟩ => ⟨S5x2048, .f32⟩
  | .hbm, ⟨23, _⟩ => ⟨S_, .f32⟩
  | .hbm, ⟨24, _⟩ => ⟨S_, .f32⟩
  | .hbm, ⟨25, _⟩ => ⟨S5x2048, .f32⟩
  | .hbm, ⟨26, _⟩ => ⟨S5x2048, .f32⟩
  | .hbm, ⟨27, _⟩ => ⟨S5x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S_, .f32⟩
  | .hbm, ⟨32, _⟩ => ⟨S2048, .f32⟩
  | .hbm, ⟨33, _⟩ => ⟨S5x2048, .f32⟩
  | .hbm, ⟨34, _⟩ => ⟨S5x2048, .f32⟩
  | .hbm, ⟨35, _⟩ => ⟨S5x2048, .f32⟩
  | _, _ => ⟨S5x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_call0_cst : Ref sig .tc := ⟨.hbm, 17, rfl⟩
abbrev main_call0_call0_v0 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_call1_call0_cst : Ref sig .tc := ⟨.hbm, 23, rfl⟩
abbrev main_call1_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Proof.Rows.lean ====
module

public import Idealize.ShloMosaic.Lib.Pipeline.ValueKit
public import Idealize.ShloMosaic.Lib.Pipeline.ReadBack
public import Idealize.ShloMosaic.Lib.WritesUnit

@[expose] public section

/-!
Readings shared by the value proofs: an array read at a pair of natural numbers, the rows one and two steps before or
after a row, and the contents of a buffer that several stores went to.
-/

set_option maxRecDepth 16384
noncomputable section

namespace Rows
open Idealize.ShloMosaic Idealize.ShloMosaic.Pipeline

/-- A rank-two array at row `r` and column `q`, zero outside the array. -/
def rd {a b : ℕ} (x : (⟨2, ![a, b]⟩ : Shape).Idx → EReal) (r q : ℕ) : EReal :=
  if h : r < a ∧ q < b then x (ix2 ⟨r, h.1⟩ ⟨q, h.2⟩) else 0

/-- An entry of the array is its reading at the two coordinates. -/
theorem rd_ix2 {a b : ℕ} (x : (⟨2, ![a, b]⟩ : Shape).Idx → EReal) (r : Fin a) (q : Fin b) :
    x (ix2 r q) = rd x r q := by
  unfold rd; rw [dif_pos ⟨r.isLt, q.isLt⟩]

/-- The entry at an index is the reading at its coordinates. -/
theorem rd_idx {a b : ℕ} (x : (⟨2, ![a, b]⟩ : Shape).Idx → EReal) (y : (⟨2, ![a, b]⟩ : Shape).Idx) :
    x y = rd x (y 0) (y 1) := by
  refine Eq.trans (congrArg x ?_) (rd_ix2 x (y 0) (y 1))
  funext i; fin_cases i <;> rfl

theorem ix2_zero {a b : ℕ} (i : Fin a) (j : Fin b) : (ix2 i j : (⟨2, ![a, b]⟩ : Shape).Idx) 0 = i := rfl
theorem ix2_one {a b : ℕ} (i : Fin a) (j : Fin b) : (ix2 i j : (⟨2, ![a, b]⟩ : Shape).Idx) 1 = j := rfl

/-- Every index of a rank-two array is a pair. -/
theorem exists_ix2 {a b : ℕ} (y : (⟨2, ![a, b]⟩ : Shape).Idx) : ∃ (i : Fin a) (j : Fin b), y = ix2 i j :=
  ⟨y 0, y 1, by funext i; fin_cases i <;> rfl⟩
theorem val_14 : ((14 : Fin 16) : ℕ) = 14 := rfl
theorem val_15 : ((15 : Fin 16) : ℕ) = 15 := rfl

/-- Below the last row the reading is zero. -/
theorem rd_of_le {a b : ℕ} (x : (⟨2, ![a, b]⟩ : Shape).Idx → EReal) {r : ℕ} (h : a ≤ r) (q : ℕ) : rd x r q = 0 := by
  unfold rd; rw [dif_neg (by omega)]

/-- The value of `f` `k` rows before `r`, zero before the first row. -/
def back (f : ℕ → EReal) (k r : ℕ) : EReal := if k ≤ r then f (r - k) else 0

theorem back_zero (f : ℕ → EReal) (r : ℕ) : back f 0 r = f r := by unfold back; rw [if_pos (Nat.zero_le _), Nat.sub_zero]

/-- The choice by the equality of two small words is the choice by the equality of the numbers. -/
theorem select_eq {α : Type} (a b : ℕ) (ha : a < 2 ^ 32) (hb : b < 2 ^ 32) (u v : α) :
    Scalar.select (IntOp.cmpi .eq (BitVec.ofNat 32 a) (BitVec.ofNat 32 b)) u v = if a = b then u else v := by
  have h : BitVec.ofNat 32 a = BitVec.ofNat 32 b ↔ a = b := by
    rw [← BitVec.toNat_inj, BitVec.toNat_ofNat, BitVec.toNat_ofNat, Nat.mod_eq_of_lt ha, Nat.mod_eq_of_lt hb]
  by_cases hab : a = b
  · subst hab; simp [Scalar.select, IntOp.cmpi]
  · have := mt h.mp hab
    simp [Scalar.select, IntOp.cmpi, hab, beq_eq_false_iff_ne.mpr this]

theorem select_eq' {α : Type} (a b : ℕ) (ha : a < 2 ^ 32) (hb : b < 2 ^ 32) (u v : α) :
    Scalar.select (Scalar.cmpi .eq (BitVec.ofNat 32 a) (BitVec.ofNat 32 b)) u v = if a = b then u else v :=
  select_eq a b ha hb u v

/-- The next row's value, as a block of 128 rows and the first rows of the following block give it. -/
theorem up_one (f : ℕ → EReal) (hf : ∀ r, 4096 ≤ r → f r = 0) {t x : ℕ} (ht : t < 32) (hx : x < 128) :
    (if x = 127 then (if t = 31 then 0 else f (16 * min (8 * (t + 1)) 255)) else f (128 * t + (x + 128 - 127) % 128))
      = f (128 * t + x + 1) := by
  split_ifs with h1 h2
  · rw [hf]; omega
  · congr 1; omega
  · congr 1; omega

/-- The value two rows on. -/
theorem up_two (f : ℕ → EReal) (hf : ∀ r, 4096 ≤ r → f r = 0) {t x : ℕ} (ht : t < 32) (hx : x < 128) :
    (if x = 127 then (if t = 31 then 0 else f (16 * min (8 * (t + 1)) 255 + 1)) else
      if x = 126 then (if t = 31 then 0 else f (16 * min (8 * (t + 1)) 255)) else f (128 * t + (x + 128 - 126) % 128))
      = f (128 * t + x + 2) := by
  split_ifs with h1 h2 h3 h4
  · rw [hf]; omega
  · congr 1; omega
  · rw [hf]; omega
  · congr 1; omega
  · congr 1; omega

/-- The value one row before. -/
theorem down_one (f : ℕ → EReal) {t x : ℕ} (hx : x < 128) :
    (if x = 0 then (if t = 0 then 0 else f (16 * (8 * t - 1) + 15)) else f (128 * t + (x + 128 - 1) % 128))
      = back f 1 (128 * t + x) := by
  unfold back
  split_ifs with h1 h2 h3 h4 <;> first | rfl | omega | (congr 1; omega)

/-- The value two rows before. -/
theorem down_two (f : ℕ → EReal) {t x : ℕ} (hx : x < 128) :
    (if x = 0 then (if t = 0 then 0 else f (16 * (8 * t - 1) + 14)) else
      if x = 1 then (if t = 0 then 0 else f (16 * (8 * t - 1) + 15)) else f (128 * t + (x + 128 - 2) % 128))
      = back f 2 (128 * t + x) := by
  unfold back
  split_ifs with h1 h2 h3 h4 h5 h6 <;> first | rfl | omega | (congr 1; omega)

section Stores
variable {Val : EltTy → Type} {S : Shape} {e : EltTy}

/-- What a list of stores leaves at `y`: the newest store's value where it holds `y`, what the others leave where it
does not. -/
theorem canon_cases [∀ e, Nonempty (Val e)] {off size : Fin S.rank → ℕ} {inb : ∀ a, off a + size a ≤ S.size a}
    {w : (Rect.unit off size inb).shape.Idx → Val e} {L : List (View.Piece Val S e)} {y : S.Idx} {v : Val e}
    (h : ∀ x : (Rect.unit off size inb).shape.Idx, (∀ a, (y a).val = off a + (x a).val) → w x = v)
    (h' : (¬ ∀ a, off a ≤ (y a).val ∧ (y a).val < off a + size a) → View.canon L y = v) :
    View.canon (⟨Rect.unit off size inb, w⟩ :: L) y = v := by
  by_cases hm : ∀ a, off a ≤ (y a).val ∧ (y a).val < off a + size a
  · have e : (Rect.unit off size inb).emb (Rect.unitLocal (s := S) (off := off) (size := size) y hm) = y := by
      funext a
      ext
      have := hm a
      show off a + 1 * ((y a).val - off a) = _
      omega
    refine Eq.trans (congrArg _ e.symm) ((View.canon_cons_emb _ w L _).trans (h _ fun a => ?_))
    rw [Rect.unitLocal_val]
    have := hm a
    omega
  · have hn : y ∉ (Rect.unit off size inb).set := by
      rw [Rect.mem_set_unit]
      exact hm
    exact (View.canon_cons_of_not_mem ⟨Rect.unit off size inb, w⟩ L hn).trans (h' hm)

/-- The same for a buffer whose earlier contents are known. -/
theorem read_cases {sig : RefSig} {κ : Kind} {sp : Space} (v : View sig κ sp S e) (f : v.ty.Contents Val)
    {off size : Fin S.rank → ℕ} {inb : ∀ a, off a + size a ≤ S.size a}
    {w : (Rect.unit off size inb).shape.Idx → Val e} {L : List (View.Piece Val S e)} {y : S.Idx} {u : Val e}
    (h : ∀ x : (Rect.unit off size inb).shape.Idx, (∀ a, (y a).val = off a + (x a).val) → w x = u)
    (h' : (¬ ∀ a, off a ≤ (y a).val ∧ (y a).val < off a + size a) → v.read Val (v.writes Val f L) y = u) :
    v.read Val (v.writes Val f (⟨Rect.unit off size inb, w⟩ :: L)) y = u := by
  rw [View.read_writes_cons_unit v f inb w L y rfl]
  split_ifs with hc
  · refine h _ fun a => ?_
    rw [Rect.unitLocal_val]
    have := hc a
    omega
  · exact h' hc

end Stores

end Rows
-- ==== Proof.Blocks.lean ====
module

public import proofs.«01_k».proof.Proof.Gen.KernelIdeal.Value
public import proofs.«01_k».proof.Proof.Rows

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Rows

variable (m : (ℓ : Loc nD τ sig) → Buf (Elt Ideal) ℓ)

/-- The kernel's first argument, the projections, as a plain array. -/
def argP (c : Dev nD) : S4096x6144.Idx → EReal := m ((c : Thread nD τ).loc main_arg0)
/-- The taps of the convolution. -/
def argW (c : Dev nD) : S3x2048.Idx → EReal := m ((c : Thread nD τ).loc main_arg1)
/-- The gradient that comes in. -/
def argD (c : Dev nD) : S4096x2048.Idx → EReal := m ((c : Thread nD τ).loc main_arg2)

/-- Where each window lies at a point of the grid. -/
theorem idx : ∀ t : Fin cfg0.N,
    win0_0.index t = ![t.val, 0] ∧ win0_1.index t = ![8 * t.val - 1, 0] ∧ win0_2.index t = ![min (8 * (t.val + 1)) 255, 0]
    ∧ win0_3.index t = ![t.val, 0] ∧ win0_4.index t = ![min (8 * (t.val + 1)) 255, 0] ∧ win0_5.index t = ![0, 0]
    ∧ win0_6.index t = ![t.val, 0] ∧ win0_7.index t = ![0, 0] ∧ (grid0.coords t 0).val = t.val :=
  (by decide +kernel : ∀ t : Fin grid0.N, _)

/-- A block of the projections. -/
theorem iblk0 (c : Dev nD) (t : Fin cfg0.N) (y : S128x6144.Idx) :
    iblk m c 0 t y = rd (argP m c) (128 * t.val + (y 0).val) (y 1).val := by
  have ht : t.val < 32 := t.isLt
  idx_bounds y
  unfold rd; rw [dif_pos (by omega)]
  unfold argP
  blk_ext [iblk, V, idx t]

/-- The sixteen rows of the projections that end before the block. -/
theorem iblk1 (c : Dev nD) (t : Fin cfg0.N) (y : S16x6144.Idx) :
    iblk m c 1 t y = rd (argP m c) (16 * (8 * t.val - 1) + (y 0).val) (y 1).val := by
  have ht : t.val < 32 := t.isLt
  idx_bounds y
  unfold rd; rw [dif_pos (by omega)]
  unfold argP
  blk_ext [iblk, V, idx t]

/-- The sixteen rows of the projections after the block. -/
theorem iblk2 (c : Dev nD) (t : Fin cfg0.N) (y : S16x6144.Idx) :
    iblk m c 2 t y = rd (argP m c) (16 * min (8 * (t.val + 1)) 255 + (y 0).val) (y 1).val := by
  have ht : t.val < 32 := t.isLt
  idx_bounds y
  unfold rd; rw [dif_pos (by omega)]
  unfold argP
  blk_ext [iblk, V, idx t]

/-- A block of the incoming gradient. -/
theorem iblk3 (c : Dev nD) (t : Fin cfg0.N) (y : S128x2048.Idx) :
    iblk m c 3 t y = rd (argD m c) (128 * t.val + (y 0).val) (y 1).val := by
  have ht : t.val < 32 := t.isLt
  idx_bounds y
  unfold rd; rw [dif_pos (by omega)]
  unfold argD
  blk_ext [iblk, V, idx t]

/-- The sixteen rows of the incoming gradient after the block. -/
theorem iblk4 (c : Dev nD) (t : Fin cfg0.N) (y : S16x2048.Idx) :
    iblk m c 4 t y = rd (argD m c) (16 * min (8 * (t.val + 1)) 255 + (y 0).val) (y 1).val := by
  have ht : t.val < 32 := t.isLt
  idx_bounds y
  unfold rd; rw [dif_pos (by omega)]
  unfold argD
  blk_ext [iblk, V, idx t]

/-- The taps. -/
theorem iblk5 (c : Dev nD) (t : Fin cfg0.N) (y : S3x2048.Idx) :
    iblk m c 5 t y = rd (argW m c) ((y 0).val) (y 1).val := by
  have ht : t.val < 32 := t.isLt
  idx_bounds y
  unfold rd; rw [dif_pos (by omega)]
  unfold argW
  blk_ext [iblk, V, idx t]

end Cert.KernelIdeal.Value

end
-- ==== Proof.Spec.lean ====
module

public import proofs.«01_k».proof.Proof.Rows

@[expose] public section

/-!
The gradient of the short gated convolution as plain formulas over the three arrays it takes.
-/

noncomputable section

namespace SConv
open Idealize.ShloMosaic Idealize.ShloMosaic.Pipeline Rows

variable (p : (⟨2, ![4096, 6144]⟩ : Shape).Idx → EReal) (w : (⟨2, ![3, 2048]⟩ : Shape).Idx → EReal)
  (d : (⟨2, ![4096, 2048]⟩ : Shape).Idx → EReal)

/-- The gated input of the convolution, channel `j`, row `r`. -/
def z (j r : ℕ) : EReal := rd p r (2048 + j) * rd p r (4096 + j)

/-- The gradient of the convolution's output: the incoming gradient times the outer gate. -/
def g (j r : ℕ) : EReal := rd d r j * rd p r j

/-- The gradient of the convolution's input: the taps against the gradient of this row and of the two rows after. -/
def dz (j r : ℕ) : EReal := rd w 2 j * g p d j r + rd w 1 j * g p d j (r + 1) + rd w 0 j * g p d j (r + 2)

/-- The convolution's output. -/
def cz (j r : ℕ) : EReal := rd w 2 j * z p j r + rd w 1 j * back (z p j) 1 r + rd w 0 j * back (z p j) 2 r

/-- The gradient of the projections: a third of the columns each for the outer gate, the inner gate and the input. -/
def dproj (r q : ℕ) : EReal :=
  if q < 2048 then rd d r q * cz p w q r
  else if q < 4096 then dz p w d (q - 2048) r * rd p r (q + 2048)
  else dz p w d (q - 4096) r * rd p r (q - 2048)

/-- One row's part of the gradient of tap `k`. -/
def tapTerm (k j r : ℕ) : EReal := g p d j r * back (z p j) (2 - k) r

/-- The part of the gradient of tap `k` that the rows of block `t` give. -/
def tapPart (t k j : ℕ) : EReal := if k < 3 then ∑ x : Fin 128, tapTerm p d k j (128 * t + x.val) else 0

theorem tapPart_of_lt {t k j : ℕ} (h : k < 3) :
    tapPart p d t k j = ∑ x : Fin 128, tapTerm p d k j (128 * t + x.val) := if_pos h

theorem tapPart_of_le {t k j : ℕ} (h : 3 ≤ k) : tapPart p d t k j = 0 := if_neg (by omega)

/-- The gradient of the taps in eight rows, of which the last five are zero. -/
def dtap (k j : ℕ) : EReal := if k < 3 then ∑ r : Fin 4096, tapTerm p d k j r.val else 0

/-- The gradient of the taps is the sum of the 32 blocks' parts. -/
theorem dtap_parts (k j : ℕ) : ∑ s ∈ Finset.range 32, tapPart p d s k j = dtap p d k j := by
  unfold dtap
  split_ifs with h
  · rw [Finset.sum_congr rfl fun s _ => tapPart_of_lt p d h, Finset.sum_range]
    exact Fin.sum_mul_add_congr (f := fun r : Fin 4096 => tapTerm p d k j r.val) fun s x hl => by rw [Nat.mul_comm]
  · exact Finset.sum_eq_zero fun s _ => tapPart_of_le p d (by omega)

theorem z_zero (j r : ℕ) (h : 4096 ≤ r) : z p j r = 0 := by unfold z; rw [rd_of_le _ h, zero_mul]
theorem g_zero (j r : ℕ) (h : 4096 ≤ r) : g p d j r = 0 := by unfold g; rw [rd_of_le _ h, zero_mul]

/-- The gradient of the convolution's input as a block of 128 rows and the next rows give it. -/
theorem dz_block {t x : ℕ} (j : ℕ) (ht : t < 32) (hx : x < 128) :
    rd w 2 j * (rd d (128 * t + x) j * rd p (128 * t + x) j)
      + rd w 1 j * (if x = 127 then
          (if t = 31 then 0 else rd d (16 * min (8 * (t + 1)) 255) j * rd p (16 * min (8 * (t + 1)) 255) j)
          else rd d (128 * t + (x + 128 - 127) % 128) j * rd p (128 * t + (x + 128 - 127) % 128) j)
      + rd w 0 j * (if x = 127 then
          (if t = 31 then 0 else rd d (16 * min (8 * (t + 1)) 255 + 1) j * rd p (16 * min (8 * (t + 1)) 255 + 1) j)
          else if x = 126 then
          (if t = 31 then 0 else rd d (16 * min (8 * (t + 1)) 255) j * rd p (16 * min (8 * (t + 1)) 255) j)
          else rd d (128 * t + (x + 128 - 126) % 128) j * rd p (128 * t + (x + 128 - 126) % 128) j)
      = dz p w d j (128 * t + x) := by
  have h1 := up_one (g p d j) (g_zero p d j) ht hx
  have h2 := up_two (g p d j) (g_zero p d j) ht hx
  simp only [g] at h1 h2
  rw [h1, h2]
  rfl

/-- The value of the gated input one row before, as a block of 128 rows gives it. -/
theorem z_one {t x : ℕ} (j u v : ℕ) (hu : u = 2048 + j) (hv : v = 4096 + j) (hx : x < 128) :
    (if x = 0 then
      (if t = 0 then 0 else rd p (16 * (8 * t - 1) + 15) u * rd p (16 * (8 * t - 1) + 15) v)
      else rd p (128 * t + (x + 128 - 1) % 128) u * rd p (128 * t + (x + 128 - 1) % 128) v)
      = back (z p j) 1 (128 * t + x) := by
  subst hu hv
  have h1 := down_one (z p j) (t := t) hx
  simp only [z] at h1
  exact h1

/-- The same two rows before. -/
theorem z_two {t x : ℕ} (j u v : ℕ) (hu : u = 2048 + j) (hv : v = 4096 + j) (hx : x < 128) :
    (if x = 0 then
      (if t = 0 then 0 else rd p (16 * (8 * t - 1) + 14) u * rd p (16 * (8 * t - 1) + 14) v)
      else if x = 1 then
      (if t = 0 then 0 else rd p (16 * (8 * t - 1) + 15) u * rd p (16 * (8 * t - 1) + 15) v)
      else rd p (128 * t + (x + 128 - 2) % 128) u * rd p (128 * t + (x + 128 - 2) % 128) v)
      = back (z p j) 2 (128 * t + x) := by
  subst hu hv
  have h1 := down_two (z p j) (t := t) hx
  simp only [z] at h1
  exact h1

end SConv
end
-- ==== Proof.Point.lean ====
module
public import proofs.«01_k».proof.Proof.Blocks
public import proofs.«01_k».proof.Proof.Spec
@[expose] public section
set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Rows

variable (m : (ℓ : Loc nD τ sig) → Buf (Elt Ideal) ℓ)

/-- What the first point stores of the projections' gradient. -/
theorem dproj_A (c : Dev nD) (t : Fin cfg0.N) (h0 : t.val % 32 = 0) (y : S128x6144.Idx) :
    (outsAt0 m c t.val t.isLt).1 y
      = SConv.dproj (argP m c) (argW m c) (argD m c) (128 * t.val + (y 0).val) (y 1).val := by
  rw [outsAt0_A m c t h0]
  frame_out
  obtain ⟨-, -, -, -, -, -, -, -, hg⟩ := idx t
  have ht : t.val < 32 := t.isLt
  canon_tiles x h
  all_goals
    obtain ⟨a, b, rfl⟩ := exists_ix2 (a := 128) (b := 512) x
    simp only [ix2_zero, ix2_one] at h0 h1 x0_lt x1_lt
    unfold_payloads
    pointwise
    simp only [iblk0, iblk1, iblk2, iblk3, iblk4, iblk5, hg, ix2_zero, ix2_one, Fin.isValue, Fin.val_zero, Fin.val_one, Fin.val_two,
      val_14, val_15, add_zero]
    simp (disch := first | omega | exact lt_of_lt_of_le (Fin.isLt _) (by decide)) only [select_eq, select_eq']
    unfold SConv.dproj
    rw [h0]
    first
      | rw [SConv.dz_block _ _ _ _ ht a.isLt]
        split_ifs <;> first
          | omega
          | exact congr_arg₂ (· * ·) (congrArg (SConv.dz _ _ _ · _) (by omega)) (congrArg (rd _ _) (by omega))
      | rw [SConv.z_one _ (y 1).val _ _ ?hu ?hv a.isLt, SConv.z_two _ (y 1).val _ _ ?hu ?hv a.isLt]
        case hu => omega
        case hv => omega
        rw [if_pos (by omega), h1]
        simp only [SConv.cz, SConv.z]
        try simp only [← Nat.add_assoc, Nat.reduceAdd, Nat.zero_add]

/-- What every later point stores of the projections' gradient. -/
theorem dproj_B (c : Dev nD) (t : Fin cfg0.N) (h0 : ¬ t.val % 32 = 0) (y : S128x6144.Idx) :
    (outsAt0 m c t.val t.isLt).1 y
      = SConv.dproj (argP m c) (argW m c) (argD m c) (128 * t.val + (y 0).val) (y 1).val := by
  rw [outsAt0_B m c t h0]
  frame_out
  obtain ⟨-, -, -, -, -, -, -, -, hg⟩ := idx t
  have ht : t.val < 32 := t.isLt
  canon_tiles x h
  all_goals
    obtain ⟨a, b, rfl⟩ := exists_ix2 (a := 128) (b := 512) x
    simp only [ix2_zero, ix2_one] at h0 h1 x0_lt x1_lt
    unfold_payloads
    pointwise
    simp only [iblk0, iblk1, iblk2, iblk3, iblk4, iblk5, hg, ix2_zero, ix2_one, Fin.isValue, Fin.val_zero, Fin.val_one, Fin.val_two,
      val_14, val_15, add_zero]
    simp (disch := first | omega | exact lt_of_lt_of_le (Fin.isLt _) (by decide)) only [select_eq, select_eq']
    unfold SConv.dproj
    rw [h0]
    first
      | rw [SConv.dz_block _ _ _ _ ht a.isLt]
        split_ifs <;> first
          | omega
          | exact congr_arg₂ (· * ·) (congrArg (SConv.dz _ _ _ · _) (by omega)) (congrArg (rd _ _) (by omega))
      | rw [SConv.z_one _ (y 1).val _ _ ?hu ?hv a.isLt, SConv.z_two _ (y 1).val _ _ ?hu ?hv a.isLt]
        case hu => omega
        case hv => omega
        rw [if_pos (by omega), h1]
        simp only [SConv.cz, SConv.z]
        try simp only [← Nat.add_assoc, Nat.reduceAdd, Nat.zero_add]

set_option maxHeartbeats 4000000 in
/-- The first point stores its block's part of the gradient of the taps. -/
theorem dtap_A (c : Dev nD) (t : Fin cfg0.N) (h0 : t.val % 32 = 0) (y : S8x2048.Idx) :
    (outsAt0 m c t.val t.isLt).2 y = SConv.tapPart (argP m c) (argD m c) t.val (y 0).val (y 1).val := by
  rw [outsAt0_A m c t h0]
  frame_open
  simp (disch := decide) only [↓ View.readCov_skip, ↓ View.readCov_cons_toLoadRect, ↓ View.readCov_fill]
  frame_out
  obtain ⟨-, -, -, -, -, -, -, -, hg⟩ := idx t
  have ht : t.val < 32 := t.isLt
  repeat' (first | refine canon_cases (fun x h => ?_) (fun hn => ?_))
  rotate_right
  · have hy : (y 1).val < 2048 := (y 1).isLt
    have hy' : (y 0).val < 8 := (y 0).isLt
    simp only [Fin.forall_fin_two, Matrix.cons_val_zero, Matrix.cons_val_one, Fin.isValue] at hn
    omega
  rotate_right
  · have hy : (y 1).val < 2048 := (y 1).isLt
    simp only [Fin.forall_fin_two, Matrix.cons_val_zero, Matrix.cons_val_one, Fin.isValue] at *
    rw [SConv.tapPart_of_le _ _ (by omega)]
    unfold_payloads
    pointwise
  all_goals
    obtain ⟨a, b, rfl⟩ := exists_ix2 (a := 1) (b := 512) x
    obtain rfl : a = 0 := Subsingleton.elim _ _
    have h0 := h 0
    have h1 := h 1
    simp only [ix2_zero, ix2_one, Matrix.cons_val_zero, Matrix.cons_val_one, Fin.isValue, Fin.val_zero, add_zero] at h0 h1
    unfold_payloads
    pointwise
    simp only [iblk0, iblk1, iblk2, iblk3, iblk4, iblk5, hg, ix2_zero, ix2_one, Fin.isValue, Fin.val_zero, Fin.val_one, Fin.val_two,
      val_14, val_15, add_zero]
    try simp (disch := first | omega | exact lt_of_lt_of_le (Fin.isLt _) (by decide)) only [select_eq, select_eq']
    rw [h0, SConv.tapPart_of_lt _ _ (by omega)]
    refine Finset.sum_congr rfl fun x _ => ?_
    · simp only [SConv.tapTerm]
      first
        | rw [SConv.z_one _ (y 1).val _ _ (by omega) (by omega) x.isLt]
        | rw [SConv.z_two _ (y 1).val _ _ (by omega) (by omega) x.isLt]
        | show _ = _ * back _ 0 _
          rw [back_zero, SConv.z]
      rw [SConv.g, h1]
      try simp only [← Nat.add_assoc, Nat.reduceAdd, Nat.zero_add, Nat.reduceSub]

set_option maxHeartbeats 4000000 in
/-- Every later point adds its block's part to the gradient of the taps. -/
theorem dtap_B (c : Dev nD) (t : Fin cfg0.N) (h0 : ¬ t.val % 32 = 0) (y : S8x2048.Idx) :
    (outsAt0 m c t.val t.isLt).2 y = (outsAt0 m c (t.val - 1) (by omega)).2 y
      + SConv.tapPart (argP m c) (argD m c) t.val (y 0).val (y 1).val := by
  rw [outsAt0_B m c t h0]
  frame_out
  obtain ⟨-, -, -, -, -, -, -, -, hg⟩ := idx t
  have ht : t.val < 32 := t.isLt
  repeat' (first | refine read_cases _ _ (fun x h => ?_) (fun hn => ?_))
  rotate_right
  · have hy : (y 1).val < 2048 := (y 1).isLt
    simp only [Fin.forall_fin_two, Matrix.cons_val_zero, Matrix.cons_val_one, Fin.isValue] at *
    rw [SConv.tapPart_of_le _ _ (by omega), add_zero, View.writes_nil]
    exact congrFun (Memref.IsWhole.read_unread _ _) y
  all_goals
    obtain ⟨a, b, rfl⟩ := exists_ix2 (a := 1) (b := 512) x
    obtain rfl : a = 0 := Subsingleton.elim _ _
    have h0 := h 0
    have h1 := h 1
    simp only [ix2_zero, ix2_one, Matrix.cons_val_zero, Matrix.cons_val_one, Fin.isValue, Fin.val_zero, add_zero] at h0 h1
    unfold_payloads
    pointwise
    simp only [iblk0, iblk1, iblk2, iblk3, iblk4, iblk5, hg, ix2_zero, ix2_one, Fin.isValue, Fin.val_zero, Fin.val_one, Fin.val_two,
      val_14, val_15, add_zero]
    try simp (disch := first | omega | exact lt_of_lt_of_le (Fin.isLt _) (by decide)) only [select_eq, select_eq']
    rw [h0, SConv.tapPart_of_lt _ _ (by omega)]
    refine congr_arg₂ _ (congrArg _ ?_) (Finset.sum_congr rfl fun x _ => ?_)
    · funext i
      refine Fin.ext ?_
      rw [h i]
      fin_cases i <;> simp
    · simp only [SConv.tapTerm]
      first
        | rw [SConv.z_one _ (y 1).val _ _ (by omega) (by omega) x.isLt]
        | rw [SConv.z_two _ (y 1).val _ _ (by omega) (by omega) x.isLt]
        | show _ = _ * back _ 0 _
          rw [back_zero, SConv.z]
      rw [SConv.g, h1]
      try simp only [← Nat.add_assoc, Nat.reduceAdd, Nat.zero_add, Nat.reduceSub]

/-- The array of the projections' gradient after the run. -/
theorem final6 (c : Dev nD) : (dats m 0 c).arrAt 6 cfg0.N
    = fun i : S4096x6144.Idx => SConv.dproj (argP m c) (argW m c) (argD m c) (i 0).val (i 1).val := by
  refine (dats m 0 c).arrAt_eq_of_covers 6 _ (by decide +kernel) fun t hf y => ?_
  obtain ⟨-, -, -, -, -, -, h6, -, -⟩ := idx t
  blk_simp [h6]
  rw [after0_6]
  have e : t.val * 128 + (y 0).val = 128 * t.val + (y 0).val := by omega
  by_cases h0 : t.val % 32 = 0
  · refine (dproj_A m c t h0 y).trans ?_
    exact congrArg (SConv.dproj _ _ _ · _) e.symm
  · refine (dproj_B m c t h0 y).trans ?_
    exact congrArg (SConv.dproj _ _ _ · _) e.symm

/-- The rows that hold the taps' gradient, after point `n`: the parts of the blocks so far. -/
theorem dtap_sum (c : Dev nD) (y : S8x2048.Idx) : ∀ (n : ℕ) (h : n < cfg0.N),
    (outsAt0 m c n h).2 y
      = ∑ s ∈ Finset.range (n + 1), SConv.tapPart (argP m c) (argD m c) s (y 0).val (y 1).val
  | 0, h => by
    rw [Finset.sum_range_one]
    exact dtap_A m c ⟨0, h⟩ rfl y
  | n + 1, h => by
    have h' : n + 1 < 32 := h
    rw [Finset.sum_range_succ, ← dtap_sum c y n (by omega)]
    exact dtap_B m c ⟨n + 1, h⟩ (by show ¬ (n + 1) % 32 = 0; omega) y

/-- The array of the taps' gradient after the run. -/
theorem final7 (c : Dev nD) : (dats m 0 c).arrAt 7 cfg0.N
    = fun i : S8x2048.Idx => SConv.dtap (argP m c) (argD m c) (i 0).val (i 1).val := by
  refine (dats m 0 c).arrAt_eq_of_covers 7 _ (by decide +kernel) fun t hf y => ?_
  obtain ⟨-, -, -, -, -, -, -, h7, -⟩ := idx t
  have ht : t.val % 32 = 31 := (flush0_7 t).mp hf
  have ht' : t.val < 32 := t.isLt
  blk_simp [h7]
  rw [after0_7]
  refine (dtap_sum m c y t.val t.isLt).trans ?_
  rw [show t.val + 1 = 32 by omega]
  exact SConv.dtap_parts _ _ _ _

end Cert.KernelIdeal.Value

end
-- ==== Proof.Ref.lean ====
module

public import proofs.«01_k».proof.Proof.Gen.ReferenceIdeal.Read
public import proofs.«01_k».proof.Proof.Spec

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Rows

/-- The taps against the gradient of a row and of the two rows after, in the reference's order. -/
theorem dz_ref (x0 : FVec Ideal S4096x6144 .bf16) (x1 : FVec Ideal S3x2048 .f32) (x2 : FVec Ideal S4096x2048 .bf16)
    (r j : ℕ) (hj : j < 2048) :
    (((if _h : j < 2048 then rd x0 r j * rd x2 r j * rd x1 2 j else 0) +
        if _h : (1 ≤ 2 + r ∧ 2 + r - 1 < 4096) ∧ j < 2048 then
          rd x0 (2 + r - 1) j * rd x2 (2 + r - 1) j * rd x1 1 j else 0) +
      if _h : 2 + r < 4096 ∧ j < 2048 then rd x0 (2 + r) j * rd x2 (2 + r) j * rd x1 0 j else 0)
      = SConv.dz x0 x1 x2 j r := by
  have e1 : (if _h : (1 ≤ 2 + r ∧ 2 + r - 1 < 4096) ∧ j < 2048 then
      rd x0 (2 + r - 1) j * rd x2 (2 + r - 1) j * rd x1 1 j else 0) = rd x1 1 j * SConv.g x0 x2 j (r + 1) := by
    rw [show 2 + r - 1 = r + 1 by omega]
    split_ifs with h
    · rw [SConv.g, mul_comm, mul_comm (rd x0 _ _)]
    · rw [SConv.g_zero _ _ _ _ (by omega), mul_zero]
  have e2 : (if _h : 2 + r < 4096 ∧ j < 2048 then rd x0 (2 + r) j * rd x2 (2 + r) j * rd x1 0 j else 0)
      = rd x1 0 j * SConv.g x0 x2 j (r + 2) := by
    rw [show 2 + r = r + 2 by omega]
    split_ifs with h
    · rw [SConv.g, mul_comm, mul_comm (rd x0 _ _)]
    · rw [SConv.g_zero _ _ _ _ (by omega), mul_zero]
  rw [e1, e2, dif_pos hj, SConv.dz]
  refine congrArg (· + _ + _) ?_
  rw [SConv.g, mul_comm, mul_comm (rd x0 _ _)]

/-- The reference's gradient of the projections is the plain formula. -/
theorem dproj_ref (x0 : FVec Ideal S4096x6144 .bf16) (x1 : FVec Ideal S3x2048 .f32) (x2 : FVec Ideal S4096x2048 .bf16)
    (r : Fin 4096) (q : Fin 6144) :
    val_main_v71 (F := Ideal) x0 x1 x2 (ix2 r q) = SConv.dproj x0 x1 x2 r q := by
  pointwise [
    val_main_v0, val_main_v1, val_main_v2, val_main_v3, val_main_v4, val_main_cst, val_main_v5, val_main_v6,
    val_main_cst_0, val_main_v7, val_main_v8, val_main_v9, val_main_v10, val_main_v11, val_main_v12, val_main_v13,
    val_main_cst_1, val_main_v14, val_main_v15, val_main_v16, val_main_v17, val_main_v18, val_main_v19, val_main_v20,
    val_main_v21, val_main_v22, val_main_v23, val_main_v24, val_main_v25, val_main_v26, val_main_v27, val_main_v28,
    val_main_v29, val_main_v30, val_main_v31, val_main_v32, val_main_v33, val_main_v34, val_main_v35, val_main_cst_2,
    val_main_v36, val_main_v37, val_main_v38, val_main_v39, val_main_cst_3, val_main_v40, val_main_v41, val_main_cst_4,
    val_main_v42, val_main_cst_5, val_main_v43, val_main_v44, val_main_cst_6, val_main_v45, val_main_v46, val_main_v47,
    val_main_v48, val_main_cst_7, val_main_v49, val_main_v50, val_main_cst_8, val_main_v51, val_main_v52,
    val_main_cst_9, val_main_v53, val_main_v54, val_main_v55, val_main_cst_10, val_main_v56, val_main_v57, val_main_v58,
    val_main_v59, val_main_cst_11, val_main_v60, val_main_v61, val_main_cst_12, val_main_v62, val_main_v63,
    val_main_cst_13, val_main_v64, val_main_v65, val_main_v66, val_main_v67, val_main_v68, val_main_v69, val_main_v70,
    val_main_v71, val_main_cst_14, val_main_v72, val_main_v73]
  simp only [rd_ix2 x0, rd_ix2 x1, rd_ix2 x2, Fin.isValue, Fin.val_zero, Fin.val_one, Fin.val_two]
  have hq : q.val < 6144 := q.isLt
  unfold SConv.dproj
  by_cases h1 : q.val < 2048
  · rw [dif_pos h1, if_pos h1]
    refine congrArg _ ?_
    unfold SConv.cz SConv.z back
    rw [add_comm (dite _ _ _ * _), add_comm _ (rd x0 _ _ * _ * _), ← add_assoc]
    simp only [show ∀ r : ℕ, (1 + r < 2) = ¬ (1 ≤ r) from fun r => by simp only [eq_iff_iff]; omega,
      show ∀ r : ℕ, (r < 2) = ¬ (2 ≤ r) from fun r => by simp only [eq_iff_iff]; omega,
      show ∀ r : ℕ, 1 + r - 2 = r - 1 from fun r => by omega]
    simp only [dite_eq_ite, ite_not, mul_comm]
  · rw [dif_neg h1, if_neg h1]
    by_cases h2 : q.val < 4096
    · rw [dif_pos (by omega), if_pos h2, dz_ref x0 x1 x2 _ _ (by omega)]
      rw [show 4096 + (q.val - 2048) = q.val + 2048 by omega]
    · rw [dif_neg (by omega), if_neg h2, dz_ref x0 x1 x2 _ _ (by omega), mul_comm]
      rw [show q.val - 2048 - 2048 = q.val - 4096 by omega, show 2048 + (q.val - 4096) = q.val - 2048 by omega]

/-- The reference's gradient of the taps, with five rows of zeros below, is the plain formula. -/
theorem dtap_ref (x0 : FVec Ideal S4096x6144 .bf16) (x2 : FVec Ideal S4096x2048 .bf16) (r : Fin 8) (q : Fin 2048) :
    val_main_v73 (F := Ideal) x0 x2 (ix2 r q) = SConv.dtap x0 x2 r q := by
  pointwise [
    val_main_v0, val_main_v1, val_main_v2, val_main_v3, val_main_v4, val_main_cst, val_main_v5, val_main_v6,
    val_main_cst_0, val_main_v7, val_main_v8, val_main_v9, val_main_v10, val_main_v11, val_main_v12, val_main_v13,
    val_main_cst_1, val_main_v14, val_main_v15, val_main_v16, val_main_v17, val_main_v18, val_main_v19, val_main_v20,
    val_main_v21, val_main_v22, val_main_v23, val_main_v24, val_main_v25, val_main_v26, val_main_v27, val_main_v28,
    val_main_v29, val_main_v30, val_main_v31, val_main_v32, val_main_v33, val_main_v34, val_main_v35, val_main_cst_2,
    val_main_v36, val_main_v37, val_main_v38, val_main_v39, val_main_cst_3, val_main_v40, val_main_v41, val_main_cst_4,
    val_main_v42, val_main_cst_5, val_main_v43, val_main_v44, val_main_cst_6, val_main_v45, val_main_v46, val_main_v47,
    val_main_v48, val_main_cst_7, val_main_v49, val_main_v50, val_main_cst_8, val_main_v51, val_main_v52,
    val_main_cst_9, val_main_v53, val_main_v54, val_main_v55, val_main_cst_10, val_main_v56, val_main_v57, val_main_v58,
    val_main_v59, val_main_cst_11, val_main_v60, val_main_v61, val_main_cst_12, val_main_v62, val_main_v63,
    val_main_cst_13, val_main_v64, val_main_v65, val_main_v66, val_main_v67, val_main_v68, val_main_v69, val_main_v70,
    val_main_v71, val_main_cst_14, val_main_v72, val_main_v73]
  simp only [rd_ix2 x0, rd_ix2 x2, Fin.isValue, Fin.val_zero, Fin.val_one, Fin.val_two]
  unfold SConv.dtap
  by_cases h3 : r.val < 3
  · rw [dif_pos h3, if_pos h3]
    obtain h | h | h : r.val = 0 ∨ r.val = 1 ∨ r.val = 2 := by omega
    · rw [h, dif_neg (by omega), dif_neg (by omega), dif_pos (by omega), zero_add, zero_add, Fin.sum_univ_one]
      rw [Finset.sum_eq_zero fun x _ => zero_mul _, zero_add]
      refine Eq.trans ?_ (Fin.sum_univ_add (a := 2) (b := 4094) fun r => SConv.tapTerm x0 x2 0 q r.val).symm
      rw [Finset.sum_eq_zero (s := Finset.univ (α := Fin 2)) fun x _ => ?_, zero_add]
      · refine Finset.sum_congr rfl fun x _ => ?_
        have e : (Fin.natAdd 2 x).val = 2 + x.val := rfl
        rw [e, SConv.tapTerm, back, if_pos (by omega), mul_comm, SConv.g, mul_comm (rd x0 (2 + x.val) _), SConv.z,
          show 2 + x.val - (2 - 0) = x.val by omega]
      · have e : (Fin.castAdd 4094 x).val = x.val := rfl
        rw [e, SConv.tapTerm, back, if_neg (by omega), mul_zero]
    · rw [h, dif_neg (by omega), dif_pos (by omega), dif_neg (by omega), zero_add, add_zero, Fin.sum_univ_one]
      refine Finset.sum_congr rfl fun x _ => ?_
      rw [SConv.tapTerm, mul_comm, SConv.g, mul_comm (rd x0 x.val _), back, SConv.z]
      refine congrArg _ ?_
      split_ifs
      · omega
      · rfl
      · rw [show 1 + x.val - 2 = x.val - (2 - 1) by omega]
      · omega
    · rw [h, dif_pos (by omega), dif_neg (by omega), dif_neg (by omega), add_zero, add_zero, Fin.sum_univ_one]
      refine Finset.sum_congr rfl fun x _ => ?_
      show _ = _ * back _ 0 _
      rw [back_zero, mul_comm, SConv.g, mul_comm (rd x0 x.val _), SConv.z]
  · rw [dif_neg h3, if_neg h3]

end Cert.ReferenceIdeal.Read

end
-- ==== Proof.Products.lean ====
module

public import Idealize.ShloMosaic.Lib.Pipeline.ValueKit
public import proofs.«01_k».proof.Proof.Rows

/- A matrix product on the extended reals, with the contraction on either axis of either factor. -/

@[expose] public section

noncomputable section

namespace Product

open Idealize.ShloMosaic

/-- The plain product. -/
def nn {M K N : ℕ} (a : (⟨2, ![M, K]⟩ : Shape).Idx → EReal) (b : (⟨2, ![K, N]⟩ : Shape).Idx → EReal) :
    (⟨2, ![M, N]⟩ : Shape).Idx → EReal := fun i => ∑ k : Fin K, a (ix2 (i 0) k) * b (ix2 k (i 1))

/-- The product with the second factor transposed: the gradient of the first factor of a product. -/
def nt {M K N : ℕ} (a : (⟨2, ![M, K]⟩ : Shape).Idx → EReal) (b : (⟨2, ![N, K]⟩ : Shape).Idx → EReal) :
    (⟨2, ![M, N]⟩ : Shape).Idx → EReal := fun i => ∑ k : Fin K, a (ix2 (i 0) k) * b (ix2 (i 1) k)

/-- The product with the first factor transposed: the gradient of the second factor of a product. -/
def tn {M K N : ℕ} (a : (⟨2, ![K, M]⟩ : Shape).Idx → EReal) (b : (⟨2, ![K, N]⟩ : Shape).Idx → EReal) :
    (⟨2, ![M, N]⟩ : Shape).Idx → EReal := fun i => ∑ k : Fin K, a (ix2 k (i 0)) * b (ix2 k (i 1))

end Product

end
-- ==== Proof.Ffn.lean ====
module

public import proofs.«01_k».proof.Defs
public import proofs.«01_k».proof.Proof.Gen.Up.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpDh.Frame
public import proofs.«01_k».proof.Proof.Gen.UpDhIdeal.Value
public import proofs.«01_k».proof.Proof.Gen.UpDhRefIdeal
public import proofs.«01_k».proof.Proof.Gen.UpDhRefIdeal.Run
public import proofs.«01_k».proof.Proof.Gen.UpDw.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.Down.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownDh.Frame
public import proofs.«01_k».proof.Proof.Gen.DownDhIdeal.Value
public import proofs.«01_k».proof.Proof.Gen.DownDhRefIdeal
public import proofs.«01_k».proof.Proof.Gen.DownDhRefIdeal.Run
public import proofs.«01_k».proof.Proof.Gen.DownDw.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Products
public import Idealize.ShloMosaic.Adequacy
public import Idealize.ShloMosaic.Init

@[expose] public section

noncomputable section

open Idealize.ShloMosaic Idealize.ShloMosaic.TcCoe Idealize.SL.Sem

namespace Cert.UpIdeal.Value

open Cert.UpIdeal Cert.UpIdeal.Gen Idealize.ShloMosaic Idealize.ShloMosaic.TcCoe Idealize.SL.Sem

/-- Where each window lies at a point of the grid. -/
theorem idx : ∀ t : Fin cfg0.N,
    win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The array of the result after the run is the product. -/
theorem final (m : (ℓ : Loc nD τ sig) → Buf (Elt Ideal) ℓ) (c : Dev nD) : (dats m 0 c).arrAt 2 cfg0.N
    = Product.nn (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  unfold Product.nn
  pointwise
  blk_point [iblk, V, idx t]

end Cert.UpIdeal.Value

namespace Cert.Proof

/-- The reference ends, leaves its arguments as they were and every counter at zero. -/
theorem up_reference : Cert.quiescent_UpRefIdeal (hUpRefIdeal := Cert.UpRefIdeal.Gen.facts) := fun m g _ =>
  (θ_run _ _ _).mono (fun r h => ⟨fun c => (h c).2, sem_eq_zero_of_no_sems (by decide) r.2⟩) (Cert.UpRefIdeal.Value.run m g)

/-- The kernel computes the product. -/
theorem up : Cert.algebraic_UpIdeal_UpRefIdeal
    (hUpIdeal := Cert.UpIdeal.Gen.facts) (hUpRefIdeal := Cert.UpRefIdeal.Gen.facts) := by
  intro m g m' g' _ hag
  refine ⟨_, (θ_run _ _ _).mono (fun r h c => ⟨(h c).1.trans (Cert.UpIdeal.Value.final m c), (h c).2⟩) (Cert.UpIdeal.Value.run_blocks m g),
    (θ_run _ _ _).mono (fun r h c => ⟨(h c).1.trans ?_, (h c).2⟩) (Cert.UpRefIdeal.Value.run m' g')⟩
  rw [(hag c).1, (hag c).2]
  funext i
  unfold Product.nn
  pointwise

end Cert.Proof

namespace Cert.UpDhIdeal.Value

open Cert.UpDhIdeal Cert.UpDhIdeal.Gen Idealize.ShloMosaic Idealize.ShloMosaic.TcCoe Idealize.SL.Sem

/-- Where each window lies at a point of the grid. -/
theorem idx : ∀ t : Fin cfg0.N,
    win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The array of the result after the run is the product with the second factor transposed. -/
theorem final (m : (ℓ : Loc nD τ sig) → Buf (Elt Ideal) ℓ) (c : Dev nD) : (dats m 0 c).arrAt 2 cfg0.N
    = Product.nt (m ((c : Thread nD τ).loc main_arg2)) (m ((c : Thread nD τ).loc main_arg1)) := by
  refine (dats m 0 c).arrAt_eq_of_covers 2 _ (by decide +kernel) fun t hf y => ?_
  blk_simp
  rw [after0_2]
  frame_out
  unfold_payloads
  unfold Product.nt
  pointwise
  blk_point [iblk, V, idx t]

end Cert.UpDhIdeal.Value

namespace Cert.Proof

/-- The reference ends, leaves its arguments as they were and every counter at zero. -/
theorem upDh_reference : Cert.quiescent_UpDhRefIdeal (hUpDhRefIdeal := Cert.UpDhRefIdeal.Gen.facts) := fun m g _ =>
  (θ_run _ _ _).mono (fun r h => ⟨fun c => (h c).2, sem_eq_zero_of_no_sems (by decide) r.2⟩) (Cert.UpDhRefIdeal.Value.run m g)

/-- The kernel computes the gradient of the product's first factor. -/
theorem upDh : Cert.algebraic_UpDhIdeal_UpDhRefIdeal
    (hUpDhIdeal := Cert.UpDhIdeal.Gen.facts) (hUpDhRefIdeal := Cert.UpDhRefIdeal.Gen.facts) := by
  intro m g m' g' _ hag
  refine ⟨_, (θ_run _ _ _).mono (fun r h c => ⟨(h c).1.trans (Cert.UpDhIdeal.Value.final m c), (h c).2⟩) (Cert.UpDhIdeal.Value.run_blocks m g),
    (θ_run _ _ _).mono (fun r h c => ⟨(h c).1.trans ?_, (h c).2⟩) (Cert.UpDhRefIdeal.Value.run m' g')⟩
  rw [(hag c).2.1, (hag c).2.2]
  funext i
  unfold Product.nt
  pointwise

end Cert.Proof

namespace Cert.UpDwIdeal.Value

open Cert.UpDwIdeal Cert.UpDwIdeal.Gen Idealize.ShloMosaic Idealize.ShloMosaic.TcCoe Idealize.SL.Sem

/-- Where each window lies at a point of the grid. -/
theorem idx : ∀ t : Fin cfg0.N,
    win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The array of the result after the run is the product with the first factor transposed. -/
theorem final (m : (ℓ : Loc nD τ sig) → Buf (Elt Ideal) ℓ) (c : Dev nD) : (dats m 0 c).arrAt 2 cfg0.N
    = Product.tn (m ((c : Thread nD τ).loc main_arg0)) (m ((c : Thread nD τ).loc main_arg2)) := by
  refine (dats m 0 c).arrAt_eq_of_covers 2 _ (by decide +kernel) fun t hf y => ?_
  blk_simp
  rw [after0_2]
  frame_out
  unfold_payloads
  unfold Product.tn
  pointwise
  blk_point [iblk, V, idx t]

end Cert.UpDwIdeal.Value

namespace Cert.Proof

/-- The reference ends, leaves its arguments as they were and every counter at zero. -/
theorem upDw_reference : Cert.quiescent_UpDwRefIdeal (hUpDwRefIdeal := Cert.UpDwRefIdeal.Gen.facts) := fun m g _ =>
  (θ_run _ _ _).mono (fun r h => ⟨fun c => (h c).2, sem_eq_zero_of_no_sems (by decide) r.2⟩) (Cert.UpDwRefIdeal.Value.run m g)

/-- The kernel computes the gradient of the product's second factor. -/
theorem upDw : Cert.algebraic_UpDwIdeal_UpDwRefIdeal
    (hUpDwIdeal := Cert.UpDwIdeal.Gen.facts) (hUpDwRefIdeal := Cert.UpDwRefIdeal.Gen.facts) := by
  intro m g m' g' _ hag
  refine ⟨_, (θ_run _ _ _).mono (fun r h c => ⟨(h c).1.trans (Cert.UpDwIdeal.Value.final m c), (h c).2⟩) (Cert.UpDwIdeal.Value.run_blocks m g),
    (θ_run _ _ _).mono (fun r h c => ⟨(h c).1.trans ?_, (h c).2⟩) (Cert.UpDwRefIdeal.Value.run m' g')⟩
  rw [(hag c).1, (hag c).2.2]
  funext i
  unfold Product.tn
  pointwise
  exact Finset.sum_congr rfl fun k _ => mul_comm _ _

end Cert.Proof

namespace Cert.DownIdeal.Value

open Cert.DownIdeal Cert.DownIdeal.Gen Idealize.ShloMosaic Idealize.ShloMosaic.TcCoe Idealize.SL.Sem

/-- Where each window lies at a point of the grid. -/
theorem idx : ∀ t : Fin cfg0.N,
    win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The array of the result after the run is the product. -/
theorem final (m : (ℓ : Loc nD τ sig) → Buf (Elt Ideal) ℓ) (c : Dev nD) : (dats m 0 c).arrAt 2 cfg0.N
    = Product.nn (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  unfold Product.nn
  pointwise
  blk_point [iblk, V, idx t]

end Cert.DownIdeal.Value

namespace Cert.Proof

/-- The reference ends, leaves its arguments as they were and every counter at zero. -/
theorem down_reference : Cert.quiescent_DownRefIdeal (hDownRefIdeal := Cert.DownRefIdeal.Gen.facts) := fun m g _ =>
  (θ_run _ _ _).mono (fun r h => ⟨fun c => (h c).2, sem_eq_zero_of_no_sems (by decide) r.2⟩) (Cert.DownRefIdeal.Value.run m g)

/-- The kernel computes the product. -/
theorem down : Cert.algebraic_DownIdeal_DownRefIdeal
    (hDownIdeal := Cert.DownIdeal.Gen.facts) (hDownRefIdeal := Cert.DownRefIdeal.Gen.facts) := by
  intro m g m' g' _ hag
  refine ⟨_, (θ_run _ _ _).mono (fun r h c => ⟨(h c).1.trans (Cert.DownIdeal.Value.final m c), (h c).2⟩) (Cert.DownIdeal.Value.run_blocks m g),
    (θ_run _ _ _).mono (fun r h c => ⟨(h c).1.trans ?_, (h c).2⟩) (Cert.DownRefIdeal.Value.run m' g')⟩
  rw [(hag c).1, (hag c).2]
  funext i
  unfold Product.nn
  pointwise

end Cert.Proof

namespace Cert.DownDhIdeal.Value

open Cert.DownDhIdeal Cert.DownDhIdeal.Gen Idealize.ShloMosaic Idealize.ShloMosaic.TcCoe Idealize.SL.Sem

/-- Where each window lies at a point of the grid. -/
theorem idx : ∀ t : Fin cfg0.N,
    win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The array of the result after the run is the product with the second factor transposed. -/
theorem final (m : (ℓ : Loc nD τ sig) → Buf (Elt Ideal) ℓ) (c : Dev nD) : (dats m 0 c).arrAt 2 cfg0.N
    = Product.nt (m ((c : Thread nD τ).loc main_arg2)) (m ((c : Thread nD τ).loc main_arg1)) := by
  refine (dats m 0 c).arrAt_eq_of_covers 2 _ (by decide +kernel) fun t hf y => ?_
  blk_simp
  rw [after0_2]
  frame_out
  unfold_payloads
  unfold Product.nt
  pointwise
  blk_point [iblk, V, idx t]

end Cert.DownDhIdeal.Value

namespace Cert.Proof

/-- The reference ends, leaves its arguments as they were and every counter at zero. -/
theorem downDh_reference : Cert.quiescent_DownDhRefIdeal (hDownDhRefIdeal := Cert.DownDhRefIdeal.Gen.facts) := fun m g _ =>
  (θ_run _ _ _).mono (fun r h => ⟨fun c => (h c).2, sem_eq_zero_of_no_sems (by decide) r.2⟩) (Cert.DownDhRefIdeal.Value.run m g)

/-- The kernel computes the gradient of the product's first factor. -/
theorem downDh : Cert.algebraic_DownDhIdeal_DownDhRefIdeal
    (hDownDhIdeal := Cert.DownDhIdeal.Gen.facts) (hDownDhRefIdeal := Cert.DownDhRefIdeal.Gen.facts) := by
  intro m g m' g' _ hag
  refine ⟨_, (θ_run _ _ _).mono (fun r h c => ⟨(h c).1.trans (Cert.DownDhIdeal.Value.final m c), (h c).2⟩) (Cert.DownDhIdeal.Value.run_blocks m g),
    (θ_run _ _ _).mono (fun r h c => ⟨(h c).1.trans ?_, (h c).2⟩) (Cert.DownDhRefIdeal.Value.run m' g')⟩
  rw [(hag c).2.1, (hag c).2.2]
  funext i
  unfold Product.nt
  pointwise

end Cert.Proof

namespace Cert.DownDwIdeal.Value

open Cert.DownDwIdeal Cert.DownDwIdeal.Gen Idealize.ShloMosaic Idealize.ShloMosaic.TcCoe Idealize.SL.Sem

/-- Where each window lies at a point of the grid. -/
theorem idx : ∀ t : Fin cfg0.N,
    win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The array of the result after the run is the product with the first factor transposed. -/
theorem final (m : (ℓ : Loc nD τ sig) → Buf (Elt Ideal) ℓ) (c : Dev nD) : (dats m 0 c).arrAt 2 cfg0.N
    = Product.tn (m ((c : Thread nD τ).loc main_arg0)) (m ((c : Thread nD τ).loc main_arg2)) := by
  refine (dats m 0 c).arrAt_eq_of_covers 2 _ (by decide +kernel) fun t hf y => ?_
  blk_simp
  rw [after0_2]
  frame_out
  unfold_payloads
  unfold Product.tn
  pointwise
  blk_point [iblk, V, idx t]

end Cert.DownDwIdeal.Value

namespace Cert.Proof

/-- The reference ends, leaves its arguments as they were and every counter at zero. -/
theorem downDw_reference : Cert.quiescent_DownDwRefIdeal (hDownDwRefIdeal := Cert.DownDwRefIdeal.Gen.facts) := fun m g _ =>
  (θ_run _ _ _).mono (fun r h => ⟨fun c => (h c).2, sem_eq_zero_of_no_sems (by decide) r.2⟩) (Cert.DownDwRefIdeal.Value.run m g)

/-- The kernel computes the gradient of the product's second factor. -/
theorem downDw : Cert.algebraic_DownDwIdeal_DownDwRefIdeal
    (hDownDwIdeal := Cert.DownDwIdeal.Gen.facts) (hDownDwRefIdeal := Cert.DownDwRefIdeal.Gen.facts) := by
  intro m g m' g' _ hag
  refine ⟨_, (θ_run _ _ _).mono (fun r h c => ⟨(h c).1.trans (Cert.DownDwIdeal.Value.final m c), (h c).2⟩) (Cert.DownDwIdeal.Value.run_blocks m g),
    (θ_run _ _ _).mono (fun r h c => ⟨(h c).1.trans ?_, (h c).2⟩) (Cert.DownDwRefIdeal.Value.run m' g')⟩
  rw [(hag c).1, (hag c).2.2]
  funext i
  unfold Product.tn
  pointwise
  exact Finset.sum_congr rfl fun k _ => mul_comm _ _

end Cert.Proof

end
-- ==== Proof.Out.lean ====
module

public import proofs.«01_k».proof.Defs
public import proofs.«01_k».proof.Proof.Gen.Out.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutDh.Frame
public import proofs.«01_k».proof.Proof.Gen.OutDhIdeal.Value
public import proofs.«01_k».proof.Proof.Gen.OutDhRefIdeal
public import proofs.«01_k».proof.Proof.Gen.OutDhRefIdeal.Run
public import proofs.«01_k».proof.Proof.Gen.OutDw.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Products
public import Idealize.ShloMosaic.Adequacy
public import Idealize.ShloMosaic.Init

@[expose] public section

noncomputable section

open Idealize.ShloMosaic Idealize.ShloMosaic.TcCoe Idealize.SL.Sem

namespace Cert.OutIdeal.Value

open Cert.OutIdeal Cert.OutIdeal.Gen Idealize.ShloMosaic Idealize.ShloMosaic.TcCoe Idealize.SL.Sem

/-- Where each window lies at a point of the grid. -/
theorem idx : ∀ t : Fin cfg0.N,
    win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The array of the result after the run is the product. -/
theorem final (m : (ℓ : Loc nD τ sig) → Buf (Elt Ideal) ℓ) (c : Dev nD) : (dats m 0 c).arrAt 2 cfg0.N
    = Product.nn (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  unfold Product.nn
  pointwise
  blk_point [iblk, V, idx t]

end Cert.OutIdeal.Value

namespace Cert.Proof

/-- The reference ends, leaves its arguments as they were and every counter at zero. -/
theorem out_reference : Cert.quiescent_OutRefIdeal (hOutRefIdeal := Cert.OutRefIdeal.Gen.facts) := fun m g _ =>
  (θ_run _ _ _).mono (fun r h => ⟨fun c => (h c).2, sem_eq_zero_of_no_sems (by decide) r.2⟩) (Cert.OutRefIdeal.Value.run m g)

/-- The kernel computes the product. -/
theorem out : Cert.algebraic_OutIdeal_OutRefIdeal
    (hOutIdeal := Cert.OutIdeal.Gen.facts) (hOutRefIdeal := Cert.OutRefIdeal.Gen.facts) := by
  intro m g m' g' _ hag
  refine ⟨_, (θ_run _ _ _).mono (fun r h c => ⟨(h c).1.trans (Cert.OutIdeal.Value.final m c), (h c).2⟩) (Cert.OutIdeal.Value.run_blocks m g),
    (θ_run _ _ _).mono (fun r h c => ⟨(h c).1.trans ?_, (h c).2⟩) (Cert.OutRefIdeal.Value.run m' g')⟩
  rw [(hag c).1, (hag c).2]
  funext i
  unfold Product.nn
  pointwise

end Cert.Proof

namespace Cert.OutDhIdeal.Value

open Cert.OutDhIdeal Cert.OutDhIdeal.Gen Idealize.ShloMosaic Idealize.ShloMosaic.TcCoe Idealize.SL.Sem

/-- Where each window lies at a point of the grid. -/
theorem idx : ∀ t : Fin cfg0.N,
    win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The array of the result after the run is the product with the second factor transposed. -/
theorem final (m : (ℓ : Loc nD τ sig) → Buf (Elt Ideal) ℓ) (c : Dev nD) : (dats m 0 c).arrAt 2 cfg0.N
    = Product.nt (m ((c : Thread nD τ).loc main_arg2)) (m ((c : Thread nD τ).loc main_arg1)) := by
  refine (dats m 0 c).arrAt_eq_of_covers 2 _ (by decide +kernel) fun t hf y => ?_
  blk_simp
  rw [after0_2]
  frame_out
  unfold_payloads
  unfold Product.nt
  pointwise
  blk_point [iblk, V, idx t]

end Cert.OutDhIdeal.Value

namespace Cert.Proof

/-- The reference ends, leaves its arguments as they were and every counter at zero. -/
theorem outDh_reference : Cert.quiescent_OutDhRefIdeal (hOutDhRefIdeal := Cert.OutDhRefIdeal.Gen.facts) := fun m g _ =>
  (θ_run _ _ _).mono (fun r h => ⟨fun c => (h c).2, sem_eq_zero_of_no_sems (by decide) r.2⟩) (Cert.OutDhRefIdeal.Value.run m g)

/-- The kernel computes the gradient of the product's first factor. -/
theorem outDh : Cert.algebraic_OutDhIdeal_OutDhRefIdeal
    (hOutDhIdeal := Cert.OutDhIdeal.Gen.facts) (hOutDhRefIdeal := Cert.OutDhRefIdeal.Gen.facts) := by
  intro m g m' g' _ hag
  refine ⟨_, (θ_run _ _ _).mono (fun r h c => ⟨(h c).1.trans (Cert.OutDhIdeal.Value.final m c), (h c).2⟩) (Cert.OutDhIdeal.Value.run_blocks m g),
    (θ_run _ _ _).mono (fun r h c => ⟨(h c).1.trans ?_, (h c).2⟩) (Cert.OutDhRefIdeal.Value.run m' g')⟩
  rw [(hag c).2.1, (hag c).2.2]
  funext i
  unfold Product.nt
  pointwise

end Cert.Proof

namespace Cert.OutDwIdeal.Value

open Cert.OutDwIdeal Cert.OutDwIdeal.Gen Idealize.ShloMosaic Idealize.ShloMosaic.TcCoe Idealize.SL.Sem

/-- Where each window lies at a point of the grid. -/
theorem idx : ∀ t : Fin cfg0.N,
    win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The array of the result after the run is the product with the first factor transposed. -/
theorem final (m : (ℓ : Loc nD τ sig) → Buf (Elt Ideal) ℓ) (c : Dev nD) : (dats m 0 c).arrAt 2 cfg0.N
    = Product.tn (m ((c : Thread nD τ).loc main_arg0)) (m ((c : Thread nD τ).loc main_arg2)) := by
  refine (dats m 0 c).arrAt_eq_of_covers 2 _ (by decide +kernel) fun t hf y => ?_
  blk_simp
  rw [after0_2]
  frame_out
  unfold_payloads
  unfold Product.tn
  pointwise
  blk_point [iblk, V, idx t]

end Cert.OutDwIdeal.Value

namespace Cert.Proof

/-- The reference ends, leaves its arguments as they were and every counter at zero. -/
theorem outDw_reference : Cert.quiescent_OutDwRefIdeal (hOutDwRefIdeal := Cert.OutDwRefIdeal.Gen.facts) := fun m g _ =>
  (θ_run _ _ _).mono (fun r h => ⟨fun c => (h c).2, sem_eq_zero_of_no_sems (by decide) r.2⟩) (Cert.OutDwRefIdeal.Value.run m g)

/-- The kernel computes the gradient of the product's second factor. -/
theorem outDw : Cert.algebraic_OutDwIdeal_OutDwRefIdeal
    (hOutDwIdeal := Cert.OutDwIdeal.Gen.facts) (hOutDwRefIdeal := Cert.OutDwRefIdeal.Gen.facts) := by
  intro m g m' g' _ hag
  refine ⟨_, (θ_run _ _ _).mono (fun r h c => ⟨(h c).1.trans (Cert.OutDwIdeal.Value.final m c), (h c).2⟩) (Cert.OutDwIdeal.Value.run_blocks m g),
    (θ_run _ _ _).mono (fun r h c => ⟨(h c).1.trans ?_, (h c).2⟩) (Cert.OutDwRefIdeal.Value.run m' g')⟩
  rw [(hag c).1, (hag c).2.2]
  funext i
  unfold Product.tn
  pointwise
  exact Finset.sum_congr rfl fun k _ => mul_comm _ _

end Cert.Proof

end
-- ==== Proof.Hgrn.lean ====
module

public import proofs.«01_k».proof.Defs
public import proofs.«01_k».proof.Proof.Gen.Hgrn.Frame
public import proofs.«01_k».proof.Proof.Gen.HgrnIdeal.Value
public import proofs.«01_k».proof.Proof.Gen.HgrnRefIdeal
public import proofs.«01_k».proof.Proof.Gen.HgrnRefIdeal.Run
public import proofs.«01_k».proof.Proof.Gen.HgrnDh.Frame
public import proofs.«01_k».proof.Proof.Gen.HgrnDhIdeal.Value
public import proofs.«01_k».proof.Proof.Gen.HgrnDhRefIdeal
public import proofs.«01_k».proof.Proof.Gen.HgrnDhRefIdeal.Run
public import proofs.«01_k».proof.Proof.Gen.HgrnDw.Frame
public import proofs.«01_k».proof.Proof.Gen.HgrnDwIdeal.Value
public import proofs.«01_k».proof.Proof.Gen.HgrnDwRefIdeal
public import proofs.«01_k».proof.Proof.Gen.HgrnDwRefIdeal.Run
public import proofs.«01_k».proof.Proof.Products
public import Idealize.ShloMosaic.Adequacy
public import Idealize.ShloMosaic.Init

@[expose] public section

noncomputable section

open Idealize.ShloMosaic Idealize.ShloMosaic.TcCoe Idealize.SL.Sem

namespace Cert.HgrnIdeal.Value

open Cert.HgrnIdeal Cert.HgrnIdeal.Gen Idealize.ShloMosaic Idealize.ShloMosaic.TcCoe Idealize.SL.Sem

/-- Where each window lies at a point of the grid. -/
theorem idx : ∀ t : Fin cfg0.N,
    win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The array of the result after the run is the product. -/
theorem final (m : (ℓ : Loc nD τ sig) → Buf (Elt Ideal) ℓ) (c : Dev nD) : (dats m 0 c).arrAt 2 cfg0.N
    = Product.nn (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  unfold Product.nn
  pointwise
  blk_point [iblk, V, idx t]

end Cert.HgrnIdeal.Value

namespace Cert.Proof

/-- The reference ends, leaves its arguments as they were and every counter at zero. -/
theorem hgrn_reference : Cert.quiescent_HgrnRefIdeal (hHgrnRefIdeal := Cert.HgrnRefIdeal.Gen.facts) := fun m g _ =>
  (θ_run _ _ _).mono (fun r h => ⟨fun c => (h c).2, sem_eq_zero_of_no_sems (by decide) r.2⟩) (Cert.HgrnRefIdeal.Value.run m g)

/-- The kernel computes the product. -/
theorem hgrn : Cert.algebraic_HgrnIdeal_HgrnRefIdeal
    (hHgrnIdeal := Cert.HgrnIdeal.Gen.facts) (hHgrnRefIdeal := Cert.HgrnRefIdeal.Gen.facts) := by
  intro m g m' g' _ hag
  refine ⟨_, (θ_run _ _ _).mono (fun r h c => ⟨(h c).1.trans (Cert.HgrnIdeal.Value.final m c), (h c).2⟩) (Cert.HgrnIdeal.Value.run_blocks m g),
    (θ_run _ _ _).mono (fun r h c => ⟨(h c).1.trans ?_, (h c).2⟩) (Cert.HgrnRefIdeal.Value.run m' g')⟩
  rw [(hag c).1, (hag c).2]
  funext i
  unfold Product.nn
  pointwise

end Cert.Proof

namespace Cert.HgrnDhIdeal.Value

open Cert.HgrnDhIdeal Cert.HgrnDhIdeal.Gen Idealize.ShloMosaic Idealize.ShloMosaic.TcCoe Idealize.SL.Sem

/-- Where each window lies at a point of the grid. -/
theorem idx : ∀ t : Fin cfg0.N,
    win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The array of the result after the run is the product with the second factor transposed. -/
theorem final (m : (ℓ : Loc nD τ sig) → Buf (Elt Ideal) ℓ) (c : Dev nD) : (dats m 0 c).arrAt 2 cfg0.N
    = Product.nt (m ((c : Thread nD τ).loc main_arg2)) (m ((c : Thread nD τ).loc main_arg1)) := by
  refine (dats m 0 c).arrAt_eq_of_covers 2 _ (by decide +kernel) fun t hf y => ?_
  blk_simp
  rw [after0_2]
  frame_out
  unfold_payloads
  unfold Product.nt
  pointwise
  blk_point [iblk, V, idx t]

end Cert.HgrnDhIdeal.Value

namespace Cert.Proof

/-- The reference ends, leaves its arguments as they were and every counter at zero. -/
theorem hgrnDh_reference : Cert.quiescent_HgrnDhRefIdeal (hHgrnDhRefIdeal := Cert.HgrnDhRefIdeal.Gen.facts) := fun m g _ =>
  (θ_run _ _ _).mono (fun r h => ⟨fun c => (h c).2, sem_eq_zero_of_no_sems (by decide) r.2⟩) (Cert.HgrnDhRefIdeal.Value.run m g)

/-- The kernel computes the gradient of the product's first factor. -/
theorem hgrnDh : Cert.algebraic_HgrnDhIdeal_HgrnDhRefIdeal
    (hHgrnDhIdeal := Cert.HgrnDhIdeal.Gen.facts) (hHgrnDhRefIdeal := Cert.HgrnDhRefIdeal.Gen.facts) := by
  intro m g m' g' _ hag
  refine ⟨_, (θ_run _ _ _).mono (fun r h c => ⟨(h c).1.trans (Cert.HgrnDhIdeal.Value.final m c), (h c).2⟩) (Cert.HgrnDhIdeal.Value.run_blocks m g),
    (θ_run _ _ _).mono (fun r h c => ⟨(h c).1.trans ?_, (h c).2⟩) (Cert.HgrnDhRefIdeal.Value.run m' g')⟩
  rw [(hag c).2.1, (hag c).2.2]
  funext i
  unfold Product.nt
  pointwise

end Cert.Proof

namespace Cert.HgrnDwIdeal.Value

open Cert.HgrnDwIdeal Cert.HgrnDwIdeal.Gen Idealize.ShloMosaic Idealize.ShloMosaic.TcCoe Idealize.SL.Sem

/-- Where each window lies at a point of the grid. -/
theorem idx : ∀ t : Fin cfg0.N,
    win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The array of the result after the run is the product with the first factor transposed. -/
theorem final (m : (ℓ : Loc nD τ sig) → Buf (Elt Ideal) ℓ) (c : Dev nD) : (dats m 0 c).arrAt 2 cfg0.N
    = Product.tn (m ((c : Thread nD τ).loc main_arg0)) (m ((c : Thread nD τ).loc main_arg2)) := by
  refine (dats m 0 c).arrAt_eq_of_covers 2 _ (by decide +kernel) fun t hf y => ?_
  blk_simp
  rw [after0_2]
  frame_out
  unfold_payloads
  unfold Product.tn
  pointwise
  blk_point [iblk, V, idx t]

end Cert.HgrnDwIdeal.Value

namespace Cert.Proof

/-- The reference ends, leaves its arguments as they were and every counter at zero. -/
theorem hgrnDw_reference : Cert.quiescent_HgrnDwRefIdeal (hHgrnDwRefIdeal := Cert.HgrnDwRefIdeal.Gen.facts) := fun m g _ =>
  (θ_run _ _ _).mono (fun r h => ⟨fun c => (h c).2, sem_eq_zero_of_no_sems (by decide) r.2⟩) (Cert.HgrnDwRefIdeal.Value.run m g)

/-- The kernel computes the gradient of the product's second factor. -/
theorem hgrnDw : Cert.algebraic_HgrnDwIdeal_HgrnDwRefIdeal
    (hHgrnDwIdeal := Cert.HgrnDwIdeal.Gen.facts) (hHgrnDwRefIdeal := Cert.HgrnDwRefIdeal.Gen.facts) := by
  intro m g m' g' _ hag
  refine ⟨_, (θ_run _ _ _).mono (fun r h c => ⟨(h c).1.trans (Cert.HgrnDwIdeal.Value.final m c), (h c).2⟩) (Cert.HgrnDwIdeal.Value.run_blocks m g),
    (θ_run _ _ _).mono (fun r h c => ⟨(h c).1.trans ?_, (h c).2⟩) (Cert.HgrnDwRefIdeal.Value.run m' g')⟩
  rw [(hag c).1, (hag c).2.2]
  funext i
  unfold Product.tn
  pointwise
  exact Finset.sum_congr rfl fun k _ => mul_comm _ _

end Cert.Proof

end
-- ==== Proof.Swa.lean ====
module

public import proofs.«01_k».proof.Defs
public import proofs.«01_k».proof.Proof.Gen.Swa.Frame
public import proofs.«01_k».proof.Proof.Gen.SwaIdeal.Value
public import proofs.«01_k».proof.Proof.Gen.SwaRefIdeal
public import proofs.«01_k».proof.Proof.Gen.SwaRefIdeal.Run
public import proofs.«01_k».proof.Proof.Gen.SwaDh.Frame
public import proofs.«01_k».proof.Proof.Gen.SwaDhIdeal.Value
public import proofs.«01_k».proof.Proof.Gen.SwaDhRefIdeal
public import proofs.«01_k».proof.Proof.Gen.SwaDhRefIdeal.Run
public import proofs.«01_k».proof.Proof.Gen.SwaDw.Frame
public import proofs.«01_k».proof.Proof.Gen.SwaDwIdeal.Value
public import proofs.«01_k».proof.Proof.Gen.SwaDwRefIdeal
public import proofs.«01_k».proof.Proof.Gen.SwaDwRefIdeal.Run
public import proofs.«01_k».proof.Proof.Products
public import Idealize.ShloMosaic.Adequacy
public import Idealize.ShloMosaic.Init

@[expose] public section

noncomputable section

open Idealize.ShloMosaic Idealize.ShloMosaic.TcCoe Idealize.SL.Sem

namespace Cert.SwaIdeal.Value

open Cert.SwaIdeal Cert.SwaIdeal.Gen Idealize.ShloMosaic Idealize.ShloMosaic.TcCoe Idealize.SL.Sem

/-- Where each window lies at a point of the grid. -/
theorem idx : ∀ t : Fin cfg0.N,
    win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The array of the result after the run is the product. -/
theorem final (m : (ℓ : Loc nD τ sig) → Buf (Elt Ideal) ℓ) (c : Dev nD) : (dats m 0 c).arrAt 2 cfg0.N
    = Product.nn (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  unfold Product.nn
  pointwise
  blk_point [iblk, V, idx t]

end Cert.SwaIdeal.Value

namespace Cert.Proof

/-- The reference ends, leaves its arguments as they were and every counter at zero. -/
theorem swa_reference : Cert.quiescent_SwaRefIdeal (hSwaRefIdeal := Cert.SwaRefIdeal.Gen.facts) := fun m g _ =>
  (θ_run _ _ _).mono (fun r h => ⟨fun c => (h c).2, sem_eq_zero_of_no_sems (by decide) r.2⟩) (Cert.SwaRefIdeal.Value.run m g)

/-- The kernel computes the product. -/
theorem swa : Cert.algebraic_SwaIdeal_SwaRefIdeal
    (hSwaIdeal := Cert.SwaIdeal.Gen.facts) (hSwaRefIdeal := Cert.SwaRefIdeal.Gen.facts) := by
  intro m g m' g' _ hag
  refine ⟨_, (θ_run _ _ _).mono (fun r h c => ⟨(h c).1.trans (Cert.SwaIdeal.Value.final m c), (h c).2⟩) (Cert.SwaIdeal.Value.run_blocks m g),
    (θ_run _ _ _).mono (fun r h c => ⟨(h c).1.trans ?_, (h c).2⟩) (Cert.SwaRefIdeal.Value.run m' g')⟩
  rw [(hag c).1, (hag c).2]
  funext i
  unfold Product.nn
  pointwise

end Cert.Proof

namespace Cert.SwaDhIdeal.Value

open Cert.SwaDhIdeal Cert.SwaDhIdeal.Gen Idealize.ShloMosaic Idealize.ShloMosaic.TcCoe Idealize.SL.Sem

/-- Where each window lies at a point of the grid. -/
theorem idx : ∀ t : Fin cfg0.N,
    win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The array of the result after the run is the product with the second factor transposed. -/
theorem final (m : (ℓ : Loc nD τ sig) → Buf (Elt Ideal) ℓ) (c : Dev nD) : (dats m 0 c).arrAt 2 cfg0.N
    = Product.nt (m ((c : Thread nD τ).loc main_arg2)) (m ((c : Thread nD τ).loc main_arg1)) := by
  refine (dats m 0 c).arrAt_eq_of_covers 2 _ (by decide +kernel) fun t hf y => ?_
  blk_simp
  rw [after0_2]
  frame_out
  unfold_payloads
  unfold Product.nt
  pointwise
  blk_point [iblk, V, idx t]

end Cert.SwaDhIdeal.Value

namespace Cert.Proof

/-- The reference ends, leaves its arguments as they were and every counter at zero. -/
theorem swaDh_reference : Cert.quiescent_SwaDhRefIdeal (hSwaDhRefIdeal := Cert.SwaDhRefIdeal.Gen.facts) := fun m g _ =>
  (θ_run _ _ _).mono (fun r h => ⟨fun c => (h c).2, sem_eq_zero_of_no_sems (by decide) r.2⟩) (Cert.SwaDhRefIdeal.Value.run m g)

/-- The kernel computes the gradient of the product's first factor. -/
theorem swaDh : Cert.algebraic_SwaDhIdeal_SwaDhRefIdeal
    (hSwaDhIdeal := Cert.SwaDhIdeal.Gen.facts) (hSwaDhRefIdeal := Cert.SwaDhRefIdeal.Gen.facts) := by
  intro m g m' g' _ hag
  refine ⟨_, (θ_run _ _ _).mono (fun r h c => ⟨(h c).1.trans (Cert.SwaDhIdeal.Value.final m c), (h c).2⟩) (Cert.SwaDhIdeal.Value.run_blocks m g),
    (θ_run _ _ _).mono (fun r h c => ⟨(h c).1.trans ?_, (h c).2⟩) (Cert.SwaDhRefIdeal.Value.run m' g')⟩
  rw [(hag c).2.1, (hag c).2.2]
  funext i
  unfold Product.nt
  pointwise

end Cert.Proof

namespace Cert.SwaDwIdeal.Value

open Cert.SwaDwIdeal Cert.SwaDwIdeal.Gen Idealize.ShloMosaic Idealize.ShloMosaic.TcCoe Idealize.SL.Sem

/-- Where each window lies at a point of the grid. -/
theorem idx : ∀ t : Fin cfg0.N,
    win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The array of the result after the run is the product with the first factor transposed. -/
theorem final (m : (ℓ : Loc nD τ sig) → Buf (Elt Ideal) ℓ) (c : Dev nD) : (dats m 0 c).arrAt 2 cfg0.N
    = Product.tn (m ((c : Thread nD τ).loc main_arg0)) (m ((c : Thread nD τ).loc main_arg2)) := by
  refine (dats m 0 c).arrAt_eq_of_covers 2 _ (by decide +kernel) fun t hf y => ?_
  blk_simp
  rw [after0_2]
  frame_out
  unfold_payloads
  unfold Product.tn
  pointwise
  blk_point [iblk, V, idx t]

end Cert.SwaDwIdeal.Value

namespace Cert.Proof

/-- The reference ends, leaves its arguments as they were and every counter at zero. -/
theorem swaDw_reference : Cert.quiescent_SwaDwRefIdeal (hSwaDwRefIdeal := Cert.SwaDwRefIdeal.Gen.facts) := fun m g _ =>
  (θ_run _ _ _).mono (fun r h => ⟨fun c => (h c).2, sem_eq_zero_of_no_sems (by decide) r.2⟩) (Cert.SwaDwRefIdeal.Value.run m g)

/-- The kernel computes the gradient of the product's second factor. -/
theorem swaDw : Cert.algebraic_SwaDwIdeal_SwaDwRefIdeal
    (hSwaDwIdeal := Cert.SwaDwIdeal.Gen.facts) (hSwaDwRefIdeal := Cert.SwaDwRefIdeal.Gen.facts) := by
  intro m g m' g' _ hag
  refine ⟨_, (θ_run _ _ _).mono (fun r h c => ⟨(h c).1.trans (Cert.SwaDwIdeal.Value.final m c), (h c).2⟩) (Cert.SwaDwIdeal.Value.run_blocks m g),
    (θ_run _ _ _).mono (fun r h c => ⟨(h c).1.trans ?_, (h c).2⟩) (Cert.SwaDwRefIdeal.Value.run m' g')⟩
  rw [(hag c).1, (hag c).2.2]
  funext i
  unfold Product.tn
  pointwise
  exact Finset.sum_congr rfl fun k _ => mul_comm _ _

end Cert.Proof

end
-- ==== Proof.Sc.lean ====
module

public import proofs.«01_k».proof.Defs
public import proofs.«01_k».proof.Proof.Gen.Sc.Frame
public import proofs.«01_k».proof.Proof.Gen.ScIdeal.Value
public import proofs.«01_k».proof.Proof.Gen.ScRefIdeal
public import proofs.«01_k».proof.Proof.Gen.ScRefIdeal.Run
public import proofs.«01_k».proof.Proof.Gen.ScDh.Frame
public import proofs.«01_k».proof.Proof.Gen.ScDhIdeal.Value
public import proofs.«01_k».proof.Proof.Gen.ScDhRefIdeal
public import proofs.«01_k».proof.Proof.Gen.ScDhRefIdeal.Run
public import proofs.«01_k».proof.Proof.Gen.ScDw.Frame
public import proofs.«01_k».proof.Proof.Gen.ScDwIdeal.Value
public import proofs.«01_k».proof.Proof.Gen.ScDwRefIdeal
public import proofs.«01_k».proof.Proof.Gen.ScDwRefIdeal.Run
public import proofs.«01_k».proof.Proof.Products
public import Idealize.ShloMosaic.Adequacy
public import Idealize.ShloMosaic.Init

@[expose] public section

noncomputable section

open Idealize.ShloMosaic Idealize.ShloMosaic.TcCoe Idealize.SL.Sem

namespace Cert.ScIdeal.Value

open Cert.ScIdeal Cert.ScIdeal.Gen Idealize.ShloMosaic Idealize.ShloMosaic.TcCoe Idealize.SL.Sem

/-- Where each window lies at a point of the grid. -/
theorem idx : ∀ t : Fin cfg0.N,
    win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The array of the result after the run is the product. -/
theorem final (m : (ℓ : Loc nD τ sig) → Buf (Elt Ideal) ℓ) (c : Dev nD) : (dats m 0 c).arrAt 2 cfg0.N
    = Product.nn (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  unfold Product.nn
  pointwise
  blk_point [iblk, V, idx t]

end Cert.ScIdeal.Value

namespace Cert.Proof

/-- The reference ends, leaves its arguments as they were and every counter at zero. -/
theorem sc_reference : Cert.quiescent_ScRefIdeal (hScRefIdeal := Cert.ScRefIdeal.Gen.facts) := fun m g _ =>
  (θ_run _ _ _).mono (fun r h => ⟨fun c => (h c).2, sem_eq_zero_of_no_sems (by decide) r.2⟩) (Cert.ScRefIdeal.Value.run m g)

/-- The kernel computes the product. -/
theorem sc : Cert.algebraic_ScIdeal_ScRefIdeal
    (hScIdeal := Cert.ScIdeal.Gen.facts) (hScRefIdeal := Cert.ScRefIdeal.Gen.facts) := by
  intro m g m' g' _ hag
  refine ⟨_, (θ_run _ _ _).mono (fun r h c => ⟨(h c).1.trans (Cert.ScIdeal.Value.final m c), (h c).2⟩) (Cert.ScIdeal.Value.run_blocks m g),
    (θ_run _ _ _).mono (fun r h c => ⟨(h c).1.trans ?_, (h c).2⟩) (Cert.ScRefIdeal.Value.run m' g')⟩
  rw [(hag c).1, (hag c).2]
  funext i
  unfold Product.nn
  pointwise

end Cert.Proof

namespace Cert.ScDhIdeal.Value

open Cert.ScDhIdeal Cert.ScDhIdeal.Gen Idealize.ShloMosaic Idealize.ShloMosaic.TcCoe Idealize.SL.Sem

/-- Where each window lies at a point of the grid. -/
theorem idx : ∀ t : Fin cfg0.N,
    win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The array of the result after the run is the product with the second factor transposed. -/
theorem final (m : (ℓ : Loc nD τ sig) → Buf (Elt Ideal) ℓ) (c : Dev nD) : (dats m 0 c).arrAt 2 cfg0.N
    = Product.nt (m ((c : Thread nD τ).loc main_arg2)) (m ((c : Thread nD τ).loc main_arg1)) := by
  refine (dats m 0 c).arrAt_eq_of_covers 2 _ (by decide +kernel) fun t hf y => ?_
  blk_simp
  rw [after0_2]
  frame_out
  unfold_payloads
  unfold Product.nt
  pointwise
  blk_point [iblk, V, idx t]

end Cert.ScDhIdeal.Value

namespace Cert.Proof

/-- The reference ends, leaves its arguments as they were and every counter at zero. -/
theorem scDh_reference : Cert.quiescent_ScDhRefIdeal (hScDhRefIdeal := Cert.ScDhRefIdeal.Gen.facts) := fun m g _ =>
  (θ_run _ _ _).mono (fun r h => ⟨fun c => (h c).2, sem_eq_zero_of_no_sems (by decide) r.2⟩) (Cert.ScDhRefIdeal.Value.run m g)

/-- The kernel computes the gradient of the product's first factor. -/
theorem scDh : Cert.algebraic_ScDhIdeal_ScDhRefIdeal
    (hScDhIdeal := Cert.ScDhIdeal.Gen.facts) (hScDhRefIdeal := Cert.ScDhRefIdeal.Gen.facts) := by
  intro m g m' g' _ hag
  refine ⟨_, (θ_run _ _ _).mono (fun r h c => ⟨(h c).1.trans (Cert.ScDhIdeal.Value.final m c), (h c).2⟩) (Cert.ScDhIdeal.Value.run_blocks m g),
    (θ_run _ _ _).mono (fun r h c => ⟨(h c).1.trans ?_, (h c).2⟩) (Cert.ScDhRefIdeal.Value.run m' g')⟩
  rw [(hag c).2.1, (hag c).2.2]
  funext i
  unfold Product.nt
  pointwise

end Cert.Proof

namespace Cert.ScDwIdeal.Value

open Cert.ScDwIdeal Cert.ScDwIdeal.Gen Idealize.ShloMosaic Idealize.ShloMosaic.TcCoe Idealize.SL.Sem

/-- Where each window lies at a point of the grid. -/
theorem idx : ∀ t : Fin cfg0.N,
    win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The array of the result after the run is the product with the first factor transposed. -/
theorem final (m : (ℓ : Loc nD τ sig) → Buf (Elt Ideal) ℓ) (c : Dev nD) : (dats m 0 c).arrAt 2 cfg0.N
    = Product.tn (m ((c : Thread nD τ).loc main_arg0)) (m ((c : Thread nD τ).loc main_arg2)) := by
  refine (dats m 0 c).arrAt_eq_of_covers 2 _ (by decide +kernel) fun t hf y => ?_
  blk_simp
  rw [after0_2]
  frame_out
  unfold_payloads
  unfold Product.tn
  pointwise
  blk_point [iblk, V, idx t]

end Cert.ScDwIdeal.Value

namespace Cert.Proof

/-- The reference ends, leaves its arguments as they were and every counter at zero. -/
theorem scDw_reference : Cert.quiescent_ScDwRefIdeal (hScDwRefIdeal := Cert.ScDwRefIdeal.Gen.facts) := fun m g _ =>
  (θ_run _ _ _).mono (fun r h => ⟨fun c => (h c).2, sem_eq_zero_of_no_sems (by decide) r.2⟩) (Cert.ScDwRefIdeal.Value.run m g)

/-- The kernel computes the gradient of the product's second factor. -/
theorem scDw : Cert.algebraic_ScDwIdeal_ScDwRefIdeal
    (hScDwIdeal := Cert.ScDwIdeal.Gen.facts) (hScDwRefIdeal := Cert.ScDwRefIdeal.Gen.facts) := by
  intro m g m' g' _ hag
  refine ⟨_, (θ_run _ _ _).mono (fun r h c => ⟨(h c).1.trans (Cert.ScDwIdeal.Value.final m c), (h c).2⟩) (Cert.ScDwIdeal.Value.run_blocks m g),
    (θ_run _ _ _).mono (fun r h c => ⟨(h c).1.trans ?_, (h c).2⟩) (Cert.ScDwRefIdeal.Value.run m' g')⟩
  rw [(hag c).1, (hag c).2.2]
  funext i
  unfold Product.tn
  pointwise
  exact Finset.sum_congr rfl fun k _ => mul_comm _ _

end Cert.Proof

end
-- ==== Proof.Fox.lean ====
module

public import proofs.«01_k».proof.Defs
public import proofs.«01_k».proof.Proof.Gen.Fox.Frame
public import proofs.«01_k».proof.Proof.Gen.FoxIdeal.Value
public import proofs.«01_k».proof.Proof.Gen.FoxRefIdeal
public import proofs.«01_k».proof.Proof.Gen.FoxRefIdeal.Run
public import proofs.«01_k».proof.Proof.Gen.FoxDh.Frame
public import proofs.«01_k».proof.Proof.Gen.FoxDhIdeal.Value
public import proofs.«01_k».proof.Proof.Gen.FoxDhRefIdeal
public import proofs.«01_k».proof.Proof.Gen.FoxDhRefIdeal.Run
public import proofs.«01_k».proof.Proof.Gen.FoxDw.Frame
public import proofs.«01_k».proof.Proof.Gen.FoxDwIdeal.Value
public import proofs.«01_k».proof.Proof.Gen.FoxDwRefIdeal
public import proofs.«01_k».proof.Proof.Gen.FoxDwRefIdeal.Run
public import proofs.«01_k».proof.Proof.Products
public import Idealize.ShloMosaic.Adequacy
public import Idealize.ShloMosaic.Init

@[expose] public section

noncomputable section

open Idealize.ShloMosaic Idealize.ShloMosaic.TcCoe Idealize.SL.Sem

namespace Cert.FoxIdeal.Value

open Cert.FoxIdeal Cert.FoxIdeal.Gen Idealize.ShloMosaic Idealize.ShloMosaic.TcCoe Idealize.SL.Sem

/-- Where each window lies at a point of the grid. -/
theorem idx : ∀ t : Fin cfg0.N,
    win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The array of the result after the run is the product. -/
theorem final (m : (ℓ : Loc nD τ sig) → Buf (Elt Ideal) ℓ) (c : Dev nD) : (dats m 0 c).arrAt 2 cfg0.N
    = Product.nn (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  unfold Product.nn
  pointwise
  blk_point [iblk, V, idx t]

end Cert.FoxIdeal.Value

namespace Cert.Proof

/-- The reference ends, leaves its arguments as they were and every counter at zero. -/
theorem fox_reference : Cert.quiescent_FoxRefIdeal (hFoxRefIdeal := Cert.FoxRefIdeal.Gen.facts) := fun m g _ =>
  (θ_run _ _ _).mono (fun r h => ⟨fun c => (h c).2, sem_eq_zero_of_no_sems (by decide) r.2⟩) (Cert.FoxRefIdeal.Value.run m g)

/-- The kernel computes the product. -/
theorem fox : Cert.algebraic_FoxIdeal_FoxRefIdeal
    (hFoxIdeal := Cert.FoxIdeal.Gen.facts) (hFoxRefIdeal := Cert.FoxRefIdeal.Gen.facts) := by
  intro m g m' g' _ hag
  refine ⟨_, (θ_run _ _ _).mono (fun r h c => ⟨(h c).1.trans (Cert.FoxIdeal.Value.final m c), (h c).2⟩) (Cert.FoxIdeal.Value.run_blocks m g),
    (θ_run _ _ _).mono (fun r h c => ⟨(h c).1.trans ?_, (h c).2⟩) (Cert.FoxRefIdeal.Value.run m' g')⟩
  rw [(hag c).1, (hag c).2]
  funext i
  unfold Product.nn
  pointwise

end Cert.Proof

namespace Cert.FoxDhIdeal.Value

open Cert.FoxDhIdeal Cert.FoxDhIdeal.Gen Idealize.ShloMosaic Idealize.ShloMosaic.TcCoe Idealize.SL.Sem

/-- Where each window lies at a point of the grid. -/
theorem idx : ∀ t : Fin cfg0.N,
    win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The array of the result after the run is the product with the second factor transposed. -/
theorem final (m : (ℓ : Loc nD τ sig) → Buf (Elt Ideal) ℓ) (c : Dev nD) : (dats m 0 c).arrAt 2 cfg0.N
    = Product.nt (m ((c : Thread nD τ).loc main_arg2)) (m ((c : Thread nD τ).loc main_arg1)) := by
  refine (dats m 0 c).arrAt_eq_of_covers 2 _ (by decide +kernel) fun t hf y => ?_
  blk_simp
  rw [after0_2]
  frame_out
  unfold_payloads
  unfold Product.nt
  pointwise
  blk_point [iblk, V, idx t]

end Cert.FoxDhIdeal.Value

namespace Cert.Proof

/-- The reference ends, leaves its arguments as they were and every counter at zero. -/
theorem foxDh_reference : Cert.quiescent_FoxDhRefIdeal (hFoxDhRefIdeal := Cert.FoxDhRefIdeal.Gen.facts) := fun m g _ =>
  (θ_run _ _ _).mono (fun r h => ⟨fun c => (h c).2, sem_eq_zero_of_no_sems (by decide) r.2⟩) (Cert.FoxDhRefIdeal.Value.run m g)

/-- The kernel computes the gradient of the product's first factor. -/
theorem foxDh : Cert.algebraic_FoxDhIdeal_FoxDhRefIdeal
    (hFoxDhIdeal := Cert.FoxDhIdeal.Gen.facts) (hFoxDhRefIdeal := Cert.FoxDhRefIdeal.Gen.facts) := by
  intro m g m' g' _ hag
  refine ⟨_, (θ_run _ _ _).mono (fun r h c => ⟨(h c).1.trans (Cert.FoxDhIdeal.Value.final m c), (h c).2⟩) (Cert.FoxDhIdeal.Value.run_blocks m g),
    (θ_run _ _ _).mono (fun r h c => ⟨(h c).1.trans ?_, (h c).2⟩) (Cert.FoxDhRefIdeal.Value.run m' g')⟩
  rw [(hag c).2.1, (hag c).2.2]
  funext i
  unfold Product.nt
  pointwise

end Cert.Proof

namespace Cert.FoxDwIdeal.Value

open Cert.FoxDwIdeal Cert.FoxDwIdeal.Gen Idealize.ShloMosaic Idealize.ShloMosaic.TcCoe Idealize.SL.Sem

/-- Where each window lies at a point of the grid. -/
theorem idx : ∀ t : Fin cfg0.N,
    win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The array of the result after the run is the product with the first factor transposed. -/
theorem final (m : (ℓ : Loc nD τ sig) → Buf (Elt Ideal) ℓ) (c : Dev nD) : (dats m 0 c).arrAt 2 cfg0.N
    = Product.tn (m ((c : Thread nD τ).loc main_arg0)) (m ((c : Thread nD τ).loc main_arg2)) := by
  refine (dats m 0 c).arrAt_eq_of_covers 2 _ (by decide +kernel) fun t hf y => ?_
  blk_simp
  rw [after0_2]
  frame_out
  unfold_payloads
  unfold Product.tn
  pointwise
  blk_point [iblk, V, idx t]

end Cert.FoxDwIdeal.Value

namespace Cert.Proof

/-- The reference ends, leaves its arguments as they were and every counter at zero. -/
theorem foxDw_reference : Cert.quiescent_FoxDwRefIdeal (hFoxDwRefIdeal := Cert.FoxDwRefIdeal.Gen.facts) := fun m g _ =>
  (θ_run _ _ _).mono (fun r h => ⟨fun c => (h c).2, sem_eq_zero_of_no_sems (by decide) r.2⟩) (Cert.FoxDwRefIdeal.Value.run m g)

/-- The kernel computes the gradient of the product's second factor. -/
theorem foxDw : Cert.algebraic_FoxDwIdeal_FoxDwRefIdeal
    (hFoxDwIdeal := Cert.FoxDwIdeal.Gen.facts) (hFoxDwRefIdeal := Cert.FoxDwRefIdeal.Gen.facts) := by
  intro m g m' g' _ hag
  refine ⟨_, (θ_run _ _ _).mono (fun r h c => ⟨(h c).1.trans (Cert.FoxDwIdeal.Value.final m c), (h c).2⟩) (Cert.FoxDwIdeal.Value.run_blocks m g),
    (θ_run _ _ _).mono (fun r h c => ⟨(h c).1.trans ?_, (h c).2⟩) (Cert.FoxDwRefIdeal.Value.run m' g')⟩
  rw [(hag c).1, (hag c).2.2]
  funext i
  unfold Product.tn
  pointwise
  exact Finset.sum_congr rfl fun k _ => mul_comm _ _

end Cert.Proof

end
-- ==== Proof.AdamRule.lean ====
module

public import Idealize.ShloMosaic.Lib.Pipeline.ValueKit
public import proofs.«01_k».proof.Proof.Rows

/- The optimiser's rule on the extended reals, entry by entry: `w` is the weight, `g` its gradient, `m` and `v` the
   averages of the gradient and of its square. -/

@[expose] public section

noncomputable section

namespace Adam

open Idealize.ShloMosaic

/-- The new average of the gradient. -/
def mean (g m : EReal) : EReal := Ideal.ofBits .f32 0x3F666666#32 * m + Ideal.ofBits .f32 0x3DCCCCCD#32 * g

/-- The new average of the gradient's square. -/
def square (g v : EReal) : EReal := Ideal.ofBits .f32 0x3F7FBE77#32 * v + Ideal.ofBits .f32 0x3A83126F#32 * (g * g)

/-- What is added to the weight. -/
def delta (w g m v : EReal) : EReal :=
  Ideal.ofBits .f32 0xBA83126F#32 *
    (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

end Adam

end
-- ==== Proof.Adam.lean ====
module

public import proofs.«01_k».proof.Defs
public import proofs.«01_k».proof.Proof.Gen.AdamHgrnIn.Frame
public import proofs.«01_k».proof.Proof.Gen.AdamHgrnInIdeal.Value
public import proofs.«01_k».proof.Proof.Gen.AdamHgrnInRefIdeal
public import proofs.«01_k».proof.Proof.Gen.AdamHgrnInRefIdeal.Run
public import proofs.«01_k».proof.Proof.Gen.AdamSwaIn.Frame
public import proofs.«01_k».proof.Proof.Gen.AdamSwaInIdeal.Value
public import proofs.«01_k».proof.Proof.Gen.AdamSwaInRefIdeal
public import proofs.«01_k».proof.Proof.Gen.AdamSwaInRefIdeal.Run
public import proofs.«01_k».proof.Proof.Gen.AdamScIn.Frame
public import proofs.«01_k».proof.Proof.Gen.AdamScInIdeal.Value
public import proofs.«01_k».proof.Proof.Gen.AdamScInRefIdeal
public import proofs.«01_k».proof.Proof.Gen.AdamScInRefIdeal.Run
public import proofs.«01_k».proof.Proof.Gen.AdamFoxIn.Frame
public import proofs.«01_k».proof.Proof.Gen.AdamFoxInIdeal.Value
public import proofs.«01_k».proof.Proof.Gen.AdamFoxInRefIdeal
public import proofs.«01_k».proof.Proof.Gen.AdamFoxInRefIdeal.Run
public import proofs.«01_k».proof.Proof.AdamRule
public import Idealize.ShloMosaic.Adequacy
public import Idealize.ShloMosaic.Init

/- The optimiser's step: the weights of the mixers' first products. -/

@[expose] public section

noncomputable section

open Idealize.ShloMosaic Idealize.ShloMosaic.TcCoe Idealize.SL.Sem

namespace Cert.AdamHgrnInIdeal.Value

open Cert.AdamHgrnInIdeal Cert.AdamHgrnInIdeal.Gen Idealize.ShloMosaic Idealize.ShloMosaic.TcCoe Idealize.SL.Sem

/-- All windows lie at the same rows. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] :=
  (by decide +kernel : ∀ t : Fin grid0.N, _)

/-- The array after the run: what is added to the weight. -/
theorem final4 (m : (ℓ : Loc nD τ sig) → Buf (Elt Ideal) ℓ) (c : Dev nD) : (dats m 0 c).arrAt 4 cfg0.N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  blk_simp
  rw [after0_4]
  unfold outsAt0
  frame_out
  unfold_payloads
  refine congr (congr (congr (congrArg Adam.delta ?_) ?_) ?_) ?_ <;> blk_point [iblk, V, idx t]

/-- The array after the run: the new average of the gradient. -/
theorem final5 (m : (ℓ : Loc nD τ sig) → Buf (Elt Ideal) ℓ) (c : Dev nD) : (dats m 0 c).arrAt 5 cfg0.N
    = fun i => Adam.mean (m ((c : Thread nD τ).loc main_arg1) i) (m ((c : Thread nD τ).loc main_arg2) i) := by
  refine (dats m 0 c).arrAt_eq_of_covers 5 _ (by decide +kernel) fun t hf y => ?_
  blk_simp
  rw [after0_5]
  unfold outsAt0
  frame_out
  unfold_payloads
  refine congr (congrArg Adam.mean ?_) ?_ <;> blk_point [iblk, V, idx t]

/-- The array after the run: the new average of the gradient's square. -/
theorem final6 (m : (ℓ : Loc nD τ sig) → Buf (Elt Ideal) ℓ) (c : Dev nD) : (dats m 0 c).arrAt 6 cfg0.N
    = fun i => Adam.square (m ((c : Thread nD τ).loc main_arg1) i) (m ((c : Thread nD τ).loc main_arg3) i) := by
  refine (dats m 0 c).arrAt_eq_of_covers 6 _ (by decide +kernel) fun t hf y => ?_
  blk_simp
  rw [after0_6]
  unfold outsAt0
  frame_out
  unfold_payloads
  refine congr (congrArg Adam.square ?_) ?_ <;> blk_point [iblk, V, idx t]

end Cert.AdamHgrnInIdeal.Value

namespace Cert.Proof

/-- The reference ends, leaves its arguments as they were and every counter at zero. -/
theorem adamHgrnIn_reference : Cert.quiescent_AdamHgrnInRefIdeal (hAdamHgrnInRefIdeal := Cert.AdamHgrnInRefIdeal.Gen.facts) := fun m g _ =>
  (θ_run _ _ _).mono (fun r h => ⟨fun c => (h c).2.2.2, sem_eq_zero_of_no_sems (by decide) r.2⟩) (Cert.AdamHgrnInRefIdeal.Value.run m g)

/-- The kernel computes the optimiser's rule. -/
theorem adamHgrnIn : Cert.algebraic_AdamHgrnInIdeal_AdamHgrnInRefIdeal
    (hAdamHgrnInIdeal := Cert.AdamHgrnInIdeal.Gen.facts) (hAdamHgrnInRefIdeal := Cert.AdamHgrnInRefIdeal.Gen.facts) := by
  intro m g m' g' _ hag
  refine ⟨_, _, _, (θ_run _ _ _).mono (fun r h c => ⟨(h c).1.trans (Cert.AdamHgrnInIdeal.Value.final4 m c),
      (h c).2.1.trans (Cert.AdamHgrnInIdeal.Value.final5 m c), (h c).2.2.1.trans (Cert.AdamHgrnInIdeal.Value.final6 m c), (h c).2.2.2⟩)
      (Cert.AdamHgrnInIdeal.Value.run_blocks m g),
    (θ_run _ _ _).mono (fun r h c => ⟨(h c).1.trans ?_, (h c).2.1.trans ?_, (h c).2.2.1.trans ?_, (h c).2.2.2⟩)
      (Cert.AdamHgrnInRefIdeal.Value.run m' g')⟩ <;> rw [(hag c).2.1]
  · rw [(hag c).1, (hag c).2.2.1, (hag c).2.2.2.1]
    rfl
  · rw [(hag c).2.2.1]
    rfl
  · rw [(hag c).2.2.2.1]
    rfl

end Cert.Proof

namespace Cert.AdamSwaInIdeal.Value

open Cert.AdamSwaInIdeal Cert.AdamSwaInIdeal.Gen Idealize.ShloMosaic Idealize.ShloMosaic.TcCoe Idealize.SL.Sem

/-- All windows lie at the same rows. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] :=
  (by decide +kernel : ∀ t : Fin grid0.N, _)

/-- The array after the run: what is added to the weight. -/
theorem final4 (m : (ℓ : Loc nD τ sig) → Buf (Elt Ideal) ℓ) (c : Dev nD) : (dats m 0 c).arrAt 4 cfg0.N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  blk_simp
  rw [after0_4]
  unfold outsAt0
  frame_out
  unfold_payloads
  refine congr (congr (congr (congrArg Adam.delta ?_) ?_) ?_) ?_ <;> blk_point [iblk, V, idx t]

/-- The array after the run: the new average of the gradient. -/
theorem final5 (m : (ℓ : Loc nD τ sig) → Buf (Elt Ideal) ℓ) (c : Dev nD) : (dats m 0 c).arrAt 5 cfg0.N
    = fun i => Adam.mean (m ((c : Thread nD τ).loc main_arg1) i) (m ((c : Thread nD τ).loc main_arg2) i) := by
  refine (dats m 0 c).arrAt_eq_of_covers 5 _ (by decide +kernel) fun t hf y => ?_
  blk_simp
  rw [after0_5]
  unfold outsAt0
  frame_out
  unfold_payloads
  refine congr (congrArg Adam.mean ?_) ?_ <;> blk_point [iblk, V, idx t]

/-- The array after the run: the new average of the gradient's square. -/
theorem final6 (m : (ℓ : Loc nD τ sig) → Buf (Elt Ideal) ℓ) (c : Dev nD) : (dats m 0 c).arrAt 6 cfg0.N
    = fun i => Adam.square (m ((c : Thread nD τ).loc main_arg1) i) (m ((c : Thread nD τ).loc main_arg3) i) := by
  refine (dats m 0 c).arrAt_eq_of_covers 6 _ (by decide +kernel) fun t hf y => ?_
  blk_simp
  rw [after0_6]
  unfold outsAt0
  frame_out
  unfold_payloads
  refine congr (congrArg Adam.square ?_) ?_ <;> blk_point [iblk, V, idx t]

end Cert.AdamSwaInIdeal.Value

namespace Cert.Proof

/-- The reference ends, leaves its arguments as they were and every counter at zero. -/
theorem adamSwaIn_reference : Cert.quiescent_AdamSwaInRefIdeal (hAdamSwaInRefIdeal := Cert.AdamSwaInRefIdeal.Gen.facts) := fun m g _ =>
  (θ_run _ _ _).mono (fun r h => ⟨fun c => (h c).2.2.2, sem_eq_zero_of_no_sems (by decide) r.2⟩) (Cert.AdamSwaInRefIdeal.Value.run m g)

/-- The kernel computes the optimiser's rule. -/
theorem adamSwaIn : Cert.algebraic_AdamSwaInIdeal_AdamSwaInRefIdeal
    (hAdamSwaInIdeal := Cert.AdamSwaInIdeal.Gen.facts) (hAdamSwaInRefIdeal := Cert.AdamSwaInRefIdeal.Gen.facts) := by
  intro m g m' g' _ hag
  refine ⟨_, _, _, (θ_run _ _ _).mono (fun r h c => ⟨(h c).1.trans (Cert.AdamSwaInIdeal.Value.final4 m c),
      (h c).2.1.trans (Cert.AdamSwaInIdeal.Value.final5 m c), (h c).2.2.1.trans (Cert.AdamSwaInIdeal.Value.final6 m c), (h c).2.2.2⟩)
      (Cert.AdamSwaInIdeal.Value.run_blocks m g),
    (θ_run _ _ _).mono (fun r h c => ⟨(h c).1.trans ?_, (h c).2.1.trans ?_, (h c).2.2.1.trans ?_, (h c).2.2.2⟩)
      (Cert.AdamSwaInRefIdeal.Value.run m' g')⟩ <;> rw [(hag c).2.1]
  · rw [(hag c).1, (hag c).2.2.1, (hag c).2.2.2.1]
    rfl
  · rw [(hag c).2.2.1]
    rfl
  · rw [(hag c).2.2.2.1]
    rfl

end Cert.Proof

namespace Cert.AdamScInIdeal.Value

open Cert.AdamScInIdeal Cert.AdamScInIdeal.Gen Idealize.ShloMosaic Idealize.ShloMosaic.TcCoe Idealize.SL.Sem

/-- All windows lie at the same rows. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] :=
  (by decide +kernel : ∀ t : Fin grid0.N, _)

/-- The array after the run: what is added to the weight. -/
theorem final4 (m : (ℓ : Loc nD τ sig) → Buf (Elt Ideal) ℓ) (c : Dev nD) : (dats m 0 c).arrAt 4 cfg0.N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  blk_simp
  rw [after0_4]
  unfold outsAt0
  frame_out
  unfold_payloads
  refine congr (congr (congr (congrArg Adam.delta ?_) ?_) ?_) ?_ <;> blk_point [iblk, V, idx t]

/-- The array after the run: the new average of the gradient. -/
theorem final5 (m : (ℓ : Loc nD τ sig) → Buf (Elt Ideal) ℓ) (c : Dev nD) : (dats m 0 c).arrAt 5 cfg0.N
    = fun i => Adam.mean (m ((c : Thread nD τ).loc main_arg1) i) (m ((c : Thread nD τ).loc main_arg2) i) := by
  refine (dats m 0 c).arrAt_eq_of_covers 5 _ (by decide +kernel) fun t hf y => ?_
  blk_simp
  rw [after0_5]
  unfold outsAt0
  frame_out
  unfold_payloads
  refine congr (congrArg Adam.mean ?_) ?_ <;> blk_point [iblk, V, idx t]

/-- The array after the run: the new average of the gradient's square. -/
theorem final6 (m : (ℓ : Loc nD τ sig) → Buf (Elt Ideal) ℓ) (c : Dev nD) : (dats m 0 c).arrAt 6 cfg0.N
    = fun i => Adam.square (m ((c : Thread nD τ).loc main_arg1) i) (m ((c : Thread nD τ).loc main_arg3) i) := by
  refine (dats m 0 c).arrAt_eq_of_covers 6 _ (by decide +kernel) fun t hf y => ?_
  blk_simp
  rw [after0_6]
  unfold outsAt0
  frame_out
  unfold_payloads
  refine congr (congrArg Adam.square ?_) ?_ <;> blk_point [iblk, V, idx t]

end Cert.AdamScInIdeal.Value

namespace Cert.Proof

/-- The reference ends, leaves its arguments as they were and every counter at zero. -/
theorem adamScIn_reference : Cert.quiescent_AdamScInRefIdeal (hAdamScInRefIdeal := Cert.AdamScInRefIdeal.Gen.facts) := fun m g _ =>
  (θ_run _ _ _).mono (fun r h => ⟨fun c => (h c).2.2.2, sem_eq_zero_of_no_sems (by decide) r.2⟩) (Cert.AdamScInRefIdeal.Value.run m g)

/-- The kernel computes the optimiser's rule. -/
theorem adamScIn : Cert.algebraic_AdamScInIdeal_AdamScInRefIdeal
    (hAdamScInIdeal := Cert.AdamScInIdeal.Gen.facts) (hAdamScInRefIdeal := Cert.AdamScInRefIdeal.Gen.facts) := by
  intro m g m' g' _ hag
  refine ⟨_, _, _, (θ_run _ _ _).mono (fun r h c => ⟨(h c).1.trans (Cert.AdamScInIdeal.Value.final4 m c),
      (h c).2.1.trans (Cert.AdamScInIdeal.Value.final5 m c), (h c).2.2.1.trans (Cert.AdamScInIdeal.Value.final6 m c), (h c).2.2.2⟩)
      (Cert.AdamScInIdeal.Value.run_blocks m g),
    (θ_run _ _ _).mono (fun r h c => ⟨(h c).1.trans ?_, (h c).2.1.trans ?_, (h c).2.2.1.trans ?_, (h c).2.2.2⟩)
      (Cert.AdamScInRefIdeal.Value.run m' g')⟩ <;> rw [(hag c).2.1]
  · rw [(hag c).1, (hag c).2.2.1, (hag c).2.2.2.1]
    rfl
  · rw [(hag c).2.2.1]
    rfl
  · rw [(hag c).2.2.2.1]
    rfl

end Cert.Proof

namespace Cert.AdamFoxInIdeal.Value

open Cert.AdamFoxInIdeal Cert.AdamFoxInIdeal.Gen Idealize.ShloMosaic Idealize.ShloMosaic.TcCoe Idealize.SL.Sem

/-- All windows lie at the same rows. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] :=
  (by decide +kernel : ∀ t : Fin grid0.N, _)

/-- The array after the run: what is added to the weight. -/
theorem final4 (m : (ℓ : Loc nD τ sig) → Buf (Elt Ideal) ℓ) (c : Dev nD) : (dats m 0 c).arrAt 4 cfg0.N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  blk_simp
  rw [after0_4]
  unfold outsAt0
  frame_out
  unfold_payloads
  refine congr (congr (congr (congrArg Adam.delta ?_) ?_) ?_) ?_ <;> blk_point [iblk, V, idx t]

/-- The array after the run: the new average of the gradient. -/
theorem final5 (m : (ℓ : Loc nD τ sig) → Buf (Elt Ideal) ℓ) (c : Dev nD) : (dats m 0 c).arrAt 5 cfg0.N
    = fun i => Adam.mean (m ((c : Thread nD τ).loc main_arg1) i) (m ((c : Thread nD τ).loc main_arg2) i) := by
  refine (dats m 0 c).arrAt_eq_of_covers 5 _ (by decide +kernel) fun t hf y => ?_
  blk_simp
  rw [after0_5]
  unfold outsAt0
  frame_out
  unfold_payloads
  refine congr (congrArg Adam.mean ?_) ?_ <;> blk_point [iblk, V, idx t]

/-- The array after the run: the new average of the gradient's square. -/
theorem final6 (m : (ℓ : Loc nD τ sig) → Buf (Elt Ideal) ℓ) (c : Dev nD) : (dats m 0 c).arrAt 6 cfg0.N
    = fun i => Adam.square (m ((c : Thread nD τ).loc main_arg1) i) (m ((c : Thread nD τ).loc main_arg3) i) := by
  refine (dats m 0 c).arrAt_eq_of_covers 6 _ (by decide +kernel) fun t hf y => ?_
  blk_simp
  rw [after0_6]
  unfold outsAt0
  frame_out
  unfold_payloads
  refine congr (congrArg Adam.square ?_) ?_ <;> blk_point [iblk, V, idx t]

end Cert.AdamFoxInIdeal.Value

namespace Cert.Proof

/-- The reference ends, leaves its arguments as they were and every counter at zero. -/
theorem adamFoxIn_reference : Cert.quiescent_AdamFoxInRefIdeal (hAdamFoxInRefIdeal := Cert.AdamFoxInRefIdeal.Gen.facts) := fun m g _ =>
  (θ_run _ _ _).mono (fun r h => ⟨fun c => (h c).2.2.2, sem_eq_zero_of_no_sems (by decide) r.2⟩) (Cert.AdamFoxInRefIdeal.Value.run m g)

/-- The kernel computes the optimiser's rule. -/
theorem adamFoxIn : Cert.algebraic_AdamFoxInIdeal_AdamFoxInRefIdeal
    (hAdamFoxInIdeal := Cert.AdamFoxInIdeal.Gen.facts) (hAdamFoxInRefIdeal := Cert.AdamFoxInRefIdeal.Gen.facts) := by
  intro m g m' g' _ hag
  refine ⟨_, _, _, (θ_run _ _ _).mono (fun r h c => ⟨(h c).1.trans (Cert.AdamFoxInIdeal.Value.final4 m c),
      (h c).2.1.trans (Cert.AdamFoxInIdeal.Value.final5 m c), (h c).2.2.1.trans (Cert.AdamFoxInIdeal.Value.final6 m c), (h c).2.2.2⟩)
      (Cert.AdamFoxInIdeal.Value.run_blocks m g),
    (θ_run _ _ _).mono (fun r h c => ⟨(h c).1.trans ?_, (h c).2.1.trans ?_, (h c).2.2.1.trans ?_, (h c).2.2.2⟩)
      (Cert.AdamFoxInRefIdeal.Value.run m' g')⟩ <;> rw [(hag c).2.1]
  · rw [(hag c).1, (hag c).2.2.1, (hag c).2.2.2.1]
    rfl
  · rw [(hag c).2.2.1]
    rfl
  · rw [(hag c).2.2.2.1]
    rfl

end Cert.Proof

end
-- ==== Proof.AdamFfn.lean ====
module

public import proofs.«01_k».proof.Defs
public import proofs.«01_k».proof.Proof.Gen.AdamUp.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamDown.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamOut.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.AdamRule
public import Idealize.ShloMosaic.Adequacy
public import Idealize.ShloMosaic.Init

/- The optimiser's step: the weights of the feed-forward layers and of the mixers' last products. -/

@[expose] public section

noncomputable section

open Idealize.ShloMosaic Idealize.ShloMosaic.TcCoe Idealize.SL.Sem

namespace Cert.AdamUpIdeal.Value

open Cert.AdamUpIdeal Cert.AdamUpIdeal.Gen Idealize.ShloMosaic Idealize.ShloMosaic.TcCoe Idealize.SL.Sem

/-- All windows lie at the same rows. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] :=
  (by decide +kernel : ∀ t : Fin grid0.N, _)

/-- The array after the run: what is added to the weight. -/
theorem final4 (m : (ℓ : Loc nD τ sig) → Buf (Elt Ideal) ℓ) (c : Dev nD) : (dats m 0 c).arrAt 4 cfg0.N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  blk_simp
  rw [after0_4]
  unfold outsAt0
  frame_out
  unfold_payloads
  refine congr (congr (congr (congrArg Adam.delta ?_) ?_) ?_) ?_ <;> blk_point [iblk, V, idx t]

/-- The array after the run: the new average of the gradient. -/
theorem final5 (m : (ℓ : Loc nD τ sig) → Buf (Elt Ideal) ℓ) (c : Dev nD) : (dats m 0 c).arrAt 5 cfg0.N
    = fun i => Adam.mean (m ((c : Thread nD τ).loc main_arg1) i) (m ((c : Thread nD τ).loc main_arg2) i) := by
  refine (dats m 0 c).arrAt_eq_of_covers 5 _ (by decide +kernel) fun t hf y => ?_
  blk_simp
  rw [after0_5]
  unfold outsAt0
  frame_out
  unfold_payloads
  refine congr (congrArg Adam.mean ?_) ?_ <;> blk_point [iblk, V, idx t]

/-- The array after the run: the new average of the gradient's square. -/
theorem final6 (m : (ℓ : Loc nD τ sig) → Buf (Elt Ideal) ℓ) (c : Dev nD) : (dats m 0 c).arrAt 6 cfg0.N
    = fun i => Adam.square (m ((c : Thread nD τ).loc main_arg1) i) (m ((c : Thread nD τ).loc main_arg3) i) := by
  refine (dats m 0 c).arrAt_eq_of_covers 6 _ (by decide +kernel) fun t hf y => ?_
  blk_simp
  rw [after0_6]
  unfold outsAt0
  frame_out
  unfold_payloads
  refine congr (congrArg Adam.square ?_) ?_ <;> blk_point [iblk, V, idx t]

end Cert.AdamUpIdeal.Value

namespace Cert.Proof

/-- The reference ends, leaves its arguments as they were and every counter at zero. -/
theorem adamUp_reference : Cert.quiescent_AdamUpRefIdeal (hAdamUpRefIdeal := Cert.AdamUpRefIdeal.Gen.facts) := fun m g _ =>
  (θ_run _ _ _).mono (fun r h => ⟨fun c => (h c).2.2.2, sem_eq_zero_of_no_sems (by decide) r.2⟩) (Cert.AdamUpRefIdeal.Value.run m g)

/-- The kernel computes the optimiser's rule. -/
theorem adamUp : Cert.algebraic_AdamUpIdeal_AdamUpRefIdeal
    (hAdamUpIdeal := Cert.AdamUpIdeal.Gen.facts) (hAdamUpRefIdeal := Cert.AdamUpRefIdeal.Gen.facts) := by
  intro m g m' g' _ hag
  refine ⟨_, _, _, (θ_run _ _ _).mono (fun r h c => ⟨(h c).1.trans (Cert.AdamUpIdeal.Value.final4 m c),
      (h c).2.1.trans (Cert.AdamUpIdeal.Value.final5 m c), (h c).2.2.1.trans (Cert.AdamUpIdeal.Value.final6 m c), (h c).2.2.2⟩)
      (Cert.AdamUpIdeal.Value.run_blocks m g),
    (θ_run _ _ _).mono (fun r h c => ⟨(h c).1.trans ?_, (h c).2.1.trans ?_, (h c).2.2.1.trans ?_, (h c).2.2.2⟩)
      (Cert.AdamUpRefIdeal.Value.run m' g')⟩ <;> rw [(hag c).2.1]
  · rw [(hag c).1, (hag c).2.2.1, (hag c).2.2.2.1]
    rfl
  · rw [(hag c).2.2.1]
    rfl
  · rw [(hag c).2.2.2.1]
    rfl

end Cert.Proof

namespace Cert.AdamDownIdeal.Value

open Cert.AdamDownIdeal Cert.AdamDownIdeal.Gen Idealize.ShloMosaic Idealize.ShloMosaic.TcCoe Idealize.SL.Sem

/-- All windows lie at the same rows. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] :=
  (by decide +kernel : ∀ t : Fin grid0.N, _)

/-- The array after the run: what is added to the weight. -/
theorem final4 (m : (ℓ : Loc nD τ sig) → Buf (Elt Ideal) ℓ) (c : Dev nD) : (dats m 0 c).arrAt 4 cfg0.N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  blk_simp
  rw [after0_4]
  unfold outsAt0
  frame_out
  unfold_payloads
  refine congr (congr (congr (congrArg Adam.delta ?_) ?_) ?_) ?_ <;> blk_point [iblk, V, idx t]

/-- The array after the run: the new average of the gradient. -/
theorem final5 (m : (ℓ : Loc nD τ sig) → Buf (Elt Ideal) ℓ) (c : Dev nD) : (dats m 0 c).arrAt 5 cfg0.N
    = fun i => Adam.mean (m ((c : Thread nD τ).loc main_arg1) i) (m ((c : Thread nD τ).loc main_arg2) i) := by
  refine (dats m 0 c).arrAt_eq_of_covers 5 _ (by decide +kernel) fun t hf y => ?_
  blk_simp
  rw [after0_5]
  unfold outsAt0
  frame_out
  unfold_payloads
  refine congr (congrArg Adam.mean ?_) ?_ <;> blk_point [iblk, V, idx t]

/-- The array after the run: the new average of the gradient's square. -/
theorem final6 (m : (ℓ : Loc nD τ sig) → Buf (Elt Ideal) ℓ) (c : Dev nD) : (dats m 0 c).arrAt 6 cfg0.N
    = fun i => Adam.square (m ((c : Thread nD τ).loc main_arg1) i) (m ((c : Thread nD τ).loc main_arg3) i) := by
  refine (dats m 0 c).arrAt_eq_of_covers 6 _ (by decide +kernel) fun t hf y => ?_
  blk_simp
  rw [after0_6]
  unfold outsAt0
  frame_out
  unfold_payloads
  refine congr (congrArg Adam.square ?_) ?_ <;> blk_point [iblk, V, idx t]

end Cert.AdamDownIdeal.Value

namespace Cert.Proof

/-- The reference ends, leaves its arguments as they were and every counter at zero. -/
theorem adamDown_reference : Cert.quiescent_AdamDownRefIdeal (hAdamDownRefIdeal := Cert.AdamDownRefIdeal.Gen.facts) := fun m g _ =>
  (θ_run _ _ _).mono (fun r h => ⟨fun c => (h c).2.2.2, sem_eq_zero_of_no_sems (by decide) r.2⟩) (Cert.AdamDownRefIdeal.Value.run m g)

/-- The kernel computes the optimiser's rule. -/
theorem adamDown : Cert.algebraic_AdamDownIdeal_AdamDownRefIdeal
    (hAdamDownIdeal := Cert.AdamDownIdeal.Gen.facts) (hAdamDownRefIdeal := Cert.AdamDownRefIdeal.Gen.facts) := by
  intro m g m' g' _ hag
  refine ⟨_, _, _, (θ_run _ _ _).mono (fun r h c => ⟨(h c).1.trans (Cert.AdamDownIdeal.Value.final4 m c),
      (h c).2.1.trans (Cert.AdamDownIdeal.Value.final5 m c), (h c).2.2.1.trans (Cert.AdamDownIdeal.Value.final6 m c), (h c).2.2.2⟩)
      (Cert.AdamDownIdeal.Value.run_blocks m g),
    (θ_run _ _ _).mono (fun r h c => ⟨(h c).1.trans ?_, (h c).2.1.trans ?_, (h c).2.2.1.trans ?_, (h c).2.2.2⟩)
      (Cert.AdamDownRefIdeal.Value.run m' g')⟩ <;> rw [(hag c).2.1]
  · rw [(hag c).1, (hag c).2.2.1, (hag c).2.2.2.1]
    rfl
  · rw [(hag c).2.2.1]
    rfl
  · rw [(hag c).2.2.2.1]
    rfl

end Cert.Proof

namespace Cert.AdamOutIdeal.Value

open Cert.AdamOutIdeal Cert.AdamOutIdeal.Gen Idealize.ShloMosaic Idealize.ShloMosaic.TcCoe Idealize.SL.Sem

/-- All windows lie at the same rows. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] :=
  (by decide +kernel : ∀ t : Fin grid0.N, _)

/-- The array after the run: what is added to the weight. -/
theorem final4 (m : (ℓ : Loc nD τ sig) → Buf (Elt Ideal) ℓ) (c : Dev nD) : (dats m 0 c).arrAt 4 cfg0.N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  blk_simp
  rw [after0_4]
  unfold outsAt0
  frame_out
  unfold_payloads
  refine congr (congr (congr (congrArg Adam.delta ?_) ?_) ?_) ?_ <;> blk_point [iblk, V, idx t]

/-- The array after the run: the new average of the gradient. -/
theorem final5 (m : (ℓ : Loc nD τ sig) → Buf (Elt Ideal) ℓ) (c : Dev nD) : (dats m 0 c).arrAt 5 cfg0.N
    = fun i => Adam.mean (m ((c : Thread nD τ).loc main_arg1) i) (m ((c : Thread nD τ).loc main_arg2) i) := by
  refine (dats m 0 c).arrAt_eq_of_covers 5 _ (by decide +kernel) fun t hf y => ?_
  blk_simp
  rw [after0_5]
  unfold outsAt0
  frame_out
  unfold_payloads
  refine congr (congrArg Adam.mean ?_) ?_ <;> blk_point [iblk, V, idx t]

/-- The array after the run: the new average of the gradient's square. -/
theorem final6 (m : (ℓ : Loc nD τ sig) → Buf (Elt Ideal) ℓ) (c : Dev nD) : (dats m 0 c).arrAt 6 cfg0.N
    = fun i => Adam.square (m ((c : Thread nD τ).loc main_arg1) i) (m ((c : Thread nD τ).loc main_arg3) i) := by
  refine (dats m 0 c).arrAt_eq_of_covers 6 _ (by decide +kernel) fun t hf y => ?_
  blk_simp
  rw [after0_6]
  unfold outsAt0
  frame_out
  unfold_payloads
  refine congr (congrArg Adam.square ?_) ?_ <;> blk_point [iblk, V, idx t]

end Cert.AdamOutIdeal.Value

namespace Cert.Proof

/-- The reference ends, leaves its arguments as they were and every counter at zero. -/
theorem adamOut_reference : Cert.quiescent_AdamOutRefIdeal (hAdamOutRefIdeal := Cert.AdamOutRefIdeal.Gen.facts) := fun m g _ =>
  (θ_run _ _ _).mono (fun r h => ⟨fun c => (h c).2.2.2, sem_eq_zero_of_no_sems (by decide) r.2⟩) (Cert.AdamOutRefIdeal.Value.run m g)

/-- The kernel computes the optimiser's rule. -/
theorem adamOut : Cert.algebraic_AdamOutIdeal_AdamOutRefIdeal
    (hAdamOutIdeal := Cert.AdamOutIdeal.Gen.facts) (hAdamOutRefIdeal := Cert.AdamOutRefIdeal.Gen.facts) := by
  intro m g m' g' _ hag
  refine ⟨_, _, _, (θ_run _ _ _).mono (fun r h c => ⟨(h c).1.trans (Cert.AdamOutIdeal.Value.final4 m c),
      (h c).2.1.trans (Cert.AdamOutIdeal.Value.final5 m c), (h c).2.2.1.trans (Cert.AdamOutIdeal.Value.final6 m c), (h c).2.2.2⟩)
      (Cert.AdamOutIdeal.Value.run_blocks m g),
    (θ_run _ _ _).mono (fun r h c => ⟨(h c).1.trans ?_, (h c).2.1.trans ?_, (h c).2.2.1.trans ?_, (h c).2.2.2⟩)
      (Cert.AdamOutRefIdeal.Value.run m' g')⟩ <;> rw [(hag c).2.1]
  · rw [(hag c).1, (hag c).2.2.1, (hag c).2.2.2.1]
    rfl
  · rw [(hag c).2.2.1]
    rfl
  · rw [(hag c).2.2.2.1]
    rfl

end Cert.Proof

end
-- ==== Proof.AdamSmall.lean ====
module

public import proofs.«01_k».proof.Defs
public import proofs.«01_k».proof.Proof.Gen.AdamNorm.Frame
public import proofs.«01_k».proof.Proof.Gen.AdamNormIdeal.Value
public import proofs.«01_k».proof.Proof.Gen.AdamNormRefIdeal
public import proofs.«01_k».proof.Proof.Gen.AdamNormRefIdeal.Run
public import proofs.«01_k».proof.Proof.Gen.AdamHeadNorm.Frame
public import proofs.«01_k».proof.Proof.Gen.AdamHeadNormIdeal.Value
public import proofs.«01_k».proof.Proof.Gen.AdamHeadNormRefIdeal
public import proofs.«01_k».proof.Proof.Gen.AdamHeadNormRefIdeal.Run
public import proofs.«01_k».proof.Proof.Gen.AdamLb.Frame
public import proofs.«01_k».proof.Proof.Gen.AdamLbIdeal.Value
public import proofs.«01_k».proof.Proof.Gen.AdamLbRefIdeal
public import proofs.«01_k».proof.Proof.Gen.AdamLbRefIdeal.Run
public import proofs.«01_k».proof.Proof.Gen.AdamHead.Frame
public import proofs.«01_k».proof.Proof.Gen.AdamHeadIdeal.Value
public import proofs.«01_k».proof.Proof.Gen.AdamHeadRefIdeal
public import proofs.«01_k».proof.Proof.Gen.AdamHeadRefIdeal.Run
public import proofs.«01_k».proof.Proof.AdamRule
public import Idealize.ShloMosaic.Adequacy
public import Idealize.ShloMosaic.Init

/- The optimiser's step: the norms' weights and the recurrence's parameters. -/

@[expose] public section

noncomputable section

open Idealize.ShloMosaic Idealize.ShloMosaic.TcCoe Idealize.SL.Sem

namespace Cert.AdamNormIdeal.Value

open Cert.AdamNormIdeal Cert.AdamNormIdeal.Gen Idealize.ShloMosaic Idealize.ShloMosaic.TcCoe Idealize.SL.Sem

/-- All windows lie at the same rows. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] :=
  (by decide +kernel : ∀ t : Fin grid0.N, _)

/-- The array after the run: what is added to the weight. -/
theorem final4 (m : (ℓ : Loc nD τ sig) → Buf (Elt Ideal) ℓ) (c : Dev nD) : (dats m 0 c).arrAt 4 cfg0.N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  blk_simp
  rw [after0_4]
  unfold outsAt0
  frame_out
  unfold_payloads
  refine congr (congr (congr (congrArg Adam.delta ?_) ?_) ?_) ?_ <;> blk_point [iblk, V, idx t]

/-- The array after the run: the new average of the gradient. -/
theorem final5 (m : (ℓ : Loc nD τ sig) → Buf (Elt Ideal) ℓ) (c : Dev nD) : (dats m 0 c).arrAt 5 cfg0.N
    = fun i => Adam.mean (m ((c : Thread nD τ).loc main_arg1) i) (m ((c : Thread nD τ).loc main_arg2) i) := by
  refine (dats m 0 c).arrAt_eq_of_covers 5 _ (by decide +kernel) fun t hf y => ?_
  blk_simp
  rw [after0_5]
  unfold outsAt0
  frame_out
  unfold_payloads
  refine congr (congrArg Adam.mean ?_) ?_ <;> blk_point [iblk, V, idx t]

/-- The array after the run: the new average of the gradient's square. -/
theorem final6 (m : (ℓ : Loc nD τ sig) → Buf (Elt Ideal) ℓ) (c : Dev nD) : (dats m 0 c).arrAt 6 cfg0.N
    = fun i => Adam.square (m ((c : Thread nD τ).loc main_arg1) i) (m ((c : Thread nD τ).loc main_arg3) i) := by
  refine (dats m 0 c).arrAt_eq_of_covers 6 _ (by decide +kernel) fun t hf y => ?_
  blk_simp
  rw [after0_6]
  unfold outsAt0
  frame_out
  unfold_payloads
  refine congr (congrArg Adam.square ?_) ?_ <;> blk_point [iblk, V, idx t]

end Cert.AdamNormIdeal.Value

namespace Cert.Proof

/-- The reference ends, leaves its arguments as they were and every counter at zero. -/
theorem adamNorm_reference : Cert.quiescent_AdamNormRefIdeal (hAdamNormRefIdeal := Cert.AdamNormRefIdeal.Gen.facts) := fun m g _ =>
  (θ_run _ _ _).mono (fun r h => ⟨fun c => (h c).2.2.2, sem_eq_zero_of_no_sems (by decide) r.2⟩) (Cert.AdamNormRefIdeal.Value.run m g)

/-- The kernel computes the optimiser's rule. -/
theorem adamNorm : Cert.algebraic_AdamNormIdeal_AdamNormRefIdeal
    (hAdamNormIdeal := Cert.AdamNormIdeal.Gen.facts) (hAdamNormRefIdeal := Cert.AdamNormRefIdeal.Gen.facts) := by
  intro m g m' g' _ hag
  refine ⟨_, _, _, (θ_run _ _ _).mono (fun r h c => ⟨(h c).1.trans (Cert.AdamNormIdeal.Value.final4 m c),
      (h c).2.1.trans (Cert.AdamNormIdeal.Value.final5 m c), (h c).2.2.1.trans (Cert.AdamNormIdeal.Value.final6 m c), (h c).2.2.2⟩)
      (Cert.AdamNormIdeal.Value.run_blocks m g),
    (θ_run _ _ _).mono (fun r h c => ⟨(h c).1.trans ?_, (h c).2.1.trans ?_, (h c).2.2.1.trans ?_, (h c).2.2.2⟩)
      (Cert.AdamNormRefIdeal.Value.run m' g')⟩ <;> rw [(hag c).2.1]
  · rw [(hag c).1, (hag c).2.2.1, (hag c).2.2.2.1]
    rfl
  · rw [(hag c).2.2.1]
    rfl
  · rw [(hag c).2.2.2.1]
    rfl

end Cert.Proof

namespace Cert.AdamHeadNormIdeal.Value

open Cert.AdamHeadNormIdeal Cert.AdamHeadNormIdeal.Gen Idealize.ShloMosaic Idealize.ShloMosaic.TcCoe Idealize.SL.Sem

/-- All windows lie at the same rows. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] :=
  (by decide +kernel : ∀ t : Fin grid0.N, _)

/-- The array after the run: what is added to the weight. -/
theorem final4 (m : (ℓ : Loc nD τ sig) → Buf (Elt Ideal) ℓ) (c : Dev nD) : (dats m 0 c).arrAt 4 cfg0.N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  blk_simp
  rw [after0_4]
  unfold outsAt0
  frame_out
  unfold_payloads
  refine congr (congr (congr (congrArg Adam.delta ?_) ?_) ?_) ?_ <;> blk_point [iblk, V, idx t]

/-- The array after the run: the new average of the gradient. -/
theorem final5 (m : (ℓ : Loc nD τ sig) → Buf (Elt Ideal) ℓ) (c : Dev nD) : (dats m 0 c).arrAt 5 cfg0.N
    = fun i => Adam.mean (m ((c : Thread nD τ).loc main_arg1) i) (m ((c : Thread nD τ).loc main_arg2) i) := by
  refine (dats m 0 c).arrAt_eq_of_covers 5 _ (by decide +kernel) fun t hf y => ?_
  blk_simp
  rw [after0_5]
  unfold outsAt0
  frame_out
  unfold_payloads
  refine congr (congrArg Adam.mean ?_) ?_ <;> blk_point [iblk, V, idx t]

/-- The array after the run: the new average of the gradient's square. -/
theorem final6 (m : (ℓ : Loc nD τ sig) → Buf (Elt Ideal) ℓ) (c : Dev nD) : (dats m 0 c).arrAt 6 cfg0.N
    = fun i => Adam.square (m ((c : Thread nD τ).loc main_arg1) i) (m ((c : Thread nD τ).loc main_arg3) i) := by
  refine (dats m 0 c).arrAt_eq_of_covers 6 _ (by decide +kernel) fun t hf y => ?_
  blk_simp
  rw [after0_6]
  unfold outsAt0
  frame_out
  unfold_payloads
  refine congr (congrArg Adam.square ?_) ?_ <;> blk_point [iblk, V, idx t]

end Cert.AdamHeadNormIdeal.Value

namespace Cert.Proof

/-- The reference ends, leaves its arguments as they were and every counter at zero. -/
theorem adamHeadNorm_reference : Cert.quiescent_AdamHeadNormRefIdeal (hAdamHeadNormRefIdeal := Cert.AdamHeadNormRefIdeal.Gen.facts) := fun m g _ =>
  (θ_run _ _ _).mono (fun r h => ⟨fun c => (h c).2.2.2, sem_eq_zero_of_no_sems (by decide) r.2⟩) (Cert.AdamHeadNormRefIdeal.Value.run m g)

/-- The kernel computes the optimiser's rule. -/
theorem adamHeadNorm : Cert.algebraic_AdamHeadNormIdeal_AdamHeadNormRefIdeal
    (hAdamHeadNormIdeal := Cert.AdamHeadNormIdeal.Gen.facts) (hAdamHeadNormRefIdeal := Cert.AdamHeadNormRefIdeal.Gen.facts) := by
  intro m g m' g' _ hag
  refine ⟨_, _, _, (θ_run _ _ _).mono (fun r h c => ⟨(h c).1.trans (Cert.AdamHeadNormIdeal.Value.final4 m c),
      (h c).2.1.trans (Cert.AdamHeadNormIdeal.Value.final5 m c), (h c).2.2.1.trans (Cert.AdamHeadNormIdeal.Value.final6 m c), (h c).2.2.2⟩)
      (Cert.AdamHeadNormIdeal.Value.run_blocks m g),
    (θ_run _ _ _).mono (fun r h c => ⟨(h c).1.trans ?_, (h c).2.1.trans ?_, (h c).2.2.1.trans ?_, (h c).2.2.2⟩)
      (Cert.AdamHeadNormRefIdeal.Value.run m' g')⟩ <;> rw [(hag c).2.1]
  · rw [(hag c).1, (hag c).2.2.1, (hag c).2.2.2.1]
    rfl
  · rw [(hag c).2.2.1]
    rfl
  · rw [(hag c).2.2.2.1]
    rfl

end Cert.Proof

namespace Cert.AdamLbIdeal.Value

open Cert.AdamLbIdeal Cert.AdamLbIdeal.Gen Idealize.ShloMosaic Idealize.ShloMosaic.TcCoe Idealize.SL.Sem

/-- All windows lie at the same rows. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] :=
  (by decide +kernel : ∀ t : Fin grid0.N, _)

/-- The array after the run: what is added to the weight. -/
theorem final4 (m : (ℓ : Loc nD τ sig) → Buf (Elt Ideal) ℓ) (c : Dev nD) : (dats m 0 c).arrAt 4 cfg0.N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  blk_simp
  rw [after0_4]
  unfold outsAt0
  frame_out
  unfold_payloads
  refine congr (congr (congr (congrArg Adam.delta ?_) ?_) ?_) ?_ <;> blk_point [iblk, V, idx t]

/-- The array after the run: the new average of the gradient. -/
theorem final5 (m : (ℓ : Loc nD τ sig) → Buf (Elt Ideal) ℓ) (c : Dev nD) : (dats m 0 c).arrAt 5 cfg0.N
    = fun i => Adam.mean (m ((c : Thread nD τ).loc main_arg1) i) (m ((c : Thread nD τ).loc main_arg2) i) := by
  refine (dats m 0 c).arrAt_eq_of_covers 5 _ (by decide +kernel) fun t hf y => ?_
  blk_simp
  rw [after0_5]
  unfold outsAt0
  frame_out
  unfold_payloads
  refine congr (congrArg Adam.mean ?_) ?_ <;> blk_point [iblk, V, idx t]

/-- The array after the run: the new average of the gradient's square. -/
theorem final6 (m : (ℓ : Loc nD τ sig) → Buf (Elt Ideal) ℓ) (c : Dev nD) : (dats m 0 c).arrAt 6 cfg0.N
    = fun i => Adam.square (m ((c : Thread nD τ).loc main_arg1) i) (m ((c : Thread nD τ).loc main_arg3) i) := by
  refine (dats m 0 c).arrAt_eq_of_covers 6 _ (by decide +kernel) fun t hf y => ?_
  blk_simp
  rw [after0_6]
  unfold outsAt0
  frame_out
  unfold_payloads
  refine congr (congrArg Adam.square ?_) ?_ <;> blk_point [iblk, V, idx t]

end Cert.AdamLbIdeal.Value

namespace Cert.Proof

/-- The reference ends, leaves its arguments as they were and every counter at zero. -/
theorem adamLb_reference : Cert.quiescent_AdamLbRefIdeal (hAdamLbRefIdeal := Cert.AdamLbRefIdeal.Gen.facts) := fun m g _ =>
  (θ_run _ _ _).mono (fun r h => ⟨fun c => (h c).2.2.2, sem_eq_zero_of_no_sems (by decide) r.2⟩) (Cert.AdamLbRefIdeal.Value.run m g)

/-- The kernel computes the optimiser's rule. -/
theorem adamLb : Cert.algebraic_AdamLbIdeal_AdamLbRefIdeal
    (hAdamLbIdeal := Cert.AdamLbIdeal.Gen.facts) (hAdamLbRefIdeal := Cert.AdamLbRefIdeal.Gen.facts) := by
  intro m g m' g' _ hag
  refine ⟨_, _, _, (θ_run _ _ _).mono (fun r h c => ⟨(h c).1.trans (Cert.AdamLbIdeal.Value.final4 m c),
      (h c).2.1.trans (Cert.AdamLbIdeal.Value.final5 m c), (h c).2.2.1.trans (Cert.AdamLbIdeal.Value.final6 m c), (h c).2.2.2⟩)
      (Cert.AdamLbIdeal.Value.run_blocks m g),
    (θ_run _ _ _).mono (fun r h c => ⟨(h c).1.trans ?_, (h c).2.1.trans ?_, (h c).2.2.1.trans ?_, (h c).2.2.2⟩)
      (Cert.AdamLbRefIdeal.Value.run m' g')⟩ <;> rw [(hag c).2.1]
  · rw [(hag c).1, (hag c).2.2.1, (hag c).2.2.2.1]
    rfl
  · rw [(hag c).2.2.1]
    rfl
  · rw [(hag c).2.2.2.1]
    rfl

end Cert.Proof

namespace Cert.AdamHeadIdeal.Value

open Cert.AdamHeadIdeal Cert.AdamHeadIdeal.Gen Idealize.ShloMosaic Idealize.ShloMosaic.TcCoe Idealize.SL.Sem

/-- All windows lie at the same rows. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] :=
  (by decide +kernel : ∀ t : Fin grid0.N, _)

/-- The array after the run: what is added to the weight. -/
theorem final4 (m : (ℓ : Loc nD τ sig) → Buf (Elt Ideal) ℓ) (c : Dev nD) : (dats m 0 c).arrAt 4 cfg0.N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  blk_simp
  rw [after0_4]
  unfold outsAt0
  frame_out
  unfold_payloads
  refine congr (congr (congr (congrArg Adam.delta ?_) ?_) ?_) ?_ <;> blk_point [iblk, V, idx t]

/-- The array after the run: the new average of the gradient. -/
theorem final5 (m : (ℓ : Loc nD τ sig) → Buf (Elt Ideal) ℓ) (c : Dev nD) : (dats m 0 c).arrAt 5 cfg0.N
    = fun i => Adam.mean (m ((c : Thread nD τ).loc main_arg1) i) (m ((c : Thread nD τ).loc main_arg2) i) := by
  refine (dats m 0 c).arrAt_eq_of_covers 5 _ (by decide +kernel) fun t hf y => ?_
  blk_simp
  rw [after0_5]
  unfold outsAt0
  frame_out
  unfold_payloads
  refine congr (congrArg Adam.mean ?_) ?_ <;> blk_point [iblk, V, idx t]

/-- The array after the run: the new average of the gradient's square. -/
theorem final6 (m : (ℓ : Loc nD τ sig) → Buf (Elt Ideal) ℓ) (c : Dev nD) : (dats m 0 c).arrAt 6 cfg0.N
    = fun i => Adam.square (m ((c : Thread nD τ).loc main_arg1) i) (m ((c : Thread nD τ).loc main_arg3) i) := by
  refine (dats m 0 c).arrAt_eq_of_covers 6 _ (by decide +kernel) fun t hf y => ?_
  blk_simp
  rw [after0_6]
  unfold outsAt0
  frame_out
  unfold_payloads
  refine congr (congrArg Adam.square ?_) ?_ <;> blk_point [iblk, V, idx t]

end Cert.AdamHeadIdeal.Value

namespace Cert.Proof

/-- The reference ends, leaves its arguments as they were and every counter at zero. -/
theorem adamHead_reference : Cert.quiescent_AdamHeadRefIdeal (hAdamHeadRefIdeal := Cert.AdamHeadRefIdeal.Gen.facts) := fun m g _ =>
  (θ_run _ _ _).mono (fun r h => ⟨fun c => (h c).2.2.2, sem_eq_zero_of_no_sems (by decide) r.2⟩) (Cert.AdamHeadRefIdeal.Value.run m g)

/-- The kernel computes the optimiser's rule. -/
theorem adamHead : Cert.algebraic_AdamHeadIdeal_AdamHeadRefIdeal
    (hAdamHeadIdeal := Cert.AdamHeadIdeal.Gen.facts) (hAdamHeadRefIdeal := Cert.AdamHeadRefIdeal.Gen.facts) := by
  intro m g m' g' _ hag
  refine ⟨_, _, _, (θ_run _ _ _).mono (fun r h c => ⟨(h c).1.trans (Cert.AdamHeadIdeal.Value.final4 m c),
      (h c).2.1.trans (Cert.AdamHeadIdeal.Value.final5 m c), (h c).2.2.1.trans (Cert.AdamHeadIdeal.Value.final6 m c), (h c).2.2.2⟩)
      (Cert.AdamHeadIdeal.Value.run_blocks m g),
    (θ_run _ _ _).mono (fun r h c => ⟨(h c).1.trans ?_, (h c).2.1.trans ?_, (h c).2.2.1.trans ?_, (h c).2.2.2⟩)
      (Cert.AdamHeadRefIdeal.Value.run m' g')⟩ <;> rw [(hag c).2.1]
  · rw [(hag c).1, (hag c).2.2.1, (hag c).2.2.2.1]
    rfl
  · rw [(hag c).2.2.1]
    rfl
  · rw [(hag c).2.2.2.1]
    rfl

end Cert.Proof

end
-- ==== Proof.AdamTaps.lean ====
module

public import proofs.«01_k».proof.Defs
public import proofs.«01_k».proof.Proof.Gen.AdamTap.Frame
public import proofs.«01_k».proof.Proof.Gen.AdamTapIdeal.Value
public import proofs.«01_k».proof.Proof.Gen.AdamTapRefIdeal
public import proofs.«01_k».proof.Proof.Gen.AdamTapRefIdeal.Run
public import proofs.«01_k».proof.Proof.Gen.AdamFfnTap.Frame
public import proofs.«01_k».proof.Proof.Gen.AdamFfnTapIdeal.Value
public import proofs.«01_k».proof.Proof.Gen.AdamFfnTapRefIdeal
public import proofs.«01_k».proof.Proof.Gen.AdamFfnTapRefIdeal.Run
public import proofs.«01_k».proof.Proof.Gen.AdamBias.Frame
public import proofs.«01_k».proof.Proof.Gen.AdamBiasIdeal.Value
public import proofs.«01_k».proof.Proof.Gen.AdamBiasRefIdeal
public import proofs.«01_k».proof.Proof.Gen.AdamBiasRefIdeal.Run
public import proofs.«01_k».proof.Proof.AdamRule
public import Idealize.ShloMosaic.Adequacy
public import Idealize.ShloMosaic.Init

/- The optimiser's step: the convolutions' taps and offsets. -/

@[expose] public section

noncomputable section

open Idealize.ShloMosaic Idealize.ShloMosaic.TcCoe Idealize.SL.Sem

namespace Cert.AdamTapIdeal.Value

open Cert.AdamTapIdeal Cert.AdamTapIdeal.Gen Idealize.ShloMosaic Idealize.ShloMosaic.TcCoe Idealize.SL.Sem

/-- All windows lie at the same rows. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] :=
  (by decide +kernel : ∀ t : Fin grid0.N, _)

/-- The array after the run: what is added to the weight. -/
theorem final4 (m : (ℓ : Loc nD τ sig) → Buf (Elt Ideal) ℓ) (c : Dev nD) : (dats m 0 c).arrAt 4 cfg0.N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  blk_simp
  rw [after0_4]
  unfold outsAt0
  frame_out
  unfold_payloads
  refine congr (congr (congr (congrArg Adam.delta ?_) ?_) ?_) ?_ <;> blk_point [iblk, V, idx t]

/-- The array after the run: the new average of the gradient. -/
theorem final5 (m : (ℓ : Loc nD τ sig) → Buf (Elt Ideal) ℓ) (c : Dev nD) : (dats m 0 c).arrAt 5 cfg0.N
    = fun i => Adam.mean (m ((c : Thread nD τ).loc main_arg1) i) (m ((c : Thread nD τ).loc main_arg2) i) := by
  refine (dats m 0 c).arrAt_eq_of_covers 5 _ (by decide +kernel) fun t hf y => ?_
  blk_simp
  rw [after0_5]
  unfold outsAt0
  frame_out
  unfold_payloads
  refine congr (congrArg Adam.mean ?_) ?_ <;> blk_point [iblk, V, idx t]

/-- The array after the run: the new average of the gradient's square. -/
theorem final6 (m : (ℓ : Loc nD τ sig) → Buf (Elt Ideal) ℓ) (c : Dev nD) : (dats m 0 c).arrAt 6 cfg0.N
    = fun i => Adam.square (m ((c : Thread nD τ).loc main_arg1) i) (m ((c : Thread nD τ).loc main_arg3) i) := by
  refine (dats m 0 c).arrAt_eq_of_covers 6 _ (by decide +kernel) fun t hf y => ?_
  blk_simp
  rw [after0_6]
  unfold outsAt0
  frame_out
  unfold_payloads
  refine congr (congrArg Adam.square ?_) ?_ <;> blk_point [iblk, V, idx t]

end Cert.AdamTapIdeal.Value

namespace Cert.Proof

/-- The reference ends, leaves its arguments as they were and every counter at zero. -/
theorem adamTap_reference : Cert.quiescent_AdamTapRefIdeal (hAdamTapRefIdeal := Cert.AdamTapRefIdeal.Gen.facts) := fun m g _ =>
  (θ_run _ _ _).mono (fun r h => ⟨fun c => (h c).2.2.2, sem_eq_zero_of_no_sems (by decide) r.2⟩) (Cert.AdamTapRefIdeal.Value.run m g)

/-- The kernel computes the optimiser's rule. -/
theorem adamTap : Cert.algebraic_AdamTapIdeal_AdamTapRefIdeal
    (hAdamTapIdeal := Cert.AdamTapIdeal.Gen.facts) (hAdamTapRefIdeal := Cert.AdamTapRefIdeal.Gen.facts) := by
  intro m g m' g' _ hag
  refine ⟨_, _, _, (θ_run _ _ _).mono (fun r h c => ⟨(h c).1.trans (Cert.AdamTapIdeal.Value.final4 m c),
      (h c).2.1.trans (Cert.AdamTapIdeal.Value.final5 m c), (h c).2.2.1.trans (Cert.AdamTapIdeal.Value.final6 m c), (h c).2.2.2⟩)
      (Cert.AdamTapIdeal.Value.run_blocks m g),
    (θ_run _ _ _).mono (fun r h c => ⟨(h c).1.trans ?_, (h c).2.1.trans ?_, (h c).2.2.1.trans ?_, (h c).2.2.2⟩)
      (Cert.AdamTapRefIdeal.Value.run m' g')⟩ <;> rw [(hag c).2.1]
  · rw [(hag c).1, (hag c).2.2.1, (hag c).2.2.2.1]
    rfl
  · rw [(hag c).2.2.1]
    rfl
  · rw [(hag c).2.2.2.1]
    rfl

end Cert.Proof

namespace Cert.AdamFfnTapIdeal.Value

open Cert.AdamFfnTapIdeal Cert.AdamFfnTapIdeal.Gen Idealize.ShloMosaic Idealize.ShloMosaic.TcCoe Idealize.SL.Sem

/-- All windows lie at the same rows. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] :=
  (by decide +kernel : ∀ t : Fin grid0.N, _)

/-- The array after the run: what is added to the weight. -/
theorem final4 (m : (ℓ : Loc nD τ sig) → Buf (Elt Ideal) ℓ) (c : Dev nD) : (dats m 0 c).arrAt 4 cfg0.N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  blk_simp
  rw [after0_4]
  unfold outsAt0
  frame_out
  unfold_payloads
  refine congr (congr (congr (congrArg Adam.delta ?_) ?_) ?_) ?_ <;> blk_point [iblk, V, idx t]

/-- The array after the run: the new average of the gradient. -/
theorem final5 (m : (ℓ : Loc nD τ sig) → Buf (Elt Ideal) ℓ) (c : Dev nD) : (dats m 0 c).arrAt 5 cfg0.N
    = fun i => Adam.mean (m ((c : Thread nD τ).loc main_arg1) i) (m ((c : Thread nD τ).loc main_arg2) i) := by
  refine (dats m 0 c).arrAt_eq_of_covers 5 _ (by decide +kernel) fun t hf y => ?_
  blk_simp
  rw [after0_5]
  unfold outsAt0
  frame_out
  unfold_payloads
  refine congr (congrArg Adam.mean ?_) ?_ <;> blk_point [iblk, V, idx t]

/-- The array after the run: the new average of the gradient's square. -/
theorem final6 (m : (ℓ : Loc nD τ sig) → Buf (Elt Ideal) ℓ) (c : Dev nD) : (dats m 0 c).arrAt 6 cfg0.N
    = fun i => Adam.square (m ((c : Thread nD τ).loc main_arg1) i) (m ((c : Thread nD τ).loc main_arg3) i) := by
  refine (dats m 0 c).arrAt_eq_of_covers 6 _ (by decide +kernel) fun t hf y => ?_
  blk_simp
  rw [after0_6]
  unfold outsAt0
  frame_out
  unfold_payloads
  refine congr (congrArg Adam.square ?_) ?_ <;> blk_point [iblk, V, idx t]

end Cert.AdamFfnTapIdeal.Value

namespace Cert.Proof

/-- The reference ends, leaves its arguments as they were and every counter at zero. -/
theorem adamFfnTap_reference : Cert.quiescent_AdamFfnTapRefIdeal (hAdamFfnTapRefIdeal := Cert.AdamFfnTapRefIdeal.Gen.facts) := fun m g _ =>
  (θ_run _ _ _).mono (fun r h => ⟨fun c => (h c).2.2.2, sem_eq_zero_of_no_sems (by decide) r.2⟩) (Cert.AdamFfnTapRefIdeal.Value.run m g)

/-- The kernel computes the optimiser's rule. -/
theorem adamFfnTap : Cert.algebraic_AdamFfnTapIdeal_AdamFfnTapRefIdeal
    (hAdamFfnTapIdeal := Cert.AdamFfnTapIdeal.Gen.facts) (hAdamFfnTapRefIdeal := Cert.AdamFfnTapRefIdeal.Gen.facts) := by
  intro m g m' g' _ hag
  refine ⟨_, _, _, (θ_run _ _ _).mono (fun r h c => ⟨(h c).1.trans (Cert.AdamFfnTapIdeal.Value.final4 m c),
      (h c).2.1.trans (Cert.AdamFfnTapIdeal.Value.final5 m c), (h c).2.2.1.trans (Cert.AdamFfnTapIdeal.Value.final6 m c), (h c).2.2.2⟩)
      (Cert.AdamFfnTapIdeal.Value.run_blocks m g),
    (θ_run _ _ _).mono (fun r h c => ⟨(h c).1.trans ?_, (h c).2.1.trans ?_, (h c).2.2.1.trans ?_, (h c).2.2.2⟩)
      (Cert.AdamFfnTapRefIdeal.Value.run m' g')⟩ <;> rw [(hag c).2.1]
  · rw [(hag c).1, (hag c).2.2.1, (hag c).2.2.2.1]
    rfl
  · rw [(hag c).2.2.1]
    rfl
  · rw [(hag c).2.2.2.1]
    rfl

end Cert.Proof

namespace Cert.AdamBiasIdeal.Value

open Cert.AdamBiasIdeal Cert.AdamBiasIdeal.Gen Idealize.ShloMosaic Idealize.ShloMosaic.TcCoe Idealize.SL.Sem

/-- All windows lie at the same rows. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] :=
  (by decide +kernel : ∀ t : Fin grid0.N, _)

/-- The array after the run: what is added to the weight. -/
theorem final4 (m : (ℓ : Loc nD τ sig) → Buf (Elt Ideal) ℓ) (c : Dev nD) : (dats m 0 c).arrAt 4 cfg0.N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  blk_simp
  rw [after0_4]
  unfold outsAt0
  frame_out
  unfold_payloads
  refine congr (congr (congr (congrArg Adam.delta ?_) ?_) ?_) ?_ <;> blk_point [iblk, V, idx t]

/-- The array after the run: the new average of the gradient. -/
theorem final5 (m : (ℓ : Loc nD τ sig) → Buf (Elt Ideal) ℓ) (c : Dev nD) : (dats m 0 c).arrAt 5 cfg0.N
    = fun i => Adam.mean (m ((c : Thread nD τ).loc main_arg1) i) (m ((c : Thread nD τ).loc main_arg2) i) := by
  refine (dats m 0 c).arrAt_eq_of_covers 5 _ (by decide +kernel) fun t hf y => ?_
  blk_simp
  rw [after0_5]
  unfold outsAt0
  frame_out
  unfold_payloads
  refine congr (congrArg Adam.mean ?_) ?_ <;> blk_point [iblk, V, idx t]

/-- The array after the run: the new average of the gradient's square. -/
theorem final6 (m : (ℓ : Loc nD τ sig) → Buf (Elt Ideal) ℓ) (c : Dev nD) : (dats m 0 c).arrAt 6 cfg0.N
    = fun i => Adam.square (m ((c : Thread nD τ).loc main_arg1) i) (m ((c : Thread nD τ).loc main_arg3) i) := by
  refine (dats m 0 c).arrAt_eq_of_covers 6 _ (by decide +kernel) fun t hf y => ?_
  blk_simp
  rw [after0_6]
  unfold outsAt0
  frame_out
  unfold_payloads
  refine congr (congrArg Adam.square ?_) ?_ <;> blk_point [iblk, V, idx t]

end Cert.AdamBiasIdeal.Value

namespace Cert.Proof

/-- The reference ends, leaves its arguments as they were and every counter at zero. -/
theorem adamBias_reference : Cert.quiescent_AdamBiasRefIdeal (hAdamBiasRefIdeal := Cert.AdamBiasRefIdeal.Gen.facts) := fun m g _ =>
  (θ_run _ _ _).mono (fun r h => ⟨fun c => (h c).2.2.2, sem_eq_zero_of_no_sems (by decide) r.2⟩) (Cert.AdamBiasRefIdeal.Value.run m g)

/-- The kernel computes the optimiser's rule. -/
theorem adamBias : Cert.algebraic_AdamBiasIdeal_AdamBiasRefIdeal
    (hAdamBiasIdeal := Cert.AdamBiasIdeal.Gen.facts) (hAdamBiasRefIdeal := Cert.AdamBiasRefIdeal.Gen.facts) := by
  intro m g m' g' _ hag
  refine ⟨_, _, _, (θ_run _ _ _).mono (fun r h c => ⟨(h c).1.trans (Cert.AdamBiasIdeal.Value.final4 m c),
      (h c).2.1.trans (Cert.AdamBiasIdeal.Value.final5 m c), (h c).2.2.1.trans (Cert.AdamBiasIdeal.Value.final6 m c), (h c).2.2.2⟩)
      (Cert.AdamBiasIdeal.Value.run_blocks m g),
    (θ_run _ _ _).mono (fun r h c => ⟨(h c).1.trans ?_, (h c).2.1.trans ?_, (h c).2.2.1.trans ?_, (h c).2.2.2⟩)
      (Cert.AdamBiasRefIdeal.Value.run m' g')⟩ <;> rw [(hag c).2.1]
  · rw [(hag c).1, (hag c).2.2.1, (hag c).2.2.2.1]
    rfl
  · rw [(hag c).2.2.1]
    rfl
  · rw [(hag c).2.2.2.1]
    rfl

end Cert.Proof

end
-- ==== Proof.NormRule.lean ====
module

public import Idealize.ShloMosaic.Lib.Pipeline.ValueKit
public import Idealize.ShloMosaic.Lib.IdealHost
public import proofs.«01_k».proof.Proof.Rows

/- The gradient of the normalisation of a row, on the extended reals. The reciprocal root of a row is a real number that
   is not negative, whatever the row holds: it is zero where the row's mean square is infinite. Products with it
   distribute, so the two ways to write the gradient agree without a condition on the row. -/

@[expose] public section

noncomputable section

namespace Norm

open Idealize.ShloMosaic

/-- The number that is added to the mean square. -/
def eps : EReal := Ideal.ofBits .f32 0x358637BD#32
/-- The length of a row. -/
def len : EReal := Ideal.ofBits .f32 0x45000000#32

theorem len_eq : len = ((2048 : ℝ) : EReal) := by
  simp [len, Ideal.ofBits, Ideal.ieee, -EReal.coe_mul]; norm_num

theorem half_eq : Ideal.ofBits .f32 0xBF000000#32 = ((-(1 / 2) : ℝ) : EReal) := by
  simp [Ideal.ofBits, Ideal.ieee, -EReal.coe_mul, -EReal.coe_neg]; norm_num

theorem eps_pos : ∃ e : ℝ, 0 < e ∧ eps = (e : EReal) := by
  refine ⟨_, ?_, by simp [eps, Ideal.ofBits, Ideal.ieee, -EReal.coe_mul]; rfl⟩
  norm_num

/-- The mean square of a row, with `eps` added. -/
def mean (s : EReal) : EReal := Ideal.div s len + eps
/-- The reciprocal root of a row whose squares have the sum `s`. -/
def root (s : EReal) : EReal := Ideal.rsqrt (mean s)

/-- The reciprocal root is a real number and not negative, and its quotient by the mean is its cube. -/
theorem root_real {s : EReal} (hs : 0 ≤ s) : ∃ r : ℝ, 0 ≤ r ∧ root s = (r : EReal) ∧ Ideal.div (root s) (mean s) = ((r * r * r : ℝ) : EReal) := by
  obtain ⟨e, he, hee⟩ := eps_pos
  unfold root mean
  rw [len_eq, Ideal.div_coe (by norm_num), hee]
  induction s with
  | bot => exact absurd hs (by decide)
  | top =>
    refine ⟨0, le_refl _, ?_⟩
    rw [EReal.top_mul_coe_of_pos (by norm_num), EReal.top_add_coe]
    simp [Ideal.div]
  | coe a =>
    have ha : 0 ≤ a := EReal.coe_nonneg.mp hs
    have hq : 0 < a * (1 / 2048) + e := by positivity
    rw [← EReal.coe_mul, ← EReal.coe_add]
    generalize a * (1 / 2048) + e = q at hq
    refine ⟨(Real.sqrt q)⁻¹, by positivity, ?_⟩
    rw [Ideal.rsqrt_coe, if_neg (not_lt.mpr hq.le), if_neg hq.ne', Ideal.div_coe hq.ne', ← EReal.coe_mul]
    refine ⟨rfl, ?_⟩
    congr 1
    have h2 : Real.sqrt q * Real.sqrt q = q := Real.mul_self_sqrt hq.le
    rw [show 1 / q = (Real.sqrt q)⁻¹ * (Real.sqrt q)⁻¹ by rw [← mul_inv, h2, one_div], mul_assoc]

/-- A sum of squares is not negative. -/
theorem square_sum {n : ℕ} (x : Fin n → EReal) : 0 ≤ ∑ k, x k * x k :=
  Finset.sum_nonneg fun k _ => by
    rcases le_total 0 (x k) with h | h
    · exact mul_nonneg h h
    · have := mul_nonneg (EReal.neg_nonneg.mpr h) (EReal.neg_nonneg.mpr h)
      rwa [EReal.neg_mul, mul_neg, neg_neg] at this

/-- A product with a real number that is not negative distributes over a sum. -/
theorem sum_mul_real {n : ℕ} (f : Fin n → EReal) {r : ℝ} (hr : 0 ≤ r) : ∑ k, f k * (r : EReal) = (∑ k, f k) * (r : EReal) := by
  induction (Finset.univ : Finset (Fin n)) using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- Twice the product with half a negative number. -/
theorem two_halves (b : EReal) {k : ℝ} (hk : 0 ≤ k) : b * ((-(1 / 2) * k : ℝ) : EReal) + b * ((-(1 / 2) * k : ℝ) : EReal) = -(b * (k : EReal)) := by
  rcases hk.eq_or_lt with rfl | hk
  · simp
  · have h : -(1 / 2) * k < 0 := by linarith
    induction b with
    | bot => rw [EReal.bot_mul_coe_of_neg h, EReal.bot_mul_coe_of_pos hk]; rfl
    | top => rw [EReal.top_mul_coe_of_neg h, EReal.top_mul_coe_of_pos hk]; rfl
    | coe a => rw [← EReal.coe_mul, ← EReal.coe_add, ← EReal.coe_mul, ← EReal.coe_neg]; congr 1; ring

/-- The kernel's gradient of entry `j`: `x` is the row, `d` the row of the incoming gradient times the weight. -/
def grad {n : ℕ} (x d : Fin n → EReal) (j : Fin n) : EReal :=
  root (∑ k, x k * x k) * (d j - x j * root (∑ k, x k * x k) * Ideal.div (∑ k, d k * (x k * root (∑ k, x k * x k))) len)

/-- The derivative as the chain rule writes it agrees with it. -/
theorem chain_rule {n : ℕ} (x d : Fin n → EReal) (j : Fin n) (t : EReal)
    (ht : t = Ideal.div ((∑ k, x k * d k) * (Ideal.ofBits .f32 0xBF000000#32 * Ideal.div (root (∑ k, x k * x k)) (mean (∑ k, x k * x k)))) len) :
    d j * root (∑ k, x k * x k) + x j * t + t * x j = grad x d j := by
  obtain ⟨r, hr, h1, h2⟩ := root_real (square_sum x)
  unfold grad
  rw [ht, h2, h1, half_eq, len_eq, Ideal.div_coe (by norm_num), Ideal.div_coe (by norm_num)]
  have hs : ∑ k, d k * (x k * (r : EReal)) = (∑ k, x k * d k) * (r : EReal) := by
    rw [← sum_mul_real _ hr]
    exact Finset.sum_congr rfl fun k _ => by rw [← mul_assoc, mul_comm (d k)]
  rw [hs]
  generalize (∑ k, x k * d k) = s
  have hk : (0 : ℝ) ≤ r * r * r * (1 / 2048) := by positivity
  have hb := two_halves (x j * s) hk
  rw [mul_comm _ (x j), add_assoc]
  rw [← EReal.coe_mul, mul_assoc s, ← EReal.coe_mul, ← mul_assoc, mul_assoc (-(1 / 2) : ℝ), hb, sub_eq_add_neg,
    EReal.left_distrib_of_nonneg_of_ne_top (EReal.coe_nonneg.mpr hr) (EReal.coe_ne_top r), mul_comm (d j), mul_neg]
  rw [EReal.coe_mul, EReal.coe_mul, EReal.coe_mul]
  congr 2
  ac_rfl

end Norm

end
-- ==== Proof.NormSpec.lean ====
module

public import proofs.«01_k».proof.Proof.NormRule

@[expose] public section

/-!
The gradient of the normalisation of 4096 rows, and of its weight, as plain formulas over the three arrays it takes.
-/

noncomputable section

namespace Norm
open Idealize.ShloMosaic Idealize.ShloMosaic.Pipeline Rows

variable (x : (⟨2, ![4096, 2048]⟩ : Shape).Idx → EReal) (g : (⟨2, ![1, 2048]⟩ : Shape).Idx → EReal)
  (d : (⟨2, ![4096, 2048]⟩ : Shape).Idx → EReal)

/-- The sum of the squares of row `r`. -/
def squares (r : ℕ) : EReal := ∑ k : Fin 2048, rd x r k * rd x r k

/-- The gradient of the entry at row `r` and column `q`. -/
def dx (r : ℕ) (q : Fin 2048) : EReal := grad (fun k : Fin 2048 => rd x r k) (fun k => rd d r k * rd g 0 k) q

/-- Row `r`'s part of the gradient of the weight at column `j`. -/
def dgTerm (j r : ℕ) : EReal := rd d r j * (rd x r j * root (squares x r))

/-- The part of it that the rows of block `t` give. -/
def dgPart (t j : ℕ) : EReal := ∑ a : Fin 256, dgTerm x d j (256 * t + a.val)

/-- The gradient of the weight. -/
def dg (j : ℕ) : EReal := ∑ r : Fin 4096, dgTerm x d j r.val

/-- The gradient of the weight is the sum of the 16 blocks' parts. -/
theorem dg_parts (j : ℕ) : ∑ s ∈ Finset.range 16, dgPart x d s j = dg x d j := by
  unfold dg dgPart
  rw [Finset.sum_range]
  exact Fin.sum_mul_add_congr (f := fun r : Fin 4096 => dgTerm x d j r.val) fun s a hl => by rw [Nat.mul_comm]

/-- The normalised row `r` at column `q`, of rows whose entries `f` gives. -/
def out (f : ℕ → ℕ → EReal) (g : (⟨2, ![1, 2048]⟩ : Shape).Idx → EReal) (r q : ℕ) : EReal :=
  f r q * root (∑ k : Fin 2048, f r k * f r k) * rd g 0 q

/-- The residual stream after the normalised `y` is added. -/
def resid (x y : (⟨2, ![4096, 2048]⟩ : Shape).Idx → EReal) (g : (⟨2, ![1, 2048]⟩ : Shape).Idx → EReal) (r q : ℕ) : EReal :=
  rd x r q + out (rd y) g r q

/-- Its difference from the target. -/
def err (x y : (⟨2, ![4096, 2048]⟩ : Shape).Idx → EReal) (g : (⟨2, ![1, 2048]⟩ : Shape).Idx → EReal)
    (z : (⟨2, ![4096, 2048]⟩ : Shape).Idx → EReal) (r q : ℕ) : EReal := resid x y g r q - rd z r q

/-- Half. -/
def half : EReal := Ideal.ofBits .f32 0x3F000000#32

theorem half_pos : half = ((1 / 2 : ℝ) : EReal) := by
  simp [half, Ideal.ofBits, Ideal.ieee, -EReal.coe_mul, -EReal.coe_neg]; norm_num

/-- The mean square of row `r` of a difference. -/
def meanSquare (e : ℕ → ℕ → EReal) (r : ℕ) : EReal := Ideal.div (∑ k : Fin 2048, e r k * e r k) len

/-- The part of the loss that the rows of block `t` give. -/
def lossPart (e : ℕ → ℕ → EReal) (t : ℕ) : EReal := half * ∑ a : Fin 256, meanSquare e (256 * t + a.val)

/-- The loss: half the sum of the rows' mean squares. -/
def loss (e : ℕ → ℕ → EReal) : EReal := half * ∑ r : Fin 4096, meanSquare e r.val

/-- The loss is the sum of the 16 blocks' parts. -/
theorem loss_parts (e : ℕ → ℕ → EReal) : ∑ s ∈ Finset.range 16, lossPart e s = loss e := by
  unfold loss lossPart
  rw [Finset.sum_range, half_pos]
  simp only [mul_comm ((1 / 2 : ℝ) : EReal)]
  rw [sum_mul_real _ (by norm_num)]
  refine congrArg (· * _) ?_
  exact Fin.sum_mul_add_congr (f := fun r : Fin 4096 => meanSquare e r.val) fun s a hl => by rw [Nat.mul_comm]

/-- The loss's derivative as the chain rule writes it is the difference divided by the length of a row. -/
theorem loss_grad (e : EReal) :
    Ideal.div half len * (Ideal.ofBits .f32 0x40000000#32 * e)
      = e * Ideal.ofBits .f32 0x3A000000#32 := by
  have h2 : Ideal.ofBits .f32 0x40000000#32 = ((2 : ℝ) : EReal) := by
    simp [Ideal.ofBits, Ideal.ieee, -EReal.coe_mul, -EReal.coe_neg]; norm_num
  have h3 : Ideal.ofBits .f32 0x3A000000#32 = ((1 / 2048 : ℝ) : EReal) := by
    simp [Ideal.ofBits, Ideal.ieee, -EReal.coe_mul, -EReal.coe_neg]; norm_num
  rw [half_pos, h2, h3, len_eq, Ideal.div_coe (by norm_num), ← mul_assoc, ← EReal.coe_mul, mul_comm]
  refine congrArg (fun a : ℝ => e * (a : EReal)) ?_
  norm_num

end Norm
end
-- ==== Proof.Norm.lean ====
module

public import proofs.«01_k».proof.Proof.Gen.NormPre.Frame
public import proofs.«01_k».proof.Proof.Gen.NormPreIdeal.Value
public import proofs.«01_k».proof.Proof.Gen.NormPreRefIdeal
public import proofs.«01_k».proof.Proof.Gen.NormPreRefIdeal.Run
public import proofs.«01_k».proof.Proof.Gen.NormPreRefIdeal.Read
public import proofs.«01_k».proof.Proof.NormSpec

/- The gradient of the normalisation before a mixer or a feed-forward layer, with the residual's gradient added. -/

@[expose] public section

set_option maxRecDepth 16384

noncomputable section

namespace Cert.NormPreIdeal.Value

open Cert.NormPreIdeal Cert.NormPreIdeal.Gen Idealize.ShloMosaic Idealize.ShloMosaic.TcCoe Idealize.SL.Sem
open Rows

variable (m : (ℓ : Loc nD τ sig) → Buf (Elt Ideal) ℓ)

/-- The kernel's input as a plain array. -/
def argX (c : Dev nD) : S4096x2048.Idx → EReal := m ((c : Thread nD τ).loc main_arg0)
/-- The weight. -/
def argG (c : Dev nD) : S1x2048.Idx → EReal := m ((c : Thread nD τ).loc main_arg1)
/-- The gradient that comes in. -/
def argD (c : Dev nD) : S4096x2048.Idx → EReal := m ((c : Thread nD τ).loc main_arg2)
/-- The gradient that the residual brings. -/
def argR (c : Dev nD) : S4096x2048.Idx → EReal := m ((c : Thread nD τ).loc main_arg3)

/-- Where each window lies at a point of the grid. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- A block of the input. -/
theorem iblk0 (c : Dev nD) (t : Fin cfg0.N) (y : S256x2048.Idx) :
    iblk m c 0 t y = rd (argX m c) (256 * t.val + (y 0).val) (y 1).val := by
  have ht : t.val < 16 := t.isLt
  idx_bounds y
  unfold rd; rw [dif_pos (by omega)]
  unfold argX
  blk_ext [iblk, V, idx t]

/-- The weight. -/
theorem iblk1 (c : Dev nD) (t : Fin cfg0.N) (y : S1x2048.Idx) :
    iblk m c 1 t y = rd (argG m c) 0 (y 1).val := by
  idx_bounds y
  unfold rd; rw [dif_pos (by omega)]
  unfold argG
  blk_ext [iblk, V, idx t]

/-- A block of the incoming gradient. -/
theorem iblk2 (c : Dev nD) (t : Fin cfg0.N) (y : S256x2048.Idx) :
    iblk m c 2 t y = rd (argD m c) (256 * t.val + (y 0).val) (y 1).val := by
  have ht : t.val < 16 := t.isLt
  idx_bounds y
  unfold rd; rw [dif_pos (by omega)]
  unfold argD
  blk_ext [iblk, V, idx t]

/-- A block of the residual's gradient. -/
theorem iblk3 (c : Dev nD) (t : Fin cfg0.N) (y : S256x2048.Idx) :
    iblk m c 3 t y = rd (argR m c) (256 * t.val + (y 0).val) (y 1).val := by
  have ht : t.val < 16 := t.isLt
  idx_bounds y
  unfold rd; rw [dif_pos (by omega)]
  unfold argR
  blk_ext [iblk, V, idx t]

/-- What a point stores of the input's gradient. -/
theorem dx_point (c : Dev nD) (t : Fin cfg0.N) (y : S256x2048.Idx) :
    (outsAt0 m c t.val t.isLt).1 y = Norm.dx (argX m c) (argG m c) (argD m c) (256 * t.val + (y 0).val) (y 1)
      + rd (argR m c) (256 * t.val + (y 0).val) (y 1).val := by
  by_cases h0 : t.val % 16 = 0
  · rw [outsAt0_A m c t h0]
    frame_out
    unfold_payloads
    pointwise
    simp only [iblk0, iblk1, iblk2, iblk3]
    rfl
  · rw [outsAt0_B m c t h0]
    frame_out
    unfold_payloads
    pointwise
    simp only [iblk0, iblk1, iblk2, iblk3]
    rfl

/-- The first point stores its block's part of the weight's gradient. -/
theorem dg_A (c : Dev nD) (t : Fin cfg0.N) (h0 : t.val % 16 = 0) (y : S1x2048.Idx) :
    (outsAt0 m c t.val t.isLt).2 y = Norm.dgPart (argX m c) (argD m c) t.val (y 1).val := by
  rw [outsAt0_A m c t h0]
  frame_out
  unfold_payloads
  pointwise
  simp only [iblk0, iblk1, iblk2, iblk3]
  rfl

/-- Every later point adds its block's part. -/
theorem dg_B (c : Dev nD) (t : Fin cfg0.N) (h0 : ¬ t.val % 16 = 0) (y : S1x2048.Idx) :
    (outsAt0 m c t.val t.isLt).2 y = (outsAt0 m c (t.val - 1) (by omega)).2 y
      + Norm.dgPart (argX m c) (argD m c) t.val (y 1).val := by
  rw [outsAt0_B m c t h0]
  frame_out
  unfold_payloads
  pointwise
  simp only [iblk0, iblk1, iblk2, iblk3]
  rfl

/-- The array of the input's gradient after the run. -/
theorem final4 (c : Dev nD) : (dats m 0 c).arrAt 4 cfg0.N
    = fun i : S4096x2048.Idx => Norm.dx (argX m c) (argG m c) (argD m c) (i 0).val ⟨(i 1).val, (i 1).isLt⟩
      + rd (argR m c) (i 0).val (i 1).val := by
  refine (dats m 0 c).arrAt_eq_of_covers 4 _ (by decide +kernel) fun t hf y => ?_
  obtain ⟨-, -, -, -, h4, -⟩ := idx t
  blk_simp [h4]
  rw [after0_4]
  refine (dx_point m c t y).trans ?_
  rw [Nat.mul_comm 256]
  rfl

/-- The row that holds the weight's gradient, after point `n`: the parts of the blocks so far. -/
theorem dg_sum (c : Dev nD) (y : S1x2048.Idx) : ∀ (n : ℕ) (h : n < cfg0.N),
    (outsAt0 m c n h).2 y = ∑ s ∈ Finset.range (n + 1), Norm.dgPart (argX m c) (argD m c) s (y 1).val
  | 0, h => by
    rw [Finset.sum_range_one]
    exact dg_A m c ⟨0, h⟩ rfl y
  | n + 1, h => by
    have h' : n + 1 < 16 := h
    rw [Finset.sum_range_succ, ← dg_sum c y n (by omega)]
    exact dg_B m c ⟨n + 1, h⟩ (by show ¬ (n + 1) % 16 = 0; omega) y

/-- The array of the weight's gradient after the run. -/
theorem final5 (c : Dev nD) : (dats m 0 c).arrAt 5 cfg0.N
    = fun i : S1x2048.Idx => Norm.dg (argX m c) (argD m c) (i 1).val := by
  refine (dats m 0 c).arrAt_eq_of_covers 5 _ (by decide +kernel) fun t hf y => ?_
  obtain ⟨-, -, -, -, -, h5⟩ := idx t
  have ht : t.val % 16 = 15 := (flush0_5 t).mp hf
  have ht' : t.val < 16 := t.isLt
  blk_simp [h5]
  rw [after0_5]
  refine (dg_sum m c y t.val t.isLt).trans ?_
  rw [show t.val + 1 = 16 by omega]
  exact Norm.dg_parts _ _ _

end Cert.NormPreIdeal.Value

namespace Cert.NormPreRefIdeal.Read

open Cert.NormPreRefIdeal Cert.NormPreRefIdeal.Gen Idealize.ShloMosaic Idealize.ShloMosaic.TcCoe Idealize.SL.Sem Idealize.ShloMosaic.StableHlo
open Rows

/-- The reference's gradient of the input is the plain formula. -/
theorem dx_ref (x0 : FVec Ideal S4096x2048 .f32) (x1 : FVec Ideal S1x2048 .f32) (x2 : FVec Ideal S4096x2048 .bf16)
    (x3 : FVec Ideal S4096x2048 .f32) (r : Fin 4096) (q : Fin 2048) :
    val_main_v35 (F := Ideal) x0 x1 x2 x3 (ix2 r q) = Norm.dx x0 x1 x2 r q + rd x3 r q := by
  pointwise [
    val_main_v0, val_main_cst, val_main_v1, val_main_v2, val_main_cst_0, val_main_v3, val_main_v4, val_main_cst_1,
    val_main_v5, val_main_v6, val_main_v7, val_main_v8, val_main_cst_2, val_main_v9, val_main_v10, val_main_v11,
    val_main_v12, val_main_v15, val_main_v19, val_main_v20, val_main_v21, val_main_cst_4, val_main_v22, val_main_v23,
    val_main_v24, val_main_v25, val_main_v26, val_main_cst_5, val_main_v27, val_main_v28, val_main_cst_6,
    val_main_v29, val_main_v30, val_main_v31, val_main_v32, val_main_v33, val_main_v34, val_main_v35]
  simp only [rd_ix2 x0, rd_ix2 x1, rd_ix2 x2, rd_ix2 x3, Fin.isValue, Fin.val_zero, Fin.sum_univ_one, zero_add]
  refine congrArg (· + _) ?_
  exact Norm.chain_rule (fun k : Fin 2048 => rd x0 r k) (fun k => rd x2 r k * rd x1 0 k) q _ rfl

/-- The reference's gradient of the weight is the plain formula. -/
theorem dg_ref (x0 : FVec Ideal S4096x2048 .f32) (x2 : FVec Ideal S4096x2048 .bf16) (r : Fin 1) (q : Fin 2048) :
    val_main_v18 (F := Ideal) x0 x2 (ix2 r q) = Norm.dg x0 x2 q := by
  pointwise [
    val_main_v0, val_main_cst, val_main_v1, val_main_v2, val_main_cst_0, val_main_v3, val_main_v4, val_main_cst_1,
    val_main_v5, val_main_v6, val_main_v7, val_main_v11, val_main_v12, val_main_v15, val_main_v16, val_main_cst_3,
    val_main_v17, val_main_v18]
  simp only [rd_ix2 x0, rd_ix2 x2, Fin.isValue, Fin.val_zero, zero_add]
  refine Finset.sum_congr rfl fun x _ => ?_
  exact mul_comm _ _

end Cert.NormPreRefIdeal.Read

end
-- ==== Proof.NormPost.lean ====
module

public import proofs.«01_k».proof.Proof.Gen.NormPost.Frame
public import proofs.«01_k».proof.Proof.Gen.NormPostIdeal.Value
public import proofs.«01_k».proof.Proof.Gen.NormPostRefIdeal
public import proofs.«01_k».proof.Proof.Gen.NormPostRefIdeal.Run
public import proofs.«01_k».proof.Proof.Gen.NormPostRefIdeal.Read
public import proofs.«01_k».proof.Proof.NormSpec

/- The gradient of the normalisation after a mixer or a feed-forward layer. -/

@[expose] public section

set_option maxRecDepth 16384

noncomputable section

namespace Cert.NormPostIdeal.Value

open Cert.NormPostIdeal Cert.NormPostIdeal.Gen Idealize.ShloMosaic Idealize.ShloMosaic.TcCoe Idealize.SL.Sem
open Rows

variable (m : (ℓ : Loc nD τ sig) → Buf (Elt Ideal) ℓ)

/-- The kernel's input as a plain array. -/
def argX (c : Dev nD) : S4096x2048.Idx → EReal := m ((c : Thread nD τ).loc main_arg0)
/-- The weight. -/
def argG (c : Dev nD) : S1x2048.Idx → EReal := m ((c : Thread nD τ).loc main_arg1)
/-- The gradient that comes in. -/
def argD (c : Dev nD) : S4096x2048.Idx → EReal := m ((c : Thread nD τ).loc main_arg2)

/-- Where each window lies at a point of the grid. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- A block of the input. -/
theorem iblk0 (c : Dev nD) (t : Fin cfg0.N) (y : S256x2048.Idx) :
    iblk m c 0 t y = rd (argX m c) (256 * t.val + (y 0).val) (y 1).val := by
  have ht : t.val < 16 := t.isLt
  idx_bounds y
  unfold rd; rw [dif_pos (by omega)]
  unfold argX
  blk_ext [iblk, V, idx t]

/-- The weight. -/
theorem iblk1 (c : Dev nD) (t : Fin cfg0.N) (y : S1x2048.Idx) :
    iblk m c 1 t y = rd (argG m c) 0 (y 1).val := by
  idx_bounds y
  unfold rd; rw [dif_pos (by omega)]
  unfold argG
  blk_ext [iblk, V, idx t]

/-- A block of the incoming gradient. -/
theorem iblk2 (c : Dev nD) (t : Fin cfg0.N) (y : S256x2048.Idx) :
    iblk m c 2 t y = rd (argD m c) (256 * t.val + (y 0).val) (y 1).val := by
  have ht : t.val < 16 := t.isLt
  idx_bounds y
  unfold rd; rw [dif_pos (by omega)]
  unfold argD
  blk_ext [iblk, V, idx t]

/-- What a point stores of the input's gradient. -/
theorem dx_point (c : Dev nD) (t : Fin cfg0.N) (y : S256x2048.Idx) :
    (outsAt0 m c t.val t.isLt).1 y = Norm.dx (argX m c) (argG m c) (argD m c) (256 * t.val + (y 0).val) (y 1) := by
  by_cases h0 : t.val % 16 = 0
  · rw [outsAt0_A m c t h0]
    frame_out
    unfold_payloads
    pointwise
    simp only [iblk0, iblk1, iblk2]
    rfl
  · rw [outsAt0_B m c t h0]
    frame_out
    unfold_payloads
    pointwise
    simp only [iblk0, iblk1, iblk2]
    rfl

/-- The first point stores its block's part of the weight's gradient. -/
theorem dg_A (c : Dev nD) (t : Fin cfg0.N) (h0 : t.val % 16 = 0) (y : S1x2048.Idx) :
    (outsAt0 m c t.val t.isLt).2 y = Norm.dgPart (argX m c) (argD m c) t.val (y 1).val := by
  rw [outsAt0_A m c t h0]
  frame_out
  unfold_payloads
  pointwise
  simp only [iblk0, iblk1, iblk2]
  rfl

/-- Every later point adds its block's part. -/
theorem dg_B (c : Dev nD) (t : Fin cfg0.N) (h0 : ¬ t.val % 16 = 0) (y : S1x2048.Idx) :
    (outsAt0 m c t.val t.isLt).2 y = (outsAt0 m c (t.val - 1) (by omega)).2 y
      + Norm.dgPart (argX m c) (argD m c) t.val (y 1).val := by
  rw [outsAt0_B m c t h0]
  frame_out
  unfold_payloads
  pointwise
  simp only [iblk0, iblk1, iblk2]
  rfl

/-- The array of the input's gradient after the run. -/
theorem final3 (c : Dev nD) : (dats m 0 c).arrAt 3 cfg0.N
    = fun i : S4096x2048.Idx => Norm.dx (argX m c) (argG m c) (argD m c) (i 0).val ⟨(i 1).val, (i 1).isLt⟩
      := by
  refine (dats m 0 c).arrAt_eq_of_covers 3 _ (by decide +kernel) fun t hf y => ?_
  obtain ⟨-, -, -, h3, -⟩ := idx t
  blk_simp [h3]
  rw [after0_3]
  refine (dx_point m c t y).trans ?_
  rw [Nat.mul_comm 256]
  rfl

/-- The row that holds the weight's gradient, after point `n`: the parts of the blocks so far. -/
theorem dg_sum (c : Dev nD) (y : S1x2048.Idx) : ∀ (n : ℕ) (h : n < cfg0.N),
    (outsAt0 m c n h).2 y = ∑ s ∈ Finset.range (n + 1), Norm.dgPart (argX m c) (argD m c) s (y 1).val
  | 0, h => by
    rw [Finset.sum_range_one]
    exact dg_A m c ⟨0, h⟩ rfl y
  | n + 1, h => by
    have h' : n + 1 < 16 := h
    rw [Finset.sum_range_succ, ← dg_sum c y n (by omega)]
    exact dg_B m c ⟨n + 1, h⟩ (by show ¬ (n + 1) % 16 = 0; omega) y

/-- The array of the weight's gradient after the run. -/
theorem final4 (c : Dev nD) : (dats m 0 c).arrAt 4 cfg0.N
    = fun i : S1x2048.Idx => Norm.dg (argX m c) (argD m c) (i 1).val := by
  refine (dats m 0 c).arrAt_eq_of_covers 4 _ (by decide +kernel) fun t hf y => ?_
  obtain ⟨-, -, -, -, h4⟩ := idx t
  have ht : t.val % 16 = 15 := (flush0_4 t).mp hf
  have ht' : t.val < 16 := t.isLt
  blk_simp [h4]
  rw [after0_4]
  refine (dg_sum m c y t.val t.isLt).trans ?_
  rw [show t.val + 1 = 16 by omega]
  exact Norm.dg_parts _ _ _

end Cert.NormPostIdeal.Value

namespace Cert.NormPostRefIdeal.Read

open Cert.NormPostRefIdeal Cert.NormPostRefIdeal.Gen Idealize.ShloMosaic Idealize.ShloMosaic.TcCoe Idealize.SL.Sem Idealize.ShloMosaic.StableHlo
open Rows

/-- The reference's gradient of the input is the plain formula. -/
theorem dx_ref (x0 : FVec Ideal S4096x2048 .f32) (x1 : FVec Ideal S1x2048 .f32) (x2 : FVec Ideal S4096x2048 .f32)
    (r : Fin 4096) (q : Fin 2048) :
    val_main_v34 (F := Ideal) x0 x1 x2 (ix2 r q) = Norm.dx x0 x1 x2 r q := by
  pointwise [
    val_main_v0, val_main_cst, val_main_v1, val_main_v2, val_main_cst_0, val_main_v3, val_main_v4, val_main_cst_1,
    val_main_v5, val_main_v6, val_main_v7, val_main_v8, val_main_cst_2, val_main_v9, val_main_v10, val_main_v18,
    val_main_v19, val_main_v20, val_main_cst_4, val_main_v21, val_main_v22, val_main_v23, val_main_v24, val_main_v25,
    val_main_cst_5, val_main_v26, val_main_v27, val_main_cst_6, val_main_v28, val_main_v29, val_main_v30,
    val_main_v31, val_main_v32, val_main_v33, val_main_v34]
  simp only [rd_ix2 x0, rd_ix2 x1, rd_ix2 x2, Fin.isValue, Fin.val_zero, Fin.sum_univ_one, zero_add]
  exact Norm.chain_rule (fun k : Fin 2048 => rd x0 r k) (fun k => rd x2 r k * rd x1 0 k) q _ rfl

/-- The reference's gradient of the weight is the plain formula. -/
theorem dg_ref (x0 : FVec Ideal S4096x2048 .f32) (x2 : FVec Ideal S4096x2048 .f32) (r : Fin 1) (q : Fin 2048) :
    val_main_v17 (F := Ideal) x0 x2 (ix2 r q) = Norm.dg x0 x2 q := by
  pointwise [
    val_main_v0, val_main_cst, val_main_v1, val_main_v2, val_main_cst_0, val_main_v3, val_main_v4, val_main_cst_1,
    val_main_v5, val_main_v6, val_main_v7, val_main_v11, val_main_v12, val_main_v15, val_main_cst_3,
    val_main_v16, val_main_v17]
  simp only [rd_ix2 x0, rd_ix2 x2, Fin.isValue, Fin.val_zero, zero_add]
  refine Finset.sum_congr rfl fun x _ => ?_
  exact mul_comm _ _

end Cert.NormPostRefIdeal.Read

end
-- ==== Proof.Further.lean ====
module

public import proofs.«01_k».proof.Proof.Gen.Norm.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.ResidNorm.Frame
public import proofs.«01_k».proof.Proof.Gen.ResidNormIdeal.Value
public import proofs.«01_k».proof.Proof.Gen.ResidNormRefIdeal
public import proofs.«01_k».proof.Proof.Gen.ResidNormRefIdeal.Run
public import proofs.«01_k».proof.Proof.Gen.ResidNormRefIdeal.Read
public import proofs.«01_k».proof.Proof.Gen.ResidLoss.Frame
public import proofs.«01_k».proof.Proof.Gen.ResidLossIdeal.Value
public import proofs.«01_k».proof.Proof.Gen.ResidLossRefIdeal
public import proofs.«01_k».proof.Proof.Gen.ResidLossRefIdeal.Run
public import proofs.«01_k».proof.Proof.Gen.ResidLossRefIdeal.Read
public import proofs.«01_k».proof.Proof.NormSpec

/- The normalisation, the residual with the next normalisation, and the loss with its gradient. -/

@[expose] public section

set_option maxRecDepth 16384

noncomputable section

namespace Cert.NormIdeal.Value

open Cert.NormIdeal Cert.NormIdeal.Gen Idealize.ShloMosaic Idealize.ShloMosaic.TcCoe Idealize.SL.Sem
open Rows

variable (m : (ℓ : Loc nD τ sig) → Buf (Elt Ideal) ℓ)

/-- The input as a plain array. -/
def argX (c : Dev nD) : S4096x2048.Idx → EReal := m ((c : Thread nD τ).loc main_arg0)
/-- The weight. -/
def argG (c : Dev nD) : S1x2048.Idx → EReal := m ((c : Thread nD τ).loc main_arg1)

/-- Where each window lies at a point of the grid. -/
theorem idx : ∀ t : Fin cfg0.N, win0_0.index t = ![t.val, 0] ∧ win0_1.index t = ![0, 0] ∧ win0_2.index t = ![t.val, 0] :=
  (by decide +kernel : ∀ t : Fin grid0.N, _)

/-- A block of the input. -/
theorem iblk0 (c : Dev nD) (t : Fin cfg0.N) (y : S256x2048.Idx) :
    iblk m c 0 t y = rd (argX m c) (256 * t.val + (y 0).val) (y 1).val := by
  have ht : t.val < 16 := t.isLt
  idx_bounds y
  unfold rd; rw [dif_pos (by omega)]
  unfold argX
  blk_ext [iblk, V, idx t]

/-- The weight. -/
theorem iblk1 (c : Dev nD) (t : Fin cfg0.N) (y : S1x2048.Idx) :
    iblk m c 1 t y = rd (argG m c) 0 (y 1).val := by
  idx_bounds y
  unfold rd; rw [dif_pos (by omega)]
  unfold argG
  blk_ext [iblk, V, idx t]

/-- The array after the run: the normalised rows. -/
theorem final2 (c : Dev nD) : (dats m 0 c).arrAt 2 cfg0.N
    = fun i : S4096x2048.Idx => Norm.out (rd (argX m c)) (argG m c) (i 0).val (i 1).val := by
  refine (dats m 0 c).arrAt_eq_of_covers 2 _ (by decide +kernel) fun t hf y => ?_
  obtain ⟨-, -, h2⟩ := idx t
  blk_simp [h2]
  rw [after0_2]
  frame_out
  unfold_payloads
  pointwise
  simp only [iblk0, iblk1]
  rw [Nat.mul_comm t.val]
  rfl

end Cert.NormIdeal.Value

namespace Cert.NormRefIdeal.Read

open Cert.NormRefIdeal Cert.NormRefIdeal.Gen Idealize.ShloMosaic Idealize.ShloMosaic.TcCoe Idealize.SL.Sem Idealize.ShloMosaic.StableHlo
open Rows

/-- The reference's normalised rows are the plain formula. -/
theorem out_ref (x0 : FVec Ideal S4096x2048 .f32) (x1 : FVec Ideal S1x2048 .f32) (r : Fin 4096) (q : Fin 2048) :
    val_main_v12 (F := Ideal) x0 x1 (ix2 r q) = Norm.out (rd x0) x1 r q := by
  pointwise [
    val_main_v0, val_main_cst, val_main_v1, val_main_v2, val_main_cst_0, val_main_v3, val_main_v4, val_main_cst_1,
    val_main_v5, val_main_v6, val_main_v7, val_main_v8, val_main_v9, val_main_v10, val_main_v11, val_main_v12]
  simp only [rd_ix2 x0, rd_ix2 x1, Fin.isValue, Fin.val_zero, zero_add]
  rfl

end Cert.NormRefIdeal.Read

namespace Cert.ResidNormIdeal.Value

open Cert.ResidNormIdeal Cert.ResidNormIdeal.Gen Idealize.ShloMosaic Idealize.ShloMosaic.TcCoe Idealize.SL.Sem
open Rows

variable (m : (ℓ : Loc nD τ sig) → Buf (Elt Ideal) ℓ)

/-- The residual stream as a plain array. -/
def argX (c : Dev nD) : S4096x2048.Idx → EReal := m ((c : Thread nD τ).loc main_arg0)
/-- What is normalised and added to it. -/
def argY (c : Dev nD) : S4096x2048.Idx → EReal := m ((c : Thread nD τ).loc main_arg1)
/-- The weight of that normalisation. -/
def argG (c : Dev nD) : S1x2048.Idx → EReal := m ((c : Thread nD τ).loc main_arg2)
/-- The weight of the next normalisation. -/
def argN (c : Dev nD) : S1x2048.Idx → EReal := m ((c : Thread nD τ).loc main_arg3)

/-- Where each window lies at a point of the grid. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- A block of the residual stream. -/
theorem iblk0 (c : Dev nD) (t : Fin cfg0.N) (y : S256x2048.Idx) :
    iblk m c 0 t y = rd (argX m c) (256 * t.val + (y 0).val) (y 1).val := by
  have ht : t.val < 16 := t.isLt
  idx_bounds y
  unfold rd; rw [dif_pos (by omega)]
  unfold argX
  blk_ext [iblk, V, idx t]

/-- A block of what is added. -/
theorem iblk1 (c : Dev nD) (t : Fin cfg0.N) (y : S256x2048.Idx) :
    iblk m c 1 t y = rd (argY m c) (256 * t.val + (y 0).val) (y 1).val := by
  have ht : t.val < 16 := t.isLt
  idx_bounds y
  unfold rd; rw [dif_pos (by omega)]
  unfold argY
  blk_ext [iblk, V, idx t]

/-- The first weight. -/
theorem iblk2 (c : Dev nD) (t : Fin cfg0.N) (y : S1x2048.Idx) :
    iblk m c 2 t y = rd (argG m c) 0 (y 1).val := by
  idx_bounds y
  unfold rd; rw [dif_pos (by omega)]
  unfold argG
  blk_ext [iblk, V, idx t]

/-- The second weight. -/
theorem iblk3 (c : Dev nD) (t : Fin cfg0.N) (y : S1x2048.Idx) :
    iblk m c 3 t y = rd (argN m c) 0 (y 1).val := by
  idx_bounds y
  unfold rd; rw [dif_pos (by omega)]
  unfold argN
  blk_ext [iblk, V, idx t]

/-- The array after the run: the residual stream. -/
theorem final4 (c : Dev nD) : (dats m 0 c).arrAt 4 cfg0.N
    = fun i : S4096x2048.Idx => Norm.resid (argX m c) (argY m c) (argG m c) (i 0).val (i 1).val := by
  refine (dats m 0 c).arrAt_eq_of_covers 4 _ (by decide +kernel) fun t hf y => ?_
  obtain ⟨-, -, -, -, h4, h5⟩ := idx t
  blk_simp [h4]
  rw [after0_4]
  frame_out
  unfold_payloads
  pointwise
  simp only [iblk0, iblk1, iblk2, iblk3]
  rw [Nat.mul_comm t.val]
  rfl

/-- The array after the run: its normalised rows. -/
theorem final5 (c : Dev nD) : (dats m 0 c).arrAt 5 cfg0.N
    = fun i : S4096x2048.Idx => Norm.out (Norm.resid (argX m c) (argY m c) (argG m c)) (argN m c) (i 0).val (i 1).val := by
  refine (dats m 0 c).arrAt_eq_of_covers 5 _ (by decide +kernel) fun t hf y => ?_
  obtain ⟨-, -, -, -, h4, h5⟩ := idx t
  blk_simp [h5]
  rw [after0_5]
  frame_out
  unfold_payloads
  pointwise
  simp only [iblk0, iblk1, iblk2, iblk3]
  rw [Nat.mul_comm t.val]
  rfl

end Cert.ResidNormIdeal.Value

namespace Cert.ResidNormRefIdeal.Read

open Cert.ResidNormRefIdeal Cert.ResidNormRefIdeal.Gen Idealize.ShloMosaic Idealize.ShloMosaic.TcCoe Idealize.SL.Sem Idealize.ShloMosaic.StableHlo
open Rows

/-- The reference's residual stream is the plain formula. -/
theorem resid_ref (x0 x1 : FVec Ideal S4096x2048 .f32) (x2 : FVec Ideal S1x2048 .f32) (r : Fin 4096) (q : Fin 2048) :
    val_main_v12 (F := Ideal) x0 x1 x2 (ix2 r q) = Norm.resid x0 x1 x2 r q := by
  pointwise [
    val_main_v0, val_main_cst, val_main_v1, val_main_v2, val_main_cst_0, val_main_v3, val_main_v4, val_main_cst_1,
    val_main_v5, val_main_v6, val_main_v7, val_main_v8, val_main_v9, val_main_v10, val_main_v11, val_main_v12]
  simp only [rd_ix2 x0, rd_ix2 x1, rd_ix2 x2, Fin.isValue, Fin.val_zero, zero_add]
  rfl

/-- The reference's next normalised rows are the plain formula. -/
theorem next_ref (x0 x1 : FVec Ideal S4096x2048 .f32) (x2 x3 : FVec Ideal S1x2048 .f32) (r : Fin 4096) (q : Fin 2048) :
    val_main_v25 (F := Ideal) x0 x1 x2 x3 (ix2 r q) = Norm.out (Norm.resid x0 x1 x2) x3 r q := by
  pointwise [
    val_main_v13, val_main_cst_2, val_main_v14, val_main_v15, val_main_cst_3, val_main_v16, val_main_v17,
    val_main_cst_4, val_main_v18, val_main_v19, val_main_v20, val_main_v21, val_main_v22, val_main_v23, val_main_v24,
    val_main_v25]
  simp only [resid_ref, rd_ix2 x3, Fin.isValue, Fin.val_zero, zero_add]
  rfl

end Cert.ResidNormRefIdeal.Read

namespace Cert.ResidLossIdeal.Value

open Cert.ResidLossIdeal Cert.ResidLossIdeal.Gen Idealize.ShloMosaic Idealize.ShloMosaic.TcCoe Idealize.SL.Sem
open Rows

variable (m : (ℓ : Loc nD τ sig) → Buf (Elt Ideal) ℓ)

/-- The residual stream as a plain array. -/
def argX (c : Dev nD) : S4096x2048.Idx → EReal := m ((c : Thread nD τ).loc main_arg0)
/-- What is normalised and added to it. -/
def argY (c : Dev nD) : S4096x2048.Idx → EReal := m ((c : Thread nD τ).loc main_arg1)
/-- The weight of that normalisation. -/
def argG (c : Dev nD) : S1x2048.Idx → EReal := m ((c : Thread nD τ).loc main_arg2)
/-- The target. -/
def argT (c : Dev nD) : S4096x2048.Idx → EReal := m ((c : Thread nD τ).loc main_arg3)

/-- Where each window lies at a point of the grid. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

/-- A block of the residual stream. -/
theorem iblk0 (c : Dev nD) (t : Fin cfg0.N) (y : S256x2048.Idx) :
    iblk m c 0 t y = rd (argX m c) (256 * t.val + (y 0).val) (y 1).val := by
  have ht : t.val < 16 := t.isLt
  idx_bounds y
  unfold rd; rw [dif_pos (by omega)]
  unfold argX
  blk_ext [iblk, V, idx t]

/-- A block of what is added. -/
theorem iblk1 (c : Dev nD) (t : Fin cfg0.N) (y : S256x2048.Idx) :
    iblk m c 1 t y = rd (argY m c) (256 * t.val + (y 0).val) (y 1).val := by
  have ht : t.val < 16 := t.isLt
  idx_bounds y
  unfold rd; rw [dif_pos (by omega)]
  unfold argY
  blk_ext [iblk, V, idx t]

/-- The weight. -/
theorem iblk2 (c : Dev nD) (t : Fin cfg0.N) (y : S1x2048.Idx) :
    iblk m c 2 t y = rd (argG m c) 0 (y 1).val := by
  idx_bounds y
  unfold rd; rw [dif_pos (by omega)]
  unfold argG
  blk_ext [iblk, V, idx t]

/-- A block of the target. -/
theorem iblk3 (c : Dev nD) (t : Fin cfg0.N) (y : S256x2048.Idx) :
    iblk m c 3 t y = rd (argT m c) (256 * t.val + (y 0).val) (y 1).val := by
  have ht : t.val < 16 := t.isLt
  idx_bounds y
  unfold rd; rw [dif_pos (by omega)]
  unfold argT
  blk_ext [iblk, V, idx t]

/-- The difference from the target. -/
def err (c : Dev nD) : ℕ → ℕ → EReal := Norm.err (argX m c) (argY m c) (argG m c) (argT m c)

/-- What a point stores of the gradient. -/
theorem dx_point (c : Dev nD) (t : Fin cfg0.N) (y : S256x2048.Idx) :
    (outsAt0 m c t.val t.isLt).1 y = err m c (256 * t.val + (y 0).val) (y 1).val * Ideal.ofBits .f32 0x3A000000#32 := by
  by_cases h0 : t.val % 16 = 0
  · rw [outsAt0_A m c t h0]
    frame_out
    unfold_payloads
    pointwise
    simp only [iblk0, iblk1, iblk2, iblk3]
    rfl
  · rw [outsAt0_B m c t h0]
    frame_out
    unfold_payloads
    pointwise
    simp only [iblk0, iblk1, iblk2, iblk3]
    rfl

/-- The first point stores its block's part of the loss. -/
theorem loss_A (c : Dev nD) (t : Fin cfg0.N) (h0 : t.val % 16 = 0) (y : S8x128.Idx) :
    (outsAt0 m c t.val t.isLt).2 y = Norm.lossPart (err m c) t.val := by
  rw [outsAt0_A m c t h0]
  frame_out
  unfold_payloads
  pointwise
  simp only [iblk0, iblk1, iblk2, iblk3]
  rfl

/-- Every later point adds its block's part. -/
theorem loss_B (c : Dev nD) (t : Fin cfg0.N) (h0 : ¬ t.val % 16 = 0) (y : S8x128.Idx) :
    (outsAt0 m c t.val t.isLt).2 y = (outsAt0 m c (t.val - 1) (by omega)).2 y + Norm.lossPart (err m c) t.val := by
  rw [outsAt0_B m c t h0]
  frame_out
  unfold_payloads
  pointwise
  simp only [iblk0, iblk1, iblk2, iblk3]
  rfl

/-- The array after the run: the gradient. -/
theorem final4 (c : Dev nD) : (dats m 0 c).arrAt 4 cfg0.N
    = fun i : S4096x2048.Idx => err m c (i 0).val (i 1).val * Ideal.ofBits .f32 0x3A000000#32 := by
  refine (dats m 0 c).arrAt_eq_of_covers 4 _ (by decide +kernel) fun t hf y => ?_
  obtain ⟨-, -, -, -, h4, -⟩ := idx t
  blk_simp [h4]
  rw [after0_4]
  refine (dx_point m c t y).trans ?_
  rw [Nat.mul_comm 256]

/-- The loss after point `n`: the parts of the blocks so far. -/
theorem loss_sum (c : Dev nD) (y : S8x128.Idx) : ∀ (n : ℕ) (h : n < cfg0.N),
    (outsAt0 m c n h).2 y = ∑ s ∈ Finset.range (n + 1), Norm.lossPart (err m c) s
  | 0, h => by
    rw [Finset.sum_range_one]
    exact loss_A m c ⟨0, h⟩ rfl y
  | n + 1, h => by
    have h' : n + 1 < 16 := h
    rw [Finset.sum_range_succ, ← loss_sum c y n (by omega)]
    exact loss_B m c ⟨n + 1, h⟩ (by show ¬ (n + 1) % 16 = 0; omega) y

/-- The array after the run: the loss in every entry. -/
theorem final5 (c : Dev nD) : (dats m 0 c).arrAt 5 cfg0.N = fun _ : S8x128.Idx => Norm.loss (err m c) := by
  refine (dats m 0 c).arrAt_eq_of_covers 5 _ (by decide +kernel) fun t hf y => ?_
  obtain ⟨-, -, -, -, -, h5⟩ := idx t
  have ht : t.val % 16 = 15 := (flush0_5 t).mp hf
  have ht' : t.val < 16 := t.isLt
  blk_simp [h5]
  rw [after0_5]
  refine (loss_sum m c y t.val t.isLt).trans ?_
  rw [show t.val + 1 = 16 by omega]
  exact Norm.loss_parts _

end Cert.ResidLossIdeal.Value

namespace Cert.ResidLossRefIdeal.Read

open Cert.ResidLossRefIdeal Cert.ResidLossRefIdeal.Gen Idealize.ShloMosaic Idealize.ShloMosaic.TcCoe Idealize.SL.Sem Idealize.ShloMosaic.StableHlo
open Rows

/-- The reference's gradient is the plain formula. -/
theorem dx_ref (x0 x1 : FVec Ideal S4096x2048 .f32) (x2 : FVec Ideal S1x2048 .f32) (x3 : FVec Ideal S4096x2048 .f32)
    (r : Fin 4096) (q : Fin 2048) :
    val_main_v27 (F := Ideal) x0 x1 x2 x3 (ix2 r q) = Norm.err x0 x1 x2 x3 r q * Ideal.ofBits .f32 0x3A000000#32 := by
  pointwise [
    val_main_v0, val_main_cst, val_main_v1, val_main_v2, val_main_cst_0, val_main_v3, val_main_v4, val_main_cst_1,
    val_main_v5, val_main_v6, val_main_v7, val_main_v8, val_main_v9, val_main_v10, val_main_v11, val_main_v12,
    val_main_v13, val_main_v14, val_main_cst_2, val_main_v15, val_main_v16, val_main_cst_3, val_main_v17,
    val_main_cst_4, val_main_v18, val_main_v19, val_main_cst_5, val_main_v20, val_main_cst_6, val_main_v21,
    val_main_cst_7, val_main_cst_8, val_main_v22, val_main_v23, val_main_cst_9, val_main_v24, val_main_v25,
    val_main_v26, val_main_v27, val_main_v28]
  simp only [rd_ix2 x0, rd_ix2 x1, rd_ix2 x2, rd_ix2 x3, Fin.isValue, Fin.val_zero, zero_add]
  exact Norm.loss_grad (Norm.err x0 x1 x2 x3 r q)

/-- The reference's loss is the plain formula. -/
theorem loss_ref (x0 x1 : FVec Ideal S4096x2048 .f32) (x2 : FVec Ideal S1x2048 .f32) (x3 : FVec Ideal S4096x2048 .f32)
    (r : Fin 8) (q : Fin 128) :
    val_main_v28 (F := Ideal) x0 x1 x2 x3 (ix2 r q) = Norm.loss (Norm.err x0 x1 x2 x3) := by
  pointwise [
    val_main_v0, val_main_cst, val_main_v1, val_main_v2, val_main_cst_0, val_main_v3, val_main_v4, val_main_cst_1,
    val_main_v5, val_main_v6, val_main_v7, val_main_v8, val_main_v9, val_main_v10, val_main_v11, val_main_v12,
    val_main_v13, val_main_v14, val_main_cst_2, val_main_v15, val_main_v16, val_main_cst_3, val_main_v17,
    val_main_cst_4, val_main_v18, val_main_v19, val_main_cst_5, val_main_v20, val_main_cst_6, val_main_v21,
    val_main_cst_7, val_main_cst_8, val_main_v22, val_main_v23, val_main_cst_9, val_main_v24, val_main_v25,
    val_main_v26, val_main_v27, val_main_v28]
  simp only [rd_ix2 x0, rd_ix2 x1, rd_ix2 x2, rd_ix2 x3, Fin.isValue, Fin.val_zero, zero_add]
  rfl

end Cert.ResidLossRefIdeal.Read

end
-- ==== Proof.Conv.lean ====
module

public import proofs.«01_k».proof.Proof.Gen.ScFwd.Frame
public import proofs.«01_k».proof.Proof.Gen.ScFwdIdeal.Value
public import proofs.«01_k».proof.Proof.Gen.ScFwdRefIdeal
public import proofs.«01_k».proof.Proof.Gen.ScFwdRefIdeal.Run
public import proofs.«01_k».proof.Proof.Gen.ScFwdRefIdeal.Read
public import proofs.«01_k».proof.Proof.Gen.FfnConvDz.Frame
public import proofs.«01_k».proof.Proof.Gen.FfnConvDzIdeal.Value
public import proofs.«01_k».proof.Proof.Gen.FfnConvDzRefIdeal
public import proofs.«01_k».proof.Proof.Gen.FfnConvDzRefIdeal.Run
public import proofs.«01_k».proof.Proof.Gen.FfnConvDzRefIdeal.Read
public import proofs.«01_k».proof.Proof.Spec

/- The short convolution forwards, and the gradient of the feed-forward block's convolution with respect to its input. -/

@[expose] public section

set_option maxRecDepth 16384

noncomputable section

namespace Conv
open Idealize.ShloMosaic Idealize.ShloMosaic.Pipeline Rows

variable (d : (⟨2, ![4096, 11264]⟩ : Shape).Idx → EReal) (w : (⟨2, ![3, 11264]⟩ : Shape).Idx → EReal)

/-- The gradient of the convolution's input: the taps against the gradient of this row and of the two rows after. -/
def dz (r q : ℕ) : EReal := rd w 2 q * rd d r q + rd w 1 q * rd d (r + 1) q + rd w 0 q * rd d (r + 2) q

/-- The same as a block of 128 rows and the next rows give it. -/
theorem dz_block {t x : ℕ} (q : ℕ) (ht : t < 32) (hx : x < 128) :
    rd w 2 q * rd d (128 * t + x) q
      + rd w 1 q * (if x = 127 then (if t = 31 then 0 else rd d (16 * min (8 * (t + 1)) 255) q)
          else rd d (128 * t + (x + 128 - 127) % 128) q)
      + rd w 0 q * (if x = 127 then (if t = 31 then 0 else rd d (16 * min (8 * (t + 1)) 255 + 1) q)
          else if x = 126 then (if t = 31 then 0 else rd d (16 * min (8 * (t + 1)) 255) q)
          else rd d (128 * t + (x + 128 - 126) % 128) q)
      = dz d w (128 * t + x) q := by
  have h1 := up_one (rd d · q) (fun r h => rd_of_le _ h _) ht hx
  have h2 := up_two (rd d · q) (fun r h => rd_of_le _ h _) ht hx
  rw [h1, h2]
  rfl

end Conv

namespace Cert.ScFwdIdeal.Value

open Cert.ScFwdIdeal Cert.ScFwdIdeal.Gen Idealize.ShloMosaic Idealize.ShloMosaic.TcCoe Idealize.SL.Sem
open Rows

variable (m : (ℓ : Loc nD τ sig) → Buf (Elt Ideal) ℓ)

/-- The projections as a plain array. -/
def argP (c : Dev nD) : S4096x6144.Idx → EReal := m ((c : Thread nD τ).loc main_arg0)
/-- The taps. -/
def argW (c : Dev nD) : S3x2048.Idx → EReal := m ((c : Thread nD τ).loc main_arg1)

/-- Where each window lies at a point of the grid. -/
theorem idx : ∀ t : Fin cfg0.N, win0_0.index t = ![t.val, 0] ∧ win0_1.index t = ![8 * t.val - 1, 0]
    ∧ win0_2.index t = ![0, 0] ∧ win0_3.index t = ![t.val, 0] ∧ (grid0.coords t 0).val = t.val :=
  (by decide +kernel : ∀ t : Fin grid0.N, _)

/-- A block of the projections. -/
theorem iblk0 (c : Dev nD) (t : Fin cfg0.N) (y : S128x6144.Idx) :
    iblk m c 0 t y = rd (argP m c) (128 * t.val + (y 0).val) (y 1).val := by
  have ht : t.val < 32 := t.isLt
  idx_bounds y
  unfold rd; rw [dif_pos (by omega)]
  unfold argP
  blk_ext [iblk, V, idx t]

/-- The sixteen rows of the projections that end before the block. -/
theorem iblk1 (c : Dev nD) (t : Fin cfg0.N) (y : S16x6144.Idx) :
    iblk m c 1 t y = rd (argP m c) (16 * (8 * t.val - 1) + (y 0).val) (y 1).val := by
  have ht : t.val < 32 := t.isLt
  idx_bounds y
  unfold rd; rw [dif_pos (by omega)]
  unfold argP
  blk_ext [iblk, V, idx t]

/-- The taps. -/
theorem iblk2 (c : Dev nD) (t : Fin cfg0.N) (y : S3x2048.Idx) :
    iblk m c 2 t y = rd (argW m c) ((y 0).val) (y 1).val := by
  idx_bounds y
  unfold rd; rw [dif_pos (by omega)]
  unfold argW
  blk_ext [iblk, V, idx t]

/-- The array after the run: the outer gate times the convolution. -/
theorem final3 (c : Dev nD) : (dats m 0 c).arrAt 3 cfg0.N
    = fun i : S4096x2048.Idx => rd (argP m c) (i 0).val (i 1).val * SConv.cz (argP m c) (argW m c) (i 1).val (i 0).val := by
  refine (dats m 0 c).arrAt_eq_of_covers 3 _ (by decide +kernel) fun t hf y => ?_
  obtain ⟨-, -, -, h3, hg⟩ := idx t
  blk_simp [h3]
  rw [after0_3, Nat.mul_comm t.val]
  have ht : t.val < 32 := t.isLt
  frame_out
  canon_tiles x h
  all_goals
    obtain ⟨a, b, rfl⟩ := exists_ix2 (a := 128) (b := 512) x
    simp only [ix2_zero, ix2_one] at h0 h1 x0_lt x1_lt
    unfold_payloads
    pointwise
    simp only [iblk0, iblk1, iblk2, hg, ix2_zero, ix2_one, Fin.isValue, Fin.val_zero, Fin.val_one, Fin.val_two,
      val_14, val_15, add_zero]
    simp (disch := first | omega | exact lt_of_lt_of_le (Fin.isLt _) (by decide)) only [select_eq, select_eq']
    rw [h0]
    rw [SConv.z_one _ (y 1).val _ _ ?hu ?hv a.isLt, SConv.z_two _ (y 1).val _ _ ?hu ?hv a.isLt]
    case hu => omega
    case hv => omega
    rw [h1]
    simp only [SConv.cz, SConv.z]
    try simp only [← Nat.add_assoc, Nat.reduceAdd, Nat.zero_add]

end Cert.ScFwdIdeal.Value

namespace Cert.ScFwdRefIdeal.Read

open Cert.ScFwdRefIdeal Cert.ScFwdRefIdeal.Gen Idealize.ShloMosaic Idealize.ShloMosaic.TcCoe Idealize.SL.Sem Idealize.ShloMosaic.StableHlo
open Rows

/-- The reference's output is the outer gate times the convolution. -/
theorem out_ref (x0 : FVec Ideal S4096x6144 .bf16) (x1 : FVec Ideal S3x2048 .f32) (r : Fin 4096) (q : Fin 2048) :
    val_main_v30 (F := Ideal) x0 x1 (ix2 r q) = rd x0 r q * SConv.cz x0 x1 q r := by
  pointwise [
    val_main_v0, val_main_v1, val_main_v2, val_main_v3, val_main_v4, val_main_cst, val_main_v5, val_main_v6,
    val_main_v7, val_main_v8, val_main_v9, val_main_v10, val_main_v11, val_main_v12, val_main_cst_0,
    val_main_v13, val_main_v14, val_main_v15, val_main_v16, val_main_v17, val_main_v18, val_main_v19,
    val_main_v20, val_main_v21, val_main_v22, val_main_v23, val_main_v24, val_main_v25, val_main_v26,
    val_main_v27, val_main_v28, val_main_v29, val_main_v30]
  simp only [rd_ix2 x0, rd_ix2 x1, Fin.isValue, Fin.val_zero, Fin.val_one, Fin.val_two]
  refine congrArg _ ?_
  unfold SConv.cz SConv.z back
  rw [add_comm (dite _ _ _ * _), add_comm _ (rd x0 _ _ * _ * _), ← add_assoc]
  simp only [show ∀ r : ℕ, (1 + r < 2) = ¬ (1 ≤ r) from fun r => by simp only [eq_iff_iff]; omega,
    show ∀ r : ℕ, (r < 2) = ¬ (2 ≤ r) from fun r => by simp only [eq_iff_iff]; omega,
    show ∀ r : ℕ, 1 + r - 2 = r - 1 from fun r => by omega]
  simp only [dite_eq_ite, ite_not, mul_comm]

end Cert.ScFwdRefIdeal.Read

namespace Cert.FfnConvDzIdeal.Value

open Cert.FfnConvDzIdeal Cert.FfnConvDzIdeal.Gen Idealize.ShloMosaic Idealize.ShloMosaic.TcCoe Idealize.SL.Sem
open Rows

variable (m : (ℓ : Loc nD τ sig) → Buf (Elt Ideal) ℓ)

/-- The gradient of the convolution's output as a plain array. -/
def argD (c : Dev nD) : S4096x11264.Idx → EReal := m ((c : Thread nD τ).loc main_arg1)
/-- The taps. -/
def argW (c : Dev nD) : S3x11264.Idx → EReal := m ((c : Thread nD τ).loc main_arg2)

/-- Where each window lies at a point of the grid. -/
theorem idx : ∀ t : Fin cfg0.N, win0_0.index t = ![t.val, 0] ∧ win0_1.index t = ![min (8 * (t.val + 1)) 255, 0]
    ∧ win0_2.index t = ![0, 0] ∧ win0_3.index t = ![t.val, 0] ∧ (grid0.coords t 0).val = t.val :=
  (by decide +kernel : ∀ t : Fin grid0.N, _)

/-- A block of the gradient. -/
theorem iblk0 (c : Dev nD) (t : Fin cfg0.N) (y : S128x11264.Idx) :
    iblk m c 0 t y = rd (argD m c) (128 * t.val + (y 0).val) (y 1).val := by
  have ht : t.val < 32 := t.isLt
  idx_bounds y
  unfold rd; rw [dif_pos (by omega)]
  unfold argD
  blk_ext [iblk, V, idx t]

/-- The sixteen rows of the gradient after the block. -/
theorem iblk1 (c : Dev nD) (t : Fin cfg0.N) (y : S16x11264.Idx) :
    iblk m c 1 t y = rd (argD m c) (16 * min (8 * (t.val + 1)) 255 + (y 0).val) (y 1).val := by
  have ht : t.val < 32 := t.isLt
  idx_bounds y
  unfold rd; rw [dif_pos (by omega)]
  unfold argD
  blk_ext [iblk, V, idx t]

/-- The taps. -/
theorem iblk2 (c : Dev nD) (t : Fin cfg0.N) (y : S3x11264.Idx) :
    iblk m c 2 t y = rd (argW m c) ((y 0).val) (y 1).val := by
  idx_bounds y
  unfold rd; rw [dif_pos (by omega)]
  unfold argW
  blk_ext [iblk, V, idx t]

/-- The array after the run: the gradient of the convolution's input. -/
theorem final3 (c : Dev nD) : (dats m 0 c).arrAt 3 cfg0.N
    = fun i : S4096x11264.Idx => Conv.dz (argD m c) (argW m c) (i 0).val (i 1).val := by
  refine (dats m 0 c).arrAt_eq_of_covers 3 _ (by decide +kernel) fun t hf y => ?_
  obtain ⟨-, -, -, h3, hg⟩ := idx t
  blk_simp [h3]
  rw [after0_3, Nat.mul_comm t.val]
  have ht : t.val < 32 := t.isLt
  frame_out
  canon_tiles x h
  all_goals
    obtain ⟨a, b, rfl⟩ := exists_ix2 (a := 128) (b := 512) x
    simp only [ix2_zero, ix2_one] at h0 h1 x0_lt x1_lt
    unfold_payloads
    pointwise
    simp only [iblk0, iblk1, iblk2, hg, ix2_zero, ix2_one, Fin.isValue, Fin.val_zero, Fin.val_one, Fin.val_two, add_zero]
    simp (disch := first | omega | exact lt_of_lt_of_le (Fin.isLt _) (by decide)) only [select_eq, select_eq']
    rw [h0, Conv.dz_block _ _ _ ht a.isLt, h1]
    try simp only [Nat.zero_add]

end Cert.FfnConvDzIdeal.Value

namespace Cert.FfnConvDzRefIdeal.Read

open Cert.FfnConvDzRefIdeal Cert.FfnConvDzRefIdeal.Gen Idealize.ShloMosaic Idealize.ShloMosaic.TcCoe Idealize.SL.Sem Idealize.ShloMosaic.StableHlo
open Rows

/-- The reference's gradient of the convolution's input is the plain formula. -/
theorem out_ref (x1 : FVec Ideal S4096x11264 .bf16) (x2 : FVec Ideal S3x11264 .f32) (r : Fin 4096) (q : Fin 11264) :
    val_main_v40 (F := Ideal) x1 x2 (ix2 r q) = Conv.dz x1 x2 r q := by
  pointwise [
    val_main_v0, val_main_cst, val_main_v1, val_main_v2, val_main_cst_0, val_main_v3, val_main_v4, val_main_v5,
    val_main_v6, val_main_v7, val_main_v8, val_main_v9, val_main_cst_1, val_main_v10, val_main_v11,
    val_main_v12, val_main_v13, val_main_v14, val_main_v15, val_main_v16, val_main_v17, val_main_v18,
    val_main_v19, val_main_v20, val_main_v21, val_main_v22, val_main_v23, val_main_v24, val_main_v25,
    val_main_v26, val_main_v27, val_main_v28, val_main_cst_2, val_main_v29, val_main_v30, val_main_v31,
    val_main_cst_3, val_main_v32, val_main_v33, val_main_v34, val_main_v35, val_main_cst_4, val_main_v36,
    val_main_v37, val_main_v38, val_main_v39, val_main_v40]
  simp only [rd_ix2 x1, rd_ix2 x2, Fin.isValue, Fin.val_zero, Fin.val_one, Fin.val_two]
  unfold Conv.dz
  refine congr_arg₂ (· + ·) (congr_arg₂ (· + ·) (mul_comm _ _) ?_) ?_
  · rw [show 2 + r.val - 1 = r.val + 1 by omega]
    split_ifs with h
    · exact mul_comm _ _
    · rw [rd_of_le x1 (r := r.val + 1) (by omega), mul_zero]
  · rw [show 2 + r.val = r.val + 2 by omega]
    split_ifs with h
    · exact mul_comm _ _
    · rw [rd_of_le x1 (r := r.val + 2) (by omega), mul_zero]

end Cert.FfnConvDzRefIdeal.Read

end
-- ==== Proof.Act.lean ====
module

public import proofs.«01_k».proof.Proof.Gen.FfnAct.Frame
public import proofs.«01_k».proof.Proof.Gen.FfnActIdeal.Value
public import proofs.«01_k».proof.Proof.Gen.FfnActRefIdeal
public import proofs.«01_k».proof.Proof.Gen.FfnActRefIdeal.Run
public import proofs.«01_k».proof.Proof.Gen.FfnActRefIdeal.Read
public import proofs.«01_k».proof.Proof.Rows

/- The feed-forward block's convolution and gate, forwards. -/

@[expose] public section

set_option maxRecDepth 16384

noncomputable section

namespace Gate
open Idealize.ShloMosaic Idealize.ShloMosaic.Pipeline Rows

variable (z : (⟨2, ![4096, 11264]⟩ : Shape).Idx → EReal) (w : (⟨2, ![3, 11264]⟩ : Shape).Idx → EReal)
  (b : (⟨2, ![1, 11264]⟩ : Shape).Idx → EReal)

/-- The convolution with its bias: the taps against this row and the two rows before. -/
def u (r q : ℕ) : EReal :=
  rd w 2 q * rd z r q + rd w 1 q * back (rd z · q) 1 r + rd w 0 q * back (rd z · q) 2 r + rd b 0 q

/-- The same as a block of 128 rows and the rows before give it. -/
theorem u_block {t x : ℕ} (q : ℕ) (hx : x < 128) :
    rd w 2 q * rd z (128 * t + x) q
      + rd w 1 q * (if x = 0 then (if t = 0 then 0 else rd z (16 * (8 * t - 1) + 15) q)
          else rd z (128 * t + (x + 128 - 1) % 128) q)
      + rd w 0 q * (if x = 0 then (if t = 0 then 0 else rd z (16 * (8 * t - 1) + 14) q)
          else if x = 1 then (if t = 0 then 0 else rd z (16 * (8 * t - 1) + 15) q)
          else rd z (128 * t + (x + 128 - 2) % 128) q)
      + rd b 0 q
      = u z w b (128 * t + x) q := by
  have h1 := down_one (rd z · q) (t := t) hx
  have h2 := down_two (rd z · q) (t := t) hx
  rw [h1, h2]
  rfl

/-- The same with the tap of the earliest row first. -/
theorem u_ref (r q : ℕ) :
    (if h : r < 2 then 0 else rd z (r - 2) q) * rd w 0 q + (if h : 1 + r < 2 then 0 else rd z (1 + r - 2) q) * rd w 1 q
      + rd z r q * rd w 2 q + rd b 0 q = u z w b r q := by
  unfold u back
  refine congrArg (· + _) ?_
  rw [add_comm (dite _ _ _ * _), add_comm _ (rd z _ _ * _), ← add_assoc]
  simp only [show (1 + r < 2) = ¬ (1 ≤ r) by simp only [eq_iff_iff]; omega,
    show (r < 2) = ¬ (2 ≤ r) by simp only [eq_iff_iff]; omega, show 1 + r - 2 = r - 1 by omega]
  simp only [dite_eq_ite, ite_not, mul_comm]

/-- The gate: the first half of the columns through x · sigmoid x, times the second half. -/
def act (r q : ℕ) : EReal :=
  u z w b r q * Ideal.div 1 (1 + Ideal.exp (-u z w b r q)) * u z w b r (5632 + q)

end Gate

namespace Cert.FfnActIdeal.Value

open Cert.FfnActIdeal Cert.FfnActIdeal.Gen Idealize.ShloMosaic Idealize.ShloMosaic.TcCoe Idealize.SL.Sem
open Rows

variable (m : (ℓ : Loc nD τ sig) → Buf (Elt Ideal) ℓ)

/-- The input as a plain array. -/
def argZ (c : Dev nD) : S4096x11264.Idx → EReal := m ((c : Thread nD τ).loc main_arg0)
/-- The taps. -/
def argW (c : Dev nD) : S3x11264.Idx → EReal := m ((c : Thread nD τ).loc main_arg1)
/-- The bias. -/
def argB (c : Dev nD) : S1x11264.Idx → EReal := m ((c : Thread nD τ).loc main_arg2)

/-- Where each window lies at a point of the grid. -/
theorem idx : ∀ t : Fin cfg0.N, win0_0.index t = ![t.val, 0] ∧ win0_1.index t = ![8 * t.val - 1, 0]
    ∧ win0_2.index t = ![0, 0] ∧ win0_3.index t = ![0, 0] ∧ win0_4.index t = ![t.val, 0]
    ∧ (grid0.coords t 0).val = t.val :=
  (by decide +kernel : ∀ t : Fin grid0.N, _)

/-- A block of the input. -/
theorem iblk0 (c : Dev nD) (t : Fin cfg0.N) (y : S128x11264.Idx) :
    iblk m c 0 t y = rd (argZ m c) (128 * t.val + (y 0).val) (y 1).val := by
  have ht : t.val < 32 := t.isLt
  idx_bounds y
  unfold rd; rw [dif_pos (by omega)]
  unfold argZ
  blk_ext [iblk, V, idx t]

/-- The sixteen rows of the input that end before the block. -/
theorem iblk1 (c : Dev nD) (t : Fin cfg0.N) (y : S16x11264.Idx) :
    iblk m c 1 t y = rd (argZ m c) (16 * (8 * t.val - 1) + (y 0).val) (y 1).val := by
  have ht : t.val < 32 := t.isLt
  idx_bounds y
  unfold rd; rw [dif_pos (by omega)]
  unfold argZ
  blk_ext [iblk, V, idx t]

/-- The taps. -/
theorem iblk2 (c : Dev nD) (t : Fin cfg0.N) (y : S3x11264.Idx) :
    iblk m c 2 t y = rd (argW m c) ((y 0).val) (y 1).val := by
  idx_bounds y
  unfold rd; rw [dif_pos (by omega)]
  unfold argW
  blk_ext [iblk, V, idx t]

/-- The bias. -/
theorem iblk3 (c : Dev nD) (t : Fin cfg0.N) (y : S1x11264.Idx) :
    iblk m c 3 t y = rd (argB m c) (0) (y 1).val := by
  idx_bounds y
  unfold rd; rw [dif_pos (by omega)]
  unfold argB
  blk_ext [iblk, V, idx t]

set_option maxHeartbeats 2000000 in
/-- The array after the run: the gate. -/
theorem final4 (c : Dev nD) : (dats m 0 c).arrAt 4 cfg0.N
    = fun i : S4096x5632.Idx => Gate.act (argZ m c) (argW m c) (argB m c) (i 0).val (i 1).val := by
  refine (dats m 0 c).arrAt_eq_of_covers 4 _ (by decide +kernel) fun t hf y => ?_
  obtain ⟨-, -, -, -, h4, hg⟩ := idx t
  blk_simp [h4]
  rw [after0_4, Nat.mul_comm t.val]
  have ht : t.val < 32 := t.isLt
  frame_out
  canon_tiles x h
  all_goals
    obtain ⟨a, b, rfl⟩ := exists_ix2 (a := 128) (b := 512) x
    simp only [ix2_zero, ix2_one] at h0 h1 x0_lt x1_lt
    unfold_payloads
    pointwise
    simp only [iblk0, iblk1, iblk2, iblk3, hg, ix2_zero, ix2_one, Fin.isValue, Fin.val_zero, Fin.val_one, Fin.val_two,
      val_14, val_15, add_zero]
    simp (disch := first | omega | exact lt_of_lt_of_le (Fin.isLt _) (by decide)) only [select_eq, select_eq']
    simp only [Gate.u_block _ _ _ _ a.isLt]
    rw [h0, h1]
    simp only [Gate.act, ← Nat.add_assoc, Nat.reduceAdd, Nat.zero_add, zero_sub]

end Cert.FfnActIdeal.Value

namespace Cert.FfnActRefIdeal.Read

open Cert.FfnActRefIdeal Cert.FfnActRefIdeal.Gen Idealize.ShloMosaic Idealize.ShloMosaic.TcCoe Idealize.SL.Sem Idealize.ShloMosaic.StableHlo
open Rows

/-- The reference's output is the gate. -/
theorem out_ref (x0 : FVec Ideal S4096x11264 .bf16) (x1 : FVec Ideal S3x11264 .f32) (x2 : FVec Ideal S1x11264 .f32)
    (r : Fin 4096) (q : Fin 5632) :
    val_main_v31 (F := Ideal) x0 x1 x2 (ix2 r q) = Gate.act x0 x1 x2 r q := by
  pointwise [
    val_main_v0, val_main_cst, val_main_v1, val_main_v2, val_main_v3, val_main_v4, val_main_v5, val_main_v6,
    val_main_v7, val_main_v8, val_main_cst_0, val_main_v9, val_main_v10, val_main_v11, val_main_v12,
    val_main_v13, val_main_v14, val_main_v15, val_main_v16, val_main_v17, val_main_v18, val_main_v19,
    val_main_v20, val_main_v21, val_main_v22, val_main_v23, val_main_v24, val_main_v25, val_main_v26,
    val_main_v27, val_main_v28, val_main_call0_v0, val_main_call0_v1, val_main_call0_cst, val_main_call0_v2,
    val_main_call0_v3, val_main_call0_cst_0, val_main_call0_v4, val_main_call0_v5, val_main_v29, val_main_v30,
    val_main_v31]
  simp only [rd_ix2 x0, rd_ix2 x1, rd_ix2 x2, Fin.isValue, Fin.val_zero, Fin.val_one, Fin.val_two]
  rw [Gate.u_ref, Gate.u_ref]
  rfl

end Cert.FfnActRefIdeal.Read

end
-- ==== Proof.DecaySpec.lean ====
module

public import proofs.«01_k».proof.Proof.Rows

/-
The log decay of the forgetting attention, log sigmoid of a linear form, its running sum over the rows, and the gradient
of that sum, as plain formulas; and the two ways to write the logarithm and its derivative.
-/

@[expose] public section

set_option maxRecDepth 16384

noncomputable section

namespace Decay
open Idealize.ShloMosaic Idealize.ShloMosaic.Pipeline Rows

/-- The logarithm of the sigmoid. -/
def logSig (x : EReal) : EReal := min x 0 - Ideal.log (1 + Ideal.exp (-max x (-x)))

/-- The log decay of a position and a head. -/
def term (f : (⟨2, ![4096, 128]⟩ : Shape).Idx → EReal) (b : (⟨2, ![1, 128]⟩ : Shape).Idx → EReal) (r q : ℕ) : EReal :=
  logSig (rd f r q + rd b 0 q)

/-- The running sum of the log decays: the first `n` positions. -/
def run (f : (⟨2, ![4096, 128]⟩ : Shape).Idx → EReal) (b : (⟨2, ![1, 128]⟩ : Shape).Idx → EReal) (n q : ℕ) : EReal :=
  ∑ s ∈ Finset.range n, term f b s q

/-- The sigmoid of `-x`, the derivative of `logSig`. -/
def sigNeg (x : EReal) : EReal := Ideal.div 1 (1 + Ideal.exp x)

/-- The running sum taken from the end: the positions from `r` on. -/
def tail (d : (⟨2, ![4096, 128]⟩ : Shape).Idx → EReal) (r q : ℕ) : EReal :=
  ∑ s ∈ Finset.range (4096 - r), rd d (r + s) q

/-- The gradient of the linear form. -/
def dfl (d f : (⟨2, ![4096, 128]⟩ : Shape).Idx → EReal) (b : (⟨2, ![1, 128]⟩ : Shape).Idx → EReal) (r q : ℕ) : EReal :=
  tail d r q * sigNeg (rd f r q + rd b 0 q)

/-- A block's part of the bias's gradient. -/
def dbPart (d f : (⟨2, ![4096, 128]⟩ : Shape).Idx → EReal) (b : (⟨2, ![1, 128]⟩ : Shape).Idx → EReal) (t q : ℕ) : EReal :=
  ∑ a : Fin 256, dfl d f b (256 * t + a.val) q

/-- The gradient of the bias. -/
def db (d f : (⟨2, ![4096, 128]⟩ : Shape).Idx → EReal) (b : (⟨2, ![1, 128]⟩ : Shape).Idx → EReal) (q : ℕ) : EReal :=
  ∑ r : Fin 4096, dfl d f b r.val q

/-- The gradient of the bias is the sum of the blocks' parts, taken from the last block to the first. -/
theorem db_parts (d f : (⟨2, ![4096, 128]⟩ : Shape).Idx → EReal) (b : (⟨2, ![1, 128]⟩ : Shape).Idx → EReal) (q : ℕ) :
    ∑ s ∈ Finset.range 16, dbPart d f b (15 - s) q = db d f b q := by
  refine (Finset.sum_range_reflect (fun s => dbPart d f b s q) 16).trans ?_
  unfold db dbPart
  rw [Finset.sum_range]
  exact Fin.sum_mul_add_congr (f := fun r : Fin 4096 => dfl d f b r.val q) fun s a hl => by rw [Nat.mul_comm]

/-- The logarithm of a sum of one and an exponential of a real number. -/
theorem log_one_add_exp (r : ℝ) : Ideal.log (1 + Ideal.exp (r : EReal)) = ((Real.log (1 + Real.exp r) : ℝ) : EReal) := by
  have h : (0 : ℝ) < 1 + Real.exp r := by positivity
  rw [show (1 : EReal) + Ideal.exp (r : EReal) = ((1 + Real.exp r : ℝ) : EReal) from rfl]
  exact if_neg (not_le.mpr h)

/-- The same where the exponential is zero. -/
theorem log_one : Ideal.log (1 + Ideal.exp ⊥) = 0 := by
  rw [show (1 : EReal) + Ideal.exp ⊥ = ((1 : ℝ) : EReal) from by rw [show Ideal.exp ⊥ = 0 from rfl, add_zero]; rfl]
  refine (if_neg (by norm_num)).trans ?_
  rw [Real.log_one]; rfl

theorem logSig_bot : logSig ⊥ = ⊥ := by
  unfold logSig
  rw [EReal.neg_bot, max_eq_right (b := (⊤ : EReal)) bot_le, EReal.neg_top, log_one, min_eq_left bot_le, sub_zero]

theorem logSig_top : logSig ⊤ = 0 := by
  unfold logSig
  rw [EReal.neg_top, max_eq_left (a := (⊤ : EReal)) bot_le, EReal.neg_top, log_one, min_eq_right le_top, sub_zero]

theorem coe_max (a b : ℝ) : max (a : EReal) b = ((max a b : ℝ) : EReal) := (EReal.coe_strictMono.monotone.map_max).symm
theorem coe_min (a b : ℝ) : min (a : EReal) b = ((min a b : ℝ) : EReal) := (EReal.coe_strictMono.monotone.map_min).symm

theorem logSig_coe (r : ℝ) : logSig r = ((min r 0 - Real.log (1 + Real.exp (-max r (-r))) : ℝ) : EReal) := by
  unfold logSig
  rw [← EReal.coe_neg, coe_max, ← EReal.coe_neg, log_one_add_exp, ← EReal.coe_zero, coe_min, ← EReal.coe_sub]

/-- Minus the soft maximum of `-x` and zero is the logarithm of the sigmoid. -/
theorem neg_softplus (x : EReal) :
    -(max (-x) 0 + Ideal.log (1 + Ideal.exp (-max (-x) (- -x)))) = logSig x := by
  rw [neg_neg, max_comm (-x) x]
  induction x using EReal.rec with
  | bot =>
    rw [logSig_bot, EReal.neg_bot, max_eq_right (b := (⊤ : EReal)) bot_le, EReal.neg_top, log_one, add_zero,
      max_eq_left (a := (⊤ : EReal)) le_top, EReal.neg_top]
  | top =>
    rw [logSig_top, EReal.neg_top, max_eq_left (a := (⊤ : EReal)) bot_le, EReal.neg_top, log_one, max_eq_right bot_le,
      add_zero, neg_zero]
  | coe r =>
    have hr : max (-r) 0 = -min r 0 := by rw [← max_neg_neg, neg_zero]
    rw [logSig_coe, ← EReal.coe_neg, coe_max, ← EReal.coe_neg (max r (-r)), log_one_add_exp, ← EReal.coe_zero, coe_max,
      ← EReal.coe_add, ← EReal.coe_neg, hr, neg_add, neg_neg, sub_eq_add_neg]

/-- The word that stands for plus infinity. -/
theorem pos_inf : Ideal.ofBits .f32 2139095040#32 = ⊤ := by
  unfold Ideal.ofBits Ideal.ieee
  dsimp only
  rw [if_pos (by decide), if_pos (by decide), if_neg (by decide)]

/-- The exponential that the soft maximum's derivative takes is the sigmoid. -/
theorem exp_softplus (x : EReal) :
    Ideal.exp ((if -x = ⊤ then 0 else -x) - (if max (-x) 0 + Ideal.log (1 + Ideal.exp (-max (-x) (- -x))) = ⊤ then 0
      else max (-x) 0 + Ideal.log (1 + Ideal.exp (-max (-x) (- -x))))) = sigNeg x := by
  have hs : max (-x) 0 + Ideal.log (1 + Ideal.exp (-max (-x) (- -x))) = -logSig x := by
    rw [← neg_softplus x]; exact (neg_neg _).symm
  rw [hs]
  induction x using EReal.rec with
  | bot =>
    rw [EReal.neg_bot, if_pos rfl, logSig_bot, EReal.neg_bot, if_pos rfl, sub_zero]
    unfold sigNeg
    rw [show Ideal.exp ⊥ = 0 from rfl, add_zero, ← EReal.coe_one, ← EReal.coe_zero, Ideal.div_coe one_ne_zero]
    rw [EReal.coe_one, one_mul, div_one, EReal.coe_zero]
    exact congrArg ((↑) : ℝ → EReal) Real.exp_zero
  | top =>
    rw [EReal.neg_top, if_neg bot_ne_top, logSig_top, neg_zero, if_neg EReal.zero_ne_top, sub_zero]
    unfold sigNeg Ideal.div
    rw [show Ideal.exp ⊤ = ⊤ from rfl, ← EReal.coe_one, EReal.coe_add_top, if_neg EReal.top_ne_zero, EReal.inv_top, mul_zero]
    rfl
  | coe r =>
    have h1 : (0 : ℝ) < 1 + Real.exp r := by positivity
    have h2 : (0 : ℝ) < 1 + Real.exp (-r) := by positivity
    rw [logSig_coe, ← EReal.coe_neg, if_neg (EReal.coe_ne_top _), ← EReal.coe_neg, if_neg (EReal.coe_ne_top _),
      ← EReal.coe_sub]
    unfold sigNeg
    rw [show (1 : EReal) + Ideal.exp (r : EReal) = ((1 + Real.exp r : ℝ) : EReal) from rfl, Ideal.div_coe h1.ne', one_mul]
    refine congrArg ((↑) : ℝ → EReal) (?_ : Real.exp _ = _)
    have e : -(min r 0 - Real.log (1 + Real.exp (-max r (-r)))) = Real.log (1 + Real.exp (-r)) := by
      rcases le_total 0 r with h | h
      · rw [min_eq_right h, max_eq_left (by linarith)]; ring
      · rw [min_eq_left h, max_eq_right (by linarith), neg_neg]
        have : 1 + Real.exp (-r) = Real.exp (-r) * (1 + Real.exp r) := by
          rw [mul_add, ← Real.exp_add, neg_add_cancel, Real.exp_zero]; ring
        rw [this, Real.log_mul (Real.exp_pos _).ne' h1.ne', Real.log_exp]; ring
    rw [e, Real.exp_sub, Real.exp_log h2, div_eq_div_iff h2.ne' h1.ne', mul_add, ← Real.exp_add, neg_add_cancel, Real.exp_zero]
    ring

/-- The choice by the signed order of two small words is the choice by the order of the numbers. -/
theorem select_sle {α : Type} (a b : ℕ) (ha : a < 2 ^ 31) (hb : b < 2 ^ 31) (u v : α) :
    Scalar.select (IntOp.cmpi .sle (BitVec.ofNat 32 a) (BitVec.ofNat 32 b)) u v = if a ≤ b then u else v := by
  have e : ∀ n : ℕ, n < 2 ^ 31 → (BitVec.ofNat 32 n).toInt = n := fun n hn => by
    rw [BitVec.toInt_eq_toNat_of_lt (by rw [BitVec.toNat_ofNat]; omega), BitVec.toNat_ofNat, Nat.mod_eq_of_lt (by omega)]
  have h : (BitVec.ofNat 32 a).sle (BitVec.ofNat 32 b) = decide (a ≤ b) := by
    rw [BitVec.sle_eq_decide, e a ha, e b hb]
    simp
  by_cases hab : a ≤ b
  · simp [Scalar.select, IntOp.cmpi, h, hab]
  · simp [Scalar.select, IntOp.cmpi, h, hab]

/-- The same with the order turned round. -/
theorem select_sge {α : Type} (a b : ℕ) (ha : a < 2 ^ 31) (hb : b < 2 ^ 31) (u v : α) :
    Scalar.select (IntOp.cmpi .sge (BitVec.ofNat 32 a) (BitVec.ofNat 32 b)) u v = if b ≤ a then u else v :=
  select_sle b a hb ha u v

/-- The terms of a block up to the `a`th. -/
theorem sum_le (g : ℕ → EReal) {a : ℕ} (ha : a < 256) :
    ∑ x : Fin 256, (if x.val ≤ a then g x.val else 0) = ∑ s ∈ Finset.range (a + 1), g s := by
  rw [Fin.sum_univ_eq_sum_range (fun x => if x ≤ a then g x else 0) 256, show 256 = a + 1 + (255 - a) by omega,
    Finset.sum_range_add, Finset.sum_eq_zero (s := Finset.range (255 - a)) fun x _ => if_neg (by omega), add_zero]
  refine Finset.sum_congr rfl fun x hx => if_pos ?_
  have := Finset.mem_range.mp hx
  omega

/-- A block's part of the running sum, up to its `a`th row. -/
theorem part_run (f : (⟨2, ![4096, 128]⟩ : Shape).Idx → EReal) (b : (⟨2, ![1, 128]⟩ : Shape).Idx → EReal) (t q : ℕ)
    {a : ℕ} (ha : a < 256) :
    (∑ x : Fin 256, Scalar.select (IntOp.cmpi .sle (BitVec.ofNat 32 x.val) (BitVec.ofNat 32 a))
      (term f b (256 * t + x.val) q) 0) + run f b (256 * t) q = run f b (256 * t + a + 1) q := by
  rw [Finset.sum_congr rfl fun x _ => select_sle x.val a (by omega) (by omega) _ _,
    sum_le (fun s => term f b (256 * t + s) q) ha, add_comm, add_assoc]
  exact (Finset.sum_range_add _ _ _).symm

/-- The terms of a block from the `a`th on. -/
theorem sum_ge (g : ℕ → EReal) {a : ℕ} (ha : a < 256) :
    ∑ x : Fin 256, (if a ≤ x.val then g x.val else 0) = ∑ s ∈ Finset.range (256 - a), g (a + s) := by
  rw [Fin.sum_univ_eq_sum_range (fun x => if a ≤ x then g x else 0) 256]
  conv_lhs => rw [show 256 = a + (256 - a) by omega]
  rw [Finset.sum_range_add, Finset.sum_eq_zero (s := Finset.range a) fun x hx => if_neg ?_, zero_add]
  · exact Finset.sum_congr rfl fun x _ => if_pos (by omega)
  · have := Finset.mem_range.mp hx
    omega

/-- A block's part of the running sum from the end, from its `a`th row on. -/
theorem part_tail (d : (⟨2, ![4096, 128]⟩ : Shape).Idx → EReal) {t : ℕ} (ht : t < 16) (q : ℕ) {a : ℕ} (ha : a < 256) :
    (∑ x : Fin 256, Scalar.select (IntOp.cmpi .sge (BitVec.ofNat 32 x.val) (BitVec.ofNat 32 a))
      (rd d (256 * t + x.val) q) 0) + tail d (256 * t + 256) q = tail d (256 * t + a) q := by
  rw [Finset.sum_congr rfl fun x _ => select_sge x.val a (by omega) (by omega) _ _,
    sum_ge (fun s => rd d (256 * t + s) q) ha]
  unfold tail
  rw [show 4096 - (256 * t + a) = (256 - a) + (4096 - (256 * t + 256)) by omega, Finset.sum_range_add]
  refine congrArg₂ (· + ·) (Finset.sum_congr rfl fun s _ => ?_) (Finset.sum_congr rfl fun s _ => ?_)
  · rw [Nat.add_assoc]
  · exact congrArg (fun r => rd d r q) (by omega)

/-- Nothing comes after the last position. -/
theorem tail_end (d : (⟨2, ![4096, 128]⟩ : Shape).Idx → EReal) (q : ℕ) : tail d (256 * 15 + 256) q = 0 := Finset.sum_range_zero _

/-- A fold by addition is the sum. -/
theorem foldl_sum {ι : Type} (g : ι → EReal) : ∀ (l : List ι) (v : EReal), l.foldl (fun r n => r + g n) v = v + (l.map g).sum
  | [], v => by simp
  | n :: l, v => by rw [List.foldl_cons, foldl_sum g l, List.map_cons, List.sum_cons, add_assoc]

/-- A sum over a window of 4096 rows that begins `lo` rows before the row. -/
theorem window_sum (lo hi : ℕ) (x : (⟨2, ![4096, 128]⟩ : Shape).Idx → EReal)
    (h : (⟨2, ![4096, 128]⟩ : Shape).ReduceWindows ![4096, 1] ![1, 1] ![lo, 0] ![hi, 0] ⟨2, ![4096, 128]⟩)
    (r : Fin 4096) (q : Fin 128) :
    Ideal.hostReduceWindowAdd ![4096, 1] ![1, 1] ![lo, 0] ![hi, 0] h x 0 (ix2 r q)
      = ∑ s ∈ Finset.range 4096, if lo ≤ r.val + s then rd x (r.val + s - lo) q.val else 0 := by
  unfold Ideal.hostReduceWindowAdd Host.reduceWindow
  refine (foldl_sum _ _ _).trans ?_
  rw [zero_add, ← Fin.sum_univ_def]
  refine Eq.trans (Finset.sum_congr rfl fun n _ => ?_) ((Equiv.sum_comp (Shape.rowMajor ⟨2, ![4096, 1]⟩).symm
    fun w : (⟨2, ![4096, 1]⟩ : Shape).Idx =>
      if lo ≤ r.val + (w 0).val then rd x (r.val + (w 0).val - lo) q.val else 0).trans ?_)
  · have hq : ((Shape.rowMajor ⟨2, ![4096, 1]⟩).symm n 1).val < 1 := ((Shape.rowMajor ⟨2, ![4096, 1]⟩).symm n 1).isLt
    have hr := r.isLt
    have hc := q.isLt
    split_ifs with h1 h2 h2
    · have h3 : _ < 4096 := (h1 0).2
      have h4 : r.val * 1 + ((Shape.rowMajor ⟨2, ![4096, 1]⟩).symm n 0).val - lo < 4096 := h3
      unfold rd
      rw [dif_pos ⟨by omega, by omega⟩]
      refine congrArg x (funext (Fin.forall_fin_two.mpr ⟨Fin.ext ?_, Fin.ext ?_⟩))
      · change r.val * 1 + ((Shape.rowMajor ⟨2, ![4096, 1]⟩).symm n 0).val - lo = _
        rw [mul_one]; rfl
      · change q.val * 1 + ((Shape.rowMajor ⟨2, ![4096, 1]⟩).symm n 1).val - 0 = q.val
        omega
    · have h3 : lo ≤ r.val * 1 + ((Shape.rowMajor ⟨2, ![4096, 1]⟩).symm n 0).val := (h1 0).1
      exact absurd (by omega) h2
    · unfold rd
      rw [dif_neg fun h3 => h1 (Fin.forall_fin_two.mpr ⟨?_, ?_⟩)]
      · change lo ≤ r.val * 1 + ((Shape.rowMajor ⟨2, ![4096, 1]⟩).symm n 0).val ∧
          r.val * 1 + ((Shape.rowMajor ⟨2, ![4096, 1]⟩).symm n 0).val - lo < 4096
        omega
      · change 0 ≤ q.val * 1 + ((Shape.rowMajor ⟨2, ![4096, 1]⟩).symm n 1).val ∧
          q.val * 1 + ((Shape.rowMajor ⟨2, ![4096, 1]⟩).symm n 1).val - 0 < 128
        omega
    · rfl
  · rw [sum_idx2]
    simp only [Fin.sum_univ_one]
    exact Fin.sum_univ_eq_sum_range (fun s => if lo ≤ r.val + s then rd x (r.val + s - lo) q.val else 0) 4096

/-- The window that ends with the row: the running sum. -/
theorem window_up (g : ℕ → EReal) {r : ℕ} (hr : r < 4096) :
    (∑ s ∈ Finset.range 4096, if 4095 ≤ r + s then g (r + s - 4095) else 0) = ∑ s ∈ Finset.range (r + 1), g s := by
  rw [show 4096 = (4095 - r) + (r + 1) by omega, Finset.sum_range_add,
    Finset.sum_eq_zero (s := Finset.range (4095 - r)) fun x hx => if_neg ?_, zero_add]
  · refine Finset.sum_congr rfl fun x _ => ?_
    rw [if_pos (by omega)]
    exact congrArg g (by omega)
  · have := Finset.mem_range.mp hx
    omega

/-- The window that begins with the row: the sum of the rows from it on. -/
theorem window_down (g : ℕ → EReal) (hg : ∀ s, 4096 ≤ s → g s = 0) {r : ℕ} (hr : r < 4096) :
    (∑ s ∈ Finset.range 4096, if 0 ≤ r + s then g (r + s - 0) else 0) = ∑ s ∈ Finset.range (4096 - r), g (r + s) := by
  conv_lhs => rw [show 4096 = (4096 - r) + r by omega]
  rw [Finset.sum_range_add, Finset.sum_eq_zero (s := Finset.range r) fun s _ => ?_, add_zero]
  · exact Finset.sum_congr rfl fun s _ => if_pos (Nat.zero_le _)
  · rw [if_pos (Nat.zero_le _)]
    exact hg _ (by omega)

end Decay
end
-- ==== Proof.Decay.lean ====
module

public import proofs.«01_k».proof.Proof.Gen.FoxCum.Frame
public import proofs.«01_k».proof.Proof.Gen.FoxCumIdeal.Value
public import proofs.«01_k».proof.Proof.Gen.FoxCumRefIdeal
public import proofs.«01_k».proof.Proof.Gen.FoxCumRefIdeal.Run
public import proofs.«01_k».proof.Proof.Gen.FoxCumRefIdeal.Read
public import proofs.«01_k».proof.Proof.DecaySpec

/- The running sum of the log decays. -/

@[expose] public section

set_option maxRecDepth 16384

noncomputable section

namespace Cert.FoxCumIdeal.Value

open Cert.FoxCumIdeal Cert.FoxCumIdeal.Gen Idealize.ShloMosaic Idealize.ShloMosaic.TcCoe Idealize.SL.Sem
open Rows

variable (m : (ℓ : Loc nD τ sig) → Buf (Elt Ideal) ℓ)

/-- The linear form without its bias, as a plain array. -/
def argF (c : Dev nD) : S4096x128.Idx → EReal := m ((c : Thread nD τ).loc main_arg0)
/-- The bias. -/
def argB (c : Dev nD) : S1x128.Idx → EReal := m ((c : Thread nD τ).loc main_arg1)

/-- Where each window lies at a point of the grid. -/
theorem idx : ∀ t : Fin cfg0.N, win0_0.index t = ![t.val, 0] ∧ win0_1.index t = ![0, 0] ∧ win0_2.index t = ![t.val, 0] :=
  (by decide +kernel : ∀ t : Fin grid0.N, _)

/-- A block of the linear form. -/
theorem iblk0 (c : Dev nD) (t : Fin cfg0.N) (y : S256x128.Idx) :
    iblk m c 0 t y = rd (argF m c) (256 * t.val + (y 0).val) (y 1).val := by
  have ht : t.val < 16 := t.isLt
  idx_bounds y
  unfold rd; rw [dif_pos (by omega)]
  unfold argF
  blk_ext [iblk, V, idx t]

/-- The bias. -/
theorem iblk1 (c : Dev nD) (t : Fin cfg0.N) (y : S1x128.Idx) :
    iblk m c 1 t y = rd (argB m c) (0) (y 1).val := by
  idx_bounds y
  unfold rd; rw [dif_pos (by omega)]
  unfold argB
  blk_ext [iblk, V, idx t]

/-- The running sum within a block. The first point. -/
theorem cum_A (c : Dev nD) (t : Fin cfg0.N) (h0 : t.val % 16 = 0) (y : S256x128.Idx) :
    (outsAt0 m c t.val t.isLt).1 y = ∑ x : Fin 256, Scalar.select (IntOp.cmpi .sle (BitVec.ofNat 32 x.val) (BitVec.ofNat 32 (y 0).val))
      (Decay.term (argF m c) (argB m c) (256 * t.val + x.val) (y 1).val) 0 := by
  rw [outsAt0_A m c t h0]
  frame_out
  unfold_payloads
  pointwise
  simp only [iblk0, iblk1, zero_sub]
  rfl

/-- The running sum within a block. A later point. -/
theorem cum_B (c : Dev nD) (t : Fin cfg0.N) (h0 : ¬ t.val % 16 = 0) (y : S256x128.Idx) :
    (outsAt0 m c t.val t.isLt).1 y = (∑ x : Fin 256, Scalar.select (IntOp.cmpi .sle (BitVec.ofNat 32 x.val) (BitVec.ofNat 32 (y 0).val))
      (Decay.term (argF m c) (argB m c) (256 * t.val + x.val) (y 1).val) 0)
      + (outsAt0 m c (t.val - 1) (by omega)).2 (ix2 (0 : Fin 1) (⟨(y 1).val, (y 1).isLt⟩ : Fin 128)) := by
  rw [outsAt0_B m c t h0]
  frame_out
  unfold_payloads
  pointwise
  simp only [iblk0, iblk1, zero_sub]
  exact congrArg₂ (· + ·) rfl (congrFun (Memref.IsWhole.read_unread _ _) _)

/-- The carried row. The first point. -/
theorem car_A (c : Dev nD) (t : Fin cfg0.N) (h0 : t.val % 16 = 0) (y : S1x128.Idx) :
    (outsAt0 m c t.val t.isLt).2 y = ∑ x : Fin 256, Scalar.select (IntOp.cmpi .sle (BitVec.ofNat 32 x.val) (BitVec.ofNat 32 255))
      (Decay.term (argF m c) (argB m c) (256 * t.val + x.val) (y 1).val) 0 := by
  rw [outsAt0_A m c t h0]
  frame_out
  unfold_payloads
  pointwise
  simp only [iblk0, iblk1, zero_sub]
  rfl

/-- The carried row. A later point. -/
theorem car_B (c : Dev nD) (t : Fin cfg0.N) (h0 : ¬ t.val % 16 = 0) (y : S1x128.Idx) :
    (outsAt0 m c t.val t.isLt).2 y = (∑ x : Fin 256, Scalar.select (IntOp.cmpi .sle (BitVec.ofNat 32 x.val) (BitVec.ofNat 32 255))
      (Decay.term (argF m c) (argB m c) (256 * t.val + x.val) (y 1).val) 0)
      + (outsAt0 m c (t.val - 1) (by omega)).2 (ix2 (0 : Fin 1) (⟨(y 1).val, (y 1).isLt⟩ : Fin 128)) := by
  rw [outsAt0_B m c t h0]
  frame_out
  unfold_payloads
  pointwise
  simp only [iblk0, iblk1, zero_sub]
  exact congrArg₂ (· + ·) rfl (congrFun (Memref.IsWhole.read_unread _ _) _)

/-- The carried row after point `n`: the positions of the blocks so far. -/
theorem carry (c : Dev nD) : ∀ (n : ℕ) (h : n < cfg0.N) (y : S1x128.Idx),
    (outsAt0 m c n h).2 y = Decay.run (argF m c) (argB m c) (256 * n + 255 + 1) (y 1).val
  | 0, h, y => by
    refine (car_A m c ⟨0, h⟩ rfl y).trans ?_
    refine Eq.trans ?_ (Decay.part_run _ _ 0 _ (a := 255) (by omega))
    exact (add_zero _).symm
  | n + 1, h, y => by
    have h' : n + 1 < 16 := h
    refine (car_B m c ⟨n + 1, h⟩ (by show ¬ (n + 1) % 16 = 0; omega) y).trans ?_
    refine Eq.trans ?_ (Decay.part_run _ _ (n + 1) _ (a := 255) (by omega))
    exact congrArg₂ (· + ·) rfl (carry c n (by omega) _)

/-- The running sum at a point. -/
theorem cum_point (c : Dev nD) (t : Fin cfg0.N) (y : S256x128.Idx) :
    (outsAt0 m c t.val t.isLt).1 y = Decay.run (argF m c) (argB m c) (256 * t.val + (y 0).val + 1) (y 1).val := by
  have ht : t.val < 16 := t.isLt
  have hy : (y 0).val < 256 := (y 0).isLt
  by_cases h0 : t.val % 16 = 0
  · refine (cum_A m c t h0 y).trans ?_
    rw [← Decay.part_run _ _ t.val _ hy, show t.val = 0 by omega]
    exact (add_zero _).symm
  · refine (cum_B m c t h0 y).trans ?_
    rw [← Decay.part_run _ _ t.val _ hy, carry m c (t.val - 1) (by omega)]
    rw [show 256 * (t.val - 1) + 255 + 1 = 256 * t.val by omega]
    rfl

/-- The array of the running sums after the run. -/
theorem cum2 (c : Dev nD) : (dats m 0 c).arrAt 2 cfg0.N
    = fun i : S4096x128.Idx => Decay.run (argF m c) (argB m c) ((i 0).val + 1) (i 1).val := by
  refine (dats m 0 c).arrAt_eq_of_covers 2 _ (by decide +kernel) fun t hf y => ?_
  obtain ⟨-, -, h2⟩ := idx t
  blk_simp [h2]
  rw [after0_2]
  refine (cum_point m c t y).trans ?_
  rw [Nat.mul_comm 256]

end Cert.FoxCumIdeal.Value

namespace Cert.FoxCumRefIdeal.Read

open Cert.FoxCumRefIdeal Cert.FoxCumRefIdeal.Gen Idealize.ShloMosaic Idealize.ShloMosaic.TcCoe Idealize.SL.Sem Idealize.ShloMosaic.StableHlo
open Rows

/-- The reference's log decay. -/
theorem term_ref (x0 : FVec Ideal S4096x128 .f32) (x1 : FVec Ideal S1x128 .f32) (r : Fin 4096) (q : Fin 128) :
    val_main_v2 (F := Ideal) x0 x1 (ix2 r q) = Decay.term x0 x1 r q := by
  pointwise [
    val_main_v0, val_main_v1, val_main_call0_v0, val_main_call0_call0_cst, val_main_call0_call0_v0,
    val_main_call0_call0_v1, val_main_call0_call0_v2, val_main_call0_call0_v3, val_main_call0_call0_v4,
    val_main_call0_call0_v5, val_main_call0_call0_v6, val_main_call0_call0_v7, val_main_call0_call0_v8,
    val_main_call0_call0_v9, val_main_call0_call0_v10, val_main_call0_call0_v11, val_main_call0_v1, val_main_v2,
    val_main_call1_call0_cst, val_main_call1_call0_v0]
  simp only [rd_ix2 x0, rd_ix2 x1, Fin.isValue, Fin.val_zero]
  rw [if_neg (fun h => h rfl)]
  exact Decay.neg_softplus _

/-- The reference's running sum. -/
theorem out_ref (x0 : FVec Ideal S4096x128 .f32) (x1 : FVec Ideal S1x128 .f32) (r : Fin 4096) (q : Fin 128) :
    val_main_v3 (F := Ideal) x0 x1 (ix2 r q) = Decay.run x0 x1 (r.val + 1) q.val := by
  unfold val_main_v3 Host.reduceWindowAdd
  rw [Ideal.hostReduceWindowAdd_def]
  have h0 : val_main_call1_call0_v0 (F := Ideal) (Shape.Idx.first h_S_) = 0 := by
    pointwise [val_main_call1_call0_v0, val_main_call1_call0_cst]
  rw [h0]
  refine (Decay.window_sum 4095 0 _ _ r q).trans ?_
  rw [Decay.window_up (fun s => rd (val_main_v2 (F := Ideal) x0 x1) s q.val) r.isLt]
  refine Finset.sum_congr rfl fun s hs => ?_
  have hs' : s < 4096 := by have := Finset.mem_range.mp hs; omega
  exact (rd_ix2 (val_main_v2 (F := Ideal) x0 x1) ⟨s, hs'⟩ q).symm.trans (term_ref x0 x1 ⟨s, hs'⟩ q)

end Cert.FoxCumRefIdeal.Read

end
-- ==== Proof.DecayBwd.lean ====
module

public import proofs.«01_k».proof.Proof.Gen.FoxCumBwd.Frame
public import proofs.«01_k».proof.Proof.Gen.FoxCumBwdIdeal.Value
public import proofs.«01_k».proof.Proof.Gen.FoxCumBwdRefIdeal
public import proofs.«01_k».proof.Proof.Gen.FoxCumBwdRefIdeal.Run
public import proofs.«01_k».proof.Proof.Gen.FoxCumBwdRefIdeal.Read
public import proofs.«01_k».proof.Proof.DecaySpec

/- The gradient of the running sum of the log decays. -/

@[expose] public section

set_option maxRecDepth 16384

noncomputable section

namespace Cert.FoxCumBwdIdeal.Value

open Cert.FoxCumBwdIdeal Cert.FoxCumBwdIdeal.Gen Idealize.ShloMosaic Idealize.ShloMosaic.TcCoe Idealize.SL.Sem
open Rows

variable (m : (ℓ : Loc nD τ sig) → Buf (Elt Ideal) ℓ)

/-- The gradient of the running sums, as a plain array. -/
def argC (c : Dev nD) : S4096x128.Idx → EReal := m ((c : Thread nD τ).loc main_arg0)
/-- The linear form without its bias. -/
def argF (c : Dev nD) : S4096x128.Idx → EReal := m ((c : Thread nD τ).loc main_arg1)
/-- The bias. -/
def argB (c : Dev nD) : S1x128.Idx → EReal := m ((c : Thread nD τ).loc main_arg2)

/-- Where each window lies at a point of the grid: the blocks are taken from the last to the first. -/
theorem idx : ∀ t : Fin cfg0.N, win0_0.index t = ![15 - t.val, 0] ∧ win0_1.index t = ![15 - t.val, 0]
    ∧ win0_2.index t = ![0, 0] ∧ win0_3.index t = ![15 - t.val, 0] ∧ win0_4.index t = ![0, 0] :=
  (by decide +kernel : ∀ t : Fin grid0.N, _)

/-- A block of the gradient. -/
theorem iblk0 (c : Dev nD) (t : Fin cfg0.N) (y : S256x128.Idx) :
    iblk m c 0 t y = rd (argC m c) (256 * (15 - t.val) + (y 0).val) (y 1).val := by
  have ht : t.val < 16 := t.isLt
  idx_bounds y
  unfold rd; rw [dif_pos (by omega)]
  unfold argC
  blk_ext [iblk, V, idx t]

/-- A block of the linear form. -/
theorem iblk1 (c : Dev nD) (t : Fin cfg0.N) (y : S256x128.Idx) :
    iblk m c 1 t y = rd (argF m c) (256 * (15 - t.val) + (y 0).val) (y 1).val := by
  have ht : t.val < 16 := t.isLt
  idx_bounds y
  unfold rd; rw [dif_pos (by omega)]
  unfold argF
  blk_ext [iblk, V, idx t]

/-- The bias. -/
theorem iblk2 (c : Dev nD) (t : Fin cfg0.N) (y : S1x128.Idx) :
    iblk m c 2 t y = rd (argB m c) (0) (y 1).val := by
  idx_bounds y
  unfold rd; rw [dif_pos (by omega)]
  unfold argB
  blk_ext [iblk, V, idx t]

/-- The carried row. The first point. -/
theorem car_A (c : Dev nD) (t : Fin cfg0.N) (h0 : t.val % 16 = 0) (y : S1x128.Idx) :
    (outsAt0 m c t.val t.isLt).2.2 y = ∑ x : Fin 256, Scalar.select (IntOp.cmpi .sge (BitVec.ofNat 32 x.val) (BitVec.ofNat 32 0))
      (rd (argC m c) (256 * (15 - t.val) + x.val) (y 1).val) 0 := by
  rw [outsAt0_A m c t h0]
  frame_out
  unfold_payloads
  pointwise
  simp only [iblk0, iblk1, iblk2, zero_sub, neg_neg]
  rfl

/-- The carried row. A later point. -/
theorem car_B (c : Dev nD) (t : Fin cfg0.N) (h0 : ¬ t.val % 16 = 0) (y : S1x128.Idx) :
    (outsAt0 m c t.val t.isLt).2.2 y = (∑ x : Fin 256, Scalar.select (IntOp.cmpi .sge (BitVec.ofNat 32 x.val) (BitVec.ofNat 32 0))
      (rd (argC m c) (256 * (15 - t.val) + x.val) (y 1).val) 0)
      + (outsAt0 m c (t.val - 1) (by omega)).2.2 (ix2 (0 : Fin 1) (⟨(y 1).val, (y 1).isLt⟩ : Fin 128)) := by
  rw [outsAt0_B m c t h0]
  frame_out
  unfold_payloads
  pointwise
  simp only [iblk0, iblk1, iblk2, zero_sub, neg_neg]
  exact congrArg₂ (· + ·) rfl (congrFun (Memref.IsWhole.read_unread _ _) _)

/-- The carried row after point `n`: the positions of the blocks so far. -/
theorem carry (c : Dev nD) : ∀ (n : ℕ) (h : n < cfg0.N) (y : S1x128.Idx),
    (outsAt0 m c n h).2.2 y = Decay.tail (argC m c) (256 * (15 - n)) (y 1).val
  | 0, h, y => by
    refine (car_A m c ⟨0, h⟩ rfl y).trans ?_
    refine Eq.trans ?_ (Decay.part_tail _ (t := 15) (by omega) _ (a := 0) (by omega))
    rw [Decay.tail_end]
    exact (add_zero _).symm
  | n + 1, h, y => by
    have h' : n + 1 < 16 := h
    refine (car_B m c ⟨n + 1, h⟩ (by show ¬ (n + 1) % 16 = 0; omega) y).trans ?_
    refine Eq.trans ?_ (Decay.part_tail _ (t := 15 - (n + 1)) (by omega) _ (a := 0) (by omega))
    refine congrArg₂ (· + ·) rfl ((carry c n (by omega) _).trans ?_)
    rw [show 256 * (15 - (n + 1)) + 256 = 256 * (15 - n) by omega]
    rfl

/-- A block's part and what is carried into a later point are the running sum from the end. -/
theorem tail_B (c : Dev nD) (t : Fin cfg0.N) (h0 : ¬ t.val % 16 = 0) {a : ℕ} (ha : a < 256) (q : Fin 128) :
    (∑ x : Fin 256, Scalar.select (IntOp.cmpi .sge (BitVec.ofNat 32 x.val) (BitVec.ofNat 32 a))
      (rd (argC m c) (256 * (15 - t.val) + x.val) q.val) 0) + (outsAt0 m c (t.val - 1) (by omega)).2.2 (ix2 (0 : Fin 1) q)
      = Decay.tail (argC m c) (256 * (15 - t.val) + a) q.val := by
  have ht : t.val < 16 := t.isLt
  refine Eq.trans ?_ (Decay.part_tail _ (t := 15 - t.val) (by omega) _ (a := a) ha)
  refine congrArg₂ (· + ·) rfl ((carry m c (t.val - 1) (by omega) _).trans ?_)
  rw [show 256 * (15 - (t.val - 1)) = 256 * (15 - t.val) + 256 by omega]
  rfl

/-- At the first point nothing is carried. -/
theorem tail_A (c : Dev nD) (t : Fin cfg0.N) (h0 : t.val % 16 = 0) {a : ℕ} (ha : a < 256) (q : ℕ) :
    (∑ x : Fin 256, Scalar.select (IntOp.cmpi .sge (BitVec.ofNat 32 x.val) (BitVec.ofNat 32 a))
      (rd (argC m c) (256 * (15 - t.val) + x.val) q) 0) = Decay.tail (argC m c) (256 * (15 - t.val) + a) q := by
  have ht : t.val < 16 := t.isLt
  rw [show t.val = 0 by omega]
  refine Eq.trans ?_ (Decay.part_tail _ (t := 15) (by omega) _ (a := a) ha)
  rw [Decay.tail_end]
  exact (add_zero _).symm

/-- The gradient of the linear form in a block. The first point. -/
theorem dfl_A (c : Dev nD) (t : Fin cfg0.N) (h0 : t.val % 16 = 0) (y : S256x128.Idx) :
    (outsAt0 m c t.val t.isLt).1 y = Decay.dfl (argC m c) (argF m c) (argB m c) (256 * (15 - t.val) + (y 0).val) (y 1).val := by
  rw [outsAt0_A m c t h0]
  frame_out
  unfold_payloads
  pointwise
  simp only [iblk0, iblk1, iblk2, zero_sub, neg_neg]
  exact congrArg₂ (· * ·) (tail_A m c t h0 (y 0).isLt (y 1).val) rfl

/-- The gradient of the linear form in a block. A later point. -/
theorem dfl_B (c : Dev nD) (t : Fin cfg0.N) (h0 : ¬ t.val % 16 = 0) (y : S256x128.Idx) :
    (outsAt0 m c t.val t.isLt).1 y = Decay.dfl (argC m c) (argF m c) (argB m c) (256 * (15 - t.val) + (y 0).val) (y 1).val := by
  rw [outsAt0_B m c t h0]
  frame_out
  unfold_payloads
  pointwise
  simp only [iblk0, iblk1, iblk2, zero_sub, neg_neg]
  refine congrArg₂ (· * ·) ((congrArg₂ (· + ·) rfl (congrFun (Memref.IsWhole.read_unread _ _) _) :
    _ = _ + (outsAt0 m c (t.val - 1) (by omega)).2.2 (ix2 (0 : Fin 1) (⟨(y 1).val, (y 1).isLt⟩ : Fin 128))).trans
    (tail_B m c t h0 (y 0).isLt ⟨(y 1).val, (y 1).isLt⟩)) rfl

/-- The bias's gradient. The first point. -/
theorem db_A (c : Dev nD) (t : Fin cfg0.N) (h0 : t.val % 16 = 0) (y : S1x128.Idx) :
    (outsAt0 m c t.val t.isLt).2.1 y = Decay.dbPart (argC m c) (argF m c) (argB m c) (15 - t.val) (y 1).val := by
  rw [outsAt0_A m c t h0]
  frame_out
  unfold_payloads
  pointwise
  simp only [iblk0, iblk1, iblk2, zero_sub, neg_neg]
  exact Finset.sum_congr rfl fun a _ => congrArg₂ (· * ·) (tail_A m c t h0 a.isLt (y 1).val) rfl

/-- The bias's gradient. A later point. -/
theorem db_B (c : Dev nD) (t : Fin cfg0.N) (h0 : ¬ t.val % 16 = 0) (y : S1x128.Idx) :
    (outsAt0 m c t.val t.isLt).2.1 y = (outsAt0 m c (t.val - 1) (by omega)).2.1 y
      + Decay.dbPart (argC m c) (argF m c) (argB m c) (15 - t.val) (y 1).val := by
  rw [outsAt0_B m c t h0]
  frame_out
  unfold_payloads
  pointwise
  simp only [iblk0, iblk1, iblk2, zero_sub, neg_neg]
  refine congrArg₂ (· + ·) rfl (Finset.sum_congr rfl fun a _ => congrArg₂ (· * ·) ((congrArg₂ (· + ·) rfl (congrFun (Memref.IsWhole.read_unread _ _) _) :
    _ = _ + (outsAt0 m c (t.val - 1) (by omega)).2.2 (ix2 (0 : Fin 1) (⟨(y 1).val, (y 1).isLt⟩ : Fin 128))).trans
    (tail_B m c t h0 a.isLt ⟨(y 1).val, (y 1).isLt⟩)) rfl)

/-- The array of the linear form's gradient after the run. -/
theorem dfl3 (c : Dev nD) : (dats m 0 c).arrAt 3 cfg0.N
    = fun i : S4096x128.Idx => Decay.dfl (argC m c) (argF m c) (argB m c) (i 0).val (i 1).val := by
  refine (dats m 0 c).arrAt_eq_of_covers 3 _ (by decide +kernel) fun t hf y => ?_
  obtain ⟨-, -, -, h3, -⟩ := idx t
  blk_simp [h3]
  rw [after0_3]
  by_cases h0 : t.val % 16 = 0
  · refine (dfl_A m c t h0 y).trans ?_
    rw [Nat.mul_comm 256]
  · refine (dfl_B m c t h0 y).trans ?_
    rw [Nat.mul_comm 256]

/-- The row of the bias's gradient after point `n`. -/
theorem db_sum (c : Dev nD) (y : S1x128.Idx) : ∀ (n : ℕ) (h : n < cfg0.N), (outsAt0 m c n h).2.1 y
    = ∑ s ∈ Finset.range (n + 1), Decay.dbPart (argC m c) (argF m c) (argB m c) (15 - s) (y 1).val
  | 0, h => by
    rw [Finset.sum_range_one]
    exact db_A m c ⟨0, h⟩ rfl y
  | n + 1, h => by
    have h' : n + 1 < 16 := h
    rw [Finset.sum_range_succ, ← db_sum c y n (by omega)]
    exact db_B m c ⟨n + 1, h⟩ (by show ¬ (n + 1) % 16 = 0; omega) y

/-- The array of the bias's gradient after the run. -/
theorem db4 (c : Dev nD) : (dats m 0 c).arrAt 4 cfg0.N
    = fun i : S1x128.Idx => Decay.db (argC m c) (argF m c) (argB m c) (i 1).val := by
  refine (dats m 0 c).arrAt_eq_of_covers 4 _ (by decide +kernel) fun t hf y => ?_
  obtain ⟨-, -, -, -, h4⟩ := idx t
  have ht : t.val % 16 = 15 := (flush0_4 t).mp hf
  have ht' : t.val < 16 := t.isLt
  blk_simp [h4]
  rw [after0_4]
  refine (db_sum m c y t.val t.isLt).trans ?_
  rw [show t.val + 1 = 16 by omega]
  exact Decay.db_parts _ _ _ _

end Cert.FoxCumBwdIdeal.Value

namespace Cert.FoxCumBwdRefIdeal.Read

open Cert.FoxCumBwdRefIdeal Cert.FoxCumBwdRefIdeal.Gen Idealize.ShloMosaic Idealize.ShloMosaic.TcCoe Idealize.SL.Sem Idealize.ShloMosaic.StableHlo
open Rows

/-- The reference's running sum from the end. -/
theorem tail_ref (x0 : FVec Ideal S4096x128 .f32) (r : Fin 4096) (q : Fin 128) :
    val_main_v4 (F := Ideal) x0 (ix2 r q) = Decay.tail x0 r.val q.val := by
  unfold val_main_v4 Host.reduceWindowAdd
  rw [Ideal.hostReduceWindowAdd_def]
  have h0 : val_main_call2_call0_v0 (F := Ideal) (Shape.Idx.first h_S_) = 0 := by
    pointwise [val_main_call2_call0_v0, val_main_call2_call0_cst]
  rw [h0]
  refine (Decay.window_sum 0 4095 _ _ r q).trans ?_
  exact Decay.window_down (fun s => rd x0 s q.val) (fun s hs => rd_of_le x0 hs _) r.isLt

/-- The reference's product of the running sum and the sigmoid. -/
theorem prod_ref (x0 x1 : FVec Ideal S4096x128 .f32) (x2 : FVec Ideal S1x128 .f32) (r : Fin 4096) (q : Fin 128) :
    val_main_v5 (F := Ideal) x0 x1 x2 (ix2 r q) = Decay.dfl x0 x1 x2 r.val q.val := by
  pointwise [
    val_main_v0, val_main_v1, val_main_call0_v0, val_main_call0_call0_cst, val_main_call0_call0_v0,
    val_main_call0_call0_v1, val_main_call0_call0_v2, val_main_call0_call0_v3, val_main_call0_call0_v4,
    val_main_call0_call0_v5, val_main_call0_call0_v6, val_main_call0_call0_v7, val_main_call0_call0_v8,
    val_main_call0_call0_v9, val_main_call0_call0_v10, val_main_call0_call0_v11, val_main_call0_v1_0,
    val_main_call0_call0_cst_0, val_main_call0_call0_v13, val_main_call0_call0_v14, val_main_call0_call0_cst_1,
    val_main_call0_call0_v15, val_main_call0_call0_v16, val_main_call0_call0_cst_2, val_main_call0_call0_v17,
    val_main_call0_call0_v18, val_main_call0_call0_cst_3, val_main_call0_call0_v19, val_main_call0_call0_v20,
    val_main_call0_call0_v21, val_main_v2_1, val_main_call0_call0_cst_4, val_main_call0_call0_cst_5,
    val_main_call0_call0_v23, val_main_call0_call0_cst_6, val_main_call0_call0_cst_7, val_main_call0_call0_v24,
    val_main_call0_call0_cst_8, val_main_call0_call0_v25, val_main_call0_call0_v26, val_main_call0_call0_cst_9,
    val_main_call0_call0_v27, val_main_call0_call0_v28, val_main_call0_call0_v29, val_main_call0_call0_v30,
    val_main_call0_call0_v31, val_main_call0_call0_cst_10, val_main_call0_call0_v32, val_main_v2_2,
    val_main_v2_0, val_main_call1_call0_cst, val_main_call1_call0_v0, val_main_call2_call0_cst,
    val_main_call2_call0_v0, val_main_call3_v0, val_main_call3_v1, val_main_cst, val_main_v5]
  simp only [rd_ix2 x1, rd_ix2 x2, Fin.isValue, Fin.val_zero]
  rw [tail_ref, Decay.pos_inf, if_neg (not_not.mpr rfl : ¬ (-(rd x1 r.val q.val + rd x2 0 q.val) ≠ _))]
  refine Eq.trans ?_ (neg_neg _)
  refine congrArg Neg.neg ?_
  rw [neg_mul]
  exact congrArg Neg.neg (congrArg₂ (· * ·) rfl (Decay.exp_softplus _))

/-- The reference's gradient of the linear form. -/
theorem dfl_ref (x0 x1 : FVec Ideal S4096x128 .f32) (x2 : FVec Ideal S1x128 .f32) (r : Fin 4096) (q : Fin 128) :
    val_main_v8 (F := Ideal) x0 x1 x2 (ix2 r q) = Decay.dfl x0 x1 x2 r.val q.val := by
  pointwise [val_main_v8]
  exact prod_ref x0 x1 x2 r q

/-- The reference's gradient of the bias. -/
theorem db_ref (x0 x1 : FVec Ideal S4096x128 .f32) (x2 : FVec Ideal S1x128 .f32) (q : Fin 128) :
    val_main_v7 (F := Ideal) x0 x1 x2 (ix2 0 q) = Decay.db x0 x1 x2 q.val := by
  pointwise [val_main_v7, val_main_v6, val_main_cst]
  exact Finset.sum_congr rfl fun r _ => prod_ref x0 x1 x2 r q

end Cert.FoxCumBwdRefIdeal.Read

end
-- ==== Proof.FurtherClaims.lean ====
module

public import proofs.«01_k».proof.Defs
public import proofs.«01_k».proof.Proof.Norm
public import proofs.«01_k».proof.Proof.NormPost
public import proofs.«01_k».proof.Proof.Further
public import proofs.«01_k».proof.Proof.Conv
public import proofs.«01_k».proof.Proof.Act
public import proofs.«01_k».proof.Proof.Decay
public import proofs.«01_k».proof.Proof.DecayBwd
public import Idealize.ShloMosaic.Adequacy
public import Idealize.ShloMosaic.Init

/- The claims about the norms, the convolutions, the gate and the log decays, from the value lemmas of the
   modules above: the arrays that the kernel leaves and those of the reference are the same plain formula. -/

@[expose] public section

noncomputable section

namespace Cert.Proof

open Idealize.ShloMosaic Idealize.ShloMosaic.TcCoe Idealize.SL.Sem

/-- The reference ends, leaves its arguments as they were and every counter at zero. -/
theorem normPre_reference : Cert.quiescent_NormPreRefIdeal (hNormPreRefIdeal := Cert.NormPreRefIdeal.Gen.facts) := fun m g _ =>
  (θ_run _ _ _).mono (fun r h => ⟨fun c => (h c).2.2, sem_eq_zero_of_no_sems (by decide) r.2⟩)
    (Cert.NormPreRefIdeal.Value.run m g)

/-- The gradient of the norm before a layer. -/
theorem normPre : Cert.algebraic_NormPreIdeal_NormPreRefIdeal
    (hNormPreIdeal := Cert.NormPreIdeal.Gen.facts) (hNormPreRefIdeal := Cert.NormPreRefIdeal.Gen.facts) := by
  intro m g m' g' _ hag
  refine ⟨fun c => fun i => Norm.dx (Cert.NormPreIdeal.Value.argX m c) (Cert.NormPreIdeal.Value.argG m c) (Cert.NormPreIdeal.Value.argD m c) (i 0).val ⟨(i 1).val, (i 1).isLt⟩
      + Rows.rd (Cert.NormPreIdeal.Value.argR m c) (i 0).val (i 1).val,
    fun c => fun i => Norm.dg (Cert.NormPreIdeal.Value.argX m c) (Cert.NormPreIdeal.Value.argD m c) (i 1).val,
    (θ_run _ _ _).mono (fun r h c => ?_) (Cert.NormPreIdeal.Value.run_blocks m g),
    (θ_run _ _ _).mono (fun r h c => ?_) (Cert.NormPreRefIdeal.Value.run m' g')⟩
  · obtain ⟨h0, h1, hk⟩ := h c
    exact ⟨h0.trans (Cert.NormPreIdeal.Value.final4 m c), h1.trans (Cert.NormPreIdeal.Value.final5 m c), hk⟩
  · obtain ⟨h0, h1, hk⟩ := h c
    obtain ⟨a0, a1, a2, a3⟩ := hag c
    refine ⟨(h0.trans (Cert.NormPreRefIdeal.Read.val_main_v35_eq _ _ _ _)).trans (funext fun i => ?_),
      (h1.trans (Cert.NormPreRefIdeal.Read.val_main_v18_eq _ _)).trans (funext fun i => ?_), hk⟩
    · obtain ⟨a, b, rfl⟩ := Rows.exists_ix2 (a := 4096) (b := 2048) i
      rw [a0, a1, a2, a3]
      exact Cert.NormPreRefIdeal.Read.dx_ref _ _ _ _ a b
    · obtain ⟨a, b, rfl⟩ := Rows.exists_ix2 (a := 1) (b := 2048) i
      rw [a0, a2]
      exact Cert.NormPreRefIdeal.Read.dg_ref _ _ a b

/-- The reference ends, leaves its arguments as they were and every counter at zero. -/
theorem normPost_reference : Cert.quiescent_NormPostRefIdeal (hNormPostRefIdeal := Cert.NormPostRefIdeal.Gen.facts) := fun m g _ =>
  (θ_run _ _ _).mono (fun r h => ⟨fun c => (h c).2.2, sem_eq_zero_of_no_sems (by decide) r.2⟩)
    (Cert.NormPostRefIdeal.Value.run m g)

/-- The gradient of the norm after a layer. -/
theorem normPost : Cert.algebraic_NormPostIdeal_NormPostRefIdeal
    (hNormPostIdeal := Cert.NormPostIdeal.Gen.facts) (hNormPostRefIdeal := Cert.NormPostRefIdeal.Gen.facts) := by
  intro m g m' g' _ hag
  refine ⟨fun c => fun i => Norm.dx (Cert.NormPostIdeal.Value.argX m c) (Cert.NormPostIdeal.Value.argG m c) (Cert.NormPostIdeal.Value.argD m c) (i 0).val ⟨(i 1).val, (i 1).isLt⟩,
    fun c => fun i => Norm.dg (Cert.NormPostIdeal.Value.argX m c) (Cert.NormPostIdeal.Value.argD m c) (i 1).val,
    (θ_run _ _ _).mono (fun r h c => ?_) (Cert.NormPostIdeal.Value.run_blocks m g),
    (θ_run _ _ _).mono (fun r h c => ?_) (Cert.NormPostRefIdeal.Value.run m' g')⟩
  · obtain ⟨h0, h1, hk⟩ := h c
    exact ⟨h0.trans (Cert.NormPostIdeal.Value.final3 m c), h1.trans (Cert.NormPostIdeal.Value.final4 m c), hk⟩
  · obtain ⟨h0, h1, hk⟩ := h c
    obtain ⟨a0, a1, a2⟩ := hag c
    refine ⟨(h0.trans (Cert.NormPostRefIdeal.Read.val_main_v34_eq _ _ _)).trans (funext fun i => ?_),
      (h1.trans (Cert.NormPostRefIdeal.Read.val_main_v17_eq _ _)).trans (funext fun i => ?_), hk⟩
    · obtain ⟨a, b, rfl⟩ := Rows.exists_ix2 (a := 4096) (b := 2048) i
      rw [a0, a1, a2]
      exact Cert.NormPostRefIdeal.Read.dx_ref _ _ _ a b
    · obtain ⟨a, b, rfl⟩ := Rows.exists_ix2 (a := 1) (b := 2048) i
      rw [a0, a2]
      exact Cert.NormPostRefIdeal.Read.dg_ref _ _ a b

/-- The reference ends, leaves its arguments as they were and every counter at zero. -/
theorem norm_reference : Cert.quiescent_NormRefIdeal (hNormRefIdeal := Cert.NormRefIdeal.Gen.facts) := fun m g _ =>
  (θ_run _ _ _).mono (fun r h => ⟨fun c => (h c).2, sem_eq_zero_of_no_sems (by decide) r.2⟩)
    (Cert.NormRefIdeal.Value.run m g)

/-- The norm. -/
theorem norm : Cert.algebraic_NormIdeal_NormRefIdeal
    (hNormIdeal := Cert.NormIdeal.Gen.facts) (hNormRefIdeal := Cert.NormRefIdeal.Gen.facts) := by
  intro m g m' g' _ hag
  refine ⟨fun c => fun i => Norm.out (Rows.rd (Cert.NormIdeal.Value.argX m c)) (Cert.NormIdeal.Value.argG m c) (i 0).val (i 1).val,
    (θ_run _ _ _).mono (fun r h c => ?_) (Cert.NormIdeal.Value.run_blocks m g),
    (θ_run _ _ _).mono (fun r h c => ?_) (Cert.NormRefIdeal.Value.run m' g')⟩
  · obtain ⟨h0, hk⟩ := h c
    exact ⟨h0.trans (Cert.NormIdeal.Value.final2 m c), hk⟩
  · obtain ⟨h0, hk⟩ := h c
    obtain ⟨a0, a1⟩ := hag c
    refine ⟨(h0.trans (Cert.NormRefIdeal.Read.val_main_v12_eq _ _)).trans (funext fun i => ?_), hk⟩
    obtain ⟨a, b, rfl⟩ := Rows.exists_ix2 (a := 4096) (b := 2048) i
    rw [a0, a1]
    exact Cert.NormRefIdeal.Read.out_ref _ _ a b

/-- The reference ends, leaves its arguments as they were and every counter at zero. -/
theorem residNorm_reference : Cert.quiescent_ResidNormRefIdeal (hResidNormRefIdeal := Cert.ResidNormRefIdeal.Gen.facts) := fun m g _ =>
  (θ_run _ _ _).mono (fun r h => ⟨fun c => (h c).2.2, sem_eq_zero_of_no_sems (by decide) r.2⟩)
    (Cert.ResidNormRefIdeal.Value.run m g)

/-- The residual stream and its norm. -/
theorem residNorm : Cert.algebraic_ResidNormIdeal_ResidNormRefIdeal
    (hResidNormIdeal := Cert.ResidNormIdeal.Gen.facts) (hResidNormRefIdeal := Cert.ResidNormRefIdeal.Gen.facts) := by
  intro m g m' g' _ hag
  refine ⟨fun c => fun i => Norm.resid (Cert.ResidNormIdeal.Value.argX m c) (Cert.ResidNormIdeal.Value.argY m c) (Cert.ResidNormIdeal.Value.argG m c) (i 0).val (i 1).val,
    fun c => fun i => Norm.out (Norm.resid (Cert.ResidNormIdeal.Value.argX m c) (Cert.ResidNormIdeal.Value.argY m c) (Cert.ResidNormIdeal.Value.argG m c))
      (Cert.ResidNormIdeal.Value.argN m c) (i 0).val (i 1).val,
    (θ_run _ _ _).mono (fun r h c => ?_) (Cert.ResidNormIdeal.Value.run_blocks m g),
    (θ_run _ _ _).mono (fun r h c => ?_) (Cert.ResidNormRefIdeal.Value.run m' g')⟩
  · obtain ⟨h0, h1, hk⟩ := h c
    exact ⟨h0.trans (Cert.ResidNormIdeal.Value.final4 m c), h1.trans (Cert.ResidNormIdeal.Value.final5 m c), hk⟩
  · obtain ⟨h0, h1, hk⟩ := h c
    obtain ⟨a0, a1, a2, a3⟩ := hag c
    refine ⟨(h0.trans (Cert.ResidNormRefIdeal.Read.val_main_v12_eq _ _ _)).trans (funext fun i => ?_),
      (h1.trans (Cert.ResidNormRefIdeal.Read.val_main_v25_eq _ _ _ _)).trans (funext fun i => ?_), hk⟩
    · obtain ⟨a, b, rfl⟩ := Rows.exists_ix2 (a := 4096) (b := 2048) i
      rw [a0, a1, a2]
      exact Cert.ResidNormRefIdeal.Read.resid_ref _ _ _ a b
    · obtain ⟨a, b, rfl⟩ := Rows.exists_ix2 (a := 4096) (b := 2048) i
      rw [a0, a1, a2, a3]
      exact Cert.ResidNormRefIdeal.Read.next_ref _ _ _ _ a b

/-- The reference ends, leaves its arguments as they were and every counter at zero. -/
theorem residLoss_reference : Cert.quiescent_ResidLossRefIdeal (hResidLossRefIdeal := Cert.ResidLossRefIdeal.Gen.facts) := fun m g _ =>
  (θ_run _ _ _).mono (fun r h => ⟨fun c => (h c).2.2, sem_eq_zero_of_no_sems (by decide) r.2⟩)
    (Cert.ResidLossRefIdeal.Value.run m g)

/-- The loss and its gradient. -/
theorem residLoss : Cert.algebraic_ResidLossIdeal_ResidLossRefIdeal
    (hResidLossIdeal := Cert.ResidLossIdeal.Gen.facts) (hResidLossRefIdeal := Cert.ResidLossRefIdeal.Gen.facts) := by
  intro m g m' g' _ hag
  refine ⟨fun c => fun i => Cert.ResidLossIdeal.Value.err m c (i 0).val (i 1).val * Ideal.ofBits .f32 0x3A000000#32,
    fun c => fun _ => Norm.loss (Cert.ResidLossIdeal.Value.err m c),
    (θ_run _ _ _).mono (fun r h c => ?_) (Cert.ResidLossIdeal.Value.run_blocks m g),
    (θ_run _ _ _).mono (fun r h c => ?_) (Cert.ResidLossRefIdeal.Value.run m' g')⟩
  · obtain ⟨h0, h1, hk⟩ := h c
    exact ⟨h0.trans (Cert.ResidLossIdeal.Value.final4 m c), h1.trans (Cert.ResidLossIdeal.Value.final5 m c), hk⟩
  · obtain ⟨h0, h1, hk⟩ := h c
    obtain ⟨a0, a1, a2, a3⟩ := hag c
    refine ⟨(h0.trans (Cert.ResidLossRefIdeal.Read.val_main_v27_eq _ _ _ _)).trans (funext fun i => ?_),
      (h1.trans (Cert.ResidLossRefIdeal.Read.val_main_v28_eq _ _ _ _)).trans (funext fun i => ?_), hk⟩
    · obtain ⟨a, b, rfl⟩ := Rows.exists_ix2 (a := 4096) (b := 2048) i
      rw [a0, a1, a2, a3]
      exact Cert.ResidLossRefIdeal.Read.dx_ref _ _ _ _ a b
    · obtain ⟨a, b, rfl⟩ := Rows.exists_ix2 (a := 8) (b := 128) i
      rw [a0, a1, a2, a3]
      exact Cert.ResidLossRefIdeal.Read.loss_ref _ _ _ _ a b

/-- The reference ends, leaves its arguments as they were and every counter at zero. -/
theorem scFwd_reference : Cert.quiescent_ScFwdRefIdeal (hScFwdRefIdeal := Cert.ScFwdRefIdeal.Gen.facts) := fun m g _ =>
  (θ_run _ _ _).mono (fun r h => ⟨fun c => (h c).2, sem_eq_zero_of_no_sems (by decide) r.2⟩)
    (Cert.ScFwdRefIdeal.Value.run m g)

/-- The short gated convolution. -/
theorem scFwd : Cert.algebraic_ScFwdIdeal_ScFwdRefIdeal
    (hScFwdIdeal := Cert.ScFwdIdeal.Gen.facts) (hScFwdRefIdeal := Cert.ScFwdRefIdeal.Gen.facts) := by
  intro m g m' g' _ hag
  refine ⟨fun c => fun i => Rows.rd (Cert.ScFwdIdeal.Value.argP m c) (i 0).val (i 1).val
      * SConv.cz (Cert.ScFwdIdeal.Value.argP m c) (Cert.ScFwdIdeal.Value.argW m c) (i 1).val (i 0).val,
    (θ_run _ _ _).mono (fun r h c => ?_) (Cert.ScFwdIdeal.Value.run_blocks m g),
    (θ_run _ _ _).mono (fun r h c => ?_) (Cert.ScFwdRefIdeal.Value.run m' g')⟩
  · obtain ⟨h0, hk⟩ := h c
    exact ⟨h0.trans (Cert.ScFwdIdeal.Value.final3 m c), hk⟩
  · obtain ⟨h0, hk⟩ := h c
    obtain ⟨a0, a1⟩ := hag c
    refine ⟨(h0.trans (Cert.ScFwdRefIdeal.Read.val_main_v30_eq _ _)).trans (funext fun i => ?_), hk⟩
    obtain ⟨a, b, rfl⟩ := Rows.exists_ix2 (a := 4096) (b := 2048) i
    rw [a0, a1]
    exact Cert.ScFwdRefIdeal.Read.out_ref _ _ a b

/-- The reference ends, leaves its arguments as they were and every counter at zero. -/
theorem ffnAct_reference : Cert.quiescent_FfnActRefIdeal (hFfnActRefIdeal := Cert.FfnActRefIdeal.Gen.facts) := fun m g _ =>
  (θ_run _ _ _).mono (fun r h => ⟨fun c => (h c).2, sem_eq_zero_of_no_sems (by decide) r.2⟩)
    (Cert.FfnActRefIdeal.Value.run m g)

/-- The gate of the feed-forward layer. -/
theorem ffnAct : Cert.algebraic_FfnActIdeal_FfnActRefIdeal
    (hFfnActIdeal := Cert.FfnActIdeal.Gen.facts) (hFfnActRefIdeal := Cert.FfnActRefIdeal.Gen.facts) := by
  intro m g m' g' _ hag
  refine ⟨fun c => fun i => Gate.act (Cert.FfnActIdeal.Value.argZ m c) (Cert.FfnActIdeal.Value.argW m c) (Cert.FfnActIdeal.Value.argB m c)
      (i 0).val (i 1).val,
    (θ_run _ _ _).mono (fun r h c => ?_) (Cert.FfnActIdeal.Value.run_blocks m g),
    (θ_run _ _ _).mono (fun r h c => ?_) (Cert.FfnActRefIdeal.Value.run m' g')⟩
  · obtain ⟨h0, hk⟩ := h c
    exact ⟨h0.trans (Cert.FfnActIdeal.Value.final4 m c), hk⟩
  · obtain ⟨h0, hk⟩ := h c
    obtain ⟨a0, a1, a2⟩ := hag c
    refine ⟨(h0.trans (Cert.FfnActRefIdeal.Read.val_main_v31_eq m' c)).trans (funext fun i => ?_), hk⟩
    obtain ⟨a, b, rfl⟩ := Rows.exists_ix2 (a := 4096) (b := 5632) i
    rw [a0, a1, a2]
    exact Cert.FfnActRefIdeal.Read.out_ref _ _ _ a b

/-- The reference ends, leaves its arguments as they were and every counter at zero. -/
theorem ffnConvDz_reference : Cert.quiescent_FfnConvDzRefIdeal (hFfnConvDzRefIdeal := Cert.FfnConvDzRefIdeal.Gen.facts) := fun m g _ =>
  (θ_run _ _ _).mono (fun r h => ⟨fun c => (h c).2, sem_eq_zero_of_no_sems (by decide) r.2⟩)
    (Cert.FfnConvDzRefIdeal.Value.run m g)

/-- The gradient of the feed-forward layer's convolution. -/
theorem ffnConvDz : Cert.algebraic_FfnConvDzIdeal_FfnConvDzRefIdeal
    (hFfnConvDzIdeal := Cert.FfnConvDzIdeal.Gen.facts) (hFfnConvDzRefIdeal := Cert.FfnConvDzRefIdeal.Gen.facts) := by
  intro m g m' g' _ hag
  refine ⟨fun c => fun i => Conv.dz (Cert.FfnConvDzIdeal.Value.argD m c) (Cert.FfnConvDzIdeal.Value.argW m c) (i 0).val (i 1).val,
    (θ_run _ _ _).mono (fun r h c => ?_) (Cert.FfnConvDzIdeal.Value.run_blocks m g),
    (θ_run _ _ _).mono (fun r h c => ?_) (Cert.FfnConvDzRefIdeal.Value.run m' g')⟩
  · obtain ⟨h0, hk⟩ := h c
    exact ⟨h0.trans (Cert.FfnConvDzIdeal.Value.final3 m c), hk⟩
  · obtain ⟨h0, hk⟩ := h c
    obtain ⟨a0, a1, a2⟩ := hag c
    refine ⟨(h0.trans (Cert.FfnConvDzRefIdeal.Read.val_main_v40_eq _ _)).trans (funext fun i => ?_), hk⟩
    obtain ⟨a, b, rfl⟩ := Rows.exists_ix2 (a := 4096) (b := 11264) i
    rw [a1, a2]
    exact Cert.FfnConvDzRefIdeal.Read.out_ref _ _ a b

/-- The reference ends, leaves its arguments as they were and every counter at zero. -/
theorem foxCum_reference : Cert.quiescent_FoxCumRefIdeal (hFoxCumRefIdeal := Cert.FoxCumRefIdeal.Gen.facts) := fun m g _ =>
  (θ_run _ _ _).mono (fun r h => ⟨fun c => (h c).2, sem_eq_zero_of_no_sems (by decide) r.2⟩)
    (Cert.FoxCumRefIdeal.Value.run m g)

/-- The running sum of the log decays. -/
theorem foxCum : Cert.algebraic_FoxCumIdeal_FoxCumRefIdeal
    (hFoxCumIdeal := Cert.FoxCumIdeal.Gen.facts) (hFoxCumRefIdeal := Cert.FoxCumRefIdeal.Gen.facts) := by
  intro m g m' g' _ hag
  refine ⟨fun c => fun i => Decay.run (Cert.FoxCumIdeal.Value.argF m c) (Cert.FoxCumIdeal.Value.argB m c) ((i 0).val + 1) (i 1).val,
    (θ_run _ _ _).mono (fun r h c => ?_) (Cert.FoxCumIdeal.Value.run_blocks m g),
    (θ_run _ _ _).mono (fun r h c => ?_) (Cert.FoxCumRefIdeal.Value.run m' g')⟩
  · obtain ⟨h0, hk⟩ := h c
    exact ⟨h0.trans (Cert.FoxCumIdeal.Value.cum2 m c), hk⟩
  · obtain ⟨h0, hk⟩ := h c
    obtain ⟨a0, a1⟩ := hag c
    refine ⟨(h0.trans (Cert.FoxCumRefIdeal.Read.val_main_v3_eq _ _)).trans (funext fun i => ?_), hk⟩
    obtain ⟨a, b, rfl⟩ := Rows.exists_ix2 (a := 4096) (b := 128) i
    rw [a0, a1]
    exact Cert.FoxCumRefIdeal.Read.out_ref _ _ a b

/-- The reference ends, leaves its arguments as they were and every counter at zero. -/
theorem foxCumBwd_reference : Cert.quiescent_FoxCumBwdRefIdeal (hFoxCumBwdRefIdeal := Cert.FoxCumBwdRefIdeal.Gen.facts) := fun m g _ =>
  (θ_run _ _ _).mono (fun r h => ⟨fun c => (h c).2.2, sem_eq_zero_of_no_sems (by decide) r.2⟩)
    (Cert.FoxCumBwdRefIdeal.Value.run m g)

/-- The gradient of the running sum of the log decays. -/
theorem foxCumBwd : Cert.algebraic_FoxCumBwdIdeal_FoxCumBwdRefIdeal
    (hFoxCumBwdIdeal := Cert.FoxCumBwdIdeal.Gen.facts) (hFoxCumBwdRefIdeal := Cert.FoxCumBwdRefIdeal.Gen.facts) := by
  intro m g m' g' _ hag
  refine ⟨fun c => fun i => Decay.dfl (Cert.FoxCumBwdIdeal.Value.argC m c) (Cert.FoxCumBwdIdeal.Value.argF m c) (Cert.FoxCumBwdIdeal.Value.argB m c)
      (i 0).val (i 1).val,
    fun c => fun i => Decay.db (Cert.FoxCumBwdIdeal.Value.argC m c) (Cert.FoxCumBwdIdeal.Value.argF m c) (Cert.FoxCumBwdIdeal.Value.argB m c) (i 1).val,
    (θ_run _ _ _).mono (fun r h c => ?_) (Cert.FoxCumBwdIdeal.Value.run_blocks m g),
    (θ_run _ _ _).mono (fun r h c => ?_) (Cert.FoxCumBwdRefIdeal.Value.run m' g')⟩
  · obtain ⟨h0, h1, hk⟩ := h c
    exact ⟨h0.trans (Cert.FoxCumBwdIdeal.Value.dfl3 m c), h1.trans (Cert.FoxCumBwdIdeal.Value.db4 m c), hk⟩
  · obtain ⟨h0, h1, hk⟩ := h c
    obtain ⟨a0, a1, a2⟩ := hag c
    refine ⟨(h0.trans (Cert.FoxCumBwdRefIdeal.Read.val_main_v8_eq _ _ _)).trans (funext fun i => ?_),
      (h1.trans (Cert.FoxCumBwdRefIdeal.Read.val_main_v7_eq _ _ _)).trans (funext fun i => ?_), hk⟩
    · obtain ⟨a, b, rfl⟩ := Rows.exists_ix2 (a := 4096) (b := 128) i
      rw [a0, a1, a2]
      exact Cert.FoxCumBwdRefIdeal.Read.dfl_ref _ _ _ a b
    · obtain ⟨a, b, rfl⟩ := Rows.exists_ix2 (a := 1) (b := 128) i
      rw [a0, a1, a2]
      obtain rfl : a = 0 := Subsingleton.elim _ _
      exact Cert.FoxCumBwdRefIdeal.Read.db_ref _ _ _ b

end Cert.Proof

end
-- ==== Proof.LowerBound.lean ====
module

public import proofs.«01_k».proof.Proof.Gen.Lb.Frame
public import proofs.«01_k».proof.Proof.Gen.LbIdeal.Value
public import proofs.«01_k».proof.Proof.Gen.LbRefIdeal
public import proofs.«01_k».proof.Proof.Gen.LbRefIdeal.Run
public import proofs.«01_k».proof.Proof.Gen.LbRefIdeal.Read
public import proofs.«01_k».proof.Proof.Gen.LbBwd.Frame
public import proofs.«01_k».proof.Proof.Gen.LbBwdIdeal.Value
public import proofs.«01_k».proof.Proof.Gen.LbBwdRefIdeal
public import proofs.«01_k».proof.Proof.Gen.LbBwdRefIdeal.Run
public import proofs.«01_k».proof.Proof.Gen.LbBwdRefIdeal.Read
public import proofs.«01_k».proof.Proof.DecaySpec
public import Idealize.ShloMosaic.Lib.KernelVsHost

/- The row of the table of the recurrence's lower bounds, a softmax over the layers summed up to the row's layer, and
   its gradient. -/

@[expose] public section

set_option maxRecDepth 16384

noncomputable section

namespace Bounds

open Idealize.ShloMosaic Rows

/-- The greatest entry of a column. -/
def top (a : (⟨2, ![5, 2048]⟩ : Shape).Idx → EReal) (q : Fin 2048) : EReal :=
  max (max (max (max (a (ix2 0 q)) (a (ix2 1 q))) (a (ix2 2 q))) (a (ix2 3 q))) (a (ix2 4 q))

/-- The exponential of an entry, less the greatest of its column. -/
def num (a : (⟨2, ![5, 2048]⟩ : Shape).Idx → EReal) (r : Fin 5) (q : Fin 2048) : EReal := Ideal.exp (a (ix2 r q) - top a q)

/-- The softmax over a column. -/
def soft (a : (⟨2, ![5, 2048]⟩ : Shape).Idx → EReal) (r : Fin 5) (q : Fin 2048) : EReal :=
  Ideal.div (num a r q) (num a 0 q + num a 1 q + num a 2 q + num a 3 q + num a 4 q)

/-- The gradient of the first entry of the softmax, for the gradient `d` of that entry. -/
def grad (a : (⟨2, ![5, 2048]⟩ : Shape).Idx → EReal) (d : (⟨2, ![1, 2048]⟩ : Shape).Idx → EReal) (r : Fin 5) (q : Fin 2048) :
    EReal := soft a r q * ((if r = 0 then d (ix2 0 q) else 0) - soft a 0 q * d (ix2 0 q))

/-- An exponential is not negative. -/
theorem exp_nonneg (x : EReal) : 0 ≤ Ideal.exp x := by
  induction x with
  | bot => exact le_refl _
  | top => exact le_top
  | coe r => exact EReal.coe_nonneg.mpr (Real.exp_pos r).le

/-- The exponential of what is not above zero is finite. -/
theorem exp_ne_top {x : EReal} (h : x ≠ ⊤) : Ideal.exp x ≠ ⊤ := by
  induction x with
  | bot => exact EReal.zero_ne_top
  | top => exact absurd rfl h
  | coe r => exact EReal.coe_ne_top _

/-- No difference to something at least as great is infinite. -/
theorem sub_ne_top {x y : EReal} (h : x ≤ y) : x - y ≠ ⊤ := by
  induction x with
  | bot => rw [EReal.bot_sub]; exact bot_ne_top
  | top => rw [top_le_iff.mp h, EReal.sub_top]; exact bot_ne_top
  | coe r =>
    induction y with
    | bot => exact absurd (le_bot_iff.mp h) (EReal.coe_ne_bot r)
    | top => rw [EReal.sub_top]; exact bot_ne_top
    | coe s => exact EReal.coe_ne_top (r - s)

/-- The first entry of the softmax is a number that is not negative, or the worth of nothing by nothing. -/
theorem soft_zero (a : (⟨2, ![5, 2048]⟩ : Shape).Idx → EReal) (q : Fin 2048) :
    soft a 0 q = ⊥ ∨ (0 ≤ soft a 0 q ∧ soft a 0 q ≠ ⊤) := by
  have hn : ∀ r, 0 ≤ num a r q := fun r => exp_nonneg _
  have h4 : 0 ≤ num a 1 q + num a 2 q + num a 3 q + num a 4 q :=
    add_nonneg (add_nonneg (add_nonneg (hn 1) (hn 2)) (hn 3)) (hn 4)
  have hs : num a 0 q + num a 1 q + num a 2 q + num a 3 q + num a 4 q
      = num a 0 q + (num a 1 q + num a 2 q + num a 3 q + num a 4 q) := by simp only [add_assoc]
  have hle : num a 0 q ≤ num a 0 q + num a 1 q + num a 2 q + num a 3 q + num a 4 q := by
    rw [hs]; exact le_add_of_nonneg_right h4
  have hsum : 0 ≤ num a 0 q + num a 1 q + num a 2 q + num a 3 q + num a 4 q := (hn 0).trans hle
  have ht : num a 0 q ≠ ⊤ := exp_ne_top (sub_ne_top (by simp [top]))
  unfold soft
  generalize num a 0 q + num a 1 q + num a 2 q + num a 3 q + num a 4 q = s at *
  have he := hn 0
  generalize num a 0 q = e at *
  unfold Ideal.div
  split_ifs with h0 h1
  · subst h0; exact absurd h1 (not_lt.mpr hle)
  · exact Or.inl rfl
  · refine Or.inr ⟨mul_nonneg he (EReal.inv_nonneg_of_nonneg hsum), ?_⟩
    induction e with
    | bot => exact absurd he (by simp)
    | top => exact absurd rfl ht
    | coe x =>
      induction s with
      | bot => exact absurd hsum (by simp)
      | top => simp
      | coe y => rw [← EReal.coe_inv, ← EReal.coe_mul]; exact EReal.coe_ne_top _

/-- The softmax's rule: the product with a difference is the difference of the products. -/
theorem rule {y d : EReal} (h : y = ⊥ ∨ (0 ≤ y ∧ y ≠ ⊤)) : y * (d - y * d) = y * d - y * (y * d) := by
  rcases h with rfl | ⟨h0, h1⟩
  · rcases lt_trichotomy d 0 with h | rfl | h
    · rw [EReal.bot_mul_of_neg h, EReal.sub_top, EReal.bot_mul_bot, EReal.bot_mul_top]; rfl
    · simp
    · rw [EReal.bot_mul_of_pos h, EReal.bot_mul_bot, EReal.sub_bot (ne_of_gt (lt_trans EReal.bot_lt_zero h)), EReal.bot_mul_top]; rfl
  · rw [sub_eq_add_neg, sub_eq_add_neg, EReal.left_distrib_of_nonneg_of_ne_top h0 h1, mul_neg]

/-- A sum over a window of five rows that begins `lo` rows before the row. -/
theorem window_sum (lo hi : ℕ) (x : (⟨2, ![5, 2048]⟩ : Shape).Idx → EReal)
    (h : (⟨2, ![5, 2048]⟩ : Shape).ReduceWindows ![5, 1] ![1, 1] ![lo, 0] ![hi, 0] ⟨2, ![5, 2048]⟩)
    (r : Fin 5) (q : Fin 2048) :
    Ideal.hostReduceWindowAdd ![5, 1] ![1, 1] ![lo, 0] ![hi, 0] h x 0 (ix2 r q)
      = ∑ s ∈ Finset.range 5, if lo ≤ r.val + s then rd x (r.val + s - lo) q.val else 0 := by
  unfold Ideal.hostReduceWindowAdd Host.reduceWindow
  refine (Decay.foldl_sum _ _ _).trans ?_
  rw [zero_add, ← Fin.sum_univ_def]
  refine Eq.trans (Finset.sum_congr rfl fun n _ => ?_) ((Equiv.sum_comp (Shape.rowMajor ⟨2, ![5, 1]⟩).symm
    fun w : (⟨2, ![5, 1]⟩ : Shape).Idx =>
      if lo ≤ r.val + (w 0).val then rd x (r.val + (w 0).val - lo) q.val else 0).trans ?_)
  · have hq : ((Shape.rowMajor ⟨2, ![5, 1]⟩).symm n 1).val < 1 := ((Shape.rowMajor ⟨2, ![5, 1]⟩).symm n 1).isLt
    have hr := r.isLt
    have hc := q.isLt
    split_ifs with h1 h2 h2
    · have h3 : _ < 5 := (h1 0).2
      have h4 : r.val * 1 + ((Shape.rowMajor ⟨2, ![5, 1]⟩).symm n 0).val - lo < 5 := h3
      unfold rd
      rw [dif_pos ⟨by omega, by omega⟩]
      refine congrArg x (funext (Fin.forall_fin_two.mpr ⟨Fin.ext ?_, Fin.ext ?_⟩))
      · change r.val * 1 + ((Shape.rowMajor ⟨2, ![5, 1]⟩).symm n 0).val - lo = _
        rw [mul_one]; rfl
      · change q.val * 1 + ((Shape.rowMajor ⟨2, ![5, 1]⟩).symm n 1).val - 0 = q.val
        omega
    · have h3 : lo ≤ r.val * 1 + ((Shape.rowMajor ⟨2, ![5, 1]⟩).symm n 0).val := (h1 0).1
      exact absurd (by omega) h2
    · unfold rd
      rw [dif_neg fun h3 => h1 (Fin.forall_fin_two.mpr ⟨?_, ?_⟩)]
      · change lo ≤ r.val * 1 + ((Shape.rowMajor ⟨2, ![5, 1]⟩).symm n 0).val ∧
          r.val * 1 + ((Shape.rowMajor ⟨2, ![5, 1]⟩).symm n 0).val - lo < 5
        omega
      · change 0 ≤ q.val * 1 + ((Shape.rowMajor ⟨2, ![5, 1]⟩).symm n 1).val ∧
          q.val * 1 + ((Shape.rowMajor ⟨2, ![5, 1]⟩).symm n 1).val - 0 < 2048
        omega
    · rfl
  · rw [sum_idx2]
    simp only [Fin.sum_univ_one]
    exact Fin.sum_univ_eq_sum_range (fun s => if lo ≤ r.val + s then rd x (r.val + s - lo) q.val else 0) 5

/-- The word of minus infinity. -/
theorem neg_inf : Ideal.ofBits .f32 0xFF800000#32 = ⊥ := by
  unfold Ideal.ofBits Ideal.ieee
  dsimp only
  rw [if_pos (by decide), if_pos (by decide), if_pos (by decide)]

/-- The greatest of five. -/
theorem fold_five (f : Fin 5 → EReal) :
    max ⊥ (Finset.fold max ⊥ f Finset.univ) = max (max (max (max (f 0) (f 1)) (f 2)) (f 3)) (f 4) := by
  rw [show (Finset.univ : Finset (Fin 5)) = {0, 1, 2, 3, 4} from rfl]
  simp [Finset.fold_insert, max_assoc]

end Bounds

namespace Cert.LbIdeal.Value

open Cert.LbIdeal Cert.LbIdeal.Gen Idealize.ShloMosaic Idealize.ShloMosaic.TcCoe Idealize.SL.Sem
open Rows

/-- The kernel's row. -/
theorem row (a : S5x2048.Idx → EReal) (q : Fin 2048) : G1 (F := Ideal) a (ix2 0 q) = Bounds.soft a 0 q := by
  unfold G1
  unfold_payloads
  pointwise
  rfl

end Cert.LbIdeal.Value

namespace Cert.LbRefIdeal.Read

open Cert.LbRefIdeal Cert.LbRefIdeal.Gen Idealize.ShloMosaic Idealize.ShloMosaic.TcCoe Idealize.SL.Sem Idealize.ShloMosaic.StableHlo
open Rows

/-- The reference's softmax. -/
theorem soft_ref (x0 : FVec Ideal S5x2048 .f32) (r : Fin 5) (q : Fin 2048) :
    val_main_v11 (F := Ideal) x0 (ix2 r q) = Bounds.soft x0 r q := by
  pointwise [val_main_cst, val_main_v0, val_main_cst_0, val_main_v1, val_main_v2, val_main_v3, val_main_v4, val_main_v5,
    val_main_v6, val_main_v7, val_main_cst_1, val_main_v8, val_main_v9, val_main_v10, val_main_v11]
  rw [show id (constant (F := Ideal) S_ FTy.f32 4286578688#32) ix0 = ⊥ from Bounds.neg_inf, Bounds.neg_inf, Bounds.fold_five, Fin.sum_univ_five]
  rfl

/-- The reference's row. -/
theorem row_ref (x0 : FVec Ideal S5x2048 .f32) (q : Fin 2048) :
    val_main_v13 (F := Ideal) x0 (ix2 0 q) = Bounds.soft x0 0 q := by
  pointwise [val_main_v13]
  unfold val_main_v12 Host.reduceWindowAdd
  rw [Ideal.hostReduceWindowAdd_def]
  have h0 : val_main_call0_call0_v0 (F := Ideal) (Shape.Idx.first h_S_) = 0 := by
    pointwise [val_main_call0_call0_v0, val_main_call0_call0_cst]
  rw [h0]
  refine (Bounds.window_sum 4 0 _ _ 0 q).trans ?_
  simp only [Finset.sum_range_succ, Finset.sum_range_zero, Fin.val_zero, Fin.isValue, Nat.zero_add, Nat.reduceLeDiff, if_false, if_true, zero_add,
    add_zero, Nat.reduceSub, Nat.sub_self, le_refl]
  exact (rd_ix2 (val_main_v11 (F := Ideal) x0) 0 q).symm.trans (soft_ref x0 0 q)

end Cert.LbRefIdeal.Read

namespace Cert.LbBwdIdeal.Value

open Cert.LbBwdIdeal Cert.LbBwdIdeal.Gen Idealize.ShloMosaic Idealize.ShloMosaic.TcCoe Idealize.SL.Sem
open Rows

/-- The kernel's gradient. -/
theorem rows (a : S5x2048.Idx → EReal) (d : S1x2048.Idx → EReal) (r : Fin 5) (q : Fin 2048) :
    G2 (F := Ideal) a d (ix2 r q) = Bounds.grad a d r q := by
  unfold G2
  repeat' (first | refine canon_cases (fun x h => ?_) (fun hn => ?_))
  rotate_right
  · have hr := r.isLt
    have hq := q.isLt
    simp only [Fin.forall_fin_two, Matrix.cons_val_zero, Matrix.cons_val_one, Fin.isValue, ix2_zero, ix2_one] at *
    omega
  all_goals
    obtain ⟨i, j, rfl⟩ := exists_ix2 (a := 1) (b := 2048) x
    obtain rfl : i = 0 := Subsingleton.elim _ _
    have e0 := h 0
    have e1 := h 1
    simp only [ix2_zero, ix2_one, Matrix.cons_val_zero, Matrix.cons_val_one, Fin.isValue, Fin.val_zero, add_zero, zero_add] at e0 e1
    obtain rfl : j = q := Fin.ext e1.symm
    unfold_payloads
    pointwise
    unfold Bounds.grad
    first
      | obtain rfl : r = 0 := Fin.ext e0
        rw [if_pos rfl]; rfl
      | obtain rfl : r = 1 := Fin.ext e0
        rw [if_neg (by decide)]; rfl
      | obtain rfl : r = 2 := Fin.ext e0
        rw [if_neg (by decide)]; rfl
      | obtain rfl : r = 3 := Fin.ext e0
        rw [if_neg (by decide)]; rfl
      | obtain rfl : r = 4 := Fin.ext e0
        rw [if_neg (by decide)]; rfl

end Cert.LbBwdIdeal.Value

namespace Cert.LbBwdRefIdeal.Read

open Cert.LbBwdRefIdeal Cert.LbBwdRefIdeal.Gen Idealize.ShloMosaic Idealize.ShloMosaic.TcCoe Idealize.SL.Sem Idealize.ShloMosaic.StableHlo
open Rows

/-- The reference's softmax. -/
theorem soft_ref (x0 : FVec Ideal S5x2048 .f32) (r : Fin 5) (q : Fin 2048) :
    val_main_v11 (F := Ideal) x0 (ix2 r q) = Bounds.soft x0 r q := by
  pointwise [val_main_cst, val_main_v0, val_main_cst_0, val_main_v1, val_main_v2, val_main_v3, val_main_v4, val_main_v5,
    val_main_v6, val_main_v7, val_main_cst_1, val_main_v8, val_main_v9, val_main_v10, val_main_v11]
  rw [show id (constant (F := Ideal) S_ FTy.f32 4286578688#32) ix0 = ⊥ from Bounds.neg_inf, Bounds.neg_inf, Bounds.fold_five, Fin.sum_univ_five]
  rfl

/-- The gradient with the rows of zeros below it. -/
theorem pad_ref (x1 : FVec Ideal S1x2048 .f32) (r : Fin 5) (q : Fin 2048) :
    val_main_v14 (F := Ideal) x1 (ix2 r q) = if r = 0 then x1 (ix2 0 q) else 0 := by
  unfold val_main_v14
  split_ifs with h
  · subst h
    exact pad_apply_of_inside _ _ _ _ _ _ _ _ (ix2 0 q) fun a => by fin_cases a <;> simp [ix2]
  · refine (pad_apply_of_not_inside _ _ _ _ _ _ _ _ 0 fun hh => h ?_).trans ?_
    · have h2 : (r.val - 0) / (0 + 1) < 1 := hh.2.2
      exact Fin.ext (by simpa using h2)
    · pointwise [val_main_cst_2]

/-- The gradient of the running sums. -/
theorem cum_ref (x1 : FVec Ideal S1x2048 .f32) (r : Fin 5) (q : Fin 2048) :
    val_main_v15 (F := Ideal) x1 (ix2 r q) = if r = 0 then x1 (ix2 0 q) else 0 := by
  unfold val_main_v15 Host.reduceWindowAdd
  rw [Ideal.hostReduceWindowAdd_def]
  have h0 : val_main_call1_call0_v0 (F := Ideal) (Shape.Idx.first h_S_) = 0 := by
    pointwise [val_main_call1_call0_v0, val_main_call1_call0_cst]
  rw [h0]
  refine (Bounds.window_sum 0 4 _ _ r q).trans ?_
  have hz : ∀ s, s ≠ 0 → rd (val_main_v14 (F := Ideal) x1) s q.val = 0 := fun s hs => by
    rcases Nat.lt_or_ge s 5 with h | h
    · refine (rd_ix2 (val_main_v14 (F := Ideal) x1) ⟨s, h⟩ q).symm.trans ((pad_ref x1 _ q).trans (if_neg fun e => hs ?_))
      exact congrArg Fin.val e
    · exact rd_of_le _ h _
  rw [Finset.sum_range_succ', Finset.sum_eq_zero fun s _ => ?_, zero_add]
  · rw [if_pos (Nat.zero_le _)]
    exact (rd_ix2 (val_main_v14 (F := Ideal) x1) r q).symm.trans (pad_ref x1 r q)
  · rw [if_pos (Nat.zero_le _)]
    exact hz _ (by omega)

/-- The reference's gradient. -/
theorem rows_ref (x0 : FVec Ideal S5x2048 .f32) (x1 : FVec Ideal S1x2048 .f32) (r : Fin 5) (q : Fin 2048) :
    val_main_v23 (F := Ideal) x0 x1 (ix2 r q) = Bounds.grad x0 x1 r q := by
  pointwise [val_main_v16, val_main_v17, val_main_cst_3, val_main_v18, val_main_v19, val_main_cst_4, val_main_v20,
    val_main_v21, val_main_v22, val_main_v23]
  simp only [cum_ref, soft_ref]
  rw [Fin.sum_univ_one, Fin.sum_univ_five]
  unfold Bounds.grad
  by_cases h : r = 0
  · subst h
    simp only [Fin.isValue, Fin.reduceEq, if_true, if_false, mul_zero, neg_zero, add_zero, mul_neg]
    rw [Bounds.rule (Bounds.soft_zero x0 q), sub_eq_add_neg]
  · simp only [Fin.isValue, Fin.reduceEq, if_true, if_neg h, if_false, mul_zero, neg_zero, add_zero, zero_add, zero_sub]

end Cert.LbBwdRefIdeal.Read

end
-- ==== Proof.BoundClaims.lean ====
module

public import proofs.«01_k».proof.Defs
public import proofs.«01_k».proof.Proof.LowerBound
public import Idealize.ShloMosaic.Adequacy
public import Idealize.ShloMosaic.Init

/- The claims about the recurrence's lower bounds, from the value lemmas of `Proof.LowerBound`. -/

@[expose] public section

noncomputable section

namespace Cert.Proof

open Idealize.ShloMosaic Idealize.ShloMosaic.TcCoe Idealize.SL.Sem

/-- The reference ends, leaves its arguments as they were and every counter at zero. -/
theorem lb_reference : Cert.quiescent_LbRefIdeal (hLbRefIdeal := Cert.LbRefIdeal.Gen.facts) := fun m g _ =>
  (θ_run _ _ _).mono (fun r h => ⟨fun c => (h c).2, sem_eq_zero_of_no_sems (by decide) r.2⟩)
    (Cert.LbRefIdeal.Value.run m g)

/-- The row of the table of the lower bounds. -/
theorem lb : Cert.algebraic_LbIdeal_LbRefIdeal
    (hLbIdeal := Cert.LbIdeal.Gen.facts) (hLbRefIdeal := Cert.LbRefIdeal.Gen.facts) := by
  intro m g m' g' _ hag
  refine ⟨fun c => Cert.LbIdeal.Value.G1 (F := Ideal) (m ((c : Thread Cert.LbIdeal.nD Cert.LbIdeal.τ).loc Cert.LbIdeal.main_arg0)),
    Cert.LbIdeal.Value.run m g,
    (θ_run _ _ _).mono (fun r h c => ?_) (Cert.LbRefIdeal.Value.run m' g')⟩
  obtain ⟨h0, hk⟩ := h c
  have a0 := hag c
  refine ⟨(h0.trans (Cert.LbRefIdeal.Read.val_main_v13_eq _)).trans (funext fun i => ?_), hk⟩
  obtain ⟨a, b, rfl⟩ := Rows.exists_ix2 (a := 1) (b := 2048) i
  obtain rfl : a = 0 := Subsingleton.elim _ _
  rw [a0]
  exact (Cert.LbRefIdeal.Read.row_ref _ b).trans (Cert.LbIdeal.Value.row _ b).symm

/-- The reference ends, leaves its arguments as they were and every counter at zero. -/
theorem lbBwd_reference : Cert.quiescent_LbBwdRefIdeal (hLbBwdRefIdeal := Cert.LbBwdRefIdeal.Gen.facts) := fun m g _ =>
  (θ_run _ _ _).mono (fun r h => ⟨fun c => (h c).2, sem_eq_zero_of_no_sems (by decide) r.2⟩)
    (Cert.LbBwdRefIdeal.Value.run m g)

/-- The gradient of the row of the table of the lower bounds. -/
theorem lbBwd : Cert.algebraic_LbBwdIdeal_LbBwdRefIdeal
    (hLbBwdIdeal := Cert.LbBwdIdeal.Gen.facts) (hLbBwdRefIdeal := Cert.LbBwdRefIdeal.Gen.facts) := by
  intro m g m' g' _ hag
  refine ⟨fun c => Cert.LbBwdIdeal.Value.G2 (F := Ideal) (m ((c : Thread Cert.LbBwdIdeal.nD Cert.LbBwdIdeal.τ).loc Cert.LbBwdIdeal.main_arg0))
      (m ((c : Thread Cert.LbBwdIdeal.nD Cert.LbBwdIdeal.τ).loc Cert.LbBwdIdeal.main_arg1)),
    Cert.LbBwdIdeal.Value.run m g,
    (θ_run _ _ _).mono (fun r h c => ?_) (Cert.LbBwdRefIdeal.Value.run m' g')⟩
  obtain ⟨h0, hk⟩ := h c
  obtain ⟨a0, a1⟩ := hag c
  refine ⟨(h0.trans (Cert.LbBwdRefIdeal.Read.val_main_v23_eq _ _)).trans (funext fun i => ?_), hk⟩
  obtain ⟨a, b, rfl⟩ := Rows.exists_ix2 (a := 5) (b := 2048) i
  rw [a0, a1]
  exact (Cert.LbBwdRefIdeal.Read.rows_ref _ _ a b).trans (Cert.LbBwdIdeal.Value.rows _ _ a b).symm

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Point
public import proofs.«01_k».proof.Proof.Ref
public import proofs.«01_k».proof.Proof.Ffn
public import proofs.«01_k».proof.Proof.Out
public import proofs.«01_k».proof.Proof.Hgrn
public import proofs.«01_k».proof.Proof.Swa
public import proofs.«01_k».proof.Proof.Sc
public import proofs.«01_k».proof.Proof.Fox
public import proofs.«01_k».proof.Proof.Adam
public import proofs.«01_k».proof.Proof.AdamFfn
public import proofs.«01_k».proof.Proof.AdamSmall
public import proofs.«01_k».proof.Proof.AdamTaps
public import proofs.«01_k».proof.Proof.FurtherClaims
public import proofs.«01_k».proof.Proof.BoundClaims
public import Idealize.ShloMosaic.Adequacy
public import Idealize.ShloMosaic.Init

/- The claims of the certificate, put together from the generated frames and from the value lemmas
   of `Proof.Point` (the kernel) and `Proof.Ref` (the reference). -/

@[expose] public section

noncomputable section

namespace Cert.Proof

open Idealize.ShloMosaic Idealize.ShloMosaic.TcCoe Idealize.SL.Sem
open Cert.KernelIdeal.Value (argP argW argD)

/-- The gradient of the short gated convolution: on the extended reals the kernel's two arrays are
    those of the derivative of the plain forward lines. -/
theorem sconv : Cert.algebraic_KernelIdeal_ReferenceIdeal
    (hKernelIdeal := Cert.KernelIdeal.Gen.facts) (hReferenceIdeal := Cert.ReferenceIdeal.Gen.facts) := by
  intro m g m' g' _ hag
  refine ⟨fun c => fun i => SConv.dproj (argP m c) (argW m c) (argD m c) (i 0).val (i 1).val,
    fun c => fun i => SConv.dtap (argP m c) (argD m c) (i 0).val (i 1).val,
    (θ_run _ _ _).mono (fun r h c => ?_) (Cert.KernelIdeal.Value.run_blocks m g),
    (θ_run _ _ _).mono (fun r h c => ?_) (Cert.ReferenceIdeal.Value.run m' g')⟩
  · obtain ⟨h0, h1, h2⟩ := h c
    exact ⟨h0.trans (Cert.KernelIdeal.Value.final6 m c), h1.trans (Cert.KernelIdeal.Value.final7 m c), h2⟩
  · obtain ⟨h0, h1, h2⟩ := h c
    obtain ⟨a0, a1, a2⟩ := hag c
    refine ⟨(h0.trans (Cert.ReferenceIdeal.Read.val_main_v71_eq m' c)).trans (funext fun i => ?_),
      (h1.trans (Cert.ReferenceIdeal.Read.val_main_v73_eq _ _)).trans (funext fun i => ?_), h2⟩
    · obtain ⟨a, b, rfl⟩ := Rows.exists_ix2 (a := 4096) (b := 6144) i
      rw [a0, a1, a2]
      exact Cert.ReferenceIdeal.Read.dproj_ref _ _ _ a b
    · obtain ⟨a, b, rfl⟩ := Rows.exists_ix2 (a := 8) (b := 2048) i
      rw [a0, a2]
      exact Cert.ReferenceIdeal.Read.dtap_ref _ _ a b

/-- The reference ends, leaves its arguments as they were and every counter at zero. -/
theorem referenceFrame : Cert.quiescent_ReferenceIdeal (hReferenceIdeal := Cert.ReferenceIdeal.Gen.facts) := by
  intro m g _
  exact (θ_run _ _ _).mono (fun r h => ⟨fun c => (h c).2.2, sem_eq_zero_of_no_sems (by decide) r.2⟩)
    (Cert.ReferenceIdeal.Value.run m g)

theorem claim : Cert.Claim := ⟨
  Cert.Kernel.Gen.facts, Cert.KernelIdeal.Gen.facts, Cert.ReferenceIdeal.Gen.facts,
  Cert.Up.Gen.facts, Cert.UpIdeal.Gen.facts, Cert.UpRefIdeal.Gen.facts,
  Cert.UpDh.Gen.facts, Cert.UpDhIdeal.Gen.facts, Cert.UpDhRefIdeal.Gen.facts,
  Cert.UpDw.Gen.facts, Cert.UpDwIdeal.Gen.facts, Cert.UpDwRefIdeal.Gen.facts,
  Cert.Down.Gen.facts, Cert.DownIdeal.Gen.facts, Cert.DownRefIdeal.Gen.facts,
  Cert.DownDh.Gen.facts, Cert.DownDhIdeal.Gen.facts, Cert.DownDhRefIdeal.Gen.facts,
  Cert.DownDw.Gen.facts, Cert.DownDwIdeal.Gen.facts, Cert.DownDwRefIdeal.Gen.facts,
  Cert.Out.Gen.facts, Cert.OutIdeal.Gen.facts, Cert.OutRefIdeal.Gen.facts,
  Cert.OutDh.Gen.facts, Cert.OutDhIdeal.Gen.facts, Cert.OutDhRefIdeal.Gen.facts,
  Cert.OutDw.Gen.facts, Cert.OutDwIdeal.Gen.facts, Cert.OutDwRefIdeal.Gen.facts,
  Cert.Hgrn.Gen.facts, Cert.HgrnIdeal.Gen.facts, Cert.HgrnRefIdeal.Gen.facts,
  Cert.HgrnDh.Gen.facts, Cert.HgrnDhIdeal.Gen.facts, Cert.HgrnDhRefIdeal.Gen.facts,
  Cert.HgrnDw.Gen.facts, Cert.HgrnDwIdeal.Gen.facts, Cert.HgrnDwRefIdeal.Gen.facts,
  Cert.Swa.Gen.facts, Cert.SwaIdeal.Gen.facts, Cert.SwaRefIdeal.Gen.facts,
  Cert.SwaDh.Gen.facts, Cert.SwaDhIdeal.Gen.facts, Cert.SwaDhRefIdeal.Gen.facts,
  Cert.SwaDw.Gen.facts, Cert.SwaDwIdeal.Gen.facts, Cert.SwaDwRefIdeal.Gen.facts,
  Cert.Sc.Gen.facts, Cert.ScIdeal.Gen.facts, Cert.ScRefIdeal.Gen.facts,
  Cert.ScDh.Gen.facts, Cert.ScDhIdeal.Gen.facts, Cert.ScDhRefIdeal.Gen.facts,
  Cert.ScDw.Gen.facts, Cert.ScDwIdeal.Gen.facts, Cert.ScDwRefIdeal.Gen.facts,
  Cert.Fox.Gen.facts, Cert.FoxIdeal.Gen.facts, Cert.FoxRefIdeal.Gen.facts,
  Cert.FoxDh.Gen.facts, Cert.FoxDhIdeal.Gen.facts, Cert.FoxDhRefIdeal.Gen.facts,
  Cert.FoxDw.Gen.facts, Cert.FoxDwIdeal.Gen.facts, Cert.FoxDwRefIdeal.Gen.facts,
  Cert.AdamHgrnIn.Gen.facts, Cert.AdamHgrnInIdeal.Gen.facts, Cert.AdamHgrnInRefIdeal.Gen.facts,
  Cert.AdamSwaIn.Gen.facts, Cert.AdamSwaInIdeal.Gen.facts, Cert.AdamSwaInRefIdeal.Gen.facts,
  Cert.AdamScIn.Gen.facts, Cert.AdamScInIdeal.Gen.facts, Cert.AdamScInRefIdeal.Gen.facts,
  Cert.AdamFoxIn.Gen.facts, Cert.AdamFoxInIdeal.Gen.facts, Cert.AdamFoxInRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamOut.Gen.facts, Cert.AdamOutIdeal.Gen.facts, Cert.AdamOutRefIdeal.Gen.facts,
  Cert.AdamNorm.Gen.facts, Cert.AdamNormIdeal.Gen.facts, Cert.AdamNormRefIdeal.Gen.facts,
  Cert.AdamHeadNorm.Gen.facts, Cert.AdamHeadNormIdeal.Gen.facts, Cert.AdamHeadNormRefIdeal.Gen.facts,
  Cert.AdamLb.Gen.facts, Cert.AdamLbIdeal.Gen.facts, Cert.AdamLbRefIdeal.Gen.facts,
  Cert.AdamHead.Gen.facts, Cert.AdamHeadIdeal.Gen.facts, Cert.AdamHeadRefIdeal.Gen.facts,
  Cert.AdamTap.Gen.facts, Cert.AdamTapIdeal.Gen.facts, Cert.AdamTapRefIdeal.Gen.facts,
  Cert.AdamFfnTap.Gen.facts, Cert.AdamFfnTapIdeal.Gen.facts, Cert.AdamFfnTapRefIdeal.Gen.facts,
  Cert.AdamBias.Gen.facts, Cert.AdamBiasIdeal.Gen.facts, Cert.AdamBiasRefIdeal.Gen.facts,
  Cert.NormPre.Gen.facts, Cert.NormPreIdeal.Gen.facts, Cert.NormPreRefIdeal.Gen.facts,
  Cert.NormPost.Gen.facts, Cert.NormPostIdeal.Gen.facts, Cert.NormPostRefIdeal.Gen.facts,
  Cert.Norm.Gen.facts, Cert.NormIdeal.Gen.facts, Cert.NormRefIdeal.Gen.facts,
  Cert.ResidNorm.Gen.facts, Cert.ResidNormIdeal.Gen.facts, Cert.ResidNormRefIdeal.Gen.facts,
  Cert.ResidLoss.Gen.facts, Cert.ResidLossIdeal.Gen.facts, Cert.ResidLossRefIdeal.Gen.facts,
  Cert.ScFwd.Gen.facts, Cert.ScFwdIdeal.Gen.facts, Cert.ScFwdRefIdeal.Gen.facts,
  Cert.FfnAct.Gen.facts, Cert.FfnActIdeal.Gen.facts, Cert.FfnActRefIdeal.Gen.facts,
  Cert.FfnConvDz.Gen.facts, Cert.FfnConvDzIdeal.Gen.facts, Cert.FfnConvDzRefIdeal.Gen.facts,
  Cert.FoxCum.Gen.facts, Cert.FoxCumIdeal.Gen.facts, Cert.FoxCumRefIdeal.Gen.facts,
  Cert.FoxCumBwd.Gen.facts, Cert.FoxCumBwdIdeal.Gen.facts, Cert.FoxCumBwdRefIdeal.Gen.facts,
  Cert.Lb.Gen.facts, Cert.LbIdeal.Gen.facts, Cert.LbRefIdeal.Gen.facts,
  Cert.LbBwd.Gen.facts, Cert.LbBwdIdeal.Gen.facts, Cert.LbBwdRefIdeal.Gen.facts,
  fun m ρ _ => Cert.Kernel.Gen.frame m ρ, fun m ρ _ => Cert.KernelIdeal.Gen.frame m ρ, referenceFrame,
  fun m ρ _ => Cert.Up.Gen.frame m ρ, fun m ρ _ => Cert.UpIdeal.Gen.frame m ρ, up_reference,
  fun m ρ _ => Cert.UpDh.Gen.frame m ρ, fun m ρ _ => Cert.UpDhIdeal.Gen.frame m ρ, upDh_reference,
  fun m ρ _ => Cert.UpDw.Gen.frame m ρ, fun m ρ _ => Cert.UpDwIdeal.Gen.frame m ρ, upDw_reference,
  fun m ρ _ => Cert.Down.Gen.frame m ρ, fun m ρ _ => Cert.DownIdeal.Gen.frame m ρ, down_reference,
  fun m ρ _ => Cert.DownDh.Gen.frame m ρ, fun m ρ _ => Cert.DownDhIdeal.Gen.frame m ρ, downDh_reference,
  fun m ρ _ => Cert.DownDw.Gen.frame m ρ, fun m ρ _ => Cert.DownDwIdeal.Gen.frame m ρ, downDw_reference,
  fun m ρ _ => Cert.Out.Gen.frame m ρ, fun m ρ _ => Cert.OutIdeal.Gen.frame m ρ, out_reference,
  fun m ρ _ => Cert.OutDh.Gen.frame m ρ, fun m ρ _ => Cert.OutDhIdeal.Gen.frame m ρ, outDh_reference,
  fun m ρ _ => Cert.OutDw.Gen.frame m ρ, fun m ρ _ => Cert.OutDwIdeal.Gen.frame m ρ, outDw_reference,
  fun m ρ _ => Cert.Hgrn.Gen.frame m ρ, fun m ρ _ => Cert.HgrnIdeal.Gen.frame m ρ, hgrn_reference,
  fun m ρ _ => Cert.HgrnDh.Gen.frame m ρ, fun m ρ _ => Cert.HgrnDhIdeal.Gen.frame m ρ, hgrnDh_reference,
  fun m ρ _ => Cert.HgrnDw.Gen.frame m ρ, fun m ρ _ => Cert.HgrnDwIdeal.Gen.frame m ρ, hgrnDw_reference,
  fun m ρ _ => Cert.Swa.Gen.frame m ρ, fun m ρ _ => Cert.SwaIdeal.Gen.frame m ρ, swa_reference,
  fun m ρ _ => Cert.SwaDh.Gen.frame m ρ, fun m ρ _ => Cert.SwaDhIdeal.Gen.frame m ρ, swaDh_reference,
  fun m ρ _ => Cert.SwaDw.Gen.frame m ρ, fun m ρ _ => Cert.SwaDwIdeal.Gen.frame m ρ, swaDw_reference,
  fun m ρ _ => Cert.Sc.Gen.frame m ρ, fun m ρ _ => Cert.ScIdeal.Gen.frame m ρ, sc_reference,
  fun m ρ _ => Cert.ScDh.Gen.frame m ρ, fun m ρ _ => Cert.ScDhIdeal.Gen.frame m ρ, scDh_reference,
  fun m ρ _ => Cert.ScDw.Gen.frame m ρ, fun m ρ _ => Cert.ScDwIdeal.Gen.frame m ρ, scDw_reference,
  fun m ρ _ => Cert.Fox.Gen.frame m ρ, fun m ρ _ => Cert.FoxIdeal.Gen.frame m ρ, fox_reference,
  fun m ρ _ => Cert.FoxDh.Gen.frame m ρ, fun m ρ _ => Cert.FoxDhIdeal.Gen.frame m ρ, foxDh_reference,
  fun m ρ _ => Cert.FoxDw.Gen.frame m ρ, fun m ρ _ => Cert.FoxDwIdeal.Gen.frame m ρ, foxDw_reference,
  fun m ρ _ => Cert.AdamHgrnIn.Gen.frame m ρ, fun m ρ _ => Cert.AdamHgrnInIdeal.Gen.frame m ρ, adamHgrnIn_reference,
  fun m ρ _ => Cert.AdamSwaIn.Gen.frame m ρ, fun m ρ _ => Cert.AdamSwaInIdeal.Gen.frame m ρ, adamSwaIn_reference,
  fun m ρ _ => Cert.AdamScIn.Gen.frame m ρ, fun m ρ _ => Cert.AdamScInIdeal.Gen.frame m ρ, adamScIn_reference,
  fun m ρ _ => Cert.AdamFoxIn.Gen.frame m ρ, fun m ρ _ => Cert.AdamFoxInIdeal.Gen.frame m ρ, adamFoxIn_reference,
  fun m ρ _ => Cert.AdamUp.Gen.frame m ρ, fun m ρ _ => Cert.AdamUpIdeal.Gen.frame m ρ, adamUp_reference,
  fun m ρ _ => Cert.AdamDown.Gen.frame m ρ, fun m ρ _ => Cert.AdamDownIdeal.Gen.frame m ρ, adamDown_reference,
  fun m ρ _ => Cert.AdamOut.Gen.frame m ρ, fun m ρ _ => Cert.AdamOutIdeal.Gen.frame m ρ, adamOut_reference,
  fun m ρ _ => Cert.AdamNorm.Gen.frame m ρ, fun m ρ _ => Cert.AdamNormIdeal.Gen.frame m ρ, adamNorm_reference,
  fun m ρ _ => Cert.AdamHeadNorm.Gen.frame m ρ, fun m ρ _ => Cert.AdamHeadNormIdeal.Gen.frame m ρ, adamHeadNorm_reference,
  fun m ρ _ => Cert.AdamLb.Gen.frame m ρ, fun m ρ _ => Cert.AdamLbIdeal.Gen.frame m ρ, adamLb_reference,
  fun m ρ _ => Cert.AdamHead.Gen.frame m ρ, fun m ρ _ => Cert.AdamHeadIdeal.Gen.frame m ρ, adamHead_reference,
  fun m ρ _ => Cert.AdamTap.Gen.frame m ρ, fun m ρ _ => Cert.AdamTapIdeal.Gen.frame m ρ, adamTap_reference,
  fun m ρ _ => Cert.AdamFfnTap.Gen.frame m ρ, fun m ρ _ => Cert.AdamFfnTapIdeal.Gen.frame m ρ, adamFfnTap_reference,
  fun m ρ _ => Cert.AdamBias.Gen.frame m ρ, fun m ρ _ => Cert.AdamBiasIdeal.Gen.frame m ρ, adamBias_reference,
  fun m ρ _ => Cert.NormPre.Gen.frame m ρ, fun m ρ _ => Cert.NormPreIdeal.Gen.frame m ρ, normPre_reference,
  fun m ρ _ => Cert.NormPost.Gen.frame m ρ, fun m ρ _ => Cert.NormPostIdeal.Gen.frame m ρ, normPost_reference,
  fun m ρ _ => Cert.Norm.Gen.frame m ρ, fun m ρ _ => Cert.NormIdeal.Gen.frame m ρ, norm_reference,
  fun m ρ _ => Cert.ResidNorm.Gen.frame m ρ, fun m ρ _ => Cert.ResidNormIdeal.Gen.frame m ρ, residNorm_reference,
  fun m ρ _ => Cert.ResidLoss.Gen.frame m ρ, fun m ρ _ => Cert.ResidLossIdeal.Gen.frame m ρ, residLoss_reference,
  fun m ρ _ => Cert.ScFwd.Gen.frame m ρ, fun m ρ _ => Cert.ScFwdIdeal.Gen.frame m ρ, scFwd_reference,
  fun m ρ _ => Cert.FfnAct.Gen.frame m ρ, fun m ρ _ => Cert.FfnActIdeal.Gen.frame m ρ, ffnAct_reference,
  fun m ρ _ => Cert.FfnConvDz.Gen.frame m ρ, fun m ρ _ => Cert.FfnConvDzIdeal.Gen.frame m ρ, ffnConvDz_reference,
  fun m ρ _ => Cert.FoxCum.Gen.frame m ρ, fun m ρ _ => Cert.FoxCumIdeal.Gen.frame m ρ, foxCum_reference,
  fun m ρ _ => Cert.FoxCumBwd.Gen.frame m ρ, fun m ρ _ => Cert.FoxCumBwdIdeal.Gen.frame m ρ, foxCumBwd_reference,
  fun m ρ _ => Cert.Lb.Gen.frame m ρ, fun m ρ _ => Cert.LbIdeal.Gen.frame m ρ, lb_reference,
  fun m ρ _ => Cert.LbBwd.Gen.frame m ρ, fun m ρ _ => Cert.LbBwdIdeal.Gen.frame m ρ, lbBwd_reference,
  trivial, sconv,
  trivial, up,
  trivial, upDh,
  trivial, upDw,
  trivial, down,
  trivial, downDh,
  trivial, downDw,
  trivial, out,
  trivial, outDh,
  trivial, outDw,
  trivial, hgrn,
  trivial, hgrnDh,
  trivial, hgrnDw,
  trivial, swa,
  trivial, swaDh,
  trivial, swaDw,
  trivial, sc,
  trivial, scDh,
  trivial, scDw,
  trivial, fox,
  trivial, foxDh,
  trivial, foxDw,
  trivial, adamHgrnIn,
  trivial, adamSwaIn,
  trivial, adamScIn,
  trivial, adamFoxIn,
  trivial, adamUp,
  trivial, adamDown,
  trivial, adamOut,
  trivial, adamNorm,
  trivial, adamHeadNorm,
  trivial, adamLb,
  trivial, adamHead,
  trivial, adamTap,
  trivial, adamFfnTap,
  trivial, adamBias,
  trivial, normPre,
  trivial, normPost,
  trivial, norm,
  trivial, residNorm,
  trivial, residLoss,
  trivial, scFwd,
  trivial, ffnAct,
  trivial, ffnConvDz,
  trivial, foxCum,
  trivial, foxCumBwd,
  trivial, lb,
  trivial, lbBwd⟩

end Cert.Proof

end
